-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "ln2" .f32 0x3F317218#32 ((Real.log 2 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v66) = v2 c
          ∧ r.2.mem ((c.tc : Thread Cert.Reference2Ideal.nD Cert.Reference2Ideal.τ).loc Cert.Reference2Ideal.main_v54) = v3 c
          ∧ r.2.mem ((c.tc : Thread Cert.Reference2Ideal.nD Cert.Reference2Ideal.τ).loc Cert.Reference2Ideal.main_v57) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "mla_scale" .f32 0x3DD105EC#32 (((Real.sqrt 96)⁻¹ : ℝ) : EReal)
  ∧ IdealRules.named_const.Statement Cert.Kernel3Ideal.κ "ln2" .f32 0x3F317218#32 ((Real.log 2 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v133) = v0 c
          ∧ r.2.mem ((c.tc : Thread Cert.Reference3Ideal.nD Cert.Reference3Ideal.τ).loc Cert.Reference3Ideal.main_v111) = v1 c
          ∧ r.2.mem ((c.tc : Thread Cert.Reference3Ideal.nD Cert.Reference3Ideal.τ).loc Cert.Reference3Ideal.main_v84) = v2 c
          ∧ r.2.mem ((c.tc : Thread Cert.Reference3Ideal.nD Cert.Reference3Ideal.τ).loc Cert.Reference3Ideal.main_v115) = v3 c
          ∧ r.2.mem ((c.tc : Thread Cert.Reference3Ideal.nD Cert.Reference3Ideal.τ).loc Cert.Reference3Ideal.main_v88) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Pre_finite.lean ====
abbrev S8192x1024 : Shape := ⟨2, ![8192, 1024]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)

variable [Facts]

def fn {F : FTy → Type} [FloatOps F] (main_arg0 : FVec F S8192x1024 .f32) (main_arg1 : FVec F S8192x1024 .bf16) (main_arg2 : FVec F S8192x512 .bf16) (main_arg3 : FVec F S8192x512 .bf16) : IVec S8192x1024 1 × IVec S8192x1024 1 × IVec S8192x512 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .bf16 := Host.absf main_arg1
  let main_cst_0 : FVec F S_ .bf16 := constant S_ .bf16 0x7F80#16
  let main_v4 : FVec F S8192x1024 .bf16 := broadcastInDim S8192x1024 ![] bcast_S_S8192x1024 main_cst_0
  let main_v5 : IVec S8192x1024 1 := cmpf .olt main_v3 main_v4
  let main_v6 : FVec F S8192x512 .bf16 := Host.absf main_arg2
  let main_cst_1 : FVec F S_ .bf16 := constant S_ .bf16 0x7F80#16
  let main_v7 : FVec F S8192x512 .bf16 := broadcastInDim S8192x512 ![] bcast_S_S8192x512 main_cst_1
  let main_v8 : IVec S8192x512 1 := cmpf .olt main_v6 main_v7
  let main_v9 : FVec F S8192x512 .bf16 := Host.absf main_arg3
  let main_cst_2 : FVec F S_ .bf16 := constant S_ .bf16 0x7F80#16
  let main_v10 : FVec F S8192x512 .bf16 := broadcastInDim S8192x512 ![] bcast_S_S8192x512 main_cst_2
  let main_v11 : IVec S8192x512 1 := cmpf .olt main_v9 main_v10
  (main_v2, main_v5, main_v8, main_v11)
-- ==== Kernel.lean ====
abbrev S8192x1024 : Shape := ⟨2, ![8192, 1024]⟩
abbrev S8192x512 : Shape := ⟨2, ![8192, 512]⟩
abbrev S_ : Shape := ⟨0, ![]⟩
abbrev S4x2048x8x128 : Shape := ⟨4, ![4, 2048, 8, 128]⟩
abbrev S4x8x2048x2048 : Shape := ⟨4, ![4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x2048x8x64 : Shape := ⟨4, ![4, 2048, 8, 64]⟩
abbrev S4x8x64x2048 : Shape := ⟨4, ![4, 8, 64, 2048]⟩
abbrev S4x2048x8 : Shape := ⟨3, ![4, 2048, 8]⟩
abbrev S8x4x2048 : Shape := ⟨3, ![8, 4, 2048]⟩
abbrev S2x4x8192 : Shape := ⟨3, ![2, 4, 8192]⟩
abbrev S4x2x4x2048 : Shape := ⟨4, ![4, 2, 4, 2048]⟩
abbrev S2048x512 : Shape := ⟨2, ![2048, 512]⟩
abbrev S2048x256 : Shape := ⟨2, ![2048, 256]⟩
abbrev S1x4x2048 : Shape := ⟨3, ![1, 4, 2048]⟩
abbrev S1x1x4x2048 : Shape := ⟨4, ![1, 1, 4, 2048]⟩
abbrev S512x2048 : Shape := ⟨2, ![512, 2048]⟩
abbrev S4x128x2048 : Shape := ⟨3, ![4, 128, 2048]⟩
abbrev S2x256x256 : Shape := ⟨3, ![2, 256, 256]⟩
abbrev S128x128 : Shape := ⟨2, ![128, 128]⟩
abbrev S128x1 : Shape := ⟨2, ![128, 1]⟩
abbrev S256x512 : Shape := ⟨2, ![256, 512]⟩
abbrev S256x128 : Shape := ⟨2, ![256, 128]⟩
abbrev S128x256 : Shape := ⟨2, ![128, 256]⟩
abbrev S1x128x256 : Shape := ⟨3, ![1, 128, 256]⟩
abbrev S256x256 : Shape := ⟨2, ![256, 256]⟩
abbrev S512x256 : Shape := ⟨2, ![512, 256]⟩
abbrev S256x1 : Shape := ⟨2, ![256, 1]⟩
abbrev S1x256x256 : Shape := ⟨3, ![1, 256, 256]⟩
abbrev S1x256 : Shape := ⟨2, ![1, 256]⟩
abbrev S1x1x1x256 : Shape := ⟨4, ![1, 1, 1, 256]⟩
abbrev S1x1x256 : Shape := ⟨3, ![1, 1, 256]⟩
abbrev S64x256 : Shape := ⟨2, ![64, 256]⟩
abbrev S64x512 : Shape := ⟨2, ![64, 512]⟩
abbrev S512x128 : Shape := ⟨2, ![512, 128]⟩
abbrev S1x64x256 : Shape := ⟨3, ![1, 64, 256]⟩

abbrev nBuf : Space → Nat
  | .hbm => 58
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S4x2048x8x128, .f32⟩
  | .hbm, ⟨8, _⟩ => ⟨S8192x1024, .f32⟩
  | .hbm, ⟨9, _⟩ => ⟨S4x2048x8x128, .f32⟩
  | .hbm, ⟨10, _⟩ => ⟨S4x8x2048x2048, .f32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S4x8x2048x2048, .i1⟩
  | .hbm, ⟨18, _⟩ => ⟨S_, .f32⟩
  | .hbm, ⟨19, _⟩ => ⟨S4x8x2048x2048, .f32⟩
  | .hbm, ⟨20, _⟩ => ⟨S4x8x2048x2048, .f32⟩
  | .hbm, ⟨21, _⟩ => ⟨S_, .f32⟩
  | .hbm, ⟨22, _⟩ => ⟨S4x8x2048, .f32⟩
  | .hbm, ⟨23, _⟩ => ⟨S4x8x2048x1, .f32⟩
  | .hbm, ⟨24, _⟩ => ⟨S4x8x2048x2048, .f32⟩
  | .hbm, ⟨25, _⟩ => ⟨S4x8x2048x2048, .f32⟩
  | .hbm, ⟨26, _⟩ => ⟨S4x8x2048x2048, .f32⟩
  | .hbm, ⟨27, _⟩ => ⟨S_, .f32⟩
  | .hbm, ⟨28, _⟩ => ⟨S4x8x2048, .f32⟩
  | .hbm, ⟨29, _⟩ => ⟨S4x8x2048x1, .f32⟩
  | .hbm, ⟨30, _⟩ => ⟨S4x8x2048x2048, .f32⟩
  | .hbm, ⟨31, _⟩ => ⟨S4x8x2048x2048, .f32⟩
  | .hbm, ⟨32, _⟩ => ⟨S8192x512, .f32⟩
  | .hbm, ⟨33, _⟩ => ⟨S4x2048x8x64, .f32⟩
  | .hbm, ⟨34, _⟩ => ⟨S4x8x64x2048, .f32⟩
  | .hbm, ⟨35, _⟩ => ⟨S4x2048x8x64, .f32⟩
  | .hbm, ⟨36, _⟩ => ⟨S4x8x2048x1, .f32⟩
  | .hbm, ⟨37, _⟩ => ⟨S4x8x2048x1, .f32⟩
  | .hbm, ⟨38, _⟩ => ⟨S_, .f32⟩
  | .hbm, ⟨39, _⟩ => ⟨S_, .f32⟩
  | .hbm, ⟨40, _⟩ => ⟨S4x8x2048x1, .f32⟩
  | .hbm, ⟨41, _⟩ => ⟨S4x8x2048x1, .f32⟩
  | .hbm, ⟨42, _⟩ => ⟨S8192x512, .f32⟩
  | .hbm, ⟨43, _⟩ => ⟨S4x2048x8x64, .f32⟩
  | .hbm, ⟨44, _⟩ => ⟨S4x2048x8x64, .f32⟩
  | .hbm, ⟨45, _⟩ => ⟨S_, .f32⟩
  | .hbm, ⟨46, _⟩ => ⟨S4x2048x8, .f32⟩
  | .hbm, ⟨47, _⟩ => ⟨S_, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .bf16⟩
  | .hbm, ⟨52, _⟩ => ⟨S8x4x2048, .f32⟩
  | .hbm, ⟨53, _⟩ => ⟨S2x4x8192, .f32⟩
  | .hbm, ⟨54, _⟩ => ⟨S4x2x4x2048, .f32⟩
  | .hbm, ⟨55, _⟩ => ⟨S8192x1024, .f32⟩
  | .hbm, ⟨56, _⟩ => ⟨S8192x1024, .f32⟩
  | .hbm, ⟨57, _⟩ => ⟨S8192x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S1x4x2048, .f32⟩
  | .local _ .vmem, ⟨9, _⟩ => ⟨S1x4x2048, .f32⟩
  | .local _ .vmem, ⟨10, _⟩ => ⟨S1x1x4x2048, .f32⟩
  | .local _ .vmem, ⟨11, _⟩ => ⟨S1x1x4x2048, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S2048x256, .f32⟩
  | .local _ .vmem, ⟨17, _⟩ => ⟨S2048x256, .f32⟩
  | .local _ .vmem, ⟨18, _⟩ => ⟨S512x2048, .bf16⟩
  | .local _ .vmem, ⟨19, _⟩ => ⟨S4x128x2048, .bf16⟩
  | .local _ .vmem, ⟨20, _⟩ => ⟨S512x2048, .f32⟩
  | .local _ .vmem, ⟨21, _⟩ => ⟨S2x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44_0 : Ref sig .tc := ⟨.hbm, 55, rfl⟩
abbrev main_v44_1 : Ref sig .tc := ⟨.hbm, 56, rfl⟩
abbrev main_v44_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c8_i32 : BitVec 32 := 8#32
  let v506 : BitVec 32 := Scalar.addi c0_i32 c8_i32
  let c1_i32 : BitVec 32 := 1#32
  ⟨c0_i32, v506, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  v624
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v626 : Index := Scalar.indexCast v625
  let c0_425 : Index := 0#32
  ![v626.toNat, 0]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v628 : Index := Scalar.indexCast v625
  let c0_426 : Index := 0#32
  ![v628.toNat, 0]
def k0_off3 (k0_t1 : Fin k0_t1_loop.trips) : Fin 2 → Nat :=
  let c0_427 : Index := 0#32
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v630 : Index := Scalar.indexCast v625
  ![0, v630.toNat]
def k0_off4 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v640 : Index := Scalar.indexCast v623
  let c0_432 : Index := 0#32
  let c0_433 : Index := 0#32
  ![v640.toNat, 0, 0]
def k0_cond1 (k0_t1 : Fin k0_t1_loop.trips) : BitVec 1 :=
  let c8_i32_434 : BitVec 32 := 8#32
  let c0_i32 : BitVec 32 := 0#32
  let c1_i32 : BitVec 32 := 1#32
  let arg15 : BitVec 32 := Scf.iv c0_i32 c1_i32 k0_t1
  let v644 : BitVec 32 := Scalar.subi c8_i32_434 arg15
  let c2_i32_435 : BitVec 32 := 2#32
  let v645 : BitVec 1 := Scalar.cmpi .sge v644 c2_i32_435
  let v646 : BitVec 32 := Scalar.extui v645
  let c0_i32_436 : BitVec 32 := 0#32
  let v647 : BitVec 1 := Scalar.cmpi .ne v646 c0_i32_436
  v647

def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  v686
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c1_i32_459 : BitVec 32 := 1#32
  let v688 : BitVec 32 := Scalar.addi arg15 c1_i32_459
  let c256_i32_460 : BitVec 32 := 256#32
  let v689 : BitVec 32 := Scalar.muli v688 c256_i32_460
  v689
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c1_i32_461 : BitVec 32 := 1#32
  let v691 : BitVec 32 := Scalar.subi arg15 c1_i32_461
  let c0_i32_462 : BitVec 32 := 0#32
  let v692 : BitVec 32 := Scalar.maxsi v691 c0_i32_462
  let c256_i32_464 : BitVec 32 := 256#32
  let v694 : BitVec 32 := Scalar.muli v692 c256_i32_464
  v694
def k0_off5 (k0_t1 : Fin k0_t1_loop.trips) : Fin 3 → Nat :=
  let c1_i32_463 : BitVec 32 := 1#32
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v693 : BitVec 32 := Scalar.subi c1_i32_463 v623
  let v696 : Index := Scalar.indexCast v693
  let c0_465 : Index := 0#32
  let c0_466 : Index := 0#32
  ![v696.toNat, 0, 0]
def k0_off6 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1_i32_461 : BitVec 32 := 1#32
  let v691 : BitVec 32 := Scalar.subi arg15 c1_i32_461
  let c0_i32_462 : BitVec 32 := 0#32
  let v692 : BitVec 32 := Scalar.maxsi v691 c0_i32_462
  let c256_i32_464 : BitVec 32 := 256#32
  let v694 : BitVec 32 := Scalar.muli v692 c256_i32_464
  let v695 : BitVec 32 := v694
  let v700 : Index := Scalar.indexCast v695
  let c0_467 : Index := 0#32
  ![v700.toNat, 0]
def k0_off7 (k0_t1 : Fin k0_t1_loop.trips) : Fin 3 → Nat :=
  let c1_i32_463 : BitVec 32 := 1#32
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v693 : BitVec 32 := Scalar.subi c1_i32_463 v623
  let v702 : Index := Scalar.indexCast v693
  let c128_468 : Index := 128#32
  let c0_469 : Index := 0#32
  ![v702.toNat, 128, 0]
def k0_off8 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1_i32_461 : BitVec 32 := 1#32
  let v691 : BitVec 32 := Scalar.subi arg15 c1_i32_461
  let c0_i32_462 : BitVec 32 := 0#32
  let v692 : BitVec 32 := Scalar.maxsi v691 c0_i32_462
  let c256_i32_464 : BitVec 32 := 256#32
  let v694 : BitVec 32 := Scalar.muli v692 c256_i32_464
  let v695 : BitVec 32 := v694
  let v706 : Index := Scalar.indexCast v695
  let c128_470 : Index := 128#32
  ![v706.toNat, 128]
def k0_off9 (k0_t1 : Fin k0_t1_loop.trips) (c0_i32_457 : BitVec 32) : Fin 2 → Nat :=
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v708 : Index := Scalar.indexCast v687
  let c0_471 : Index := 0#32
  ![v708.toNat, 0]
def k0_off10 (k0_t1 : Fin k0_t1_loop.trips) (c0_i32_457 : BitVec 32) : Fin 3 → Nat :=
  let c0_474 : Index := 0#32
  let c0_475 : Index := 0#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v721 : Index := Scalar.indexCast v687
  ![0, 0, v721.toNat]
def k0_off11 (k0_t1 : Fin k0_t1_loop.trips) (c0_i32_457 : BitVec 32) : Fin 3 → Nat :=
  let c1_482 : Index := 1#32
  let c0_483 : Index := 0#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v737 : Index := Scalar.indexCast v687
  ![1, 0, v737.toNat]
def k0_off12 (k0_t1 : Fin k0_t1_loop.trips) (c0_i32_457 : BitVec 32) : Fin 4 → Nat :=
  let c0_490 : Index := 0#32
  let c0_491 : Index := 0#32
  let c0_492 : Index := 0#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v753 : Index := Scalar.indexCast v687
  ![0, 0, 0, v753.toNat]
def k0_off13 (k0_t1 : Fin k0_t1_loop.trips) (c0_i32_457 : BitVec 32) : Fin 3 → Nat :=
  let c0_494 : Index := 0#32
  let c0_495 : Index := 0#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v761 : Index := Scalar.indexCast v687
  ![0, 0, v761.toNat]
def k0_off14 (k0_t1 : Fin k0_t1_loop.trips) (c0_i32_457 : BitVec 32) : Fin 3 → Nat :=
  let c2_501 : Index := 2#32
  let c0_502 : Index := 0#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v783 : Index := Scalar.indexCast v687
  ![2, 0, v783.toNat]
def k0_off15 (k0_t1 : Fin k0_t1_loop.trips) (c0_i32_457 : BitVec 32) : Fin 4 → Nat :=
  let c0_509 : Index := 0#32
  let c0_510 : Index := 0#32
  let c1_511 : Index := 1#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v799 : Index := Scalar.indexCast v687
  ![0, 0, 1, v799.toNat]
def k0_off16 (k0_t1 : Fin k0_t1_loop.trips) (c0_i32_457 : BitVec 32) : Fin 3 → Nat :=
  let c0_513 : Index := 0#32
  let c1_514 : Index := 1#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v807 : Index := Scalar.indexCast v687
  ![0, 1, v807.toNat]
def k0_off17 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v837 : Index := Scalar.indexCast v623
  let c0_520 : Index := 0#32
  let c0_521 : Index := 0#32
  ![v837.toNat, 0, 0]
def k0_off18 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v846 : Index := Scalar.indexCast v625
  let c0_525 : Index := 0#32
  ![v846.toNat, 0]
def k0_off19 (k0_t1 : Fin k0_t1_loop.trips) (c0_i32_457 : BitVec 32) : Fin 2 → Nat :=
  let c0_528 : Index := 0#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v853 : Index := Scalar.indexCast v687
  ![0, v853.toNat]
def k0_off20 (k0_t1 : Fin k0_t1_loop.trips) (c0_i32_457 : BitVec 32) : Fin 3 → Nat :=
  let c3_534 : Index := 3#32
  let c0_535 : Index := 0#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v871 : Index := Scalar.indexCast v687
  ![3, 0, v871.toNat]
def k0_off21 (k0_t1 : Fin k0_t1_loop.trips) (c0_i32_457 : BitVec 32) : Fin 4 → Nat :=
  let c0_542 : Index := 0#32
  let c0_543 : Index := 0#32
  let c2_544 : Index := 2#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v887 : Index := Scalar.indexCast v687
  ![0, 0, 2, v887.toNat]
def k0_off22 (k0_t1 : Fin k0_t1_loop.trips) (c0_i32_457 : BitVec 32) : Fin 3 → Nat :=
  let c0_546 : Index := 0#32
  let c2_547 : Index := 2#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v895 : Index := Scalar.indexCast v687
  ![0, 2, v895.toNat]
def k0_off23 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v925 : Index := Scalar.indexCast v623
  let c64 : Index := 64#32
  let c0_553 : Index := 0#32
  ![v925.toNat, 64, 0]
def k0_off24 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v934 : Index := Scalar.indexCast v625
  let c128_557 : Index := 128#32
  ![v934.toNat, 128]
def k0_off25 (k0_t1 : Fin k0_t1_loop.trips) (c0_i32_457 : BitVec 32) : Fin 2 → Nat :=
  let c128_560 : Index := 128#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v941 : Index := Scalar.indexCast v687
  ![128, v941.toNat]
def k0_off26 (k0_t1 : Fin k0_t1_loop.trips) (c0_i32_457 : BitVec 32) : Fin 4 → Nat :=
  let c0_566 : Index := 0#32
  let c0_567 : Index := 0#32
  let c3_568 : Index := 3#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v959 : Index := Scalar.indexCast v687
  ![0, 0, 3, v959.toNat]
def k0_off27 (k0_t1 : Fin k0_t1_loop.trips) (c0_i32_457 : BitVec 32) : Fin 3 → Nat :=
  let c0_570 : Index := 0#32
  let c3_571 : Index := 3#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v967 : Index := Scalar.indexCast v687
  ![0, 3, v967.toNat]
def k0_off28 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v997 : Index := Scalar.indexCast v623
  let c128_577 : Index := 128#32
  let c0_578 : Index := 0#32
  ![v997.toNat, 128, 0]
def k0_off29 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v1006 : Index := Scalar.indexCast v625
  let c256_582 : Index := 256#32
  ![v1006.toNat, 256]
def k0_off30 (k0_t1 : Fin k0_t1_loop.trips) (c0_i32_457 : BitVec 32) : Fin 2 → Nat :=
  let c256_585 : Index := 256#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v1013 : Index := Scalar.indexCast v687
  ![256, v1013.toNat]
def k0_off31 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v1039 : Index := Scalar.indexCast v623
  let c192 : Index := 192#32
  let c0_591 : Index := 0#32
  ![v1039.toNat, 192, 0]
def k0_off32 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v1048 : Index := Scalar.indexCast v625
  let c384_595 : Index := 384#32
  ![v1048.toNat, 384]
def k0_off33 (k0_t1 : Fin k0_t1_loop.trips) (c0_i32_457 : BitVec 32) : Fin 2 → Nat :=
  let c384_598 : Index := 384#32
  let c0_i32 : BitVec 32 := 0#32
  let c1_i32 : BitVec 32 := 1#32
  let arg15 : BitVec 32 := Scf.iv c0_i32 c1_i32 k0_t1
  let v685 : BitVec 32 := Scalar.addi arg15 c0_i32_457
  let c256_i32_458 : BitVec 32 := 256#32
  let v686 : BitVec 32 := Scalar.muli v685 c256_i32_458
  let v687 : BitVec 32 := v686
  let v1055 : Index := Scalar.indexCast v687
  ![384, v1055.toNat]
def k0_mult5 (k0_t1 : Fin k0_t1_loop.trips) : BitVec 32 :=
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  v686
def k0_mult6 (k0_t1 : Fin k0_t1_loop.trips) : BitVec 32 :=
  let c0_i32 : BitVec 32 := 0#32
  let c1_i32 : BitVec 32 := 1#32
  let arg15 : BitVec 32 := Scf.iv c0_i32 c1_i32 k0_t1
  let c1_i32_459 : BitVec 32 := 1#32
  let v688 : BitVec 32 := Scalar.subi arg15 c1_i32_459
  let c0_i32_460 : BitVec 32 := 0#32
  let v689 : BitVec 32 := Scalar.maxsi v688 c0_i32_460
  let c256_i32_462 : BitVec 32 := 256#32
  let v691 : BitVec 32 := Scalar.muli v689 c256_i32_462
  v691
def k0_off34 (k0_t1 : Fin k0_t1_loop.trips) : Fin 3 → Nat :=
  let c1_i32_461 : BitVec 32 := 1#32
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v690 : BitVec 32 := Scalar.subi c1_i32_461 v623
  let v693 : Index := Scalar.indexCast v690
  let c0_463 : Index := 0#32
  let c0_464 : Index := 0#32
  ![v693.toNat, 0, 0]
def k0_off35 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1_i32_459 : BitVec 32 := 1#32
  let v688 : BitVec 32 := Scalar.subi arg15 c1_i32_459
  let c0_i32_460 : BitVec 32 := 0#32
  let v689 : BitVec 32 := Scalar.maxsi v688 c0_i32_460
  let c256_i32_462 : BitVec 32 := 256#32
  let v691 : BitVec 32 := Scalar.muli v689 c256_i32_462
  let v692 : BitVec 32 := v691
  let v697 : Index := Scalar.indexCast v692
  let c0_465 : Index := 0#32
  ![v697.toNat, 0]
def k0_off36 (k0_t1 : Fin k0_t1_loop.trips) : Fin 3 → Nat :=
  let c1_i32_461 : BitVec 32 := 1#32
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v690 : BitVec 32 := Scalar.subi c1_i32_461 v623
  let v699 : Index := Scalar.indexCast v690
  let c128_466 : Index := 128#32
  let c0_467 : Index := 0#32
  ![v699.toNat, 128, 0]
def k0_off37 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1_i32_459 : BitVec 32 := 1#32
  let v688 : BitVec 32 := Scalar.subi arg15 c1_i32_459
  let c0_i32_460 : BitVec 32 := 0#32
  let v689 : BitVec 32 := Scalar.maxsi v688 c0_i32_460
  let c256_i32_462 : BitVec 32 := 256#32
  let v691 : BitVec 32 := Scalar.muli v689 c256_i32_462
  let v692 : BitVec 32 := v691
  let v703 : Index := Scalar.indexCast v692
  let c128_468 : Index := 128#32
  ![v703.toNat, 128]
def k0_off38 (k0_t1 : Fin k0_t1_loop.trips) : Fin 2 → Nat :=
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v705 : Index := Scalar.indexCast v687
  let c0_469 : Index := 0#32
  ![v705.toNat, 0]
def k0_off39 (k0_t1 : Fin k0_t1_loop.trips) : Fin 3 → Nat :=
  let c0_471 : Index := 0#32
  let c0_472 : Index := 0#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v715 : Index := Scalar.indexCast v687
  ![0, 0, v715.toNat]
def k0_off40 (k0_t1 : Fin k0_t1_loop.trips) : Fin 3 → Nat :=
  let c1_475 : Index := 1#32
  let c0_476 : Index := 0#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v723 : Index := Scalar.indexCast v687
  ![1, 0, v723.toNat]
def k0_off41 (k0_t1 : Fin k0_t1_loop.trips) : Fin 4 → Nat :=
  let c0_479 : Index := 0#32
  let c0_480 : Index := 0#32
  let c0_481 : Index := 0#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v731 : Index := Scalar.indexCast v687
  ![0, 0, 0, v731.toNat]
def k0_off42 (k0_t1 : Fin k0_t1_loop.trips) : Fin 3 → Nat :=
  let c0_483 : Index := 0#32
  let c0_484 : Index := 0#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v739 : Index := Scalar.indexCast v687
  ![0, 0, v739.toNat]
def k0_off43 (k0_t1 : Fin k0_t1_loop.trips) : Fin 3 → Nat :=
  let c2_485 : Index := 2#32
  let c0_486 : Index := 0#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v747 : Index := Scalar.indexCast v687
  ![2, 0, v747.toNat]
def k0_off44 (k0_t1 : Fin k0_t1_loop.trips) : Fin 4 → Nat :=
  let c0_489 : Index := 0#32
  let c0_490 : Index := 0#32
  let c1_491 : Index := 1#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v755 : Index := Scalar.indexCast v687
  ![0, 0, 1, v755.toNat]
def k0_off45 (k0_t1 : Fin k0_t1_loop.trips) : Fin 3 → Nat :=
  let c0_493 : Index := 0#32
  let c1_494 : Index := 1#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v763 : Index := Scalar.indexCast v687
  ![0, 1, v763.toNat]
def k0_off46 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v773 : Index := Scalar.indexCast v623
  let c0_495 : Index := 0#32
  let c0_496 : Index := 0#32
  ![v773.toNat, 0, 0]
def k0_off47 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v782 : Index := Scalar.indexCast v625
  let c0_500 : Index := 0#32
  ![v782.toNat, 0]
def k0_off48 (k0_t1 : Fin k0_t1_loop.trips) : Fin 2 → Nat :=
  let c0_503 : Index := 0#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v789 : Index := Scalar.indexCast v687
  ![0, v789.toNat]
def k0_off49 (k0_t1 : Fin k0_t1_loop.trips) : Fin 3 → Nat :=
  let c3_506 : Index := 3#32
  let c0_507 : Index := 0#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v798 : Index := Scalar.indexCast v687
  ![3, 0, v798.toNat]
def k0_off50 (k0_t1 : Fin k0_t1_loop.trips) : Fin 4 → Nat :=
  let c0_510 : Index := 0#32
  let c0_511 : Index := 0#32
  let c2_512 : Index := 2#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v806 : Index := Scalar.indexCast v687
  ![0, 0, 2, v806.toNat]
def k0_off51 (k0_t1 : Fin k0_t1_loop.trips) : Fin 3 → Nat :=
  let c0_514 : Index := 0#32
  let c2_515 : Index := 2#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v814 : Index := Scalar.indexCast v687
  ![0, 2, v814.toNat]
def k0_off52 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v824 : Index := Scalar.indexCast v623
  let c64 : Index := 64#32
  let c0_516 : Index := 0#32
  ![v824.toNat, 64, 0]
def k0_off53 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v833 : Index := Scalar.indexCast v625
  let c128_520 : Index := 128#32
  ![v833.toNat, 128]
def k0_off54 (k0_t1 : Fin k0_t1_loop.trips) : Fin 2 → Nat :=
  let c128_523 : Index := 128#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v840 : Index := Scalar.indexCast v687
  ![128, v840.toNat]
def k0_off55 (k0_t1 : Fin k0_t1_loop.trips) : Fin 4 → Nat :=
  let c0_526 : Index := 0#32
  let c0_527 : Index := 0#32
  let c3_528 : Index := 3#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v849 : Index := Scalar.indexCast v687
  ![0, 0, 3, v849.toNat]
def k0_off56 (k0_t1 : Fin k0_t1_loop.trips) : Fin 3 → Nat :=
  let c0_530 : Index := 0#32
  let c3_531 : Index := 3#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v857 : Index := Scalar.indexCast v687
  ![0, 3, v857.toNat]
def k0_off57 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v867 : Index := Scalar.indexCast v623
  let c128_532 : Index := 128#32
  let c0_533 : Index := 0#32
  ![v867.toNat, 128, 0]
def k0_off58 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v876 : Index := Scalar.indexCast v625
  let c256_537 : Index := 256#32
  ![v876.toNat, 256]
def k0_off59 (k0_t1 : Fin k0_t1_loop.trips) : Fin 2 → Nat :=
  let c256_540 : Index := 256#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v883 : Index := Scalar.indexCast v687
  ![256, v883.toNat]
def k0_off60 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v894 : Index := Scalar.indexCast v623
  let c192 : Index := 192#32
  let c0_543 : Index := 0#32
  ![v894.toNat, 192, 0]
def k0_off61 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v903 : Index := Scalar.indexCast v625
  let c384_547 : Index := 384#32
  ![v903.toNat, 384]
def k0_off62 (k0_t1 : Fin k0_t1_loop.trips) : Fin 2 → Nat :=
  let c384_550 : Index := 384#32
  let c0_i32 : BitVec 32 := 0#32
  let c1_i32 : BitVec 32 := 1#32
  let arg15 : BitVec 32 := Scf.iv c0_i32 c1_i32 k0_t1
  let c0_i32_457 : BitVec 32 := 0#32
  let v685 : BitVec 32 := Scalar.addi arg15 c0_i32_457
  let c256_i32_458 : BitVec 32 := 256#32
  let v686 : BitVec 32 := Scalar.muli v685 c256_i32_458
  let v687 : BitVec 32 := v686
  let v910 : Index := Scalar.indexCast v687
  ![384, v910.toNat]
@[reducible] def k0_t2_loop (k0_t1 : Fin k0_t1_loop.trips) : Scf.Loop 32 :=
  let c1_i32_445 : BitVec 32 := 1#32
  let c8_i32_434 : BitVec 32 := 8#32
  let c0_i32 : BitVec 32 := 0#32
  let c1_i32 : BitVec 32 := 1#32
  let arg15 : BitVec 32 := Scf.iv c0_i32 c1_i32 k0_t1
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_447 : BitVec 32 := 1#32
  ⟨c1_i32_445, v669, c1_i32_447⟩
def k0_mult7 (k0_t1 : Fin k0_t1_loop.trips) (k0_t2 : Fin (k0_t2_loop k0_t1).trips) : BitVec 32 :=
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let c0_i32_458 : BitVec 32 := 0#32
  let v687 : BitVec 32 := Scalar.addi v686 c0_i32_458
  let c256_i32_459 : BitVec 32 := 256#32
  let v688 : BitVec 32 := Scalar.muli v687 c256_i32_459
  v688
def k0_mult8 (k0_t1 : Fin k0_t1_loop.trips) (k0_t2 : Fin (k0_t2_loop k0_t1).trips) : BitVec 32 :=
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let c1_i32_460 : BitVec 32 := 1#32
  let v690 : BitVec 32 := Scalar.addi v686 c1_i32_460
  let c256_i32_461 : BitVec 32 := 256#32
  let v691 : BitVec 32 := Scalar.muli v690 c256_i32_461
  v691
def k0_off63 (k0_t1 : Fin k0_t1_loop.trips) (k0_t2 : Fin (k0_t2_loop k0_t1).trips) (c0_i32_458 : BitVec 32) : Fin 2 → Nat :=
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v693 : Index := Scalar.indexCast v689
  let c0_462 : Index := 0#32
  ![v693.toNat, 0]
def k0_off64 (k0_t1 : Fin k0_t1_loop.trips) (k0_t2 : Fin (k0_t2_loop k0_t1).trips) (c0_i32_458 : BitVec 32) : Fin 3 → Nat :=
  let c0_464 : Index := 0#32
  let c0_465 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v699 : Index := Scalar.indexCast v689
  ![0, 0, v699.toNat]
def k0_off65 (k0_t1 : Fin k0_t1_loop.trips) (k0_t2 : Fin (k0_t2_loop k0_t1).trips) (c0_i32_458 : BitVec 32) : Fin 3 → Nat :=
  let c1_472 : Index := 1#32
  let c0_473 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v715 : Index := Scalar.indexCast v689
  ![1, 0, v715.toNat]
def k0_off66 (k0_t1 : Fin k0_t1_loop.trips) (k0_t2 : Fin (k0_t2_loop k0_t1).trips) (c0_i32_458 : BitVec 32) : Fin 4 → Nat :=
  let c0_480 : Index := 0#32
  let c0_481 : Index := 0#32
  let c0_482 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v731 : Index := Scalar.indexCast v689
  ![0, 0, 0, v731.toNat]
def k0_off67 (k0_t1 : Fin k0_t1_loop.trips) (k0_t2 : Fin (k0_t2_loop k0_t1).trips) (c0_i32_458 : BitVec 32) : Fin 3 → Nat :=
  let c0_483 : Index := 0#32
  let c0_484 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v737 : Index := Scalar.indexCast v689
  ![0, 0, v737.toNat]
def k0_off68 (k0_t1 : Fin k0_t1_loop.trips) (k0_t2 : Fin (k0_t2_loop k0_t1).trips) (c0_i32_458 : BitVec 32) : Fin 3 → Nat :=
  let c2_490 : Index := 2#32
  let c0_491 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v759 : Index := Scalar.indexCast v689
  ![2, 0, v759.toNat]
def k0_off69 (k0_t1 : Fin k0_t1_loop.trips) (k0_t2 : Fin (k0_t2_loop k0_t1).trips) (c0_i32_458 : BitVec 32) : Fin 4 → Nat :=
  let c0_498 : Index := 0#32
  let c0_499 : Index := 0#32
  let c1_500 : Index := 1#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v775 : Index := Scalar.indexCast v689
  ![0, 0, 1, v775.toNat]
def k0_off70 (k0_t1 : Fin k0_t1_loop.trips) (k0_t2 : Fin (k0_t2_loop k0_t1).trips) (c0_i32_458 : BitVec 32) : Fin 3 → Nat :=
  let c0_501 : Index := 0#32
  let c1_502 : Index := 1#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v781 : Index := Scalar.indexCast v689
  ![0, 1, v781.toNat]
def k0_off71 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v811 : Index := Scalar.indexCast v623
  let c0_508 : Index := 0#32
  let c0_509 : Index := 0#32
  ![v811.toNat, 0, 0]
def k0_off72 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v820 : Index := Scalar.indexCast v625
  let c0_513 : Index := 0#32
  ![v820.toNat, 0]
def k0_off73 (k0_t1 : Fin k0_t1_loop.trips) (k0_t2 : Fin (k0_t2_loop k0_t1).trips) (c0_i32_458 : BitVec 32) : Fin 2 → Nat :=
  let c0_516 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v827 : Index := Scalar.indexCast v689
  ![0, v827.toNat]
def k0_off74 (k0_t1 : Fin k0_t1_loop.trips) (k0_t2 : Fin (k0_t2_loop k0_t1).trips) (c0_i32_458 : BitVec 32) : Fin 3 → Nat :=
  let c3_522 : Index := 3#32
  let c0_523 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v845 : Index := Scalar.indexCast v689
  ![3, 0, v845.toNat]
def k0_off75 (k0_t1 : Fin k0_t1_loop.trips) (k0_t2 : Fin (k0_t2_loop k0_t1).trips) (c0_i32_458 : BitVec 32) : Fin 4 → Nat :=
  let c0_530 : Index := 0#32
  let c0_531 : Index := 0#32
  let c2_532 : Index := 2#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v861 : Index := Scalar.indexCast v689
  ![0, 0, 2, v861.toNat]
def k0_off76 (k0_t1 : Fin k0_t1_loop.trips) (k0_t2 : Fin (k0_t2_loop k0_t1).trips) (c0_i32_458 : BitVec 32) : Fin 3 → Nat :=
  let c0_533 : Index := 0#32
  let c2_534 : Index := 2#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v867 : Index := Scalar.indexCast v689
  ![0, 2, v867.toNat]
def k0_off77 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v897 : Index := Scalar.indexCast v623
  let c64 : Index := 64#32
  let c0_540 : Index := 0#32
  ![v897.toNat, 64, 0]
def k0_off78 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v906 : Index := Scalar.indexCast v625
  let c128_544 : Index := 128#32
  ![v906.toNat, 128]
def k0_off79 (k0_t1 : Fin k0_t1_loop.trips) (k0_t2 : Fin (k0_t2_loop k0_t1).trips) (c0_i32_458 : BitVec 32) : Fin 2 → Nat :=
  let c128_547 : Index := 128#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v913 : Index := Scalar.indexCast v689
  ![128, v913.toNat]
def k0_off80 (k0_t1 : Fin k0_t1_loop.trips) (k0_t2 : Fin (k0_t2_loop k0_t1).trips) (c0_i32_458 : BitVec 32) : Fin 4 → Nat :=
  let c0_553 : Index := 0#32
  let c0_554 : Index := 0#32
  let c3_555 : Index := 3#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v931 : Index := Scalar.indexCast v689
  ![0, 0, 3, v931.toNat]
def k0_off81 (k0_t1 : Fin k0_t1_loop.trips) (k0_t2 : Fin (k0_t2_loop k0_t1).trips) (c0_i32_458 : BitVec 32) : Fin 3 → Nat :=
  let c0_556 : Index := 0#32
  let c3_557 : Index := 3#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v937 : Index := Scalar.indexCast v689
  ![0, 3, v937.toNat]
def k0_off82 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v967 : Index := Scalar.indexCast v623
  let c128_563 : Index := 128#32
  let c0_564 : Index := 0#32
  ![v967.toNat, 128, 0]
def k0_off83 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v976 : Index := Scalar.indexCast v625
  let c256_568 : Index := 256#32
  ![v976.toNat, 256]
def k0_off84 (k0_t1 : Fin k0_t1_loop.trips) (k0_t2 : Fin (k0_t2_loop k0_t1).trips) (c0_i32_458 : BitVec 32) : Fin 2 → Nat :=
  let c256_571 : Index := 256#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v983 : Index := Scalar.indexCast v689
  ![256, v983.toNat]
def k0_off85 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v1009 : Index := Scalar.indexCast v623
  let c192 : Index := 192#32
  let c0_577 : Index := 0#32
  ![v1009.toNat, 192, 0]
def k0_off86 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v1018 : Index := Scalar.indexCast v625
  let c384_581 : Index := 384#32
  ![v1018.toNat, 384]
def k0_off87 (k0_t1 : Fin k0_t1_loop.trips) (k0_t2 : Fin (k0_t2_loop k0_t1).trips) (c0_i32_458 : BitVec 32) : Fin 2 → Nat :=
  let c384_584 : Index := 384#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c1_i32_447 : BitVec 32 := 1#32
  let arg16 : BitVec 32 := Scf.iv c1_i32_445 c1_i32_447 k0_t2
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v1025 : Index := Scalar.indexCast v689
  ![384, v1025.toNat]
@[reducible] def k0_t3_loop (k0_t1 : Fin k0_t1_loop.trips) : Scf.Loop 32 :=
  let c1_i32_445 : BitVec 32 := 1#32
  let c8_i32_434 : BitVec 32 := 8#32
  let c0_i32 : BitVec 32 := 0#32
  let c1_i32 : BitVec 32 := 1#32
  let arg15 : BitVec 32 := Scf.iv c0_i32 c1_i32 k0_t1
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let v666 : BitVec 32 := Scalar.addi c1_i32_445 v665
  let c1_i32_448 : BitVec 32 := 1#32
  ⟨v669, v666, c1_i32_448⟩
def k0_mult9 (k0_t1 : Fin k0_t1_loop.trips) (k0_t3 : Fin (k0_t3_loop k0_t1).trips) : BitVec 32 :=
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let c0_i32_458 : BitVec 32 := 0#32
  let v687 : BitVec 32 := Scalar.addi v686 c0_i32_458
  let c256_i32_459 : BitVec 32 := 256#32
  let v688 : BitVec 32 := Scalar.muli v687 c256_i32_459
  v688
def k0_mult10 (k0_t1 : Fin k0_t1_loop.trips) (k0_t3 : Fin (k0_t3_loop k0_t1).trips) : BitVec 32 :=
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let c1_i32_460 : BitVec 32 := 1#32
  let v690 : BitVec 32 := Scalar.addi v686 c1_i32_460
  let c256_i32_461 : BitVec 32 := 256#32
  let v691 : BitVec 32 := Scalar.muli v690 c256_i32_461
  v691
def k0_off88 (k0_t1 : Fin k0_t1_loop.trips) (k0_t3 : Fin (k0_t3_loop k0_t1).trips) (c0_i32_458 : BitVec 32) : Fin 2 → Nat :=
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v693 : Index := Scalar.indexCast v689
  let c0_462 : Index := 0#32
  ![v693.toNat, 0]
def k0_off89 (k0_t1 : Fin k0_t1_loop.trips) (k0_t3 : Fin (k0_t3_loop k0_t1).trips) (c0_i32_458 : BitVec 32) : Fin 3 → Nat :=
  let c0_464 : Index := 0#32
  let c0_465 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v699 : Index := Scalar.indexCast v689
  ![0, 0, v699.toNat]
def k0_off90 (k0_t1 : Fin k0_t1_loop.trips) (k0_t3 : Fin (k0_t3_loop k0_t1).trips) (c0_i32_458 : BitVec 32) : Fin 3 → Nat :=
  let c1_472 : Index := 1#32
  let c0_473 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v715 : Index := Scalar.indexCast v689
  ![1, 0, v715.toNat]
def k0_off91 (k0_t1 : Fin k0_t1_loop.trips) (k0_t3 : Fin (k0_t3_loop k0_t1).trips) (c0_i32_458 : BitVec 32) : Fin 4 → Nat :=
  let c0_480 : Index := 0#32
  let c0_481 : Index := 0#32
  let c0_482 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v731 : Index := Scalar.indexCast v689
  ![0, 0, 0, v731.toNat]
def k0_off92 (k0_t1 : Fin k0_t1_loop.trips) (k0_t3 : Fin (k0_t3_loop k0_t1).trips) (c0_i32_458 : BitVec 32) : Fin 3 → Nat :=
  let c0_483 : Index := 0#32
  let c0_484 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v737 : Index := Scalar.indexCast v689
  ![0, 0, v737.toNat]
def k0_off93 (k0_t1 : Fin k0_t1_loop.trips) (k0_t3 : Fin (k0_t3_loop k0_t1).trips) (c0_i32_458 : BitVec 32) : Fin 3 → Nat :=
  let c2_490 : Index := 2#32
  let c0_491 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v759 : Index := Scalar.indexCast v689
  ![2, 0, v759.toNat]
def k0_off94 (k0_t1 : Fin k0_t1_loop.trips) (k0_t3 : Fin (k0_t3_loop k0_t1).trips) (c0_i32_458 : BitVec 32) : Fin 4 → Nat :=
  let c0_498 : Index := 0#32
  let c0_499 : Index := 0#32
  let c1_500 : Index := 1#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v775 : Index := Scalar.indexCast v689
  ![0, 0, 1, v775.toNat]
def k0_off95 (k0_t1 : Fin k0_t1_loop.trips) (k0_t3 : Fin (k0_t3_loop k0_t1).trips) (c0_i32_458 : BitVec 32) : Fin 3 → Nat :=
  let c0_501 : Index := 0#32
  let c1_502 : Index := 1#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v781 : Index := Scalar.indexCast v689
  ![0, 1, v781.toNat]
def k0_off96 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v811 : Index := Scalar.indexCast v623
  let c0_508 : Index := 0#32
  let c0_509 : Index := 0#32
  ![v811.toNat, 0, 0]
def k0_off97 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v820 : Index := Scalar.indexCast v625
  let c0_513 : Index := 0#32
  ![v820.toNat, 0]
def k0_off98 (k0_t1 : Fin k0_t1_loop.trips) (k0_t3 : Fin (k0_t3_loop k0_t1).trips) (c0_i32_458 : BitVec 32) : Fin 2 → Nat :=
  let c0_516 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v827 : Index := Scalar.indexCast v689
  ![0, v827.toNat]
def k0_off99 (k0_t1 : Fin k0_t1_loop.trips) (k0_t3 : Fin (k0_t3_loop k0_t1).trips) (c0_i32_458 : BitVec 32) : Fin 3 → Nat :=
  let c3_522 : Index := 3#32
  let c0_523 : Index := 0#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v845 : Index := Scalar.indexCast v689
  ![3, 0, v845.toNat]
def k0_off100 (k0_t1 : Fin k0_t1_loop.trips) (k0_t3 : Fin (k0_t3_loop k0_t1).trips) (c0_i32_458 : BitVec 32) : Fin 4 → Nat :=
  let c0_530 : Index := 0#32
  let c0_531 : Index := 0#32
  let c2_532 : Index := 2#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v861 : Index := Scalar.indexCast v689
  ![0, 0, 2, v861.toNat]
def k0_off101 (k0_t1 : Fin k0_t1_loop.trips) (k0_t3 : Fin (k0_t3_loop k0_t1).trips) (c0_i32_458 : BitVec 32) : Fin 3 → Nat :=
  let c0_533 : Index := 0#32
  let c2_534 : Index := 2#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v867 : Index := Scalar.indexCast v689
  ![0, 2, v867.toNat]
def k0_off102 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v897 : Index := Scalar.indexCast v623
  let c64 : Index := 64#32
  let c0_540 : Index := 0#32
  ![v897.toNat, 64, 0]
def k0_off103 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v906 : Index := Scalar.indexCast v625
  let c128_544 : Index := 128#32
  ![v906.toNat, 128]
def k0_off104 (k0_t1 : Fin k0_t1_loop.trips) (k0_t3 : Fin (k0_t3_loop k0_t1).trips) (c0_i32_458 : BitVec 32) : Fin 2 → Nat :=
  let c128_547 : Index := 128#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v913 : Index := Scalar.indexCast v689
  ![128, v913.toNat]
def k0_off105 (k0_t1 : Fin k0_t1_loop.trips) (k0_t3 : Fin (k0_t3_loop k0_t1).trips) (c0_i32_458 : BitVec 32) : Fin 4 → Nat :=
  let c0_553 : Index := 0#32
  let c0_554 : Index := 0#32
  let c3_555 : Index := 3#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v931 : Index := Scalar.indexCast v689
  ![0, 0, 3, v931.toNat]
def k0_off106 (k0_t1 : Fin k0_t1_loop.trips) (k0_t3 : Fin (k0_t3_loop k0_t1).trips) (c0_i32_458 : BitVec 32) : Fin 3 → Nat :=
  let c0_556 : Index := 0#32
  let c3_557 : Index := 3#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v937 : Index := Scalar.indexCast v689
  ![0, 3, v937.toNat]
def k0_off107 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v967 : Index := Scalar.indexCast v623
  let c128_563 : Index := 128#32
  let c0_564 : Index := 0#32
  ![v967.toNat, 128, 0]
def k0_off108 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v976 : Index := Scalar.indexCast v625
  let c256_568 : Index := 256#32
  ![v976.toNat, 256]
def k0_off109 (k0_t1 : Fin k0_t1_loop.trips) (k0_t3 : Fin (k0_t3_loop k0_t1).trips) (c0_i32_458 : BitVec 32) : Fin 2 → Nat :=
  let c256_571 : Index := 256#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v983 : Index := Scalar.indexCast v689
  ![256, v983.toNat]
def k0_off110 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v1009 : Index := Scalar.indexCast v623
  let c192 : Index := 192#32
  let c0_577 : Index := 0#32
  ![v1009.toNat, 192, 0]
def k0_off111 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v1018 : Index := Scalar.indexCast v625
  let c384_581 : Index := 384#32
  ![v1018.toNat, 384]
def k0_off112 (k0_t1 : Fin k0_t1_loop.trips) (k0_t3 : Fin (k0_t3_loop k0_t1).trips) (c0_i32_458 : BitVec 32) : Fin 2 → Nat :=
  let c384_584 : Index := 384#32
  let c0_i32 : BitVec 32 := 0#32
  let c1_i32 : BitVec 32 := 1#32
  let arg15 : BitVec 32 := Scf.iv c0_i32 c1_i32 k0_t1
  let c2_i32_457 : BitVec 32 := 2#32
  let c1_i32_445 : BitVec 32 := 1#32
  let c8_i32_434 : BitVec 32 := 8#32
  let v644 : BitVec 32 := Scalar.subi c8_i32_434 arg15
  let c0_i32_438 : BitVec 32 := 0#32
  let v649 : BitVec 1 := Scalar.cmpi .sgt v644 c0_i32_438
  let v650 : BitVec 32 := Scalar.extui v649
  let c0_i32_439 : BitVec 32 := 0#32
  let v651 : BitVec 1 := Scalar.cmpi .slt v644 c0_i32_439
  let v652 : BitVec 32 := Scalar.extui v651
  let v653 : BitVec 32 := Scalar.subi v650 v652
  let c2_i32_437 : BitVec 32 := 2#32
  let c0_i32_440 : BitVec 32 := 0#32
  let v654 : BitVec 1 := Scalar.cmpi .sgt c2_i32_437 c0_i32_440
  let v655 : BitVec 32 := Scalar.extui v654
  let c0_i32_441 : BitVec 32 := 0#32
  let v656 : BitVec 1 := Scalar.cmpi .slt c2_i32_437 c0_i32_441
  let v657 : BitVec 32 := Scalar.extui v656
  let v658 : BitVec 32 := Scalar.subi v655 v657
  let v659 : BitVec 1 := Scalar.cmpi .ne v653 v658
  let v660 : BitVec 32 := Scalar.remsi v644 c2_i32_437
  let c0_i32_442 : BitVec 32 := 0#32
  let v661 : BitVec 1 := Scalar.cmpi .ne v660 c0_i32_442
  let v662 : BitVec 1 := Scalar.andi v659 v661
  let v648 : BitVec 32 := Scalar.divsi v644 c2_i32_437
  let c1_i32_443 : BitVec 32 := 1#32
  let v663 : BitVec 32 := Scalar.subi v648 c1_i32_443
  let v664 : BitVec 32 := Scalar.select v662 v663 v648
  let v665 : BitVec 32 := Scalar.subi v664 c1_i32_445
  let c1_i32_446 : BitVec 32 := 1#32
  let v667 : BitVec 32 := Scalar.divsi v665 c1_i32_446
  let v668 : BitVec 32 := Scalar.muli v667 c1_i32_446
  let v669 : BitVec 32 := Scalar.addi c1_i32_445 v668
  let c1_i32_448 : BitVec 32 := 1#32
  let arg16 : BitVec 32 := Scf.iv v669 c1_i32_448 k0_t3
  let v685 : BitVec 32 := Scalar.muli c2_i32_457 arg16
  let v686 : BitVec 32 := Scalar.addi arg15 v685
  let v687 : BitVec 32 := Scalar.addi v686 c0_i32_458
  let c256_i32_459 : BitVec 32 := 256#32
  let v688 : BitVec 32 := Scalar.muli v687 c256_i32_459
  let v689 : BitVec 32 := v688
  let v1025 : Index := Scalar.indexCast v689
  ![384, v1025.toNat]
def k0_cond2 (k0_t1 : Fin k0_t1_loop.trips) : BitVec 1 :=
  let c8_i32_434 : BitVec 32 := 8#32
  let c0_i32 : BitVec 32 := 0#32
  let c1_i32 : BitVec 32 := 1#32
  let arg15 : BitVec 32 := Scf.iv c0_i32 c1_i32 k0_t1
  let v644 : BitVec 32 := Scalar.subi c8_i32_434 arg15
  let c2_i32_449 : BitVec 32 := 2#32
  let c0_i32_450 : BitVec 32 := 0#32
  let v670 : BitVec 1 := Scalar.cmpi .eq c2_i32_449 c0_i32_450
  let c1_i32_451 : BitVec 32 := 1#32
  let v671 : BitVec 32 := Scalar.select v670 c1_i32_451 c2_i32_449
  let v672 : BitVec 32 := Scalar.remsi v644 v671
  let c0_i32_453 : BitVec 32 := 0#32
  let v674 : BitVec 1 := Scalar.cmpi .slt v672 c0_i32_453
  let c0_i32_454 : BitVec 32 := 0#32
  let v675 : BitVec 1 := Scalar.cmpi .slt v671 c0_i32_454
  let v676 : BitVec 1 := Scalar.xori v674 v675
  let c0_i32_452 : BitVec 32 := 0#32
  let v673 : BitVec 1 := Scalar.cmpi .ne v672 c0_i32_452
  let v677 : BitVec 1 := Scalar.andi v676 v673
  let v678 : BitVec 32 := Scalar.addi v672 v671
  let v679 : BitVec 32 := Scalar.select v677 v678 v672
  let c1_i32_455 : BitVec 32 := 1#32
  let v680 : BitVec 1 := Scalar.cmpi .eq v679 c1_i32_455
  let c3_i32 : BitVec 32 := 3#32
  let v681 : BitVec 1 := Scalar.cmpi .sge v644 c3_i32
  let v682 : BitVec 1 := Scalar.andi v680 v681
  let v683 : BitVec 32 := Scalar.extui v682
  let c0_i32_456 : BitVec 32 := 0#32
  let v684 : BitVec 1 := Scalar.cmpi .ne v683 c0_i32_456
  v684

def k0_mult11 : BitVec 32 :=
  let c1792_i32_457 : BitVec 32 := 1792#32
  c1792_i32_457
def k0_off113 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v743 : Index := Scalar.indexCast v623
  let c0_481 : Index := 0#32
  let c0_482 : Index := 0#32
  ![v743.toNat, 0, 0]
def k0_off114 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v752 : Index := Scalar.indexCast v625
  let c0_486 : Index := 0#32
  ![v752.toNat, 0]
def k0_off115 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v792 : Index := Scalar.indexCast v623
  let c64 : Index := 64#32
  let c0_501 : Index := 0#32
  ![v792.toNat, 64, 0]
def k0_off116 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v801 : Index := Scalar.indexCast v625
  let c128_505 : Index := 128#32
  ![v801.toNat, 128]
def k0_off117 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v833 : Index := Scalar.indexCast v623
  let c128_516 : Index := 128#32
  let c0_517 : Index := 0#32
  ![v833.toNat, 128, 0]
def k0_off118 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v842 : Index := Scalar.indexCast v625
  let c256_521 : Index := 256#32
  ![v842.toNat, 256]
def k0_off119 (k0_t1 : Fin k0_t1_loop.trips) : Fin 3 → Nat :=
  let c0_i32 : BitVec 32 := 0#32
  let c1_i32 : BitVec 32 := 1#32
  let arg15 : BitVec 32 := Scf.iv c0_i32 c1_i32 k0_t1
  let c2_i32 : BitVec 32 := 2#32
  let c0_i32_420 : BitVec 32 := 0#32
  let v614 : BitVec 1 := Scalar.cmpi .eq c2_i32 c0_i32_420
  let c1_i32_421 : BitVec 32 := 1#32
  let v615 : BitVec 32 := Scalar.select v614 c1_i32_421 c2_i32
  let v616 : BitVec 32 := Scalar.remsi arg15 v615
  let c0_i32_423 : BitVec 32 := 0#32
  let v618 : BitVec 1 := Scalar.cmpi .slt v616 c0_i32_423
  let c0_i32_424 : BitVec 32 := 0#32
  let v619 : BitVec 1 := Scalar.cmpi .slt v615 c0_i32_424
  let v620 : BitVec 1 := Scalar.xori v618 v619
  let c0_i32_422 : BitVec 32 := 0#32
  let v617 : BitVec 1 := Scalar.cmpi .ne v616 c0_i32_422
  let v621 : BitVec 1 := Scalar.andi v620 v617
  let v622 : BitVec 32 := Scalar.addi v616 v615
  let v623 : BitVec 32 := Scalar.select v621 v622 v616
  let v860 : Index := Scalar.indexCast v623
  let c192 : Index := 192#32
  let c0_527 : Index := 0#32
  ![v860.toNat, 192, 0]
def k0_off120 (k0_t1 : Fin k0_t1_loop.trips) : Fin 2 → Nat :=
  let c0_i32 : BitVec 32 := 0#32
  let c1_i32 : BitVec 32 := 1#32
  let arg15 : BitVec 32 := Scf.iv c0_i32 c1_i32 k0_t1
  let c256_i32 : BitVec 32 := 256#32
  let v624 : BitVec 32 := Scalar.muli arg15 c256_i32
  let v625 : BitVec 32 := v624
  let v869 : Index := Scalar.indexCast v625
  let c384_531 : Index := 384#32
  ![v869.toNat, 384]
def k0_mult12 : BitVec 32 :=
  let c1792_i32 : BitVec 32 := 1792#32
  c1792_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x1024 : Shape := ⟨2, ![8192, 1024]⟩
abbrev S8192x512 : Shape := ⟨2, ![8192, 512]⟩
abbrev S_ : Shape := ⟨0, ![]⟩
abbrev S4x2048x8x128 : Shape := ⟨4, ![4, 2048, 8, 128]⟩
abbrev S4x2048x8x64 : Shape := ⟨4, ![4, 2048, 8, 64]⟩
abbrev S4x8x2048x2048 : Shape := ⟨4, ![4, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x8x2048x128 : Shape := ⟨4, ![4, 8, 2048, 128]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S4x2048x8x128, .f32⟩
  | .hbm, ⟨11, _⟩ => ⟨S4x2048x8x128, .f32⟩
  | .hbm, ⟨12, _⟩ => ⟨S4x2048x8x64, .f32⟩
  | .hbm, ⟨13, _⟩ => ⟨S4x8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S4x8x2048x2048, .i1⟩
  | .hbm, ⟨21, _⟩ => ⟨S_, .f32⟩
  | .hbm, ⟨22, _⟩ => ⟨S4x8x2048x2048, .f32⟩
  | .hbm, ⟨23, _⟩ => ⟨S4x8x2048x2048, .f32⟩
  | .hbm, ⟨24, _⟩ => ⟨S_, .f32⟩
  | .hbm, ⟨25, _⟩ => ⟨S4x8x2048x2048, .f32⟩
  | .hbm, ⟨26, _⟩ => ⟨S_, .f32⟩
  | .hbm, ⟨27, _⟩ => ⟨S4x8x2048, .f32⟩
  | .hbm, ⟨28, _⟩ => ⟨S4x8x2048x1, .f32⟩
  | .hbm, ⟨29, _⟩ => ⟨S4x8x2048x2048, .f32⟩
  | .hbm, ⟨30, _⟩ => ⟨S4x8x2048x2048, .i1⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S_, .f32⟩
  | .hbm, ⟨35, _⟩ => ⟨S4x8x2048, .f32⟩
  | .hbm, ⟨36, _⟩ => ⟨S4x8x2048, .f32⟩
  | .hbm, ⟨37, _⟩ => ⟨S_, .f32⟩
  | .hbm, ⟨38, _⟩ => ⟨S4x8x2048, .f32⟩
  | .hbm, ⟨39, _⟩ => ⟨S4x8x2048, .i1⟩
  | .hbm, ⟨40, _⟩ => ⟨S_, .f32⟩
  | .hbm, ⟨41, _⟩ => ⟨S4x8x2048, .f32⟩
  | .hbm, ⟨42, _⟩ => ⟨S4x8x2048, .i1⟩
  | .hbm, ⟨43, _⟩ => ⟨S_, .f32⟩
  | .hbm, ⟨44, _⟩ => ⟨S4x8x2048, .f32⟩
  | .hbm, ⟨45, _⟩ => ⟨S_, .f32⟩
  | .hbm, ⟨46, _⟩ => ⟨S4x8x2048, .f32⟩
  | .hbm, ⟨47, _⟩ => ⟨S_, .f32⟩
  | .hbm, ⟨48, _⟩ => ⟨S4x8x2048, .f32⟩
  | .hbm, ⟨49, _⟩ => ⟨S4x8x2048, .f32⟩
  | .hbm, ⟨50, _⟩ => ⟨S4x8x2048, .f32⟩
  | .hbm, ⟨51, _⟩ => ⟨S4x8x2048x1, .f32⟩
  | .hbm, ⟨52, _⟩ => ⟨S4x8x2048x2048, .f32⟩
  | .hbm, ⟨53, _⟩ => ⟨S4x8x2048x2048, .f32⟩
  | .hbm, ⟨54, _⟩ => ⟨S4x8x2048x2048, .f32⟩
  | .hbm, ⟨55, _⟩ => ⟨S_, .f32⟩
  | .hbm, ⟨56, _⟩ => ⟨S4x8x2048, .f32⟩
  | .hbm, ⟨57, _⟩ => ⟨S4x8x2048x1, .f32⟩
  | .hbm, ⟨58, _⟩ => ⟨S4x8x2048x2048, .f32⟩
  | .hbm, ⟨59, _⟩ => ⟨S4x8x2048x2048, .f32⟩
  | .hbm, ⟨60, _⟩ => ⟨S4x8x2048x1, .f32⟩
  | .hbm, ⟨61, _⟩ => ⟨S_, .f32⟩
  | .hbm, ⟨62, _⟩ => ⟨S4x8x2048x1, .f32⟩
  | .hbm, ⟨63, _⟩ => ⟨S4x8x2048x1, .f32⟩
  | .hbm, ⟨64, _⟩ => ⟨S4x8x64x2048, .f32⟩
  | .hbm, ⟨65, _⟩ => ⟨S4x2048x8x64, .f32⟩
  | .hbm, ⟨66, _⟩ => ⟨S4x2048x8x64, .f32⟩
  | .hbm, ⟨67, _⟩ => ⟨S4x8x64x2048, .f32⟩
  | .hbm, ⟨68, _⟩ => ⟨S4x8x2048x2048, .f32⟩
  | .hbm, ⟨69, _⟩ => ⟨S4x8x64x2048, .f32⟩
  | .hbm, ⟨70, _⟩ => ⟨S4x2048x8x64, .f32⟩
  | .hbm, ⟨71, _⟩ => ⟨S4x8x2048x2048, .f32⟩
  | .hbm, ⟨72, _⟩ => ⟨S4x8x2048x2048, .f32⟩
  | .hbm, ⟨73, _⟩ => ⟨S4x8x2048x2048, .f32⟩
  | .hbm, ⟨74, _⟩ => ⟨S_, .f32⟩
  | .hbm, ⟨75, _⟩ => ⟨S4x8x2048, .f32⟩
  | .hbm, ⟨76, _⟩ => ⟨S4x8x2048x1, .f32⟩
  | .hbm, ⟨77, _⟩ => ⟨S4x8x2048x1, .f32⟩
  | .hbm, ⟨78, _⟩ => ⟨S4x8x2048x2048, .f32⟩
  | .hbm, ⟨79, _⟩ => ⟨S4x8x2048x2048, .f32⟩
  | .hbm, ⟨80, _⟩ => ⟨S_, .f32⟩
  | .hbm, ⟨81, _⟩ => ⟨S4x8x2048, .f32⟩
  | .hbm, ⟨82, _⟩ => ⟨S4x8x2048x2048, .f32⟩
  | .hbm, ⟨83, _⟩ => ⟨S4x8x2048x2048, .f32⟩
  | .hbm, ⟨84, _⟩ => ⟨S4x8x2048x2048, .f32⟩
  | .hbm, ⟨85, _⟩ => ⟨S_, .f32⟩
  | .hbm, ⟨86, _⟩ => ⟨S4x8x2048x2048, .f32⟩
  | .hbm, ⟨87, _⟩ => ⟨S4x8x2048x2048, .f32⟩
  | .hbm, ⟨88, _⟩ => ⟨S4x8x2048x128, .f32⟩
  | .hbm, ⟨89, _⟩ => ⟨S4x2048x8x128, .f32⟩
  | .hbm, ⟨90, _⟩ => ⟨S4x8x2048x128, .f32⟩
  | .hbm, ⟨91, _⟩ => ⟨S4x2048x8x128, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S_, .f32⟩
  | .hbm, ⟨96, _⟩ => ⟨S8192x1024, .f32⟩
  | .hbm, ⟨97, _⟩ => ⟨S8192x1024, .f32⟩
  | .hbm, ⟨98, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Kernel2.lean ====
abbrev S8192x1024 : Shape := ⟨2, ![8192, 1024]⟩
abbrev S8192x768 : Shape := ⟨2, ![8192, 768]⟩
abbrev S8192x512 : Shape := ⟨2, ![8192, 512]⟩
abbrev S8192x256 : Shape := ⟨2, ![8192, 256]⟩
abbrev S4x1x3072 : Shape := ⟨3, ![4, 1, 3072]⟩
abbrev S1x3072 : Shape := ⟨2, ![1, 3072]⟩
abbrev S1x1024 : Shape := ⟨2, ![1, 1024]⟩
abbrev S1024x2560 : Shape := ⟨2, ![1024, 2560]⟩
abbrev S4x1x1024 : Shape := ⟨3, ![4, 1, 1024]⟩
abbrev S512x1024 : Shape := ⟨2, ![512, 1024]⟩
abbrev S512x768 : Shape := ⟨2, ![512, 768]⟩
abbrev S512x512 : Shape := ⟨2, ![512, 512]⟩
abbrev S512x256 : Shape := ⟨2, ![512, 256]⟩
abbrev S1x1x3072 : Shape := ⟨3, ![1, 1, 3072]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩
abbrev S1x128 : Shape := ⟨2, ![1, 128]⟩
abbrev S1024x768 : Shape := ⟨2, ![1024, 768]⟩
abbrev S1024x512 : Shape := ⟨2, ![1024, 512]⟩
abbrev S1024x256 : Shape := ⟨2, ![1024, 256]⟩
abbrev S1024 : Shape := ⟨1, ![1024]⟩

abbrev nBuf : Space → Nat
  | .hbm => 16
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x768, .bf16⟩
  | .hbm, ⟨3, _⟩ => ⟨S8192x1024, .bf16⟩
  | .hbm, ⟨4, _⟩ => ⟨S8192x512, .f32⟩
  | .hbm, ⟨5, _⟩ => ⟨S8192x256, .f32⟩
  | .hbm, ⟨6, _⟩ => ⟨S8192x256, .f32⟩
  | .hbm, ⟨7, _⟩ => ⟨S4x1x3072, .f32⟩
  | .hbm, ⟨8, _⟩ => ⟨S1x3072, .f32⟩
  | .hbm, ⟨9, _⟩ => ⟨S1x1024, .f32⟩
  | .hbm, ⟨10, _⟩ => ⟨S1024x2560, .bf16⟩
  | .hbm, ⟨11, _⟩ => ⟨S8192x1024, .f32⟩
  | .hbm, ⟨12, _⟩ => ⟨S1024x2560, .f32⟩
  | .hbm, ⟨13, _⟩ => ⟨S1x1024, .f32⟩
  | .hbm, ⟨14, _⟩ => ⟨S4x1x1024, .f32⟩
  | .hbm, ⟨15, _⟩ => ⟨S4x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x768, .bf16⟩
  | .local _ .vmem, ⟨5, _⟩ => ⟨S512x768, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S1x1x3072, .f32⟩
  | .local _ .vmem, ⟨15, _⟩ => ⟨S1x1x3072, .f32⟩
  | .local _ .vmem, ⟨16, _⟩ => ⟨S1x3072, .f32⟩
  | .local _ .vmem, ⟨17, _⟩ => ⟨S1x1024, .f32⟩
  | .local _ .vmem, ⟨18, _⟩ => ⟨S1024x2560, .bf16⟩
  | .local _ .vmem, ⟨19, _⟩ => ⟨S512x1024, .f32⟩
  | .local _ .vmem, ⟨20, _⟩ => ⟨S512x1024, .f32⟩
  | .local _ .vmem, ⟨21, _⟩ => ⟨S1024x2560, .f32⟩
  | .local _ .vmem, ⟨22, _⟩ => ⟨S1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x2560 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel2Ideal.lean ====
variable {F : FTy → Type} [FloatOps F] [Named F]
def κ : String → Option EReal := fun
  | "ln2" => some ((Real.log 2 : ℝ) : EReal)
  | _ => none
-- ==== Reference2Ideal.lean ====
abbrev S8192x1024 : Shape := ⟨2, ![8192, 1024]⟩
abbrev S8192x768 : Shape := ⟨2, ![8192, 768]⟩
abbrev S8192x512 : Shape := ⟨2, ![8192, 512]⟩
abbrev S8192x256 : Shape := ⟨2, ![8192, 256]⟩
abbrev S4x1x3072 : Shape := ⟨3, ![4, 1, 3072]⟩
abbrev S1x3072 : Shape := ⟨2, ![1, 3072]⟩
abbrev S1x1024 : Shape := ⟨2, ![1, 1024]⟩
abbrev S1024x2560 : Shape := ⟨2, ![1024, 2560]⟩
abbrev S1x1x3072 : Shape := ⟨3, ![1, 1, 3072]⟩
abbrev S4x1x1024 : Shape := ⟨3, ![4, 1, 1024]⟩
abbrev S8192x2x2x64 : Shape := ⟨4, ![8192, 2, 2, 64]⟩
abbrev S_ : Shape := ⟨0, ![]⟩
abbrev S8192x2x64 : Shape := ⟨3, ![8192, 2, 64]⟩
abbrev S8192x128 : Shape := ⟨2, ![8192, 128]⟩
abbrev S8192x2560 : Shape := ⟨2, ![8192, 2560]⟩
abbrev S4x2048x1024 : Shape := ⟨3, ![4, 2048, 1024]⟩
abbrev S4x2048 : Shape := ⟨2, ![4, 2048]⟩
abbrev S4x2048x1 : Shape := ⟨3, ![4, 2048, 1]⟩
abbrev S1x1x1024 : Shape := ⟨3, ![1, 1, 1024]⟩
abbrev S2560x1024 : Shape := ⟨2, ![2560, 1024]⟩
abbrev S4x1024 : Shape := ⟨2, ![4, 1024]⟩
abbrev S1024 : Shape := ⟨1, ![1024]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x768, .bf16⟩
  | .hbm, ⟨3, _⟩ => ⟨S8192x1024, .bf16⟩
  | .hbm, ⟨4, _⟩ => ⟨S8192x512, .f32⟩
  | .hbm, ⟨5, _⟩ => ⟨S8192x256, .f32⟩
  | .hbm, ⟨6, _⟩ => ⟨S8192x256, .f32⟩
  | .hbm, ⟨7, _⟩ => ⟨S4x1x3072, .f32⟩
  | .hbm, ⟨8, _⟩ => ⟨S1x3072, .f32⟩
  | .hbm, ⟨9, _⟩ => ⟨S1x1024, .f32⟩
  | .hbm, ⟨10, _⟩ => ⟨S1024x2560, .bf16⟩
  | .hbm, ⟨11, _⟩ => ⟨S1x1x3072, .f32⟩
  | .hbm, ⟨12, _⟩ => ⟨S4x1x3072, .f32⟩
  | .hbm, ⟨13, _⟩ => ⟨S4x1x3072, .f32⟩
  | .hbm, ⟨14, _⟩ => ⟨S4x1x1024, .f32⟩
  | .hbm, ⟨15, _⟩ => ⟨S1x1x3072, .f32⟩
  | .hbm, ⟨16, _⟩ => ⟨S4x1x3072, .f32⟩
  | .hbm, ⟨17, _⟩ => ⟨S4x1x3072, .f32⟩
  | .hbm, ⟨18, _⟩ => ⟨S4x1x1024, .f32⟩
  | .hbm, ⟨19, _⟩ => ⟨S8192x768, .f32⟩
  | .hbm, ⟨20, _⟩ => ⟨S8192x512, .bf16⟩
  | .hbm, ⟨21, _⟩ => ⟨S8192x512, .f32⟩
  | .hbm, ⟨22, _⟩ => ⟨S8192x2x2x64, .f32⟩
  | .hbm, ⟨23, _⟩ => ⟨S_, .f32⟩
  | .hbm, ⟨24, _⟩ => ⟨S8192x2x64, .f32⟩
  | .hbm, ⟨25, _⟩ => ⟨S8192x128, .f32⟩
  | .hbm, ⟨26, _⟩ => ⟨S_, .f32⟩
  | .hbm, ⟨27, _⟩ => ⟨S_, .f32⟩
  | .hbm, ⟨28, _⟩ => ⟨S8192x128, .f32⟩
  | .hbm, ⟨29, _⟩ => ⟨S8192x128, .f32⟩
  | .hbm, ⟨30, _⟩ => ⟨S8192x2x2x64, .f32⟩
  | .hbm, ⟨31, _⟩ => ⟨S_, .f32⟩
  | .hbm, ⟨32, _⟩ => ⟨S8192x2x64, .f32⟩
  | .hbm, ⟨33, _⟩ => ⟨S8192x128, .f32⟩
  | .hbm, ⟨34, _⟩ => ⟨S8192x512, .bf16⟩
  | .hbm, ⟨35, _⟩ => ⟨S8192x512, .f32⟩
  | .hbm, ⟨36, _⟩ => ⟨S8192x2560, .f32⟩
  | .hbm, ⟨37, _⟩ => ⟨S1024x2560, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x2048x1, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x1024, .f32⟩
  | .hbm, ⟨55, _⟩ => ⟨S4x2048x1024, .f32⟩
  | .hbm, ⟨56, _⟩ => ⟨S1x1x1024, .f32⟩
  | .hbm, ⟨57, _⟩ => ⟨S4x2048x1024, .f32⟩
  | .hbm, ⟨58, _⟩ => ⟨S4x2048x1024, .f32⟩
  | .hbm, ⟨59, _⟩ => ⟨S_, .f32⟩
  | .hbm, ⟨60, _⟩ => ⟨S4x1x1024, .f32⟩
  | .hbm, ⟨61, _⟩ => ⟨S4x1x1024, .f32⟩
  | .hbm, ⟨62, _⟩ => ⟨S4x2048x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S8192x1024, .f32⟩
  | .hbm, ⟨67, _⟩ => ⟨S8192x2560, .f32⟩
  | .hbm, ⟨68, _⟩ => ⟨S2560x1024, .f32⟩
  | .hbm, ⟨69, _⟩ => ⟨S1024x2560, .f32⟩
  | .hbm, ⟨70, _⟩ => ⟨S8192x1024, .f32⟩
  | .hbm, ⟨71, _⟩ => ⟨S4x2048x1024, .f32⟩
  | .hbm, ⟨72, _⟩ => ⟨S_, .f32⟩
  | .hbm, ⟨73, _⟩ => ⟨S4x1024, .f32⟩
  | .hbm, ⟨74, _⟩ => ⟨S4x1x1024, .f32⟩
  | .hbm, ⟨75, _⟩ => ⟨S4x2048x1024, .f32⟩
  | .hbm, ⟨76, _⟩ => ⟨S_, .f32⟩
  | .hbm, ⟨77, _⟩ => ⟨S4x1024, .f32⟩
  | .hbm, ⟨78, _⟩ => ⟨S4x1x1024, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S_, .f32⟩
  | .hbm, ⟨83, _⟩ => ⟨S1024, .f32⟩
  | .hbm, ⟨84, _⟩ => ⟨S1x1x1024, .f32⟩
  | .hbm, ⟨85, _⟩ => ⟨S4x2048x1024, .f32⟩
  | .hbm, ⟨86, _⟩ => ⟨S4x2048x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S4x2048x1024, .f32⟩
  | .hbm, ⟨91, _⟩ => ⟨S_, .f32⟩
  | .hbm, ⟨92, _⟩ => ⟨S4x2048, .f32⟩
  | .hbm, ⟨93, _⟩ => ⟨S4x2048x1, .f32⟩
  | .hbm, ⟨94, _⟩ => ⟨S4x2048x1024, .f32⟩
  | .hbm, ⟨95, _⟩ => ⟨S4x2048x1024, .f32⟩
  | .hbm, ⟨96, _⟩ => ⟨S4x2048x1, .f32⟩
  | .hbm, ⟨97, _⟩ => ⟨S_, .f32⟩
  | .hbm, ⟨98, _⟩ => ⟨S4x2048x1, .f32⟩
  | .hbm, ⟨99, _⟩ => ⟨S4x2048x1, .f32⟩
  | .hbm, ⟨100, _⟩ => ⟨S_, .f32⟩
  | .hbm, ⟨101, _⟩ => ⟨S4x2048, .f32⟩
  | .hbm, ⟨102, _⟩ => ⟨S4x2048x1024, .f32⟩
  | .hbm, ⟨103, _⟩ => ⟨S4x2048x1024, .f32⟩
  | .hbm, ⟨104, _⟩ => ⟨S4x2048x1024, .f32⟩
  | .hbm, ⟨105, _⟩ => ⟨S4x2048x1024, .f32⟩
  | .hbm, ⟨106, _⟩ => ⟨S4x2048x1024, .f32⟩
  | .hbm, ⟨107, _⟩ => ⟨S8192x1024, .f32⟩
  | .hbm, ⟨108, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Kernel3.lean ====
abbrev S8192x1024 : Shape := ⟨2, ![8192, 1024]⟩
abbrev S8192x512 : Shape := ⟨2, ![8192, 512]⟩
abbrev S8192x640 : Shape := ⟨2, ![8192, 640]⟩
abbrev S8192x256 : Shape := ⟨2, ![8192, 256]⟩
abbrev S1x384 : Shape := ⟨2, ![1, 384]⟩
abbrev S1x256 : Shape := ⟨2, ![1, 256]⟩
abbrev S384x2048 : Shape := ⟨2, ![384, 2048]⟩
abbrev S256x1536 : Shape := ⟨2, ![256, 1536]⟩
abbrev S8192x768 : Shape := ⟨2, ![8192, 768]⟩
abbrev S512x1024 : Shape := ⟨2, ![512, 1024]⟩
abbrev S512x512 : Shape := ⟨2, ![512, 512]⟩
abbrev S512x640 : Shape := ⟨2, ![512, 640]⟩
abbrev S512x256 : Shape := ⟨2, ![512, 256]⟩
abbrev S512x768 : Shape := ⟨2, ![512, 768]⟩
abbrev S512x128 : Shape := ⟨2, ![512, 128]⟩
abbrev S512x2048 : Shape := ⟨2, ![512, 2048]⟩
abbrev S512x384 : Shape := ⟨2, ![512, 384]⟩
abbrev S512 : Shape := ⟨1, ![512]⟩
abbrev S512x1 : Shape := ⟨2, ![512, 1]⟩
abbrev S384 : Shape := ⟨1, ![384]⟩
abbrev S512x1536 : Shape := ⟨2, ![512, 1536]⟩
abbrev S256 : Shape := ⟨1, ![256]⟩
abbrev S1x128 : Shape := ⟨2, ![1, 128]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x640, .f32⟩
  | .hbm, ⟨4, _⟩ => ⟨S8192x256, .f32⟩
  | .hbm, ⟨5, _⟩ => ⟨S1x384, .f32⟩
  | .hbm, ⟨6, _⟩ => ⟨S1x256, .f32⟩
  | .hbm, ⟨7, _⟩ => ⟨S384x2048, .bf16⟩
  | .hbm, ⟨8, _⟩ => ⟨S256x1536, .bf16⟩
  | .hbm, ⟨9, _⟩ => ⟨S8192x768, .bf16⟩
  | .hbm, ⟨10, _⟩ => ⟨S384x2048, .f32⟩
  | .hbm, ⟨11, _⟩ => ⟨S256x1536, .f32⟩
  | .hbm, ⟨12, _⟩ => ⟨S1x384, .f32⟩
  | .hbm, ⟨13, _⟩ => ⟨S1x256, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x640, .f32⟩
  | .local _ .vmem, ⟨7, _⟩ => ⟨S512x640, .f32⟩
  | .local _ .vmem, ⟨8, _⟩ => ⟨S512x256, .f32⟩
  | .local _ .vmem, ⟨9, _⟩ => ⟨S512x256, .f32⟩
  | .local _ .vmem, ⟨10, _⟩ => ⟨S1x384, .f32⟩
  | .local _ .vmem, ⟨11, _⟩ => ⟨S1x256, .f32⟩
  | .local _ .vmem, ⟨12, _⟩ => ⟨S384x2048, .bf16⟩
  | .local _ .vmem, ⟨13, _⟩ => ⟨S256x1536, .bf16⟩
  | .local _ .vmem, ⟨14, _⟩ => ⟨S512x768, .bf16⟩
  | .local _ .vmem, ⟨15, _⟩ => ⟨S512x768, .bf16⟩
  | .local _ .vmem, ⟨16, _⟩ => ⟨S384x2048, .f32⟩
  | .local _ .vmem, ⟨17, _⟩ => ⟨S256x1536, .f32⟩
  | .local _ .vmem, ⟨18, _⟩ => ⟨S1x384, .f32⟩
  | .local _ .vmem, ⟨19, _⟩ => ⟨S1x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S384x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel3Ideal.lean ====
variable {F : FTy → Type} [FloatOps F] [Named F]
def κ : String → Option EReal := fun
  | "ln2" => some ((Real.log 2 : ℝ) : EReal)
  | "mla_scale" => some (((Real.sqrt 96)⁻¹ : ℝ) : EReal)
  | _ => none
-- ==== Reference3Ideal.lean ====
abbrev S8192x1024 : Shape := ⟨2, ![8192, 1024]⟩
abbrev S8192x512 : Shape := ⟨2, ![8192, 512]⟩
abbrev S8192x640 : Shape := ⟨2, ![8192, 640]⟩
abbrev S8192x256 : Shape := ⟨2, ![8192, 256]⟩
abbrev S1x384 : Shape := ⟨2, ![1, 384]⟩
abbrev S1x256 : Shape := ⟨2, ![1, 256]⟩
abbrev S384x2048 : Shape := ⟨2, ![384, 2048]⟩
abbrev S256x1536 : Shape := ⟨2, ![256, 1536]⟩
abbrev S8192x128 : Shape := ⟨2, ![8192, 128]⟩
abbrev S8192x384 : Shape := ⟨2, ![8192, 384]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S1x8192x1x128 : Shape := ⟨4, ![1, 8192, 1, 128]⟩
abbrev S1x8192x8x128 : Shape := ⟨4, ![1, 8192, 8, 128]⟩
abbrev S8192x1536 : Shape := ⟨2, ![8192, 1536]⟩
abbrev S8192x64 : Shape := ⟨2, ![8192, 64]⟩
abbrev S1536x256 : Shape := ⟨2, ![1536, 256]⟩
abbrev S256 : Shape := ⟨1, ![256]⟩
abbrev S2048x384 : Shape := ⟨2, ![2048, 384]⟩
abbrev S384 : Shape := ⟨1, ![384]⟩
abbrev S8192x768 : Shape := ⟨2, ![8192, 768]⟩

abbrev nBuf : Space → Nat
  | .hbm => 165
  | .vmem => 0
  | .smem => 0
  | _ => 0

abbrev hbmTy0_0 (i : Nat) : BufTy := match i % 128 with
  | 0 => ⟨S8192x1024, .f32⟩
  | 1 => ⟨S8192x1024, .f32⟩
  | 2 => ⟨S8192x512, .f32⟩
  | 3 => ⟨S8192x640, .f32⟩
  | 4 => ⟨S8192x256, .f32⟩
  | 5 => ⟨S1x384, .f32⟩
  | 6 => ⟨S1x256, .f32⟩
  | 7 => ⟨S384x2048, .bf16⟩
  | 8 => ⟨S256x1536, .bf16⟩
  | 9 => ⟨S8192x128, .f32⟩
  | 10 => ⟨S8192x128, .f32⟩
  | 11 => ⟨S8192x384, .f32⟩
  | 12 => ⟨S8192x256, .f32⟩
  | 13 => ⟨S_, .f32⟩
  | 14 => ⟨S8192x128, .f32⟩
  | 15 => ⟨S384x2048, .f32⟩
  | 16 => ⟨S256x1536, .f32⟩
  | 17 => ⟨S8192x384, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S8192x384, .f32⟩
  | 33 => ⟨S8192x384, .f32⟩
  | 34 => ⟨S8192x384, .f32⟩
  | 35 => ⟨S8192x384, .f32⟩
  | 36 => ⟨S8192x2048, .f32⟩
  | 37 => ⟨S8192x1024, .f32⟩
  | 38 => ⟨S8192x1024, .f32⟩
  | 39 => ⟨S1x8192x1x128, .f32⟩
  | 40 => ⟨S1x8192x8x128, .f32⟩
  | 41 => ⟨S8192x1024, .f32⟩
  | 42 => ⟨S8192x1024, .f32⟩
  | 43 => ⟨S1x8192x1x128, .f32⟩
  | 44 => ⟨S1x8192x8x128, .f32⟩
  | 45 => ⟨S8192x1024, .f32⟩
  | 46 => ⟨S8192x1024, .f32⟩
  | 47 => ⟨S8192x1024, .f32⟩
  | 48 => ⟨S_, .f32⟩
  | 49 => ⟨S_, .f32⟩
  | 50 => ⟨S8192x1024, .f32⟩
  | 51 => ⟨S8192x1024, .f32⟩
  | 52 => ⟨S8192x256, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x256, .f32⟩
  | 68 => ⟨S8192x256, .f32⟩
  | 69 => ⟨S8192x256, .f32⟩
  | 70 => ⟨S8192x256, .f32⟩
  | 71 => ⟨S8192x1536, .f32⟩
  | 72 => ⟨S8192x1024, .f32⟩
  | 73 => ⟨S8192x512, .f32⟩
  | 74 => ⟨S8192x64, .f32⟩
  | 75 => ⟨S8192x64, .f32⟩
  | 76 => ⟨S_, .f32⟩
  | 77 => ⟨S8192x64, .f32⟩
  | 78 => ⟨S8192x64, .f32⟩
  | 79 => ⟨S8192x64, .f32⟩
  | 80 => ⟨S8192x128, .f32⟩
  | 81 => ⟨S_, .f32⟩
  | 82 => ⟨S8192x64, .f32⟩
  | 83 => ⟨S8192x128, .f32⟩
  | 84 => ⟨S8192x128, .f32⟩
  | 85 => ⟨S8192x128, .f32⟩
  | 86 => ⟨S1x8192x1x128, .f32⟩
  | 87 => ⟨S1x8192x8x128, .f32⟩
  | 88 => ⟨S8192x1024, .f32⟩
  | 89 => ⟨S8192x1024, .f32⟩
  | 90 => ⟨S_, .f32⟩
  | 91 => ⟨S_, .f32⟩
  | 92 => ⟨S8192x1024, .f32⟩
  | 93 => ⟨S8192x1024, .f32⟩
  | 94 => ⟨S1x8192x8x128, .f32⟩
  | 95 => ⟨S_, .f32⟩
  | 96 => ⟨S8192x128, .f32⟩
  | 97 => ⟨S8192x128, .f32⟩
  | 98 => ⟨S8192x64, .f32⟩
  | 99 => ⟨S8192x64, .f32⟩
  | 100 => ⟨S8192x64, .f32⟩
  | 101 => ⟨S8192x64, .f32⟩
  | 102 => ⟨S8192x64, .f32⟩
  | 103 => ⟨S8192x64, .f32⟩
  | 104 => ⟨S8192x128, .f32⟩
  | 105 => ⟨S8192x1536, .f32⟩
  | 106 => ⟨S1536x256, .f32⟩
  | 107 => ⟨S256x1536, .f32⟩
  | 108 => ⟨S8192x256, .f32⟩
  | 109 => ⟨S8192x256, .f32⟩
  | 110 => ⟨S_, .f32⟩
  | 111 => ⟨S256, .f32⟩
  | 112 => ⟨S1x256, .f32⟩
  | 113 => ⟨S8192x256, .f32⟩
  | 114 => ⟨S8192x256, .f32⟩
  | 115 => ⟨S8192x256, .f32⟩
  | 116 => ⟨S_, .f32⟩
  | 117 => ⟨S8192, .f32⟩
  | 118 => ⟨S8192x1, .f32⟩
  | 119 => ⟨S8192x256, .f32⟩
  | 120 => ⟨S8192x256, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x256, .f32⟩
  | _ => ⟨S8192x1024, .f32⟩

abbrev hbmTy0_1 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S8192x1024, .f32⟩
  | 5 => ⟨S8192x1024, .f32⟩
  | 6 => ⟨S8192x1024, .f32⟩
  | 7 => ⟨S8192x1024, .f32⟩
  | 8 => ⟨S8192x2048, .f32⟩
  | 9 => ⟨S2048x384, .f32⟩
  | 10 => ⟨S384x2048, .f32⟩
  | 11 => ⟨S8192x384, .f32⟩
  | 12 => ⟨S8192x384, .f32⟩
  | 13 => ⟨S_, .f32⟩
  | 14 => ⟨S384, .f32⟩
  | 15 => ⟨S1x384, .f32⟩
  | 16 => ⟨S8192x384, .f32⟩
  | 17 => ⟨S8192x384, .f32⟩
  | 18 => ⟨S8192x384, .f32⟩
  | 19 => ⟨S_, .f32⟩
  | 20 => ⟨S8192, .f32⟩
  | 21 => ⟨S8192x1, .f32⟩
  | 22 => ⟨S8192x384, .f32⟩
  | 23 => ⟨S8192x384, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x384, .f32⟩
  | 31 => ⟨S8192x384, .f32⟩
  | 32 => ⟨S8192x384, .f32⟩
  | 33 => ⟨S8192x384, .f32⟩
  | 34 => ⟨S8192x384, .f32⟩
  | 35 => ⟨S8192x768, .f32⟩
  | 36 => ⟨S8192x768, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_13 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_14 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_15 : Ref sig .tc := ⟨.hbm, 122, rfl⟩
abbrev main_v97 : Ref sig .tc := ⟨.hbm, 123, rfl⟩
abbrev main_v98 : Ref sig .tc := ⟨.hbm, 124, rfl⟩
abbrev main_cst_16 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_17 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_18 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_19 : Ref sig .tc := ⟨.hbm, 153, rfl⟩
abbrev main_v124 : Ref sig .tc := ⟨.hbm, 154, rfl⟩
abbrev main_v125 : Ref sig .tc := ⟨.hbm, 155, rfl⟩
abbrev main_cst_20 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S4x1x3072 : Shape := ⟨3, ![4, 1, 3072]⟩
abbrev S1x3072 : Shape := ⟨2, ![1, 3072]⟩
abbrev S1x1024 : Shape := ⟨2, ![1, 1024]⟩
abbrev S1024x1024 : Shape := ⟨2, ![1024, 1024]⟩
abbrev S4x1x1024 : Shape := ⟨3, ![4, 1, 1024]⟩
abbrev S1x128 : Shape := ⟨2, ![1, 128]⟩
abbrev S2x4x8192 : Shape := ⟨3, ![2, 4, 8192]⟩
abbrev S8x8192 : Shape := ⟨2, ![8, 8192]⟩
abbrev S512x1024 : Shape := ⟨2, ![512, 1024]⟩
abbrev S512x512 : Shape := ⟨2, ![512, 512]⟩
abbrev S1x1x3072 : Shape := ⟨3, ![1, 1, 3072]⟩
abbrev S1x1x1024 : Shape := ⟨3, ![1, 1, 1024]⟩
abbrev S2x4x512 : Shape := ⟨3, ![2, 4, 512]⟩
abbrev S8x512 : Shape := ⟨2, ![8, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩
abbrev S16x1024 : Shape := ⟨2, ![16, 1024]⟩
abbrev S16x256 : Shape := ⟨2, ![16, 256]⟩
abbrev S4x256 : Shape := ⟨2, ![4, 256]⟩
abbrev S1x4x256 : Shape := ⟨3, ![1, 4, 256]⟩
abbrev S8x256 : Shape := ⟨2, ![8, 256]⟩

abbrev nBuf : Space → Nat
  | .hbm => 18
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S4x1x3072, .f32⟩
  | .hbm, ⟨6, _⟩ => ⟨S1x3072, .f32⟩
  | .hbm, ⟨7, _⟩ => ⟨S1x1024, .f32⟩
  | .hbm, ⟨8, _⟩ => ⟨S1024x1024, .bf16⟩
  | .hbm, ⟨9, _⟩ => ⟨S8192x1024, .f32⟩
  | .hbm, ⟨10, _⟩ => ⟨S8192x1024, .bf16⟩
  | .hbm, ⟨11, _⟩ => ⟨S8192x1024, .bf16⟩
  | .hbm, ⟨12, _⟩ => ⟨S1024x1024, .f32⟩
  | .hbm, ⟨13, _⟩ => ⟨S1x1024, .f32⟩
  | .hbm, ⟨14, _⟩ => ⟨S4x1x1024, .f32⟩
  | .hbm, ⟨15, _⟩ => ⟨S1x128, .f32⟩
  | .hbm, ⟨16, _⟩ => ⟨S2x4x8192, .f32⟩
  | .hbm, ⟨17, _⟩ => ⟨S8x8192, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S1x1x3072, .f32⟩
  | .local _ .vmem, ⟨11, _⟩ => ⟨S1x1x3072, .f32⟩
  | .local _ .vmem, ⟨12, _⟩ => ⟨S1x3072, .f32⟩
  | .local _ .vmem, ⟨13, _⟩ => ⟨S1x1024, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .f32⟩
  | .local _ .vmem, ⟨22, _⟩ => ⟨S1x1024, .f32⟩
  | .local _ .vmem, ⟨23, _⟩ => ⟨S1x1x1024, .f32⟩
  | .local _ .vmem, ⟨24, _⟩ => ⟨S1x1x1024, .f32⟩
  | .local _ .vmem, ⟨25, _⟩ => ⟨S1x128, .f32⟩
  | .local _ .vmem, ⟨26, _⟩ => ⟨S2x4x512, .f32⟩
  | .local _ .vmem, ⟨27, _⟩ => ⟨S2x4x512, .f32⟩
  | .local _ .vmem, ⟨28, _⟩ => ⟨S8x512, .f32⟩
  | .local _ .vmem, ⟨29, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2x4x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Proof.Offsets.lean ====
/- The kernel's loads and stores at a loop's trip: their offsets in closed form, and the loops' trip counts. -/
module

public import proofs.«01_k».proof.Proof.Gen.KernelIdeal
public import proofs.«01_k».proof.Proof.Gen.KernelIdeal.Loops

@[expose] public section

namespace Cert.KernelIdeal.Gen

open Idealize.ShloMosaic

theorem trips1 : k0_t1_loop.trips = 8 := by decide +kernel
theorem trips2 : ∀ k : Fin k0_t1_loop.trips, (k0_t2_loop k).trips = (8 - k.val) / 2 - 1 := by decide +kernel
/-- The remainder loop runs no trip. -/
theorem trips3 : ∀ k : Fin k0_t1_loop.trips, (k0_t3_loop k).trips = 0 := by decide +kernel
/-- The first step of key tile `k` takes two query tiles unless `k` is the last one. -/
theorem cond1 : ∀ k : Fin k0_t1_loop.trips, (k0_cond1 k = 1#1) = (k.val < 7) := by decide +kernel
/-- The last query tile remains after the pairs where the count is odd and not one. -/
theorem cond2 : ∀ k : Fin k0_t1_loop.trips, (k0_cond2 k = 1#1) = (k.val % 2 = 1 ∧ k.val < 7) := by decide +kernel

theorem off4_eq : ∀ k0_t1 : Fin k0_t1_loop.trips, k0_off4 k0_t1 = ![k0_t1.val % 2, 0, 0] := by decide +kernel
instance (k0_t1 : Fin k0_t1_loop.trips) : ClosedOff (k0_off4 k0_t1) := ⟨![k0_t1.val % 2, 0, 0], off4_eq k0_t1⟩
theorem off5_eq : ∀ k0_t1 : Fin k0_t1_loop.trips, k0_off5 k0_t1 = ![1 - k0_t1.val % 2, 0, 0] := by decide +kernel
instance (k0_t1 : Fin k0_t1_loop.trips) : ClosedOff (k0_off5 k0_t1) := ⟨![1 - k0_t1.val % 2, 0, 0], off5_eq k0_t1⟩
theorem off6_eq : ∀ k0_t1 : Fin k0_t1_loop.trips, k0_off6 k0_t1 = ![256 * (k0_t1.val - 1), 0] := by decide +kernel
instance (k0_t1 : Fin k0_t1_loop.trips) : ClosedOff (k0_off6 k0_t1) := ⟨![256 * (k0_t1.val - 1), 0], off6_eq k0_t1⟩
theorem off7_eq : ∀ k0_t1 : Fin k0_t1_loop.trips, k0_off7 k0_t1 = ![1 - k0_t1.val % 2, 128, 0] := by decide +kernel
instance (k0_t1 : Fin k0_t1_loop.trips) : ClosedOff (k0_off7 k0_t1) := ⟨![1 - k0_t1.val % 2, 128, 0], off7_eq k0_t1⟩
theorem off8_eq : ∀ k0_t1 : Fin k0_t1_loop.trips, k0_off8 k0_t1 = ![256 * (k0_t1.val - 1), 128] := by decide +kernel
instance (k0_t1 : Fin k0_t1_loop.trips) : ClosedOff (k0_off8 k0_t1) := ⟨![256 * (k0_t1.val - 1), 128], off8_eq k0_t1⟩
theorem off17_eq : ∀ k0_t1 : Fin k0_t1_loop.trips, k0_off17 k0_t1 = ![k0_t1.val % 2, 0, 0] := by decide +kernel
instance (k0_t1 : Fin k0_t1_loop.trips) : ClosedOff (k0_off17 k0_t1) := ⟨![k0_t1.val % 2, 0, 0], off17_eq k0_t1⟩
theorem off23_eq : ∀ k0_t1 : Fin k0_t1_loop.trips, k0_off23 k0_t1 = ![k0_t1.val % 2, 64, 0] := by decide +kernel
instance (k0_t1 : Fin k0_t1_loop.trips) : ClosedOff (k0_off23 k0_t1) := ⟨![k0_t1.val % 2, 64, 0], off23_eq k0_t1⟩
theorem off28_eq : ∀ k0_t1 : Fin k0_t1_loop.trips, k0_off28 k0_t1 = ![k0_t1.val % 2, 128, 0] := by decide +kernel
instance (k0_t1 : Fin k0_t1_loop.trips) : ClosedOff (k0_off28 k0_t1) := ⟨![k0_t1.val % 2, 128, 0], off28_eq k0_t1⟩
theorem off31_eq : ∀ k0_t1 : Fin k0_t1_loop.trips, k0_off31 k0_t1 = ![k0_t1.val % 2, 192, 0] := by decide +kernel
instance (k0_t1 : Fin k0_t1_loop.trips) : ClosedOff (k0_off31 k0_t1) := ⟨![k0_t1.val % 2, 192, 0], off31_eq k0_t1⟩
theorem off34_eq : ∀ k0_t1 : Fin k0_t1_loop.trips, k0_off34 k0_t1 = ![1 - k0_t1.val % 2, 0, 0] := by decide +kernel
instance (k0_t1 : Fin k0_t1_loop.trips) : ClosedOff (k0_off34 k0_t1) := ⟨![1 - k0_t1.val % 2, 0, 0], off34_eq k0_t1⟩
theorem off35_eq : ∀ k0_t1 : Fin k0_t1_loop.trips, k0_off35 k0_t1 = ![256 * (k0_t1.val - 1), 0] := by decide +kernel
instance (k0_t1 : Fin k0_t1_loop.trips) : ClosedOff (k0_off35 k0_t1) := ⟨![256 * (k0_t1.val - 1), 0], off35_eq k0_t1⟩
theorem off36_eq : ∀ k0_t1 : Fin k0_t1_loop.trips, k0_off36 k0_t1 = ![1 - k0_t1.val % 2, 128, 0] := by decide +kernel
instance (k0_t1 : Fin k0_t1_loop.trips) : ClosedOff (k0_off36 k0_t1) := ⟨![1 - k0_t1.val % 2, 128, 0], off36_eq k0_t1⟩
theorem off37_eq : ∀ k0_t1 : Fin k0_t1_loop.trips, k0_off37 k0_t1 = ![256 * (k0_t1.val - 1), 128] := by decide +kernel
instance (k0_t1 : Fin k0_t1_loop.trips) : ClosedOff (k0_off37 k0_t1) := ⟨![256 * (k0_t1.val - 1), 128], off37_eq k0_t1⟩
theorem off46_eq : ∀ k0_t1 : Fin k0_t1_loop.trips, k0_off46 k0_t1 = ![k0_t1.val % 2, 0, 0] := by decide +kernel
instance (k0_t1 : Fin k0_t1_loop.trips) : ClosedOff (k0_off46 k0_t1) := ⟨![k0_t1.val % 2, 0, 0], off46_eq k0_t1⟩
theorem off52_eq : ∀ k0_t1 : Fin k0_t1_loop.trips, k0_off52 k0_t1 = ![k0_t1.val % 2, 64, 0] := by decide +kernel
instance (k0_t1 : Fin k0_t1_loop.trips) : ClosedOff (k0_off52 k0_t1) := ⟨![k0_t1.val % 2, 64, 0], off52_eq k0_t1⟩
theorem off57_eq : ∀ k0_t1 : Fin k0_t1_loop.trips, k0_off57 k0_t1 = ![k0_t1.val % 2, 128, 0] := by decide +kernel
instance (k0_t1 : Fin k0_t1_loop.trips) : ClosedOff (k0_off57 k0_t1) := ⟨![k0_t1.val % 2, 128, 0], off57_eq k0_t1⟩
theorem off60_eq : ∀ k0_t1 : Fin k0_t1_loop.trips, k0_off60 k0_t1 = ![k0_t1.val % 2, 192, 0] := by decide +kernel
instance (k0_t1 : Fin k0_t1_loop.trips) : ClosedOff (k0_off60 k0_t1) := ⟨![k0_t1.val % 2, 192, 0], off60_eq k0_t1⟩
theorem off71_eq : ∀ k0_t1 : Fin k0_t1_loop.trips, k0_off71 k0_t1 = ![k0_t1.val % 2, 0, 0] := by decide +kernel
instance (k0_t1 : Fin k0_t1_loop.trips) : ClosedOff (k0_off71 k0_t1) := ⟨![k0_t1.val % 2, 0, 0], off71_eq k0_t1⟩
theorem off77_eq : ∀ k0_t1 : Fin k0_t1_loop.trips, k0_off77 k0_t1 = ![k0_t1.val % 2, 64, 0] := by decide +kernel
instance (k0_t1 : Fin k0_t1_loop.trips) : ClosedOff (k0_off77 k0_t1) := ⟨![k0_t1.val % 2, 64, 0], off77_eq k0_t1⟩
theorem off82_eq : ∀ k0_t1 : Fin k0_t1_loop.trips, k0_off82 k0_t1 = ![k0_t1.val % 2, 128, 0] := by decide +kernel
instance (k0_t1 : Fin k0_t1_loop.trips) : ClosedOff (k0_off82 k0_t1) := ⟨![k0_t1.val % 2, 128, 0], off82_eq k0_t1⟩
theorem off85_eq : ∀ k0_t1 : Fin k0_t1_loop.trips, k0_off85 k0_t1 = ![k0_t1.val % 2, 192, 0] := by decide +kernel
instance (k0_t1 : Fin k0_t1_loop.trips) : ClosedOff (k0_off85 k0_t1) := ⟨![k0_t1.val % 2, 192, 0], off85_eq k0_t1⟩
theorem off113_eq : ∀ k0_t1 : Fin k0_t1_loop.trips, k0_off113 k0_t1 = ![k0_t1.val % 2, 0, 0] := by decide +kernel
instance (k0_t1 : Fin k0_t1_loop.trips) : ClosedOff (k0_off113 k0_t1) := ⟨![k0_t1.val % 2, 0, 0], off113_eq k0_t1⟩
theorem off115_eq : ∀ k0_t1 : Fin k0_t1_loop.trips, k0_off115 k0_t1 = ![k0_t1.val % 2, 64, 0] := by decide +kernel
instance (k0_t1 : Fin k0_t1_loop.trips) : ClosedOff (k0_off115 k0_t1) := ⟨![k0_t1.val % 2, 64, 0], off115_eq k0_t1⟩
theorem off117_eq : ∀ k0_t1 : Fin k0_t1_loop.trips, k0_off117 k0_t1 = ![k0_t1.val % 2, 128, 0] := by decide +kernel
instance (k0_t1 : Fin k0_t1_loop.trips) : ClosedOff (k0_off117 k0_t1) := ⟨![k0_t1.val % 2, 128, 0], off117_eq k0_t1⟩
theorem off119_eq : ∀ k0_t1 : Fin k0_t1_loop.trips, k0_off119 k0_t1 = ![k0_t1.val % 2, 192, 0] := by decide +kernel
instance (k0_t1 : Fin k0_t1_loop.trips) : ClosedOff (k0_off119 k0_t1) := ⟨![k0_t1.val % 2, 192, 0], off119_eq k0_t1⟩
theorem off63_eq : ∀ k0_t1 : Fin k0_t1_loop.trips, ∀ k0_t2 : Fin (k0_t2_loop k0_t1).trips, ∀ r : Fin 2, k0_off63 k0_t1 k0_t2 (BitVec.ofNat 32 r.val) = ![256 * (k0_t1.val + 2 * (1 + k0_t2.val) + r.val), 0] := by decide +kernel
instance (k0_t1 : Fin k0_t1_loop.trips) (k0_t2 : Fin (k0_t2_loop k0_t1).trips) : ClosedOff (k0_off63 k0_t1 k0_t2 (BitVec.ofNat 32 0)) := ⟨![256 * (k0_t1.val + 2 * (1 + k0_t2.val) + 0), 0], off63_eq k0_t1 k0_t2 ⟨0, by decide⟩⟩
instance (k0_t1 : Fin k0_t1_loop.trips) (k0_t2 : Fin (k0_t2_loop k0_t1).trips) : ClosedOff (k0_off63 k0_t1 k0_t2 (BitVec.ofNat 32 1)) := ⟨![256 * (k0_t1.val + 2 * (1 + k0_t2.val) + 1), 0], off63_eq k0_t1 k0_t2 ⟨1, by decide⟩⟩
theorem off64_eq : ∀ k0_t1 : Fin k0_t1_loop.trips, ∀ k0_t2 : Fin (k0_t2_loop k0_t1).trips, ∀ r : Fin 2, k0_off64 k0_t1 k0_t2 (BitVec.ofNat 32 r.val) = ![0, 0, 256 * (k0_t1.val + 2 * (1 + k0_t2.val) + r.val)] := by decide +kernel
instance (k0_t1 : Fin k0_t1_loop.trips) (k0_t2 : Fin (k0_t2_loop k0_t1).trips) : ClosedOff (k0_off64 k0_t1 k0_t2 (BitVec.ofNat 32 0)) := ⟨![0, 0, 256 * (k0_t1.val + 2 * (1 + k0_t2.val) + 0)], off64_eq k0_t1 k0_t2 ⟨0, by decide⟩⟩
instance (k0_t1 : Fin k0_t1_loop.trips) (k0_t2 : Fin (k0_t2_loop k0_t1).trips) : ClosedOff (k0_off64 k0_t1 k0_t2 (BitVec.ofNat 32 1)) := ⟨![0, 0, 256 * (k0_t1.val + 2 * (1 + k0_t2.val) + 1)], off64_eq k0_t1 k0_t2 ⟨1, by decide⟩⟩
theorem off65_eq : ∀ k0_t1 : Fin k0_t1_loop.trips, ∀ k0_t2 : Fin (k0_t2_loop k0_t1).trips, ∀ r : Fin 2, k0_off65 k0_t1 k0_t2 (BitVec.ofNat 32 r.val) = ![1, 0, 256 * (k0_t1.val + 2 * (1 + k0_t2.val) + r.val)] := by decide +kernel
instance (k0_t1 : Fin k0_t1_loop.trips) (k0_t2 : Fin (k0_t2_loop k0_t1).trips) : ClosedOff (k0_off65 k0_t1 k0_t2 (BitVec.ofNat 32 0)) := ⟨![1, 0, 256 * (k0_t1.val + 2 * (1 + k0_t2.val) + 0)], off65_eq k0_t1 k0_t2 ⟨0, by decide⟩⟩
instance (k0_t1 : Fin k0_t1_loop.trips) (k0_t2 : Fin (k0_t2_loop k0_t1).trips) : ClosedOff (k0_off65 k0_t1 k0_t2 (BitVec.ofNat 32 1)) := ⟨![1, 0, 256 * (k0_t1.val + 2 * (1 + k0_t2.val) + 1)], off65_eq k0_t1 k0_t2 ⟨1, by decide⟩⟩
theorem off66_eq : ∀ k0_t1 : Fin k0_t1_loop.trips, ∀ k0_t2 : Fin (k0_t2_loop k0_t1).trips, ∀ r : Fin 2, k0_off66 k0_t1 k0_t2 (BitVec.ofNat 32 r.val) = ![0, 0, 0, 256 * (k0_t1.val + 2 * (1 + k0_t2.val) + r.val)] := by decide +kernel
instance (k0_t1 : Fin k0_t1_loop.trips) (k0_t2 : Fin (k0_t2_loop k0_t1).trips) : ClosedOff (k0_off66 k0_t1 k0_t2 (BitVec.ofNat 32 0)) := ⟨![0, 0, 0, 256 * (k0_t1.val + 2 * (1 + k0_t2.val) + 0)], off66_eq k0_t1 k0_t2 ⟨0, by decide⟩⟩
instance (k0_t1 : Fin k0_t1_loop.trips) (k0_t2 : Fin (k0_t2_loop k0_t1).trips) : ClosedOff (k0_off66 k0_t1 k0_t2 (BitVec.ofNat 32 1)) := ⟨![0, 0, 0, 256 * (k0_t1.val + 2 * (1 + k0_t2.val) + 1)], off66_eq k0_t1 k0_t2 ⟨1, by decide⟩⟩
theorem off67_eq : ∀ k0_t1 : Fin k0_t1_loop.trips, ∀ k0_t2 : Fin (k0_t2_loop k0_t1).trips, ∀ r : Fin 2, k0_off67 k0_t1 k0_t2 (BitVec.ofNat 32 r.val) = ![0, 0, 256 * (k0_t1.val + 2 * (1 + k0_t2.val) + r.val)] := by decide +kernel
instance (k0_t1 : Fin k0_t1_loop.trips) (k0_t2 : Fin (k0_t2_loop k0_t1).trips) : ClosedOff (k0_off67 k0_t1 k0_t2 (BitVec.ofNat 32 0)) := ⟨![0, 0, 256 * (k0_t1.val + 2 * (1 + k0_t2.val) + 0)], off67_eq k0_t1 k0_t2 ⟨0, by decide⟩⟩
instance (k0_t1 : Fin k0_t1_loop.trips) (k0_t2 : Fin (k0_t2_loop k0_t1).trips) : ClosedOff (k0_off67 k0_t1 k0_t2 (BitVec.ofNat 32 1)) := ⟨![0, 0, 256 * (k0_t1.val + 2 * (1 + k0_t2.val) + 1)], off67_eq k0_t1 k0_t2 ⟨1, by decide⟩⟩
theorem off68_eq : ∀ k0_t1 : Fin k0_t1_loop.trips, ∀ k0_t2 : Fin (k0_t2_loop k0_t1).trips, ∀ r : Fin 2, k0_off68 k0_t1 k0_t2 (BitVec.ofNat 32 r.val) = ![2, 0, 256 * (k0_t1.val + 2 * (1 + k0_t2.val) + r.val)] := by decide +kernel
instance (k0_t1 : Fin k0_t1_loop.trips) (k0_t2 : Fin (k0_t2_loop k0_t1).trips) : ClosedOff (k0_off68 k0_t1 k0_t2 (BitVec.ofNat 32 0)) := ⟨![2, 0, 256 * (k0_t1.val + 2 * (1 + k0_t2.val) + 0)], off68_eq k0_t1 k0_t2 ⟨0, by decide⟩⟩
instance (k0_t1 : Fin k0_t1_loop.trips) (k0_t2 : Fin (k0_t2_loop k0_t1).trips) : ClosedOff (k0_off68 k0_t1 k0_t2 (BitVec.ofNat 32 1)) := ⟨![2, 0, 256 * (k0_t1.val + 2 * (1 + k0_t2.val) + 1)], off68_eq k0_t1 k0_t2 ⟨1, by decide⟩⟩
theorem off69_eq : ∀ k0_t1 : Fin k0_t1_loop.trips, ∀ k0_t2 : Fin (k0_t2_loop k0_t1).trips, ∀ r : Fin 2, k0_off69 k0_t1 k0_t2 (BitVec.ofNat 32 r.val) = ![0, 0, 1, 256 * (k0_t1.val + 2 * (1 + k0_t2.val) + r.val)] := by decide +kernel
instance (k0_t1 : Fin k0_t1_loop.trips) (k0_t2 : Fin (k0_t2_loop k0_t1).trips) : ClosedOff (k0_off69 k0_t1 k0_t2 (BitVec.ofNat 32 0)) := ⟨![0, 0, 1, 256 * (k0_t1.val + 2 * (1 + k0_t2.val) + 0)], off69_eq k0_t1 k0_t2 ⟨0, by decide⟩⟩
instance (k0_t1 : Fin k0_t1_loop.trips) (k0_t2 : Fin (k0_t2_loop k0_t1).trips) : ClosedOff (k0_off69 k0_t1 k0_t2 (BitVec.ofNat 32 1)) := ⟨![0, 0, 1, 256 * (k0_t1.val + 2 * (1 + k0_t2.val) + 1)], off69_eq k0_t1 k0_t2 ⟨1, by decide⟩⟩
theorem off70_eq : ∀ k0_t1 : Fin k0_t1_loop.trips, ∀ k0_t2 : Fin (k0_t2_loop k0_t1).trips, ∀ r : Fin 2, k0_off70 k0_t1 k0_t2 (BitVec.ofNat 32 r.val) = ![0, 1, 256 * (k0_t1.val + 2 * (1 + k0_t2.val) + r.val)] := by decide +kernel
instance (k0_t1 : Fin k0_t1_loop.trips) (k0_t2 : Fin (k0_t2_loop k0_t1).trips) : ClosedOff (k0_off70 k0_t1 k0_t2 (BitVec.ofNat 32 0)) := ⟨![0, 1, 256 * (k0_t1.val + 2 * (1 + k0_t2.val) + 0)], off70_eq k0_t1 k0_t2 ⟨0, by decide⟩⟩
instance (k0_t1 : Fin k0_t1_loop.trips) (k0_t2 : Fin (k0_t2_loop k0_t1).trips) : ClosedOff (k0_off70 k0_t1 k0_t2 (BitVec.ofNat 32 1)) := ⟨![0, 1, 256 * (k0_t1.val + 2 * (1 + k0_t2.val) + 1)], off70_eq k0_t1 k0_t2 ⟨1, by decide⟩⟩
theorem off73_eq : ∀ k0_t1 : Fin k0_t1_loop.trips, ∀ k0_t2 : Fin (k0_t2_loop k0_t1).trips, ∀ r : Fin 2, k0_off73 k0_t1 k0_t2 (BitVec.ofNat 32 r.val) = ![0, 256 * (k0_t1.val + 2 * (1 + k0_t2.val) + r.val)] := by decide +kernel
instance (k0_t1 : Fin k0_t1_loop.trips) (k0_t2 : Fin (k0_t2_loop k0_t1).trips) : ClosedOff (k0_off73 k0_t1 k0_t2 (BitVec.ofNat 32 0)) := ⟨![0, 256 * (k0_t1.val + 2 * (1 + k0_t2.val) + 0)], off73_eq k0_t1 k0_t2 ⟨0, by decide⟩⟩
instance (k0_t1 : Fin k0_t1_loop.trips) (k0_t2 : Fin (k0_t2_loop k0_t1).trips) : ClosedOff (k0_off73 k0_t1 k0_t2 (BitVec.ofNat 32 1)) := ⟨![0, 256 * (k0_t1.val + 2 * (1 + k0_t2.val) + 1)], off73_eq k0_t1 k0_t2 ⟨1, by decide⟩⟩
theorem off74_eq : ∀ k0_t1 : Fin k0_t1_loop.trips, ∀ k0_t2 : Fin (k0_t2_loop k0_t1).trips, ∀ r : Fin 2, k0_off74 k0_t1 k0_t2 (BitVec.ofNat 32 r.val) = ![3, 0, 256 * (k0_t1.val + 2 * (1 + k0_t2.val) + r.val)] := by decide +kernel
instance (k0_t1 : Fin k0_t1_loop.trips) (k0_t2 : Fin (k0_t2_loop k0_t1).trips) : ClosedOff (k0_off74 k0_t1 k0_t2 (BitVec.ofNat 32 0)) := ⟨![3, 0, 256 * (k0_t1.val + 2 * (1 + k0_t2.val) + 0)], off74_eq k0_t1 k0_t2 ⟨0, by decide⟩⟩
instance (k0_t1 : Fin k0_t1_loop.trips) (k0_t2 : Fin (k0_t2_loop k0_t1).trips) : ClosedOff (k0_off74 k0_t1 k0_t2 (BitVec.ofNat 32 1)) := ⟨![3, 0, 256 * (k0_t1.val + 2 * (1 + k0_t2.val) + 1)], off74_eq k0_t1 k0_t2 ⟨1, by decide⟩⟩
theorem off75_eq : ∀ k0_t1 : Fin k0_t1_loop.trips, ∀ k0_t2 : Fin (k0_t2_loop k0_t1).trips, ∀ r : Fin 2, k0_off75 k0_t1 k0_t2 (BitVec.ofNat 32 r.val) = ![0, 0, 2, 256 * (k0_t1.val + 2 * (1 + k0_t2.val) + r.val)] := by decide +kernel
instance (k0_t1 : Fin k0_t1_loop.trips) (k0_t2 : Fin (k0_t2_loop k0_t1).trips) : ClosedOff (k0_off75 k0_t1 k0_t2 (BitVec.ofNat 32 0)) := ⟨![0, 0, 2, 256 * (k0_t1.val + 2 * (1 + k0_t2.val) + 0)], off75_eq k0_t1 k0_t2 ⟨0, by decide⟩⟩
instance (k0_t1 : Fin k0_t1_loop.trips) (k0_t2 : Fin (k0_t2_loop k0_t1).trips) : ClosedOff (k0_off75 k0_t1 k0_t2 (BitVec.ofNat 32 1)) := ⟨![0, 0, 2, 256 * (k0_t1.val + 2 * (1 + k0_t2.val) + 1)], off75_eq k0_t1 k0_t2 ⟨1, by decide⟩⟩
theorem off76_eq : ∀ k0_t1 : Fin k0_t1_loop.trips, ∀ k0_t2 : Fin (k0_t2_loop k0_t1).trips, ∀ r : Fin 2, k0_off76 k0_t1 k0_t2 (BitVec.ofNat 32 r.val) = ![0, 2, 256 * (k0_t1.val + 2 * (1 + k0_t2.val) + r.val)] := by decide +kernel
instance (k0_t1 : Fin k0_t1_loop.trips) (k0_t2 : Fin (k0_t2_loop k0_t1).trips) : ClosedOff (k0_off76 k0_t1 k0_t2 (BitVec.ofNat 32 0)) := ⟨![0, 2, 256 * (k0_t1.val + 2 * (1 + k0_t2.val) + 0)], off76_eq k0_t1 k0_t2 ⟨0, by decide⟩⟩
instance (k0_t1 : Fin k0_t1_loop.trips) (k0_t2 : Fin (k0_t2_loop k0_t1).trips) : ClosedOff (k0_off76 k0_t1 k0_t2 (BitVec.ofNat 32 1)) := ⟨![0, 2, 256 * (k0_t1.val + 2 * (1 + k0_t2.val) + 1)], off76_eq k0_t1 k0_t2 ⟨1, by decide⟩⟩
theorem off79_eq : ∀ k0_t1 : Fin k0_t1_loop.trips, ∀ k0_t2 : Fin (k0_t2_loop k0_t1).trips, ∀ r : Fin 2, k0_off79 k0_t1 k0_t2 (BitVec.ofNat 32 r.val) = ![128, 256 * (k0_t1.val + 2 * (1 + k0_t2.val) + r.val)] := by decide +kernel
instance (k0_t1 : Fin k0_t1_loop.trips) (k0_t2 : Fin (k0_t2_loop k0_t1).trips) : ClosedOff (k0_off79 k0_t1 k0_t2 (BitVec.ofNat 32 0)) := ⟨![128, 256 * (k0_t1.val + 2 * (1 + k0_t2.val) + 0)], off79_eq k0_t1 k0_t2 ⟨0, by decide⟩⟩
instance (k0_t1 : Fin k0_t1_loop.trips) (k0_t2 : Fin (k0_t2_loop k0_t1).trips) : ClosedOff (k0_off79 k0_t1 k0_t2 (BitVec.ofNat 32 1)) := ⟨![128, 256 * (k0_t1.val + 2 * (1 + k0_t2.val) + 1)], off79_eq k0_t1 k0_t2 ⟨1, by decide⟩⟩
theorem off80_eq : ∀ k0_t1 : Fin k0_t1_loop.trips, ∀ k0_t2 : Fin (k0_t2_loop k0_t1).trips, ∀ r : Fin 2, k0_off80 k0_t1 k0_t2 (BitVec.ofNat 32 r.val) = ![0, 0, 3, 256 * (k0_t1.val + 2 * (1 + k0_t2.val) + r.val)] := by decide +kernel
instance (k0_t1 : Fin k0_t1_loop.trips) (k0_t2 : Fin (k0_t2_loop k0_t1).trips) : ClosedOff (k0_off80 k0_t1 k0_t2 (BitVec.ofNat 32 0)) := ⟨![0, 0, 3, 256 * (k0_t1.val + 2 * (1 + k0_t2.val) + 0)], off80_eq k0_t1 k0_t2 ⟨0, by decide⟩⟩
instance (k0_t1 : Fin k0_t1_loop.trips) (k0_t2 : Fin (k0_t2_loop k0_t1).trips) : ClosedOff (k0_off80 k0_t1 k0_t2 (BitVec.ofNat 32 1)) := ⟨![0, 0, 3, 256 * (k0_t1.val + 2 * (1 + k0_t2.val) + 1)], off80_eq k0_t1 k0_t2 ⟨1, by decide⟩⟩
theorem off81_eq : ∀ k0_t1 : Fin k0_t1_loop.trips, ∀ k0_t2 : Fin (k0_t2_loop k0_t1).trips, ∀ r : Fin 2, k0_off81 k0_t1 k0_t2 (BitVec.ofNat 32 r.val) = ![0, 3, 256 * (k0_t1.val + 2 * (1 + k0_t2.val) + r.val)] := by decide +kernel
instance (k0_t1 : Fin k0_t1_loop.trips) (k0_t2 : Fin (k0_t2_loop k0_t1).trips) : ClosedOff (k0_off81 k0_t1 k0_t2 (BitVec.ofNat 32 0)) := ⟨![0, 3, 256 * (k0_t1.val + 2 * (1 + k0_t2.val) + 0)], off81_eq k0_t1 k0_t2 ⟨0, by decide⟩⟩
instance (k0_t1 : Fin k0_t1_loop.trips) (k0_t2 : Fin (k0_t2_loop k0_t1).trips) : ClosedOff (k0_off81 k0_t1 k0_t2 (BitVec.ofNat 32 1)) := ⟨![0, 3, 256 * (k0_t1.val + 2 * (1 + k0_t2.val) + 1)], off81_eq k0_t1 k0_t2 ⟨1, by decide⟩⟩
theorem off84_eq : ∀ k0_t1 : Fin k0_t1_loop.trips, ∀ k0_t2 : Fin (k0_t2_loop k0_t1).trips, ∀ r : Fin 2, k0_off84 k0_t1 k0_t2 (BitVec.ofNat 32 r.val) = ![256, 256 * (k0_t1.val + 2 * (1 + k0_t2.val) + r.val)] := by decide +kernel
instance (k0_t1 : Fin k0_t1_loop.trips) (k0_t2 : Fin (k0_t2_loop k0_t1).trips) : ClosedOff (k0_off84 k0_t1 k0_t2 (BitVec.ofNat 32 0)) := ⟨![256, 256 * (k0_t1.val + 2 * (1 + k0_t2.val) + 0)], off84_eq k0_t1 k0_t2 ⟨0, by decide⟩⟩
instance (k0_t1 : Fin k0_t1_loop.trips) (k0_t2 : Fin (k0_t2_loop k0_t1).trips) : ClosedOff (k0_off84 k0_t1 k0_t2 (BitVec.ofNat 32 1)) := ⟨![256, 256 * (k0_t1.val + 2 * (1 + k0_t2.val) + 1)], off84_eq k0_t1 k0_t2 ⟨1, by decide⟩⟩
theorem off87_eq : ∀ k0_t1 : Fin k0_t1_loop.trips, ∀ k0_t2 : Fin (k0_t2_loop k0_t1).trips, ∀ r : Fin 2, k0_off87 k0_t1 k0_t2 (BitVec.ofNat 32 r.val) = ![384, 256 * (k0_t1.val + 2 * (1 + k0_t2.val) + r.val)] := by decide +kernel
instance (k0_t1 : Fin k0_t1_loop.trips) (k0_t2 : Fin (k0_t2_loop k0_t1).trips) : ClosedOff (k0_off87 k0_t1 k0_t2 (BitVec.ofNat 32 0)) := ⟨![384, 256 * (k0_t1.val + 2 * (1 + k0_t2.val) + 0)], off87_eq k0_t1 k0_t2 ⟨0, by decide⟩⟩
instance (k0_t1 : Fin k0_t1_loop.trips) (k0_t2 : Fin (k0_t2_loop k0_t1).trips) : ClosedOff (k0_off87 k0_t1 k0_t2 (BitVec.ofNat 32 1)) := ⟨![384, 256 * (k0_t1.val + 2 * (1 + k0_t2.val) + 1)], off87_eq k0_t1 k0_t2 ⟨1, by decide⟩⟩

end Cert.KernelIdeal.Gen

end
-- ==== Proof.Trip2.lean ====
/- One trip of the inner loop: two unmasked query tiles against one key tile. -/
module

public import proofs.«01_k».proof.Proof.Offsets
public import Idealize.ShloMosaic.Lib.Tactic

@[expose] public section

set_option maxRecDepth 16384

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none

abbrev Pcs (s : Shape) (F : FTy → Type) [FloatOps F] : Type := List (View.Piece (Elt F) s .f32)

variable (c : Dev nD) (i : grid0.Coords)
  (arg2 : Memref sig .tc .vmem S2048x512 .bf16) (harg2 : arg2.IsWhole)
  (arg3 : Memref sig .tc .vmem S2048x512 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S1x4x2048 .f32) (harg6 : arg6.IsWhole)
  (arg7 : Memref sig .tc .vmem S1x1x4x2048 .f32) (harg7 : arg7.IsWhole)
  (arg8 : Memref sig .tc .vmem S2048x512 .f32) (harg8 : arg8.IsWhole)
  (arg9 : Memref sig .tc .vmem S2048x512 .f32) (harg9 : arg9.IsWhole)
  (arg10 : Memref sig .tc .vmem S2048x256 .f32) (harg10 : arg10.IsWhole)
  (arg11 : Memref sig .tc .vmem S512x2048 .bf16) (harg11 : arg11.IsWhole)
  (arg12 : Memref sig .tc .vmem S4x128x2048 .bf16) (harg12 : arg12.IsWhole)
  (arg13 : Memref sig .tc .vmem S512x2048 .f32) (harg13 : arg13.IsWhole)
  (arg14 : Memref sig .tc .vmem S2x256x256 .f32) (harg14 : arg14.IsWhole)

/-- What a step over query tiles reads and writes: the staged blocks and the transposed copies at their contents, the
    gradients' accumulators at theirs. -/
abbrev Held (f2 : Buf (Elt F) (arg2.view.loc (c : Thread nD τ))) (f6 : Buf (Elt F) (arg6.view.loc (c : Thread nD τ))) (f7 : Buf (Elt F) (arg7.view.loc (c : Thread nD τ))) (f12 : Buf (Elt F) (arg12.view.loc (c : Thread nD τ))) (f9 : Buf (Elt F) (arg9.view.loc (c : Thread nD τ))) (f13 : Buf (Elt F) (arg13.view.loc (c : Thread nD τ))) (f14 : Buf (Elt F) (arg14.view.loc (c : Thread nD τ))) : sProp 𝕄 :=
  iprop((arg2.view.loc (c : Thread nD τ) ↦{fullShare} f2) ∗ (arg6.view.loc (c : Thread nD τ) ↦{fullShare} f6) ∗ (arg7.view.loc (c : Thread nD τ) ↦{fullShare} f7) ∗ (arg12.view.loc (c : Thread nD τ) ↦{fullShare} f12) ∗ (arg9.view.loc (c : Thread nD τ) ↦{fullShare} f9) ∗ (arg13.view.loc (c : Thread nD τ) ↦{fullShare} f13) ∗ (arg14.view.loc (c : Thread nD τ) ↦{fullShare} f14))

set_option backward.proofsInPublic true in
/-- One trip at a symbolic key tile and pair of query tiles, the pieces it stores found by the run. -/
@[irreducible] def trip2 (v9 : IVec S128x1 1) (v481 : FVec F S128x256 .f32) (v486 : FVec F S128x256 .bf16) (k0_t1 : Fin k0_t1_loop.trips)
    (arg15 v623 v625 : BitVec 32) (v627 : Vec F S256x512 .bf16) (v629 : Vec F S256x256 .bf16) (v631 : Vec F S512x256 .bf16)
    (k0_t2 : Fin (k0_t2_loop k0_t1).trips) (f2 : Buf (Elt F) (arg2.view.loc (c : Thread nD τ))) (f6 : Buf (Elt F) (arg6.view.loc (c : Thread nD τ))) (f7 : Buf (Elt F) (arg7.view.loc (c : Thread nD τ))) (f12 : Buf (Elt F) (arg12.view.loc (c : Thread nD τ))) (f9 : Buf (Elt F) (arg9.view.loc (c : Thread nD τ))) (f13 : Buf (Elt F) (arg13.view.loc (c : Thread nD τ))) (f14 : Buf (Elt F) (arg14.view.loc (c : Thread nD τ))) :
    Σ' (L9 : Pcs S2048x512 F) (L13 : Pcs S512x2048 F), { L14 : Pcs S2x256x256 F //
      Held c arg2 arg6 arg7 arg9 arg12 arg13 arg14 f2 f6 f7 f12 f9 f13 f14 ⊢ wp Idealize.ShloMosaic.frame (wpE (defs₀ (F := F)) 𝒱₀ (c : Thread nD τ) none) Set.univ
        (k0_t2_body (F := F) i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 k0_t2 ())
        (fun _ => Held c arg2 arg6 arg7 arg9 arg12 arg13 arg14 f2 f6 f7 f12 (arg9.view.writes (Elt F) f9 L9) (arg13.view.writes (Elt F) f13 L13) (arg14.view.writes (Elt F) f14 L14)) } := by
  refine ⟨?_, ?_, ?_, ?run⟩
  case run =>
    unfold k0_t2_body
    iintro ⟨H2, H6, H7, H12, H9, H13, H14⟩
    sl_exec
    sl_step
    sl_close

end Cert.Proof.Mla

end
-- ==== Proof.Trip1.lean ====
/- The loop over the key tiles: the inner loop over pairs of query tiles by its state, and one trip in the three cases its conditionals leave. -/
module

public import proofs.«01_k».proof.Proof.Trip2

@[expose] public section

set_option maxRecDepth 16384

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S2048x512 .bf16) (harg2 : arg2.IsWhole)
  (arg3 : Memref sig .tc .vmem S2048x512 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S1x4x2048 .f32) (harg6 : arg6.IsWhole)
  (arg7 : Memref sig .tc .vmem S1x1x4x2048 .f32) (harg7 : arg7.IsWhole)
  (arg8 : Memref sig .tc .vmem S2048x512 .f32) (harg8 : arg8.IsWhole)
  (arg9 : Memref sig .tc .vmem S2048x512 .f32) (harg9 : arg9.IsWhole)
  (arg10 : Memref sig .tc .vmem S2048x256 .f32) (harg10 : arg10.IsWhole)
  (arg11 : Memref sig .tc .vmem S512x2048 .bf16) (harg11 : arg11.IsWhole)
  (arg12 : Memref sig .tc .vmem S4x128x2048 .bf16) (harg12 : arg12.IsWhole)
  (arg13 : Memref sig .tc .vmem S512x2048 .f32) (harg13 : arg13.IsWhole)
  (arg14 : Memref sig .tc .vmem S2x256x256 .f32) (harg14 : arg14.IsWhole)

/-- The accumulators (`dk`, the transposed `dq`, the transposed `dv`) after `n` trips of the inner loop. -/
def it2 (v9 : IVec S128x1 1) (v481 : FVec F S128x256 .f32) (v486 : FVec F S128x256 .bf16) (k0_t1 : Fin k0_t1_loop.trips) (arg15 v623 v625 : BitVec 32) (v627 : Vec F S256x512 .bf16) (v629 : Vec F S256x256 .bf16) (v631 : Vec F S512x256 .bf16) (f2 : Buf (Elt F) (arg2.view.loc (c : Thread nD τ))) (f6 : Buf (Elt F) (arg6.view.loc (c : Thread nD τ))) (f7 : Buf (Elt F) (arg7.view.loc (c : Thread nD τ))) (f12 : Buf (Elt F) (arg12.view.loc (c : Thread nD τ))) (f9 : Buf (Elt F) (arg9.view.loc (c : Thread nD τ))) (f13 : Buf (Elt F) (arg13.view.loc (c : Thread nD τ))) (f14 : Buf (Elt F) (arg14.view.loc (c : Thread nD τ))) :
    ℕ → Buf (Elt F) (arg9.view.loc (c : Thread nD τ)) × Buf (Elt F) (arg13.view.loc (c : Thread nD τ)) × Buf (Elt F) (arg14.view.loc (c : Thread nD τ))
  | 0 => (f9, f13, f14)
  | n + 1 =>
    if h : n < (k0_t2_loop k0_t1).trips then
      let s := it2 v9 v481 v486 k0_t1 arg15 v623 v625 v627 v629 v631 f2 f6 f7 f12 f9 f13 f14 n
      let t := trip2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 ⟨n, h⟩ f2 f6 f7 f12 s.1 s.2.1 s.2.2
      (arg9.view.writes (Elt F) s.1 t.1, arg13.view.writes (Elt F) s.2.1 t.2.1, arg14.view.writes (Elt F) s.2.2 t.2.2.1)
    else it2 v9 v481 v486 k0_t1 arg15 v623 v625 v627 v629 v631 f2 f6 f7 f12 f9 f13 f14 n

/-- The three accumulators by themselves: at no trip, the contents given. -/
def s9 (v9 : IVec S128x1 1) (v481 : FVec F S128x256 .f32) (v486 : FVec F S128x256 .bf16) (k0_t1 : Fin k0_t1_loop.trips) (arg15 v623 v625 : BitVec 32) (v627 : Vec F S256x512 .bf16) (v629 : Vec F S256x256 .bf16) (v631 : Vec F S512x256 .bf16) (f2 : Buf (Elt F) (arg2.view.loc (c : Thread nD τ))) (f6 : Buf (Elt F) (arg6.view.loc (c : Thread nD τ))) (f7 : Buf (Elt F) (arg7.view.loc (c : Thread nD τ))) (f12 : Buf (Elt F) (arg12.view.loc (c : Thread nD τ))) (f9 : Buf (Elt F) (arg9.view.loc (c : Thread nD τ))) (f13 : Buf (Elt F) (arg13.view.loc (c : Thread nD τ))) (f14 : Buf (Elt F) (arg14.view.loc (c : Thread nD τ))) : ℕ → Buf (Elt F) (arg9.view.loc (c : Thread nD τ))
  | 0 => f9
  | n + 1 => (it2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 (n + 1)).1
def s13 (v9 : IVec S128x1 1) (v481 : FVec F S128x256 .f32) (v486 : FVec F S128x256 .bf16) (k0_t1 : Fin k0_t1_loop.trips) (arg15 v623 v625 : BitVec 32) (v627 : Vec F S256x512 .bf16) (v629 : Vec F S256x256 .bf16) (v631 : Vec F S512x256 .bf16) (f2 : Buf (Elt F) (arg2.view.loc (c : Thread nD τ))) (f6 : Buf (Elt F) (arg6.view.loc (c : Thread nD τ))) (f7 : Buf (Elt F) (arg7.view.loc (c : Thread nD τ))) (f12 : Buf (Elt F) (arg12.view.loc (c : Thread nD τ))) (f9 : Buf (Elt F) (arg9.view.loc (c : Thread nD τ))) (f13 : Buf (Elt F) (arg13.view.loc (c : Thread nD τ))) (f14 : Buf (Elt F) (arg14.view.loc (c : Thread nD τ))) : ℕ → Buf (Elt F) (arg13.view.loc (c : Thread nD τ))
  | 0 => f13
  | n + 1 => (it2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 (n + 1)).2.1
def s14 (v9 : IVec S128x1 1) (v481 : FVec F S128x256 .f32) (v486 : FVec F S128x256 .bf16) (k0_t1 : Fin k0_t1_loop.trips) (arg15 v623 v625 : BitVec 32) (v627 : Vec F S256x512 .bf16) (v629 : Vec F S256x256 .bf16) (v631 : Vec F S512x256 .bf16) (f2 : Buf (Elt F) (arg2.view.loc (c : Thread nD τ))) (f6 : Buf (Elt F) (arg6.view.loc (c : Thread nD τ))) (f7 : Buf (Elt F) (arg7.view.loc (c : Thread nD τ))) (f12 : Buf (Elt F) (arg12.view.loc (c : Thread nD τ))) (f9 : Buf (Elt F) (arg9.view.loc (c : Thread nD τ))) (f13 : Buf (Elt F) (arg13.view.loc (c : Thread nD τ))) (f14 : Buf (Elt F) (arg14.view.loc (c : Thread nD τ))) : ℕ → Buf (Elt F) (arg14.view.loc (c : Thread nD τ))
  | 0 => f14
  | n + 1 => (it2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 (n + 1)).2.2
theorem s9_eq (v9 : IVec S128x1 1) (v481 : FVec F S128x256 .f32) (v486 : FVec F S128x256 .bf16) (k0_t1 : Fin k0_t1_loop.trips) (arg15 v623 v625 : BitVec 32) (v627 : Vec F S256x512 .bf16) (v629 : Vec F S256x256 .bf16) (v631 : Vec F S512x256 .bf16) (f2 : Buf (Elt F) (arg2.view.loc (c : Thread nD τ))) (f6 : Buf (Elt F) (arg6.view.loc (c : Thread nD τ))) (f7 : Buf (Elt F) (arg7.view.loc (c : Thread nD τ))) (f12 : Buf (Elt F) (arg12.view.loc (c : Thread nD τ))) (f9 : Buf (Elt F) (arg9.view.loc (c : Thread nD τ))) (f13 : Buf (Elt F) (arg13.view.loc (c : Thread nD τ))) (f14 : Buf (Elt F) (arg14.view.loc (c : Thread nD τ))) (n : ℕ) :
    s9 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n = (it2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n).1 := by cases n <;> rfl
theorem s13_eq (v9 : IVec S128x1 1) (v481 : FVec F S128x256 .f32) (v486 : FVec F S128x256 .bf16) (k0_t1 : Fin k0_t1_loop.trips) (arg15 v623 v625 : BitVec 32) (v627 : Vec F S256x512 .bf16) (v629 : Vec F S256x256 .bf16) (v631 : Vec F S512x256 .bf16) (f2 : Buf (Elt F) (arg2.view.loc (c : Thread nD τ))) (f6 : Buf (Elt F) (arg6.view.loc (c : Thread nD τ))) (f7 : Buf (Elt F) (arg7.view.loc (c : Thread nD τ))) (f12 : Buf (Elt F) (arg12.view.loc (c : Thread nD τ))) (f9 : Buf (Elt F) (arg9.view.loc (c : Thread nD τ))) (f13 : Buf (Elt F) (arg13.view.loc (c : Thread nD τ))) (f14 : Buf (Elt F) (arg14.view.loc (c : Thread nD τ))) (n : ℕ) :
    s13 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n = (it2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n).2.1 := by cases n <;> rfl
theorem s14_eq (v9 : IVec S128x1 1) (v481 : FVec F S128x256 .f32) (v486 : FVec F S128x256 .bf16) (k0_t1 : Fin k0_t1_loop.trips) (arg15 v623 v625 : BitVec 32) (v627 : Vec F S256x512 .bf16) (v629 : Vec F S256x256 .bf16) (v631 : Vec F S512x256 .bf16) (f2 : Buf (Elt F) (arg2.view.loc (c : Thread nD τ))) (f6 : Buf (Elt F) (arg6.view.loc (c : Thread nD τ))) (f7 : Buf (Elt F) (arg7.view.loc (c : Thread nD τ))) (f12 : Buf (Elt F) (arg12.view.loc (c : Thread nD τ))) (f9 : Buf (Elt F) (arg9.view.loc (c : Thread nD τ))) (f13 : Buf (Elt F) (arg13.view.loc (c : Thread nD τ))) (f14 : Buf (Elt F) (arg14.view.loc (c : Thread nD τ))) (n : ℕ) :
    s14 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n = (it2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n).2.2 := by cases n <;> rfl

abbrev inv2 (v9 : IVec S128x1 1) (v481 : FVec F S128x256 .f32) (v486 : FVec F S128x256 .bf16) (k0_t1 : Fin k0_t1_loop.trips) (arg15 v623 v625 : BitVec 32) (v627 : Vec F S256x512 .bf16) (v629 : Vec F S256x256 .bf16) (v631 : Vec F S512x256 .bf16) (f2 : Buf (Elt F) (arg2.view.loc (c : Thread nD τ))) (f6 : Buf (Elt F) (arg6.view.loc (c : Thread nD τ))) (f7 : Buf (Elt F) (arg7.view.loc (c : Thread nD τ))) (f12 : Buf (Elt F) (arg12.view.loc (c : Thread nD τ))) (f9 : Buf (Elt F) (arg9.view.loc (c : Thread nD τ))) (f13 : Buf (Elt F) (arg13.view.loc (c : Thread nD τ))) (f14 : Buf (Elt F) (arg14.view.loc (c : Thread nD τ))) (n : ℕ) : sProp 𝕄 :=
  Held c arg2 arg6 arg7 arg9 arg12 arg13 arg14 f2 f6 f7 f12 (s9 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n) (s13 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n) (s14 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n)

set_option warn.classDefReducibility false in
@[sl_loop] def loopInv2 (v9 : IVec S128x1 1) (v481 : FVec F S128x256 .f32) (v486 : FVec F S128x256 .bf16) (k0_t1 : Fin k0_t1_loop.trips) (arg15 v623 v625 : BitVec 32) (v627 : Vec F S256x512 .bf16) (v629 : Vec F S256x256 .bf16) (v631 : Vec F S512x256 .bf16) (f2 : Buf (Elt F) (arg2.view.loc (c : Thread nD τ))) (f6 : Buf (Elt F) (arg6.view.loc (c : Thread nD τ))) (f7 : Buf (Elt F) (arg7.view.loc (c : Thread nD τ))) (f12 : Buf (Elt F) (arg12.view.loc (c : Thread nD τ))) (f9 : Buf (Elt F) (arg9.view.loc (c : Thread nD τ))) (f13 : Buf (Elt F) (arg13.view.loc (c : Thread nD τ))) (f14 : Buf (Elt F) (arg14.view.loc (c : Thread nD τ))) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 where
  inv n _ := inv2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n
  step n _ := by
    have e : it2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 (n.val + 1) = _ := dif_pos n.isLt
    unfold inv2; rw [s9_eq, s13_eq, s14_eq, s9_eq, s13_eq, s14_eq, e]
    iintro H
    iapply (wp_wand_r Idealize.ShloMosaic.frame (wpE (defs₀ (F := F)) 𝒱₀ (c : Thread nD τ) none) Set.univ)
    isplitl [H]
    · iapply (trip2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 n f2 f6 f7 f12 _ _ _).2.2.2; iexact H
    · iintro %_ H'; iexact H'

set_option warn.classDefReducibility false in
/-- The remainder loop runs no trip. -/
@[sl_loop] def loopInv3 (v9 : IVec S128x1 1) (v481 : FVec F S128x256 .f32) (v486 : FVec F S128x256 .bf16) (k0_t1 : Fin k0_t1_loop.trips) (arg15 v623 v625 : BitVec 32) (v627 : Vec F S256x512 .bf16) (v629 : Vec F S256x256 .bf16) (v631 : Vec F S512x256 .bf16) (v669 : BitVec 32) (f2 : Buf (Elt F) (arg2.view.loc (c : Thread nD τ))) (f6 : Buf (Elt F) (arg6.view.loc (c : Thread nD τ))) (f7 : Buf (Elt F) (arg7.view.loc (c : Thread nD τ))) (f12 : Buf (Elt F) (arg12.view.loc (c : Thread nD τ))) (f9 : Buf (Elt F) (arg9.view.loc (c : Thread nD τ))) (f13 : Buf (Elt F) (arg13.view.loc (c : Thread nD τ))) (f14 : Buf (Elt F) (arg14.view.loc (c : Thread nD τ))) :
    LoopInvTy_k0_t3 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 v669 where
  inv _ _ := Held c arg2 arg6 arg7 arg9 arg12 arg13 arg14 f2 f6 f7 f12 f9 f13 f14
  step n _ := (Nat.not_lt_zero _ (Nat.lt_of_lt_of_eq n.isLt (trips3 k0_t1))).elim

abbrev HeldO (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) : sProp 𝕄 :=
  iprop((arg2.view.loc (c : Thread nD τ) ↦{fullShare} f2) ∗ (arg3.view.loc (c : Thread nD τ) ↦{fullShare} f3) ∗ (arg4.view.loc (c : Thread nD τ) ↦{fullShare} f4) ∗ (arg6.view.loc (c : Thread nD τ) ↦{fullShare} f6) ∗ (arg7.view.loc (c : Thread nD τ) ↦{fullShare} f7) ∗ (arg11.view.loc (c : Thread nD τ) ↦{fullShare} f11) ∗ (arg12.view.loc (c : Thread nD τ) ↦{fullShare} f12) ∗ (arg9.view.loc (c : Thread nD τ) ↦{fullShare} f9) ∗ (arg10.view.loc (c : Thread nD τ) ↦{fullShare} f10) ∗ (arg13.view.loc (c : Thread nD τ) ↦{fullShare} f13) ∗ (arg14.view.loc (c : Thread nD τ) ↦{fullShare} f14))

set_option backward.proofsInPublic true in
/-- One key tile, two masked query tiles first, the last query tile by itself at the end. -/
@[irreducible] def tripA (v9 : IVec S128x1 1) (v481 : FVec F S128x256 .f32) (v486 : FVec F S128x256 .bf16) (k0_t1 : Fin k0_t1_loop.trips) (h1 : k0_cond1 k0_t1 = 1#1) (h2 : k0_cond2 k0_t1 = 1#1) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) :
    Σ' (g9 : Buf (Elt F) (arg9.view.loc (c : Thread nD τ))) (g10 : Buf (Elt F) (arg10.view.loc (c : Thread nD τ))) (g13 : Buf (Elt F) (arg13.view.loc (c : Thread nD τ))), { g14 : Buf (Elt F) (arg14.view.loc (c : Thread nD τ)) //
      HeldO c arg2 arg3 arg4 arg6 arg7 arg9 arg10 arg11 arg12 arg13 arg14 f2 f3 f4 f6 f7 f11 f12 f9 f10 f13 f14 ⊢ wp Idealize.ShloMosaic.frame (wpE (defs₀ (F := F)) 𝒱₀ (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 v9 v481 v486 k0_t1 ())
        (fun _ => HeldO c arg2 arg3 arg4 arg6 arg7 arg9 arg10 arg11 arg12 arg13 arg14 f2 f3 f4 f6 f7 f11 f12 g9 g10 g13 g14) } := by
  refine ⟨?_, ?_, ?_, ?_, ?run⟩
  case run =>
    unfold k0_t1_body
    iintro ⟨H2, H3, H4, H6, H7, H11, H12, H9, H10, H13, H14⟩
    sl_exec
    sl_step
    sl_close

set_option backward.proofsInPublic true in
/-- One key tile, two masked query tiles first, then pairs. -/
@[irreducible] def tripB (v9 : IVec S128x1 1) (v481 : FVec F S128x256 .f32) (v486 : FVec F S128x256 .bf16) (k0_t1 : Fin k0_t1_loop.trips) (h1 : k0_cond1 k0_t1 = 1#1) (h2 : ¬ k0_cond2 k0_t1 = 1#1) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) :
    Σ' (g9 : Buf (Elt F) (arg9.view.loc (c : Thread nD τ))) (g10 : Buf (Elt F) (arg10.view.loc (c : Thread nD τ))) (g13 : Buf (Elt F) (arg13.view.loc (c : Thread nD τ))), { g14 : Buf (Elt F) (arg14.view.loc (c : Thread nD τ)) //
      HeldO c arg2 arg3 arg4 arg6 arg7 arg9 arg10 arg11 arg12 arg13 arg14 f2 f3 f4 f6 f7 f11 f12 f9 f10 f13 f14 ⊢ wp Idealize.ShloMosaic.frame (wpE (defs₀ (F := F)) 𝒱₀ (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 v9 v481 v486 k0_t1 ())
        (fun _ => HeldO c arg2 arg3 arg4 arg6 arg7 arg9 arg10 arg11 arg12 arg13 arg14 f2 f3 f4 f6 f7 f11 f12 g9 g10 g13 g14) } := by
  refine ⟨?_, ?_, ?_, ?_, ?run⟩
  case run =>
    unfold k0_t1_body
    iintro ⟨H2, H3, H4, H6, H7, H11, H12, H9, H10, H13, H14⟩
    sl_exec
    sl_step
    sl_close

set_option backward.proofsInPublic true in
/-- One key tile, the last key tile: one masked query tile. -/
@[irreducible] def tripC (v9 : IVec S128x1 1) (v481 : FVec F S128x256 .f32) (v486 : FVec F S128x256 .bf16) (k0_t1 : Fin k0_t1_loop.trips) (h1 : ¬ k0_cond1 k0_t1 = 1#1) (h2 : ¬ k0_cond2 k0_t1 = 1#1) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) :
    Σ' (g9 : Buf (Elt F) (arg9.view.loc (c : Thread nD τ))) (g10 : Buf (Elt F) (arg10.view.loc (c : Thread nD τ))) (g13 : Buf (Elt F) (arg13.view.loc (c : Thread nD τ))), { g14 : Buf (Elt F) (arg14.view.loc (c : Thread nD τ)) //
      HeldO c arg2 arg3 arg4 arg6 arg7 arg9 arg10 arg11 arg12 arg13 arg14 f2 f3 f4 f6 f7 f11 f12 f9 f10 f13 f14 ⊢ wp Idealize.ShloMosaic.frame (wpE (defs₀ (F := F)) 𝒱₀ (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 v9 v481 v486 k0_t1 ())
        (fun _ => HeldO c arg2 arg3 arg4 arg6 arg7 arg9 arg10 arg11 arg12 arg13 arg14 f2 f3 f4 f6 f7 f11 f12 g9 g10 g13 g14) } := by
  refine ⟨?_, ?_, ?_, ?_, ?run⟩
  case run =>
    unfold k0_t1_body
    iintro ⟨H2, H3, H4, H6, H7, H11, H12, H9, H10, H13, H14⟩
    sl_exec
    sl_step
    sl_close

end Cert.Proof.Mla

end
-- ==== Proof.Body.lean ====
/- The kernel body at one grid point: the loop over the key tiles by its state, the body around it. -/
module

public import proofs.«01_k».proof.Proof.Trip1

@[expose] public section

set_option maxRecDepth 16384

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S2048x512 .bf16) (harg2 : arg2.IsWhole)
  (arg3 : Memref sig .tc .vmem S2048x512 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S1x4x2048 .f32) (harg6 : arg6.IsWhole)
  (arg7 : Memref sig .tc .vmem S1x1x4x2048 .f32) (harg7 : arg7.IsWhole)
  (arg8 : Memref sig .tc .vmem S2048x512 .f32) (harg8 : arg8.IsWhole)
  (arg9 : Memref sig .tc .vmem S2048x512 .f32) (harg9 : arg9.IsWhole)
  (arg10 : Memref sig .tc .vmem S2048x256 .f32) (harg10 : arg10.IsWhole)
  (arg11 : Memref sig .tc .vmem S512x2048 .bf16) (harg11 : arg11.IsWhole)
  (arg12 : Memref sig .tc .vmem S4x128x2048 .bf16) (harg12 : arg12.IsWhole)
  (arg13 : Memref sig .tc .vmem S512x2048 .f32) (harg13 : arg13.IsWhole)
  (arg14 : Memref sig .tc .vmem S2x256x256 .f32) (harg14 : arg14.IsWhole)

/-- The gradients' buffers (`dk`, `dv`, the transposed `dq` and `dv`) after key tile `k`, from what they held before. -/
def step1 (v9 : IVec S128x1 1) (v481 : FVec F S128x256 .f32) (v486 : FVec F S128x256 .bf16) (k : Fin k0_t1_loop.trips) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (s : Buf (Elt F) (arg9.view.loc (c : Thread nD τ)) × Buf (Elt F) (arg10.view.loc (c : Thread nD τ)) × Buf (Elt F) (arg13.view.loc (c : Thread nD τ)) × Buf (Elt F) (arg14.view.loc (c : Thread nD τ))) :
    Buf (Elt F) (arg9.view.loc (c : Thread nD τ)) × Buf (Elt F) (arg10.view.loc (c : Thread nD τ)) × Buf (Elt F) (arg13.view.loc (c : Thread nD τ)) × Buf (Elt F) (arg14.view.loc (c : Thread nD τ)) :=
  if h1 : k0_cond1 k = 1#1 then
    if h2 : k0_cond2 k = 1#1 then (let t := tripA c i arg2 harg2 arg3 harg3 arg4 harg4 arg5 harg5 arg6 harg6 arg7 harg7 arg8 harg8 arg9 harg9 arg10 harg10 arg11 harg11 arg12 harg12 arg13 harg13 arg14 harg14 v9 v481 v486 k h1 h2 f2 f3 f4 f6 f7 f11 f12 s.1 s.2.1 s.2.2.1 s.2.2.2; (t.1, t.2.1, t.2.2.1, t.2.2.2.1))
    else (let t := tripB c i arg2 harg2 arg3 harg3 arg4 harg4 arg5 harg5 arg6 harg6 arg7 harg7 arg8 harg8 arg9 harg9 arg10 harg10 arg11 harg11 arg12 harg12 arg13 harg13 arg14 harg14 v9 v481 v486 k h1 h2 f2 f3 f4 f6 f7 f11 f12 s.1 s.2.1 s.2.2.1 s.2.2.2; (t.1, t.2.1, t.2.2.1, t.2.2.2.1))
  else if h2 : k0_cond2 k = 1#1 then s
    else (let t := tripC c i arg2 harg2 arg3 harg3 arg4 harg4 arg5 harg5 arg6 harg6 arg7 harg7 arg8 harg8 arg9 harg9 arg10 harg10 arg11 harg11 arg12 harg12 arg13 harg13 arg14 harg14 v9 v481 v486 k h1 h2 f2 f3 f4 f6 f7 f11 f12 s.1 s.2.1 s.2.2.1 s.2.2.2; (t.1, t.2.1, t.2.2.1, t.2.2.2.1))

theorem no_cond : ∀ k : Fin k0_t1_loop.trips, ¬ k0_cond1 k = 1#1 → ¬ k0_cond2 k = 1#1 := by decide +kernel

theorem step1_run (v9 : IVec S128x1 1) (v481 : FVec F S128x256 .f32) (v486 : FVec F S128x256 .bf16) (k : Fin k0_t1_loop.trips) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (s : Buf (Elt F) (arg9.view.loc (c : Thread nD τ)) × Buf (Elt F) (arg10.view.loc (c : Thread nD τ)) × Buf (Elt F) (arg13.view.loc (c : Thread nD τ)) × Buf (Elt F) (arg14.view.loc (c : Thread nD τ))) :
    HeldO c arg2 arg3 arg4 arg6 arg7 arg9 arg10 arg11 arg12 arg13 arg14 f2 f3 f4 f6 f7 f11 f12 s.1 s.2.1 s.2.2.1 s.2.2.2 ⊢ wp Idealize.ShloMosaic.frame (wpE (defs₀ (F := F)) 𝒱₀ (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 v9 v481 v486 k ())
        (fun _ => HeldO c arg2 arg3 arg4 arg6 arg7 arg9 arg10 arg11 arg12 arg13 arg14 f2 f3 f4 f6 f7 f11 f12 (step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s).1 (step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s).2.1 (step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s).2.2.1 (step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s).2.2.2) := by
  by_cases h1 : k0_cond1 k = 1#1
  · by_cases h2 : k0_cond2 k = 1#1
    · have e : step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s = (let t := tripA c i arg2 harg2 arg3 harg3 arg4 harg4 arg5 harg5 arg6 harg6 arg7 harg7 arg8 harg8 arg9 harg9 arg10 harg10 arg11 harg11 arg12 harg12 arg13 harg13 arg14 harg14 v9 v481 v486 k h1 h2 f2 f3 f4 f6 f7 f11 f12 s.1 s.2.1 s.2.2.1 s.2.2.2; (t.1, t.2.1, t.2.2.1, t.2.2.2.1)) := by unfold step1; rw [dif_pos h1, dif_pos h2]
      rw [e]
      dsimp only
      iintro H
      iapply (wp_wand_r Idealize.ShloMosaic.frame (wpE (defs₀ (F := F)) 𝒱₀ (c : Thread nD τ) none) Set.univ)
      isplitl [H]
      · iapply (tripA c i arg2 harg2 arg3 harg3 arg4 harg4 arg5 harg5 arg6 harg6 arg7 harg7 arg8 harg8 arg9 harg9 arg10 harg10 arg11 harg11 arg12 harg12 arg13 harg13 arg14 harg14 v9 v481 v486 k h1 h2 f2 f3 f4 f6 f7 f11 f12 _ _ _ _).2.2.2.2; iexact H
      · iintro %_ H'; iexact H'
    · have e : step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s = (let t := tripB c i arg2 harg2 arg3 harg3 arg4 harg4 arg5 harg5 arg6 harg6 arg7 harg7 arg8 harg8 arg9 harg9 arg10 harg10 arg11 harg11 arg12 harg12 arg13 harg13 arg14 harg14 v9 v481 v486 k h1 h2 f2 f3 f4 f6 f7 f11 f12 s.1 s.2.1 s.2.2.1 s.2.2.2; (t.1, t.2.1, t.2.2.1, t.2.2.2.1)) := by unfold step1; rw [dif_pos h1, dif_neg h2]
      rw [e]
      dsimp only
      iintro H
      iapply (wp_wand_r Idealize.ShloMosaic.frame (wpE (defs₀ (F := F)) 𝒱₀ (c : Thread nD τ) none) Set.univ)
      isplitl [H]
      · iapply (tripB c i arg2 harg2 arg3 harg3 arg4 harg4 arg5 harg5 arg6 harg6 arg7 harg7 arg8 harg8 arg9 harg9 arg10 harg10 arg11 harg11 arg12 harg12 arg13 harg13 arg14 harg14 v9 v481 v486 k h1 h2 f2 f3 f4 f6 f7 f11 f12 _ _ _ _).2.2.2.2; iexact H
      · iintro %_ H'; iexact H'
  · by_cases h2 : k0_cond2 k = 1#1
    · exact absurd h2 (no_cond k h1)
    · have e : step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s = (let t := tripC c i arg2 harg2 arg3 harg3 arg4 harg4 arg5 harg5 arg6 harg6 arg7 harg7 arg8 harg8 arg9 harg9 arg10 harg10 arg11 harg11 arg12 harg12 arg13 harg13 arg14 harg14 v9 v481 v486 k h1 h2 f2 f3 f4 f6 f7 f11 f12 s.1 s.2.1 s.2.2.1 s.2.2.2; (t.1, t.2.1, t.2.2.1, t.2.2.2.1)) := by unfold step1; rw [dif_neg h1, dif_neg h2]
      rw [e]
      dsimp only
      iintro H
      iapply (wp_wand_r Idealize.ShloMosaic.frame (wpE (defs₀ (F := F)) 𝒱₀ (c : Thread nD τ) none) Set.univ)
      isplitl [H]
      · iapply (tripC c i arg2 harg2 arg3 harg3 arg4 harg4 arg5 harg5 arg6 harg6 arg7 harg7 arg8 harg8 arg9 harg9 arg10 harg10 arg11 harg11 arg12 harg12 arg13 harg13 arg14 harg14 v9 v481 v486 k h1 h2 f2 f3 f4 f6 f7 f11 f12 _ _ _ _).2.2.2.2; iexact H
      · iintro %_ H'; iexact H'

/-- The four buffers after `n` key tiles. -/
def it1 (v9 : IVec S128x1 1) (v481 : FVec F S128x256 .f32) (v486 : FVec F S128x256 .bf16) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) : ℕ → Buf (Elt F) (arg9.view.loc (c : Thread nD τ)) × Buf (Elt F) (arg10.view.loc (c : Thread nD τ)) × Buf (Elt F) (arg13.view.loc (c : Thread nD τ)) × Buf (Elt F) (arg14.view.loc (c : Thread nD τ))
  | 0 => (f9, f10, f13, f14)
  | n + 1 => if h : n < k0_t1_loop.trips then step1 c i arg2 harg2 arg3 harg3 arg4 harg4 arg5 harg5 arg6 harg6 arg7 harg7 arg8 harg8 arg9 harg9 arg10 harg10 arg11 harg11 arg12 harg12 arg13 harg13 arg14 harg14 v9 v481 v486 ⟨n, h⟩ f2 f3 f4 f6 f7 f11 f12 (it1 v9 v481 v486 f2 f3 f4 f6 f7 f11 f12 f9 f10 f13 f14 n) else it1 v9 v481 v486 f2 f3 f4 f6 f7 f11 f12 f9 f10 f13 f14 n
def r9 (v9 : IVec S128x1 1) (v481 : FVec F S128x256 .f32) (v486 : FVec F S128x256 .bf16) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) : ℕ → Buf (Elt F) (arg9.view.loc (c : Thread nD τ))
  | 0 => f9
  | n + 1 => (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 (n + 1)).1
theorem r9_eq (v9 : IVec S128x1 1) (v481 : FVec F S128x256 .f32) (v486 : FVec F S128x256 .bf16) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) (n : ℕ) : r9 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n = (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n).1 := by cases n <;> rfl
def r10 (v9 : IVec S128x1 1) (v481 : FVec F S128x256 .f32) (v486 : FVec F S128x256 .bf16) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) : ℕ → Buf (Elt F) (arg10.view.loc (c : Thread nD τ))
  | 0 => f10
  | n + 1 => (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 (n + 1)).2.1
theorem r10_eq (v9 : IVec S128x1 1) (v481 : FVec F S128x256 .f32) (v486 : FVec F S128x256 .bf16) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) (n : ℕ) : r10 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n = (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n).2.1 := by cases n <;> rfl
def r13 (v9 : IVec S128x1 1) (v481 : FVec F S128x256 .f32) (v486 : FVec F S128x256 .bf16) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) : ℕ → Buf (Elt F) (arg13.view.loc (c : Thread nD τ))
  | 0 => f13
  | n + 1 => (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 (n + 1)).2.2.1
theorem r13_eq (v9 : IVec S128x1 1) (v481 : FVec F S128x256 .f32) (v486 : FVec F S128x256 .bf16) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) (n : ℕ) : r13 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n = (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n).2.2.1 := by cases n <;> rfl
def r14 (v9 : IVec S128x1 1) (v481 : FVec F S128x256 .f32) (v486 : FVec F S128x256 .bf16) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) : ℕ → Buf (Elt F) (arg14.view.loc (c : Thread nD τ))
  | 0 => f14
  | n + 1 => (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 (n + 1)).2.2.2
theorem r14_eq (v9 : IVec S128x1 1) (v481 : FVec F S128x256 .f32) (v486 : FVec F S128x256 .bf16) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) (n : ℕ) : r14 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n = (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n).2.2.2 := by cases n <;> rfl

set_option warn.classDefReducibility false in
@[sl_loop] def loopInv1 (v9 : IVec S128x1 1) (v481 : FVec F S128x256 .f32) (v486 : FVec F S128x256 .bf16) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f11 : Buf (Elt F) (arg11.view.loc (c : Thread nD τ))) (f12 : Buf (Elt F) (arg12.view.loc (c : Thread nD τ))) (f9 : Buf (Elt F) (arg9.view.loc (c : Thread nD τ))) (f10 : Buf (Elt F) (arg10.view.loc (c : Thread nD τ))) (f13 : Buf (Elt F) (arg13.view.loc (c : Thread nD τ))) (f14 : Buf (Elt F) (arg14.view.loc (c : Thread nD τ))) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 v9 v481 v486 where
  inv n _ := HeldO c arg2 arg3 arg4 arg6 arg7 arg9 arg10 arg11 arg12 arg13 arg14 f2 f3 f4 f6 f7 f11 f12 (r9 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n) (r10 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n) (r13 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n) (r14 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n)
  step n _ := by
    have e : it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 (n.val + 1) = _ := dif_pos n.isLt
    rw [r9_eq, r10_eq, r13_eq, r14_eq, r9_eq, r10_eq, r13_eq, r14_eq, e]
    iintro H
    iapply (wp_wand_r Idealize.ShloMosaic.frame (wpE (defs₀ (F := F)) 𝒱₀ (c : Thread nD τ) none) Set.univ)
    isplitl [H]
    · iapply (step1_run c i arg2 harg2 arg3 harg3 arg4 harg4 arg5 harg5 arg6 harg6 arg7 harg7 arg8 harg8 arg9 harg9 arg10 harg10 arg11 harg11 arg12 harg12 arg13 harg13 arg14 harg14 v9 v481 v486 n f2 f3 f4 f6 f7 f11 f12 _); iexact H
    · iintro %_ H'; iexact H'

set_option backward.proofsInPublic true in
/-- The body at a grid point: the blocks and the scratch buffers held, the outputs' buffers at whatever they hold; the
    outputs and the scratch left are found by the run. -/
@[irreducible] def bodyRun (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    Σ' (g8 : Buf (Elt F) (arg8.view.loc (c : Thread nD τ))) (g9 : Buf (Elt F) (arg9.view.loc (c : Thread nD τ))), { g10 : Buf (Elt F) (arg10.view.loc (c : Thread nD τ)) //
      (iprop((arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) ∗ (arg13.view.loc (c : Thread nD τ) ↦{fullShare} f13) ∗ (arg14.view.loc (c : Thread nD τ) ↦{fullShare} f14)) : sProp 𝕄) ⊢ wp Idealize.ShloMosaic.frame (wpE (defs₀ (F := F)) 𝒱₀ (c : Thread nD τ) none) Set.univ
        (cc0_mla_bwd (F := F) i arg2 harg2 arg3 harg3 arg4 harg4 arg5 harg5 arg6 harg6 arg7 harg7 arg8 harg8 arg9 harg9 arg10 harg10 arg11 harg11 arg12 harg12 arg13 harg13 arg14 harg14)
        (fun _ => iprop((arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} g8) ∗ (arg9.view.loc (c : Thread nD τ) ↦{fullShare} g9) ∗ (arg10.view.loc (c : Thread nD τ) ↦{fullShare} g10) ∗ (∃ f : Buf (Elt F) (arg11.view.loc (c : Thread nD τ)), (arg11.view.loc (c : Thread nD τ) ↦{fullShare} f)) ∗ (∃ f : Buf (Elt F) (arg12.view.loc (c : Thread nD τ)), (arg12.view.loc (c : Thread nD τ) ↦{fullShare} f)) ∗ (∃ f : Buf (Elt F) (arg13.view.loc (c : Thread nD τ)), (arg13.view.loc (c : Thread nD τ) ↦{fullShare} f)) ∗ (∃ f : Buf (Elt F) (arg14.view.loc (c : Thread nD τ)), (arg14.view.loc (c : Thread nD τ) ↦{fullShare} f)))) } := by
  refine ⟨?_, ?_, ?_, ?run⟩
  case run =>
    iintro ⟨H2, H3, H4, H5, H6, H7, H8, H9, H10, H11, H12, H13, H14⟩
    sl_unfold [cc0_mla_bwd]
    sl_exec
    sl_step
    sl_close

end Cert.Proof.Mla

end
-- ==== Proof.Run.lean ====
/- The run of the whole call at one device: the body at every grid point, the launch, and what the arrays hold after it. -/
module

public import proofs.«01_k».proof.Proof.Body
public import proofs.«01_k».proof.Proof.Gen.KernelIdeal.Frame
public import Idealize.ShloMosaic.Lib.Pipeline.DatRel
public import Idealize.ShloMosaic.Lib.Pipeline.ArrRel

@[expose] public section

set_option maxRecDepth 16384

noncomputable section

namespace Cert.Proof.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Dat RDat Cfg Window BodyObligationRel)

variable (m : (ℓ : Loc nD τ sig) → Buf (Elt F) ℓ) (ρ : Dev nD → PrngReg)

theorem hst (w : Fin cfg0.W) (t : Fin cfg0.N) : ((cfg0.win w).stage (cfg0.slots t w)).IsWhole := stage_whole0 w _

/-- What the body leaves at a grid point: from its blocks, whatever the outputs' buffers and the scratch held. -/
abbrev runAt (c : Dev nD) (t : Fin cfg0.N) (f8 : Buf (Elt F) ((st0_6 t).view.loc (c : Thread nD τ))) (f9 : Buf (Elt F) ((st0_7 t).view.loc (c : Thread nD τ))) (f10 : Buf (Elt F) ((st0_8 t).view.loc (c : Thread nD τ))) (f11 : Buf (Elt F) ((c : Thread nD τ).loc cc0_scratch0)) (f12 : Buf (Elt F) ((c : Thread nD τ).loc cc0_scratch1)) (f13 : Buf (Elt F) ((c : Thread nD τ).loc cc0_scratch2)) (f14 : Buf (Elt F) ((c : Thread nD τ).loc cc0_scratch3)) :=
  bodyRun (F := F) c (grid0.coords t) (st0_0 t) (hst 0 t) (st0_1 t) (hst 1 t) (st0_2 t) (hst 2 t) (st0_3 t) (hst 3 t) (st0_4 t) (hst 4 t) (st0_5 t) (hst 5 t) (st0_6 t) (hst 6 t) (st0_7 t) (hst 7 t) (st0_8 t) (hst 8 t) (Memref.whole cc0_scratch0) (Memref.isWhole_whole _) (Memref.whole cc0_scratch1) (Memref.isWhole_whole _) (Memref.whole cc0_scratch2) (Memref.isWhole_whole _) (Memref.whole cc0_scratch3) (Memref.isWhole_whole _)
    ((hst 0 t).unread (iblk m c 0 t)) ((hst 1 t).unread (iblk m c 1 t)) ((hst 2 t).unread (iblk m c 2 t)) ((hst 3 t).unread (iblk m c 3 t)) ((hst 4 t).unread (iblk m c 4 t)) ((hst 5 t).unread (iblk m c 5 t)) f8 f9 f10 f11 f12 f13 f14

/-- The contents of the result windows after the body at a point. -/
def Rl (c : Dev nD) (w : Fin cfg0.W) (t : Fin cfg0.N) : ((cfg0.win w).block.Idx → Elt F (cfg0.win w).elt) → Prop :=
  match w with
  | ⟨6, _⟩ => fun X => ∃ (f8 : Buf (Elt F) ((st0_6 t).view.loc (c : Thread nD τ))) (f9 : Buf (Elt F) ((st0_7 t).view.loc (c : Thread nD τ))) (f10 : Buf (Elt F) ((st0_8 t).view.loc (c : Thread nD τ))) (f11 : Buf (Elt F) ((c : Thread nD τ).loc cc0_scratch0)) (f12 : Buf (Elt F) ((c : Thread nD τ).loc cc0_scratch1)) (f13 : Buf (Elt F) ((c : Thread nD τ).loc cc0_scratch2)) (f14 : Buf (Elt F) ((c : Thread nD τ).loc cc0_scratch3)), X = (st0_6 t).view.read (Elt F) (runAt m c t f8 f9 f10 f11 f12 f13 f14).1
  | ⟨7, _⟩ => fun X => ∃ (f8 : Buf (Elt F) ((st0_6 t).view.loc (c : Thread nD τ))) (f9 : Buf (Elt F) ((st0_7 t).view.loc (c : Thread nD τ))) (f10 : Buf (Elt F) ((st0_8 t).view.loc (c : Thread nD τ))) (f11 : Buf (Elt F) ((c : Thread nD τ).loc cc0_scratch0)) (f12 : Buf (Elt F) ((c : Thread nD τ).loc cc0_scratch1)) (f13 : Buf (Elt F) ((c : Thread nD τ).loc cc0_scratch2)) (f14 : Buf (Elt F) ((c : Thread nD τ).loc cc0_scratch3)), X = (st0_7 t).view.read (Elt F) (runAt m c t f8 f9 f10 f11 f12 f13 f14).2.1
  | ⟨8, _⟩ => fun X => ∃ (f8 : Buf (Elt F) ((st0_6 t).view.loc (c : Thread nD τ))) (f9 : Buf (Elt F) ((st0_7 t).view.loc (c : Thread nD τ))) (f10 : Buf (Elt F) ((st0_8 t).view.loc (c : Thread nD τ))) (f11 : Buf (Elt F) ((c : Thread nD τ).loc cc0_scratch0)) (f12 : Buf (Elt F) ((c : Thread nD τ).loc cc0_scratch1)) (f13 : Buf (Elt F) ((c : Thread nD τ).loc cc0_scratch2)) (f14 : Buf (Elt F) ((c : Thread nD τ).loc cc0_scratch3)), X = (st0_8 t).view.read (Elt F) (runAt m c t f8 f9 f10 f11 f12 f13 f14).2.2.1
  | ⟨_, _⟩ => fun _ => True

/-- The three result windows. -/
def fgt : Fin cfg0.W → Bool
  | ⟨6, _⟩ | ⟨7, _⟩ | ⟨8, _⟩ => true
  | _ => false
theorem fgt0 : fgt 0 = false := rfl
theorem fgt1 : fgt 1 = false := rfl
theorem fgt2 : fgt 2 = false := rfl
theorem fgt3 : fgt 3 = false := rfl
theorem fgt4 : fgt 4 = false := rfl
theorem fgt5 : fgt 5 = false := rfl
theorem fgt6 : fgt 6 = true := rfl
theorem fgt7 : fgt 7 = true := rfl
theorem fgt8 : fgt 8 = true := rfl

/-- The arrays as the region finds them; each input's buffer at its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨n + 6, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := rfl
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d

theorem owns_in (c : Dev nD) {sp : Space} {s : Shape} {e : EltTy} (M : Memref sig .tc sp s e) (h : M.IsWhole) (X : s.Idx → Elt F e) :
    (owns (c : Thread nD τ) M fullShare X : sProp 𝕄) ⊢ iprop(M.view.loc (c : Thread nD τ) ↦{fullShare} h.unread X) := by
  unfold owns; rw [h.set_eq_univ]
  iintro ⟨%f, %hf, H⟩
  obtain rfl := h.eq_unread hf
  iexact H

theorem owns_any (c : Dev nD) {sp : Space} {s : Shape} {e : EltTy} (M : Memref sig .tc sp s e) (h : M.IsWhole) (X : s.Idx → Elt F e) :
    (owns (c : Thread nD τ) M fullShare X : sProp 𝕄) ⊢ iprop(∃ f, M.view.loc (c : Thread nD τ) ↦{fullShare} f) := by
  unfold owns; rw [h.set_eq_univ]
  iintro ⟨%f, %hf, H⟩
  iexists f; iexact H

theorem owns_out (c : Dev nD) {sp : Space} {s : Shape} {e : EltTy} (M : Memref sig .tc sp s e) (h : M.IsWhole)
    (f : Buf (Elt F) (M.view.loc (c : Thread nD τ))) (X : s.Idx → Elt F e) (hX : M.view.read (Elt F) f = X) :
    (iprop(M.view.loc (c : Thread nD τ) ↦{fullShare} f) : sProp 𝕄) ⊢ owns (c : Thread nD τ) M fullShare X := by
  unfold owns; rw [h.set_eq_univ]
  iintro H
  iexists f; isplitr; · ipureintro; exact hX
  iexact H

theorem body_obligation (c : Dev nD) : BodyObligationRel (dats (F := F) m 0 c) (defs₀ (F := F)) 𝒱₀ () Set.univ fgt (Rl m c) := fun t => by
  rw [bigSep_W0, bigSep_W0]
  sl_whnfR [defs₀, Defs.onTc]
  simp only [fgt0, fgt1, fgt2, fgt3, fgt4, fgt5, fgt6, fgt7, fgt8, before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, show (dats m 0 c).Φ t.castSucc = Pipeline.ΦA spec0 c from rfl]
  unfold Pipeline.ΦA
  rw [scopedRest0_eq]
  iintro ⟨⟨⟨⟨%f11, H11⟩, ⟨%f12, H12⟩, ⟨%f13, H13⟩, ⟨%f14, H14⟩⟩, HP⟩, Ho, ⟨%d2, H2⟩, ⟨%d3, H3⟩, ⟨%d4, H4⟩, ⟨%d5, H5⟩, ⟨%d6, H6⟩, ⟨%d7, H7⟩, ⟨%Y8, -, H8⟩, ⟨%Y9, -, H9⟩, ⟨%Y10, -, H10⟩⟩
  ihave H2 := (owns_in c (st0_0 t) (hst 0 t) _) $$ H2
  ihave H3 := (owns_in c (st0_1 t) (hst 1 t) _) $$ H3
  ihave H4 := (owns_in c (st0_2 t) (hst 2 t) _) $$ H4
  ihave H5 := (owns_in c (st0_3 t) (hst 3 t) _) $$ H5
  ihave H6 := (owns_in c (st0_4 t) (hst 4 t) _) $$ H6
  ihave H7 := (owns_in c (st0_5 t) (hst 5 t) _) $$ H7
  ihave H8 := (owns_any c (st0_6 t) (hst 6 t) _) $$ H8
  icases H8 with ⟨%f8, H8⟩
  ihave H9 := (owns_any c (st0_7 t) (hst 7 t) _) $$ H9
  icases H9 with ⟨%f9, H9⟩
  ihave H10 := (owns_any c (st0_8 t) (hst 8 t) _) $$ H10
  icases H10 with ⟨%f10, H10⟩
  iapply (wp_wand_r Idealize.ShloMosaic.frame (wpE (defs₀ (F := F)) 𝒱₀ (c : Thread nD τ) none) Set.univ)
  isplitl [H2 H3 H4 H5 H6 H7 H8 H9 H10 H11 H12 H13 H14]
  · iapply (runAt m c t f8 f9 f10 f11 f12 f13 f14).2.2.2
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %_ ⟨H2, H3, H4, H5, H6, H7, H8, H9, H10, ⟨%g11, H11⟩, ⟨%g12, H12⟩, ⟨%g13, H13⟩, ⟨%g14, H14⟩⟩
    isplitl [H11 H12 H13 H14 HP]
    · isplitl [H11 H12 H13 H14]
      · isplitl [H11]; · iexists g11; iexact H11
        isplitl [H12]; · iexists g12; iexact H12
        isplitl [H13]; · iexists g13; iexact H13
        iexists g14; iexact H14
      iexact HP
    isplitl [Ho]; · iexact Ho
    isplitl [H2]
    · iapply (owns_out c (st0_0 t) (hst 0 t) _ _ ((hst 0 t).read_unread _)); iexact H2
    isplitl [H3]
    · iapply (owns_out c (st0_1 t) (hst 1 t) _ _ ((hst 1 t).read_unread _)); iexact H3
    isplitl [H4]
    · iapply (owns_out c (st0_2 t) (hst 2 t) _ _ ((hst 2 t).read_unread _)); iexact H4
    isplitl [H5]
    · iapply (owns_out c (st0_3 t) (hst 3 t) _ _ ((hst 3 t).read_unread _)); iexact H5
    isplitl [H6]
    · iapply (owns_out c (st0_4 t) (hst 4 t) _ _ ((hst 4 t).read_unread _)); iexact H6
    isplitl [H7]
    · iapply (owns_out c (st0_5 t) (hst 5 t) _ _ ((hst 5 t).read_unread _)); iexact H7
    isplitl [H8]
    · iexists _; isplitr
      · ipureintro; exact ⟨f8, f9, f10, f11, f12, f13, f14, rfl⟩
      iapply (owns_out c (st0_6 t) (hst 6 t) _ _ rfl); iexact H8
    isplitl [H9]
    · iexists _; isplitr
      · ipureintro; exact ⟨f8, f9, f10, f11, f12, f13, f14, rfl⟩
      iapply (owns_out c (st0_7 t) (hst 7 t) _ _ rfl); iexact H9
    iexists _; isplitr
    · ipureintro; exact ⟨f8, f9, f10, f11, f12, f13, f14, rfl⟩
    iapply (owns_out c (st0_8 t) (hst 8 t) _ _ rfl); iexact H10

set_option backward.isDefEq.respectTransparency.types false in
/-- Every execution of the call ends, with the arrays as the blocks' runs leave them and every semaphore at zero. -/
theorem run_main : θ_run defs (onTc (τ := τ) (main (F := F))) (s₀ m ρ)
    (fun r => RDat.FramePost cfg0 (fun c => (dats m 0 c).toRRel fgt (Rl m c)) (V m) r ∧ r.2.sem = fun _ => 0) :=
  RDat.θ_run_frame (Q' := _) cfgs (0 : Fin 1) launch0 defs₀ 𝒱₀ (fun c => (dats m 0 c).toRRel fgt (Rl m c)) m ρ main
    (hbody := fun c => (body_obligation m c).toRRel) (hshare := fun c => (dats m 0 c).share_full fun _ => rfl)
    (howed := fun _ _ => rfl) (V := V m) (hmain := hmain m 𝒱₀) (hA := fun _ _ => rfl) (hΦ := fun _ _ => rfl)

/-- A buffer outside the call's arrays ends at its contents before the call. -/
theorem rest_eq {r : PUnit × MemSt nD τ sig (Elt F)} (h : RDat.FramePost cfg0 (fun c => (dats m 0 c).toRRel fgt (Rl m c)) (V m) r) (c : Dev nD)
    (b : Ref sig .tc) (hb : b ∈ Pipeline.restRefs sig spec0) : r.2.mem ((c.tc : Thread nD τ).loc b) = V m c b := (h c).2 b hb

/-- The arguments after the call are the arguments before it. -/
theorem args_eq {r : PUnit × MemSt nD τ sig (Elt F)} (h : RDat.FramePost cfg0 (fun c => (dats m 0 c).toRRel fgt (Rl m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(rest_eq m h c main_arg0 (by decide)).trans (V_main_arg0 m c), (h.arr_in c 1 rfl).trans (V_main_arg1 m c),
    (h.arr_in c 2 rfl).trans (V_main_arg2 m c), (h.arr_in c 3 rfl).trans (V_main_arg3 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_eq m h.1 c, h.2⟩) (run_main m ρ)

end Cert.Proof.Mla

end
-- ==== Proof.Coord.lean ====
/- The coordinates of the kernel's loads and stores, each in closed form. -/
module

public import proofs.«01_k».proof.Proof.Offsets

@[expose] public section

namespace Cert.KernelIdeal.Gen

open Idealize.ShloMosaic

theorem k_lt (k : Fin k0_t1_loop.trips) : k.val < 8 := Nat.lt_of_lt_of_eq k.isLt trips1

@[simp] theorem o1_0 : ∀ k : Fin k0_t1_loop.trips, k0_off1 k 0 = 256 * k.val := by decide +kernel
@[simp] theorem o1_1 : ∀ k : Fin k0_t1_loop.trips, k0_off1 k 1 = 0 := by decide +kernel
@[simp] theorem o2_0 : ∀ k : Fin k0_t1_loop.trips, k0_off2 k 0 = 256 * k.val := by decide +kernel
@[simp] theorem o2_1 : ∀ k : Fin k0_t1_loop.trips, k0_off2 k 1 = 0 := by decide +kernel
@[simp] theorem o3_0 : ∀ k : Fin k0_t1_loop.trips, k0_off3 k 0 = 0 := by decide +kernel
@[simp] theorem o3_1 : ∀ k : Fin k0_t1_loop.trips, k0_off3 k 1 = 256 * k.val := by decide +kernel
@[simp] theorem o4_0 : ∀ k : Fin k0_t1_loop.trips, k0_off4 k 0 = k.val % 2 := by decide +kernel
@[simp] theorem o4_1 : ∀ k : Fin k0_t1_loop.trips, k0_off4 k 1 = 0 := by decide +kernel
@[simp] theorem o4_2 : ∀ k : Fin k0_t1_loop.trips, k0_off4 k 2 = 0 := by decide +kernel
@[simp] theorem o5_0 : ∀ k : Fin k0_t1_loop.trips, k0_off5 k 0 = 1 - k.val % 2 := by decide +kernel
@[simp] theorem o5_1 : ∀ k : Fin k0_t1_loop.trips, k0_off5 k 1 = 0 := by decide +kernel
@[simp] theorem o5_2 : ∀ k : Fin k0_t1_loop.trips, k0_off5 k 2 = 0 := by decide +kernel
@[simp] theorem o6_0 : ∀ k : Fin k0_t1_loop.trips, k0_off6 k 0 = 256 * (k.val - 1) := by decide +kernel
@[simp] theorem o6_1 : ∀ k : Fin k0_t1_loop.trips, k0_off6 k 1 = 0 := by decide +kernel
@[simp] theorem o7_0 : ∀ k : Fin k0_t1_loop.trips, k0_off7 k 0 = 1 - k.val % 2 := by decide +kernel
@[simp] theorem o7_1 : ∀ k : Fin k0_t1_loop.trips, k0_off7 k 1 = 128 := by decide +kernel
@[simp] theorem o7_2 : ∀ k : Fin k0_t1_loop.trips, k0_off7 k 2 = 0 := by decide +kernel
@[simp] theorem o8_0 : ∀ k : Fin k0_t1_loop.trips, k0_off8 k 0 = 256 * (k.val - 1) := by decide +kernel
@[simp] theorem o8_1 : ∀ k : Fin k0_t1_loop.trips, k0_off8 k 1 = 128 := by decide +kernel
@[simp] theorem o9_00 : ∀ k : Fin k0_t1_loop.trips, k0_off9 k 0#32 0 = 256 * k.val := by decide +kernel
@[simp] theorem o9_01 : ∀ k : Fin k0_t1_loop.trips, k0_off9 k 0#32 1 = 0 := by decide +kernel
@[simp] theorem o9_10 : ∀ k : Fin k0_t1_loop.trips, k0_off9 k 1#32 0 = 256 * (k.val + 1) := by decide +kernel
@[simp] theorem o9_11 : ∀ k : Fin k0_t1_loop.trips, k0_off9 k 1#32 1 = 0 := by decide +kernel
@[simp] theorem o10_00 : ∀ k : Fin k0_t1_loop.trips, k0_off10 k 0#32 0 = 0 := by decide +kernel
@[simp] theorem o10_01 : ∀ k : Fin k0_t1_loop.trips, k0_off10 k 0#32 1 = 0 := by decide +kernel
@[simp] theorem o10_02 : ∀ k : Fin k0_t1_loop.trips, k0_off10 k 0#32 2 = 256 * k.val := by decide +kernel
@[simp] theorem o10_10 : ∀ k : Fin k0_t1_loop.trips, k0_off10 k 1#32 0 = 0 := by decide +kernel
@[simp] theorem o10_11 : ∀ k : Fin k0_t1_loop.trips, k0_off10 k 1#32 1 = 0 := by decide +kernel
@[simp] theorem o10_12 : ∀ k : Fin k0_t1_loop.trips, k0_off10 k 1#32 2 = 256 * (k.val + 1) := by decide +kernel
@[simp] theorem o11_00 : ∀ k : Fin k0_t1_loop.trips, k0_off11 k 0#32 0 = 1 := by decide +kernel
@[simp] theorem o11_01 : ∀ k : Fin k0_t1_loop.trips, k0_off11 k 0#32 1 = 0 := by decide +kernel
@[simp] theorem o11_02 : ∀ k : Fin k0_t1_loop.trips, k0_off11 k 0#32 2 = 256 * k.val := by decide +kernel
@[simp] theorem o11_10 : ∀ k : Fin k0_t1_loop.trips, k0_off11 k 1#32 0 = 1 := by decide +kernel
@[simp] theorem o11_11 : ∀ k : Fin k0_t1_loop.trips, k0_off11 k 1#32 1 = 0 := by decide +kernel
@[simp] theorem o11_12 : ∀ k : Fin k0_t1_loop.trips, k0_off11 k 1#32 2 = 256 * (k.val + 1) := by decide +kernel
@[simp] theorem o12_00 : ∀ k : Fin k0_t1_loop.trips, k0_off12 k 0#32 0 = 0 := by decide +kernel
@[simp] theorem o12_01 : ∀ k : Fin k0_t1_loop.trips, k0_off12 k 0#32 1 = 0 := by decide +kernel
@[simp] theorem o12_02 : ∀ k : Fin k0_t1_loop.trips, k0_off12 k 0#32 2 = 0 := by decide +kernel
@[simp] theorem o12_03 : ∀ k : Fin k0_t1_loop.trips, k0_off12 k 0#32 3 = 256 * k.val := by decide +kernel
@[simp] theorem o12_10 : ∀ k : Fin k0_t1_loop.trips, k0_off12 k 1#32 0 = 0 := by decide +kernel
@[simp] theorem o12_11 : ∀ k : Fin k0_t1_loop.trips, k0_off12 k 1#32 1 = 0 := by decide +kernel
@[simp] theorem o12_12 : ∀ k : Fin k0_t1_loop.trips, k0_off12 k 1#32 2 = 0 := by decide +kernel
@[simp] theorem o12_13 : ∀ k : Fin k0_t1_loop.trips, k0_off12 k 1#32 3 = 256 * (k.val + 1) := by decide +kernel
@[simp] theorem o13_00 : ∀ k : Fin k0_t1_loop.trips, k0_off13 k 0#32 0 = 0 := by decide +kernel
@[simp] theorem o13_01 : ∀ k : Fin k0_t1_loop.trips, k0_off13 k 0#32 1 = 0 := by decide +kernel
@[simp] theorem o13_02 : ∀ k : Fin k0_t1_loop.trips, k0_off13 k 0#32 2 = 256 * k.val := by decide +kernel
@[simp] theorem o13_10 : ∀ k : Fin k0_t1_loop.trips, k0_off13 k 1#32 0 = 0 := by decide +kernel
@[simp] theorem o13_11 : ∀ k : Fin k0_t1_loop.trips, k0_off13 k 1#32 1 = 0 := by decide +kernel
@[simp] theorem o13_12 : ∀ k : Fin k0_t1_loop.trips, k0_off13 k 1#32 2 = 256 * (k.val + 1) := by decide +kernel
@[simp] theorem o14_00 : ∀ k : Fin k0_t1_loop.trips, k0_off14 k 0#32 0 = 2 := by decide +kernel
@[simp] theorem o14_01 : ∀ k : Fin k0_t1_loop.trips, k0_off14 k 0#32 1 = 0 := by decide +kernel
@[simp] theorem o14_02 : ∀ k : Fin k0_t1_loop.trips, k0_off14 k 0#32 2 = 256 * k.val := by decide +kernel
@[simp] theorem o14_10 : ∀ k : Fin k0_t1_loop.trips, k0_off14 k 1#32 0 = 2 := by decide +kernel
@[simp] theorem o14_11 : ∀ k : Fin k0_t1_loop.trips, k0_off14 k 1#32 1 = 0 := by decide +kernel
@[simp] theorem o14_12 : ∀ k : Fin k0_t1_loop.trips, k0_off14 k 1#32 2 = 256 * (k.val + 1) := by decide +kernel
@[simp] theorem o15_00 : ∀ k : Fin k0_t1_loop.trips, k0_off15 k 0#32 0 = 0 := by decide +kernel
@[simp] theorem o15_01 : ∀ k : Fin k0_t1_loop.trips, k0_off15 k 0#32 1 = 0 := by decide +kernel
@[simp] theorem o15_02 : ∀ k : Fin k0_t1_loop.trips, k0_off15 k 0#32 2 = 1 := by decide +kernel
@[simp] theorem o15_03 : ∀ k : Fin k0_t1_loop.trips, k0_off15 k 0#32 3 = 256 * k.val := by decide +kernel
@[simp] theorem o15_10 : ∀ k : Fin k0_t1_loop.trips, k0_off15 k 1#32 0 = 0 := by decide +kernel
@[simp] theorem o15_11 : ∀ k : Fin k0_t1_loop.trips, k0_off15 k 1#32 1 = 0 := by decide +kernel
@[simp] theorem o15_12 : ∀ k : Fin k0_t1_loop.trips, k0_off15 k 1#32 2 = 1 := by decide +kernel
@[simp] theorem o15_13 : ∀ k : Fin k0_t1_loop.trips, k0_off15 k 1#32 3 = 256 * (k.val + 1) := by decide +kernel
@[simp] theorem o16_00 : ∀ k : Fin k0_t1_loop.trips, k0_off16 k 0#32 0 = 0 := by decide +kernel
@[simp] theorem o16_01 : ∀ k : Fin k0_t1_loop.trips, k0_off16 k 0#32 1 = 1 := by decide +kernel
@[simp] theorem o16_02 : ∀ k : Fin k0_t1_loop.trips, k0_off16 k 0#32 2 = 256 * k.val := by decide +kernel
@[simp] theorem o16_10 : ∀ k : Fin k0_t1_loop.trips, k0_off16 k 1#32 0 = 0 := by decide +kernel
@[simp] theorem o16_11 : ∀ k : Fin k0_t1_loop.trips, k0_off16 k 1#32 1 = 1 := by decide +kernel
@[simp] theorem o16_12 : ∀ k : Fin k0_t1_loop.trips, k0_off16 k 1#32 2 = 256 * (k.val + 1) := by decide +kernel
@[simp] theorem o17_0 : ∀ k : Fin k0_t1_loop.trips, k0_off17 k 0 = k.val % 2 := by decide +kernel
@[simp] theorem o17_1 : ∀ k : Fin k0_t1_loop.trips, k0_off17 k 1 = 0 := by decide +kernel
@[simp] theorem o17_2 : ∀ k : Fin k0_t1_loop.trips, k0_off17 k 2 = 0 := by decide +kernel
@[simp] theorem o18_0 : ∀ k : Fin k0_t1_loop.trips, k0_off18 k 0 = 256 * k.val := by decide +kernel
@[simp] theorem o18_1 : ∀ k : Fin k0_t1_loop.trips, k0_off18 k 1 = 0 := by decide +kernel
@[simp] theorem o19_00 : ∀ k : Fin k0_t1_loop.trips, k0_off19 k 0#32 0 = 0 := by decide +kernel
@[simp] theorem o19_01 : ∀ k : Fin k0_t1_loop.trips, k0_off19 k 0#32 1 = 256 * k.val := by decide +kernel
@[simp] theorem o19_10 : ∀ k : Fin k0_t1_loop.trips, k0_off19 k 1#32 0 = 0 := by decide +kernel
@[simp] theorem o19_11 : ∀ k : Fin k0_t1_loop.trips, k0_off19 k 1#32 1 = 256 * (k.val + 1) := by decide +kernel
@[simp] theorem o20_00 : ∀ k : Fin k0_t1_loop.trips, k0_off20 k 0#32 0 = 3 := by decide +kernel
@[simp] theorem o20_01 : ∀ k : Fin k0_t1_loop.trips, k0_off20 k 0#32 1 = 0 := by decide +kernel
@[simp] theorem o20_02 : ∀ k : Fin k0_t1_loop.trips, k0_off20 k 0#32 2 = 256 * k.val := by decide +kernel
@[simp] theorem o20_10 : ∀ k : Fin k0_t1_loop.trips, k0_off20 k 1#32 0 = 3 := by decide +kernel
@[simp] theorem o20_11 : ∀ k : Fin k0_t1_loop.trips, k0_off20 k 1#32 1 = 0 := by decide +kernel
@[simp] theorem o20_12 : ∀ k : Fin k0_t1_loop.trips, k0_off20 k 1#32 2 = 256 * (k.val + 1) := by decide +kernel
@[simp] theorem o21_00 : ∀ k : Fin k0_t1_loop.trips, k0_off21 k 0#32 0 = 0 := by decide +kernel
@[simp] theorem o21_01 : ∀ k : Fin k0_t1_loop.trips, k0_off21 k 0#32 1 = 0 := by decide +kernel
@[simp] theorem o21_02 : ∀ k : Fin k0_t1_loop.trips, k0_off21 k 0#32 2 = 2 := by decide +kernel
@[simp] theorem o21_03 : ∀ k : Fin k0_t1_loop.trips, k0_off21 k 0#32 3 = 256 * k.val := by decide +kernel
@[simp] theorem o21_10 : ∀ k : Fin k0_t1_loop.trips, k0_off21 k 1#32 0 = 0 := by decide +kernel
@[simp] theorem o21_11 : ∀ k : Fin k0_t1_loop.trips, k0_off21 k 1#32 1 = 0 := by decide +kernel
@[simp] theorem o21_12 : ∀ k : Fin k0_t1_loop.trips, k0_off21 k 1#32 2 = 2 := by decide +kernel
@[simp] theorem o21_13 : ∀ k : Fin k0_t1_loop.trips, k0_off21 k 1#32 3 = 256 * (k.val + 1) := by decide +kernel
@[simp] theorem o22_00 : ∀ k : Fin k0_t1_loop.trips, k0_off22 k 0#32 0 = 0 := by decide +kernel
@[simp] theorem o22_01 : ∀ k : Fin k0_t1_loop.trips, k0_off22 k 0#32 1 = 2 := by decide +kernel
@[simp] theorem o22_02 : ∀ k : Fin k0_t1_loop.trips, k0_off22 k 0#32 2 = 256 * k.val := by decide +kernel
@[simp] theorem o22_10 : ∀ k : Fin k0_t1_loop.trips, k0_off22 k 1#32 0 = 0 := by decide +kernel
@[simp] theorem o22_11 : ∀ k : Fin k0_t1_loop.trips, k0_off22 k 1#32 1 = 2 := by decide +kernel
@[simp] theorem o22_12 : ∀ k : Fin k0_t1_loop.trips, k0_off22 k 1#32 2 = 256 * (k.val + 1) := by decide +kernel
@[simp] theorem o23_0 : ∀ k : Fin k0_t1_loop.trips, k0_off23 k 0 = k.val % 2 := by decide +kernel
@[simp] theorem o23_1 : ∀ k : Fin k0_t1_loop.trips, k0_off23 k 1 = 64 := by decide +kernel
@[simp] theorem o23_2 : ∀ k : Fin k0_t1_loop.trips, k0_off23 k 2 = 0 := by decide +kernel
@[simp] theorem o24_0 : ∀ k : Fin k0_t1_loop.trips, k0_off24 k 0 = 256 * k.val := by decide +kernel
@[simp] theorem o24_1 : ∀ k : Fin k0_t1_loop.trips, k0_off24 k 1 = 128 := by decide +kernel
@[simp] theorem o25_00 : ∀ k : Fin k0_t1_loop.trips, k0_off25 k 0#32 0 = 128 := by decide +kernel
@[simp] theorem o25_01 : ∀ k : Fin k0_t1_loop.trips, k0_off25 k 0#32 1 = 256 * k.val := by decide +kernel
@[simp] theorem o25_10 : ∀ k : Fin k0_t1_loop.trips, k0_off25 k 1#32 0 = 128 := by decide +kernel
@[simp] theorem o25_11 : ∀ k : Fin k0_t1_loop.trips, k0_off25 k 1#32 1 = 256 * (k.val + 1) := by decide +kernel
@[simp] theorem o26_00 : ∀ k : Fin k0_t1_loop.trips, k0_off26 k 0#32 0 = 0 := by decide +kernel
@[simp] theorem o26_01 : ∀ k : Fin k0_t1_loop.trips, k0_off26 k 0#32 1 = 0 := by decide +kernel
@[simp] theorem o26_02 : ∀ k : Fin k0_t1_loop.trips, k0_off26 k 0#32 2 = 3 := by decide +kernel
@[simp] theorem o26_03 : ∀ k : Fin k0_t1_loop.trips, k0_off26 k 0#32 3 = 256 * k.val := by decide +kernel
@[simp] theorem o26_10 : ∀ k : Fin k0_t1_loop.trips, k0_off26 k 1#32 0 = 0 := by decide +kernel
@[simp] theorem o26_11 : ∀ k : Fin k0_t1_loop.trips, k0_off26 k 1#32 1 = 0 := by decide +kernel
@[simp] theorem o26_12 : ∀ k : Fin k0_t1_loop.trips, k0_off26 k 1#32 2 = 3 := by decide +kernel
@[simp] theorem o26_13 : ∀ k : Fin k0_t1_loop.trips, k0_off26 k 1#32 3 = 256 * (k.val + 1) := by decide +kernel
@[simp] theorem o27_00 : ∀ k : Fin k0_t1_loop.trips, k0_off27 k 0#32 0 = 0 := by decide +kernel
@[simp] theorem o27_01 : ∀ k : Fin k0_t1_loop.trips, k0_off27 k 0#32 1 = 3 := by decide +kernel
@[simp] theorem o27_02 : ∀ k : Fin k0_t1_loop.trips, k0_off27 k 0#32 2 = 256 * k.val := by decide +kernel
@[simp] theorem o27_10 : ∀ k : Fin k0_t1_loop.trips, k0_off27 k 1#32 0 = 0 := by decide +kernel
@[simp] theorem o27_11 : ∀ k : Fin k0_t1_loop.trips, k0_off27 k 1#32 1 = 3 := by decide +kernel
@[simp] theorem o27_12 : ∀ k : Fin k0_t1_loop.trips, k0_off27 k 1#32 2 = 256 * (k.val + 1) := by decide +kernel
@[simp] theorem o28_0 : ∀ k : Fin k0_t1_loop.trips, k0_off28 k 0 = k.val % 2 := by decide +kernel
@[simp] theorem o28_1 : ∀ k : Fin k0_t1_loop.trips, k0_off28 k 1 = 128 := by decide +kernel
@[simp] theorem o28_2 : ∀ k : Fin k0_t1_loop.trips, k0_off28 k 2 = 0 := by decide +kernel
@[simp] theorem o29_0 : ∀ k : Fin k0_t1_loop.trips, k0_off29 k 0 = 256 * k.val := by decide +kernel
@[simp] theorem o29_1 : ∀ k : Fin k0_t1_loop.trips, k0_off29 k 1 = 256 := by decide +kernel
@[simp] theorem o30_00 : ∀ k : Fin k0_t1_loop.trips, k0_off30 k 0#32 0 = 256 := by decide +kernel
@[simp] theorem o30_01 : ∀ k : Fin k0_t1_loop.trips, k0_off30 k 0#32 1 = 256 * k.val := by decide +kernel
@[simp] theorem o30_10 : ∀ k : Fin k0_t1_loop.trips, k0_off30 k 1#32 0 = 256 := by decide +kernel
@[simp] theorem o30_11 : ∀ k : Fin k0_t1_loop.trips, k0_off30 k 1#32 1 = 256 * (k.val + 1) := by decide +kernel
@[simp] theorem o31_0 : ∀ k : Fin k0_t1_loop.trips, k0_off31 k 0 = k.val % 2 := by decide +kernel
@[simp] theorem o31_1 : ∀ k : Fin k0_t1_loop.trips, k0_off31 k 1 = 192 := by decide +kernel
@[simp] theorem o31_2 : ∀ k : Fin k0_t1_loop.trips, k0_off31 k 2 = 0 := by decide +kernel
@[simp] theorem o32_0 : ∀ k : Fin k0_t1_loop.trips, k0_off32 k 0 = 256 * k.val := by decide +kernel
@[simp] theorem o32_1 : ∀ k : Fin k0_t1_loop.trips, k0_off32 k 1 = 384 := by decide +kernel
@[simp] theorem o33_00 : ∀ k : Fin k0_t1_loop.trips, k0_off33 k 0#32 0 = 384 := by decide +kernel
@[simp] theorem o33_01 : ∀ k : Fin k0_t1_loop.trips, k0_off33 k 0#32 1 = 256 * k.val := by decide +kernel
@[simp] theorem o33_10 : ∀ k : Fin k0_t1_loop.trips, k0_off33 k 1#32 0 = 384 := by decide +kernel
@[simp] theorem o33_11 : ∀ k : Fin k0_t1_loop.trips, k0_off33 k 1#32 1 = 256 * (k.val + 1) := by decide +kernel
@[simp] theorem o34_0 : ∀ k : Fin k0_t1_loop.trips, k0_off34 k 0 = 1 - k.val % 2 := by decide +kernel
@[simp] theorem o34_1 : ∀ k : Fin k0_t1_loop.trips, k0_off34 k 1 = 0 := by decide +kernel
@[simp] theorem o34_2 : ∀ k : Fin k0_t1_loop.trips, k0_off34 k 2 = 0 := by decide +kernel
@[simp] theorem o35_0 : ∀ k : Fin k0_t1_loop.trips, k0_off35 k 0 = 256 * (k.val - 1) := by decide +kernel
@[simp] theorem o35_1 : ∀ k : Fin k0_t1_loop.trips, k0_off35 k 1 = 0 := by decide +kernel
@[simp] theorem o36_0 : ∀ k : Fin k0_t1_loop.trips, k0_off36 k 0 = 1 - k.val % 2 := by decide +kernel
@[simp] theorem o36_1 : ∀ k : Fin k0_t1_loop.trips, k0_off36 k 1 = 128 := by decide +kernel
@[simp] theorem o36_2 : ∀ k : Fin k0_t1_loop.trips, k0_off36 k 2 = 0 := by decide +kernel
@[simp] theorem o37_0 : ∀ k : Fin k0_t1_loop.trips, k0_off37 k 0 = 256 * (k.val - 1) := by decide +kernel
@[simp] theorem o37_1 : ∀ k : Fin k0_t1_loop.trips, k0_off37 k 1 = 128 := by decide +kernel
@[simp] theorem o38_0 : ∀ k : Fin k0_t1_loop.trips, k0_off38 k 0 = 256 * k.val := by decide +kernel
@[simp] theorem o38_1 : ∀ k : Fin k0_t1_loop.trips, k0_off38 k 1 = 0 := by decide +kernel
@[simp] theorem o39_0 : ∀ k : Fin k0_t1_loop.trips, k0_off39 k 0 = 0 := by decide +kernel
@[simp] theorem o39_1 : ∀ k : Fin k0_t1_loop.trips, k0_off39 k 1 = 0 := by decide +kernel
@[simp] theorem o39_2 : ∀ k : Fin k0_t1_loop.trips, k0_off39 k 2 = 256 * k.val := by decide +kernel
@[simp] theorem o40_0 : ∀ k : Fin k0_t1_loop.trips, k0_off40 k 0 = 1 := by decide +kernel
@[simp] theorem o40_1 : ∀ k : Fin k0_t1_loop.trips, k0_off40 k 1 = 0 := by decide +kernel
@[simp] theorem o40_2 : ∀ k : Fin k0_t1_loop.trips, k0_off40 k 2 = 256 * k.val := by decide +kernel
@[simp] theorem o41_0 : ∀ k : Fin k0_t1_loop.trips, k0_off41 k 0 = 0 := by decide +kernel
@[simp] theorem o41_1 : ∀ k : Fin k0_t1_loop.trips, k0_off41 k 1 = 0 := by decide +kernel
@[simp] theorem o41_2 : ∀ k : Fin k0_t1_loop.trips, k0_off41 k 2 = 0 := by decide +kernel
@[simp] theorem o41_3 : ∀ k : Fin k0_t1_loop.trips, k0_off41 k 3 = 256 * k.val := by decide +kernel
@[simp] theorem o42_0 : ∀ k : Fin k0_t1_loop.trips, k0_off42 k 0 = 0 := by decide +kernel
@[simp] theorem o42_1 : ∀ k : Fin k0_t1_loop.trips, k0_off42 k 1 = 0 := by decide +kernel
@[simp] theorem o42_2 : ∀ k : Fin k0_t1_loop.trips, k0_off42 k 2 = 256 * k.val := by decide +kernel
@[simp] theorem o43_0 : ∀ k : Fin k0_t1_loop.trips, k0_off43 k 0 = 2 := by decide +kernel
@[simp] theorem o43_1 : ∀ k : Fin k0_t1_loop.trips, k0_off43 k 1 = 0 := by decide +kernel
@[simp] theorem o43_2 : ∀ k : Fin k0_t1_loop.trips, k0_off43 k 2 = 256 * k.val := by decide +kernel
@[simp] theorem o44_0 : ∀ k : Fin k0_t1_loop.trips, k0_off44 k 0 = 0 := by decide +kernel
@[simp] theorem o44_1 : ∀ k : Fin k0_t1_loop.trips, k0_off44 k 1 = 0 := by decide +kernel
@[simp] theorem o44_2 : ∀ k : Fin k0_t1_loop.trips, k0_off44 k 2 = 1 := by decide +kernel
@[simp] theorem o44_3 : ∀ k : Fin k0_t1_loop.trips, k0_off44 k 3 = 256 * k.val := by decide +kernel
@[simp] theorem o45_0 : ∀ k : Fin k0_t1_loop.trips, k0_off45 k 0 = 0 := by decide +kernel
@[simp] theorem o45_1 : ∀ k : Fin k0_t1_loop.trips, k0_off45 k 1 = 1 := by decide +kernel
@[simp] theorem o45_2 : ∀ k : Fin k0_t1_loop.trips, k0_off45 k 2 = 256 * k.val := by decide +kernel
@[simp] theorem o46_0 : ∀ k : Fin k0_t1_loop.trips, k0_off46 k 0 = k.val % 2 := by decide +kernel
@[simp] theorem o46_1 : ∀ k : Fin k0_t1_loop.trips, k0_off46 k 1 = 0 := by decide +kernel
@[simp] theorem o46_2 : ∀ k : Fin k0_t1_loop.trips, k0_off46 k 2 = 0 := by decide +kernel
@[simp] theorem o47_0 : ∀ k : Fin k0_t1_loop.trips, k0_off47 k 0 = 256 * k.val := by decide +kernel
@[simp] theorem o47_1 : ∀ k : Fin k0_t1_loop.trips, k0_off47 k 1 = 0 := by decide +kernel
@[simp] theorem o48_0 : ∀ k : Fin k0_t1_loop.trips, k0_off48 k 0 = 0 := by decide +kernel
@[simp] theorem o48_1 : ∀ k : Fin k0_t1_loop.trips, k0_off48 k 1 = 256 * k.val := by decide +kernel
@[simp] theorem o49_0 : ∀ k : Fin k0_t1_loop.trips, k0_off49 k 0 = 3 := by decide +kernel
@[simp] theorem o49_1 : ∀ k : Fin k0_t1_loop.trips, k0_off49 k 1 = 0 := by decide +kernel
@[simp] theorem o49_2 : ∀ k : Fin k0_t1_loop.trips, k0_off49 k 2 = 256 * k.val := by decide +kernel
@[simp] theorem o50_0 : ∀ k : Fin k0_t1_loop.trips, k0_off50 k 0 = 0 := by decide +kernel
@[simp] theorem o50_1 : ∀ k : Fin k0_t1_loop.trips, k0_off50 k 1 = 0 := by decide +kernel
@[simp] theorem o50_2 : ∀ k : Fin k0_t1_loop.trips, k0_off50 k 2 = 2 := by decide +kernel
@[simp] theorem o50_3 : ∀ k : Fin k0_t1_loop.trips, k0_off50 k 3 = 256 * k.val := by decide +kernel
@[simp] theorem o51_0 : ∀ k : Fin k0_t1_loop.trips, k0_off51 k 0 = 0 := by decide +kernel
@[simp] theorem o51_1 : ∀ k : Fin k0_t1_loop.trips, k0_off51 k 1 = 2 := by decide +kernel
@[simp] theorem o51_2 : ∀ k : Fin k0_t1_loop.trips, k0_off51 k 2 = 256 * k.val := by decide +kernel
@[simp] theorem o52_0 : ∀ k : Fin k0_t1_loop.trips, k0_off52 k 0 = k.val % 2 := by decide +kernel
@[simp] theorem o52_1 : ∀ k : Fin k0_t1_loop.trips, k0_off52 k 1 = 64 := by decide +kernel
@[simp] theorem o52_2 : ∀ k : Fin k0_t1_loop.trips, k0_off52 k 2 = 0 := by decide +kernel
@[simp] theorem o53_0 : ∀ k : Fin k0_t1_loop.trips, k0_off53 k 0 = 256 * k.val := by decide +kernel
@[simp] theorem o53_1 : ∀ k : Fin k0_t1_loop.trips, k0_off53 k 1 = 128 := by decide +kernel
@[simp] theorem o54_0 : ∀ k : Fin k0_t1_loop.trips, k0_off54 k 0 = 128 := by decide +kernel
@[simp] theorem o54_1 : ∀ k : Fin k0_t1_loop.trips, k0_off54 k 1 = 256 * k.val := by decide +kernel
@[simp] theorem o55_0 : ∀ k : Fin k0_t1_loop.trips, k0_off55 k 0 = 0 := by decide +kernel
@[simp] theorem o55_1 : ∀ k : Fin k0_t1_loop.trips, k0_off55 k 1 = 0 := by decide +kernel
@[simp] theorem o55_2 : ∀ k : Fin k0_t1_loop.trips, k0_off55 k 2 = 3 := by decide +kernel
@[simp] theorem o55_3 : ∀ k : Fin k0_t1_loop.trips, k0_off55 k 3 = 256 * k.val := by decide +kernel
@[simp] theorem o56_0 : ∀ k : Fin k0_t1_loop.trips, k0_off56 k 0 = 0 := by decide +kernel
@[simp] theorem o56_1 : ∀ k : Fin k0_t1_loop.trips, k0_off56 k 1 = 3 := by decide +kernel
@[simp] theorem o56_2 : ∀ k : Fin k0_t1_loop.trips, k0_off56 k 2 = 256 * k.val := by decide +kernel
@[simp] theorem o57_0 : ∀ k : Fin k0_t1_loop.trips, k0_off57 k 0 = k.val % 2 := by decide +kernel
@[simp] theorem o57_1 : ∀ k : Fin k0_t1_loop.trips, k0_off57 k 1 = 128 := by decide +kernel
@[simp] theorem o57_2 : ∀ k : Fin k0_t1_loop.trips, k0_off57 k 2 = 0 := by decide +kernel
@[simp] theorem o58_0 : ∀ k : Fin k0_t1_loop.trips, k0_off58 k 0 = 256 * k.val := by decide +kernel
@[simp] theorem o58_1 : ∀ k : Fin k0_t1_loop.trips, k0_off58 k 1 = 256 := by decide +kernel
@[simp] theorem o59_0 : ∀ k : Fin k0_t1_loop.trips, k0_off59 k 0 = 256 := by decide +kernel
@[simp] theorem o59_1 : ∀ k : Fin k0_t1_loop.trips, k0_off59 k 1 = 256 * k.val := by decide +kernel
@[simp] theorem o60_0 : ∀ k : Fin k0_t1_loop.trips, k0_off60 k 0 = k.val % 2 := by decide +kernel
@[simp] theorem o60_1 : ∀ k : Fin k0_t1_loop.trips, k0_off60 k 1 = 192 := by decide +kernel
@[simp] theorem o60_2 : ∀ k : Fin k0_t1_loop.trips, k0_off60 k 2 = 0 := by decide +kernel
@[simp] theorem o61_0 : ∀ k : Fin k0_t1_loop.trips, k0_off61 k 0 = 256 * k.val := by decide +kernel
@[simp] theorem o61_1 : ∀ k : Fin k0_t1_loop.trips, k0_off61 k 1 = 384 := by decide +kernel
@[simp] theorem o62_0 : ∀ k : Fin k0_t1_loop.trips, k0_off62 k 0 = 384 := by decide +kernel
@[simp] theorem o62_1 : ∀ k : Fin k0_t1_loop.trips, k0_off62 k 1 = 256 * k.val := by decide +kernel
@[simp] theorem o71_0 : ∀ k : Fin k0_t1_loop.trips, k0_off71 k 0 = k.val % 2 := by decide +kernel
@[simp] theorem o71_1 : ∀ k : Fin k0_t1_loop.trips, k0_off71 k 1 = 0 := by decide +kernel
@[simp] theorem o71_2 : ∀ k : Fin k0_t1_loop.trips, k0_off71 k 2 = 0 := by decide +kernel
@[simp] theorem o72_0 : ∀ k : Fin k0_t1_loop.trips, k0_off72 k 0 = 256 * k.val := by decide +kernel
@[simp] theorem o72_1 : ∀ k : Fin k0_t1_loop.trips, k0_off72 k 1 = 0 := by decide +kernel
@[simp] theorem o77_0 : ∀ k : Fin k0_t1_loop.trips, k0_off77 k 0 = k.val % 2 := by decide +kernel
@[simp] theorem o77_1 : ∀ k : Fin k0_t1_loop.trips, k0_off77 k 1 = 64 := by decide +kernel
@[simp] theorem o77_2 : ∀ k : Fin k0_t1_loop.trips, k0_off77 k 2 = 0 := by decide +kernel
@[simp] theorem o78_0 : ∀ k : Fin k0_t1_loop.trips, k0_off78 k 0 = 256 * k.val := by decide +kernel
@[simp] theorem o78_1 : ∀ k : Fin k0_t1_loop.trips, k0_off78 k 1 = 128 := by decide +kernel
@[simp] theorem o82_0 : ∀ k : Fin k0_t1_loop.trips, k0_off82 k 0 = k.val % 2 := by decide +kernel
@[simp] theorem o82_1 : ∀ k : Fin k0_t1_loop.trips, k0_off82 k 1 = 128 := by decide +kernel
@[simp] theorem o82_2 : ∀ k : Fin k0_t1_loop.trips, k0_off82 k 2 = 0 := by decide +kernel
@[simp] theorem o83_0 : ∀ k : Fin k0_t1_loop.trips, k0_off83 k 0 = 256 * k.val := by decide +kernel
@[simp] theorem o83_1 : ∀ k : Fin k0_t1_loop.trips, k0_off83 k 1 = 256 := by decide +kernel
@[simp] theorem o85_0 : ∀ k : Fin k0_t1_loop.trips, k0_off85 k 0 = k.val % 2 := by decide +kernel
@[simp] theorem o85_1 : ∀ k : Fin k0_t1_loop.trips, k0_off85 k 1 = 192 := by decide +kernel
@[simp] theorem o85_2 : ∀ k : Fin k0_t1_loop.trips, k0_off85 k 2 = 0 := by decide +kernel
@[simp] theorem o86_0 : ∀ k : Fin k0_t1_loop.trips, k0_off86 k 0 = 256 * k.val := by decide +kernel
@[simp] theorem o86_1 : ∀ k : Fin k0_t1_loop.trips, k0_off86 k 1 = 384 := by decide +kernel
@[simp] theorem o96_0 : ∀ k : Fin k0_t1_loop.trips, k0_off96 k 0 = k.val % 2 := by decide +kernel
@[simp] theorem o96_1 : ∀ k : Fin k0_t1_loop.trips, k0_off96 k 1 = 0 := by decide +kernel
@[simp] theorem o96_2 : ∀ k : Fin k0_t1_loop.trips, k0_off96 k 2 = 0 := by decide +kernel
@[simp] theorem o97_0 : ∀ k : Fin k0_t1_loop.trips, k0_off97 k 0 = 256 * k.val := by decide +kernel
@[simp] theorem o97_1 : ∀ k : Fin k0_t1_loop.trips, k0_off97 k 1 = 0 := by decide +kernel
@[simp] theorem o102_0 : ∀ k : Fin k0_t1_loop.trips, k0_off102 k 0 = k.val % 2 := by decide +kernel
@[simp] theorem o102_1 : ∀ k : Fin k0_t1_loop.trips, k0_off102 k 1 = 64 := by decide +kernel
@[simp] theorem o102_2 : ∀ k : Fin k0_t1_loop.trips, k0_off102 k 2 = 0 := by decide +kernel
@[simp] theorem o103_0 : ∀ k : Fin k0_t1_loop.trips, k0_off103 k 0 = 256 * k.val := by decide +kernel
@[simp] theorem o103_1 : ∀ k : Fin k0_t1_loop.trips, k0_off103 k 1 = 128 := by decide +kernel
@[simp] theorem o107_0 : ∀ k : Fin k0_t1_loop.trips, k0_off107 k 0 = k.val % 2 := by decide +kernel
@[simp] theorem o107_1 : ∀ k : Fin k0_t1_loop.trips, k0_off107 k 1 = 128 := by decide +kernel
@[simp] theorem o107_2 : ∀ k : Fin k0_t1_loop.trips, k0_off107 k 2 = 0 := by decide +kernel
@[simp] theorem o108_0 : ∀ k : Fin k0_t1_loop.trips, k0_off108 k 0 = 256 * k.val := by decide +kernel
@[simp] theorem o108_1 : ∀ k : Fin k0_t1_loop.trips, k0_off108 k 1 = 256 := by decide +kernel
@[simp] theorem o110_0 : ∀ k : Fin k0_t1_loop.trips, k0_off110 k 0 = k.val % 2 := by decide +kernel
@[simp] theorem o110_1 : ∀ k : Fin k0_t1_loop.trips, k0_off110 k 1 = 192 := by decide +kernel
@[simp] theorem o110_2 : ∀ k : Fin k0_t1_loop.trips, k0_off110 k 2 = 0 := by decide +kernel
@[simp] theorem o111_0 : ∀ k : Fin k0_t1_loop.trips, k0_off111 k 0 = 256 * k.val := by decide +kernel
@[simp] theorem o111_1 : ∀ k : Fin k0_t1_loop.trips, k0_off111 k 1 = 384 := by decide +kernel
@[simp] theorem o113_0 : ∀ k : Fin k0_t1_loop.trips, k0_off113 k 0 = k.val % 2 := by decide +kernel
@[simp] theorem o113_1 : ∀ k : Fin k0_t1_loop.trips, k0_off113 k 1 = 0 := by decide +kernel
@[simp] theorem o113_2 : ∀ k : Fin k0_t1_loop.trips, k0_off113 k 2 = 0 := by decide +kernel
@[simp] theorem o114_0 : ∀ k : Fin k0_t1_loop.trips, k0_off114 k 0 = 256 * k.val := by decide +kernel
@[simp] theorem o114_1 : ∀ k : Fin k0_t1_loop.trips, k0_off114 k 1 = 0 := by decide +kernel
@[simp] theorem o115_0 : ∀ k : Fin k0_t1_loop.trips, k0_off115 k 0 = k.val % 2 := by decide +kernel
@[simp] theorem o115_1 : ∀ k : Fin k0_t1_loop.trips, k0_off115 k 1 = 64 := by decide +kernel
@[simp] theorem o115_2 : ∀ k : Fin k0_t1_loop.trips, k0_off115 k 2 = 0 := by decide +kernel
@[simp] theorem o116_0 : ∀ k : Fin k0_t1_loop.trips, k0_off116 k 0 = 256 * k.val := by decide +kernel
@[simp] theorem o116_1 : ∀ k : Fin k0_t1_loop.trips, k0_off116 k 1 = 128 := by decide +kernel
@[simp] theorem o117_0 : ∀ k : Fin k0_t1_loop.trips, k0_off117 k 0 = k.val % 2 := by decide +kernel
@[simp] theorem o117_1 : ∀ k : Fin k0_t1_loop.trips, k0_off117 k 1 = 128 := by decide +kernel
@[simp] theorem o117_2 : ∀ k : Fin k0_t1_loop.trips, k0_off117 k 2 = 0 := by decide +kernel
@[simp] theorem o118_0 : ∀ k : Fin k0_t1_loop.trips, k0_off118 k 0 = 256 * k.val := by decide +kernel
@[simp] theorem o118_1 : ∀ k : Fin k0_t1_loop.trips, k0_off118 k 1 = 256 := by decide +kernel
@[simp] theorem o119_0 : ∀ k : Fin k0_t1_loop.trips, k0_off119 k 0 = k.val % 2 := by decide +kernel
@[simp] theorem o119_1 : ∀ k : Fin k0_t1_loop.trips, k0_off119 k 1 = 192 := by decide +kernel
@[simp] theorem o119_2 : ∀ k : Fin k0_t1_loop.trips, k0_off119 k 2 = 0 := by decide +kernel
@[simp] theorem o120_0 : ∀ k : Fin k0_t1_loop.trips, k0_off120 k 0 = 256 * k.val := by decide +kernel
@[simp] theorem o120_1 : ∀ k : Fin k0_t1_loop.trips, k0_off120 k 1 = 384 := by decide +kernel
@[simp] theorem o63_00 (k : Fin k0_t1_loop.trips) (t : Fin (k0_t2_loop k).trips) : k0_off63 k t 0#32 0 = 256 * (k.val + 2 * (1 + t.val) + 0) := congrFun (off63_eq k t 0) 0
@[simp] theorem o63_01 (k : Fin k0_t1_loop.trips) (t : Fin (k0_t2_loop k).trips) : k0_off63 k t 0#32 1 = 0 := congrFun (off63_eq k t 0) 1
@[simp] theorem o63_10 (k : Fin k0_t1_loop.trips) (t : Fin (k0_t2_loop k).trips) : k0_off63 k t 1#32 0 = 256 * (k.val + 2 * (1 + t.val) + 1) := congrFun (off63_eq k t 1) 0
@[simp] theorem o63_11 (k : Fin k0_t1_loop.trips) (t : Fin (k0_t2_loop k).trips) : k0_off63 k t 1#32 1 = 0 := congrFun (off63_eq k t 1) 1
@[simp] theorem o64_00 (k : Fin k0_t1_loop.trips) (t : Fin (k0_t2_loop k).trips) : k0_off64 k t 0#32 0 = 0 := congrFun (off64_eq k t 0) 0
@[simp] theorem o64_01 (k : Fin k0_t1_loop.trips) (t : Fin (k0_t2_loop k).trips) : k0_off64 k t 0#32 1 = 0 := congrFun (off64_eq k t 0) 1
@[simp] theorem o64_02 (k : Fin k0_t1_loop.trips) (t : Fin (k0_t2_loop k).trips) : k0_off64 k t 0#32 2 = 256 * (k.val + 2 * (1 + t.val) + 0) := congrFun (off64_eq k t 0) 2
@[simp] theorem o64_10 (k : Fin k0_t1_loop.trips) (t : Fin (k0_t2_loop k).trips) : k0_off64 k t 1#32 0 = 0 := congrFun (off64_eq k t 1) 0
@[simp] theorem o64_11 (k : Fin k0_t1_loop.trips) (t : Fin (k0_t2_loop k).trips) : k0_off64 k t 1#32 1 = 0 := congrFun (off64_eq k t 1) 1
@[simp] theorem o64_12 (k : Fin k0_t1_loop.trips) (t : Fin (k0_t2_loop k).trips) : k0_off64 k t 1#32 2 = 256 * (k.val + 2 * (1 + t.val) + 1) := congrFun (off64_eq k t 1) 2
@[simp] theorem o65_00 (k : Fin k0_t1_loop.trips) (t : Fin (k0_t2_loop k).trips) : k0_off65 k t 0#32 0 = 1 := congrFun (off65_eq k t 0) 0
@[simp] theorem o65_01 (k : Fin k0_t1_loop.trips) (t : Fin (k0_t2_loop k).trips) : k0_off65 k t 0#32 1 = 0 := congrFun (off65_eq k t 0) 1
@[simp] theorem o65_02 (k : Fin k0_t1_loop.trips) (t : Fin (k0_t2_loop k).trips) : k0_off65 k t 0#32 2 = 256 * (k.val + 2 * (1 + t.val) + 0) := congrFun (off65_eq k t 0) 2
@[simp] theorem o65_10 (k : Fin k0_t1_loop.trips) (t : Fin (k0_t2_loop k).trips) : k0_off65 k t 1#32 0 = 1 := congrFun (off65_eq k t 1) 0
@[simp] theorem o65_11 (k : Fin k0_t1_loop.trips) (t : Fin (k0_t2_loop k).trips) : k0_off65 k t 1#32 1 = 0 := congrFun (off65_eq k t 1) 1
@[simp] theorem o65_12 (k : Fin k0_t1_loop.trips) (t : Fin (k0_t2_loop k).trips) : k0_off65 k t 1#32 2 = 256 * (k.val + 2 * (1 + t.val) + 1) := congrFun (off65_eq k t 1) 2
@[simp] theorem o66_00 (k : Fin k0_t1_loop.trips) (t : Fin (k0_t2_loop k).trips) : k0_off66 k t 0#32 0 = 0 := congrFun (off66_eq k t 0) 0
@[simp] theorem o66_01 (k : Fin k0_t1_loop.trips) (t : Fin (k0_t2_loop k).trips) : k0_off66 k t 0#32 1 = 0 := congrFun (off66_eq k t 0) 1
@[simp] theorem o66_02 (k : Fin k0_t1_loop.trips) (t : Fin (k0_t2_loop k).trips) : k0_off66 k t 0#32 2 = 0 := congrFun (off66_eq k t 0) 2
@[simp] theorem o66_03 (k : Fin k0_t1_loop.trips) (t : Fin (k0_t2_loop k).trips) : k0_off66 k t 0#32 3 = 256 * (k.val + 2 * (1 + t.val) + 0) := congrFun (off66_eq k t 0) 3
@[simp] theorem o66_10 (k : Fin k0_t1_loop.trips) (t : Fin (k0_t2_loop k).trips) : k0_off66 k t 1#32 0 = 0 := congrFun (off66_eq k t 1) 0
@[simp] theorem o66_11 (k : Fin k0_t1_loop.trips) (t : Fin (k0_t2_loop k).trips) : k0_off66 k t 1#32 1 = 0 := congrFun (off66_eq k t 1) 1
@[simp] theorem o66_12 (k : Fin k0_t1_loop.trips) (t : Fin (k0_t2_loop k).trips) : k0_off66 k t 1#32 2 = 0 := congrFun (off66_eq k t 1) 2
@[simp] theorem o66_13 (k : Fin k0_t1_loop.trips) (t : Fin (k0_t2_loop k).trips) : k0_off66 k t 1#32 3 = 256 * (k.val + 2 * (1 + t.val) + 1) := congrFun (off66_eq k t 1) 3
@[simp] theorem o67_00 (k : Fin k0_t1_loop.trips) (t : Fin (k0_t2_loop k).trips) : k0_off67 k t 0#32 0 = 0 := congrFun (off67_eq k t 0) 0
@[simp] theorem o67_01 (k : Fin k0_t1_loop.trips) (t : Fin (k0_t2_loop k).trips) : k0_off67 k t 0#32 1 = 0 := congrFun (off67_eq k t 0) 1
@[simp] theorem o67_02 (k : Fin k0_t1_loop.trips) (t : Fin (k0_t2_loop k).trips) : k0_off67 k t 0#32 2 = 256 * (k.val + 2 * (1 + t.val) + 0) := congrFun (off67_eq k t 0) 2
@[simp] theorem o67_10 (k : Fin k0_t1_loop.trips) (t : Fin (k0_t2_loop k).trips) : k0_off67 k t 1#32 0 = 0 := congrFun (off67_eq k t 1) 0
@[simp] theorem o67_11 (k : Fin k0_t1_loop.trips) (t : Fin (k0_t2_loop k).trips) : k0_off67 k t 1#32 1 = 0 := congrFun (off67_eq k t 1) 1
@[simp] theorem o67_12 (k : Fin k0_t1_loop.trips) (t : Fin (k0_t2_loop k).trips) : k0_off67 k t 1#32 2 = 256 * (k.val + 2 * (1 + t.val) + 1) := congrFun (off67_eq k t 1) 2
@[simp] theorem o68_00 (k : Fin k0_t1_loop.trips) (t : Fin (k0_t2_loop k).trips) : k0_off68 k t 0#32 0 = 2 := congrFun (off68_eq k t 0) 0
@[simp] theorem o68_01 (k : Fin k0_t1_loop.trips) (t : Fin (k0_t2_loop k).trips) : k0_off68 k t 0#32 1 = 0 := congrFun (off68_eq k t 0) 1
@[simp] theorem o68_02 (k : Fin k0_t1_loop.trips) (t : Fin (k0_t2_loop k).trips) : k0_off68 k t 0#32 2 = 256 * (k.val + 2 * (1 + t.val) + 0) := congrFun (off68_eq k t 0) 2
@[simp] theorem o68_10 (k : Fin k0_t1_loop.trips) (t : Fin (k0_t2_loop k).trips) : k0_off68 k t 1#32 0 = 2 := congrFun (off68_eq k t 1) 0
@[simp] theorem o68_11 (k : Fin k0_t1_loop.trips) (t : Fin (k0_t2_loop k).trips) : k0_off68 k t 1#32 1 = 0 := congrFun (off68_eq k t 1) 1
@[simp] theorem o68_12 (k : Fin k0_t1_loop.trips) (t : Fin (k0_t2_loop k).trips) : k0_off68 k t 1#32 2 = 256 * (k.val + 2 * (1 + t.val) + 1) := congrFun (off68_eq k t 1) 2
@[simp] theorem o69_00 (k : Fin k0_t1_loop.trips) (t : Fin (k0_t2_loop k).trips) : k0_off69 k t 0#32 0 = 0 := congrFun (off69_eq k t 0) 0
@[simp] theorem o69_01 (k : Fin k0_t1_loop.trips) (t : Fin (k0_t2_loop k).trips) : k0_off69 k t 0#32 1 = 0 := congrFun (off69_eq k t 0) 1
@[simp] theorem o69_02 (k : Fin k0_t1_loop.trips) (t : Fin (k0_t2_loop k).trips) : k0_off69 k t 0#32 2 = 1 := congrFun (off69_eq k t 0) 2
@[simp] theorem o69_03 (k : Fin k0_t1_loop.trips) (t : Fin (k0_t2_loop k).trips) : k0_off69 k t 0#32 3 = 256 * (k.val + 2 * (1 + t.val) + 0) := congrFun (off69_eq k t 0) 3
@[simp] theorem o69_10 (k : Fin k0_t1_loop.trips) (t : Fin (k0_t2_loop k).trips) : k0_off69 k t 1#32 0 = 0 := congrFun (off69_eq k t 1) 0
@[simp] theorem o69_11 (k : Fin k0_t1_loop.trips) (t : Fin (k0_t2_loop k).trips) : k0_off69 k t 1#32 1 = 0 := congrFun (off69_eq k t 1) 1
@[simp] theorem o69_12 (k : Fin k0_t1_loop.trips) (t : Fin (k0_t2_loop k).trips) : k0_off69 k t 1#32 2 = 1 := congrFun (off69_eq k t 1) 2
@[simp] theorem o69_13 (k : Fin k0_t1_loop.trips) (t : Fin (k0_t2_loop k).trips) : k0_off69 k t 1#32 3 = 256 * (k.val + 2 * (1 + t.val) + 1) := congrFun (off69_eq k t 1) 3
@[simp] theorem o70_00 (k : Fin k0_t1_loop.trips) (t : Fin (k0_t2_loop k).trips) : k0_off70 k t 0#32 0 = 0 := congrFun (off70_eq k t 0) 0
@[simp] theorem o70_01 (k : Fin k0_t1_loop.trips) (t : Fin (k0_t2_loop k).trips) : k0_off70 k t 0#32 1 = 1 := congrFun (off70_eq k t 0) 1
@[simp] theorem o70_02 (k : Fin k0_t1_loop.trips) (t : Fin (k0_t2_loop k).trips) : k0_off70 k t 0#32 2 = 256 * (k.val + 2 * (1 + t.val) + 0) := congrFun (off70_eq k t 0) 2
@[simp] theorem o70_10 (k : Fin k0_t1_loop.trips) (t : Fin (k0_t2_loop k).trips) : k0_off70 k t 1#32 0 = 0 := congrFun (off70_eq k t 1) 0
@[simp] theorem o70_11 (k : Fin k0_t1_loop.trips) (t : Fin (k0_t2_loop k).trips) : k0_off70 k t 1#32 1 = 1 := congrFun (off70_eq k t 1) 1
@[simp] theorem o70_12 (k : Fin k0_t1_loop.trips) (t : Fin (k0_t2_loop k).trips) : k0_off70 k t 1#32 2 = 256 * (k.val + 2 * (1 + t.val) + 1) := congrFun (off70_eq k t 1) 2
@[simp] theorem o73_00 (k : Fin k0_t1_loop.trips) (t : Fin (k0_t2_loop k).trips) : k0_off73 k t 0#32 0 = 0 := congrFun (off73_eq k t 0) 0
@[simp] theorem o73_01 (k : Fin k0_t1_loop.trips) (t : Fin (k0_t2_loop k).trips) : k0_off73 k t 0#32 1 = 256 * (k.val + 2 * (1 + t.val) + 0) := congrFun (off73_eq k t 0) 1
@[simp] theorem o73_10 (k : Fin k0_t1_loop.trips) (t : Fin (k0_t2_loop k).trips) : k0_off73 k t 1#32 0 = 0 := congrFun (off73_eq k t 1) 0
@[simp] theorem o73_11 (k : Fin k0_t1_loop.trips) (t : Fin (k0_t2_loop k).trips) : k0_off73 k t 1#32 1 = 256 * (k.val + 2 * (1 + t.val) + 1) := congrFun (off73_eq k t 1) 1
@[simp] theorem o74_00 (k : Fin k0_t1_loop.trips) (t : Fin (k0_t2_loop k).trips) : k0_off74 k t 0#32 0 = 3 := congrFun (off74_eq k t 0) 0
@[simp] theorem o74_01 (k : Fin k0_t1_loop.trips) (t : Fin (k0_t2_loop k).trips) : k0_off74 k t 0#32 1 = 0 := congrFun (off74_eq k t 0) 1
@[simp] theorem o74_02 (k : Fin k0_t1_loop.trips) (t : Fin (k0_t2_loop k).trips) : k0_off74 k t 0#32 2 = 256 * (k.val + 2 * (1 + t.val) + 0) := congrFun (off74_eq k t 0) 2
@[simp] theorem o74_10 (k : Fin k0_t1_loop.trips) (t : Fin (k0_t2_loop k).trips) : k0_off74 k t 1#32 0 = 3 := congrFun (off74_eq k t 1) 0
@[simp] theorem o74_11 (k : Fin k0_t1_loop.trips) (t : Fin (k0_t2_loop k).trips) : k0_off74 k t 1#32 1 = 0 := congrFun (off74_eq k t 1) 1
@[simp] theorem o74_12 (k : Fin k0_t1_loop.trips) (t : Fin (k0_t2_loop k).trips) : k0_off74 k t 1#32 2 = 256 * (k.val + 2 * (1 + t.val) + 1) := congrFun (off74_eq k t 1) 2
@[simp] theorem o75_00 (k : Fin k0_t1_loop.trips) (t : Fin (k0_t2_loop k).trips) : k0_off75 k t 0#32 0 = 0 := congrFun (off75_eq k t 0) 0
@[simp] theorem o75_01 (k : Fin k0_t1_loop.trips) (t : Fin (k0_t2_loop k).trips) : k0_off75 k t 0#32 1 = 0 := congrFun (off75_eq k t 0) 1
@[simp] theorem o75_02 (k : Fin k0_t1_loop.trips) (t : Fin (k0_t2_loop k).trips) : k0_off75 k t 0#32 2 = 2 := congrFun (off75_eq k t 0) 2
@[simp] theorem o75_03 (k : Fin k0_t1_loop.trips) (t : Fin (k0_t2_loop k).trips) : k0_off75 k t 0#32 3 = 256 * (k.val + 2 * (1 + t.val) + 0) := congrFun (off75_eq k t 0) 3
@[simp] theorem o75_10 (k : Fin k0_t1_loop.trips) (t : Fin (k0_t2_loop k).trips) : k0_off75 k t 1#32 0 = 0 := congrFun (off75_eq k t 1) 0
@[simp] theorem o75_11 (k : Fin k0_t1_loop.trips) (t : Fin (k0_t2_loop k).trips) : k0_off75 k t 1#32 1 = 0 := congrFun (off75_eq k t 1) 1
@[simp] theorem o75_12 (k : Fin k0_t1_loop.trips) (t : Fin (k0_t2_loop k).trips) : k0_off75 k t 1#32 2 = 2 := congrFun (off75_eq k t 1) 2
@[simp] theorem o75_13 (k : Fin k0_t1_loop.trips) (t : Fin (k0_t2_loop k).trips) : k0_off75 k t 1#32 3 = 256 * (k.val + 2 * (1 + t.val) + 1) := congrFun (off75_eq k t 1) 3
@[simp] theorem o76_00 (k : Fin k0_t1_loop.trips) (t : Fin (k0_t2_loop k).trips) : k0_off76 k t 0#32 0 = 0 := congrFun (off76_eq k t 0) 0
@[simp] theorem o76_01 (k : Fin k0_t1_loop.trips) (t : Fin (k0_t2_loop k).trips) : k0_off76 k t 0#32 1 = 2 := congrFun (off76_eq k t 0) 1
@[simp] theorem o76_02 (k : Fin k0_t1_loop.trips) (t : Fin (k0_t2_loop k).trips) : k0_off76 k t 0#32 2 = 256 * (k.val + 2 * (1 + t.val) + 0) := congrFun (off76_eq k t 0) 2
@[simp] theorem o76_10 (k : Fin k0_t1_loop.trips) (t : Fin (k0_t2_loop k).trips) : k0_off76 k t 1#32 0 = 0 := congrFun (off76_eq k t 1) 0
@[simp] theorem o76_11 (k : Fin k0_t1_loop.trips) (t : Fin (k0_t2_loop k).trips) : k0_off76 k t 1#32 1 = 2 := congrFun (off76_eq k t 1) 1
@[simp] theorem o76_12 (k : Fin k0_t1_loop.trips) (t : Fin (k0_t2_loop k).trips) : k0_off76 k t 1#32 2 = 256 * (k.val + 2 * (1 + t.val) + 1) := congrFun (off76_eq k t 1) 2
@[simp] theorem o79_00 (k : Fin k0_t1_loop.trips) (t : Fin (k0_t2_loop k).trips) : k0_off79 k t 0#32 0 = 128 := congrFun (off79_eq k t 0) 0
@[simp] theorem o79_01 (k : Fin k0_t1_loop.trips) (t : Fin (k0_t2_loop k).trips) : k0_off79 k t 0#32 1 = 256 * (k.val + 2 * (1 + t.val) + 0) := congrFun (off79_eq k t 0) 1
@[simp] theorem o79_10 (k : Fin k0_t1_loop.trips) (t : Fin (k0_t2_loop k).trips) : k0_off79 k t 1#32 0 = 128 := congrFun (off79_eq k t 1) 0
@[simp] theorem o79_11 (k : Fin k0_t1_loop.trips) (t : Fin (k0_t2_loop k).trips) : k0_off79 k t 1#32 1 = 256 * (k.val + 2 * (1 + t.val) + 1) := congrFun (off79_eq k t 1) 1
@[simp] theorem o80_00 (k : Fin k0_t1_loop.trips) (t : Fin (k0_t2_loop k).trips) : k0_off80 k t 0#32 0 = 0 := congrFun (off80_eq k t 0) 0
@[simp] theorem o80_01 (k : Fin k0_t1_loop.trips) (t : Fin (k0_t2_loop k).trips) : k0_off80 k t 0#32 1 = 0 := congrFun (off80_eq k t 0) 1
@[simp] theorem o80_02 (k : Fin k0_t1_loop.trips) (t : Fin (k0_t2_loop k).trips) : k0_off80 k t 0#32 2 = 3 := congrFun (off80_eq k t 0) 2
@[simp] theorem o80_03 (k : Fin k0_t1_loop.trips) (t : Fin (k0_t2_loop k).trips) : k0_off80 k t 0#32 3 = 256 * (k.val + 2 * (1 + t.val) + 0) := congrFun (off80_eq k t 0) 3
@[simp] theorem o80_10 (k : Fin k0_t1_loop.trips) (t : Fin (k0_t2_loop k).trips) : k0_off80 k t 1#32 0 = 0 := congrFun (off80_eq k t 1) 0
@[simp] theorem o80_11 (k : Fin k0_t1_loop.trips) (t : Fin (k0_t2_loop k).trips) : k0_off80 k t 1#32 1 = 0 := congrFun (off80_eq k t 1) 1
@[simp] theorem o80_12 (k : Fin k0_t1_loop.trips) (t : Fin (k0_t2_loop k).trips) : k0_off80 k t 1#32 2 = 3 := congrFun (off80_eq k t 1) 2
@[simp] theorem o80_13 (k : Fin k0_t1_loop.trips) (t : Fin (k0_t2_loop k).trips) : k0_off80 k t 1#32 3 = 256 * (k.val + 2 * (1 + t.val) + 1) := congrFun (off80_eq k t 1) 3
@[simp] theorem o81_00 (k : Fin k0_t1_loop.trips) (t : Fin (k0_t2_loop k).trips) : k0_off81 k t 0#32 0 = 0 := congrFun (off81_eq k t 0) 0
@[simp] theorem o81_01 (k : Fin k0_t1_loop.trips) (t : Fin (k0_t2_loop k).trips) : k0_off81 k t 0#32 1 = 3 := congrFun (off81_eq k t 0) 1
@[simp] theorem o81_02 (k : Fin k0_t1_loop.trips) (t : Fin (k0_t2_loop k).trips) : k0_off81 k t 0#32 2 = 256 * (k.val + 2 * (1 + t.val) + 0) := congrFun (off81_eq k t 0) 2
@[simp] theorem o81_10 (k : Fin k0_t1_loop.trips) (t : Fin (k0_t2_loop k).trips) : k0_off81 k t 1#32 0 = 0 := congrFun (off81_eq k t 1) 0
@[simp] theorem o81_11 (k : Fin k0_t1_loop.trips) (t : Fin (k0_t2_loop k).trips) : k0_off81 k t 1#32 1 = 3 := congrFun (off81_eq k t 1) 1
@[simp] theorem o81_12 (k : Fin k0_t1_loop.trips) (t : Fin (k0_t2_loop k).trips) : k0_off81 k t 1#32 2 = 256 * (k.val + 2 * (1 + t.val) + 1) := congrFun (off81_eq k t 1) 2
@[simp] theorem o84_00 (k : Fin k0_t1_loop.trips) (t : Fin (k0_t2_loop k).trips) : k0_off84 k t 0#32 0 = 256 := congrFun (off84_eq k t 0) 0
@[simp] theorem o84_01 (k : Fin k0_t1_loop.trips) (t : Fin (k0_t2_loop k).trips) : k0_off84 k t 0#32 1 = 256 * (k.val + 2 * (1 + t.val) + 0) := congrFun (off84_eq k t 0) 1
@[simp] theorem o84_10 (k : Fin k0_t1_loop.trips) (t : Fin (k0_t2_loop k).trips) : k0_off84 k t 1#32 0 = 256 := congrFun (off84_eq k t 1) 0
@[simp] theorem o84_11 (k : Fin k0_t1_loop.trips) (t : Fin (k0_t2_loop k).trips) : k0_off84 k t 1#32 1 = 256 * (k.val + 2 * (1 + t.val) + 1) := congrFun (off84_eq k t 1) 1
@[simp] theorem o87_00 (k : Fin k0_t1_loop.trips) (t : Fin (k0_t2_loop k).trips) : k0_off87 k t 0#32 0 = 384 := congrFun (off87_eq k t 0) 0
@[simp] theorem o87_01 (k : Fin k0_t1_loop.trips) (t : Fin (k0_t2_loop k).trips) : k0_off87 k t 0#32 1 = 256 * (k.val + 2 * (1 + t.val) + 0) := congrFun (off87_eq k t 0) 1
@[simp] theorem o87_10 (k : Fin k0_t1_loop.trips) (t : Fin (k0_t2_loop k).trips) : k0_off87 k t 1#32 0 = 384 := congrFun (off87_eq k t 1) 0
@[simp] theorem o87_11 (k : Fin k0_t1_loop.trips) (t : Fin (k0_t2_loop k).trips) : k0_off87 k t 1#32 1 = 256 * (k.val + 2 * (1 + t.val) + 1) := congrFun (off87_eq k t 1) 1

end Cert.KernelIdeal.Gen

end
-- ==== Proof.Idx.lean ====
/- Arrays read at natural indices: a load, a store and a list of stores as functions of them. -/
module

public import Idealize.ShloMosaic.Lib.Pointwise
public import Idealize.ShloMosaic.Lib.Tactic

@[expose] public section

set_option maxRecDepth 16384

noncomputable section

namespace Cert.Proof.Mla

open Idealize.ShloMosaic

/-- An array of two axes at two natural indices, zero outside it. -/
def n2 {a b : ℕ} (X : (⟨2, ![a, b]⟩ : Shape).Idx → EReal) (r l : ℕ) : EReal :=
  if h : r < a ∧ l < b then X (ix2 ⟨r, h.1⟩ ⟨l, h.2⟩) else 0

def n3 {a b c : ℕ} (X : (⟨3, ![a, b, c]⟩ : Shape).Idx → EReal) (r l m : ℕ) : EReal :=
  if h : r < a ∧ l < b ∧ m < c then X (ix3 ⟨r, h.1⟩ ⟨l, h.2.1⟩ ⟨m, h.2.2⟩) else 0

def n4 {a b c d : ℕ} (X : (⟨4, ![a, b, c, d]⟩ : Shape).Idx → EReal) (r l m n : ℕ) : EReal :=
  if h : r < a ∧ l < b ∧ m < c ∧ n < d then X (ix4 ⟨r, h.1⟩ ⟨l, h.2.1⟩ ⟨m, h.2.2.1⟩ ⟨n, h.2.2.2⟩) else 0

section
variable {a b c d : ℕ}

theorem n2_ix (X : (⟨2, ![a, b]⟩ : Shape).Idx → EReal) (i : Fin a) (j : Fin b) : X (ix2 i j) = n2 X i j := by
  rw [n2, dif_pos ⟨i.2, j.2⟩]
theorem n3_ix (X : (⟨3, ![a, b, c]⟩ : Shape).Idx → EReal) (i : Fin a) (j : Fin b) (k : Fin c) : X (ix3 i j k) = n3 X i j k := by
  rw [n3, dif_pos ⟨i.2, j.2, k.2⟩]
theorem n4_ix (X : (⟨4, ![a, b, c, d]⟩ : Shape).Idx → EReal) (i : Fin a) (j : Fin b) (k : Fin c) (l : Fin d) :
    X (ix4 i j k l) = n4 X i j k l := by
  rw [n4, dif_pos ⟨i.2, j.2, k.2, l.2⟩]
end

section
variable {sig : RefSig} {κ : Kind} {sp : Space}

/-- The load of a rectangle, at an index. -/
theorem readAt2_bf16 {a b p q : ℕ} (v : View sig κ sp ⟨2, ![a, b]⟩ .bf16) (f : v.ty.Contents (Elt Ideal)) (off : Fin 2 → ℕ)
    (inb : ∀ x, off x + (![p, q] : Fin 2 → ℕ) x ≤ (![a, b] : Fin 2 → ℕ) x) (i : Fin p) (j : Fin q) :
    View.readAt (Elt Ideal) v (Rect.unit (s := ⟨2, ![a, b]⟩) off ![p, q] inb).toLoadRect f (ix2 i j)
      = n2 (v.read (Elt Ideal) f) (off 0 + i) (off 1 + j) := by
  have h0 : off 0 + p ≤ a := inb 0
  have h1 : off 1 + q ≤ b := inb 1
  rw [n2, dif_pos (by omega)]
  refine congrArg (v.read (Elt Ideal) f) (funext fun x => Fin.ext ?_)
  fin_cases x
  · show off 0 + 1 * i.val = off 0 + i.val; omega
  · show off 1 + 1 * j.val = off 1 + j.val; omega

theorem readCov2_bf16 {a b p q : ℕ} (v : View sig κ sp ⟨2, ![a, b]⟩ .bf16) (L : List (View.Piece (Elt Ideal) ⟨2, ![a, b]⟩ .bf16)) (off : Fin 2 → ℕ)
    (inb : ∀ x, off x + (![p, q] : Fin 2 → ℕ) x ≤ (![a, b] : Fin 2 → ℕ) x) (i : Fin p) (j : Fin q) :
    v.readCov L (Rect.unit (s := ⟨2, ![a, b]⟩) off ![p, q] inb).toLoadRect (ix2 i j)
      = n2 (v.read (Elt Ideal) (v.writes (Elt Ideal) v.junk L)) (off 0 + i) (off 1 + j) := readAt2_bf16 v _ off inb i j

/-- A store of a rectangle over earlier stores, read at an index. -/
theorem writes2_bf16 {a b p q : ℕ} (v : View sig κ sp ⟨2, ![a, b]⟩ .bf16) (f : v.ty.Contents (Elt Ideal)) (L : List (View.Piece (Elt Ideal) ⟨2, ![a, b]⟩ .bf16)) (off : Fin 2 → ℕ)
    (inb : ∀ x, off x + (![p, q] : Fin 2 → ℕ) x ≤ (![a, b] : Fin 2 → ℕ) x) (w : (⟨2, ![p, q]⟩ : Shape).Idx → EReal) (r l : ℕ) :
    n2 (v.read (Elt Ideal) (v.writes (Elt Ideal) f (⟨Rect.unit (s := ⟨2, ![a, b]⟩) off ![p, q] inb, w⟩ :: L))) r l
      = if (off 0 ≤ r ∧ r < off 0 + p) ∧ (off 1 ≤ l ∧ l < off 1 + q) then n2 w (r - off 0) (l - off 1) else n2 (v.read (Elt Ideal) (v.writes (Elt Ideal) f L)) r l := by
  have h0 : off 0 + p ≤ a := inb 0
  have h1 : off 1 + q ≤ b := inb 1
  by_cases hb : r < a ∧ l < b
  · rw [n2, dif_pos hb]
    split_ifs with hc
    · rw [n2, dif_pos (by omega)]
      refine View.read_writes_cons_hit_of_coords v f (Rect.unit (s := ⟨2, ![a, b]⟩) off ![p, q] inb) w L _ _ fun x => ?_
      fin_cases x
      · show r = off 0 + 1 * (r - off 0); omega
      · show l = off 1 + 1 * (l - off 1); omega
    · rw [n2, dif_pos hb]
      have hd : ¬ (off 0 ≤ r ∧ r < off 0 + p) ∨ ¬ (off 1 ≤ l ∧ l < off 1 + q) := by tauto
      rcases hd with hd | hd
      · exact View.read_writes_cons_miss_of_axis v f _ L _ 0 (off 0) p rfl rfl rfl (by show (r < _ ∨ _ ≤ r); omega)
      · exact View.read_writes_cons_miss_of_axis v f _ L _ 1 (off 1) q rfl rfl rfl (by show (l < _ ∨ _ ≤ l); omega)
  · rw [n2, dif_neg hb, if_neg (by omega), n2, dif_neg hb]

/-- Where the stored value is `G`'s, the store reads as `G`. -/
theorem writesG2_bf16 {a b p q : ℕ} (v : View sig κ sp ⟨2, ![a, b]⟩ .bf16) (f : v.ty.Contents (Elt Ideal)) (L : List (View.Piece (Elt Ideal) ⟨2, ![a, b]⟩ .bf16)) (off : Fin 2 → ℕ)
    (inb : ∀ x, off x + (![p, q] : Fin 2 → ℕ) x ≤ (![a, b] : Fin 2 → ℕ) x) (w : (⟨2, ![p, q]⟩ : Shape).Idx → EReal) (G : ℕ → ℕ → EReal)
    (hw : ∀ (i : Fin p) (j : Fin q), w (ix2 i j) = G (off 0 + i) (off 1 + j)) (r l : ℕ) :
    n2 (v.read (Elt Ideal) (v.writes (Elt Ideal) f (⟨Rect.unit (s := ⟨2, ![a, b]⟩) off ![p, q] inb, w⟩ :: L))) r l
      = if (off 0 ≤ r ∧ r < off 0 + p) ∧ (off 1 ≤ l ∧ l < off 1 + q) then G r l else n2 (v.read (Elt Ideal) (v.writes (Elt Ideal) f L)) r l := by
  rw [writes2_bf16]
  split_ifs with hc
  · rw [n2, dif_pos (by omega), hw]
    congr 1 <;> simp only [] <;> omega
  · rfl

/-- The load of a rectangle, at an index. -/
theorem readAt2_f32 {a b p q : ℕ} (v : View sig κ sp ⟨2, ![a, b]⟩ .f32) (f : v.ty.Contents (Elt Ideal)) (off : Fin 2 → ℕ)
    (inb : ∀ x, off x + (![p, q] : Fin 2 → ℕ) x ≤ (![a, b] : Fin 2 → ℕ) x) (i : Fin p) (j : Fin q) :
    View.readAt (Elt Ideal) v (Rect.unit (s := ⟨2, ![a, b]⟩) off ![p, q] inb).toLoadRect f (ix2 i j)
      = n2 (v.read (Elt Ideal) f) (off 0 + i) (off 1 + j) := by
  have h0 : off 0 + p ≤ a := inb 0
  have h1 : off 1 + q ≤ b := inb 1
  rw [n2, dif_pos (by omega)]
  refine congrArg (v.read (Elt Ideal) f) (funext fun x => Fin.ext ?_)
  fin_cases x
  · show off 0 + 1 * i.val = off 0 + i.val; omega
  · show off 1 + 1 * j.val = off 1 + j.val; omega

theorem readCov2_f32 {a b p q : ℕ} (v : View sig κ sp ⟨2, ![a, b]⟩ .f32) (L : List (View.Piece (Elt Ideal) ⟨2, ![a, b]⟩ .f32)) (off : Fin 2 → ℕ)
    (inb : ∀ x, off x + (![p, q] : Fin 2 → ℕ) x ≤ (![a, b] : Fin 2 → ℕ) x) (i : Fin p) (j : Fin q) :
    v.readCov L (Rect.unit (s := ⟨2, ![a, b]⟩) off ![p, q] inb).toLoadRect (ix2 i j)
      = n2 (v.read (Elt Ideal) (v.writes (Elt Ideal) v.junk L)) (off 0 + i) (off 1 + j) := readAt2_f32 v _ off inb i j

/-- A store of a rectangle over earlier stores, read at an index. -/
theorem writes2_f32 {a b p q : ℕ} (v : View sig κ sp ⟨2, ![a, b]⟩ .f32) (f : v.ty.Contents (Elt Ideal)) (L : List (View.Piece (Elt Ideal) ⟨2, ![a, b]⟩ .f32)) (off : Fin 2 → ℕ)
    (inb : ∀ x, off x + (![p, q] : Fin 2 → ℕ) x ≤ (![a, b] : Fin 2 → ℕ) x) (w : (⟨2, ![p, q]⟩ : Shape).Idx → EReal) (r l : ℕ) :
    n2 (v.read (Elt Ideal) (v.writes (Elt Ideal) f (⟨Rect.unit (s := ⟨2, ![a, b]⟩) off ![p, q] inb, w⟩ :: L))) r l
      = if (off 0 ≤ r ∧ r < off 0 + p) ∧ (off 1 ≤ l ∧ l < off 1 + q) then n2 w (r - off 0) (l - off 1) else n2 (v.read (Elt Ideal) (v.writes (Elt Ideal) f L)) r l := by
  have h0 : off 0 + p ≤ a := inb 0
  have h1 : off 1 + q ≤ b := inb 1
  by_cases hb : r < a ∧ l < b
  · rw [n2, dif_pos hb]
    split_ifs with hc
    · rw [n2, dif_pos (by omega)]
      refine View.read_writes_cons_hit_of_coords v f (Rect.unit (s := ⟨2, ![a, b]⟩) off ![p, q] inb) w L _ _ fun x => ?_
      fin_cases x
      · show r = off 0 + 1 * (r - off 0); omega
      · show l = off 1 + 1 * (l - off 1); omega
    · rw [n2, dif_pos hb]
      have hd : ¬ (off 0 ≤ r ∧ r < off 0 + p) ∨ ¬ (off 1 ≤ l ∧ l < off 1 + q) := by tauto
      rcases hd with hd | hd
      · exact View.read_writes_cons_miss_of_axis v f _ L _ 0 (off 0) p rfl rfl rfl (by show (r < _ ∨ _ ≤ r); omega)
      · exact View.read_writes_cons_miss_of_axis v f _ L _ 1 (off 1) q rfl rfl rfl (by show (l < _ ∨ _ ≤ l); omega)
  · rw [n2, dif_neg hb, if_neg (by omega), n2, dif_neg hb]

/-- Where the stored value is `G`'s, the store reads as `G`. -/
theorem writesG2_f32 {a b p q : ℕ} (v : View sig κ sp ⟨2, ![a, b]⟩ .f32) (f : v.ty.Contents (Elt Ideal)) (L : List (View.Piece (Elt Ideal) ⟨2, ![a, b]⟩ .f32)) (off : Fin 2 → ℕ)
    (inb : ∀ x, off x + (![p, q] : Fin 2 → ℕ) x ≤ (![a, b] : Fin 2 → ℕ) x) (w : (⟨2, ![p, q]⟩ : Shape).Idx → EReal) (G : ℕ → ℕ → EReal)
    (hw : ∀ (i : Fin p) (j : Fin q), w (ix2 i j) = G (off 0 + i) (off 1 + j)) (r l : ℕ) :
    n2 (v.read (Elt Ideal) (v.writes (Elt Ideal) f (⟨Rect.unit (s := ⟨2, ![a, b]⟩) off ![p, q] inb, w⟩ :: L))) r l
      = if (off 0 ≤ r ∧ r < off 0 + p) ∧ (off 1 ≤ l ∧ l < off 1 + q) then G r l else n2 (v.read (Elt Ideal) (v.writes (Elt Ideal) f L)) r l := by
  rw [writes2_f32]
  split_ifs with hc
  · rw [n2, dif_pos (by omega), hw]
    congr 1 <;> simp only [] <;> omega
  · rfl

/-- The load of a rectangle, at an index. -/
theorem readAt3_bf16 {a b c p q o : ℕ} (v : View sig κ sp ⟨3, ![a, b, c]⟩ .bf16) (f : v.ty.Contents (Elt Ideal)) (off : Fin 3 → ℕ)
    (inb : ∀ x, off x + (![p, q, o] : Fin 3 → ℕ) x ≤ (![a, b, c] : Fin 3 → ℕ) x) (i : Fin p) (j : Fin q) (k : Fin o) :
    View.readAt (Elt Ideal) v (Rect.unit (s := ⟨3, ![a, b, c]⟩) off ![p, q, o] inb).toLoadRect f (ix3 i j k)
      = n3 (v.read (Elt Ideal) f) (off 0 + i) (off 1 + j) (off 2 + k) := by
  have h0 : off 0 + p ≤ a := inb 0
  have h1 : off 1 + q ≤ b := inb 1
  have h2 : off 2 + o ≤ c := inb 2
  rw [n3, dif_pos (by omega)]
  refine congrArg (v.read (Elt Ideal) f) (funext fun x => Fin.ext ?_)
  fin_cases x
  · show off 0 + 1 * i.val = off 0 + i.val; omega
  · show off 1 + 1 * j.val = off 1 + j.val; omega
  · show off 2 + 1 * k.val = off 2 + k.val; omega

theorem readCov3_bf16 {a b c p q o : ℕ} (v : View sig κ sp ⟨3, ![a, b, c]⟩ .bf16) (L : List (View.Piece (Elt Ideal) ⟨3, ![a, b, c]⟩ .bf16)) (off : Fin 3 → ℕ)
    (inb : ∀ x, off x + (![p, q, o] : Fin 3 → ℕ) x ≤ (![a, b, c] : Fin 3 → ℕ) x) (i : Fin p) (j : Fin q) (k : Fin o) :
    v.readCov L (Rect.unit (s := ⟨3, ![a, b, c]⟩) off ![p, q, o] inb).toLoadRect (ix3 i j k)
      = n3 (v.read (Elt Ideal) (v.writes (Elt Ideal) v.junk L)) (off 0 + i) (off 1 + j) (off 2 + k) := readAt3_bf16 v _ off inb i j k

/-- A store of a rectangle over earlier stores, read at an index. -/
theorem writes3_bf16 {a b c p q o : ℕ} (v : View sig κ sp ⟨3, ![a, b, c]⟩ .bf16) (f : v.ty.Contents (Elt Ideal)) (L : List (View.Piece (Elt Ideal) ⟨3, ![a, b, c]⟩ .bf16)) (off : Fin 3 → ℕ)
    (inb : ∀ x, off x + (![p, q, o] : Fin 3 → ℕ) x ≤ (![a, b, c] : Fin 3 → ℕ) x) (w : (⟨3, ![p, q, o]⟩ : Shape).Idx → EReal) (r l m : ℕ) :
    n3 (v.read (Elt Ideal) (v.writes (Elt Ideal) f (⟨Rect.unit (s := ⟨3, ![a, b, c]⟩) off ![p, q, o] inb, w⟩ :: L))) r l m
      = if (off 0 ≤ r ∧ r < off 0 + p) ∧ (off 1 ≤ l ∧ l < off 1 + q) ∧ (off 2 ≤ m ∧ m < off 2 + o) then n3 w (r - off 0) (l - off 1) (m - off 2) else n3 (v.read (Elt Ideal) (v.writes (Elt Ideal) f L)) r l m := by
  have h0 : off 0 + p ≤ a := inb 0
  have h1 : off 1 + q ≤ b := inb 1
  have h2 : off 2 + o ≤ c := inb 2
  by_cases hb : r < a ∧ l < b ∧ m < c
  · rw [n3, dif_pos hb]
    split_ifs with hc
    · rw [n3, dif_pos (by omega)]
      refine View.read_writes_cons_hit_of_coords v f (Rect.unit (s := ⟨3, ![a, b, c]⟩) off ![p, q, o] inb) w L _ _ fun x => ?_
      fin_cases x
      · show r = off 0 + 1 * (r - off 0); omega
      · show l = off 1 + 1 * (l - off 1); omega
      · show m = off 2 + 1 * (m - off 2); omega
    · rw [n3, dif_pos hb]
      have hd : ¬ (off 0 ≤ r ∧ r < off 0 + p) ∨ ¬ (off 1 ≤ l ∧ l < off 1 + q) ∨ ¬ (off 2 ≤ m ∧ m < off 2 + o) := by tauto
      rcases hd with hd | hd | hd
      · exact View.read_writes_cons_miss_of_axis v f _ L _ 0 (off 0) p rfl rfl rfl (by show (r < _ ∨ _ ≤ r); omega)
      · exact View.read_writes_cons_miss_of_axis v f _ L _ 1 (off 1) q rfl rfl rfl (by show (l < _ ∨ _ ≤ l); omega)
      · exact View.read_writes_cons_miss_of_axis v f _ L _ 2 (off 2) o rfl rfl rfl (by show (m < _ ∨ _ ≤ m); omega)
  · rw [n3, dif_neg hb, if_neg (by omega), n3, dif_neg hb]

/-- Where the stored value is `G`'s, the store reads as `G`. -/
theorem writesG3_bf16 {a b c p q o : ℕ} (v : View sig κ sp ⟨3, ![a, b, c]⟩ .bf16) (f : v.ty.Contents (Elt Ideal)) (L : List (View.Piece (Elt Ideal) ⟨3, ![a, b, c]⟩ .bf16)) (off : Fin 3 → ℕ)
    (inb : ∀ x, off x + (![p, q, o] : Fin 3 → ℕ) x ≤ (![a, b, c] : Fin 3 → ℕ) x) (w : (⟨3, ![p, q, o]⟩ : Shape).Idx → EReal) (G : ℕ → ℕ → ℕ → EReal)
    (hw : ∀ (i : Fin p) (j : Fin q) (k : Fin o), w (ix3 i j k) = G (off 0 + i) (off 1 + j) (off 2 + k)) (r l m : ℕ) :
    n3 (v.read (Elt Ideal) (v.writes (Elt Ideal) f (⟨Rect.unit (s := ⟨3, ![a, b, c]⟩) off ![p, q, o] inb, w⟩ :: L))) r l m
      = if (off 0 ≤ r ∧ r < off 0 + p) ∧ (off 1 ≤ l ∧ l < off 1 + q) ∧ (off 2 ≤ m ∧ m < off 2 + o) then G r l m else n3 (v.read (Elt Ideal) (v.writes (Elt Ideal) f L)) r l m := by
  rw [writes3_bf16]
  split_ifs with hc
  · rw [n3, dif_pos (by omega), hw]
    congr 1 <;> simp only [] <;> omega
  · rfl

/-- The load of a rectangle, at an index. -/
theorem readAt3_f32 {a b c p q o : ℕ} (v : View sig κ sp ⟨3, ![a, b, c]⟩ .f32) (f : v.ty.Contents (Elt Ideal)) (off : Fin 3 → ℕ)
    (inb : ∀ x, off x + (![p, q, o] : Fin 3 → ℕ) x ≤ (![a, b, c] : Fin 3 → ℕ) x) (i : Fin p) (j : Fin q) (k : Fin o) :
    View.readAt (Elt Ideal) v (Rect.unit (s := ⟨3, ![a, b, c]⟩) off ![p, q, o] inb).toLoadRect f (ix3 i j k)
      = n3 (v.read (Elt Ideal) f) (off 0 + i) (off 1 + j) (off 2 + k) := by
  have h0 : off 0 + p ≤ a := inb 0
  have h1 : off 1 + q ≤ b := inb 1
  have h2 : off 2 + o ≤ c := inb 2
  rw [n3, dif_pos (by omega)]
  refine congrArg (v.read (Elt Ideal) f) (funext fun x => Fin.ext ?_)
  fin_cases x
  · show off 0 + 1 * i.val = off 0 + i.val; omega
  · show off 1 + 1 * j.val = off 1 + j.val; omega
  · show off 2 + 1 * k.val = off 2 + k.val; omega

theorem readCov3_f32 {a b c p q o : ℕ} (v : View sig κ sp ⟨3, ![a, b, c]⟩ .f32) (L : List (View.Piece (Elt Ideal) ⟨3, ![a, b, c]⟩ .f32)) (off : Fin 3 → ℕ)
    (inb : ∀ x, off x + (![p, q, o] : Fin 3 → ℕ) x ≤ (![a, b, c] : Fin 3 → ℕ) x) (i : Fin p) (j : Fin q) (k : Fin o) :
    v.readCov L (Rect.unit (s := ⟨3, ![a, b, c]⟩) off ![p, q, o] inb).toLoadRect (ix3 i j k)
      = n3 (v.read (Elt Ideal) (v.writes (Elt Ideal) v.junk L)) (off 0 + i) (off 1 + j) (off 2 + k) := readAt3_f32 v _ off inb i j k

/-- A store of a rectangle over earlier stores, read at an index. -/
theorem writes3_f32 {a b c p q o : ℕ} (v : View sig κ sp ⟨3, ![a, b, c]⟩ .f32) (f : v.ty.Contents (Elt Ideal)) (L : List (View.Piece (Elt Ideal) ⟨3, ![a, b, c]⟩ .f32)) (off : Fin 3 → ℕ)
    (inb : ∀ x, off x + (![p, q, o] : Fin 3 → ℕ) x ≤ (![a, b, c] : Fin 3 → ℕ) x) (w : (⟨3, ![p, q, o]⟩ : Shape).Idx → EReal) (r l m : ℕ) :
    n3 (v.read (Elt Ideal) (v.writes (Elt Ideal) f (⟨Rect.unit (s := ⟨3, ![a, b, c]⟩) off ![p, q, o] inb, w⟩ :: L))) r l m
      = if (off 0 ≤ r ∧ r < off 0 + p) ∧ (off 1 ≤ l ∧ l < off 1 + q) ∧ (off 2 ≤ m ∧ m < off 2 + o) then n3 w (r - off 0) (l - off 1) (m - off 2) else n3 (v.read (Elt Ideal) (v.writes (Elt Ideal) f L)) r l m := by
  have h0 : off 0 + p ≤ a := inb 0
  have h1 : off 1 + q ≤ b := inb 1
  have h2 : off 2 + o ≤ c := inb 2
  by_cases hb : r < a ∧ l < b ∧ m < c
  · rw [n3, dif_pos hb]
    split_ifs with hc
    · rw [n3, dif_pos (by omega)]
      refine View.read_writes_cons_hit_of_coords v f (Rect.unit (s := ⟨3, ![a, b, c]⟩) off ![p, q, o] inb) w L _ _ fun x => ?_
      fin_cases x
      · show r = off 0 + 1 * (r - off 0); omega
      · show l = off 1 + 1 * (l - off 1); omega
      · show m = off 2 + 1 * (m - off 2); omega
    · rw [n3, dif_pos hb]
      have hd : ¬ (off 0 ≤ r ∧ r < off 0 + p) ∨ ¬ (off 1 ≤ l ∧ l < off 1 + q) ∨ ¬ (off 2 ≤ m ∧ m < off 2 + o) := by tauto
      rcases hd with hd | hd | hd
      · exact View.read_writes_cons_miss_of_axis v f _ L _ 0 (off 0) p rfl rfl rfl (by show (r < _ ∨ _ ≤ r); omega)
      · exact View.read_writes_cons_miss_of_axis v f _ L _ 1 (off 1) q rfl rfl rfl (by show (l < _ ∨ _ ≤ l); omega)
      · exact View.read_writes_cons_miss_of_axis v f _ L _ 2 (off 2) o rfl rfl rfl (by show (m < _ ∨ _ ≤ m); omega)
  · rw [n3, dif_neg hb, if_neg (by omega), n3, dif_neg hb]

/-- Where the stored value is `G`'s, the store reads as `G`. -/
theorem writesG3_f32 {a b c p q o : ℕ} (v : View sig κ sp ⟨3, ![a, b, c]⟩ .f32) (f : v.ty.Contents (Elt Ideal)) (L : List (View.Piece (Elt Ideal) ⟨3, ![a, b, c]⟩ .f32)) (off : Fin 3 → ℕ)
    (inb : ∀ x, off x + (![p, q, o] : Fin 3 → ℕ) x ≤ (![a, b, c] : Fin 3 → ℕ) x) (w : (⟨3, ![p, q, o]⟩ : Shape).Idx → EReal) (G : ℕ → ℕ → ℕ → EReal)
    (hw : ∀ (i : Fin p) (j : Fin q) (k : Fin o), w (ix3 i j k) = G (off 0 + i) (off 1 + j) (off 2 + k)) (r l m : ℕ) :
    n3 (v.read (Elt Ideal) (v.writes (Elt Ideal) f (⟨Rect.unit (s := ⟨3, ![a, b, c]⟩) off ![p, q, o] inb, w⟩ :: L))) r l m
      = if (off 0 ≤ r ∧ r < off 0 + p) ∧ (off 1 ≤ l ∧ l < off 1 + q) ∧ (off 2 ≤ m ∧ m < off 2 + o) then G r l m else n3 (v.read (Elt Ideal) (v.writes (Elt Ideal) f L)) r l m := by
  rw [writes3_f32]
  split_ifs with hc
  · rw [n3, dif_pos (by omega), hw]
    congr 1 <;> simp only [] <;> omega
  · rfl

/-- The load of a rectangle, at an index. -/
theorem readAt4_bf16 {a b c d p q o u : ℕ} (v : View sig κ sp ⟨4, ![a, b, c, d]⟩ .bf16) (f : v.ty.Contents (Elt Ideal)) (off : Fin 4 → ℕ)
    (inb : ∀ x, off x + (![p, q, o, u] : Fin 4 → ℕ) x ≤ (![a, b, c, d] : Fin 4 → ℕ) x) (i : Fin p) (j : Fin q) (k : Fin o) (l : Fin u) :
    View.readAt (Elt Ideal) v (Rect.unit (s := ⟨4, ![a, b, c, d]⟩) off ![p, q, o, u] inb).toLoadRect f (ix4 i j k l)
      = n4 (v.read (Elt Ideal) f) (off 0 + i) (off 1 + j) (off 2 + k) (off 3 + l) := by
  have h0 : off 0 + p ≤ a := inb 0
  have h1 : off 1 + q ≤ b := inb 1
  have h2 : off 2 + o ≤ c := inb 2
  have h3 : off 3 + u ≤ d := inb 3
  rw [n4, dif_pos (by omega)]
  refine congrArg (v.read (Elt Ideal) f) (funext fun x => Fin.ext ?_)
  fin_cases x
  · show off 0 + 1 * i.val = off 0 + i.val; omega
  · show off 1 + 1 * j.val = off 1 + j.val; omega
  · show off 2 + 1 * k.val = off 2 + k.val; omega
  · show off 3 + 1 * l.val = off 3 + l.val; omega

theorem readCov4_bf16 {a b c d p q o u : ℕ} (v : View sig κ sp ⟨4, ![a, b, c, d]⟩ .bf16) (L : List (View.Piece (Elt Ideal) ⟨4, ![a, b, c, d]⟩ .bf16)) (off : Fin 4 → ℕ)
    (inb : ∀ x, off x + (![p, q, o, u] : Fin 4 → ℕ) x ≤ (![a, b, c, d] : Fin 4 → ℕ) x) (i : Fin p) (j : Fin q) (k : Fin o) (l : Fin u) :
    v.readCov L (Rect.unit (s := ⟨4, ![a, b, c, d]⟩) off ![p, q, o, u] inb).toLoadRect (ix4 i j k l)
      = n4 (v.read (Elt Ideal) (v.writes (Elt Ideal) v.junk L)) (off 0 + i) (off 1 + j) (off 2 + k) (off 3 + l) := readAt4_bf16 v _ off inb i j k l

/-- The load of a rectangle, at an index. -/
theorem readAt4_f32 {a b c d p q o u : ℕ} (v : View sig κ sp ⟨4, ![a, b, c, d]⟩ .f32) (f : v.ty.Contents (Elt Ideal)) (off : Fin 4 → ℕ)
    (inb : ∀ x, off x + (![p, q, o, u] : Fin 4 → ℕ) x ≤ (![a, b, c, d] : Fin 4 → ℕ) x) (i : Fin p) (j : Fin q) (k : Fin o) (l : Fin u) :
    View.readAt (Elt Ideal) v (Rect.unit (s := ⟨4, ![a, b, c, d]⟩) off ![p, q, o, u] inb).toLoadRect f (ix4 i j k l)
      = n4 (v.read (Elt Ideal) f) (off 0 + i) (off 1 + j) (off 2 + k) (off 3 + l) := by
  have h0 : off 0 + p ≤ a := inb 0
  have h1 : off 1 + q ≤ b := inb 1
  have h2 : off 2 + o ≤ c := inb 2
  have h3 : off 3 + u ≤ d := inb 3
  rw [n4, dif_pos (by omega)]
  refine congrArg (v.read (Elt Ideal) f) (funext fun x => Fin.ext ?_)
  fin_cases x
  · show off 0 + 1 * i.val = off 0 + i.val; omega
  · show off 1 + 1 * j.val = off 1 + j.val; omega
  · show off 2 + 1 * k.val = off 2 + k.val; omega
  · show off 3 + 1 * l.val = off 3 + l.val; omega

theorem readCov4_f32 {a b c d p q o u : ℕ} (v : View sig κ sp ⟨4, ![a, b, c, d]⟩ .f32) (L : List (View.Piece (Elt Ideal) ⟨4, ![a, b, c, d]⟩ .f32)) (off : Fin 4 → ℕ)
    (inb : ∀ x, off x + (![p, q, o, u] : Fin 4 → ℕ) x ≤ (![a, b, c, d] : Fin 4 → ℕ) x) (i : Fin p) (j : Fin q) (k : Fin o) (l : Fin u) :
    v.readCov L (Rect.unit (s := ⟨4, ![a, b, c, d]⟩) off ![p, q, o, u] inb).toLoadRect (ix4 i j k l)
      = n4 (v.read (Elt Ideal) (v.writes (Elt Ideal) v.junk L)) (off 0 + i) (off 1 + j) (off 2 + k) (off 3 + l) := readAt4_f32 v _ off inb i j k l

end

end Cert.Proof.Mla

end
-- ==== Proof.Calc.lean ====
/- The entries of the attention weights and of their gradients, and what one pair of tiles adds to each gradient. -/
module

public import proofs.«01_k».proof.Proof.Idx

@[expose] public section

set_option maxRecDepth 16384

noncomputable section

namespace Cert.Proof.Mla

open Idealize.ShloMosaic

variable (K V Q KT L D : ℕ → ℕ → EReal) (DT : ℕ → ℕ → ℕ → EReal)

/-- The weight of key `j` for query `i` in head `h`, from the base-2 scores and the row's log-sum. -/
def pF (h j i : ℕ) : EReal :=
  Ideal.exp2 ((∑ x : Fin 128, K j (128 * h + x.val) * Q i (128 * h + x.val)) - L h i)

/-- The same, causal. -/
def pM (h j i : ℕ) : EReal := if j ≤ i then pF K Q L h j i else 0

/-- The gradient of the weight's score. -/
def dM (h j i : ℕ) : EReal :=
  pM K Q L h j i * ((∑ x : Fin 128, V j (128 * (h / 2) + x.val) * DT h x.val i) - D h i)

/-- What query tile `q` adds to the key gradient's entry `(r, l)`. -/
def tK (q r l : ℕ) : EReal := ∑ x : Fin 256, dM K V Q L D DT (l / 128) r (256 * q + x.val) * Q (256 * q + x.val) l

/-- What key tile `k` adds to the transposed query gradient's entry `(r, i)`. -/
def tQ (k r i : ℕ) : EReal := ∑ y : Fin 256, KT r (256 * k + y.val) * dM K V Q L D DT (r / 128) (256 * k + y.val) i

/-- What query tile `q` adds to the transposed value gradient's entry `(w, y)` of key tile `k`. -/
def tV (k q w y : ℕ) : EReal :=
  ∑ x : Fin 256, DT (w / 64) (w % 128) (256 * q + x.val) * pM K Q L (w / 64) (256 * k + y) (256 * q + x.val)

end Cert.Proof.Mla

end
-- ==== Proof.Mask.lean ====
/- The causal comparison of the diagonal tile, as an order of natural numbers. -/
module

public import proofs.«01_k».proof.Proof.Run
public import proofs.«01_k».proof.Proof.Coord
public import proofs.«01_k».proof.Proof.Calc

@[expose] public section

set_option maxRecDepth 16384

noncomputable section

namespace Cert.Proof.Mla

open Cert.KernelIdeal Cert.KernelIdeal.Gen
open Idealize.ShloMosaic Idealize.ShloMosaic.TcCoe Idealize.ShloMosaic.Tactic

theorem word_add (a b : ℕ) : IntOp.addi (BitVec.ofNat 32 a) (BitVec.ofNat 32 b) = BitVec.ofNat 32 (a + b) :=
  (BitVec.ofNat_add ..).symm

theorem word_le (a b : ℕ) (ha : a < 2 ^ 31) (hb : b < 2 ^ 31) :
    IntOp.cmpi .sle (BitVec.ofNat 32 a) (BitVec.ofNat 32 b) = if a ≤ b then 1#1 else 0#1 := by
  have ea : (BitVec.ofNat 32 a).toInt = a := by
    rw [BitVec.toInt_eq_toNat_of_lt] <;> simp only [BitVec.toNat_ofNat] <;> omega
  have eb : (BitVec.ofNat 32 b).toInt = b := by
    rw [BitVec.toInt_eq_toNat_of_lt] <;> simp only [BitVec.toNat_ofNat] <;> omega
  unfold IntOp.cmpi
  simp only [BitVec.sle, ea, eb]
  split_ifs with h
  · simp [h]
  · simp [h]

theorem base_word (k : Fin k0_t1_loop.trips) :
    Scalar.muli (Scf.iv (0#32) (1#32) k.val) (256#32) = BitVec.ofNat 32 (256 * k.val) :=
  (by decide : ∀ k : Fin 8, Scalar.muli (Scf.iv (0#32) (1#32) k.val) (256#32) = BitVec.ofNat 32 (256 * k.val)) k

/-- The diagonal tile keeps the entries on and below the diagonal. -/
theorem sel_le (k : Fin k0_t1_loop.trips) (j x : Fin 256) (a b : EReal) :
    Scalar.select (IntOp.cmpi CmpIPredicate.sle
        (IntOp.addi (Scalar.muli (Scf.iv (0#32) (1#32) k.val) (256#32)) (BitVec.ofNat 32 j.val))
        (IntOp.addi (Scalar.muli (Scf.iv (0#32) (1#32) k.val) (256#32)) (BitVec.ofNat 32 x.val))) a b
      = if 256 * k.val + j.val ≤ 256 * k.val + x.val then a else b := by
  have hk := k_lt k
  rw [base_word, word_add, word_add, word_le _ _ (by omega) (by omega)]
  split_ifs <;> rfl

section
variable {sg : RefSig} {κ : Kind} {sp : Space}

/-- One more store over earlier ones, written as a store, where its value is `G`'s. -/
theorem wG2 {a b p q : ℕ} (v : View sg κ sp ⟨2, ![a, b]⟩ .f32) (f : v.ty.Contents (Elt Ideal)) (L : List (View.Piece (Elt Ideal) ⟨2, ![a, b]⟩ .f32)) (off : Fin 2 → ℕ)
    (inb : ∀ x, off x + (![p, q] : Fin 2 → ℕ) x ≤ (![a, b] : Fin 2 → ℕ) x) (w : (⟨2, ![p, q]⟩ : Shape).Idx → EReal) (G : ℕ → ℕ → EReal)
    (hw : ∀ (i : Fin p) (j : Fin q), w (ix2 i j) = G (off 0 + i) (off 1 + j)) (r l : ℕ) :
    n2 (v.read (Elt Ideal) (View.write (Elt Ideal) (v.slice (Rect.unit (s := ⟨2, ![a, b]⟩) off ![p, q] inb)) (v.writes (Elt Ideal) f L) w Finset.univ)) r l
      = if (off 0 ≤ r ∧ r < off 0 + p) ∧ (off 1 ≤ l ∧ l < off 1 + q) then G r l else n2 (v.read (Elt Ideal) (v.writes (Elt Ideal) f L)) r l :=
  writesG2_f32 v f L off inb w G hw r l

theorem wG3 {a b c p q o : ℕ} (v : View sg κ sp ⟨3, ![a, b, c]⟩ .f32) (f : v.ty.Contents (Elt Ideal)) (L : List (View.Piece (Elt Ideal) ⟨3, ![a, b, c]⟩ .f32)) (off : Fin 3 → ℕ)
    (inb : ∀ x, off x + (![p, q, o] : Fin 3 → ℕ) x ≤ (![a, b, c] : Fin 3 → ℕ) x) (w : (⟨3, ![p, q, o]⟩ : Shape).Idx → EReal) (G : ℕ → ℕ → ℕ → EReal)
    (hw : ∀ (i : Fin p) (j : Fin q) (k : Fin o), w (ix3 i j k) = G (off 0 + i) (off 1 + j) (off 2 + k)) (r l m : ℕ) :
    n3 (v.read (Elt Ideal) (View.write (Elt Ideal) (v.slice (Rect.unit (s := ⟨3, ![a, b, c]⟩) off ![p, q, o] inb)) (v.writes (Elt Ideal) f L) w Finset.univ)) r l m
      = if (off 0 ≤ r ∧ r < off 0 + p) ∧ (off 1 ≤ l ∧ l < off 1 + q) ∧ (off 2 ≤ m ∧ m < off 2 + o) then G r l m else n3 (v.read (Elt Ideal) (v.writes (Elt Ideal) f L)) r l m :=
  writesG3_f32 v f L off inb w G hw r l m

end

end Cert.Proof.Mla

end
-- ==== Proof.Ref.lean ====
/- The reference's gradients, layer by layer, at an index. -/
module

public import proofs.«01_k».proof.Proof.Gen.ReferenceIdeal.Run
public import proofs.«01_k».proof.Proof.Mask
public import Idealize.ShloMosaic.Lib.Pointwise

@[expose] public section

set_option maxRecDepth 16384

noncomputable section

namespace Cert.Proof.MlaRef

open Cert.ReferenceIdeal Cert.ReferenceIdeal.Gen
open Idealize.ShloMosaic Idealize.ShloMosaic.TcCoe Idealize.ShloMosaic.Tactic

abbrev C32 (S : Shape) := FVec Ideal S .f32
abbrev C16 (S : Shape) := FVec Ideal S .bf16

/-- The masked scores. -/
def lT (q : C32 S8192x1024) (k : C16 S8192x1024) : C32 S4x8x2048x2048 :=
  select (broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (Host.dotGeneral dot_S4x2048x8x128_S4x2048x8x128_S4x8x2048x2048_3_3_1_1_02_02 none (shapeCast S4x2048x8x128 (mulf q (broadcastInDim S8192x1024 ![] bcast_S_S8192x1024 (constant S_ .f32 0x3DD105EC#32))) shapeCasts_S8192x1024_S4x2048x8x128) (shapeCast _ (extf .f32 k bitsLt_bf16_f32) shapeCasts_S8192x1024_S4x2048x8x128)) (broadcastInDim S4x8x2048x2048 ![] bcast_S_S4x8x2048x2048 (constant S_ .f32 0xFF800000#32))
/-- Their rows' maxima. -/
def lM (t : C32 S4x8x2048x2048) : C32 S4x8x2048 :=
  maximumf (broadcastInDim S4x8x2048 ![] bcast_S_S4x8x2048 (constant S_ .f32 0xFF800000#32)) (Host.reduce FloatOps.maximumf t (constant S_ .f32 0xFF800000#32) reducesTo_S4x8x2048x2048_S4x8x2048_d3 h_S_)
/-- The exponentials. -/
def lE (t : C32 S4x8x2048x2048) (x : C32 S4x8x2048) : C32 S4x8x2048x2048 :=
  Host.exp (subf t (broadcastInDim S4x8x2048x2048 ![0, 1, 2, 3] bcast_S4x8x2048x1_S4x8x2048x2048_0_1_2_3 (broadcastInDim S4x8x2048x1 ![0, 1, 2] bcast_S4x8x2048_S4x8x2048x1_0_1_2 x)))
/-- The rows' sums. -/
def lL (e : C32 S4x8x2048x2048) : C32 S4x8x2048 := Host.reduceAdd e (constant S_ .f32 0x00000000#32) reducesTo_S4x8x2048x2048_S4x8x2048_d3 h_S_
/-- The products of the output's gradient with the values. -/
def lP (o v : C16 S8192x512) : C32 S4x8x2048x2048 :=
  Host.dotGeneral dot_S4x8x64x2048_S4x2048x8x64_S4x8x2048x2048_2_3_3_1_01_02 none (transpose S4x8x64x2048 [0, 2, 3, 1] (shapeCast _ (extf .f32 o bitsLt_bf16_f32) shapeCasts_S8192x512_S4x2048x8x64) transposes_S4x2048x8x64_S4x8x64x2048_0_2_3_1) (shapeCast _ (extf .f32 v bitsLt_bf16_f32) shapeCasts_S8192x512_S4x2048x8x64)
/-- The rows' correction. -/
def lN (p e : C32 S4x8x2048x2048) (l : C32 S4x8x2048) : C32 S4x8x2048 :=
  Host.reduceAdd (Host.negf (shapeCast _ (Host.reduceAdd (mulf (mulf p (broadcastInDim S4x8x2048x2048 ![0, 1, 2, 3] bcast_S4x8x2048x1_S4x8x2048x2048_0_1_2_3 (Host.divf (broadcastInDim S4x8x2048x1 ![] bcast_S_S4x8x2048x1 (constant S_ .f32 0x3F800000#32)) (mulf (broadcastInDim S4x8x2048x1 ![0, 1, 2] bcast_S4x8x2048_S4x8x2048x1_0_1_2 l) (broadcastInDim S4x8x2048x1 ![0, 1, 2] bcast_S4x8x2048_S4x8x2048x1_0_1_2 l))))) e) (constant S_ .f32 0x00000000#32) reducesTo_S4x8x2048x2048_S4x8x2048_d3 h_S_) shapeCasts_S4x8x2048_S4x8x2048x1)) (constant S_ .f32 0x00000000#32) reducesTo_S4x8x2048x1_S4x8x2048_d3 h_S_
/-- The scores' gradient. -/
def lG (p e : C32 S4x8x2048x2048) (l n : C32 S4x8x2048) : C32 S4x8x2048x2048 :=
  select (broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (addf (Host.divf p (broadcastInDim S4x8x2048x2048 ![0, 1, 2, 3] bcast_S4x8x2048x1_S4x8x2048x2048_0_1_2_3 (broadcastInDim S4x8x2048x1 ![0, 1, 2] bcast_S4x8x2048_S4x8x2048x1_0_1_2 l))) (broadcastInDim S4x8x2048x2048 ![0, 1, 2] bcast_S4x8x2048_S4x8x2048x2048_0_1_2 n)) e) (broadcastInDim S4x8x2048x2048 ![] bcast_S_S4x8x2048x2048 (constant S_ .f32 0x00000000#32))
/-- The gradient of the queries, of the keys, of the values. -/
def lQ (g : C32 S4x8x2048x2048) (k : C16 S8192x1024) : C32 S8192x1024 :=
  shapeCast _ (transpose S4x2048x8x128 [0, 2, 1, 3] (Host.dotGeneral dot_S4x8x2048x2048_S4x2048x8x128_S4x8x2048x128_3_1_2_3_01_02 none g (shapeCast _ (extf .f32 k bitsLt_bf16_f32) shapeCasts_S8192x1024_S4x2048x8x128)) transposes_S4x8x2048x128_S4x2048x8x128_0_2_1_3) shapeCasts_S4x2048x8x128_S8192x1024
def lK (g : C32 S4x8x2048x2048) (q : C32 S8192x1024) : C32 S8192x1024 :=
  Host.divf (shapeCast _ (transpose S4x2048x8x128 [0, 2, 1, 3] (Host.dotGeneral dot_S4x8x2048x2048_S4x2048x8x128_S4x8x2048x128_2_1_3_3_01_02 none g (shapeCast S4x2048x8x128 (mulf q (broadcastInDim S8192x1024 ![] bcast_S_S8192x1024 (constant S_ .f32 0x3DD105EC#32))) shapeCasts_S8192x1024_S4x2048x8x128)) transposes_S4x8x2048x128_S4x2048x8x128_0_2_1_3) shapeCasts_S4x2048x8x128_S8192x1024) (broadcastInDim S8192x1024 ![] bcast_S_S8192x1024 (Host.log (constant S_ .f32 0x40000000#32)))
def lV (o : C16 S8192x512) (e : C32 S4x8x2048x2048) (l : C32 S4x8x2048) : C32 S8192x512 :=
  shapeCast _ (transpose S4x2048x8x64 [0, 3, 1, 2] (Host.dotGeneral dot_S4x8x64x2048_S4x8x2048x2048_S4x8x64x2048_3_2_2_3_01_01 none (transpose S4x8x64x2048 [0, 2, 3, 1] (shapeCast _ (extf .f32 o bitsLt_bf16_f32) shapeCasts_S8192x512_S4x2048x8x64) transposes_S4x2048x8x64_S4x8x64x2048_0_2_3_1) (Host.divf e (broadcastInDim S4x8x2048x2048 ![0, 1, 2, 3] bcast_S4x8x2048x1_S4x8x2048x2048_0_1_2_3 (broadcastInDim S4x8x2048x1 ![0, 1, 2] bcast_S4x8x2048_S4x8x2048x1_0_1_2 l)))) transposes_S4x8x64x2048_S4x2048x8x64_0_3_1_2) shapeCasts_S4x2048x8x64_S8192x512

section
variable (m : (ℓ : Loc nD τ sig) → Buf (Elt Ideal) ℓ) (c : Dev nD)
abbrev aq : C32 S8192x1024 := m ((c.tc : Thread nD τ).loc main_arg0)
abbrev ak : C16 S8192x1024 := m ((c.tc : Thread nD τ).loc main_arg1)
abbrev av : C16 S8192x512 := m ((c.tc : Thread nD τ).loc main_arg2)
abbrev ao : C16 S8192x512 := m ((c.tc : Thread nD τ).loc main_arg3)
end

/-- The exponentials, the rows' sums and the scores' gradient of four arguments. -/
def rE (q : C32 S8192x1024) (k : C16 S8192x1024) : C32 S4x8x2048x2048 := lE (lT q k) (lM (lT q k))
def rL (q : C32 S8192x1024) (k : C16 S8192x1024) : C32 S4x8x2048 := lL (rE q k)
def rG (q : C32 S8192x1024) (k : C16 S8192x1024) (v o : C16 S8192x512) : C32 S4x8x2048x2048 :=
  lG (lP o v) (rE q k) (rL q k) (lN (lP o v) (rE q k) (rL q k))

theorem res72 (m : (ℓ : Loc nD τ sig) → Buf (Elt Ideal) ℓ) (c : Dev nD) : Value.res_main_v72 m c = lQ (rG (aq m c) (ak m c) (av m c) (ao m c)) (ak m c) := by
  unfold Value.res_main_v72 lQ rG lG lN lP rL rE lL lE lM lT
  rfl
theorem res76 (m : (ℓ : Loc nD τ sig) → Buf (Elt Ideal) ℓ) (c : Dev nD) : Value.res_main_v76 m c = lK (rG (aq m c) (ak m c) (av m c) (ao m c)) (aq m c) := by
  unfold Value.res_main_v76 lK rG lG lN lP rL rE lL lE lM lT
  rfl
theorem res77 (m : (ℓ : Loc nD τ sig) → Buf (Elt Ideal) ℓ) (c : Dev nD) : Value.res_main_v77 m c = lV (ao m c) (rE (aq m c) (ak m c)) (rL (aq m c) (ak m c)) := by
  unfold Value.res_main_v77 lV rL rE lL lE lM lT
  rfl

variable (q : C32 S8192x1024) (k : C16 S8192x1024) (v o : C16 S8192x512)
  (t e p : C32 S4x8x2048x2048) (x l n : C32 S4x8x2048) (b : Fin 4) (h : Fin 8) (i j : Fin 2048)

theorem sel_causal (i j : Fin 2048) (x y : EReal) :
    Scalar.select (IntOp.cmpi CmpIPredicate.sle (BitVec.ofNat 32 j.val) (BitVec.ofNat 32 i.val)) x y = if j.val ≤ i.val then x else y := by
  rw [Mla.word_le _ _ (by have := j.2; omega) (by have := i.2; omega)]
  split_ifs <;> rfl

theorem ninf : Ideal.ofBits .f32 0xFF800000#32 = ⊥ := by
  simp [Ideal.ofBits, Ideal.ieee]
theorem two : Ideal.ofBits .f32 0x40000000#32 = ((2 : ℝ) : EReal) := by
  simp [Ideal.ofBits, Ideal.ieee, -EReal.coe_mul]
  norm_num
theorem scale : ∃ s : ℝ, Ideal.ofBits .f32 0x3DD105EC#32 = (s : EReal) := by
  simp [Ideal.ofBits, Ideal.ieee, -EReal.coe_mul]

theorem max_at {n0 n1 n2 n3 : ℕ} (v : FVec Ideal (⟨4, ![n0, n1, n2, n3]⟩ : Shape) .f32) (c : FVec Ideal S_ .f32)
    (h : Shape.ReducesTo (⟨4, ![n0, n1, n2, n3]⟩ : Shape) [3] (⟨3, ![n0, n1, n2]⟩ : Shape)) (h' : 0 < S_.numel) (b : Fin n0) (a : Fin n1) (i : Fin n2) :
    Host.reduce FloatOps.maximumf v c h h' (ix3 b a i) = Finset.univ.fold max (c (Shape.Idx.first h')) fun k : Fin n3 => v (ix4 b a i k) := by
  simp only [pointwise]

/-- The causal score at an index. -/
def scr (q : C32 S8192x1024) (k : C16 S8192x1024) (b : Fin 4) (h : Fin 8) (i j : Fin 2048) : EReal :=
  ∑ x : Fin 128, q (ix2 ⟨b.val * 2048 + i.val, by omega⟩ ⟨h.val * 128 + x.val, by omega⟩) * Ideal.ofBits FTy.f32 0x3DD105EC#32
    * k (ix2 ⟨b.val * 2048 + j.val, by omega⟩ ⟨h.val * 128 + x.val, by omega⟩)

theorem lT_at : lT q k (ix4 b h i j) = if j.val ≤ i.val then scr q k b h i j else ⊥ := by
  unfold lT
  pointwise
  rw [sel_causal, ninf]
  rfl
theorem lM_at : lM t (ix3 b h i) = Finset.univ.fold max ⊥ fun j : Fin 2048 => t (ix4 b h i j) := by
  unfold lM
  rw [maximumf_apply, max_at]
  rw [show (broadcastInDim S4x8x2048 ![] bcast_S_S4x8x2048 (constant (F := Ideal) S_ .f32 0xFF800000#32)) (ix3 b h i) = ⊥ from ninf,
    show (constant (F := Ideal) S_ .f32 0xFF800000#32) (Shape.Idx.first h_S_) = ⊥ from ninf]
  exact max_eq_right bot_le
theorem lE_at : lE t x (ix4 b h i j) = Ideal.exp (t (ix4 b h i j) - x (ix3 b h i)) := by
  unfold lE
  pointwise
theorem lL_at : lL e (ix3 b h i) = ∑ j : Fin 2048, e (ix4 b h i j) := by
  unfold lL
  pointwise
theorem lP_at : lP o v (ix4 b h i j) = ∑ x : Fin 64, o (ix2 ⟨b.val * 2048 + i.val, by omega⟩ ⟨h.val * 64 + x.val, by omega⟩) * v (ix2 ⟨b.val * 2048 + j.val, by omega⟩ ⟨h.val * 64 + x.val, by omega⟩) := by
  unfold lP
  pointwise
theorem lN_at : lN p e l (ix3 b h i) = -∑ j : Fin 2048, p (ix4 b h i j) * Ideal.div 1 (l (ix3 b h i) * l (ix3 b h i)) * e (ix4 b h i j) := by
  unfold lN
  pointwise
  rw [Fin.sum_univ_one]
theorem lG_at : lG p e l n (ix4 b h i j) = if j.val ≤ i.val then (Ideal.div (p (ix4 b h i j)) (l (ix3 b h i)) + n (ix3 b h i)) * e (ix4 b h i j) else 0 := by
  unfold lG
  pointwise
  rw [sel_causal]
theorem lQ_at (R : Fin 8192) (C : Fin 1024) : lQ e k (ix2 R C)
    = ∑ x : Fin 2048, e (ix4 ⟨R.val / 2048, by omega⟩ ⟨C.val / 128, by omega⟩ ⟨R.val % 2048, by omega⟩ x) * k (ix2 ⟨R.val / 2048 * 2048 + x.val, by omega⟩ C) := by
  unfold lQ
  pointwise
theorem lK_at (R : Fin 8192) (C : Fin 1024) : lK e q (ix2 R C)
    = Ideal.div (∑ x : Fin 2048, e (ix4 ⟨R.val / 2048, by omega⟩ ⟨C.val / 128, by omega⟩ x ⟨R.val % 2048, by omega⟩) * (q (ix2 ⟨R.val / 2048 * 2048 + x.val, by omega⟩ C) * Ideal.ofBits FTy.f32 0x3DD105EC#32)) (Ideal.log (Ideal.ofBits FTy.f32 0x40000000#32)) := by
  unfold lK
  pointwise
theorem lV_at (R : Fin 8192) (C : Fin 512) : lV o e l (ix2 R C)
    = ∑ x : Fin 2048, o (ix2 ⟨R.val / 2048 * 2048 + x.val, by omega⟩ C) * Ideal.div (e (ix4 ⟨R.val / 2048, by omega⟩ ⟨C.val / 64, by omega⟩ x ⟨R.val % 2048, by omega⟩)) (l (ix3 ⟨R.val / 2048, by omega⟩ ⟨C.val / 64, by omega⟩ x)) := by
  unfold lV
  pointwise

end Cert.Proof.MlaRef

end
-- ==== Proof.Math.lean ====
/- The real numbers behind the gradients: the two forms of the softmax's derivative agree. -/
module

public import proofs.«01_k».proof.Proof.Ref

@[expose] public section

set_option maxRecDepth 16384

noncomputable section

namespace Cert.Proof.Mla

open Cert.KernelIdeal Cert.KernelIdeal.Gen
open Idealize.ShloMosaic Idealize.ShloMosaic.TcCoe Idealize.ShloMosaic.Tactic

section Reals
variable (qr kr : Fin 2048 → Fin 128 → ℝ) (vr dr : Fin 2048 → Fin 64 → ℝ) (s : ℝ) (M : Fin 2048 → ℝ)

/-- The score, its exponential below the diagonal, the row's sum, the weight. -/
def zS (i j : Fin 2048) : ℝ := ∑ x : Fin 128, qr i x * s * kr j x
def zE (i j : Fin 2048) : ℝ := if j.val ≤ i.val then Real.exp (zS qr kr s i j - M i) else 0
def zL (i : Fin 2048) : ℝ := ∑ j : Fin 2048, zE qr kr s M i j
def zW (i j : Fin 2048) : ℝ := zE qr kr s M i j / zL qr kr s M i
/-- The product of the output's gradient with a value, the row's mean of it, the score's gradient. -/
def zP (i j : Fin 2048) : ℝ := ∑ z : Fin 64, dr i z * vr j z
def zD (i : Fin 2048) : ℝ := ∑ z : Fin 64, dr i z * ∑ j : Fin 2048, vr j z * zW qr kr s M i j
def zT (i j : Fin 2048) : ℝ := zW qr kr s M i j * ((∑ z : Fin 64, vr j z * dr i z) - zD qr kr vr dr s M i)
/-- The same as the softmax's derivative states it. -/
def zN (i : Fin 2048) : ℝ :=
  -∑ j : Fin 2048, zP vr dr i j * (1 / (zL qr kr s M i * zL qr kr s M i)) * zE qr kr s M i j
def zG (i j : Fin 2048) : ℝ :=
  if j.val ≤ i.val then (zP vr dr i j / zL qr kr s M i + zN qr kr vr dr s M i) * zE qr kr s M i j else 0

theorem zE_nonneg (i j : Fin 2048) : 0 ≤ zE qr kr s M i j := by
  unfold zE
  split_ifs
  · exact (Real.exp_pos _).le
  · exact le_refl _

theorem zL_pos (i : Fin 2048) : 0 < zL qr kr s M i := by
  unfold zL
  refine Finset.sum_pos' (fun j _ => zE_nonneg qr kr s M i j) ⟨i, Finset.mem_univ _, ?_⟩
  unfold zE
  rw [if_pos (le_refl _)]
  exact Real.exp_pos _

theorem zD_eq (i : Fin 2048) : zD qr kr vr dr s M i = ∑ j : Fin 2048, zP vr dr i j * zW qr kr s M i j := by
  unfold zD zP
  simp only [Finset.mul_sum, Finset.sum_mul]
  rw [Finset.sum_comm]
  refine Finset.sum_congr rfl fun j _ => Finset.sum_congr rfl fun z _ => ?_
  ring

theorem zN_eq (i : Fin 2048) : zN qr kr vr dr s M i = -(zD qr kr vr dr s M i / zL qr kr s M i) := by
  rw [zD_eq, zN, Finset.sum_div]
  refine congrArg Neg.neg (Finset.sum_congr rfl fun j _ => ?_)
  unfold zW
  have := (zL_pos qr kr s M i).ne'
  field_simp

theorem zT_eq (i j : Fin 2048) : zT qr kr vr dr s M i j = zG qr kr vr dr s M i j := by
  unfold zT zG
  rw [zN_eq, show (∑ z : Fin 64, vr j z * dr i z) = zP vr dr i j from Finset.sum_congr rfl fun z _ => mul_comm _ _]
  have := (zL_pos qr kr s M i).ne'
  unfold zW
  split_ifs with h
  · field_simp
    ring
  · rw [zE, if_neg h]
    simp

/-- The base-2 form of a weight. -/
theorem zW_exp2 (i j : Fin 2048) (h : j.val ≤ i.val) :
    Real.rpow 2 ((∑ x : Fin 128, kr j x * (qr i x * s / Real.log 2)) - (M i + Real.log (zL qr kr s M i)) / Real.log 2) = zW qr kr s M i j := by
  have h2 : Real.log 2 ≠ 0 := (Real.log_pos (by norm_num)).ne'
  have e : (∑ x : Fin 128, kr j x * (qr i x * s / Real.log 2)) = zS qr kr s i j / Real.log 2 := by
    unfold zS
    rw [Finset.sum_div]
    refine Finset.sum_congr rfl fun x _ => ?_
    ring
  rw [e, Real.rpow_eq_pow, Real.rpow_def_of_pos (by norm_num), show Real.log 2 * (zS qr kr s i j / Real.log 2 - (M i + Real.log (zL qr kr s M i)) / Real.log 2)
    = (zS qr kr s i j - M i) - Real.log (zL qr kr s M i) by field_simp; ring]
  rw [Real.exp_sub, Real.exp_log (zL_pos qr kr s M i), zW, zE, if_pos h]
end Reals

section Lift
theorem coe_sum {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

theorem div_real (x y : ℝ) (h : y ≠ 0) : Ideal.div (x : EReal) (y : EReal) = ((x / y : ℝ) : EReal) := by
  rw [Ideal.div_coe h, ← EReal.coe_mul]
  congr 1
  ring

theorem log_real (y : ℝ) (h : 0 < y) : Ideal.log (y : EReal) = ((Real.log y : ℝ) : EReal) := by
  rw [Ideal.log_coe, if_neg (not_le.mpr h)]

theorem log2_real : Ideal.log (Ideal.ofBits .f32 0x40000000#32) = ((Real.log 2 : ℝ) : EReal) := by
  rw [MlaRef.two, log_real _ (by norm_num)]

theorem log2_ne : Real.log 2 ≠ 0 := (Real.log_pos (by norm_num)).ne'

theorem max_real (S : Fin 2048 → ℝ) (i : Fin 2048) :
    ∃ M : ℝ, (Finset.univ.fold max ⊥ fun j : Fin 2048 => if j.val ≤ i.val then (S j : EReal) else ⊥) = (M : EReal) := by
  have h1 : (Finset.univ.fold max ⊥ fun j : Fin 2048 => if j.val ≤ i.val then (S j : EReal) else ⊥) < ⊤ := by
    rw [Finset.fold_max_lt]
    refine ⟨bot_lt_top, fun j _ => ?_⟩
    split_ifs
    · exact EReal.coe_lt_top _
    · exact bot_lt_top
  have h2 : ⊥ < (Finset.univ.fold max ⊥ fun j : Fin 2048 => if j.val ≤ i.val then (S j : EReal) else ⊥) := by
    rw [Finset.lt_fold_max]
    refine Or.inr ⟨i, Finset.mem_univ _, ?_⟩
    rw [if_pos (le_refl _)]
    exact EReal.bot_lt_coe _
  exact ⟨_, (EReal.coe_toReal h1.ne h2.ne').symm⟩
end Lift

end Cert.Proof.Mla

end
-- ==== Proof.Lift.lean ====
/- The reference's layers as real numbers, where the arguments are real. -/
module

public import proofs.«01_k».proof.Proof.Math

@[expose] public section

set_option maxRecDepth 16384

noncomputable section

namespace Cert.Proof.Mla

open Cert.KernelIdeal Cert.KernelIdeal.Gen
open Idealize.ShloMosaic Idealize.ShloMosaic.TcCoe Idealize.ShloMosaic.Tactic

open MlaRef (C32 C16 lT lM lE lL lP lN lG rE rL rG scr)

/-- The shapes of the four arguments. -/
abbrev Sq : Shape := ⟨2, ![8192, 1024]⟩
abbrev Sv : Shape := ⟨2, ![8192, 512]⟩

variable (q : C32 Sq) (k : C16 Sq) (v o : C16 Sv) (b : Fin 4) (h : Fin 8)

/-- The entries of a head of a sequence, as real numbers. -/
def rq (i : Fin 2048) (x : Fin 128) : ℝ := EReal.toReal (q (ix2 ⟨b.val * 2048 + i.val, by omega⟩ ⟨h.val * 128 + x.val, by omega⟩))
def rk (i : Fin 2048) (x : Fin 128) : ℝ := EReal.toReal (k (ix2 ⟨b.val * 2048 + i.val, by omega⟩ ⟨h.val * 128 + x.val, by omega⟩))
def rv (i : Fin 2048) (x : Fin 64) : ℝ := EReal.toReal (v (ix2 ⟨b.val * 2048 + i.val, by omega⟩ ⟨h.val * 64 + x.val, by omega⟩))
/-- The scale of the scores, a real number. -/
def sc : ℝ := Classical.choose MlaRef.scale
theorem sc_eq : Ideal.ofBits FTy.f32 0x3DD105EC#32 = (sc : EReal) := Classical.choose_spec MlaRef.scale
/-- The largest score of a row, a real number. -/
def rM (i : Fin 2048) : ℝ := EReal.toReal (lM (lT q k) (ix3 b h i))

/-- Every entry of an array is a real number. -/
def Real32 {S : Shape} (q : C32 S) : Prop := ∀ i, q i = ((EReal.toReal (q i) : ℝ) : EReal)
def Real16 {S : Shape} (q : C16 S) : Prop := ∀ i, q i = ((EReal.toReal (q i) : ℝ) : EReal)

variable (hq : Real32 q) (hk : Real16 k) (hv : Real16 v) (ho : Real16 o)

include hq hk in
theorem scr_real (i j : Fin 2048) : scr q k b h i j = (zS (rq q b h) (rk k b h) sc i j : EReal) := by
  unfold scr zS rq rk
  rw [← coe_sum]
  refine Finset.sum_congr rfl fun x _ => ?_
  rw [hq, hk, sc_eq, ← EReal.coe_mul, ← EReal.coe_mul]
  rfl

include hq hk in
theorem lM_real (i : Fin 2048) : lM (lT q k) (ix3 b h i) = (rM q k b h i : EReal) := by
  obtain ⟨M, hM⟩ := max_real (fun j => zS (rq q b h) (rk k b h) sc i j) i
  have e : lM (lT q k) (ix3 b h i) = (M : EReal) := by
    rw [MlaRef.lM_at, ← hM]
    refine congrArg (fun f => Finset.fold max ⊥ f Finset.univ) (funext fun j => ?_)
    rw [MlaRef.lT_at, scr_real q k b h hq hk]
  unfold rM
  rw [e, EReal.toReal_coe]

include hq hk in
theorem rE_real (i j : Fin 2048) : rE q k (ix4 b h i j) = (zE (rq q b h) (rk k b h) sc (rM q k b h) i j : EReal) := by
  unfold rE
  rw [MlaRef.lE_at, lM_real q k b h hq hk, MlaRef.lT_at, scr_real q k b h hq hk]
  unfold zE
  split_ifs with hij
  · rw [← EReal.coe_sub, Ideal.exp_coe]
  · rw [EReal.bot_sub]
    rfl

include hq hk in
theorem rL_real (i : Fin 2048) : rL q k (ix3 b h i) = (zL (rq q b h) (rk k b h) sc (rM q k b h) i : EReal) := by
  unfold rL zL
  rw [MlaRef.lL_at, ← coe_sum]
  exact Finset.sum_congr rfl fun j _ => rE_real q k b h hq hk i j

include hv ho in
theorem lP_real (i j : Fin 2048) : lP o v (ix4 b h i j) = (zP (rv v b h) (rv o b h) i j : EReal) := by
  rw [MlaRef.lP_at]
  unfold zP rv
  rw [← coe_sum]
  refine Finset.sum_congr rfl fun x _ => ?_
  rw [ho, hv, ← EReal.coe_mul]
  rfl

include hq hk hv ho in
theorem lN_real (i : Fin 2048) : lN (lP o v) (rE q k) (rL q k) (ix3 b h i) = (zN (rq q b h) (rk k b h) (rv v b h) (rv o b h) sc (rM q k b h) i : EReal) := by
  rw [MlaRef.lN_at]
  unfold zN
  rw [EReal.coe_neg, ← coe_sum]
  refine congrArg Neg.neg (Finset.sum_congr rfl fun j _ => ?_)
  have hL := (zL_pos (rq q b h) (rk k b h) sc (rM q k b h) i).ne'
  rw [lP_real v o b h hv ho, rE_real q k b h hq hk, rL_real q k b h hq hk, ← EReal.coe_mul, ← EReal.coe_one, div_real _ _ (mul_ne_zero hL hL), ← EReal.coe_mul, ← EReal.coe_mul]

include hq hk hv ho in
theorem rG_real (i j : Fin 2048) : rG q k v o (ix4 b h i j) = (zG (rq q b h) (rk k b h) (rv v b h) (rv o b h) sc (rM q k b h) i j : EReal) := by
  unfold rG zG
  have hL := (zL_pos (rq q b h) (rk k b h) sc (rM q k b h) i).ne'
  rw [MlaRef.lG_at, lN_real q k v o b h hq hk hv ho, lP_real v o b h hv ho, rE_real q k b h hq hk, rL_real q k b h hq hk, div_real _ _ hL, ← EReal.coe_add, ← EReal.coe_mul]
  split_ifs <;> rfl

include hq hk in
theorem w_real (i j : Fin 2048) : Ideal.div (rE q k (ix4 b h i j)) (rL q k (ix3 b h i)) = (zW (rq q b h) (rk k b h) sc (rM q k b h) i j : EReal) := by
  rw [rE_real q k b h hq hk, rL_real q k b h hq hk, div_real _ _ (zL_pos (rq q b h) (rk k b h) sc (rM q k b h) i).ne']
  rfl

end Cert.Proof.Mla

end
-- ==== Proof.Val2.lean ====
/- One step of the inner loop, at an index: the weights, their gradients, and what the step adds to each gradient. -/
module

public import proofs.«01_k».proof.Proof.Run
public import proofs.«01_k».proof.Proof.Coord
public import proofs.«01_k».proof.Proof.Calc

@[expose] public section

set_option maxRecDepth 16384

noncomputable section

namespace Cert.Proof.Mla

open Cert.KernelIdeal Cert.KernelIdeal.Gen
open Idealize.ShloMosaic Idealize.ShloMosaic.TcCoe Idealize.ShloMosaic.Tactic

section
variable (c : Dev nD) (arg2 : Memref sig .tc .vmem S2048x512 .bf16) (arg6 : Memref sig .tc .vmem S1x4x2048 .f32)
  (arg7 : Memref sig .tc .vmem S1x1x4x2048 .f32) (arg9 : Memref sig .tc .vmem S2048x512 .f32)
  (arg12 : Memref sig .tc .vmem S4x128x2048 .bf16) (arg13 : Memref sig .tc .vmem S512x2048 .f32) (arg14 : Memref sig .tc .vmem S2x256x256 .f32)
  (k0_t1 : Fin k0_t1_loop.trips) (v627 : Vec Ideal S256x512 .bf16) (v629 : Vec Ideal S256x256 .bf16) (v631 : Vec Ideal S512x256 .bf16)
  (k0_t2 : Fin (k0_t2_loop k0_t1).trips)
  (f2 : Buf (Elt Ideal) (arg2.view.loc (c : Thread nD τ))) (f6 : Buf (Elt Ideal) (arg6.view.loc (c : Thread nD τ)))
  (f7 : Buf (Elt Ideal) (arg7.view.loc (c : Thread nD τ))) (f9 : Buf (Elt Ideal) (arg9.view.loc (c : Thread nD τ)))
  (f12 : Buf (Elt Ideal) (arg12.view.loc (c : Thread nD τ))) (f13 : Buf (Elt Ideal) (arg13.view.loc (c : Thread nD τ)))
  (f14 : Buf (Elt Ideal) (arg14.view.loc (c : Thread nD τ)))
  {K V Q KT L D : ℕ → ℕ → EReal} {DT : ℕ → ℕ → ℕ → EReal}
  (hK : ∀ (j : Fin 256) (l : Fin 512), v627 (ix2 j l) = K (256 * k0_t1.val + j.val) l.val)
  (hV : ∀ (j : Fin 256) (l : Fin 256), v629 (ix2 j l) = V (256 * k0_t1.val + j.val) l.val)
  (hKT : ∀ (r : Fin 512) (j : Fin 256), v631 (ix2 r j) = KT r.val (256 * k0_t1.val + j.val))
  (hQ : n2 (arg2.view.read (Elt Ideal) f2) = Q) (hL : n4 (arg7.view.read (Elt Ideal) f7) 0 0 = L)
  (hD : n3 (arg6.view.read (Elt Ideal) f6) 0 = D) (hDT : n3 (arg12.view.read (Elt Ideal) f12) = DT)

include hK hQ hL in
theorem two_p00 (j x : Fin 256) : trip2.sl.r_15 c arg2 arg7 k0_t1 v627 k0_t2 f2 f7 (ix2 j x)
    = pM K Q L 0 (256 * k0_t1.val + j.val) (256 * (k0_t1.val + 2 * (1 + k0_t2.val)) + x.val) := by
  unfold trip2.sl.r_15 trip2.sl.r_4
  unfold_payloads
  pointwise
  simp only [readAt2_bf16, readAt2_f32, readAt3_bf16, readAt3_f32, readAt4_f32, Fin.val_zero, Nat.add_zero, Nat.zero_add, hK, hQ, hL,
    o63_00, o63_01, o66_00, o66_01, o66_02, o66_03]
  rw [pM, if_pos (by omega), pF]
  rfl

include hK hV hQ hL hD hDT in
theorem two_d00 (j x : Fin 256) : trip2.sl.r_14 c arg2 arg6 arg7 arg12 k0_t1 v627 v629 k0_t2 f2 f6 f7 f12 (ix2 j x)
    = dM K V Q L D DT 0 (256 * k0_t1.val + j.val) (256 * (k0_t1.val + 2 * (1 + k0_t2.val)) + x.val) := by
  unfold trip2.sl.r_14 trip2.sl.r_4 trip2.sl.r_6
  unfold_payloads
  pointwise
  simp only [readAt2_bf16, readAt2_f32, readAt3_bf16, readAt3_f32, readAt4_f32, Fin.val_zero, Nat.add_zero, Nat.zero_add, hK, hV, hQ, hL, hD, hDT,
    o63_00, o63_01, o64_00, o64_01, o64_02, o66_00, o66_01, o66_02, o66_03, o67_00, o67_01, o67_02]
  rw [dM, pM, if_pos (by omega), pF]
  rfl

include hK hQ hL in
theorem two_p01 (j x : Fin 256) : trip2.sl.r_17 c arg2 arg7 k0_t1 v627 k0_t2 f2 f7 (ix2 j x)
    = pM K Q L 0 (256 * k0_t1.val + j.val) (256 * (k0_t1.val + 2 * (1 + k0_t2.val) + 1) + x.val) := by
  unfold trip2.sl.r_17 trip2.sl.r_5
  unfold_payloads
  pointwise
  simp only [readAt2_bf16, readAt2_f32, readAt3_bf16, readAt3_f32, readAt4_f32, Fin.val_zero, Nat.add_zero, Nat.zero_add, hK, hQ, hL,
    o63_10, o63_11, o66_10, o66_11, o66_12, o66_13]
  rw [pM, if_pos (by omega), pF]
  rfl

include hK hV hQ hL hD hDT in
theorem two_d01 (j x : Fin 256) : trip2.sl.r_16 c arg2 arg6 arg7 arg12 k0_t1 v627 v629 k0_t2 f2 f6 f7 f12 (ix2 j x)
    = dM K V Q L D DT 0 (256 * k0_t1.val + j.val) (256 * (k0_t1.val + 2 * (1 + k0_t2.val) + 1) + x.val) := by
  unfold trip2.sl.r_16 trip2.sl.r_5 trip2.sl.r_7
  unfold_payloads
  pointwise
  simp only [readAt2_bf16, readAt2_f32, readAt3_bf16, readAt3_f32, readAt4_f32, Fin.val_zero, Nat.add_zero, Nat.zero_add, hK, hV, hQ, hL, hD, hDT,
    o63_10, o63_11, o64_10, o64_11, o64_12, o66_10, o66_11, o66_12, o66_13, o67_10, o67_11, o67_12]
  rw [dM, pM, if_pos (by omega), pF]
  rfl

include hK hQ hL in
theorem two_p10 (j x : Fin 256) : trip2.sl.r_26 c arg2 arg7 k0_t1 v627 k0_t2 f2 f7 (ix2 j x)
    = pM K Q L 1 (256 * k0_t1.val + j.val) (256 * (k0_t1.val + 2 * (1 + k0_t2.val)) + x.val) := by
  unfold trip2.sl.r_26 trip2.sl.r_10
  unfold_payloads
  pointwise
  simp only [readAt2_bf16, readAt2_f32, readAt3_bf16, readAt3_f32, readAt4_f32, Fin.val_zero, Nat.add_zero, Nat.zero_add, hK, hQ, hL,
    o63_00, o63_01, o69_00, o69_01, o69_02, o69_03]
  rw [pM, if_pos (by omega), pF]
  rfl

include hK hV hQ hL hD hDT in
theorem two_d10 (j x : Fin 256) : trip2.sl.r_25 c arg2 arg6 arg7 arg12 k0_t1 v627 v629 k0_t2 f2 f6 f7 f12 (ix2 j x)
    = dM K V Q L D DT 1 (256 * k0_t1.val + j.val) (256 * (k0_t1.val + 2 * (1 + k0_t2.val)) + x.val) := by
  unfold trip2.sl.r_25 trip2.sl.r_10 trip2.sl.r_12 trip2.sl.r_8
  unfold_payloads
  pointwise
  simp only [readAt2_bf16, readAt2_f32, readAt3_bf16, readAt3_f32, readAt4_f32, Fin.val_zero, Nat.add_zero, Nat.zero_add, hK, hV, hQ, hL, hD, hDT,
    o63_00, o63_01, o65_00, o65_01, o65_02, o69_00, o69_01, o69_02, o69_03, o70_00, o70_01, o70_02]
  rw [dM, pM, if_pos (by omega), pF]
  rfl

include hK hQ hL in
theorem two_p11 (j x : Fin 256) : trip2.sl.r_28 c arg2 arg7 k0_t1 v627 k0_t2 f2 f7 (ix2 j x)
    = pM K Q L 1 (256 * k0_t1.val + j.val) (256 * (k0_t1.val + 2 * (1 + k0_t2.val) + 1) + x.val) := by
  unfold trip2.sl.r_28 trip2.sl.r_11 trip2.sl.r_1
  unfold_payloads
  pointwise
  simp only [readAt2_bf16, readAt2_f32, readAt3_bf16, readAt3_f32, readAt4_f32, Fin.val_zero, Nat.add_zero, Nat.zero_add, hK, hQ, hL,
    o63_10, o63_11, o69_10, o69_11, o69_12, o69_13]
  rw [pM, if_pos (by omega), pF]
  rfl

include hK hV hQ hL hD hDT in
theorem two_d11 (j x : Fin 256) : trip2.sl.r_27 c arg2 arg6 arg7 arg12 k0_t1 v627 v629 k0_t2 f2 f6 f7 f12 (ix2 j x)
    = dM K V Q L D DT 1 (256 * k0_t1.val + j.val) (256 * (k0_t1.val + 2 * (1 + k0_t2.val) + 1) + x.val) := by
  unfold trip2.sl.r_27 trip2.sl.r_11 trip2.sl.r_13 trip2.sl.r_1 trip2.sl.r_9
  unfold_payloads
  pointwise
  simp only [readAt2_bf16, readAt2_f32, readAt3_bf16, readAt3_f32, readAt4_f32, Fin.val_zero, Nat.add_zero, Nat.zero_add, hK, hV, hQ, hL, hD, hDT,
    o63_10, o63_11, o65_10, o65_11, o65_12, o69_10, o69_11, o69_12, o69_13, o70_10, o70_11, o70_12]
  rw [dM, pM, if_pos (by omega), pF]
  rfl

include hK hQ hL in
theorem two_p20 (j x : Fin 256) : trip2.sl.r_40 c arg2 arg7 k0_t1 v627 k0_t2 f2 f7 (ix2 j x)
    = pM K Q L 2 (256 * k0_t1.val + j.val) (256 * (k0_t1.val + 2 * (1 + k0_t2.val)) + x.val) := by
  unfold trip2.sl.r_40 trip2.sl.r_21 trip2.sl.r_20 trip2.sl.r
  unfold_payloads
  pointwise
  simp only [readAt2_bf16, readAt2_f32, readAt3_bf16, readAt3_f32, readAt4_f32, Fin.val_zero, Nat.add_zero, Nat.zero_add, hK, hQ, hL,
    o63_00, o63_01, o75_00, o75_01, o75_02, o75_03]
  rw [pM, if_pos (by omega), pF]
  rfl

include hK hV hQ hL hD hDT in
theorem two_d20 (j x : Fin 256) : trip2.sl.r_39 c arg2 arg6 arg7 arg12 k0_t1 v627 v629 k0_t2 f2 f6 f7 f12 (ix2 j x)
    = dM K V Q L D DT 2 (256 * k0_t1.val + j.val) (256 * (k0_t1.val + 2 * (1 + k0_t2.val)) + x.val) := by
  unfold trip2.sl.r_39 trip2.sl.r_21 trip2.sl.r_23 trip2.sl.r_20 trip2.sl.r_18 trip2.sl.r
  unfold_payloads
  pointwise
  simp only [readAt2_bf16, readAt2_f32, readAt3_bf16, readAt3_f32, readAt4_f32, Fin.val_zero, Nat.add_zero, Nat.zero_add, hK, hV, hQ, hL, hD, hDT,
    o63_00, o63_01, o68_00, o68_01, o68_02, o75_00, o75_01, o75_02, o75_03, o76_00, o76_01, o76_02]
  rw [dM, pM, if_pos (by omega), pF]
  rfl

include hK hQ hL in
theorem two_p21 (j x : Fin 256) : trip2.sl.r_42 c arg2 arg7 k0_t1 v627 k0_t2 f2 f7 (ix2 j x)
    = pM K Q L 2 (256 * k0_t1.val + j.val) (256 * (k0_t1.val + 2 * (1 + k0_t2.val) + 1) + x.val) := by
  unfold trip2.sl.r_42 trip2.sl.r_22 trip2.sl.r_1
  unfold_payloads
  pointwise
  simp only [readAt2_bf16, readAt2_f32, readAt3_bf16, readAt3_f32, readAt4_f32, Fin.val_zero, Nat.add_zero, Nat.zero_add, hK, hQ, hL,
    o63_10, o63_11, o75_10, o75_11, o75_12, o75_13]
  rw [pM, if_pos (by omega), pF]
  rfl

include hK hV hQ hL hD hDT in
theorem two_d21 (j x : Fin 256) : trip2.sl.r_41 c arg2 arg6 arg7 arg12 k0_t1 v627 v629 k0_t2 f2 f6 f7 f12 (ix2 j x)
    = dM K V Q L D DT 2 (256 * k0_t1.val + j.val) (256 * (k0_t1.val + 2 * (1 + k0_t2.val) + 1) + x.val) := by
  unfold trip2.sl.r_41 trip2.sl.r_22 trip2.sl.r_24 trip2.sl.r_1 trip2.sl.r_19
  unfold_payloads
  pointwise
  simp only [readAt2_bf16, readAt2_f32, readAt3_bf16, readAt3_f32, readAt4_f32, Fin.val_zero, Nat.add_zero, Nat.zero_add, hK, hV, hQ, hL, hD, hDT,
    o63_10, o63_11, o68_10, o68_11, o68_12, o75_10, o75_11, o75_12, o75_13, o76_10, o76_11, o76_12]
  rw [dM, pM, if_pos (by omega), pF]
  rfl

include hK hQ hL in
theorem two_p30 (j x : Fin 256) : trip2.sl.r_49 c arg2 arg7 k0_t1 v627 k0_t2 f2 f7 (ix2 j x)
    = pM K Q L 3 (256 * k0_t1.val + j.val) (256 * (k0_t1.val + 2 * (1 + k0_t2.val)) + x.val) := by
  unfold trip2.sl.r_49 trip2.sl.r_47 trip2.sl.r_35 trip2.sl.r
  unfold_payloads
  pointwise
  simp only [readAt2_bf16, readAt2_f32, readAt3_bf16, readAt3_f32, readAt4_f32, Fin.val_zero, Nat.add_zero, Nat.zero_add, hK, hQ, hL,
    o63_00, o63_01, o80_00, o80_01, o80_02, o80_03]
  rw [pM, if_pos (by omega), pF]
  rfl

include hK hV hQ hL hD hDT in
theorem two_d30 (j x : Fin 256) : trip2.sl.r_48 c arg2 arg6 arg7 arg12 k0_t1 v627 v629 k0_t2 f2 f6 f7 f12 (ix2 j x)
    = dM K V Q L D DT 3 (256 * k0_t1.val + j.val) (256 * (k0_t1.val + 2 * (1 + k0_t2.val)) + x.val) := by
  unfold trip2.sl.r_48 trip2.sl.r_37 trip2.sl.r_47 trip2.sl.r_33 trip2.sl.r_35 trip2.sl.r
  unfold_payloads
  pointwise
  simp only [readAt2_bf16, readAt2_f32, readAt3_bf16, readAt3_f32, readAt4_f32, Fin.val_zero, Nat.add_zero, Nat.zero_add, hK, hV, hQ, hL, hD, hDT,
    o63_00, o63_01, o74_00, o74_01, o74_02, o80_00, o80_01, o80_02, o80_03, o81_00, o81_01, o81_02]
  rw [dM, pM, if_pos (by omega), pF]
  rfl

include hK hQ hL in
theorem two_p31 (j x : Fin 256) : trip2.sl.r_51 c arg2 arg7 k0_t1 v627 k0_t2 f2 f7 (ix2 j x)
    = pM K Q L 3 (256 * k0_t1.val + j.val) (256 * (k0_t1.val + 2 * (1 + k0_t2.val) + 1) + x.val) := by
  unfold trip2.sl.r_51 trip2.sl.r_36 trip2.sl.r_1
  unfold_payloads
  pointwise
  simp only [readAt2_bf16, readAt2_f32, readAt3_bf16, readAt3_f32, readAt4_f32, Fin.val_zero, Nat.add_zero, Nat.zero_add, hK, hQ, hL,
    o63_10, o63_11, o80_10, o80_11, o80_12, o80_13]
  rw [pM, if_pos (by omega), pF]
  rfl

include hK hV hQ hL hD hDT in
theorem two_d31 (j x : Fin 256) : trip2.sl.r_50 c arg2 arg6 arg7 arg12 k0_t1 v627 v629 k0_t2 f2 f6 f7 f12 (ix2 j x)
    = dM K V Q L D DT 3 (256 * k0_t1.val + j.val) (256 * (k0_t1.val + 2 * (1 + k0_t2.val) + 1) + x.val) := by
  unfold trip2.sl.r_50 trip2.sl.r_36 trip2.sl.r_38 trip2.sl.r_1 trip2.sl.r_34
  unfold_payloads
  pointwise
  simp only [readAt2_bf16, readAt2_f32, readAt3_bf16, readAt3_f32, readAt4_f32, Fin.val_zero, Nat.add_zero, Nat.zero_add, hK, hV, hQ, hL, hD, hDT,
    o63_10, o63_11, o74_10, o74_11, o74_12, o80_10, o80_11, o80_12, o80_13, o81_10, o81_11, o81_12]
  rw [dM, pM, if_pos (by omega), pF]
  rfl

variable (i : grid0.Coords)
  (v9 : IVec S128x1 1)
  (v481 : FVec Ideal S128x256 .f32)
  (v486 : FVec Ideal S128x256 .bf16)
  (arg15 v623 v625 : BitVec 32)
  (arg3 : Memref sig .tc .vmem S2048x512 .bf16)
  (arg4 : Memref sig .tc .vmem S2048x256 .bf16)
  (arg5 : Memref sig .tc .vmem S2048x256 .bf16)
  (arg8 : Memref sig .tc .vmem S2048x512 .f32)
  (arg10 : Memref sig .tc .vmem S2048x256 .f32)
  (arg11 : Memref sig .tc .vmem S512x2048 .bf16)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole)

include hK hV hKT hQ hL hD hDT in
theorem two9 (r l : ℕ) : n2 (arg9.view.read (Elt Ideal) (arg9.view.writes (Elt Ideal) f9
      (trip2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 k0_t2 f2 f6 f7 f12 f9 f13 f14).1)) r l
    = if (256 * k0_t1.val ≤ r ∧ r < 256 * k0_t1.val + 256) ∧ l < 512 then n2 (arg9.view.read (Elt Ideal) f9) r l + (tK K V Q L D DT (k0_t1.val + 2 * (1 + k0_t2.val)) r l + tK K V Q L D DT (k0_t1.val + 2 * (1 + k0_t2.val) + 1) r l) else n2 (arg9.view.read (Elt Ideal) f9) r l := by
  unfold trip2
  dsimp only
  rw [writesG2_f32 _ _ _ _ _ _ (fun r l => n2 (arg9.view.read (Elt Ideal) f9) r l + (tK K V Q L D DT (k0_t1.val + 2 * (1 + k0_t2.val)) r l + tK K V Q L D DT (k0_t1.val + 2 * (1 + k0_t2.val) + 1) r l)) ?h0, writesG2_f32 _ _ _ _ _ _ (fun r l => n2 (arg9.view.read (Elt Ideal) f9) r l + (tK K V Q L D DT (k0_t1.val + 2 * (1 + k0_t2.val)) r l + tK K V Q L D DT (k0_t1.val + 2 * (1 + k0_t2.val) + 1) r l)) ?h1, writesG2_f32 _ _ _ _ _ _ (fun r l => n2 (arg9.view.read (Elt Ideal) f9) r l + (tK K V Q L D DT (k0_t1.val + 2 * (1 + k0_t2.val)) r l + tK K V Q L D DT (k0_t1.val + 2 * (1 + k0_t2.val) + 1) r l)) ?h2, writesG2_f32 _ _ _ _ _ _ (fun r l => n2 (arg9.view.read (Elt Ideal) f9) r l + (tK K V Q L D DT (k0_t1.val + 2 * (1 + k0_t2.val)) r l + tK K V Q L D DT (k0_t1.val + 2 * (1 + k0_t2.val) + 1) r l)) ?h3]
  · simp only [View.writes_nil, o72_0, o72_1, o78_0, o78_1, o83_0, o83_1, o86_0, o86_1]
    split_ifs <;> first | rfl | omega
  case h0 =>
    intro a b
    have e1 : (384 + b.val) / 128 = 3 := by omega
    unfold trip2.sl.r_53 trip2.sl.r trip2.sl.r_1 trip2.sl.v1019
    unfold_payloads
    pointwise
    simp only [two_d30 c arg2 arg6 arg7 arg12 k0_t1 v627 v629 k0_t2 f2 f6 f7 f12 hK hV hQ hL hD hDT, two_d31 c arg2 arg6 arg7 arg12 k0_t1 v627 v629 k0_t2 f2 f6 f7 f12 hK hV hQ hL hD hDT, readAt2_bf16, readAt2_f32, readAt3_bf16, readAt3_f32, readAt4_f32, Fin.val_zero, Nat.add_zero, Nat.zero_add, hKT, hQ, hDT, o63_00, o63_01, o63_10, o63_11, o86_0, o86_1, tK, e1]
  case h1 =>
    intro a b
    have e1 : (256 + b.val) / 128 = 2 := by omega
    unfold trip2.sl.r_52 trip2.sl.r trip2.sl.r_1 trip2.sl.v977
    unfold_payloads
    pointwise
    simp only [two_d20 c arg2 arg6 arg7 arg12 k0_t1 v627 v629 k0_t2 f2 f6 f7 f12 hK hV hQ hL hD hDT, two_d21 c arg2 arg6 arg7 arg12 k0_t1 v627 v629 k0_t2 f2 f6 f7 f12 hK hV hQ hL hD hDT, readAt2_bf16, readAt2_f32, readAt3_bf16, readAt3_f32, readAt4_f32, Fin.val_zero, Nat.add_zero, Nat.zero_add, hKT, hQ, hDT, o63_00, o63_01, o63_10, o63_11, o83_0, o83_1, tK, e1]
  case h2 =>
    intro a b
    have e1 : (128 + b.val) / 128 = 1 := by omega
    unfold trip2.sl.r_43 trip2.sl.r_46 trip2.sl.v907 trip2.sl.r trip2.sl.r_1
    unfold_payloads
    pointwise
    simp only [two_d10 c arg2 arg6 arg7 arg12 k0_t1 v627 v629 k0_t2 f2 f6 f7 f12 hK hV hQ hL hD hDT, two_d11 c arg2 arg6 arg7 arg12 k0_t1 v627 v629 k0_t2 f2 f6 f7 f12 hK hV hQ hL hD hDT, readAt2_bf16, readAt2_f32, readAt3_bf16, readAt3_f32, readAt4_f32, Fin.val_zero, Nat.add_zero, Nat.zero_add, hKT, hQ, hDT, o63_00, o63_01, o63_10, o63_11, o78_0, o78_1, tK, e1]
  case h3 =>
    intro a b
    have e1 : (b.val) / 128 = 0 := by omega
    unfold trip2.sl.r_29 trip2.sl.r_32 trip2.sl.r trip2.sl.r_1
    unfold_payloads
    pointwise
    simp only [two_d00 c arg2 arg6 arg7 arg12 k0_t1 v627 v629 k0_t2 f2 f6 f7 f12 hK hV hQ hL hD hDT, two_d01 c arg2 arg6 arg7 arg12 k0_t1 v627 v629 k0_t2 f2 f6 f7 f12 hK hV hQ hL hD hDT, readAt2_bf16, readAt2_f32, readAt3_bf16, readAt3_f32, readAt4_f32, Fin.val_zero, Nat.add_zero, Nat.zero_add, hKT, hQ, hDT, o63_00, o63_01, o63_10, o63_11, o72_0, o72_1, tK, e1]

include hK hV hKT hQ hL hD hDT in
theorem two13 (r l : ℕ) : n2 (arg13.view.read (Elt Ideal) (arg13.view.writes (Elt Ideal) f13
      (trip2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 k0_t2 f2 f6 f7 f12 f9 f13 f14).2.1)) r l
    = if r < 512 ∧ (256 * (k0_t1.val + 2 * (1 + k0_t2.val)) ≤ l ∧ l < 256 * (k0_t1.val + 2 * (1 + k0_t2.val)) + 512) then n2 (arg13.view.read (Elt Ideal) f13) r l + tQ K V Q KT L D DT k0_t1.val r l else n2 (arg13.view.read (Elt Ideal) f13) r l := by
  unfold trip2
  dsimp only
  rw [writesG2_f32 _ _ _ _ _ _ (fun r l => n2 (arg13.view.read (Elt Ideal) f13) r l + tQ K V Q KT L D DT k0_t1.val r l) ?h0, writesG2_f32 _ _ _ _ _ _ (fun r l => n2 (arg13.view.read (Elt Ideal) f13) r l + tQ K V Q KT L D DT k0_t1.val r l) ?h1, writesG2_f32 _ _ _ _ _ _ (fun r l => n2 (arg13.view.read (Elt Ideal) f13) r l + tQ K V Q KT L D DT k0_t1.val r l) ?h2, writesG2_f32 _ _ _ _ _ _ (fun r l => n2 (arg13.view.read (Elt Ideal) f13) r l + tQ K V Q KT L D DT k0_t1.val r l) ?h3, writesG2_f32 _ _ _ _ _ _ (fun r l => n2 (arg13.view.read (Elt Ideal) f13) r l + tQ K V Q KT L D DT k0_t1.val r l) ?h4, writesG2_f32 _ _ _ _ _ _ (fun r l => n2 (arg13.view.read (Elt Ideal) f13) r l + tQ K V Q KT L D DT k0_t1.val r l) ?h5, writesG2_f32 _ _ _ _ _ _ (fun r l => n2 (arg13.view.read (Elt Ideal) f13) r l + tQ K V Q KT L D DT k0_t1.val r l) ?h6, writesG2_f32 _ _ _ _ _ _ (fun r l => n2 (arg13.view.read (Elt Ideal) f13) r l + tQ K V Q KT L D DT k0_t1.val r l) ?h7]
  · simp only [View.writes_nil, o73_00, o73_01, o73_10, o73_11, o79_00, o79_01, o79_10, o79_11, o84_00, o84_01, o84_10, o84_11, o87_00, o87_01, o87_10, o87_11]
    split_ifs <;> first | rfl | omega
  case h0 =>
    intro a b
    have e1 : (384 + a.val) / 128 = 3 := by omega
    unfold trip2.sl.v1035
    unfold_payloads
    pointwise
    simp only [two_d31 c arg2 arg6 arg7 arg12 k0_t1 v627 v629 k0_t2 f2 f6 f7 f12 hK hV hQ hL hD hDT, readAt2_bf16, readAt2_f32, readAt3_bf16, readAt3_f32, readAt4_f32, Fin.val_zero, Nat.add_zero, Nat.zero_add, hKT, hQ, hDT, o87_10, o87_11, tQ, e1]
  case h1 =>
    intro a b
    have e1 : (384 + a.val) / 128 = 3 := by omega
    unfold trip2.sl.v1026
    unfold_payloads
    pointwise
    simp only [two_d30 c arg2 arg6 arg7 arg12 k0_t1 v627 v629 k0_t2 f2 f6 f7 f12 hK hV hQ hL hD hDT, readAt2_bf16, readAt2_f32, readAt3_bf16, readAt3_f32, readAt4_f32, Fin.val_zero, Nat.add_zero, Nat.zero_add, hKT, hQ, hDT, o87_00, o87_01, tQ, e1]
  case h2 =>
    intro a b
    have e1 : (256 + a.val) / 128 = 2 := by omega
    unfold trip2.sl.v993
    unfold_payloads
    pointwise
    simp only [two_d21 c arg2 arg6 arg7 arg12 k0_t1 v627 v629 k0_t2 f2 f6 f7 f12 hK hV hQ hL hD hDT, readAt2_bf16, readAt2_f32, readAt3_bf16, readAt3_f32, readAt4_f32, Fin.val_zero, Nat.add_zero, Nat.zero_add, hKT, hQ, hDT, o84_10, o84_11, tQ, e1]
  case h3 =>
    intro a b
    have e1 : (256 + a.val) / 128 = 2 := by omega
    unfold trip2.sl.v984
    unfold_payloads
    pointwise
    simp only [two_d20 c arg2 arg6 arg7 arg12 k0_t1 v627 v629 k0_t2 f2 f6 f7 f12 hK hV hQ hL hD hDT, readAt2_bf16, readAt2_f32, readAt3_bf16, readAt3_f32, readAt4_f32, Fin.val_zero, Nat.add_zero, Nat.zero_add, hKT, hQ, hDT, o84_00, o84_01, tQ, e1]
  case h4 =>
    intro a b
    have e1 : (128 + a.val) / 128 = 1 := by omega
    unfold trip2.sl.v923
    unfold_payloads
    pointwise
    simp only [two_d11 c arg2 arg6 arg7 arg12 k0_t1 v627 v629 k0_t2 f2 f6 f7 f12 hK hV hQ hL hD hDT, readAt2_bf16, readAt2_f32, readAt3_bf16, readAt3_f32, readAt4_f32, Fin.val_zero, Nat.add_zero, Nat.zero_add, hKT, hQ, hDT, o79_10, o79_11, tQ, e1]
  case h5 =>
    intro a b
    have e1 : (128 + a.val) / 128 = 1 := by omega
    unfold trip2.sl.v914
    unfold_payloads
    pointwise
    simp only [two_d10 c arg2 arg6 arg7 arg12 k0_t1 v627 v629 k0_t2 f2 f6 f7 f12 hK hV hQ hL hD hDT, readAt2_bf16, readAt2_f32, readAt3_bf16, readAt3_f32, readAt4_f32, Fin.val_zero, Nat.add_zero, Nat.zero_add, hKT, hQ, hDT, o79_00, o79_01, tQ, e1]
  case h6 =>
    intro a b
    have e1 : (a.val) / 128 = 0 := by omega
    unfold trip2.sl.v837
    unfold_payloads
    pointwise
    simp only [two_d01 c arg2 arg6 arg7 arg12 k0_t1 v627 v629 k0_t2 f2 f6 f7 f12 hK hV hQ hL hD hDT, readAt2_bf16, readAt2_f32, readAt3_bf16, readAt3_f32, readAt4_f32, Fin.val_zero, Nat.add_zero, Nat.zero_add, hKT, hQ, hDT, o73_10, o73_11, tQ, e1]
  case h7 =>
    intro a b
    have e1 : (a.val) / 128 = 0 := by omega
    skip
    unfold_payloads
    pointwise
    simp only [two_d00 c arg2 arg6 arg7 arg12 k0_t1 v627 v629 k0_t2 f2 f6 f7 f12 hK hV hQ hL hD hDT, readAt2_bf16, readAt2_f32, readAt3_bf16, readAt3_f32, readAt4_f32, Fin.val_zero, Nat.add_zero, Nat.zero_add, hKT, hQ, hDT, o73_00, o73_01, tQ, e1]

include hK hV hKT hQ hL hD hDT in
theorem two14 (s r l : ℕ) : n3 (arg14.view.read (Elt Ideal) (arg14.view.writes (Elt Ideal) f14
      (trip2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 k0_t2 f2 f6 f7 f12 f9 f13 f14).2.2.1)) s r l
    = if s = k0_t1.val % 2 ∧ r < 256 ∧ l < 256 then n3 (arg14.view.read (Elt Ideal) f14) s r l + (tV K Q L DT k0_t1.val (k0_t1.val + 2 * (1 + k0_t2.val)) r l + tV K Q L DT k0_t1.val (k0_t1.val + 2 * (1 + k0_t2.val) + 1) r l) else n3 (arg14.view.read (Elt Ideal) f14) s r l := by
  unfold trip2
  dsimp only
  rw [writesG3_f32 _ _ _ _ _ _ (fun s r l => n3 (arg14.view.read (Elt Ideal) f14) s r l + (tV K Q L DT k0_t1.val (k0_t1.val + 2 * (1 + k0_t2.val)) r l + tV K Q L DT k0_t1.val (k0_t1.val + 2 * (1 + k0_t2.val) + 1) r l)) ?h0, writesG3_f32 _ _ _ _ _ _ (fun s r l => n3 (arg14.view.read (Elt Ideal) f14) s r l + (tV K Q L DT k0_t1.val (k0_t1.val + 2 * (1 + k0_t2.val)) r l + tV K Q L DT k0_t1.val (k0_t1.val + 2 * (1 + k0_t2.val) + 1) r l)) ?h1, writesG3_f32 _ _ _ _ _ _ (fun s r l => n3 (arg14.view.read (Elt Ideal) f14) s r l + (tV K Q L DT k0_t1.val (k0_t1.val + 2 * (1 + k0_t2.val)) r l + tV K Q L DT k0_t1.val (k0_t1.val + 2 * (1 + k0_t2.val) + 1) r l)) ?h2, writesG3_f32 _ _ _ _ _ _ (fun s r l => n3 (arg14.view.read (Elt Ideal) f14) s r l + (tV K Q L DT k0_t1.val (k0_t1.val + 2 * (1 + k0_t2.val)) r l + tV K Q L DT k0_t1.val (k0_t1.val + 2 * (1 + k0_t2.val) + 1) r l)) ?h3]
  · simp only [View.writes_nil, o71_0, o71_1, o71_2, o77_0, o77_1, o77_2, o82_0, o82_1, o82_2, o85_0, o85_1, o85_2]
    split_ifs <;> first | rfl | omega
  case h0 =>
    intro a b d
    have e1 : (192 + b.val) / 64 = 3 := by omega
    have e2 : (192 + b.val) % 128 = 64 + b.val := by omega
    unfold trip2.sl.r_33 trip2.sl.r_34 trip2.sl.v1010
    unfold_payloads
    pointwise
    simp only [two_p30 c arg2 arg7 k0_t1 v627 k0_t2 f2 f7 hK hQ hL, two_p31 c arg2 arg7 k0_t1 v627 k0_t2 f2 f7 hK hQ hL, readAt2_bf16, readAt2_f32, readAt3_bf16, readAt3_f32, readAt4_f32, Fin.val_zero, Nat.add_zero, Nat.zero_add, hKT, hQ, hDT, o74_00, o74_01, o74_02, o74_10, o74_11, o74_12, o85_0, o85_1, o85_2, tV, e1, e2]
  case h1 =>
    intro a b d
    have e1 : (128 + b.val) / 64 = 2 := by omega
    have e2 : (128 + b.val) % 128 = b.val := by omega
    unfold trip2.sl.r_18 trip2.sl.r_19 trip2.sl.v968
    unfold_payloads
    pointwise
    simp only [two_p20 c arg2 arg7 k0_t1 v627 k0_t2 f2 f7 hK hQ hL, two_p21 c arg2 arg7 k0_t1 v627 k0_t2 f2 f7 hK hQ hL, readAt2_bf16, readAt2_f32, readAt3_bf16, readAt3_f32, readAt4_f32, Fin.val_zero, Nat.add_zero, Nat.zero_add, hKT, hQ, hDT, o68_00, o68_01, o68_02, o68_10, o68_11, o68_12, o82_0, o82_1, o82_2, tV, e1, e2]
  case h2 =>
    intro a b d
    have e1 : (64 + b.val) / 64 = 1 := by omega
    have e2 : (64 + b.val) % 128 = 64 + b.val := by omega
    unfold trip2.sl.r_44 trip2.sl.r_45 trip2.sl.v898 trip2.sl.r_8 trip2.sl.r_9
    unfold_payloads
    pointwise
    simp only [two_p10 c arg2 arg7 k0_t1 v627 k0_t2 f2 f7 hK hQ hL, two_p11 c arg2 arg7 k0_t1 v627 k0_t2 f2 f7 hK hQ hL, readAt2_bf16, readAt2_f32, readAt3_bf16, readAt3_f32, readAt4_f32, Fin.val_zero, Nat.add_zero, Nat.zero_add, hKT, hQ, hDT, o65_00, o65_01, o65_02, o65_10, o65_11, o65_12, o77_0, o77_1, o77_2, tV, e1, e2]
  case h3 =>
    intro a b d
    have e1 : (b.val) / 64 = 0 := by omega
    have e2 : (b.val) % 128 = b.val := by omega
    unfold trip2.sl.r_30 trip2.sl.r_31 trip2.sl.r_2 trip2.sl.r_3
    unfold_payloads
    pointwise
    simp only [two_p00 c arg2 arg7 k0_t1 v627 k0_t2 f2 f7 hK hQ hL, two_p01 c arg2 arg7 k0_t1 v627 k0_t2 f2 f7 hK hQ hL, readAt2_bf16, readAt2_f32, readAt3_bf16, readAt3_f32, readAt4_f32, Fin.val_zero, Nat.add_zero, Nat.zero_add, hKT, hQ, hDT, o64_00, o64_01, o64_02, o64_10, o64_11, o64_12, o71_0, o71_1, o71_2, tV, e1, e2]

end

end Cert.Proof.Mla

end
-- ==== Proof.Loop2.lean ====
/- The inner loop, at an index: after its trips each gradient holds what it held and the sum of what the trips added. -/
module

public import proofs.«01_k».proof.Proof.Val2

@[expose] public section

set_option maxRecDepth 16384

noncomputable section

namespace Cert.Proof.Mla

open Cert.KernelIdeal Cert.KernelIdeal.Gen
open Idealize.ShloMosaic Idealize.ShloMosaic.TcCoe Idealize.ShloMosaic.Tactic

section
variable (c : Dev nD) (arg2 : Memref sig .tc .vmem S2048x512 .bf16) (arg6 : Memref sig .tc .vmem S1x4x2048 .f32)
  (arg7 : Memref sig .tc .vmem S1x1x4x2048 .f32) (arg9 : Memref sig .tc .vmem S2048x512 .f32)
  (arg12 : Memref sig .tc .vmem S4x128x2048 .bf16) (arg13 : Memref sig .tc .vmem S512x2048 .f32) (arg14 : Memref sig .tc .vmem S2x256x256 .f32)
  (k0_t1 : Fin k0_t1_loop.trips) (v627 : Vec Ideal S256x512 .bf16) (v629 : Vec Ideal S256x256 .bf16) (v631 : Vec Ideal S512x256 .bf16)
  (k0_t2 : Fin (k0_t2_loop k0_t1).trips)
  (f2 : Buf (Elt Ideal) (arg2.view.loc (c : Thread nD τ))) (f6 : Buf (Elt Ideal) (arg6.view.loc (c : Thread nD τ)))
  (f7 : Buf (Elt Ideal) (arg7.view.loc (c : Thread nD τ))) (f9 : Buf (Elt Ideal) (arg9.view.loc (c : Thread nD τ)))
  (f12 : Buf (Elt Ideal) (arg12.view.loc (c : Thread nD τ))) (f13 : Buf (Elt Ideal) (arg13.view.loc (c : Thread nD τ)))
  (f14 : Buf (Elt Ideal) (arg14.view.loc (c : Thread nD τ)))
  {K V Q KT L D : ℕ → ℕ → EReal} {DT : ℕ → ℕ → ℕ → EReal}
  (hK : ∀ (j : Fin 256) (l : Fin 512), v627 (ix2 j l) = K (256 * k0_t1.val + j.val) l.val)
  (hV : ∀ (j : Fin 256) (l : Fin 256), v629 (ix2 j l) = V (256 * k0_t1.val + j.val) l.val)
  (hKT : ∀ (r : Fin 512) (j : Fin 256), v631 (ix2 r j) = KT r.val (256 * k0_t1.val + j.val))
  (hQ : n2 (arg2.view.read (Elt Ideal) f2) = Q) (hL : n4 (arg7.view.read (Elt Ideal) f7) 0 0 = L)
  (hD : n3 (arg6.view.read (Elt Ideal) f6) 0 = D) (hDT : n3 (arg12.view.read (Elt Ideal) f12) = DT)

variable (i : grid0.Coords)
  (v9 : IVec S128x1 1)
  (v481 : FVec Ideal S128x256 .f32)
  (v486 : FVec Ideal S128x256 .bf16)
  (arg15 v623 v625 : BitVec 32)
  (arg3 : Memref sig .tc .vmem S2048x512 .bf16)
  (arg4 : Memref sig .tc .vmem S2048x256 .bf16)
  (arg5 : Memref sig .tc .vmem S2048x256 .bf16)
  (arg8 : Memref sig .tc .vmem S2048x512 .f32)
  (arg10 : Memref sig .tc .vmem S2048x256 .f32)
  (arg11 : Memref sig .tc .vmem S512x2048 .bf16)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole)

include hK hV hKT hQ hL hD hDT in
theorem loop9 (n : ℕ) (hn : n ≤ (k0_t2_loop k0_t1).trips) (r l : ℕ) :
    n2 (arg9.view.read (Elt Ideal) (it2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n).1) r l
      = if (256 * k0_t1.val ≤ r ∧ r < 256 * k0_t1.val + 256) ∧ l < 512 then n2 (arg9.view.read (Elt Ideal) f9) r l + ∑ t ∈ Finset.range n, (tK K V Q L D DT (k0_t1.val + 2 * (1 + t)) r l + tK K V Q L D DT (k0_t1.val + 2 * (1 + t) + 1) r l) else n2 (arg9.view.read (Elt Ideal) f9) r l := by
  induction n with
  | zero => rw [it2, Finset.sum_range_zero, add_zero, ite_self]
  | succ n ih =>
    have hlt : n < (k0_t2_loop k0_t1).trips := by omega
    rw [it2, dif_pos hlt]
    dsimp only
    rw [two9 (hK := hK) (hV := hV) (hKT := hKT) (hQ := hQ) (hL := hL) (hD := hD) (hDT := hDT), ih (by omega)]
    simp only [Finset.sum_range_succ]
    split_ifs <;> first | rfl | exact add_assoc _ _ _ | omega

include hK hV hKT hQ hL hD hDT in
theorem loop13 (n : ℕ) (hn : n ≤ (k0_t2_loop k0_t1).trips) (r l : ℕ) :
    n2 (arg13.view.read (Elt Ideal) (it2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n).2.1) r l
      = if r < 512 ∧ (256 * (k0_t1.val + 2) ≤ l ∧ l < 256 * (k0_t1.val + 2 + 2 * n)) then n2 (arg13.view.read (Elt Ideal) f13) r l + tQ K V Q KT L D DT k0_t1.val r l else n2 (arg13.view.read (Elt Ideal) f13) r l := by
  induction n with
  | zero => rw [it2, if_neg (by omega)]
  | succ n ih =>
    have hlt : n < (k0_t2_loop k0_t1).trips := by omega
    rw [it2, dif_pos hlt]
    dsimp only
    rw [two13 (hK := hK) (hV := hV) (hKT := hKT) (hQ := hQ) (hL := hL) (hD := hD) (hDT := hDT), ih (by omega)]
    dsimp only
    split_ifs <;> first | rfl | exact add_assoc _ _ _ | omega

include hK hV hKT hQ hL hD hDT in
theorem loop14 (n : ℕ) (hn : n ≤ (k0_t2_loop k0_t1).trips) (s r l : ℕ) :
    n3 (arg14.view.read (Elt Ideal) (it2 c i arg2 harg2 arg3 harg3 arg4 harg4 arg5 harg5 arg6 harg6 arg7 harg7 arg8 harg8 arg9 harg9 arg10 harg10 arg11 harg11 arg12 harg12 arg13 harg13 arg14 harg14 v9 v481 v486 k0_t1 arg15 v623 v625 v627 v629 v631 f2 f6 f7 f12 f9 f13 f14 n).2.2) s r l
      = if s = k0_t1.val % 2 ∧ r < 256 ∧ l < 256 then n3 (arg14.view.read (Elt Ideal) f14) s r l + ∑ t ∈ Finset.range n, (tV K Q L DT k0_t1.val (k0_t1.val + 2 * (1 + t)) r l + tV K Q L DT k0_t1.val (k0_t1.val + 2 * (1 + t) + 1) r l) else n3 (arg14.view.read (Elt Ideal) f14) s r l := by
  induction n with
  | zero => rw [it2, Finset.sum_range_zero, add_zero, ite_self]
  | succ n ih =>
    have hlt : n < (k0_t2_loop k0_t1).trips := by omega
    rw [it2, dif_pos hlt]
    dsimp only
    rw [two14 (hK := hK) (hV := hV) (hKT := hKT) (hQ := hQ) (hL := hL) (hD := hD) (hDT := hDT), ih (by omega)]
    simp only [Finset.sum_range_succ]
    split_ifs <;> first | rfl | exact add_assoc _ _ _ | omega

/-- The trips of the inner loop, from its bounds. -/
theorem trips2_def : Scf.trips (k0_t2_loop k0_t1).lb (k0_t2_loop k0_t1).ub (k0_t2_loop k0_t1).st = (k0_t2_loop k0_t1).trips := rfl

end

end Cert.Proof.Mla

end
-- ==== Proof.ValA.lean ====
/- A trip of the outer loop that ends with an odd query tile, at an index. -/
module

public import proofs.«01_k».proof.Proof.Loop2
public import proofs.«01_k».proof.Proof.Mask

@[expose] public section

set_option maxRecDepth 16384

noncomputable section

namespace Cert.Proof.Mla

open Cert.KernelIdeal Cert.KernelIdeal.Gen
open Idealize.ShloMosaic Idealize.ShloMosaic.TcCoe Idealize.ShloMosaic.Tactic

section
variable (c : Dev nD) (i : grid0.Coords)
  (arg2 : Memref sig .tc .vmem S2048x512 .bf16) (harg2 : arg2.IsWhole)
  (arg3 : Memref sig .tc .vmem S2048x512 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S1x4x2048 .f32) (harg6 : arg6.IsWhole)
  (arg7 : Memref sig .tc .vmem S1x1x4x2048 .f32) (harg7 : arg7.IsWhole)
  (arg8 : Memref sig .tc .vmem S2048x512 .f32) (harg8 : arg8.IsWhole)
  (arg9 : Memref sig .tc .vmem S2048x512 .f32) (harg9 : arg9.IsWhole)
  (arg10 : Memref sig .tc .vmem S2048x256 .f32) (harg10 : arg10.IsWhole)
  (arg11 : Memref sig .tc .vmem S512x2048 .bf16) (harg11 : arg11.IsWhole)
  (arg12 : Memref sig .tc .vmem S4x128x2048 .bf16) (harg12 : arg12.IsWhole)
  (arg13 : Memref sig .tc .vmem S512x2048 .f32) (harg13 : arg13.IsWhole)
  (arg14 : Memref sig .tc .vmem S2x256x256 .f32) (harg14 : arg14.IsWhole)
  (v9 : IVec S128x1 1) (v481 : FVec Ideal S128x256 .f32) (v486 : FVec Ideal S128x256 .bf16)
  (k0_t1 : Fin k0_t1_loop.trips) (h1 : k0_cond1 k0_t1 = 1#1) (h2 : k0_cond2 k0_t1 = 1#1)
  (f2 : Buf (Elt Ideal) (arg2.view.loc (c : Thread nD τ)))
  (f3 : Buf (Elt Ideal) (arg3.view.loc (c : Thread nD τ)))
  (f4 : Buf (Elt Ideal) (arg4.view.loc (c : Thread nD τ)))
  (f6 : Buf (Elt Ideal) (arg6.view.loc (c : Thread nD τ)))
  (f7 : Buf (Elt Ideal) (arg7.view.loc (c : Thread nD τ)))
  (f11 : Buf (Elt Ideal) (arg11.view.loc (c : Thread nD τ)))
  (f12 : Buf (Elt Ideal) (arg12.view.loc (c : Thread nD τ)))
  (f9 : Buf (Elt Ideal) (arg9.view.loc (c : Thread nD τ)))
  (f10 : Buf (Elt Ideal) (arg10.view.loc (c : Thread nD τ)))
  (f13 : Buf (Elt Ideal) (arg13.view.loc (c : Thread nD τ)))
  (f14 : Buf (Elt Ideal) (arg14.view.loc (c : Thread nD τ)))
  {K V Q KT L D : ℕ → ℕ → EReal} {DT : ℕ → ℕ → ℕ → EReal}
  (hK : n2 (arg3.view.read (Elt Ideal) f3) = K) (hV : n2 (arg4.view.read (Elt Ideal) f4) = V)
  (hKT : n2 (arg11.view.read (Elt Ideal) f11) = KT)
  (hQ : n2 (arg2.view.read (Elt Ideal) f2) = Q) (hL : n4 (arg7.view.read (Elt Ideal) f7) 0 0 = L)
  (hD : n3 (arg6.view.read (Elt Ideal) f6) 0 = D) (hDT : n3 (arg12.view.read (Elt Ideal) f12) = DT)
  (hk : k0_t1.val + 2 + 2 * (k0_t2_loop k0_t1).trips = 7)

include hK hQ hL in
theorem ap00 (j x : Fin 256) : tripA.sl.r_13 c arg2 arg3 arg7 k0_t1 h1 f2 f3 f7 (ix2 j x)
    = pM K Q L 0 (256 * k0_t1.val + j.val) (256 * k0_t1.val + x.val) := by
  unfold tripA.sl.r_13 tripA.sl.r_10 tripA.sl.v710 tripA.sl.v720 tripA.sl.v718 tripA.sl.v719 tripA.sl.v717 tripA.sl.v716 tripA.sl.v715 tripA.sl.v624 tripA.sl.arg15
  unfold_payloads
  pointwise
  simp only [readAt2_bf16, readAt2_f32, readAt3_bf16, readAt3_f32, readAt4_f32, Fin.val_zero, Nat.add_zero, Nat.zero_add, hK, hQ, hL, sel_le,
    o1_0, o1_1, o9_00, o9_01, o12_00, o12_01, o12_02, o12_03]
  rw [pM, pF]
  rfl

include hK hV hQ hL hD hDT in
theorem ad00 (j x : Fin 256) : tripA.sl.r_12 c arg2 arg3 arg4 arg6 arg7 arg12 k0_t1 h1 f2 f3 f4 f6 f7 f12 (ix2 j x)
    = dM K V Q L D DT 0 (256 * k0_t1.val + j.val) (256 * k0_t1.val + x.val) := by
  unfold tripA.sl.r_12 tripA.sl.r_2 tripA.sl.r_10 tripA.sl.r_11 tripA.sl.v723 tripA.sl.v710 tripA.sl.v720 tripA.sl.v718 tripA.sl.v719 tripA.sl.v717 tripA.sl.v716 tripA.sl.v715 tripA.sl.v624 tripA.sl.arg15
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_00, o9_01, o10_00, o10_01, o10_02, o12_00, o12_01, o12_02, o12_03, o13_00, o13_01, o13_02]
  rw [dM, pM, pF]
  split_ifs <;> first | rfl | exact (zero_mul _).symm

include hK hQ hL in
theorem ap01 (j x : Fin 256) : tripA.sl.r_15 c arg2 arg3 arg7 k0_t1 h1 f2 f3 f7 (ix2 j x)
    = pM K Q L 0 (256 * k0_t1.val + j.val) (256 * (k0_t1.val + 1) + x.val) := by
  unfold tripA.sl.r_15 tripA.sl.r_1 tripA.sl.v713
  unfold_payloads
  pointwise
  simp only [readAt2_bf16, readAt2_f32, readAt3_bf16, readAt3_f32, readAt4_f32, Fin.val_zero, Nat.add_zero, Nat.zero_add, hK, hQ, hL, sel_le,
    o1_0, o1_1, o9_10, o9_11, o12_10, o12_11, o12_12, o12_13]
  rw [pM, if_pos (by omega), pF]
  rfl

include hK hV hQ hL hD hDT in
theorem ad01 (j x : Fin 256) : tripA.sl.r_14 c arg2 arg3 arg4 arg6 arg7 arg12 k0_t1 h1 f2 f3 f4 f6 f7 f12 (ix2 j x)
    = dM K V Q L D DT 0 (256 * k0_t1.val + j.val) (256 * (k0_t1.val + 1) + x.val) := by
  unfold tripA.sl.r_14 tripA.sl.r_1 tripA.sl.r_3 tripA.sl.v713
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_10, o9_11, o10_10, o10_11, o10_12, o12_10, o12_11, o12_12, o12_13, o13_10, o13_11, o13_12]
  rw [dM, pM, if_pos (by omega), pF]
  rfl

include hK hQ hL in
theorem ap10 (j x : Fin 256) : tripA.sl.r_24 c arg2 arg3 arg7 k0_t1 h1 f2 f3 f7 (ix2 j x)
    = pM K Q L 1 (256 * k0_t1.val + j.val) (256 * k0_t1.val + x.val) := by
  unfold tripA.sl.r_24 tripA.sl.r_22 tripA.sl.v720 tripA.sl.r_6 tripA.sl.v718 tripA.sl.v719 tripA.sl.v710 tripA.sl.v717 tripA.sl.v716 tripA.sl.v715 tripA.sl.v624 tripA.sl.arg15
  unfold_payloads
  pointwise
  simp only [readAt2_bf16, readAt2_f32, readAt3_bf16, readAt3_f32, readAt4_f32, Fin.val_zero, Nat.add_zero, Nat.zero_add, hK, hQ, hL, sel_le,
    o1_0, o1_1, o9_00, o9_01, o15_00, o15_01, o15_02, o15_03]
  rw [pM, pF]
  rfl

include hK hV hQ hL hD hDT in
theorem ad10 (j x : Fin 256) : tripA.sl.r_23 c arg2 arg3 arg4 arg6 arg7 arg12 k0_t1 h1 f2 f3 f4 f6 f7 f12 (ix2 j x)
    = dM K V Q L D DT 1 (256 * k0_t1.val + j.val) (256 * k0_t1.val + x.val) := by
  unfold tripA.sl.r_23 tripA.sl.r_8 tripA.sl.r_22 tripA.sl.v720 tripA.sl.r_6 tripA.sl.v718 tripA.sl.v719 tripA.sl.v710 tripA.sl.v717 tripA.sl.v716 tripA.sl.v715 tripA.sl.v624 tripA.sl.arg15
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_00, o9_01, o11_00, o11_01, o11_02, o15_00, o15_01, o15_02, o15_03, o16_00, o16_01, o16_02]
  rw [dM, pM, pF]
  split_ifs <;> first | rfl | exact (zero_mul _).symm

include hK hQ hL in
theorem ap11 (j x : Fin 256) : tripA.sl.r_26 c arg2 arg3 arg7 k0_t1 h1 f2 f3 f7 (ix2 j x)
    = pM K Q L 1 (256 * k0_t1.val + j.val) (256 * (k0_t1.val + 1) + x.val) := by
  unfold tripA.sl.r_26 tripA.sl.r_7 tripA.sl.v713
  unfold_payloads
  pointwise
  simp only [readAt2_bf16, readAt2_f32, readAt3_bf16, readAt3_f32, readAt4_f32, Fin.val_zero, Nat.add_zero, Nat.zero_add, hK, hQ, hL, sel_le,
    o1_0, o1_1, o9_10, o9_11, o15_10, o15_11, o15_12, o15_13]
  rw [pM, if_pos (by omega), pF]
  rfl

include hK hV hQ hL hD hDT in
theorem ad11 (j x : Fin 256) : tripA.sl.r_25 c arg2 arg3 arg4 arg6 arg7 arg12 k0_t1 h1 f2 f3 f4 f6 f7 f12 (ix2 j x)
    = dM K V Q L D DT 1 (256 * k0_t1.val + j.val) (256 * (k0_t1.val + 1) + x.val) := by
  unfold tripA.sl.r_25 tripA.sl.r_7 tripA.sl.r_9 tripA.sl.v713
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_10, o9_11, o11_10, o11_11, o11_12, o15_10, o15_11, o15_12, o15_13, o16_10, o16_11, o16_12]
  rw [dM, pM, if_pos (by omega), pF]
  rfl

include hK hQ hL in
theorem ap20 (j x : Fin 256) : tripA.sl.r_36 c arg2 arg3 arg7 k0_t1 h1 f2 f3 f7 (ix2 j x)
    = pM K Q L 2 (256 * k0_t1.val + j.val) (256 * k0_t1.val + x.val) := by
  unfold tripA.sl.r_36 tripA.sl.v720 tripA.sl.r_18 tripA.sl.r_34 tripA.sl.v718 tripA.sl.v719 tripA.sl.v710 tripA.sl.v717 tripA.sl.v716 tripA.sl.v715 tripA.sl.v624 tripA.sl.arg15
  unfold_payloads
  pointwise
  simp only [readAt2_bf16, readAt2_f32, readAt3_bf16, readAt3_f32, readAt4_f32, Fin.val_zero, Nat.add_zero, Nat.zero_add, hK, hQ, hL, sel_le,
    o1_0, o1_1, o9_00, o9_01, o21_00, o21_01, o21_02, o21_03]
  rw [pM, pF]
  rfl

include hK hV hQ hL hD hDT in
theorem ad20 (j x : Fin 256) : tripA.sl.r_35 c arg2 arg3 arg4 arg6 arg7 arg12 k0_t1 h1 f2 f3 f4 f6 f7 f12 (ix2 j x)
    = dM K V Q L D DT 2 (256 * k0_t1.val + j.val) (256 * k0_t1.val + x.val) := by
  unfold tripA.sl.r_35 tripA.sl.v720 tripA.sl.r_18 tripA.sl.r_20 tripA.sl.r_34 tripA.sl.v718 tripA.sl.v719 tripA.sl.v710 tripA.sl.v717 tripA.sl.v716 tripA.sl.v715 tripA.sl.v624 tripA.sl.arg15
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_00, o9_01, o14_00, o14_01, o14_02, o21_00, o21_01, o21_02, o21_03, o22_00, o22_01, o22_02]
  rw [dM, pM, pF]
  split_ifs <;> first | rfl | exact (zero_mul _).symm

include hK hQ hL in
theorem ap21 (j x : Fin 256) : tripA.sl.r_38 c arg2 arg3 arg7 k0_t1 h1 f2 f3 f7 (ix2 j x)
    = pM K Q L 2 (256 * k0_t1.val + j.val) (256 * (k0_t1.val + 1) + x.val) := by
  unfold tripA.sl.r_38 tripA.sl.r_19 tripA.sl.v713
  unfold_payloads
  pointwise
  simp only [readAt2_bf16, readAt2_f32, readAt3_bf16, readAt3_f32, readAt4_f32, Fin.val_zero, Nat.add_zero, Nat.zero_add, hK, hQ, hL, sel_le,
    o1_0, o1_1, o9_10, o9_11, o21_10, o21_11, o21_12, o21_13]
  rw [pM, if_pos (by omega), pF]
  rfl

include hK hV hQ hL hD hDT in
theorem ad21 (j x : Fin 256) : tripA.sl.r_37 c arg2 arg3 arg4 arg6 arg7 arg12 k0_t1 h1 f2 f3 f4 f6 f7 f12 (ix2 j x)
    = dM K V Q L D DT 2 (256 * k0_t1.val + j.val) (256 * (k0_t1.val + 1) + x.val) := by
  unfold tripA.sl.r_37 tripA.sl.r_19 tripA.sl.r_21 tripA.sl.v713
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_10, o9_11, o14_10, o14_11, o14_12, o21_10, o21_11, o21_12, o21_13, o22_10, o22_11, o22_12]
  rw [dM, pM, if_pos (by omega), pF]
  rfl

include hK hQ hL in
theorem ap30 (j x : Fin 256) : tripA.sl.r_42 c arg2 arg3 arg7 k0_t1 h1 f2 f3 f7 (ix2 j x)
    = pM K Q L 3 (256 * k0_t1.val + j.val) (256 * k0_t1.val + x.val) := by
  unfold tripA.sl.r_42 tripA.sl.v720 tripA.sl.r_30 tripA.sl.v718 tripA.sl.v719 tripA.sl.v710 tripA.sl.v717 tripA.sl.v716 tripA.sl.v715 tripA.sl.v624 tripA.sl.arg15
  unfold_payloads
  pointwise
  simp only [readAt2_bf16, readAt2_f32, readAt3_bf16, readAt3_f32, readAt4_f32, Fin.val_zero, Nat.add_zero, Nat.zero_add, hK, hQ, hL, sel_le,
    o1_0, o1_1, o9_00, o9_01, o26_00, o26_01, o26_02, o26_03]
  rw [pM, pF]
  rfl

include hK hV hQ hL hD hDT in
theorem ad30 (j x : Fin 256) : tripA.sl.r_41 c arg2 arg3 arg4 arg6 arg7 arg12 k0_t1 h1 f2 f3 f4 f6 f7 f12 (ix2 j x)
    = dM K V Q L D DT 3 (256 * k0_t1.val + j.val) (256 * k0_t1.val + x.val) := by
  unfold tripA.sl.r_41 tripA.sl.v720 tripA.sl.r_30 tripA.sl.r_32 tripA.sl.v718 tripA.sl.v719 tripA.sl.v710 tripA.sl.v717 tripA.sl.v716 tripA.sl.v715 tripA.sl.v624 tripA.sl.arg15
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_00, o9_01, o20_00, o20_01, o20_02, o26_00, o26_01, o26_02, o26_03, o27_00, o27_01, o27_02]
  rw [dM, pM, pF]
  split_ifs <;> first | rfl | exact (zero_mul _).symm

include hK hQ hL in
theorem ap31 (j x : Fin 256) : tripA.sl.r_44 c arg2 arg3 arg7 k0_t1 h1 f2 f3 f7 (ix2 j x)
    = pM K Q L 3 (256 * k0_t1.val + j.val) (256 * (k0_t1.val + 1) + x.val) := by
  unfold tripA.sl.r_44 tripA.sl.r_31 tripA.sl.v713
  unfold_payloads
  pointwise
  simp only [readAt2_bf16, readAt2_f32, readAt3_bf16, readAt3_f32, readAt4_f32, Fin.val_zero, Nat.add_zero, Nat.zero_add, hK, hQ, hL, sel_le,
    o1_0, o1_1, o9_10, o9_11, o26_10, o26_11, o26_12, o26_13]
  rw [pM, if_pos (by omega), pF]
  rfl

include hK hV hQ hL hD hDT in
theorem ad31 (j x : Fin 256) : tripA.sl.r_43 c arg2 arg3 arg4 arg6 arg7 arg12 k0_t1 h1 f2 f3 f4 f6 f7 f12 (ix2 j x)
    = dM K V Q L D DT 3 (256 * k0_t1.val + j.val) (256 * (k0_t1.val + 1) + x.val) := by
  unfold tripA.sl.r_43 tripA.sl.r_31 tripA.sl.r_33 tripA.sl.v713
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_10, o9_11, o20_10, o20_11, o20_12, o26_10, o26_11, o26_12, o26_13, o27_10, o27_11, o27_12]
  rw [dM, pM, if_pos (by omega), pF]
  rfl

include hK in
theorem aK (j : Fin 256) (l : Fin 512) : tripA.sl.r_47 c arg3 k0_t1 f3 (ix2 j l) = K (256 * k0_t1.val + j.val) l.val := by
  unfold tripA.sl.r_47; simp only [readAt2_bf16, readAt2_f32, readAt3_bf16, readAt3_f32, readAt4_f32, Fin.val_zero, Nat.add_zero, Nat.zero_add, hK, o1_0, o1_1]
include hV in
theorem aV (j : Fin 256) (l : Fin 256) : tripA.sl.r_48 c arg4 k0_t1 f4 (ix2 j l) = V (256 * k0_t1.val + j.val) l.val := by
  unfold tripA.sl.r_48; simp only [readAt2_bf16, readAt2_f32, readAt3_bf16, readAt3_f32, readAt4_f32, Fin.val_zero, Nat.add_zero, Nat.zero_add, hV, o2_0, o2_1]
include hKT in
theorem aT (r : Fin 512) (j : Fin 256) : tripA.sl.r_49 c arg11 k0_t1 f11 (ix2 r j) = KT r.val (256 * k0_t1.val + j.val) := by
  unfold tripA.sl.r_49; simp only [readAt2_bf16, readAt2_f32, readAt3_bf16, readAt3_f32, readAt4_f32, Fin.val_zero, Nat.add_zero, Nat.zero_add, hKT, o3_0, o3_1]

theorem az9_1 (f : arg9.view.ty.Contents (Elt Ideal)) (r l : ℕ) (hr : 256 * k0_t1.val ≤ r) (hr2 : r < 256 * k0_t1.val + 256) (hl : 0 ≤ l) (hl2 : l < 512) :
    n2 (arg9.view.read (Elt Ideal) (arg9.view.writes (Elt Ideal) f (tripA.sl.H9_1 k0_t1))) r l = 0 := by
  unfold tripA.sl.H9_1
  rw [writesG2_f32 _ _ _ _ _ _ (fun _ _ => 0) ?h, if_pos (by simp only [o1_0, o1_1]; omega)]
  case h =>
    intros
    unfold_payloads
    pointwise

theorem az9_2 (f : arg9.view.ty.Contents (Elt Ideal)) (r l : ℕ) (hr : 256 * k0_t1.val ≤ r) (hr2 : r < 256 * k0_t1.val + 256) (hl : 128 ≤ l) (hl2 : l < 512) :
    n2 (arg9.view.read (Elt Ideal) (arg9.view.writes (Elt Ideal) f (tripA.sl.H9_2 c arg2 arg3 arg4 arg6 arg7 arg9 arg12 k0_t1 h1 f2 f3 f4 f6 f7 f12))) r l = 0 := by
  unfold tripA.sl.H9_2
  rw [writes2_f32, if_neg (by simp only [o18_0, o18_1]; omega)]
  apply az9_1 <;> omega

theorem az9_3 (f : arg9.view.ty.Contents (Elt Ideal)) (r l : ℕ) (hr : 256 * k0_t1.val ≤ r) (hr2 : r < 256 * k0_t1.val + 256) (hl : 256 ≤ l) (hl2 : l < 512) :
    n2 (arg9.view.read (Elt Ideal) (arg9.view.writes (Elt Ideal) f (tripA.sl.H9_3 c arg2 arg3 arg4 arg6 arg7 arg9 arg12 k0_t1 h1 f2 f3 f4 f6 f7 f12))) r l = 0 := by
  unfold tripA.sl.H9_3
  rw [writes2_f32, if_neg (by simp only [o24_0, o24_1]; omega)]
  apply az9_2 <;> omega

theorem az9_4 (f : arg9.view.ty.Contents (Elt Ideal)) (r l : ℕ) (hr : 256 * k0_t1.val ≤ r) (hr2 : r < 256 * k0_t1.val + 256) (hl : 384 ≤ l) (hl2 : l < 512) :
    n2 (arg9.view.read (Elt Ideal) (arg9.view.writes (Elt Ideal) f (tripA.sl.H9_4 c arg2 arg3 arg4 arg6 arg7 arg9 arg12 k0_t1 h1 f2 f3 f4 f6 f7 f12))) r l = 0 := by
  unfold tripA.sl.H9_4
  rw [writes2_f32, if_neg (by simp only [o29_0, o29_1]; omega)]
  apply az9_3 <;> omega

theorem az14_1 (f : arg14.view.ty.Contents (Elt Ideal)) (s r l : ℕ) (hs : s = k0_t1.val % 2) (hr : 0 ≤ r) (hr2 : r < 256) (hl : l < 256) :
    n3 (arg14.view.read (Elt Ideal) (arg14.view.writes (Elt Ideal) f (tripA.sl.H14_1 k0_t1))) s r l = 0 := by
  unfold tripA.sl.H14_1
  rw [writesG3_f32 _ _ _ _ _ _ (fun _ _ _ => 0) ?h, if_pos (by simp only [o4_0, o4_1, o4_2]; omega)]
  case h =>
    intros
    unfold_payloads
    pointwise

theorem az14_2 (f : arg14.view.ty.Contents (Elt Ideal)) (s r l : ℕ) (hs : s = k0_t1.val % 2) (hr : 64 ≤ r) (hr2 : r < 256) (hl : l < 256) :
    n3 (arg14.view.read (Elt Ideal) (arg14.view.writes (Elt Ideal) f (tripA.sl.H14_2 c arg2 arg3 arg7 arg12 arg14 k0_t1 h1 f2 f3 f7 f12))) s r l = 0 := by
  unfold tripA.sl.H14_2
  rw [writes3_f32, if_neg (by simp only [o17_0, o17_1, o17_2]; omega)]
  apply az14_1 <;> omega

theorem az14_3 (f : arg14.view.ty.Contents (Elt Ideal)) (s r l : ℕ) (hs : s = k0_t1.val % 2) (hr : 128 ≤ r) (hr2 : r < 256) (hl : l < 256) :
    n3 (arg14.view.read (Elt Ideal) (arg14.view.writes (Elt Ideal) f (tripA.sl.H14_3 c arg2 arg3 arg7 arg12 arg14 k0_t1 h1 f2 f3 f7 f12))) s r l = 0 := by
  unfold tripA.sl.H14_3
  rw [writes3_f32, if_neg (by simp only [o23_0, o23_1, o23_2]; omega)]
  apply az14_2 <;> omega

theorem az14_4 (f : arg14.view.ty.Contents (Elt Ideal)) (s r l : ℕ) (hs : s = k0_t1.val % 2) (hr : 192 ≤ r) (hr2 : r < 256) (hl : l < 256) :
    n3 (arg14.view.read (Elt Ideal) (arg14.view.writes (Elt Ideal) f (tripA.sl.H14_4 c arg2 arg3 arg7 arg12 arg14 k0_t1 h1 f2 f3 f7 f12))) s r l = 0 := by
  unfold tripA.sl.H14_4
  rw [writes3_f32, if_neg (by simp only [o28_0, o28_1, o28_2]; omega)]
  apply az14_3 <;> omega

include hK hV hQ hL hD hDT hk in
theorem ad0t (j x : Fin 256) : tripA.sl.r_55 c arg2 arg3 arg4 arg6 arg7 arg12 k0_t1 f2 f3 f4 f6 f7 f12 (ix2 j x)
    = dM K V Q L D DT 0 (256 * k0_t1.val + j.val) (256 * 7 + x.val) := by
  unfold tripA.sl.r_55 tripA.sl.r_47 tripA.sl.r_48
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, Matrix.cons_val]
  rw [dM, pM, if_pos (by omega), pF]
  rfl

include hK hV hQ hL hD hDT hk in
theorem ad1t (j x : Fin 256) : tripA.sl.r_61 c arg2 arg3 arg4 arg6 arg7 arg12 k0_t1 f2 f3 f4 f6 f7 f12 (ix2 j x)
    = dM K V Q L D DT 1 (256 * k0_t1.val + j.val) (256 * 7 + x.val) := by
  unfold tripA.sl.r_61 tripA.sl.r_53 tripA.sl.r_54 tripA.sl.r_47 tripA.sl.r_48
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, Matrix.cons_val]
  rw [dM, pM, if_pos (by omega), pF]
  rfl

include hK hV hQ hL hD hDT hk in
theorem ad2t (j x : Fin 256) : tripA.sl.r_67 c arg2 arg3 arg4 arg6 arg7 arg12 k0_t1 f2 f3 f4 f6 f7 f12 (ix2 j x)
    = dM K V Q L D DT 2 (256 * k0_t1.val + j.val) (256 * 7 + x.val) := by
  unfold tripA.sl.r_67 tripA.sl.r_58 tripA.sl.r_60 tripA.sl.r_47 tripA.sl.r_57 tripA.sl.r_59 tripA.sl.cst_475 tripA.sl.r_48
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, Matrix.cons_val]
  rw [dM, pM, if_pos (by omega), pF]
  rfl

include hK hV hQ hL hD hDT hk in
theorem ad3t (j x : Fin 256) : tripA.sl.r_69 c arg2 arg3 arg4 arg6 arg7 arg12 k0_t1 f2 f3 f4 f6 f7 f12 (ix2 j x)
    = dM K V Q L D DT 3 (256 * k0_t1.val + j.val) (256 * 7 + x.val) := by
  unfold tripA.sl.r_69 tripA.sl.r_65 tripA.sl.r_66 tripA.sl.r_47 tripA.sl.r_50 tripA.sl.r_48
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, Matrix.cons_val]
  rw [dM, pM, if_pos (by omega), pF]
  rfl

include hK hQ hL hk in
theorem ap0t (j x : Fin 256) : tripA.sl.r_56 c arg2 arg3 arg7 k0_t1 f2 f3 f7 (ix2 j x)
    = pM K Q L 0 (256 * k0_t1.val + j.val) (256 * 7 + x.val) := by
  unfold tripA.sl.r_56 tripA.sl.r_47
  unfold_payloads
  pointwise
  simp only [readAt2_bf16, readAt2_f32, readAt3_bf16, readAt3_f32, readAt4_f32, Fin.val_zero, Nat.add_zero, Nat.zero_add, hK, hQ, hL, sel_le,
    o1_0, o1_1, Matrix.cons_val]
  rw [pM, if_pos (by omega), pF]
  rfl

include hK hQ hL hk in
theorem ap1t (j x : Fin 256) : tripA.sl.r_62 c arg2 arg3 arg7 k0_t1 f2 f3 f7 (ix2 j x)
    = pM K Q L 1 (256 * k0_t1.val + j.val) (256 * 7 + x.val) := by
  unfold tripA.sl.r_62 tripA.sl.r_53 tripA.sl.r_47
  unfold_payloads
  pointwise
  simp only [readAt2_bf16, readAt2_f32, readAt3_bf16, readAt3_f32, readAt4_f32, Fin.val_zero, Nat.add_zero, Nat.zero_add, hK, hQ, hL, sel_le,
    o1_0, o1_1, Matrix.cons_val]
  rw [pM, if_pos (by omega), pF]
  rfl

include hK hQ hL hk in
theorem ap2t (j x : Fin 256) : tripA.sl.r_68 c arg2 arg3 arg7 k0_t1 f2 f3 f7 (ix2 j x)
    = pM K Q L 2 (256 * k0_t1.val + j.val) (256 * 7 + x.val) := by
  unfold tripA.sl.r_68 tripA.sl.r_58 tripA.sl.r_47
  unfold_payloads
  pointwise
  simp only [readAt2_bf16, readAt2_f32, readAt3_bf16, readAt3_f32, readAt4_f32, Fin.val_zero, Nat.add_zero, Nat.zero_add, hK, hQ, hL, sel_le,
    o1_0, o1_1, Matrix.cons_val]
  rw [pM, if_pos (by omega), pF]
  rfl

include hK hQ hL hk in
theorem ap3t (j x : Fin 256) : tripA.sl.r_70 c arg2 arg3 arg7 k0_t1 f2 f3 f7 (ix2 j x)
    = pM K Q L 3 (256 * k0_t1.val + j.val) (256 * 7 + x.val) := by
  unfold tripA.sl.r_70 tripA.sl.r_65 tripA.sl.r_47 tripA.sl.r_50
  unfold_payloads
  pointwise
  simp only [readAt2_bf16, readAt2_f32, readAt3_bf16, readAt3_f32, readAt4_f32, Fin.val_zero, Nat.add_zero, Nat.zero_add, hK, hQ, hL, sel_le,
    o1_0, o1_1, Matrix.cons_val]
  rw [pM, if_pos (by omega), pF]
  rfl

set_option maxHeartbeats 0 in
include hK hV hKT hQ hL hD hDT hk in
theorem at9 (S : Buf (Elt Ideal) (arg9.view.loc (c : Thread nD τ)))
    (x0 x1 x2 x3 : Vec Ideal S256x128 .f32)
    (hx0 : ∀ (a : Fin 256) (b : Fin 128), x0 (ix2 a b) = n2 (arg9.view.read (Elt Ideal) S) (256 * k0_t1.val + a.val) (384 + b.val))
    (hx1 : ∀ (a : Fin 256) (b : Fin 128), x1 (ix2 a b) = n2 (arg9.view.read (Elt Ideal) S) (256 * k0_t1.val + a.val) (256 + b.val))
    (hx2 : ∀ (a : Fin 256) (b : Fin 128), x2 (ix2 a b) = n2 (arg9.view.read (Elt Ideal) S) (256 * k0_t1.val + a.val) (128 + b.val))
    (hx3 : ∀ (a : Fin 256) (b : Fin 128), x3 (ix2 a b) = n2 (arg9.view.read (Elt Ideal) S) (256 * k0_t1.val + a.val) b.val) (r l : ℕ) :
    n2 (arg9.view.read (Elt Ideal) (arg9.view.writes (Elt Ideal) S
      [⟨Rect.unit (k0_off120 k0_t1) S256x128.size (k0_off120_inb k0_t1 h2), k0_pay399 (tripA.sl.r_50 c arg2 f2) (tripA.sl.r_69 c arg2 arg3 arg4 arg6 arg7 arg12 k0_t1 f2 f3 f4 f6 f7 f12) x0⟩, ⟨Rect.unit (k0_off118 k0_t1) S256x128.size (k0_off118_inb k0_t1 h2), k0_pay293 (tripA.sl.r_50 c arg2 f2) (tripA.sl.r_67 c arg2 arg3 arg4 arg6 arg7 arg12 k0_t1 f2 f3 f4 f6 f7 f12) x1⟩, ⟨Rect.unit (k0_off116 k0_t1) S256x128.size (k0_off116_inb k0_t1 h2), k0_pay287 (tripA.sl.r_50 c arg2 f2) (tripA.sl.r_61 c arg2 arg3 arg4 arg6 arg7 arg12 k0_t1 f2 f3 f4 f6 f7 f12) x2⟩, ⟨Rect.unit (k0_off114 k0_t1) S256x128.size (k0_off114_inb k0_t1 h2), k0_pay278 (tripA.sl.r_50 c arg2 f2) (tripA.sl.r_55 c arg2 arg3 arg4 arg6 arg7 arg12 k0_t1 f2 f3 f4 f6 f7 f12) x3⟩])) r l
    = if (256 * k0_t1.val ≤ r ∧ r < 256 * k0_t1.val + 256) ∧ l < 512 then n2 (arg9.view.read (Elt Ideal) S) r l + tK K V Q L D DT 7 r l else n2 (arg9.view.read (Elt Ideal) S) r l := by
  rw [writesG2_f32 _ _ _ _ _ _ (fun r l => n2 (arg9.view.read (Elt Ideal) S) r l + tK K V Q L D DT 7 r l) ?h0, writesG2_f32 _ _ _ _ _ _ (fun r l => n2 (arg9.view.read (Elt Ideal) S) r l + tK K V Q L D DT 7 r l) ?h1, writesG2_f32 _ _ _ _ _ _ (fun r l => n2 (arg9.view.read (Elt Ideal) S) r l + tK K V Q L D DT 7 r l) ?h2, writesG2_f32 _ _ _ _ _ _ (fun r l => n2 (arg9.view.read (Elt Ideal) S) r l + tK K V Q L D DT 7 r l) ?h3]
  · simp only [View.writes_nil, o114_0, o114_1, o116_0, o116_1, o118_0, o118_1, o120_0, o120_1]
    repeat' split
    all_goals first | rfl | omega
  case h0 =>
    intro a b
    have e1 : (384 + b.val) / 128 = 3 := by omega
    unfold tripA.sl.r_50
    unfold_payloads
    pointwise
    simp (disch := omega) only [ad3t (hK := hK) (hV := hV) (hQ := hQ) (hL := hL) (hD := hD) (hDT := hDT) (hk := hk), readAt2_bf16, readAt2_f32, readAt3_bf16, readAt3_f32, readAt4_f32, hx0, Matrix.cons_val,  zero_add, Fin.val_zero, Nat.add_zero, Nat.zero_add, hKT, hQ, hDT, o120_0, o120_1, tK, e1]
  case h1 =>
    intro a b
    have e1 : (256 + b.val) / 128 = 2 := by omega
    unfold tripA.sl.r_50
    unfold_payloads
    pointwise
    simp (disch := omega) only [ad2t (hK := hK) (hV := hV) (hQ := hQ) (hL := hL) (hD := hD) (hDT := hDT) (hk := hk), readAt2_bf16, readAt2_f32, readAt3_bf16, readAt3_f32, readAt4_f32, hx1, Matrix.cons_val,  zero_add, Fin.val_zero, Nat.add_zero, Nat.zero_add, hKT, hQ, hDT, o118_0, o118_1, tK, e1]
  case h2 =>
    intro a b
    have e1 : (128 + b.val) / 128 = 1 := by omega
    unfold tripA.sl.r_50
    unfold_payloads
    pointwise
    simp (disch := omega) only [ad1t (hK := hK) (hV := hV) (hQ := hQ) (hL := hL) (hD := hD) (hDT := hDT) (hk := hk), readAt2_bf16, readAt2_f32, readAt3_bf16, readAt3_f32, readAt4_f32, hx2, Matrix.cons_val,  zero_add, Fin.val_zero, Nat.add_zero, Nat.zero_add, hKT, hQ, hDT, o116_0, o116_1, tK, e1]
  case h3 =>
    intro a b
    have e1 : b.val / 128 = 0 := by omega
    unfold tripA.sl.r_50
    unfold_payloads
    pointwise
    simp (disch := omega) only [ad0t (hK := hK) (hV := hV) (hQ := hQ) (hL := hL) (hD := hD) (hDT := hDT) (hk := hk), readAt2_bf16, readAt2_f32, readAt3_bf16, readAt3_f32, readAt4_f32, hx3, Matrix.cons_val,  zero_add, Fin.val_zero, Nat.add_zero, Nat.zero_add, hKT, hQ, hDT, o114_0, o114_1, tK, e1]

set_option maxHeartbeats 0 in
include hK hV hKT hQ hL hD hDT hk in
theorem at13 (S : Buf (Elt Ideal) (arg13.view.loc (c : Thread nD τ)))
    (x0 x1 x2 x3 : Vec Ideal S128x256 .f32)
    (hx0 : ∀ (a : Fin 128) (b : Fin 256), x0 (ix2 a b) = n2 (arg13.view.read (Elt Ideal) S) (384 + a.val) (1792 + b.val))
    (hx1 : ∀ (a : Fin 128) (b : Fin 256), x1 (ix2 a b) = n2 (arg13.view.read (Elt Ideal) S) (256 + a.val) (1792 + b.val))
    (hx2 : ∀ (a : Fin 128) (b : Fin 256), x2 (ix2 a b) = n2 (arg13.view.read (Elt Ideal) S) (128 + a.val) (1792 + b.val))
    (hx3 : ∀ (a : Fin 128) (b : Fin 256), x3 (ix2 a b) = n2 (arg13.view.read (Elt Ideal) S) a.val (1792 + b.val)) (r l : ℕ) :
    n2 (arg13.view.read (Elt Ideal) (arg13.view.writes (Elt Ideal) S
      [⟨Rect.unit ![384, 1792] S128x256.size (by exact inb_S512x2048_S128x256_384_1792), k0_pay400 (tripA.sl.r_49 c arg11 k0_t1 f11) (tripA.sl.r_69 c arg2 arg3 arg4 arg6 arg7 arg12 k0_t1 f2 f3 f4 f6 f7 f12) x0⟩, ⟨Rect.unit ![256, 1792] S128x256.size (by exact inb_S512x2048_S128x256_256_1792), k0_pay397 (tripA.sl.r_49 c arg11 k0_t1 f11) (tripA.sl.r_67 c arg2 arg3 arg4 arg6 arg7 arg12 k0_t1 f2 f3 f4 f6 f7 f12) x1⟩, ⟨Rect.unit ![128, 1792] S128x256.size (by exact inb_S512x2048_S128x256_128_1792), k0_pay288 (tripA.sl.r_49 c arg11 k0_t1 f11) (tripA.sl.r_61 c arg2 arg3 arg4 arg6 arg7 arg12 k0_t1 f2 f3 f4 f6 f7 f12) x2⟩, ⟨Rect.unit ![0, 1792] S128x256.size (by exact inb_S512x2048_S128x256_0_1792), k0_pay279 (tripA.sl.r_49 c arg11 k0_t1 f11) (tripA.sl.r_55 c arg2 arg3 arg4 arg6 arg7 arg12 k0_t1 f2 f3 f4 f6 f7 f12) x3⟩])) r l
    = if r < 512 ∧ (1792 ≤ l ∧ l < 2048) then n2 (arg13.view.read (Elt Ideal) S) r l + tQ K V Q KT L D DT k0_t1.val r l else n2 (arg13.view.read (Elt Ideal) S) r l := by
  rw [writesG2_f32 _ _ _ _ _ _ (fun r l => n2 (arg13.view.read (Elt Ideal) S) r l + tQ K V Q KT L D DT k0_t1.val r l) ?h0, writesG2_f32 _ _ _ _ _ _ (fun r l => n2 (arg13.view.read (Elt Ideal) S) r l + tQ K V Q KT L D DT k0_t1.val r l) ?h1, writesG2_f32 _ _ _ _ _ _ (fun r l => n2 (arg13.view.read (Elt Ideal) S) r l + tQ K V Q KT L D DT k0_t1.val r l) ?h2, writesG2_f32 _ _ _ _ _ _ (fun r l => n2 (arg13.view.read (Elt Ideal) S) r l + tQ K V Q KT L D DT k0_t1.val r l) ?h3]
  · show (if (384 ≤ r ∧ r < 384 + 128) ∧ (1792 ≤ l ∧ l < 1792 + 256) then n2 (arg13.view.read (Elt Ideal) S) r l + tQ K V Q KT L D DT k0_t1.val r l else (if (256 ≤ r ∧ r < 256 + 128) ∧ (1792 ≤ l ∧ l < 1792 + 256) then n2 (arg13.view.read (Elt Ideal) S) r l + tQ K V Q KT L D DT k0_t1.val r l else (if (128 ≤ r ∧ r < 128 + 128) ∧ (1792 ≤ l ∧ l < 1792 + 256) then n2 (arg13.view.read (Elt Ideal) S) r l + tQ K V Q KT L D DT k0_t1.val r l else (if (0 ≤ r ∧ r < 0 + 128) ∧ (1792 ≤ l ∧ l < 1792 + 256) then n2 (arg13.view.read (Elt Ideal) S) r l + tQ K V Q KT L D DT k0_t1.val r l else n2 (arg13.view.read (Elt Ideal) S) r l)))) = _
    repeat' split
    all_goals first | rfl | omega
  case h0 =>
    intro a b
    have e1 : (384 + a.val) / 128 = 3 := by omega
    unfold tripA.sl.r_49
    unfold_payloads
    pointwise
    simp (disch := omega) only [ad3t (hK := hK) (hV := hV) (hQ := hQ) (hL := hL) (hD := hD) (hDT := hDT) (hk := hk), readAt2_bf16, readAt2_f32, readAt3_bf16, readAt3_f32, readAt4_f32, hx0, Matrix.cons_val,  zero_add, Fin.val_zero, Nat.add_zero, Nat.zero_add, hKT, hQ, hDT, o3_0, o3_1, tQ, e1]
  case h1 =>
    intro a b
    have e1 : (256 + a.val) / 128 = 2 := by omega
    unfold tripA.sl.r_49
    unfold_payloads
    pointwise
    simp (disch := omega) only [ad2t (hK := hK) (hV := hV) (hQ := hQ) (hL := hL) (hD := hD) (hDT := hDT) (hk := hk), readAt2_bf16, readAt2_f32, readAt3_bf16, readAt3_f32, readAt4_f32, hx1, Matrix.cons_val,  zero_add, Fin.val_zero, Nat.add_zero, Nat.zero_add, hKT, hQ, hDT, o3_0, o3_1, tQ, e1]
  case h2 =>
    intro a b
    have e1 : (128 + a.val) / 128 = 1 := by omega
    unfold tripA.sl.r_49
    unfold_payloads
    pointwise
    simp (disch := omega) only [ad1t (hK := hK) (hV := hV) (hQ := hQ) (hL := hL) (hD := hD) (hDT := hDT) (hk := hk), readAt2_bf16, readAt2_f32, readAt3_bf16, readAt3_f32, readAt4_f32, hx2, Matrix.cons_val,  zero_add, Fin.val_zero, Nat.add_zero, Nat.zero_add, hKT, hQ, hDT, o3_0, o3_1, tQ, e1]
  case h3 =>
    intro a b
    have e1 : a.val / 128 = 0 := by omega
    unfold tripA.sl.r_49
    unfold_payloads
    pointwise
    simp (disch := omega) only [ad0t (hK := hK) (hV := hV) (hQ := hQ) (hL := hL) (hD := hD) (hDT := hDT) (hk := hk), readAt2_bf16, readAt2_f32, readAt3_bf16, readAt3_f32, readAt4_f32, hx3, Matrix.cons_val,  zero_add, Fin.val_zero, Nat.add_zero, Nat.zero_add, hKT, hQ, hDT, o3_0, o3_1, tQ, e1]

set_option maxHeartbeats 0 in
include hK hV hKT hQ hL hD hDT hk in
theorem at14 (S : Buf (Elt Ideal) (arg14.view.loc (c : Thread nD τ)))
    (x0 x1 x2 x3 : Vec Ideal S1x64x256 .f32)
    (hx0 : ∀ (a : Fin 1) (b : Fin 64) (d : Fin 256), x0 (ix3 a b d) = n3 (arg14.view.read (Elt Ideal) S) (k0_t1.val % 2) (192 + b.val) d.val)
    (hx1 : ∀ (a : Fin 1) (b : Fin 64) (d : Fin 256), x1 (ix3 a b d) = n3 (arg14.view.read (Elt Ideal) S) (k0_t1.val % 2) (128 + b.val) d.val)
    (hx2 : ∀ (a : Fin 1) (b : Fin 64) (d : Fin 256), x2 (ix3 a b d) = n3 (arg14.view.read (Elt Ideal) S) (k0_t1.val % 2) (64 + b.val) d.val)
    (hx3 : ∀ (a : Fin 1) (b : Fin 64) (d : Fin 256), x3 (ix3 a b d) = n3 (arg14.view.read (Elt Ideal) S) (k0_t1.val % 2) b.val d.val) (s r l : ℕ) :
    n3 (arg14.view.read (Elt Ideal) (arg14.view.writes (Elt Ideal) S
      [⟨Rect.unit (k0_off119 k0_t1) S1x64x256.size (k0_off119_inb k0_t1 h2), k0_pay398 (tripA.sl.r_64 c arg12 f12) (tripA.sl.r_70 c arg2 arg3 arg7 k0_t1 f2 f3 f7) x0⟩, ⟨Rect.unit (k0_off117 k0_t1) S1x64x256.size (k0_off117_inb k0_t1 h2), k0_pay292 (tripA.sl.r_57 c arg12 f12) (tripA.sl.r_68 c arg2 arg3 arg7 k0_t1 f2 f3 f7) x1⟩, ⟨Rect.unit (k0_off115 k0_t1) S1x64x256.size (k0_off115_inb k0_t1 h2), k0_pay286 (tripA.sl.r_52 c arg12 f12) (tripA.sl.r_62 c arg2 arg3 arg7 k0_t1 f2 f3 f7) x2⟩, ⟨Rect.unit (k0_off113 k0_t1) S1x64x256.size (k0_off113_inb k0_t1 h2), k0_pay277 (tripA.sl.r_51 c arg12 f12) (tripA.sl.r_56 c arg2 arg3 arg7 k0_t1 f2 f3 f7) x3⟩])) s r l
    = if s = k0_t1.val % 2 ∧ r < 256 ∧ l < 256 then n3 (arg14.view.read (Elt Ideal) S) s r l + tV K Q L DT k0_t1.val 7 r l else n3 (arg14.view.read (Elt Ideal) S) s r l := by
  rw [writesG3_f32 _ _ _ _ _ _ (fun s r l => n3 (arg14.view.read (Elt Ideal) S) s r l + tV K Q L DT k0_t1.val 7 r l) ?h0, writesG3_f32 _ _ _ _ _ _ (fun s r l => n3 (arg14.view.read (Elt Ideal) S) s r l + tV K Q L DT k0_t1.val 7 r l) ?h1, writesG3_f32 _ _ _ _ _ _ (fun s r l => n3 (arg14.view.read (Elt Ideal) S) s r l + tV K Q L DT k0_t1.val 7 r l) ?h2, writesG3_f32 _ _ _ _ _ _ (fun s r l => n3 (arg14.view.read (Elt Ideal) S) s r l + tV K Q L DT k0_t1.val 7 r l) ?h3]
  · simp only [View.writes_nil, o113_0, o113_1, o113_2, o115_0, o115_1, o115_2, o117_0, o117_1, o117_2, o119_0, o119_1, o119_2]
    repeat' split
    all_goals first | rfl | omega
  case h0 =>
    intro a b d
    have e1 : (192 + b.val) / 64 = 3 := by omega
    have e2 : (192 + b.val) % 128 = 64 + b.val := by omega
    unfold tripA.sl.r_64
    unfold_payloads
    pointwise
    simp (disch := omega) only [ap3t (hK := hK) (hQ := hQ) (hL := hL) (hk := hk), readAt2_bf16, readAt2_f32, readAt3_bf16, readAt3_f32, readAt4_f32, hx0, Matrix.cons_val,  zero_add, Fin.val_zero, Nat.add_zero, Nat.zero_add, hKT, hQ, hDT, o119_0, o119_1, o119_2, tV, e1, e2]
  case h1 =>
    intro a b d
    have e1 : (128 + b.val) / 64 = 2 := by omega
    have e2 : (128 + b.val) % 128 = b.val := by omega
    unfold tripA.sl.r_57
    unfold_payloads
    pointwise
    simp (disch := omega) only [ap2t (hK := hK) (hQ := hQ) (hL := hL) (hk := hk), readAt2_bf16, readAt2_f32, readAt3_bf16, readAt3_f32, readAt4_f32, hx1, Matrix.cons_val,  zero_add, Fin.val_zero, Nat.add_zero, Nat.zero_add, hKT, hQ, hDT, o117_0, o117_1, o117_2, tV, e1, e2]
  case h2 =>
    intro a b d
    have e1 : (64 + b.val) / 64 = 1 := by omega
    have e2 : (64 + b.val) % 128 = 64 + b.val := by omega
    unfold tripA.sl.r_52
    unfold_payloads
    pointwise
    simp (disch := omega) only [ap1t (hK := hK) (hQ := hQ) (hL := hL) (hk := hk), readAt2_bf16, readAt2_f32, readAt3_bf16, readAt3_f32, readAt4_f32, hx2, Matrix.cons_val,  zero_add, Fin.val_zero, Nat.add_zero, Nat.zero_add, hKT, hQ, hDT, o115_0, o115_1, o115_2, tV, e1, e2]
  case h3 =>
    intro a b d
    have e1 : b.val / 64 = 0 := by omega
    have e2 : b.val % 128 = b.val := by omega
    unfold tripA.sl.r_51
    unfold_payloads
    pointwise
    simp (disch := omega) only [ap0t (hK := hK) (hQ := hQ) (hL := hL) (hk := hk), readAt2_bf16, readAt2_f32, readAt3_bf16, readAt3_f32, readAt4_f32, hx3, Matrix.cons_val,  zero_add, Fin.val_zero, Nat.add_zero, Nat.zero_add, hKT, hQ, hDT, o113_0, o113_1, o113_2, tV, e1, e2]

theorem af (s r l : ℕ) (hs : s = 1 - k0_t1.val % 2) :
    n3 (arg14.view.read (Elt Ideal) (arg14.view.writes (Elt Ideal) f14 (tripA.sl.H14_1 k0_t1))) s r l
      = n3 (arg14.view.read (Elt Ideal) f14) s r l := by
  unfold tripA.sl.H14_1
  rw [writes3_f32, if_neg (by simp only [o4_0, o4_1, o4_2]; omega), View.writes_nil]

theorem a10 (r l : ℕ) : n2 (arg10.view.read (Elt Ideal) (tripA c i arg2 harg2 arg3 harg3 arg4 harg4 arg5 harg5 arg6 harg6 arg7 harg7 arg8 harg8 arg9 harg9 arg10 harg10 arg11 harg11 arg12 harg12 arg13 harg13 arg14 harg14 v9 v481 v486 k0_t1 h1 h2 f2 f3 f4 f6 f7 f11 f12 f9 f10 f13 f14).2.1) r l
    = if (256 * (k0_t1.val - 1) ≤ r ∧ r < 256 * (k0_t1.val - 1) + 256) ∧ l < 256 then n3 (arg14.view.read (Elt Ideal) f14) (1 - k0_t1.val % 2) l (r - 256 * (k0_t1.val - 1))
      else n2 (arg10.view.read (Elt Ideal) f10) r l := by
  unfold tripA
  dsimp only
  rw [writesG2_f32 _ _ _ _ _ _ (fun r l => n3 (arg14.view.read (Elt Ideal) f14) (1 - k0_t1.val % 2) l (r - 256 * (k0_t1.val - 1))) ?h0, writesG2_f32 _ _ _ _ _ _ (fun r l => n3 (arg14.view.read (Elt Ideal) f14) (1 - k0_t1.val % 2) l (r - 256 * (k0_t1.val - 1))) ?h1]
  · simp only [View.writes_nil, o6_0, o6_1, o8_0, o8_1]
    split_ifs <;> first | rfl | omega
  case h0 =>
    intro a b
    unfold tripA.sl.v705 tripA.sl.v704
    unfold_payloads
    pointwise
    simp (disch := omega) only [af c, readAt2_bf16, readAt2_f32, readAt3_bf16, readAt3_f32, readAt4_f32, Fin.val_zero, Nat.add_zero, Nat.zero_add, Nat.add_sub_cancel_left, o7_0, o7_1, o7_2, o8_0, o8_1]
  case h1 =>
    intro a b
    unfold tripA.sl.v699 tripA.sl.v698
    unfold_payloads
    pointwise
    simp (disch := omega) only [af c, readAt2_bf16, readAt2_f32, readAt3_bf16, readAt3_f32, readAt4_f32, Fin.val_zero, Nat.add_zero, Nat.zero_add, Nat.add_sub_cancel_left, o5_0, o5_1, o5_2, o6_0, o6_1]

set_option maxHeartbeats 0 in
include hK hV hKT hQ hL hD hDT hk in
theorem a9 (r l : ℕ) : n2 (arg9.view.read (Elt Ideal) (tripA c i arg2 harg2 arg3 harg3 arg4 harg4 arg5 harg5 arg6 harg6 arg7 harg7 arg8 harg8 arg9 harg9 arg10 harg10 arg11 harg11 arg12 harg12 arg13 harg13 arg14 harg14 v9 v481 v486 k0_t1 h1 h2 f2 f3 f4 f6 f7 f11 f12 f9 f10 f13 f14).1) r l
    = if (256 * k0_t1.val ≤ r ∧ r < 256 * k0_t1.val + 256) ∧ l < 512 then (tK K V Q L D DT k0_t1.val r l + tK K V Q L D DT (k0_t1.val + 1) r l) + ∑ t ∈ Finset.range (k0_t2_loop k0_t1).trips, (tK K V Q L D DT (k0_t1.val + 2 * (1 + t)) r l + tK K V Q L D DT (k0_t1.val + 2 * (1 + t) + 1) r l) + tK K V Q L D DT 7 r l else n2 (arg9.view.read (Elt Ideal) f9) r l := by
  unfold tripA
  dsimp only [↓trips2_def]
  refine (at9 (S := _) (hK := hK) (hV := hV) (hKT := hKT) (hQ := hQ) (hL := hL) (hD := hD) (hDT := hDT) (hk := hk) (h2 := h2) (hx0 := ?x0) (hx1 := ?x1) (hx2 := ?x2) (hx3 := ?x3) (r := r) (l := l)).trans ?_
  case x0 =>
    intros
    unfold tripA.sl.v870
    simp only [readAt2_bf16, readAt2_f32, readAt3_bf16, readAt3_f32, readAt4_f32, Fin.val_zero, Nat.add_zero, Nat.zero_add, Fin.val_eq_zero, Matrix.cons_val, o120_0, o120_1]
  case x1 =>
    intros
    unfold tripA.sl.v843
    simp only [readAt2_bf16, readAt2_f32, readAt3_bf16, readAt3_f32, readAt4_f32, Fin.val_zero, Nat.add_zero, Nat.zero_add, Fin.val_eq_zero, Matrix.cons_val, o118_0, o118_1]
  case x2 =>
    intros
    unfold tripA.sl.v802
    simp only [readAt2_bf16, readAt2_f32, readAt3_bf16, readAt3_f32, readAt4_f32, Fin.val_zero, Nat.add_zero, Nat.zero_add, Fin.val_eq_zero, Matrix.cons_val, o116_0, o116_1]
  case x3 =>
    intros
    unfold tripA.sl.v753
    simp only [readAt2_bf16, readAt2_f32, readAt3_bf16, readAt3_f32, readAt4_f32, Fin.val_zero, Nat.add_zero, Nat.zero_add, Fin.val_eq_zero, Matrix.cons_val, o114_0, o114_1]
  rw [s9_eq, loop9 (hK := aK c arg3 k0_t1 f3 hK) (hV := aV c arg4 k0_t1 f4 hV) (hKT := aT c arg11 k0_t1 f11 hKT) (hQ := hQ) (hL := hL) (hD := hD) (hDT := hDT) (hn := le_refl _)]
  unfold tripA.sl.H9_4 tripA.sl.H9_3 tripA.sl.H9_2 tripA.sl.H9_1
  rw [wG2 _ _ _ _ _ _ (fun r l => tK K V Q L D DT k0_t1.val r l + tK K V Q L D DT (k0_t1.val + 1) r l) ?h0, writesG2_f32 _ _ _ _ _ _ (fun r l => tK K V Q L D DT k0_t1.val r l + tK K V Q L D DT (k0_t1.val + 1) r l) ?h1, writesG2_f32 _ _ _ _ _ _ (fun r l => tK K V Q L D DT k0_t1.val r l + tK K V Q L D DT (k0_t1.val + 1) r l) ?h2, writesG2_f32 _ _ _ _ _ _ (fun r l => tK K V Q L D DT k0_t1.val r l + tK K V Q L D DT (k0_t1.val + 1) r l) ?h3, writesG2_f32 _ _ _ _ _ _ (fun _ _ => 0) ?hz]
  · simp only [View.writes_nil, o32_0, o32_1, o29_0, o29_1, o24_0, o24_1, o18_0, o18_1, o1_0, o1_1]
    have hz := hk
    have hk' := k0_t1.isLt
    generalize n2 (arg13.view.read (Elt Ideal) f13) r l = X
    generalize tQ K V Q KT L D DT k0_t1.val r l = Z
    generalize (k0_t2_loop k0_t1).trips = N at *
    generalize k0_t1.val = kk at *
    split_ifs <;> first | rfl | omega
  case h0 =>
    intro a b
    have e1 : (384 + b.val) / 128 = 3 := by omega
    unfold tripA.sl.v710 tripA.sl.v713 tripA.sl.v1049
    unfold_payloads
    pointwise
    simp (disch := omega) only [ad30 (hK := hK) (hV := hV) (hQ := hQ) (hL := hL) (hD := hD) (hDT := hDT), ad31 (hK := hK) (hV := hV) (hQ := hQ) (hL := hL) (hD := hD) (hDT := hDT), az9_4, readAt2_bf16, readAt2_f32, readAt3_bf16, readAt3_f32, readAt4_f32, readCov2_f32, readCov3_f32, zero_add, Fin.val_zero, Nat.add_zero, Nat.zero_add, hKT, hQ, hDT, o9_00, o9_01, o9_10, o9_11, o32_0, o32_1, tK, e1]
  case h1 =>
    intro a b
    have e1 : (256 + b.val) / 128 = 2 := by omega
    unfold tripA.sl.v710 tripA.sl.v713 tripA.sl.v1007
    unfold_payloads
    pointwise
    simp (disch := omega) only [ad20 (hK := hK) (hV := hV) (hQ := hQ) (hL := hL) (hD := hD) (hDT := hDT), ad21 (hK := hK) (hV := hV) (hQ := hQ) (hL := hL) (hD := hD) (hDT := hDT), az9_3, readAt2_bf16, readAt2_f32, readAt3_bf16, readAt3_f32, readAt4_f32, readCov2_f32, readCov3_f32, zero_add, Fin.val_zero, Nat.add_zero, Nat.zero_add, hKT, hQ, hDT, o9_00, o9_01, o9_10, o9_11, o29_0, o29_1, tK, e1]
  case h2 =>
    intro a b
    have e1 : (128 + b.val) / 128 = 1 := by omega
    unfold tripA.sl.r_39 tripA.sl.r_40 tripA.sl.v935 tripA.sl.v710 tripA.sl.v713
    unfold_payloads
    pointwise
    simp (disch := omega) only [ad10 (hK := hK) (hV := hV) (hQ := hQ) (hL := hL) (hD := hD) (hDT := hDT), ad11 (hK := hK) (hV := hV) (hQ := hQ) (hL := hL) (hD := hD) (hDT := hDT), az9_2, readAt2_bf16, readAt2_f32, readAt3_bf16, readAt3_f32, readAt4_f32, readCov2_f32, readCov3_f32, zero_add, Fin.val_zero, Nat.add_zero, Nat.zero_add, hKT, hQ, hDT, o9_00, o9_01, o9_10, o9_11, o24_0, o24_1, tK, e1]
  case h3 =>
    intro a b
    have e1 : b.val / 128 = 0 := by omega
    unfold tripA.sl.r_27 tripA.sl.v710 tripA.sl.v713 tripA.sl.v847
    unfold_payloads
    pointwise
    simp (disch := omega) only [ad00 (hK := hK) (hV := hV) (hQ := hQ) (hL := hL) (hD := hD) (hDT := hDT), ad01 (hK := hK) (hV := hV) (hQ := hQ) (hL := hL) (hD := hD) (hDT := hDT), az9_1, readAt2_bf16, readAt2_f32, readAt3_bf16, readAt3_f32, readAt4_f32, readCov2_f32, readCov3_f32, zero_add, Fin.val_zero, Nat.add_zero, Nat.zero_add, hKT, hQ, hDT, o9_00, o9_01, o9_10, o9_11, o18_0, o18_1, tK, e1]
  case hz =>
    intros
    unfold_payloads
    pointwise

set_option maxHeartbeats 0 in
include hK hV hKT hQ hL hD hDT hk in
theorem a13 (r l : ℕ) : n2 (arg13.view.read (Elt Ideal) (tripA c i arg2 harg2 arg3 harg3 arg4 harg4 arg5 harg5 arg6 harg6 arg7 harg7 arg8 harg8 arg9 harg9 arg10 harg10 arg11 harg11 arg12 harg12 arg13 harg13 arg14 harg14 v9 v481 v486 k0_t1 h1 h2 f2 f3 f4 f6 f7 f11 f12 f9 f10 f13 f14).2.2.1) r l
    = if r < 512 ∧ (256 * k0_t1.val ≤ l ∧ l < 2048) then n2 (arg13.view.read (Elt Ideal) f13) r l + tQ K V Q KT L D DT k0_t1.val r l else n2 (arg13.view.read (Elt Ideal) f13) r l := by
  unfold tripA tripA.sl.r_63
  dsimp only [↓trips2_def]
  refine (at13 (S := _) (hK := hK) (hV := hV) (hKT := hKT) (hQ := hQ) (hL := hL) (hD := hD) (hDT := hDT) (hk := hk) (hx0 := ?x0) (hx1 := ?x1) (hx2 := ?x2) (hx3 := ?x3) (r := r) (l := l)).trans ?_
  case x0 =>
    intros
    unfold tripA.sl.v877
    simp only [readAt2_bf16, readAt2_f32, readAt3_bf16, readAt3_f32, readAt4_f32, Fin.val_zero, Nat.add_zero, Nat.zero_add, Fin.val_eq_zero, Matrix.cons_val, ]
  case x1 =>
    intros
    unfold tripA.sl.v850
    simp only [readAt2_bf16, readAt2_f32, readAt3_bf16, readAt3_f32, readAt4_f32, Fin.val_zero, Nat.add_zero, Nat.zero_add, Fin.val_eq_zero, Matrix.cons_val, ]
  case x2 =>
    intros
    unfold tripA.sl.v809
    simp only [readAt2_bf16, readAt2_f32, readAt3_bf16, readAt3_f32, readAt4_f32, Fin.val_zero, Nat.add_zero, Nat.zero_add, Fin.val_eq_zero, Matrix.cons_val, ]
  case x3 =>
    intros
    unfold tripA.sl.v760
    simp only [readAt2_bf16, readAt2_f32, readAt3_bf16, readAt3_f32, readAt4_f32, Fin.val_zero, Nat.add_zero, Nat.zero_add, Fin.val_eq_zero, Matrix.cons_val, ]
  rw [s13_eq, loop13 (hK := aK c arg3 k0_t1 f3 hK) (hV := aV c arg4 k0_t1 f4 hV) (hKT := aT c arg11 k0_t1 f11 hKT) (hQ := hQ) (hL := hL) (hD := hD) (hDT := hDT) (hn := le_refl _)]
  rw [wG2 _ _ _ _ _ _ (fun r l => n2 (arg13.view.read (Elt Ideal) f13) r l + tQ K V Q KT L D DT k0_t1.val r l) ?h0, writesG2_f32 _ _ _ _ _ _ (fun r l => n2 (arg13.view.read (Elt Ideal) f13) r l + tQ K V Q KT L D DT k0_t1.val r l) ?h1, writesG2_f32 _ _ _ _ _ _ (fun r l => n2 (arg13.view.read (Elt Ideal) f13) r l + tQ K V Q KT L D DT k0_t1.val r l) ?h2, writesG2_f32 _ _ _ _ _ _ (fun r l => n2 (arg13.view.read (Elt Ideal) f13) r l + tQ K V Q KT L D DT k0_t1.val r l) ?h3, writesG2_f32 _ _ _ _ _ _ (fun r l => n2 (arg13.view.read (Elt Ideal) f13) r l + tQ K V Q KT L D DT k0_t1.val r l) ?h4, writesG2_f32 _ _ _ _ _ _ (fun r l => n2 (arg13.view.read (Elt Ideal) f13) r l + tQ K V Q KT L D DT k0_t1.val r l) ?h5, writesG2_f32 _ _ _ _ _ _ (fun r l => n2 (arg13.view.read (Elt Ideal) f13) r l + tQ K V Q KT L D DT k0_t1.val r l) ?h6, writesG2_f32 _ _ _ _ _ _ (fun r l => n2 (arg13.view.read (Elt Ideal) f13) r l + tQ K V Q KT L D DT k0_t1.val r l) ?h7]
  · simp only [View.writes_nil, o33_10, o33_11, o33_00, o33_01, o30_10, o30_11, o30_00, o30_01, o25_10, o25_11, o25_00, o25_01, o19_10, o19_11, o19_00, o19_01]
    have hz := hk
    have hk' := k0_t1.isLt
    generalize n2 (arg13.view.read (Elt Ideal) f13) r l = X
    generalize tQ K V Q KT L D DT k0_t1.val r l = Z
    generalize (k0_t2_loop k0_t1).trips = N at *
    generalize k0_t1.val = kk at *
    split_ifs <;> first | rfl | omega
  case h0 =>
    intro a b
    have e1 : (384 + a.val) / 128 = 3 := by omega
    unfold tripA.sl.v1065
    unfold_payloads
    pointwise
    simp (disch := omega) only [ad31 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o33_10, o33_11, tQ, e1]
  case h1 =>
    intro a b
    have e1 : (384 + a.val) / 128 = 3 := by omega
    unfold tripA.sl.r_46 tripA.sl.v1056
    unfold_payloads
    pointwise
    simp (disch := omega) only [ad30 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o33_00, o33_01, tQ, e1]
  case h2 =>
    intro a b
    have e1 : (256 + a.val) / 128 = 2 := by omega
    unfold tripA.sl.v1023
    unfold_payloads
    pointwise
    simp (disch := omega) only [ad21 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o30_10, o30_11, tQ, e1]
  case h3 =>
    intro a b
    have e1 : (256 + a.val) / 128 = 2 := by omega
    unfold tripA.sl.r_45 tripA.sl.v1014
    unfold_payloads
    pointwise
    simp (disch := omega) only [ad20 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o30_00, o30_01, tQ, e1]
  case h4 =>
    intro a b
    have e1 : (128 + a.val) / 128 = 1 := by omega
    unfold tripA.sl.v951
    unfold_payloads
    pointwise
    simp (disch := omega) only [ad11 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o25_10, o25_11, tQ, e1]
  case h5 =>
    intro a b
    have e1 : (128 + a.val) / 128 = 1 := by omega
    unfold tripA.sl.v942
    unfold_payloads
    pointwise
    simp (disch := omega) only [ad10 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o25_00, o25_01, tQ, e1]
  case h6 =>
    intro a b
    have e1 : a.val / 128 = 0 := by omega
    unfold tripA.sl.v863
    unfold_payloads
    pointwise
    simp (disch := omega) only [ad01 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o19_10, o19_11, tQ, e1]
  case h7 =>
    intro a b
    have e1 : a.val / 128 = 0 := by omega
    skip
    unfold_payloads
    pointwise
    simp (disch := omega) only [ad00 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o19_00, o19_01, tQ, e1]

set_option maxHeartbeats 0 in
include hK hV hKT hQ hL hD hDT hk in
theorem a14 (s r l : ℕ) : n3 (arg14.view.read (Elt Ideal) (tripA c i arg2 harg2 arg3 harg3 arg4 harg4 arg5 harg5 arg6 harg6 arg7 harg7 arg8 harg8 arg9 harg9 arg10 harg10 arg11 harg11 arg12 harg12 arg13 harg13 arg14 harg14 v9 v481 v486 k0_t1 h1 h2 f2 f3 f4 f6 f7 f11 f12 f9 f10 f13 f14).2.2.2.1) s r l
    = if s = k0_t1.val % 2 ∧ r < 256 ∧ l < 256 then (tV K Q L DT k0_t1.val k0_t1.val r l + tV K Q L DT k0_t1.val (k0_t1.val + 1) r l) + ∑ t ∈ Finset.range (k0_t2_loop k0_t1).trips, (tV K Q L DT k0_t1.val (k0_t1.val + 2 * (1 + t)) r l + tV K Q L DT k0_t1.val (k0_t1.val + 2 * (1 + t) + 1) r l) + tV K Q L DT k0_t1.val 7 r l else n3 (arg14.view.read (Elt Ideal) f14) s r l := by
  unfold tripA
  dsimp only [↓trips2_def]
  refine (at14 (S := _) (hK := hK) (hV := hV) (hKT := hKT) (hQ := hQ) (hL := hL) (hD := hD) (hDT := hDT) (hk := hk) (h2 := h2) (hx0 := ?x0) (hx1 := ?x1) (hx2 := ?x2) (hx3 := ?x3) (s := s) (r := r) (l := l)).trans ?_
  case x0 =>
    intros
    unfold tripA.sl.v861
    simp only [readAt2_bf16, readAt2_f32, readAt3_bf16, readAt3_f32, readAt4_f32, Fin.val_zero, Nat.add_zero, Nat.zero_add, Fin.val_eq_zero, Matrix.cons_val, o119_0, o119_1, o119_2]
  case x1 =>
    intros
    unfold tripA.sl.v834
    simp only [readAt2_bf16, readAt2_f32, readAt3_bf16, readAt3_f32, readAt4_f32, Fin.val_zero, Nat.add_zero, Nat.zero_add, Fin.val_eq_zero, Matrix.cons_val, o117_0, o117_1, o117_2]
  case x2 =>
    intros
    unfold tripA.sl.v793
    simp only [readAt2_bf16, readAt2_f32, readAt3_bf16, readAt3_f32, readAt4_f32, Fin.val_zero, Nat.add_zero, Nat.zero_add, Fin.val_eq_zero, Matrix.cons_val, o115_0, o115_1, o115_2]
  case x3 =>
    intros
    unfold tripA.sl.v744
    simp only [readAt2_bf16, readAt2_f32, readAt3_bf16, readAt3_f32, readAt4_f32, Fin.val_zero, Nat.add_zero, Nat.zero_add, Fin.val_eq_zero, Matrix.cons_val, o113_0, o113_1, o113_2]
  rw [s14_eq, loop14 (hK := aK c arg3 k0_t1 f3 hK) (hV := aV c arg4 k0_t1 f4 hV) (hKT := aT c arg11 k0_t1 f11 hKT) (hQ := hQ) (hL := hL) (hD := hD) (hDT := hDT) (hn := le_refl _)]
  unfold tripA.sl.H14_4 tripA.sl.H14_3 tripA.sl.H14_2 tripA.sl.H14_1
  rw [wG3 _ _ _ _ _ _ (fun s r l => tV K Q L DT k0_t1.val k0_t1.val r l + tV K Q L DT k0_t1.val (k0_t1.val + 1) r l) ?h0, writesG3_f32 _ _ _ _ _ _ (fun s r l => tV K Q L DT k0_t1.val k0_t1.val r l + tV K Q L DT k0_t1.val (k0_t1.val + 1) r l) ?h1, writesG3_f32 _ _ _ _ _ _ (fun s r l => tV K Q L DT k0_t1.val k0_t1.val r l + tV K Q L DT k0_t1.val (k0_t1.val + 1) r l) ?h2, writesG3_f32 _ _ _ _ _ _ (fun s r l => tV K Q L DT k0_t1.val k0_t1.val r l + tV K Q L DT k0_t1.val (k0_t1.val + 1) r l) ?h3, writesG3_f32 _ _ _ _ _ _ (fun _ _ _ => 0) ?hz]
  · simp only [View.writes_nil, o31_0, o31_1, o31_2, o28_0, o28_1, o28_2, o23_0, o23_1, o23_2, o17_0, o17_1, o17_2, o4_0, o4_1, o4_2]
    have hz := hk
    have hk' := k0_t1.isLt
    generalize n2 (arg13.view.read (Elt Ideal) f13) r l = X
    generalize tQ K V Q KT L D DT k0_t1.val r l = Z
    generalize (k0_t2_loop k0_t1).trips = N at *
    generalize k0_t1.val = kk at *
    split_ifs <;> first | rfl | omega
  case h0 =>
    intro a b d
    have e1 : (192 + b.val) / 64 = 3 := by omega
    have e2 : (192 + b.val) % 128 = 64 + b.val := by omega
    unfold tripA.sl.r_28 tripA.sl.r_29 tripA.sl.v1040
    unfold_payloads
    pointwise
    simp (disch := omega) only [ap30 (hK := hK) (hQ := hQ) (hL := hL), ap31 (hK := hK) (hQ := hQ) (hL := hL), az14_4, readAt2_bf16, readAt2_f32, readAt3_bf16, readAt3_f32, readAt4_f32, readCov2_f32, readCov3_f32, zero_add, Fin.val_zero, Nat.add_zero, Nat.zero_add, hKT, hQ, hDT, o20_00, o20_01, o20_02, o20_10, o20_11, o20_12, o31_0, o31_1, o31_2, tV, e1, e2]
  case h1 =>
    intro a b d
    have e1 : (128 + b.val) / 64 = 2 := by omega
    have e2 : (128 + b.val) % 128 = b.val := by omega
    unfold tripA.sl.r_16 tripA.sl.r_17 tripA.sl.v998
    unfold_payloads
    pointwise
    simp (disch := omega) only [ap20 (hK := hK) (hQ := hQ) (hL := hL), ap21 (hK := hK) (hQ := hQ) (hL := hL), az14_3, readAt2_bf16, readAt2_f32, readAt3_bf16, readAt3_f32, readAt4_f32, readCov2_f32, readCov3_f32, zero_add, Fin.val_zero, Nat.add_zero, Nat.zero_add, hKT, hQ, hDT, o14_00, o14_01, o14_02, o14_10, o14_11, o14_12, o28_0, o28_1, o28_2, tV, e1, e2]
  case h2 =>
    intro a b d
    have e1 : (64 + b.val) / 64 = 1 := by omega
    have e2 : (64 + b.val) % 128 = 64 + b.val := by omega
    unfold tripA.sl.r_4 tripA.sl.r_5 tripA.sl.v926
    unfold_payloads
    pointwise
    simp (disch := omega) only [ap10 (hK := hK) (hQ := hQ) (hL := hL), ap11 (hK := hK) (hQ := hQ) (hL := hL), az14_2, readAt2_bf16, readAt2_f32, readAt3_bf16, readAt3_f32, readAt4_f32, readCov2_f32, readCov3_f32, zero_add, Fin.val_zero, Nat.add_zero, Nat.zero_add, hKT, hQ, hDT, o11_00, o11_01, o11_02, o11_10, o11_11, o11_12, o23_0, o23_1, o23_2, tV, e1, e2]
  case h3 =>
    intro a b d
    have e1 : b.val / 64 = 0 := by omega
    have e2 : b.val % 128 = b.val := by omega
    unfold tripA.sl.v723 tripA.sl.r tripA.sl.v838
    unfold_payloads
    pointwise
    simp (disch := omega) only [ap00 (hK := hK) (hQ := hQ) (hL := hL), ap01 (hK := hK) (hQ := hQ) (hL := hL), az14_1, readAt2_bf16, readAt2_f32, readAt3_bf16, readAt3_f32, readAt4_f32, readCov2_f32, readCov3_f32, zero_add, Fin.val_zero, Nat.add_zero, Nat.zero_add, hKT, hQ, hDT, o10_00, o10_01, o10_02, o10_10, o10_11, o10_12, o17_0, o17_1, o17_2, tV, e1, e2]
  case hz =>
    intros
    unfold_payloads
    pointwise

end

end Cert.Proof.Mla

end
-- ==== Proof.ValB.lean ====
/- A trip of the outer loop whose query tiles are even in number, at an index. -/
module

public import proofs.«01_k».proof.Proof.Loop2
public import proofs.«01_k».proof.Proof.Mask

@[expose] public section

set_option maxRecDepth 16384

noncomputable section

namespace Cert.Proof.Mla

open Cert.KernelIdeal Cert.KernelIdeal.Gen
open Idealize.ShloMosaic Idealize.ShloMosaic.TcCoe Idealize.ShloMosaic.Tactic

section
variable (c : Dev nD) (i : grid0.Coords)
  (arg2 : Memref sig .tc .vmem S2048x512 .bf16) (harg2 : arg2.IsWhole)
  (arg3 : Memref sig .tc .vmem S2048x512 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S1x4x2048 .f32) (harg6 : arg6.IsWhole)
  (arg7 : Memref sig .tc .vmem S1x1x4x2048 .f32) (harg7 : arg7.IsWhole)
  (arg8 : Memref sig .tc .vmem S2048x512 .f32) (harg8 : arg8.IsWhole)
  (arg9 : Memref sig .tc .vmem S2048x512 .f32) (harg9 : arg9.IsWhole)
  (arg10 : Memref sig .tc .vmem S2048x256 .f32) (harg10 : arg10.IsWhole)
  (arg11 : Memref sig .tc .vmem S512x2048 .bf16) (harg11 : arg11.IsWhole)
  (arg12 : Memref sig .tc .vmem S4x128x2048 .bf16) (harg12 : arg12.IsWhole)
  (arg13 : Memref sig .tc .vmem S512x2048 .f32) (harg13 : arg13.IsWhole)
  (arg14 : Memref sig .tc .vmem S2x256x256 .f32) (harg14 : arg14.IsWhole)
  (v9 : IVec S128x1 1) (v481 : FVec Ideal S128x256 .f32) (v486 : FVec Ideal S128x256 .bf16)
  (k0_t1 : Fin k0_t1_loop.trips) (h1 : k0_cond1 k0_t1 = 1#1) (h2 : ¬ k0_cond2 k0_t1 = 1#1)
  (f2 : Buf (Elt Ideal) (arg2.view.loc (c : Thread nD τ)))
  (f3 : Buf (Elt Ideal) (arg3.view.loc (c : Thread nD τ)))
  (f4 : Buf (Elt Ideal) (arg4.view.loc (c : Thread nD τ)))
  (f6 : Buf (Elt Ideal) (arg6.view.loc (c : Thread nD τ)))
  (f7 : Buf (Elt Ideal) (arg7.view.loc (c : Thread nD τ)))
  (f11 : Buf (Elt Ideal) (arg11.view.loc (c : Thread nD τ)))
  (f12 : Buf (Elt Ideal) (arg12.view.loc (c : Thread nD τ)))
  (f9 : Buf (Elt Ideal) (arg9.view.loc (c : Thread nD τ)))
  (f10 : Buf (Elt Ideal) (arg10.view.loc (c : Thread nD τ)))
  (f13 : Buf (Elt Ideal) (arg13.view.loc (c : Thread nD τ)))
  (f14 : Buf (Elt Ideal) (arg14.view.loc (c : Thread nD τ)))
  {K V Q KT L D : ℕ → ℕ → EReal} {DT : ℕ → ℕ → ℕ → EReal}
  (hK : n2 (arg3.view.read (Elt Ideal) f3) = K) (hV : n2 (arg4.view.read (Elt Ideal) f4) = V)
  (hKT : n2 (arg11.view.read (Elt Ideal) f11) = KT)
  (hQ : n2 (arg2.view.read (Elt Ideal) f2) = Q) (hL : n4 (arg7.view.read (Elt Ideal) f7) 0 0 = L)
  (hD : n3 (arg6.view.read (Elt Ideal) f6) 0 = D) (hDT : n3 (arg12.view.read (Elt Ideal) f12) = DT)

include hK hQ hL in
theorem bp00 (j x : Fin 256) : tripB.sl.r_13 c arg2 arg3 arg7 k0_t1 h1 f2 f3 f7 (ix2 j x)
    = pM K Q L 0 (256 * k0_t1.val + j.val) (256 * k0_t1.val + x.val) := by
  unfold tripB.sl.r_13 tripB.sl.r_10 tripB.sl.v710 tripB.sl.v720 tripB.sl.v718 tripB.sl.v719 tripB.sl.v717 tripB.sl.v716 tripB.sl.v715 tripB.sl.v624 tripB.sl.arg15
  unfold_payloads
  pointwise
  simp only [readAt2_bf16, readAt2_f32, readAt3_bf16, readAt3_f32, readAt4_f32, Fin.val_zero, Nat.add_zero, Nat.zero_add, hK, hQ, hL, sel_le,
    o1_0, o1_1, o9_00, o9_01, o12_00, o12_01, o12_02, o12_03]
  rw [pM, pF]
  rfl

include hK hV hQ hL hD hDT in
theorem bd00 (j x : Fin 256) : tripB.sl.r_12 c arg2 arg3 arg4 arg6 arg7 arg12 k0_t1 h1 f2 f3 f4 f6 f7 f12 (ix2 j x)
    = dM K V Q L D DT 0 (256 * k0_t1.val + j.val) (256 * k0_t1.val + x.val) := by
  unfold tripB.sl.r_12 tripB.sl.r_2 tripB.sl.r_10 tripB.sl.r_11 tripB.sl.v723 tripB.sl.v710 tripB.sl.v720 tripB.sl.v718 tripB.sl.v719 tripB.sl.v717 tripB.sl.v716 tripB.sl.v715 tripB.sl.v624 tripB.sl.arg15
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_00, o9_01, o10_00, o10_01, o10_02, o12_00, o12_01, o12_02, o12_03, o13_00, o13_01, o13_02]
  rw [dM, pM, pF]
  split_ifs <;> first | rfl | exact (zero_mul _).symm

include hK hQ hL in
theorem bp01 (j x : Fin 256) : tripB.sl.r_15 c arg2 arg3 arg7 k0_t1 h1 f2 f3 f7 (ix2 j x)
    = pM K Q L 0 (256 * k0_t1.val + j.val) (256 * (k0_t1.val + 1) + x.val) := by
  unfold tripB.sl.r_15 tripB.sl.r_1 tripB.sl.v713
  unfold_payloads
  pointwise
  simp only [readAt2_bf16, readAt2_f32, readAt3_bf16, readAt3_f32, readAt4_f32, Fin.val_zero, Nat.add_zero, Nat.zero_add, hK, hQ, hL, sel_le,
    o1_0, o1_1, o9_10, o9_11, o12_10, o12_11, o12_12, o12_13]
  rw [pM, if_pos (by omega), pF]
  rfl

include hK hV hQ hL hD hDT in
theorem bd01 (j x : Fin 256) : tripB.sl.r_14 c arg2 arg3 arg4 arg6 arg7 arg12 k0_t1 h1 f2 f3 f4 f6 f7 f12 (ix2 j x)
    = dM K V Q L D DT 0 (256 * k0_t1.val + j.val) (256 * (k0_t1.val + 1) + x.val) := by
  unfold tripB.sl.r_14 tripB.sl.r_1 tripB.sl.r_3 tripB.sl.v713
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_10, o9_11, o10_10, o10_11, o10_12, o12_10, o12_11, o12_12, o12_13, o13_10, o13_11, o13_12]
  rw [dM, pM, if_pos (by omega), pF]
  rfl

include hK hQ hL in
theorem bp10 (j x : Fin 256) : tripB.sl.r_24 c arg2 arg3 arg7 k0_t1 h1 f2 f3 f7 (ix2 j x)
    = pM K Q L 1 (256 * k0_t1.val + j.val) (256 * k0_t1.val + x.val) := by
  unfold tripB.sl.r_24 tripB.sl.r_22 tripB.sl.v720 tripB.sl.r_6 tripB.sl.v718 tripB.sl.v719 tripB.sl.v710 tripB.sl.v717 tripB.sl.v716 tripB.sl.v715 tripB.sl.v624 tripB.sl.arg15
  unfold_payloads
  pointwise
  simp only [readAt2_bf16, readAt2_f32, readAt3_bf16, readAt3_f32, readAt4_f32, Fin.val_zero, Nat.add_zero, Nat.zero_add, hK, hQ, hL, sel_le,
    o1_0, o1_1, o9_00, o9_01, o15_00, o15_01, o15_02, o15_03]
  rw [pM, pF]
  rfl

include hK hV hQ hL hD hDT in
theorem bd10 (j x : Fin 256) : tripB.sl.r_23 c arg2 arg3 arg4 arg6 arg7 arg12 k0_t1 h1 f2 f3 f4 f6 f7 f12 (ix2 j x)
    = dM K V Q L D DT 1 (256 * k0_t1.val + j.val) (256 * k0_t1.val + x.val) := by
  unfold tripB.sl.r_23 tripB.sl.r_8 tripB.sl.r_22 tripB.sl.v720 tripB.sl.r_6 tripB.sl.v718 tripB.sl.v719 tripB.sl.v710 tripB.sl.v717 tripB.sl.v716 tripB.sl.v715 tripB.sl.v624 tripB.sl.arg15
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_00, o9_01, o11_00, o11_01, o11_02, o15_00, o15_01, o15_02, o15_03, o16_00, o16_01, o16_02]
  rw [dM, pM, pF]
  split_ifs <;> first | rfl | exact (zero_mul _).symm

include hK hQ hL in
theorem bp11 (j x : Fin 256) : tripB.sl.r_26 c arg2 arg3 arg7 k0_t1 h1 f2 f3 f7 (ix2 j x)
    = pM K Q L 1 (256 * k0_t1.val + j.val) (256 * (k0_t1.val + 1) + x.val) := by
  unfold tripB.sl.r_26 tripB.sl.r_7 tripB.sl.v713
  unfold_payloads
  pointwise
  simp only [readAt2_bf16, readAt2_f32, readAt3_bf16, readAt3_f32, readAt4_f32, Fin.val_zero, Nat.add_zero, Nat.zero_add, hK, hQ, hL, sel_le,
    o1_0, o1_1, o9_10, o9_11, o15_10, o15_11, o15_12, o15_13]
  rw [pM, if_pos (by omega), pF]
  rfl

include hK hV hQ hL hD hDT in
theorem bd11 (j x : Fin 256) : tripB.sl.r_25 c arg2 arg3 arg4 arg6 arg7 arg12 k0_t1 h1 f2 f3 f4 f6 f7 f12 (ix2 j x)
    = dM K V Q L D DT 1 (256 * k0_t1.val + j.val) (256 * (k0_t1.val + 1) + x.val) := by
  unfold tripB.sl.r_25 tripB.sl.r_7 tripB.sl.r_9 tripB.sl.v713
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_10, o9_11, o11_10, o11_11, o11_12, o15_10, o15_11, o15_12, o15_13, o16_10, o16_11, o16_12]
  rw [dM, pM, if_pos (by omega), pF]
  rfl

include hK hQ hL in
theorem bp20 (j x : Fin 256) : tripB.sl.r_36 c arg2 arg3 arg7 k0_t1 h1 f2 f3 f7 (ix2 j x)
    = pM K Q L 2 (256 * k0_t1.val + j.val) (256 * k0_t1.val + x.val) := by
  unfold tripB.sl.r_36 tripB.sl.v720 tripB.sl.r_18 tripB.sl.r_34 tripB.sl.v718 tripB.sl.v719 tripB.sl.v710 tripB.sl.v717 tripB.sl.v716 tripB.sl.v715 tripB.sl.v624 tripB.sl.arg15
  unfold_payloads
  pointwise
  simp only [readAt2_bf16, readAt2_f32, readAt3_bf16, readAt3_f32, readAt4_f32, Fin.val_zero, Nat.add_zero, Nat.zero_add, hK, hQ, hL, sel_le,
    o1_0, o1_1, o9_00, o9_01, o21_00, o21_01, o21_02, o21_03]
  rw [pM, pF]
  rfl

include hK hV hQ hL hD hDT in
theorem bd20 (j x : Fin 256) : tripB.sl.r_35 c arg2 arg3 arg4 arg6 arg7 arg12 k0_t1 h1 f2 f3 f4 f6 f7 f12 (ix2 j x)
    = dM K V Q L D DT 2 (256 * k0_t1.val + j.val) (256 * k0_t1.val + x.val) := by
  unfold tripB.sl.r_35 tripB.sl.v720 tripB.sl.r_18 tripB.sl.r_20 tripB.sl.r_34 tripB.sl.v718 tripB.sl.v719 tripB.sl.v710 tripB.sl.v717 tripB.sl.v716 tripB.sl.v715 tripB.sl.v624 tripB.sl.arg15
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_00, o9_01, o14_00, o14_01, o14_02, o21_00, o21_01, o21_02, o21_03, o22_00, o22_01, o22_02]
  rw [dM, pM, pF]
  split_ifs <;> first | rfl | exact (zero_mul _).symm

include hK hQ hL in
theorem bp21 (j x : Fin 256) : tripB.sl.r_38 c arg2 arg3 arg7 k0_t1 h1 f2 f3 f7 (ix2 j x)
    = pM K Q L 2 (256 * k0_t1.val + j.val) (256 * (k0_t1.val + 1) + x.val) := by
  unfold tripB.sl.r_38 tripB.sl.r_19 tripB.sl.v713
  unfold_payloads
  pointwise
  simp only [readAt2_bf16, readAt2_f32, readAt3_bf16, readAt3_f32, readAt4_f32, Fin.val_zero, Nat.add_zero, Nat.zero_add, hK, hQ, hL, sel_le,
    o1_0, o1_1, o9_10, o9_11, o21_10, o21_11, o21_12, o21_13]
  rw [pM, if_pos (by omega), pF]
  rfl

include hK hV hQ hL hD hDT in
theorem bd21 (j x : Fin 256) : tripB.sl.r_37 c arg2 arg3 arg4 arg6 arg7 arg12 k0_t1 h1 f2 f3 f4 f6 f7 f12 (ix2 j x)
    = dM K V Q L D DT 2 (256 * k0_t1.val + j.val) (256 * (k0_t1.val + 1) + x.val) := by
  unfold tripB.sl.r_37 tripB.sl.r_19 tripB.sl.r_21 tripB.sl.v713
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_10, o9_11, o14_10, o14_11, o14_12, o21_10, o21_11, o21_12, o21_13, o22_10, o22_11, o22_12]
  rw [dM, pM, if_pos (by omega), pF]
  rfl

include hK hQ hL in
theorem bp30 (j x : Fin 256) : tripB.sl.r_42 c arg2 arg3 arg7 k0_t1 h1 f2 f3 f7 (ix2 j x)
    = pM K Q L 3 (256 * k0_t1.val + j.val) (256 * k0_t1.val + x.val) := by
  unfold tripB.sl.r_42 tripB.sl.v720 tripB.sl.r_30 tripB.sl.v718 tripB.sl.v719 tripB.sl.v710 tripB.sl.v717 tripB.sl.v716 tripB.sl.v715 tripB.sl.v624 tripB.sl.arg15
  unfold_payloads
  pointwise
  simp only [readAt2_bf16, readAt2_f32, readAt3_bf16, readAt3_f32, readAt4_f32, Fin.val_zero, Nat.add_zero, Nat.zero_add, hK, hQ, hL, sel_le,
    o1_0, o1_1, o9_00, o9_01, o26_00, o26_01, o26_02, o26_03]
  rw [pM, pF]
  rfl

include hK hV hQ hL hD hDT in
theorem bd30 (j x : Fin 256) : tripB.sl.r_41 c arg2 arg3 arg4 arg6 arg7 arg12 k0_t1 h1 f2 f3 f4 f6 f7 f12 (ix2 j x)
    = dM K V Q L D DT 3 (256 * k0_t1.val + j.val) (256 * k0_t1.val + x.val) := by
  unfold tripB.sl.r_41 tripB.sl.v720 tripB.sl.r_30 tripB.sl.r_32 tripB.sl.v718 tripB.sl.v719 tripB.sl.v710 tripB.sl.v717 tripB.sl.v716 tripB.sl.v715 tripB.sl.v624 tripB.sl.arg15
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_00, o9_01, o20_00, o20_01, o20_02, o26_00, o26_01, o26_02, o26_03, o27_00, o27_01, o27_02]
  rw [dM, pM, pF]
  split_ifs <;> first | rfl | exact (zero_mul _).symm

include hK hQ hL in
theorem bp31 (j x : Fin 256) : tripB.sl.r_44 c arg2 arg3 arg7 k0_t1 h1 f2 f3 f7 (ix2 j x)
    = pM K Q L 3 (256 * k0_t1.val + j.val) (256 * (k0_t1.val + 1) + x.val) := by
  unfold tripB.sl.r_44 tripB.sl.r_31 tripB.sl.v713
  unfold_payloads
  pointwise
  simp only [readAt2_bf16, readAt2_f32, readAt3_bf16, readAt3_f32, readAt4_f32, Fin.val_zero, Nat.add_zero, Nat.zero_add, hK, hQ, hL, sel_le,
    o1_0, o1_1, o9_10, o9_11, o26_10, o26_11, o26_12, o26_13]
  rw [pM, if_pos (by omega), pF]
  rfl

include hK hV hQ hL hD hDT in
theorem bd31 (j x : Fin 256) : tripB.sl.r_43 c arg2 arg3 arg4 arg6 arg7 arg12 k0_t1 h1 f2 f3 f4 f6 f7 f12 (ix2 j x)
    = dM K V Q L D DT 3 (256 * k0_t1.val + j.val) (256 * (k0_t1.val + 1) + x.val) := by
  unfold tripB.sl.r_43 tripB.sl.r_31 tripB.sl.r_33 tripB.sl.v713
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o9_10, o9_11, o20_10, o20_11, o20_12, o26_10, o26_11, o26_12, o26_13, o27_10, o27_11, o27_12]
  rw [dM, pM, if_pos (by omega), pF]
  rfl

include hK in
theorem bK (j : Fin 256) (l : Fin 512) : tripB.sl.r_47 c arg3 k0_t1 f3 (ix2 j l) = K (256 * k0_t1.val + j.val) l.val := by
  unfold tripB.sl.r_47; simp only [readAt2_bf16, readAt2_f32, readAt3_bf16, readAt3_f32, readAt4_f32, Fin.val_zero, Nat.add_zero, Nat.zero_add, hK, o1_0, o1_1]
include hV in
theorem bV (j : Fin 256) (l : Fin 256) : tripB.sl.r_48 c arg4 k0_t1 f4 (ix2 j l) = V (256 * k0_t1.val + j.val) l.val := by
  unfold tripB.sl.r_48; simp only [readAt2_bf16, readAt2_f32, readAt3_bf16, readAt3_f32, readAt4_f32, Fin.val_zero, Nat.add_zero, Nat.zero_add, hV, o2_0, o2_1]
include hKT in
theorem bT (r : Fin 512) (j : Fin 256) : tripB.sl.r_49 c arg11 k0_t1 f11 (ix2 r j) = KT r.val (256 * k0_t1.val + j.val) := by
  unfold tripB.sl.r_49; simp only [readAt2_bf16, readAt2_f32, readAt3_bf16, readAt3_f32, readAt4_f32, Fin.val_zero, Nat.add_zero, Nat.zero_add, hKT, o3_0, o3_1]

theorem bz9_1 (f : arg9.view.ty.Contents (Elt Ideal)) (r l : ℕ) (hr : 256 * k0_t1.val ≤ r) (hr2 : r < 256 * k0_t1.val + 256) (hl : 0 ≤ l) (hl2 : l < 512) :
    n2 (arg9.view.read (Elt Ideal) (arg9.view.writes (Elt Ideal) f (tripB.sl.H9_1 k0_t1))) r l = 0 := by
  unfold tripB.sl.H9_1
  rw [writesG2_f32 _ _ _ _ _ _ (fun _ _ => 0) ?h, if_pos (by simp only [o1_0, o1_1]; omega)]
  case h =>
    intros
    unfold_payloads
    pointwise

theorem bz9_2 (f : arg9.view.ty.Contents (Elt Ideal)) (r l : ℕ) (hr : 256 * k0_t1.val ≤ r) (hr2 : r < 256 * k0_t1.val + 256) (hl : 128 ≤ l) (hl2 : l < 512) :
    n2 (arg9.view.read (Elt Ideal) (arg9.view.writes (Elt Ideal) f (tripB.sl.H9_2 c arg2 arg3 arg4 arg6 arg7 arg9 arg12 k0_t1 h1 f2 f3 f4 f6 f7 f12))) r l = 0 := by
  unfold tripB.sl.H9_2
  rw [writes2_f32, if_neg (by simp only [o18_0, o18_1]; omega)]
  apply bz9_1 <;> omega

theorem bz9_3 (f : arg9.view.ty.Contents (Elt Ideal)) (r l : ℕ) (hr : 256 * k0_t1.val ≤ r) (hr2 : r < 256 * k0_t1.val + 256) (hl : 256 ≤ l) (hl2 : l < 512) :
    n2 (arg9.view.read (Elt Ideal) (arg9.view.writes (Elt Ideal) f (tripB.sl.H9_3 c arg2 arg3 arg4 arg6 arg7 arg9 arg12 k0_t1 h1 f2 f3 f4 f6 f7 f12))) r l = 0 := by
  unfold tripB.sl.H9_3
  rw [writes2_f32, if_neg (by simp only [o24_0, o24_1]; omega)]
  apply bz9_2 <;> omega

theorem bz9_4 (f : arg9.view.ty.Contents (Elt Ideal)) (r l : ℕ) (hr : 256 * k0_t1.val ≤ r) (hr2 : r < 256 * k0_t1.val + 256) (hl : 384 ≤ l) (hl2 : l < 512) :
    n2 (arg9.view.read (Elt Ideal) (arg9.view.writes (Elt Ideal) f (tripB.sl.H9_4 c arg2 arg3 arg4 arg6 arg7 arg9 arg12 k0_t1 h1 f2 f3 f4 f6 f7 f12))) r l = 0 := by
  unfold tripB.sl.H9_4
  rw [writes2_f32, if_neg (by simp only [o29_0, o29_1]; omega)]
  apply bz9_3 <;> omega

theorem bz14_1 (f : arg14.view.ty.Contents (Elt Ideal)) (s r l : ℕ) (hs : s = k0_t1.val % 2) (hr : 0 ≤ r) (hr2 : r < 256) (hl : l < 256) :
    n3 (arg14.view.read (Elt Ideal) (arg14.view.writes (Elt Ideal) f (tripB.sl.H14_1 k0_t1))) s r l = 0 := by
  unfold tripB.sl.H14_1
  rw [writesG3_f32 _ _ _ _ _ _ (fun _ _ _ => 0) ?h, if_pos (by simp only [o4_0, o4_1, o4_2]; omega)]
  case h =>
    intros
    unfold_payloads
    pointwise

theorem bz14_2 (f : arg14.view.ty.Contents (Elt Ideal)) (s r l : ℕ) (hs : s = k0_t1.val % 2) (hr : 64 ≤ r) (hr2 : r < 256) (hl : l < 256) :
    n3 (arg14.view.read (Elt Ideal) (arg14.view.writes (Elt Ideal) f (tripB.sl.H14_2 c arg2 arg3 arg7 arg12 arg14 k0_t1 h1 f2 f3 f7 f12))) s r l = 0 := by
  unfold tripB.sl.H14_2
  rw [writes3_f32, if_neg (by simp only [o17_0, o17_1, o17_2]; omega)]
  apply bz14_1 <;> omega

theorem bz14_3 (f : arg14.view.ty.Contents (Elt Ideal)) (s r l : ℕ) (hs : s = k0_t1.val % 2) (hr : 128 ≤ r) (hr2 : r < 256) (hl : l < 256) :
    n3 (arg14.view.read (Elt Ideal) (arg14.view.writes (Elt Ideal) f (tripB.sl.H14_3 c arg2 arg3 arg7 arg12 arg14 k0_t1 h1 f2 f3 f7 f12))) s r l = 0 := by
  unfold tripB.sl.H14_3
  rw [writes3_f32, if_neg (by simp only [o23_0, o23_1, o23_2]; omega)]
  apply bz14_2 <;> omega

theorem bz14_4 (f : arg14.view.ty.Contents (Elt Ideal)) (s r l : ℕ) (hs : s = k0_t1.val % 2) (hr : 192 ≤ r) (hr2 : r < 256) (hl : l < 256) :
    n3 (arg14.view.read (Elt Ideal) (arg14.view.writes (Elt Ideal) f (tripB.sl.H14_4 c arg2 arg3 arg7 arg12 arg14 k0_t1 h1 f2 f3 f7 f12))) s r l = 0 := by
  unfold tripB.sl.H14_4
  rw [writes3_f32, if_neg (by simp only [o28_0, o28_1, o28_2]; omega)]
  apply bz14_3 <;> omega

theorem bf (s r l : ℕ) (hs : s = 1 - k0_t1.val % 2) :
    n3 (arg14.view.read (Elt Ideal) (arg14.view.writes (Elt Ideal) f14 (tripB.sl.H14_1 k0_t1))) s r l
      = n3 (arg14.view.read (Elt Ideal) f14) s r l := by
  unfold tripB.sl.H14_1
  rw [writes3_f32, if_neg (by simp only [o4_0, o4_1, o4_2]; omega), View.writes_nil]

theorem b10 (r l : ℕ) : n2 (arg10.view.read (Elt Ideal) (tripB c i arg2 harg2 arg3 harg3 arg4 harg4 arg5 harg5 arg6 harg6 arg7 harg7 arg8 harg8 arg9 harg9 arg10 harg10 arg11 harg11 arg12 harg12 arg13 harg13 arg14 harg14 v9 v481 v486 k0_t1 h1 h2 f2 f3 f4 f6 f7 f11 f12 f9 f10 f13 f14).2.1) r l
    = if (256 * (k0_t1.val - 1) ≤ r ∧ r < 256 * (k0_t1.val - 1) + 256) ∧ l < 256 then n3 (arg14.view.read (Elt Ideal) f14) (1 - k0_t1.val % 2) l (r - 256 * (k0_t1.val - 1))
      else n2 (arg10.view.read (Elt Ideal) f10) r l := by
  unfold tripB
  dsimp only
  rw [writesG2_f32 _ _ _ _ _ _ (fun r l => n3 (arg14.view.read (Elt Ideal) f14) (1 - k0_t1.val % 2) l (r - 256 * (k0_t1.val - 1))) ?h0, writesG2_f32 _ _ _ _ _ _ (fun r l => n3 (arg14.view.read (Elt Ideal) f14) (1 - k0_t1.val % 2) l (r - 256 * (k0_t1.val - 1))) ?h1]
  · simp only [View.writes_nil, o6_0, o6_1, o8_0, o8_1]
    split_ifs <;> first | rfl | omega
  case h0 =>
    intro a b
    unfold tripB.sl.v705 tripB.sl.v704
    unfold_payloads
    pointwise
    simp (disch := omega) only [bf c, readAt2_bf16, readAt2_f32, readAt3_bf16, readAt3_f32, readAt4_f32, Fin.val_zero, Nat.add_zero, Nat.zero_add, Nat.add_sub_cancel_left, o7_0, o7_1, o7_2, o8_0, o8_1]
  case h1 =>
    intro a b
    unfold tripB.sl.v699 tripB.sl.v698
    unfold_payloads
    pointwise
    simp (disch := omega) only [bf c, readAt2_bf16, readAt2_f32, readAt3_bf16, readAt3_f32, readAt4_f32, Fin.val_zero, Nat.add_zero, Nat.zero_add, Nat.add_sub_cancel_left, o5_0, o5_1, o5_2, o6_0, o6_1]

set_option maxHeartbeats 0 in
include hK hV hKT hQ hL hD hDT in
theorem b9 (r l : ℕ) : n2 (arg9.view.read (Elt Ideal) (tripB c i arg2 harg2 arg3 harg3 arg4 harg4 arg5 harg5 arg6 harg6 arg7 harg7 arg8 harg8 arg9 harg9 arg10 harg10 arg11 harg11 arg12 harg12 arg13 harg13 arg14 harg14 v9 v481 v486 k0_t1 h1 h2 f2 f3 f4 f6 f7 f11 f12 f9 f10 f13 f14).1) r l
    = if (256 * k0_t1.val ≤ r ∧ r < 256 * k0_t1.val + 256) ∧ l < 512 then (tK K V Q L D DT k0_t1.val r l + tK K V Q L D DT (k0_t1.val + 1) r l) + ∑ t ∈ Finset.range (k0_t2_loop k0_t1).trips, (tK K V Q L D DT (k0_t1.val + 2 * (1 + t)) r l + tK K V Q L D DT (k0_t1.val + 2 * (1 + t) + 1) r l) else n2 (arg9.view.read (Elt Ideal) f9) r l := by
  unfold tripB
  dsimp only [↓trips2_def]
  rw [s9_eq, loop9 (hK := bK c arg3 k0_t1 f3 hK) (hV := bV c arg4 k0_t1 f4 hV) (hKT := bT c arg11 k0_t1 f11 hKT) (hQ := hQ) (hL := hL) (hD := hD) (hDT := hDT) (hn := le_refl _)]
  unfold tripB.sl.H9_4 tripB.sl.H9_3 tripB.sl.H9_2 tripB.sl.H9_1
  rw [wG2 _ _ _ _ _ _ (fun r l => tK K V Q L D DT k0_t1.val r l + tK K V Q L D DT (k0_t1.val + 1) r l) ?h0, writesG2_f32 _ _ _ _ _ _ (fun r l => tK K V Q L D DT k0_t1.val r l + tK K V Q L D DT (k0_t1.val + 1) r l) ?h1, writesG2_f32 _ _ _ _ _ _ (fun r l => tK K V Q L D DT k0_t1.val r l + tK K V Q L D DT (k0_t1.val + 1) r l) ?h2, writesG2_f32 _ _ _ _ _ _ (fun r l => tK K V Q L D DT k0_t1.val r l + tK K V Q L D DT (k0_t1.val + 1) r l) ?h3, writesG2_f32 _ _ _ _ _ _ (fun _ _ => 0) ?hz]
  · simp only [View.writes_nil, o32_0, o32_1, o29_0, o29_1, o24_0, o24_1, o18_0, o18_1, o1_0, o1_1]
    skip
    split_ifs <;> first | rfl | omega
  case h0 =>
    intro a b
    have e1 : (384 + b.val) / 128 = 3 := by omega
    unfold tripB.sl.v710 tripB.sl.v713 tripB.sl.v1049
    unfold_payloads
    pointwise
    simp (disch := omega) only [bd30 (hK := hK) (hV := hV) (hQ := hQ) (hL := hL) (hD := hD) (hDT := hDT), bd31 (hK := hK) (hV := hV) (hQ := hQ) (hL := hL) (hD := hD) (hDT := hDT), bz9_4, readAt2_bf16, readAt2_f32, readAt3_bf16, readAt3_f32, readAt4_f32, readCov2_f32, readCov3_f32, zero_add, Fin.val_zero, Nat.add_zero, Nat.zero_add, hKT, hQ, hDT, o9_00, o9_01, o9_10, o9_11, o32_0, o32_1, tK, e1]
  case h1 =>
    intro a b
    have e1 : (256 + b.val) / 128 = 2 := by omega
    unfold tripB.sl.v710 tripB.sl.v713 tripB.sl.v1007
    unfold_payloads
    pointwise
    simp (disch := omega) only [bd20 (hK := hK) (hV := hV) (hQ := hQ) (hL := hL) (hD := hD) (hDT := hDT), bd21 (hK := hK) (hV := hV) (hQ := hQ) (hL := hL) (hD := hD) (hDT := hDT), bz9_3, readAt2_bf16, readAt2_f32, readAt3_bf16, readAt3_f32, readAt4_f32, readCov2_f32, readCov3_f32, zero_add, Fin.val_zero, Nat.add_zero, Nat.zero_add, hKT, hQ, hDT, o9_00, o9_01, o9_10, o9_11, o29_0, o29_1, tK, e1]
  case h2 =>
    intro a b
    have e1 : (128 + b.val) / 128 = 1 := by omega
    unfold tripB.sl.r_39 tripB.sl.r_40 tripB.sl.v935 tripB.sl.v710 tripB.sl.v713
    unfold_payloads
    pointwise
    simp (disch := omega) only [bd10 (hK := hK) (hV := hV) (hQ := hQ) (hL := hL) (hD := hD) (hDT := hDT), bd11 (hK := hK) (hV := hV) (hQ := hQ) (hL := hL) (hD := hD) (hDT := hDT), bz9_2, readAt2_bf16, readAt2_f32, readAt3_bf16, readAt3_f32, readAt4_f32, readCov2_f32, readCov3_f32, zero_add, Fin.val_zero, Nat.add_zero, Nat.zero_add, hKT, hQ, hDT, o9_00, o9_01, o9_10, o9_11, o24_0, o24_1, tK, e1]
  case h3 =>
    intro a b
    have e1 : b.val / 128 = 0 := by omega
    unfold tripB.sl.r_27 tripB.sl.v710 tripB.sl.v713 tripB.sl.v847
    unfold_payloads
    pointwise
    simp (disch := omega) only [bd00 (hK := hK) (hV := hV) (hQ := hQ) (hL := hL) (hD := hD) (hDT := hDT), bd01 (hK := hK) (hV := hV) (hQ := hQ) (hL := hL) (hD := hD) (hDT := hDT), bz9_1, readAt2_bf16, readAt2_f32, readAt3_bf16, readAt3_f32, readAt4_f32, readCov2_f32, readCov3_f32, zero_add, Fin.val_zero, Nat.add_zero, Nat.zero_add, hKT, hQ, hDT, o9_00, o9_01, o9_10, o9_11, o18_0, o18_1, tK, e1]
  case hz =>
    intros
    unfold_payloads
    pointwise

set_option maxHeartbeats 0 in
include hK hV hKT hQ hL hD hDT in
theorem b13 (r l : ℕ) : n2 (arg13.view.read (Elt Ideal) (tripB c i arg2 harg2 arg3 harg3 arg4 harg4 arg5 harg5 arg6 harg6 arg7 harg7 arg8 harg8 arg9 harg9 arg10 harg10 arg11 harg11 arg12 harg12 arg13 harg13 arg14 harg14 v9 v481 v486 k0_t1 h1 h2 f2 f3 f4 f6 f7 f11 f12 f9 f10 f13 f14).2.2.1) r l
    = if r < 512 ∧ (256 * k0_t1.val ≤ l ∧ l < 256 * (k0_t1.val + 2 + 2 * (k0_t2_loop k0_t1).trips)) then n2 (arg13.view.read (Elt Ideal) f13) r l + tQ K V Q KT L D DT k0_t1.val r l else n2 (arg13.view.read (Elt Ideal) f13) r l := by
  unfold tripB
  dsimp only [↓trips2_def]
  rw [s13_eq, loop13 (hK := bK c arg3 k0_t1 f3 hK) (hV := bV c arg4 k0_t1 f4 hV) (hKT := bT c arg11 k0_t1 f11 hKT) (hQ := hQ) (hL := hL) (hD := hD) (hDT := hDT) (hn := le_refl _)]
  rw [wG2 _ _ _ _ _ _ (fun r l => n2 (arg13.view.read (Elt Ideal) f13) r l + tQ K V Q KT L D DT k0_t1.val r l) ?h0, writesG2_f32 _ _ _ _ _ _ (fun r l => n2 (arg13.view.read (Elt Ideal) f13) r l + tQ K V Q KT L D DT k0_t1.val r l) ?h1, writesG2_f32 _ _ _ _ _ _ (fun r l => n2 (arg13.view.read (Elt Ideal) f13) r l + tQ K V Q KT L D DT k0_t1.val r l) ?h2, writesG2_f32 _ _ _ _ _ _ (fun r l => n2 (arg13.view.read (Elt Ideal) f13) r l + tQ K V Q KT L D DT k0_t1.val r l) ?h3, writesG2_f32 _ _ _ _ _ _ (fun r l => n2 (arg13.view.read (Elt Ideal) f13) r l + tQ K V Q KT L D DT k0_t1.val r l) ?h4, writesG2_f32 _ _ _ _ _ _ (fun r l => n2 (arg13.view.read (Elt Ideal) f13) r l + tQ K V Q KT L D DT k0_t1.val r l) ?h5, writesG2_f32 _ _ _ _ _ _ (fun r l => n2 (arg13.view.read (Elt Ideal) f13) r l + tQ K V Q KT L D DT k0_t1.val r l) ?h6, writesG2_f32 _ _ _ _ _ _ (fun r l => n2 (arg13.view.read (Elt Ideal) f13) r l + tQ K V Q KT L D DT k0_t1.val r l) ?h7]
  · simp only [View.writes_nil, o33_10, o33_11, o33_00, o33_01, o30_10, o30_11, o30_00, o30_01, o25_10, o25_11, o25_00, o25_01, o19_10, o19_11, o19_00, o19_01]
    skip
    split_ifs <;> first | rfl | omega
  case h0 =>
    intro a b
    have e1 : (384 + a.val) / 128 = 3 := by omega
    unfold tripB.sl.v1065
    unfold_payloads
    pointwise
    simp (disch := omega) only [bd31 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o33_10, o33_11, tQ, e1]
  case h1 =>
    intro a b
    have e1 : (384 + a.val) / 128 = 3 := by omega
    unfold tripB.sl.r_46 tripB.sl.v1056
    unfold_payloads
    pointwise
    simp (disch := omega) only [bd30 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o33_00, o33_01, tQ, e1]
  case h2 =>
    intro a b
    have e1 : (256 + a.val) / 128 = 2 := by omega
    unfold tripB.sl.v1023
    unfold_payloads
    pointwise
    simp (disch := omega) only [bd21 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o30_10, o30_11, tQ, e1]
  case h3 =>
    intro a b
    have e1 : (256 + a.val) / 128 = 2 := by omega
    unfold tripB.sl.r_45 tripB.sl.v1014
    unfold_payloads
    pointwise
    simp (disch := omega) only [bd20 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o30_00, o30_01, tQ, e1]
  case h4 =>
    intro a b
    have e1 : (128 + a.val) / 128 = 1 := by omega
    unfold tripB.sl.v951
    unfold_payloads
    pointwise
    simp (disch := omega) only [bd11 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o25_10, o25_11, tQ, e1]
  case h5 =>
    intro a b
    have e1 : (128 + a.val) / 128 = 1 := by omega
    unfold tripB.sl.v942
    unfold_payloads
    pointwise
    simp (disch := omega) only [bd10 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o25_00, o25_01, tQ, e1]
  case h6 =>
    intro a b
    have e1 : a.val / 128 = 0 := by omega
    unfold tripB.sl.v863
    unfold_payloads
    pointwise
    simp (disch := omega) only [bd01 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o19_10, o19_11, tQ, e1]
  case h7 =>
    intro a b
    have e1 : a.val / 128 = 0 := by omega
    skip
    unfold_payloads
    pointwise
    simp (disch := omega) only [bd00 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o19_00, o19_01, tQ, e1]

set_option maxHeartbeats 0 in
include hK hV hKT hQ hL hD hDT in
theorem b14 (s r l : ℕ) : n3 (arg14.view.read (Elt Ideal) (tripB c i arg2 harg2 arg3 harg3 arg4 harg4 arg5 harg5 arg6 harg6 arg7 harg7 arg8 harg8 arg9 harg9 arg10 harg10 arg11 harg11 arg12 harg12 arg13 harg13 arg14 harg14 v9 v481 v486 k0_t1 h1 h2 f2 f3 f4 f6 f7 f11 f12 f9 f10 f13 f14).2.2.2.1) s r l
    = if s = k0_t1.val % 2 ∧ r < 256 ∧ l < 256 then (tV K Q L DT k0_t1.val k0_t1.val r l + tV K Q L DT k0_t1.val (k0_t1.val + 1) r l) + ∑ t ∈ Finset.range (k0_t2_loop k0_t1).trips, (tV K Q L DT k0_t1.val (k0_t1.val + 2 * (1 + t)) r l + tV K Q L DT k0_t1.val (k0_t1.val + 2 * (1 + t) + 1) r l) else n3 (arg14.view.read (Elt Ideal) f14) s r l := by
  unfold tripB
  dsimp only [↓trips2_def]
  rw [s14_eq, loop14 (hK := bK c arg3 k0_t1 f3 hK) (hV := bV c arg4 k0_t1 f4 hV) (hKT := bT c arg11 k0_t1 f11 hKT) (hQ := hQ) (hL := hL) (hD := hD) (hDT := hDT) (hn := le_refl _)]
  unfold tripB.sl.H14_4 tripB.sl.H14_3 tripB.sl.H14_2 tripB.sl.H14_1
  rw [wG3 _ _ _ _ _ _ (fun s r l => tV K Q L DT k0_t1.val k0_t1.val r l + tV K Q L DT k0_t1.val (k0_t1.val + 1) r l) ?h0, writesG3_f32 _ _ _ _ _ _ (fun s r l => tV K Q L DT k0_t1.val k0_t1.val r l + tV K Q L DT k0_t1.val (k0_t1.val + 1) r l) ?h1, writesG3_f32 _ _ _ _ _ _ (fun s r l => tV K Q L DT k0_t1.val k0_t1.val r l + tV K Q L DT k0_t1.val (k0_t1.val + 1) r l) ?h2, writesG3_f32 _ _ _ _ _ _ (fun s r l => tV K Q L DT k0_t1.val k0_t1.val r l + tV K Q L DT k0_t1.val (k0_t1.val + 1) r l) ?h3, writesG3_f32 _ _ _ _ _ _ (fun _ _ _ => 0) ?hz]
  · simp only [View.writes_nil, o31_0, o31_1, o31_2, o28_0, o28_1, o28_2, o23_0, o23_1, o23_2, o17_0, o17_1, o17_2, o4_0, o4_1, o4_2]
    skip
    split_ifs <;> first | rfl | omega
  case h0 =>
    intro a b d
    have e1 : (192 + b.val) / 64 = 3 := by omega
    have e2 : (192 + b.val) % 128 = 64 + b.val := by omega
    unfold tripB.sl.r_28 tripB.sl.r_29 tripB.sl.v1040
    unfold_payloads
    pointwise
    simp (disch := omega) only [bp30 (hK := hK) (hQ := hQ) (hL := hL), bp31 (hK := hK) (hQ := hQ) (hL := hL), bz14_4, readAt2_bf16, readAt2_f32, readAt3_bf16, readAt3_f32, readAt4_f32, readCov2_f32, readCov3_f32, zero_add, Fin.val_zero, Nat.add_zero, Nat.zero_add, hKT, hQ, hDT, o20_00, o20_01, o20_02, o20_10, o20_11, o20_12, o31_0, o31_1, o31_2, tV, e1, e2]
  case h1 =>
    intro a b d
    have e1 : (128 + b.val) / 64 = 2 := by omega
    have e2 : (128 + b.val) % 128 = b.val := by omega
    unfold tripB.sl.r_16 tripB.sl.r_17 tripB.sl.v998
    unfold_payloads
    pointwise
    simp (disch := omega) only [bp20 (hK := hK) (hQ := hQ) (hL := hL), bp21 (hK := hK) (hQ := hQ) (hL := hL), bz14_3, readAt2_bf16, readAt2_f32, readAt3_bf16, readAt3_f32, readAt4_f32, readCov2_f32, readCov3_f32, zero_add, Fin.val_zero, Nat.add_zero, Nat.zero_add, hKT, hQ, hDT, o14_00, o14_01, o14_02, o14_10, o14_11, o14_12, o28_0, o28_1, o28_2, tV, e1, e2]
  case h2 =>
    intro a b d
    have e1 : (64 + b.val) / 64 = 1 := by omega
    have e2 : (64 + b.val) % 128 = 64 + b.val := by omega
    unfold tripB.sl.r_4 tripB.sl.r_5 tripB.sl.v926
    unfold_payloads
    pointwise
    simp (disch := omega) only [bp10 (hK := hK) (hQ := hQ) (hL := hL), bp11 (hK := hK) (hQ := hQ) (hL := hL), bz14_2, readAt2_bf16, readAt2_f32, readAt3_bf16, readAt3_f32, readAt4_f32, readCov2_f32, readCov3_f32, zero_add, Fin.val_zero, Nat.add_zero, Nat.zero_add, hKT, hQ, hDT, o11_00, o11_01, o11_02, o11_10, o11_11, o11_12, o23_0, o23_1, o23_2, tV, e1, e2]
  case h3 =>
    intro a b d
    have e1 : b.val / 64 = 0 := by omega
    have e2 : b.val % 128 = b.val := by omega
    unfold tripB.sl.v723 tripB.sl.r tripB.sl.v838
    unfold_payloads
    pointwise
    simp (disch := omega) only [bp00 (hK := hK) (hQ := hQ) (hL := hL), bp01 (hK := hK) (hQ := hQ) (hL := hL), bz14_1, readAt2_bf16, readAt2_f32, readAt3_bf16, readAt3_f32, readAt4_f32, readCov2_f32, readCov3_f32, zero_add, Fin.val_zero, Nat.add_zero, Nat.zero_add, hKT, hQ, hDT, o10_00, o10_01, o10_02, o10_10, o10_11, o10_12, o17_0, o17_1, o17_2, tV, e1, e2]
  case hz =>
    intros
    unfold_payloads
    pointwise

end

end Cert.Proof.Mla

end
-- ==== Proof.ValC.lean ====
/- The last trip of the outer loop, at an index. -/
module

public import proofs.«01_k».proof.Proof.Loop2
public import proofs.«01_k».proof.Proof.Mask

@[expose] public section

set_option maxRecDepth 16384

noncomputable section

namespace Cert.Proof.Mla

open Cert.KernelIdeal Cert.KernelIdeal.Gen
open Idealize.ShloMosaic Idealize.ShloMosaic.TcCoe Idealize.ShloMosaic.Tactic

section
variable (c : Dev nD) (i : grid0.Coords)
  (arg2 : Memref sig .tc .vmem S2048x512 .bf16) (harg2 : arg2.IsWhole)
  (arg3 : Memref sig .tc .vmem S2048x512 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S1x4x2048 .f32) (harg6 : arg6.IsWhole)
  (arg7 : Memref sig .tc .vmem S1x1x4x2048 .f32) (harg7 : arg7.IsWhole)
  (arg8 : Memref sig .tc .vmem S2048x512 .f32) (harg8 : arg8.IsWhole)
  (arg9 : Memref sig .tc .vmem S2048x512 .f32) (harg9 : arg9.IsWhole)
  (arg10 : Memref sig .tc .vmem S2048x256 .f32) (harg10 : arg10.IsWhole)
  (arg11 : Memref sig .tc .vmem S512x2048 .bf16) (harg11 : arg11.IsWhole)
  (arg12 : Memref sig .tc .vmem S4x128x2048 .bf16) (harg12 : arg12.IsWhole)
  (arg13 : Memref sig .tc .vmem S512x2048 .f32) (harg13 : arg13.IsWhole)
  (arg14 : Memref sig .tc .vmem S2x256x256 .f32) (harg14 : arg14.IsWhole)
  (v9 : IVec S128x1 1) (v481 : FVec Ideal S128x256 .f32) (v486 : FVec Ideal S128x256 .bf16)
  (k0_t1 : Fin k0_t1_loop.trips) (h1 : ¬ k0_cond1 k0_t1 = 1#1) (h2 : ¬ k0_cond2 k0_t1 = 1#1)
  (f2 : Buf (Elt Ideal) (arg2.view.loc (c : Thread nD τ)))
  (f3 : Buf (Elt Ideal) (arg3.view.loc (c : Thread nD τ)))
  (f4 : Buf (Elt Ideal) (arg4.view.loc (c : Thread nD τ)))
  (f6 : Buf (Elt Ideal) (arg6.view.loc (c : Thread nD τ)))
  (f7 : Buf (Elt Ideal) (arg7.view.loc (c : Thread nD τ)))
  (f11 : Buf (Elt Ideal) (arg11.view.loc (c : Thread nD τ)))
  (f12 : Buf (Elt Ideal) (arg12.view.loc (c : Thread nD τ)))
  (f9 : Buf (Elt Ideal) (arg9.view.loc (c : Thread nD τ)))
  (f10 : Buf (Elt Ideal) (arg10.view.loc (c : Thread nD τ)))
  (f13 : Buf (Elt Ideal) (arg13.view.loc (c : Thread nD τ)))
  (f14 : Buf (Elt Ideal) (arg14.view.loc (c : Thread nD τ)))
  {K V Q KT L D : ℕ → ℕ → EReal} {DT : ℕ → ℕ → ℕ → EReal}
  (hK : n2 (arg3.view.read (Elt Ideal) f3) = K) (hV : n2 (arg4.view.read (Elt Ideal) f4) = V)
  (hKT : n2 (arg11.view.read (Elt Ideal) f11) = KT)
  (hQ : n2 (arg2.view.read (Elt Ideal) f2) = Q) (hL : n4 (arg7.view.read (Elt Ideal) f7) 0 0 = L)
  (hD : n3 (arg6.view.read (Elt Ideal) f6) 0 = D) (hDT : n3 (arg12.view.read (Elt Ideal) f12) = DT)
  (hk : (k0_t2_loop k0_t1).trips = 0)

include hK hQ hL in
theorem cp00 (j x : Fin 256) : tripC.sl.r_8 c arg2 arg3 arg7 k0_t1 h1 f2 f3 f7 (ix2 j x)
    = pM K Q L 0 (256 * k0_t1.val + j.val) (256 * k0_t1.val + x.val) := by
  unfold tripC.sl.r_8 tripC.sl.r_1 tripC.sl.r_3 tripC.sl.arg15
  unfold_payloads
  pointwise
  simp only [readAt2_bf16, readAt2_f32, readAt3_bf16, readAt3_f32, readAt4_f32, Fin.val_zero, Nat.add_zero, Nat.zero_add, hK, hQ, hL, sel_le,
    o1_0, o1_1, o38_0, o38_1, o41_0, o41_1, o41_2, o41_3]
  rw [pM, pF]
  rfl

include hK hV hQ hL hD hDT in
theorem cd00 (j x : Fin 256) : tripC.sl.r_7 c arg2 arg3 arg4 arg6 arg7 arg12 k0_t1 h1 f2 f3 f4 f6 f7 f12 (ix2 j x)
    = dM K V Q L D DT 0 (256 * k0_t1.val + j.val) (256 * k0_t1.val + x.val) := by
  unfold tripC.sl.r_7 tripC.sl.r_1 tripC.sl.r_3 tripC.sl.r_4 tripC.sl.arg15
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o38_0, o38_1, o39_0, o39_1, o39_2, o41_0, o41_1, o41_2, o41_3, o42_0, o42_1, o42_2]
  rw [dM, pM, pF]
  split_ifs <;> first | rfl | exact (zero_mul _).symm

include hK hQ hL in
theorem cp10 (j x : Fin 256) : tripC.sl.r_15 c arg2 arg3 arg7 k0_t1 h1 f2 f3 f7 (ix2 j x)
    = pM K Q L 1 (256 * k0_t1.val + j.val) (256 * k0_t1.val + x.val) := by
  unfold tripC.sl.r_15 tripC.sl.r_12 tripC.sl.r tripC.sl.r_1 tripC.sl.arg15
  unfold_payloads
  pointwise
  simp only [readAt2_bf16, readAt2_f32, readAt3_bf16, readAt3_f32, readAt4_f32, Fin.val_zero, Nat.add_zero, Nat.zero_add, hK, hQ, hL, sel_le,
    o1_0, o1_1, o38_0, o38_1, o44_0, o44_1, o44_2, o44_3]
  rw [pM, pF]
  rfl

include hK hV hQ hL hD hDT in
theorem cd10 (j x : Fin 256) : tripC.sl.r_14 c arg2 arg3 arg4 arg6 arg7 arg12 k0_t1 h1 f2 f3 f4 f6 f7 f12 (ix2 j x)
    = dM K V Q L D DT 1 (256 * k0_t1.val + j.val) (256 * k0_t1.val + x.val) := by
  unfold tripC.sl.r_14 tripC.sl.r_6 tripC.sl.r_12 tripC.sl.r_13 tripC.sl.r tripC.sl.r_1 tripC.sl.arg15
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o38_0, o38_1, o40_0, o40_1, o40_2, o44_0, o44_1, o44_2, o44_3, o45_0, o45_1, o45_2]
  rw [dM, pM, pF]
  split_ifs <;> first | rfl | exact (zero_mul _).symm

include hK hQ hL in
theorem cp20 (j x : Fin 256) : tripC.sl.r_20 c arg2 arg3 arg7 k0_t1 h1 f2 f3 f7 (ix2 j x)
    = pM K Q L 2 (256 * k0_t1.val + j.val) (256 * k0_t1.val + x.val) := by
  unfold tripC.sl.r_20 tripC.sl.r_1 tripC.sl.r_10 tripC.sl.arg15 tripC.sl.r
  unfold_payloads
  pointwise
  simp only [readAt2_bf16, readAt2_f32, readAt3_bf16, readAt3_f32, readAt4_f32, Fin.val_zero, Nat.add_zero, Nat.zero_add, hK, hQ, hL, sel_le,
    o1_0, o1_1, o38_0, o38_1, o50_0, o50_1, o50_2, o50_3]
  rw [pM, pF]
  rfl

include hK hV hQ hL hD hDT in
theorem cd20 (j x : Fin 256) : tripC.sl.r_19 c arg2 arg3 arg4 arg6 arg7 arg12 k0_t1 h1 f2 f3 f4 f6 f7 f12 (ix2 j x)
    = dM K V Q L D DT 2 (256 * k0_t1.val + j.val) (256 * k0_t1.val + x.val) := by
  unfold tripC.sl.r_19 tripC.sl.r_1 tripC.sl.r_10 tripC.sl.r_11 tripC.sl.arg15 tripC.sl.r
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o38_0, o38_1, o43_0, o43_1, o43_2, o50_0, o50_1, o50_2, o50_3, o51_0, o51_1, o51_2]
  rw [dM, pM, pF]
  split_ifs <;> first | rfl | exact (zero_mul _).symm

include hK hQ hL in
theorem cp30 (j x : Fin 256) : tripC.sl.r_23 c arg2 arg3 arg7 k0_t1 h1 f2 f3 f7 (ix2 j x)
    = pM K Q L 3 (256 * k0_t1.val + j.val) (256 * k0_t1.val + x.val) := by
  unfold tripC.sl.r_23 tripC.sl.r_1 tripC.sl.r_17 tripC.sl.arg15 tripC.sl.r
  unfold_payloads
  pointwise
  simp only [readAt2_bf16, readAt2_f32, readAt3_bf16, readAt3_f32, readAt4_f32, Fin.val_zero, Nat.add_zero, Nat.zero_add, hK, hQ, hL, sel_le,
    o1_0, o1_1, o38_0, o38_1, o55_0, o55_1, o55_2, o55_3]
  rw [pM, pF]
  rfl

include hK hV hQ hL hD hDT in
theorem cd30 (j x : Fin 256) : tripC.sl.r_22 c arg2 arg3 arg4 arg6 arg7 arg12 k0_t1 h1 f2 f3 f4 f6 f7 f12 (ix2 j x)
    = dM K V Q L D DT 3 (256 * k0_t1.val + j.val) (256 * k0_t1.val + x.val) := by
  unfold tripC.sl.r_22 tripC.sl.r_1 tripC.sl.r_17 tripC.sl.r_18 tripC.sl.arg15 tripC.sl.r
  unfold_payloads
  pointwise
  simp only [readAt2_bf16, readAt2_f32, readAt3_bf16, readAt3_f32, readAt4_f32, Fin.val_zero, Nat.add_zero, Nat.zero_add, hK, hV, hQ, hL, hD, hDT, sel_le,
    o1_0, o1_1, o2_0, o2_1, o38_0, o38_1, o49_0, o49_1, o49_2, o55_0, o55_1, o55_2, o55_3, o56_0, o56_1, o56_2]
  rw [dM, pM, pF]
  split_ifs <;> first | rfl | exact (zero_mul _).symm

include hK in
theorem cK (j : Fin 256) (l : Fin 512) : tripC.sl.r_25 c arg3 k0_t1 f3 (ix2 j l) = K (256 * k0_t1.val + j.val) l.val := by
  unfold tripC.sl.r_25; simp only [readAt2_bf16, readAt2_f32, readAt3_bf16, readAt3_f32, readAt4_f32, Fin.val_zero, Nat.add_zero, Nat.zero_add, hK, o1_0, o1_1]
include hV in
theorem cV (j : Fin 256) (l : Fin 256) : tripC.sl.r_26 c arg4 k0_t1 f4 (ix2 j l) = V (256 * k0_t1.val + j.val) l.val := by
  unfold tripC.sl.r_26; simp only [readAt2_bf16, readAt2_f32, readAt3_bf16, readAt3_f32, readAt4_f32, Fin.val_zero, Nat.add_zero, Nat.zero_add, hV, o2_0, o2_1]
include hKT in
theorem cT (r : Fin 512) (j : Fin 256) : tripC.sl.r_27 c arg11 k0_t1 f11 (ix2 r j) = KT r.val (256 * k0_t1.val + j.val) := by
  unfold tripC.sl.r_27; simp only [readAt2_bf16, readAt2_f32, readAt3_bf16, readAt3_f32, readAt4_f32, Fin.val_zero, Nat.add_zero, Nat.zero_add, hKT, o3_0, o3_1]

theorem cz9_1 (f : arg9.view.ty.Contents (Elt Ideal)) (r l : ℕ) (hr : 256 * k0_t1.val ≤ r) (hr2 : r < 256 * k0_t1.val + 256) (hl : 0 ≤ l) (hl2 : l < 512) :
    n2 (arg9.view.read (Elt Ideal) (arg9.view.writes (Elt Ideal) f (tripC.sl.H9_1 k0_t1))) r l = 0 := by
  unfold tripC.sl.H9_1
  rw [writesG2_f32 _ _ _ _ _ _ (fun _ _ => 0) ?h, if_pos (by simp only [o1_0, o1_1]; omega)]
  case h =>
    intros
    unfold_payloads
    pointwise

theorem cz9_2 (f : arg9.view.ty.Contents (Elt Ideal)) (r l : ℕ) (hr : 256 * k0_t1.val ≤ r) (hr2 : r < 256 * k0_t1.val + 256) (hl : 128 ≤ l) (hl2 : l < 512) :
    n2 (arg9.view.read (Elt Ideal) (arg9.view.writes (Elt Ideal) f (tripC.sl.H9_2 c arg2 arg3 arg4 arg6 arg7 arg9 arg12 k0_t1 h1 f2 f3 f4 f6 f7 f12))) r l = 0 := by
  unfold tripC.sl.H9_2
  rw [writes2_f32, if_neg (by simp only [o47_0, o47_1]; omega)]
  apply cz9_1 <;> omega

theorem cz9_3 (f : arg9.view.ty.Contents (Elt Ideal)) (r l : ℕ) (hr : 256 * k0_t1.val ≤ r) (hr2 : r < 256 * k0_t1.val + 256) (hl : 256 ≤ l) (hl2 : l < 512) :
    n2 (arg9.view.read (Elt Ideal) (arg9.view.writes (Elt Ideal) f (tripC.sl.H9_3 c arg2 arg3 arg4 arg6 arg7 arg9 arg12 k0_t1 h1 f2 f3 f4 f6 f7 f12))) r l = 0 := by
  unfold tripC.sl.H9_3
  rw [writes2_f32, if_neg (by simp only [o53_0, o53_1]; omega)]
  apply cz9_2 <;> omega

theorem cz9_4 (f : arg9.view.ty.Contents (Elt Ideal)) (r l : ℕ) (hr : 256 * k0_t1.val ≤ r) (hr2 : r < 256 * k0_t1.val + 256) (hl : 384 ≤ l) (hl2 : l < 512) :
    n2 (arg9.view.read (Elt Ideal) (arg9.view.writes (Elt Ideal) f (tripC.sl.H9_4 c arg2 arg3 arg4 arg6 arg7 arg9 arg12 k0_t1 h1 f2 f3 f4 f6 f7 f12))) r l = 0 := by
  unfold tripC.sl.H9_4
  rw [writes2_f32, if_neg (by simp only [o58_0, o58_1]; omega)]
  apply cz9_3 <;> omega

theorem cz14_1 (f : arg14.view.ty.Contents (Elt Ideal)) (s r l : ℕ) (hs : s = k0_t1.val % 2) (hr : 0 ≤ r) (hr2 : r < 256) (hl : l < 256) :
    n3 (arg14.view.read (Elt Ideal) (arg14.view.writes (Elt Ideal) f (tripC.sl.H14_1 k0_t1))) s r l = 0 := by
  unfold tripC.sl.H14_1
  rw [writesG3_f32 _ _ _ _ _ _ (fun _ _ _ => 0) ?h, if_pos (by simp only [o4_0, o4_1, o4_2]; omega)]
  case h =>
    intros
    unfold_payloads
    pointwise

theorem cz14_2 (f : arg14.view.ty.Contents (Elt Ideal)) (s r l : ℕ) (hs : s = k0_t1.val % 2) (hr : 64 ≤ r) (hr2 : r < 256) (hl : l < 256) :
    n3 (arg14.view.read (Elt Ideal) (arg14.view.writes (Elt Ideal) f (tripC.sl.H14_2 c arg2 arg3 arg7 arg12 arg14 k0_t1 h1 f2 f3 f7 f12))) s r l = 0 := by
  unfold tripC.sl.H14_2
  rw [writes3_f32, if_neg (by simp only [o46_0, o46_1, o46_2]; omega)]
  apply cz14_1 <;> omega

theorem cz14_3 (f : arg14.view.ty.Contents (Elt Ideal)) (s r l : ℕ) (hs : s = k0_t1.val % 2) (hr : 128 ≤ r) (hr2 : r < 256) (hl : l < 256) :
    n3 (arg14.view.read (Elt Ideal) (arg14.view.writes (Elt Ideal) f (tripC.sl.H14_3 c arg2 arg3 arg7 arg12 arg14 k0_t1 h1 f2 f3 f7 f12))) s r l = 0 := by
  unfold tripC.sl.H14_3
  rw [writes3_f32, if_neg (by simp only [o52_0, o52_1, o52_2]; omega)]
  apply cz14_2 <;> omega

theorem cz14_4 (f : arg14.view.ty.Contents (Elt Ideal)) (s r l : ℕ) (hs : s = k0_t1.val % 2) (hr : 192 ≤ r) (hr2 : r < 256) (hl : l < 256) :
    n3 (arg14.view.read (Elt Ideal) (arg14.view.writes (Elt Ideal) f (tripC.sl.H14_4 c arg2 arg3 arg7 arg12 arg14 k0_t1 h1 f2 f3 f7 f12))) s r l = 0 := by
  unfold tripC.sl.H14_4
  rw [writes3_f32, if_neg (by simp only [o57_0, o57_1, o57_2]; omega)]
  apply cz14_3 <;> omega

theorem cf (s r l : ℕ) (hs : s = 1 - k0_t1.val % 2) :
    n3 (arg14.view.read (Elt Ideal) (arg14.view.writes (Elt Ideal) f14 (tripC.sl.H14_1 k0_t1))) s r l
      = n3 (arg14.view.read (Elt Ideal) f14) s r l := by
  unfold tripC.sl.H14_1
  rw [writes3_f32, if_neg (by simp only [o4_0, o4_1, o4_2]; omega), View.writes_nil]

theorem c10 (r l : ℕ) : n2 (arg10.view.read (Elt Ideal) (tripC c i arg2 harg2 arg3 harg3 arg4 harg4 arg5 harg5 arg6 harg6 arg7 harg7 arg8 harg8 arg9 harg9 arg10 harg10 arg11 harg11 arg12 harg12 arg13 harg13 arg14 harg14 v9 v481 v486 k0_t1 h1 h2 f2 f3 f4 f6 f7 f11 f12 f9 f10 f13 f14).2.1) r l
    = if (256 * (k0_t1.val - 1) ≤ r ∧ r < 256 * (k0_t1.val - 1) + 256) ∧ l < 256 then n3 (arg14.view.read (Elt Ideal) f14) (1 - k0_t1.val % 2) l (r - 256 * (k0_t1.val - 1))
      else n2 (arg10.view.read (Elt Ideal) f10) r l := by
  unfold tripC
  dsimp only
  rw [writesG2_f32 _ _ _ _ _ _ (fun r l => n3 (arg14.view.read (Elt Ideal) f14) (1 - k0_t1.val % 2) l (r - 256 * (k0_t1.val - 1))) ?h0, writesG2_f32 _ _ _ _ _ _ (fun r l => n3 (arg14.view.read (Elt Ideal) f14) (1 - k0_t1.val % 2) l (r - 256 * (k0_t1.val - 1))) ?h1]
  · simp only [View.writes_nil, o35_0, o35_1, o37_0, o37_1]
    split_ifs <;> first | rfl | omega
  case h0 =>
    intro a b
    skip
    unfold_payloads
    pointwise
    simp (disch := omega) only [cf c, readAt2_bf16, readAt2_f32, readAt3_bf16, readAt3_f32, readAt4_f32, Fin.val_zero, Nat.add_zero, Nat.zero_add, Nat.add_sub_cancel_left, o36_0, o36_1, o36_2, o37_0, o37_1]
  case h1 =>
    intro a b
    skip
    unfold_payloads
    pointwise
    simp (disch := omega) only [cf c, readAt2_bf16, readAt2_f32, readAt3_bf16, readAt3_f32, readAt4_f32, Fin.val_zero, Nat.add_zero, Nat.zero_add, Nat.add_sub_cancel_left, o34_0, o34_1, o34_2, o35_0, o35_1]

set_option maxHeartbeats 0 in
include hK hV hKT hQ hL hD hDT hk in
theorem c9 (r l : ℕ) : n2 (arg9.view.read (Elt Ideal) (tripC c i arg2 harg2 arg3 harg3 arg4 harg4 arg5 harg5 arg6 harg6 arg7 harg7 arg8 harg8 arg9 harg9 arg10 harg10 arg11 harg11 arg12 harg12 arg13 harg13 arg14 harg14 v9 v481 v486 k0_t1 h1 h2 f2 f3 f4 f6 f7 f11 f12 f9 f10 f13 f14).1) r l
    = if (256 * k0_t1.val ≤ r ∧ r < 256 * k0_t1.val + 256) ∧ l < 512 then (tK K V Q L D DT k0_t1.val r l) + ∑ t ∈ Finset.range (k0_t2_loop k0_t1).trips, (tK K V Q L D DT (k0_t1.val + 2 * (1 + t)) r l + tK K V Q L D DT (k0_t1.val + 2 * (1 + t) + 1) r l) else n2 (arg9.view.read (Elt Ideal) f9) r l := by
  unfold tripC
  dsimp only [↓trips2_def]
  rw [s9_eq, loop9 (hK := cK c arg3 k0_t1 f3 hK) (hV := cV c arg4 k0_t1 f4 hV) (hKT := cT c arg11 k0_t1 f11 hKT) (hQ := hQ) (hL := hL) (hD := hD) (hDT := hDT) (hn := le_refl _)]
  unfold tripC.sl.H9_4 tripC.sl.H9_3 tripC.sl.H9_2 tripC.sl.H9_1
  rw [wG2 _ _ _ _ _ _ (fun r l => tK K V Q L D DT k0_t1.val r l) ?h0, writesG2_f32 _ _ _ _ _ _ (fun r l => tK K V Q L D DT k0_t1.val r l) ?h1, writesG2_f32 _ _ _ _ _ _ (fun r l => tK K V Q L D DT k0_t1.val r l) ?h2, writesG2_f32 _ _ _ _ _ _ (fun r l => tK K V Q L D DT k0_t1.val r l) ?h3, writesG2_f32 _ _ _ _ _ _ (fun _ _ => 0) ?hz]
  · simp only [View.writes_nil, o61_0, o61_1, o58_0, o58_1, o53_0, o53_1, o47_0, o47_1, o1_0, o1_1]
    have hz := hk
    split_ifs <;> first | rfl | omega
  case h0 =>
    intro a b
    have e1 : (384 + b.val) / 128 = 3 := by omega
    unfold tripC.sl.r tripC.sl.v904
    unfold_payloads
    pointwise
    simp (disch := omega) only [cd30 (hK := hK) (hV := hV) (hQ := hQ) (hL := hL) (hD := hD) (hDT := hDT), cz9_4, readAt2_bf16, readAt2_f32, readAt3_bf16, readAt3_f32, readAt4_f32, readCov2_f32, readCov3_f32, zero_add, Fin.val_zero, Nat.add_zero, Nat.zero_add, hKT, hQ, hDT, o38_0, o38_1, o61_0, o61_1, tK, e1]
  case h1 =>
    intro a b
    have e1 : (256 + b.val) / 128 = 2 := by omega
    unfold tripC.sl.r tripC.sl.v877
    unfold_payloads
    pointwise
    simp (disch := omega) only [cd20 (hK := hK) (hV := hV) (hQ := hQ) (hL := hL) (hD := hD) (hDT := hDT), cz9_3, readAt2_bf16, readAt2_f32, readAt3_bf16, readAt3_f32, readAt4_f32, readCov2_f32, readCov3_f32, zero_add, Fin.val_zero, Nat.add_zero, Nat.zero_add, hKT, hQ, hDT, o38_0, o38_1, o58_0, o58_1, tK, e1]
  case h2 =>
    intro a b
    have e1 : (128 + b.val) / 128 = 1 := by omega
    unfold tripC.sl.r tripC.sl.v834
    unfold_payloads
    pointwise
    simp (disch := omega) only [cd10 (hK := hK) (hV := hV) (hQ := hQ) (hL := hL) (hD := hD) (hDT := hDT), cz9_2, readAt2_bf16, readAt2_f32, readAt3_bf16, readAt3_f32, readAt4_f32, readCov2_f32, readCov3_f32, zero_add, Fin.val_zero, Nat.add_zero, Nat.zero_add, hKT, hQ, hDT, o38_0, o38_1, o53_0, o53_1, tK, e1]
  case h3 =>
    intro a b
    have e1 : b.val / 128 = 0 := by omega
    unfold tripC.sl.r tripC.sl.v783
    unfold_payloads
    pointwise
    simp (disch := omega) only [cd00 (hK := hK) (hV := hV) (hQ := hQ) (hL := hL) (hD := hD) (hDT := hDT), cz9_1, readAt2_bf16, readAt2_f32, readAt3_bf16, readAt3_f32, readAt4_f32, readCov2_f32, readCov3_f32, zero_add, Fin.val_zero, Nat.add_zero, Nat.zero_add, hKT, hQ, hDT, o38_0, o38_1, o47_0, o47_1, tK, e1]
  case hz =>
    intros
    unfold_payloads
    pointwise

set_option maxHeartbeats 0 in
include hK hV hKT hQ hL hD hDT hk in
theorem c13 (r l : ℕ) : n2 (arg13.view.read (Elt Ideal) (tripC c i arg2 harg2 arg3 harg3 arg4 harg4 arg5 harg5 arg6 harg6 arg7 harg7 arg8 harg8 arg9 harg9 arg10 harg10 arg11 harg11 arg12 harg12 arg13 harg13 arg14 harg14 v9 v481 v486 k0_t1 h1 h2 f2 f3 f4 f6 f7 f11 f12 f9 f10 f13 f14).2.2.1) r l
    = if r < 512 ∧ (256 * k0_t1.val ≤ l ∧ l < 256 * (k0_t1.val + 1 + 2 * (k0_t2_loop k0_t1).trips)) then n2 (arg13.view.read (Elt Ideal) f13) r l + tQ K V Q KT L D DT k0_t1.val r l else n2 (arg13.view.read (Elt Ideal) f13) r l := by
  unfold tripC
  dsimp only [↓trips2_def]
  rw [s13_eq, loop13 (hK := cK c arg3 k0_t1 f3 hK) (hV := cV c arg4 k0_t1 f4 hV) (hKT := cT c arg11 k0_t1 f11 hKT) (hQ := hQ) (hL := hL) (hD := hD) (hDT := hDT) (hn := le_refl _)]
  rw [wG2 _ _ _ _ _ _ (fun r l => n2 (arg13.view.read (Elt Ideal) f13) r l + tQ K V Q KT L D DT k0_t1.val r l) ?h0, writesG2_f32 _ _ _ _ _ _ (fun r l => n2 (arg13.view.read (Elt Ideal) f13) r l + tQ K V Q KT L D DT k0_t1.val r l) ?h1, writesG2_f32 _ _ _ _ _ _ (fun r l => n2 (arg13.view.read (Elt Ideal) f13) r l + tQ K V Q KT L D DT k0_t1.val r l) ?h2, writesG2_f32 _ _ _ _ _ _ (fun r l => n2 (arg13.view.read (Elt Ideal) f13) r l + tQ K V Q KT L D DT k0_t1.val r l) ?h3]
  · simp only [View.writes_nil, o62_0, o62_1, o59_0, o59_1, o54_0, o54_1, o48_0, o48_1]
    have hz := hk
    split_ifs <;> first | rfl | omega
  case h0 =>
    intro a b
    have e1 : (384 + a.val) / 128 = 3 := by omega
    unfold tripC.sl.v911
    unfold_payloads
    pointwise
    simp (disch := omega) only [cd30 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o62_0, o62_1, tQ, e1]
  case h1 =>
    intro a b
    have e1 : (256 + a.val) / 128 = 2 := by omega
    unfold tripC.sl.r_24 tripC.sl.v884
    unfold_payloads
    pointwise
    simp (disch := omega) only [cd20 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o59_0, o59_1, tQ, e1]
  case h2 =>
    intro a b
    have e1 : (128 + a.val) / 128 = 1 := by omega
    unfold tripC.sl.r_21 tripC.sl.v841
    unfold_payloads
    pointwise
    simp (disch := omega) only [cd10 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o54_0, o54_1, tQ, e1]
  case h3 =>
    intro a b
    have e1 : a.val / 128 = 0 := by omega
    skip
    unfold_payloads
    pointwise
    simp (disch := omega) only [cd00 (hK := hK) (hV := hV) (hQ := hQ) (hL := hL) (hD := hD) (hDT := hDT), readAt2_bf16, readAt2_f32, readAt3_bf16, readAt3_f32, readAt4_f32, readCov2_f32, readCov3_f32, zero_add, Fin.val_zero, Nat.add_zero, Nat.zero_add, hKT, hQ, hDT, o3_0, o3_1, o48_0, o48_1, tQ, e1]

set_option maxHeartbeats 0 in
include hK hV hKT hQ hL hD hDT hk in
theorem c14 (s r l : ℕ) : n3 (arg14.view.read (Elt Ideal) (tripC c i arg2 harg2 arg3 harg3 arg4 harg4 arg5 harg5 arg6 harg6 arg7 harg7 arg8 harg8 arg9 harg9 arg10 harg10 arg11 harg11 arg12 harg12 arg13 harg13 arg14 harg14 v9 v481 v486 k0_t1 h1 h2 f2 f3 f4 f6 f7 f11 f12 f9 f10 f13 f14).2.2.2.1) s r l
    = if s = k0_t1.val % 2 ∧ r < 256 ∧ l < 256 then (tV K Q L DT k0_t1.val k0_t1.val r l) + ∑ t ∈ Finset.range (k0_t2_loop k0_t1).trips, (tV K Q L DT k0_t1.val (k0_t1.val + 2 * (1 + t)) r l + tV K Q L DT k0_t1.val (k0_t1.val + 2 * (1 + t) + 1) r l) else n3 (arg14.view.read (Elt Ideal) f14) s r l := by
  unfold tripC
  dsimp only [↓trips2_def]
  rw [s14_eq, loop14 (hK := cK c arg3 k0_t1 f3 hK) (hV := cV c arg4 k0_t1 f4 hV) (hKT := cT c arg11 k0_t1 f11 hKT) (hQ := hQ) (hL := hL) (hD := hD) (hDT := hDT) (hn := le_refl _)]
  unfold tripC.sl.H14_4 tripC.sl.H14_3 tripC.sl.H14_2 tripC.sl.H14_1
  rw [wG3 _ _ _ _ _ _ (fun s r l => tV K Q L DT k0_t1.val k0_t1.val r l) ?h0, writesG3_f32 _ _ _ _ _ _ (fun s r l => tV K Q L DT k0_t1.val k0_t1.val r l) ?h1, writesG3_f32 _ _ _ _ _ _ (fun s r l => tV K Q L DT k0_t1.val k0_t1.val r l) ?h2, writesG3_f32 _ _ _ _ _ _ (fun s r l => tV K Q L DT k0_t1.val k0_t1.val r l) ?h3, writesG3_f32 _ _ _ _ _ _ (fun _ _ _ => 0) ?hz]
  · simp only [View.writes_nil, o60_0, o60_1, o60_2, o57_0, o57_1, o57_2, o52_0, o52_1, o52_2, o46_0, o46_1, o46_2, o4_0, o4_1, o4_2]
    have hz := hk
    split_ifs <;> first | rfl | omega
  case h0 =>
    intro a b d
    have e1 : (192 + b.val) / 64 = 3 := by omega
    have e2 : (192 + b.val) % 128 = 64 + b.val := by omega
    unfold tripC.sl.r_16 tripC.sl.v895
    unfold_payloads
    pointwise
    simp (disch := omega) only [cp30 (hK := hK) (hQ := hQ) (hL := hL), cz14_4, readAt2_bf16, readAt2_f32, readAt3_bf16, readAt3_f32, readAt4_f32, readCov2_f32, readCov3_f32, zero_add, Fin.val_zero, Nat.add_zero, Nat.zero_add, hKT, hQ, hDT, o49_0, o49_1, o49_2, o60_0, o60_1, o60_2, tV, e1, e2]
  case h1 =>
    intro a b d
    have e1 : (128 + b.val) / 64 = 2 := by omega
    have e2 : (128 + b.val) % 128 = b.val := by omega
    unfold tripC.sl.r_9 tripC.sl.v868
    unfold_payloads
    pointwise
    simp (disch := omega) only [cp20 (hK := hK) (hQ := hQ) (hL := hL), cz14_3, readAt2_bf16, readAt2_f32, readAt3_bf16, readAt3_f32, readAt4_f32, readCov2_f32, readCov3_f32, zero_add, Fin.val_zero, Nat.add_zero, Nat.zero_add, hKT, hQ, hDT, o43_0, o43_1, o43_2, o57_0, o57_1, o57_2, tV, e1, e2]
  case h2 =>
    intro a b d
    have e1 : (64 + b.val) / 64 = 1 := by omega
    have e2 : (64 + b.val) % 128 = 64 + b.val := by omega
    unfold tripC.sl.r_5 tripC.sl.v825
    unfold_payloads
    pointwise
    simp (disch := omega) only [cp10 (hK := hK) (hQ := hQ) (hL := hL), cz14_2, readAt2_bf16, readAt2_f32, readAt3_bf16, readAt3_f32, readAt4_f32, readCov2_f32, readCov3_f32, zero_add, Fin.val_zero, Nat.add_zero, Nat.zero_add, hKT, hQ, hDT, o40_0, o40_1, o40_2, o52_0, o52_1, o52_2, tV, e1, e2]
  case h3 =>
    intro a b d
    have e1 : b.val / 64 = 0 := by omega
    have e2 : b.val % 128 = b.val := by omega
    unfold tripC.sl.r_2 tripC.sl.v774
    unfold_payloads
    pointwise
    simp (disch := omega) only [cp00 (hK := hK) (hQ := hQ) (hL := hL), cz14_1, readAt2_bf16, readAt2_f32, readAt3_bf16, readAt3_f32, readAt4_f32, readCov2_f32, readCov3_f32, zero_add, Fin.val_zero, Nat.add_zero, Nat.zero_add, hKT, hQ, hDT, o39_0, o39_1, o39_2, o46_0, o46_1, o46_2, tV, e1, e2]
  case hz =>
    intros
    unfold_payloads
    pointwise

end

end Cert.Proof.Mla

end
-- ==== Proof.Step.lean ====
/- One key tile and all of them: the gradients the loop leaves, at an index. -/
module

public import proofs.«01_k».proof.Proof.ValA
public import proofs.«01_k».proof.Proof.ValB
public import proofs.«01_k».proof.Proof.ValC
public import proofs.«01_k».proof.Proof.Body

@[expose] public section

set_option maxRecDepth 16384

noncomputable section

namespace Cert.Proof.Mla

open Cert.KernelIdeal Cert.KernelIdeal.Gen
open Idealize.ShloMosaic Idealize.ShloMosaic.TcCoe Idealize.ShloMosaic.Tactic

section
variable (K V Q KT L D : ℕ → ℕ → EReal) (DT : ℕ → ℕ → ℕ → EReal)

/-- The key gradient's entry `(r, l)` of key tile `k`: every query tile from the diagonal on. -/
def sK (k r l : ℕ) : EReal := ∑ x ∈ Finset.range (8 - k), tK K V Q L D DT (k + x) r l
/-- The transposed value gradient's entry `(r, l)` of key tile `k`. -/
def sV (k r l : ℕ) : EReal := ∑ x ∈ Finset.range (8 - k), tV K Q L DT k (k + x) r l
end

theorem sumB (f : ℕ → EReal) (k N : ℕ) (hk : k < 7) (h2 : ¬ k % 2 = 1) (hN : N = (8 - k) / 2 - 1) :
    (f k + f (k + 1)) + ∑ t ∈ Finset.range N, (f (k + 2 * (1 + t)) + f (k + 2 * (1 + t) + 1)) = ∑ x ∈ Finset.range (8 - k), f (k + x) := by
  subst hN
  interval_cases k <;> first | omega | (simp [Finset.sum_range_succ]; try abel)
theorem sumA (f : ℕ → EReal) (k N : ℕ) (hk : k < 7) (h2 : k % 2 = 1) (hN : N = (8 - k) / 2 - 1) :
    (f k + f (k + 1)) + ∑ t ∈ Finset.range N, (f (k + 2 * (1 + t)) + f (k + 2 * (1 + t) + 1)) + f 7 = ∑ x ∈ Finset.range (8 - k), f (k + x) := by
  subst hN
  interval_cases k <;> first | omega | (simp [Finset.sum_range_succ]; try abel)
theorem sumC (f : ℕ → EReal) (k N : ℕ) (hk : k = 7) (hN : N = (8 - k) / 2 - 1) :
    f k + ∑ t ∈ Finset.range N, (f (k + 2 * (1 + t)) + f (k + 2 * (1 + t) + 1)) = ∑ x ∈ Finset.range (8 - k), f (k + x) := by
  subst hN; subst hk
  simp

section
variable (c : Dev nD) (i : grid0.Coords)
  (arg2 : Memref sig .tc .vmem S2048x512 .bf16) (harg2 : arg2.IsWhole)
  (arg3 : Memref sig .tc .vmem S2048x512 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S1x4x2048 .f32) (harg6 : arg6.IsWhole)
  (arg7 : Memref sig .tc .vmem S1x1x4x2048 .f32) (harg7 : arg7.IsWhole)
  (arg8 : Memref sig .tc .vmem S2048x512 .f32) (harg8 : arg8.IsWhole)
  (arg9 : Memref sig .tc .vmem S2048x512 .f32) (harg9 : arg9.IsWhole)
  (arg10 : Memref sig .tc .vmem S2048x256 .f32) (harg10 : arg10.IsWhole)
  (arg11 : Memref sig .tc .vmem S512x2048 .bf16) (harg11 : arg11.IsWhole)
  (arg12 : Memref sig .tc .vmem S4x128x2048 .bf16) (harg12 : arg12.IsWhole)
  (arg13 : Memref sig .tc .vmem S512x2048 .f32) (harg13 : arg13.IsWhole)
  (arg14 : Memref sig .tc .vmem S2x256x256 .f32) (harg14 : arg14.IsWhole)
  (v9 : IVec S128x1 1) (v481 : FVec Ideal S128x256 .f32) (v486 : FVec Ideal S128x256 .bf16)
  (f2 : Buf (Elt Ideal) (arg2.view.loc (c : Thread nD τ)))
  (f3 : Buf (Elt Ideal) (arg3.view.loc (c : Thread nD τ)))
  (f4 : Buf (Elt Ideal) (arg4.view.loc (c : Thread nD τ)))
  (f6 : Buf (Elt Ideal) (arg6.view.loc (c : Thread nD τ)))
  (f7 : Buf (Elt Ideal) (arg7.view.loc (c : Thread nD τ)))
  (f11 : Buf (Elt Ideal) (arg11.view.loc (c : Thread nD τ)))
  (f12 : Buf (Elt Ideal) (arg12.view.loc (c : Thread nD τ)))
  {K V Q KT L D : ℕ → ℕ → EReal} {DT : ℕ → ℕ → ℕ → EReal}
  (hK : n2 (arg3.view.read (Elt Ideal) f3) = K) (hV : n2 (arg4.view.read (Elt Ideal) f4) = V)
  (hKT : n2 (arg11.view.read (Elt Ideal) f11) = KT)
  (hQ : n2 (arg2.view.read (Elt Ideal) f2) = Q) (hL : n4 (arg7.view.read (Elt Ideal) f7) 0 0 = L)
  (hD : n3 (arg6.view.read (Elt Ideal) f6) 0 = D) (hDT : n3 (arg12.view.read (Elt Ideal) f12) = DT)

section
variable (k : Fin k0_t1_loop.trips) (s : Buf (Elt Ideal) (arg9.view.loc (c : Thread nD τ)) × Buf (Elt Ideal) (arg10.view.loc (c : Thread nD τ)) × Buf (Elt Ideal) (arg13.view.loc (c : Thread nD τ)) × Buf (Elt Ideal) (arg14.view.loc (c : Thread nD τ)))

theorem k_cases : (∃ h1 : k0_cond1 k = 1#1, ∃ h2 : k0_cond2 k = 1#1, k.val < 7 ∧ k.val % 2 = 1) ∨ (∃ h1 : k0_cond1 k = 1#1, ∃ h2 : ¬ k0_cond2 k = 1#1, k.val < 7 ∧ ¬ k.val % 2 = 1) ∨ (∃ h1 : ¬ k0_cond1 k = 1#1, ∃ h2 : ¬ k0_cond2 k = 1#1, k.val = 7) := by
  have h : k.val < 8 := lt_of_lt_of_eq k.isLt trips1
  by_cases h1 : k0_cond1 k = 1#1
  · have e1 := (cond1 k).mp h1
    by_cases h2 : k0_cond2 k = 1#1
    · exact .inl ⟨h1, h2, e1, ((cond2 k).mp h2).1⟩
    · exact .inr (.inl ⟨h1, h2, e1, fun e => h2 ((cond2 k).mpr ⟨e, e1⟩)⟩)
  · refine .inr (.inr ⟨h1, no_cond k h1, ?_⟩)
    have e1 : ¬ k.val < 7 := fun e => h1 ((cond1 k).mpr e)
    omega

/-- A step of the outer loop, by the kind of its query tile. -/
theorem step1_A (h1 : k0_cond1 k = 1#1) (h2 : k0_cond2 k = 1#1) : step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s = (let t := tripA c i arg2 harg2 arg3 harg3 arg4 harg4 arg5 harg5 arg6 harg6 arg7 harg7 arg8 harg8 arg9 harg9 arg10 harg10 arg11 harg11 arg12 harg12 arg13 harg13 arg14 harg14 v9 v481 v486 k h1 h2 f2 f3 f4 f6 f7 f11 f12 s.1 s.2.1 s.2.2.1 s.2.2.2; (t.1, t.2.1, t.2.2.1, t.2.2.2.1)) := by
  rw [step1, dif_pos h1, dif_pos h2]
theorem step1_B (h1 : k0_cond1 k = 1#1) (h2 : ¬ k0_cond2 k = 1#1) : step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s = (let t := tripB c i arg2 harg2 arg3 harg3 arg4 harg4 arg5 harg5 arg6 harg6 arg7 harg7 arg8 harg8 arg9 harg9 arg10 harg10 arg11 harg11 arg12 harg12 arg13 harg13 arg14 harg14 v9 v481 v486 k h1 h2 f2 f3 f4 f6 f7 f11 f12 s.1 s.2.1 s.2.2.1 s.2.2.2; (t.1, t.2.1, t.2.2.1, t.2.2.2.1)) := by
  rw [step1, dif_pos h1, dif_neg h2]
theorem step1_C (h1 : ¬ k0_cond1 k = 1#1) (h2 : ¬ k0_cond2 k = 1#1) : step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s = (let t := tripC c i arg2 harg2 arg3 harg3 arg4 harg4 arg5 harg5 arg6 harg6 arg7 harg7 arg8 harg8 arg9 harg9 arg10 harg10 arg11 harg11 arg12 harg12 arg13 harg13 arg14 harg14 v9 v481 v486 k h1 h2 f2 f3 f4 f6 f7 f11 f12 s.1 s.2.1 s.2.2.1 s.2.2.2; (t.1, t.2.1, t.2.2.1, t.2.2.2.1)) := by
  rw [step1, dif_neg h1, dif_neg h2]

include hD hDT hK hKT hL hQ hV in
theorem step9 (r l : ℕ) : n2 (arg9.view.read (Elt Ideal) (step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s).1) r l
    = if (256 * k.val ≤ r ∧ r < 256 * k.val + 256) ∧ l < 512 then sK K V Q L D DT k.val r l else n2 (arg9.view.read (Elt Ideal) s.1) r l := by
  have ht := trips2 k
  rcases k_cases k with ⟨h1, h2, e1, e2⟩ | ⟨h1, h2, e1, e2⟩ | ⟨h1, h2, e1⟩
  · rw [step1_A (h1 := h1) (h2 := h2)]
    refine (a9 (hK := hK) (hV := hV) (hKT := hKT) (hQ := hQ) (hL := hL) (hD := hD) (hDT := hDT) (hk := by omega) (r := r) (l := l) ..).trans ?_
    rw [sumA (fun q => tK K V Q L D DT q r l) _ _ e1 e2 ht]
    rfl
  · rw [step1_B (h1 := h1) (h2 := h2)]
    refine (b9 (hK := hK) (hV := hV) (hKT := hKT) (hQ := hQ) (hL := hL) (hD := hD) (hDT := hDT) (r := r) (l := l) ..).trans ?_
    rw [sumB (fun q => tK K V Q L D DT q r l) _ _ e1 e2 ht]
    rfl
  · rw [step1_C (h1 := h1) (h2 := h2)]
    refine (c9 (hK := hK) (hV := hV) (hKT := hKT) (hQ := hQ) (hL := hL) (hD := hD) (hDT := hDT) (hk := by omega) (r := r) (l := l) ..).trans ?_
    rw [sumC (fun q => tK K V Q L D DT q r l) _ _ e1 ht]
    rfl

include hD hDT hK hKT hL hQ hV in
theorem step13 (r l : ℕ) : n2 (arg13.view.read (Elt Ideal) (step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s).2.2.1) r l
    = if r < 512 ∧ (256 * k.val ≤ l ∧ l < 2048) then n2 (arg13.view.read (Elt Ideal) s.2.2.1) r l + tQ K V Q KT L D DT k.val r l else n2 (arg13.view.read (Elt Ideal) s.2.2.1) r l := by
  have ht := trips2 k
  rcases k_cases k with ⟨h1, h2, e1, e2⟩ | ⟨h1, h2, e1, e2⟩ | ⟨h1, h2, e1⟩
  · rw [step1_A (h1 := h1) (h2 := h2)]
    refine (a13 (hK := hK) (hV := hV) (hKT := hKT) (hQ := hQ) (hL := hL) (hD := hD) (hDT := hDT) (hk := by omega) (r := r) (l := l) ..).trans ?_
    rfl
  · rw [step1_B (h1 := h1) (h2 := h2)]
    refine (b13 (hK := hK) (hV := hV) (hKT := hKT) (hQ := hQ) (hL := hL) (hD := hD) (hDT := hDT) (r := r) (l := l) ..).trans ?_
    have e3 : 256 * (k.val + 2 + 2 * (k0_t2_loop k).trips) = 2048 := by omega
    rw [e3]
  · rw [step1_C (h1 := h1) (h2 := h2)]
    refine (c13 (hK := hK) (hV := hV) (hKT := hKT) (hQ := hQ) (hL := hL) (hD := hD) (hDT := hDT) (hk := by omega) (r := r) (l := l) ..).trans ?_
    have e3 : 256 * (k.val + 1 + 2 * (k0_t2_loop k).trips) = 2048 := by omega
    rw [e3]

include hD hDT hK hKT hL hQ hV in
theorem step14 (t r l : ℕ) : n3 (arg14.view.read (Elt Ideal) (step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s).2.2.2) t r l
    = if t = k.val % 2 ∧ r < 256 ∧ l < 256 then sV K Q L DT k.val r l else n3 (arg14.view.read (Elt Ideal) s.2.2.2) t r l := by
  have ht := trips2 k
  rcases k_cases k with ⟨h1, h2, e1, e2⟩ | ⟨h1, h2, e1, e2⟩ | ⟨h1, h2, e1⟩
  · rw [step1_A (h1 := h1) (h2 := h2)]
    refine (a14 (hK := hK) (hV := hV) (hKT := hKT) (hQ := hQ) (hL := hL) (hD := hD) (hDT := hDT) (hk := by omega) (s := t) (r := r) (l := l) ..).trans ?_
    rw [sumA (fun q => tV K Q L DT k.val q r l) _ _ e1 e2 ht]
    rfl
  · rw [step1_B (h1 := h1) (h2 := h2)]
    refine (b14 (hK := hK) (hV := hV) (hKT := hKT) (hQ := hQ) (hL := hL) (hD := hD) (hDT := hDT) (s := t) (r := r) (l := l) ..).trans ?_
    rw [sumB (fun q => tV K Q L DT k.val q r l) _ _ e1 e2 ht]
    rfl
  · rw [step1_C (h1 := h1) (h2 := h2)]
    refine (c14 (hK := hK) (hV := hV) (hKT := hKT) (hQ := hQ) (hL := hL) (hD := hD) (hDT := hDT) (hk := by omega) (s := t) (r := r) (l := l) ..).trans ?_
    rw [sumC (fun q => tV K Q L DT k.val q r l) _ _ e1 ht]
    rfl

theorem step10 (r l : ℕ) : n2 (arg10.view.read (Elt Ideal) (step1 c i arg2 harg2 arg3 harg3 arg4 harg4 arg5 harg5 arg6 harg6 arg7 harg7 arg8 harg8 arg9 harg9 arg10 harg10 arg11 harg11 arg12 harg12 arg13 harg13 arg14 harg14 v9 v481 v486 k f2 f3 f4 f6 f7 f11 f12 s).2.1) r l
    = if (256 * (k.val - 1) ≤ r ∧ r < 256 * (k.val - 1) + 256) ∧ l < 256 then n3 (arg14.view.read (Elt Ideal) s.2.2.2) (1 - k.val % 2) l (r - 256 * (k.val - 1)) else n2 (arg10.view.read (Elt Ideal) s.2.1) r l := by
  have ht := trips2 k
  rcases k_cases k with ⟨h1, h2, e1, e2⟩ | ⟨h1, h2, e1, e2⟩ | ⟨h1, h2, e1⟩
  · rw [step1_A (h1 := h1) (h2 := h2)]
    refine (a10  (r := r) (l := l) ..).trans ?_
    rfl
  · rw [step1_B (h1 := h1) (h2 := h2)]
    refine (b10  (r := r) (l := l) ..).trans ?_
    rfl
  · rw [step1_C (h1 := h1) (h2 := h2)]
    refine (c10  (r := r) (l := l) ..).trans ?_
    rfl

end

section
variable (f9 : Buf (Elt Ideal) (arg9.view.loc (c : Thread nD τ)))
  (f10 : Buf (Elt Ideal) (arg10.view.loc (c : Thread nD τ)))
  (f13 : Buf (Elt Ideal) (arg13.view.loc (c : Thread nD τ)))
  (f14 : Buf (Elt Ideal) (arg14.view.loc (c : Thread nD τ)))
  (hz : ∀ r l, n2 (arg13.view.read (Elt Ideal) f13) r l = 0)

include hK hV hKT hQ hL hD hDT hz in
/-- After `n` key tiles: the key tiles before `n` are done in `dk`; the transposed `dq` holds their terms; the transposed
    `dv` of the last one is in its half of the buffer, and the earlier ones are written out. -/
theorem it_inv (n : ℕ) (hn : n ≤ 8) :
    (∀ r l, l < 512 → r < 256 * n → n2 (arg9.view.read (Elt Ideal) (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n).1) r l = sK K V Q L D DT (r / 256) r l)
    ∧ (∀ r l, n2 (arg13.view.read (Elt Ideal) (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n).2.2.1) r l
        = ∑ k ∈ Finset.range n, if r < 512 ∧ (256 * k ≤ l ∧ l < 2048) then tQ K V Q KT L D DT k r l else 0)
    ∧ (∀ m r l, n = m + 1 → r < 256 → l < 256 → n3 (arg14.view.read (Elt Ideal) (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n).2.2.2) (m % 2) r l = sV K Q L DT m r l)
    ∧ (∀ r l, l < 256 → r < 256 * (n - 1) → n2 (arg10.view.read (Elt Ideal) (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n).2.1) r l = sV K Q L DT (r / 256) l (r % 256)) := by
  induction n with
  | zero =>
    refine ⟨fun r l _ h => absurd h (by omega), fun r l => ?_, fun m r l h => absurd h (by omega), fun r l _ h => absurd h (by omega)⟩
    rw [Finset.range_zero, Finset.sum_empty]
    exact hz r l
  | succ n ih =>
    obtain ⟨ih9, ih13, ih14, ih10⟩ := ih (by omega)
    have hlt : n < k0_t1_loop.trips := by rw [trips1]; omega
    have e : it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 (n + 1) = step1 c i arg2 harg2 arg3 harg3 arg4 harg4 arg5 harg5 arg6 harg6 arg7 harg7 arg8 harg8 arg9 harg9 arg10 harg10 arg11 harg11 arg12 harg12 arg13 harg13 arg14 harg14 v9 v481 v486 ⟨n, hlt⟩ f2 f3 f4 f6 f7 f11 f12 (it1 c i arg2 harg2 arg3 harg3 arg4 harg4 arg5 harg5 arg6 harg6 arg7 harg7 arg8 harg8 arg9 harg9 arg10 harg10 arg11 harg11 arg12 harg12 arg13 harg13 arg14 harg14 v9 v481 v486 f2 f3 f4 f6 f7 f11 f12 f9 f10 f13 f14 n) := dif_pos hlt
    rw [e]
    refine ⟨fun r l hl hr => ?_, fun r l => ?_, fun m r l hm hr hl => ?_, fun r l hl hr => ?_⟩
    · rw [step9 (hK := hK) (hV := hV) (hKT := hKT) (hQ := hQ) (hL := hL) (hD := hD) (hDT := hDT)]
      split_ifs with h
      · have e2 : r / 256 = n := by simp only [] at h; omega
        rw [e2]
      · exact ih9 r l hl (by simp only [] at h; omega)
    · rw [step13 (hK := hK) (hV := hV) (hKT := hKT) (hQ := hQ) (hL := hL) (hD := hD) (hDT := hDT), ih13, Finset.sum_range_succ]
      split_ifs
      · rfl
      · exact (add_zero _).symm
    · obtain rfl : m = n := by omega
      rw [step14 (hK := hK) (hV := hV) (hKT := hKT) (hQ := hQ) (hL := hL) (hD := hD) (hDT := hDT), if_pos ⟨rfl, hr, hl⟩]
    · rw [step10]
      simp only []
      split_ifs with h
      · have h1 : n = (n - 1) + 1 := by omega
        have e2 : 1 - n % 2 = (n - 1) % 2 := by omega
        have e3 : r / 256 = n - 1 := by omega
        have e4 : r % 256 = r - 256 * (n - 1) := by omega
        rw [e2, ih14 (n - 1) l (r - 256 * (n - 1)) h1 hl (by omega), e3, e4]
      · exact ih10 r l hl (by omega)

end
end

end Cert.Proof.Mla

end
-- ==== Proof.Pro.lean ====
/- The scratch buffers the body fills before the loop: the transposed keys and the transposed, halved output gradient. -/
module

public import proofs.«01_k».proof.Proof.Body
public import proofs.«01_k».proof.Proof.Mask
public import proofs.«01_k».proof.Proof.Calc

@[expose] public section

set_option maxRecDepth 16384

noncomputable section

namespace Cert.Proof.Mla

open Cert.KernelIdeal Cert.KernelIdeal.Gen
open Idealize.ShloMosaic Idealize.ShloMosaic.TcCoe Idealize.ShloMosaic.Tactic

theorem word_inj (a b : ℕ) (ha : a < 128) (hb : b < 128) : (BitVec.ofNat 32 a = BitVec.ofNat 32 b) = (a = b) := by
  refine propext ⟨fun e => ?_, fun e => e ▸ rfl⟩
  have := congrArg BitVec.toNat e
  simp only [BitVec.toNat_ofNat] at this
  omega

theorem ite_step {P : Prop} [Decidable P] {x y z : EReal} (h1 : P → x = z) (h2 : ¬ P → y = z) : (if P then x else y) = z := by
  by_cases h : P
  · rw [if_pos h, h1 h]
  · rw [if_neg h, h2 h]

/-- A product with the identity picks one term. -/
theorem eye_sum (r : ℕ) (hr : r < 128) (f : ℕ → EReal) :
    ∑ x : Fin 128, Scalar.select (IntOp.cmpi .eq (BitVec.ofNat 32 r) (BitVec.ofNat 32 x.val)) (f x.val) 0 = f r := by
  have h : ∀ x : Fin 128, Scalar.select (IntOp.cmpi .eq (BitVec.ofNat 32 r) (BitVec.ofNat 32 x.val)) (f x.val) 0 = if x = ⟨r, hr⟩ then f x.val else 0 := by
    intro x
    have hx : (x = (⟨r, hr⟩ : Fin 128)) = (r = x.val) := propext ⟨fun e => e ▸ rfl, fun e => Fin.ext e.symm⟩
    simp only [hx]
    unfold Scalar.select IntOp.cmpi
    by_cases e : r = x.val
    · rw [if_pos e, ← e]
      simp
    · have h2 : ¬ BitVec.ofNat 32 r = BitVec.ofNat 32 x.val := by rw [word_inj _ _ hr x.2]; exact e
      rw [if_neg e]
      show (if BitVec.ofBool (BitVec.ofNat 32 r == BitVec.ofNat 32 x.val) = 1#1 then f x.val else 0) = 0
      rw [beq_eq_false_iff_ne.mpr h2]
      rfl
  rw [Finset.sum_congr rfl fun x _ => h x, Finset.sum_ite_eq' Finset.univ, if_pos (Finset.mem_univ _)]

/-- The selection of the rows below 64. -/
theorem sel_lt (z : ℕ) (hz : z < 128) (x y : EReal) :
    Scalar.select (IntOp.cmpi .slt (BitVec.ofNat 32 z) 64#32) x y = if z < 64 then x else y := by
  have h : ∀ z : Fin 128, IntOp.cmpi .slt (BitVec.ofNat 32 z.val) 64#32 = if z.val < 64 then 1#1 else 0#1 := by decide
  rw [h ⟨z, hz⟩]
  simp only []
  split_ifs <;> rfl

section
variable (c : Dev nD)
  (arg3 : Memref sig .tc .vmem S2048x512 .bf16) (arg5 : Memref sig .tc .vmem S2048x256 .bf16)
  (arg11 : Memref sig .tc .vmem S512x2048 .bf16) (arg12 : Memref sig .tc .vmem S4x128x2048 .bf16)
  (f3 : Buf (Elt Ideal) (arg3.view.loc (c : Thread nD τ))) (f5 : Buf (Elt Ideal) (arg5.view.loc (c : Thread nD τ)))

set_option maxHeartbeats 0 in
theorem kt_read (r l : ℕ) : n2 (arg11.view.read (Elt Ideal) (arg11.view.writes (Elt Ideal) arg11.view.junk (bodyRun.sl.H11_32 c arg3 f3))) r l
    = if r < 512 ∧ l < 2048 then n2 (arg3.view.read (Elt Ideal) f3) l r else 0 := by
  unfold bodyRun.sl.H11_32
  obtain ⟨G, hG⟩ : ∃ G, n2 (arg3.view.read (Elt Ideal) f3) = G := ⟨_, rfl⟩
  rw [hG]
  rw [writesG2_bf16 _ _ _ _ _ _ (fun r l => G l r) ?h0, writesG2_bf16 _ _ _ _ _ _ (fun r l => G l r) ?h1, writesG2_bf16 _ _ _ _ _ _ (fun r l => G l r) ?h2, writesG2_bf16 _ _ _ _ _ _ (fun r l => G l r) ?h3, writesG2_bf16 _ _ _ _ _ _ (fun r l => G l r) ?h4, writesG2_bf16 _ _ _ _ _ _ (fun r l => G l r) ?h5, writesG2_bf16 _ _ _ _ _ _ (fun r l => G l r) ?h6, writesG2_bf16 _ _ _ _ _ _ (fun r l => G l r) ?h7, writesG2_bf16 _ _ _ _ _ _ (fun r l => G l r) ?h8, writesG2_bf16 _ _ _ _ _ _ (fun r l => G l r) ?h9, writesG2_bf16 _ _ _ _ _ _ (fun r l => G l r) ?h10, writesG2_bf16 _ _ _ _ _ _ (fun r l => G l r) ?h11, writesG2_bf16 _ _ _ _ _ _ (fun r l => G l r) ?h12, writesG2_bf16 _ _ _ _ _ _ (fun r l => G l r) ?h13, writesG2_bf16 _ _ _ _ _ _ (fun r l => G l r) ?h14, writesG2_bf16 _ _ _ _ _ _ (fun r l => G l r) ?h15, writesG2_bf16 _ _ _ _ _ _ (fun r l => G l r) ?h16, writesG2_bf16 _ _ _ _ _ _ (fun r l => G l r) ?h17, writesG2_bf16 _ _ _ _ _ _ (fun r l => G l r) ?h18, writesG2_bf16 _ _ _ _ _ _ (fun r l => G l r) ?h19, writesG2_bf16 _ _ _ _ _ _ (fun r l => G l r) ?h20, writesG2_bf16 _ _ _ _ _ _ (fun r l => G l r) ?h21, writesG2_bf16 _ _ _ _ _ _ (fun r l => G l r) ?h22, writesG2_bf16 _ _ _ _ _ _ (fun r l => G l r) ?h23, writesG2_bf16 _ _ _ _ _ _ (fun r l => G l r) ?h24, writesG2_bf16 _ _ _ _ _ _ (fun r l => G l r) ?h25, writesG2_bf16 _ _ _ _ _ _ (fun r l => G l r) ?h26, writesG2_bf16 _ _ _ _ _ _ (fun r l => G l r) ?h27, writesG2_bf16 _ _ _ _ _ _ (fun r l => G l r) ?h28, writesG2_bf16 _ _ _ _ _ _ (fun r l => G l r) ?h29, writesG2_bf16 _ _ _ _ _ _ (fun r l => G l r) ?h30, writesG2_bf16 _ _ _ _ _ _ (fun r l => G l r) ?h31]
  · show (if (384 ≤ r ∧ r < 384 + 128) ∧ (1792 ≤ l ∧ l < 1792 + 256) then _ else (if (256 ≤ r ∧ r < 256 + 128) ∧ (1792 ≤ l ∧ l < 1792 + 256) then _ else (if (128 ≤ r ∧ r < 128 + 128) ∧ (1792 ≤ l ∧ l < 1792 + 256) then _ else (if (0 ≤ r ∧ r < 0 + 128) ∧ (1792 ≤ l ∧ l < 1792 + 256) then _ else (if (384 ≤ r ∧ r < 384 + 128) ∧ (1536 ≤ l ∧ l < 1536 + 256) then _ else (if (256 ≤ r ∧ r < 256 + 128) ∧ (1536 ≤ l ∧ l < 1536 + 256) then _ else (if (128 ≤ r ∧ r < 128 + 128) ∧ (1536 ≤ l ∧ l < 1536 + 256) then _ else (if (0 ≤ r ∧ r < 0 + 128) ∧ (1536 ≤ l ∧ l < 1536 + 256) then _ else (if (384 ≤ r ∧ r < 384 + 128) ∧ (1280 ≤ l ∧ l < 1280 + 256) then _ else (if (256 ≤ r ∧ r < 256 + 128) ∧ (1280 ≤ l ∧ l < 1280 + 256) then _ else (if (128 ≤ r ∧ r < 128 + 128) ∧ (1280 ≤ l ∧ l < 1280 + 256) then _ else (if (0 ≤ r ∧ r < 0 + 128) ∧ (1280 ≤ l ∧ l < 1280 + 256) then _ else (if (384 ≤ r ∧ r < 384 + 128) ∧ (1024 ≤ l ∧ l < 1024 + 256) then _ else (if (256 ≤ r ∧ r < 256 + 128) ∧ (1024 ≤ l ∧ l < 1024 + 256) then _ else (if (128 ≤ r ∧ r < 128 + 128) ∧ (1024 ≤ l ∧ l < 1024 + 256) then _ else (if (0 ≤ r ∧ r < 0 + 128) ∧ (1024 ≤ l ∧ l < 1024 + 256) then _ else (if (384 ≤ r ∧ r < 384 + 128) ∧ (768 ≤ l ∧ l < 768 + 256) then _ else (if (256 ≤ r ∧ r < 256 + 128) ∧ (768 ≤ l ∧ l < 768 + 256) then _ else (if (128 ≤ r ∧ r < 128 + 128) ∧ (768 ≤ l ∧ l < 768 + 256) then _ else (if (0 ≤ r ∧ r < 0 + 128) ∧ (768 ≤ l ∧ l < 768 + 256) then _ else (if (384 ≤ r ∧ r < 384 + 128) ∧ (512 ≤ l ∧ l < 512 + 256) then _ else (if (256 ≤ r ∧ r < 256 + 128) ∧ (512 ≤ l ∧ l < 512 + 256) then _ else (if (128 ≤ r ∧ r < 128 + 128) ∧ (512 ≤ l ∧ l < 512 + 256) then _ else (if (0 ≤ r ∧ r < 0 + 128) ∧ (512 ≤ l ∧ l < 512 + 256) then _ else (if (384 ≤ r ∧ r < 384 + 128) ∧ (256 ≤ l ∧ l < 256 + 256) then _ else (if (256 ≤ r ∧ r < 256 + 128) ∧ (256 ≤ l ∧ l < 256 + 256) then _ else (if (128 ≤ r ∧ r < 128 + 128) ∧ (256 ≤ l ∧ l < 256 + 256) then _ else (if (0 ≤ r ∧ r < 0 + 128) ∧ (256 ≤ l ∧ l < 256 + 256) then _ else (if (384 ≤ r ∧ r < 384 + 128) ∧ (0 ≤ l ∧ l < 0 + 256) then _ else (if (256 ≤ r ∧ r < 256 + 128) ∧ (0 ≤ l ∧ l < 0 + 256) then _ else (if (128 ≤ r ∧ r < 128 + 128) ∧ (0 ≤ l ∧ l < 0 + 256) then _ else (if (0 ≤ r ∧ r < 0 + 128) ∧ (0 ≤ l ∧ l < 0 + 256) then G l r else n2 (arg11.view.read (Elt Ideal) (arg11.view.writes (Elt Ideal) arg11.view.junk [])) r l)))))))))))))))))))))))))))))))) = _
    by_cases hb : r < 512 ∧ l < 2048
    · rw [if_pos hb]
      generalize G l r = X
      have hl : (0 ≤ l ∧ l < 0 + 256) ∨ (256 ≤ l ∧ l < 256 + 256) ∨ (512 ≤ l ∧ l < 512 + 256) ∨ (768 ≤ l ∧ l < 768 + 256) ∨ (1024 ≤ l ∧ l < 1024 + 256) ∨ (1280 ≤ l ∧ l < 1280 + 256) ∨ (1536 ≤ l ∧ l < 1536 + 256) ∨ (1792 ≤ l ∧ l < 1792 + 256) := by omega
      have hr : (0 ≤ r ∧ r < 0 + 128) ∨ (128 ≤ r ∧ r < 128 + 128) ∨ (256 ≤ r ∧ r < 256 + 128) ∨ (384 ≤ r ∧ r < 384 + 128) := by omega
      clear hb
      rcases hl with hl | hl | hl | hl | hl | hl | hl | hl <;> rcases hr with hr | hr | hr | hr
      all_goals
        have hP := And.intro hr hl
        rw [if_pos hP]
        repeat first | refine ite_step (fun _ => rfl) (fun _ => ?_) | rfl
    · have hX : G l r = 0 := by rw [← hG, n2, dif_neg (by omega)]
      have hY : n2 (arg11.view.read (Elt Ideal) (arg11.view.writes (Elt Ideal) arg11.view.junk [])) r l = 0 := by rw [n2, dif_neg hb]
      rw [if_neg hb, hX, hY]
      iterate 32 refine ite_step (fun _ => rfl) (fun _ => ?_)
      rfl
  all_goals intro a b
  case' h0 => unfold bodyRun.sl.r_12; have E := eye_sum a.val a.2 fun x => G (1792 + b.val) (384 + x)
  case' h1 => unfold bodyRun.sl.r_13; have E := eye_sum a.val a.2 fun x => G (1792 + b.val) (256 + x)
  case' h2 => have E := eye_sum a.val a.2 fun x => G (1792 + b.val) (128 + x)
  case' h3 => have E := eye_sum a.val a.2 fun x => G (1792 + b.val) x
  case' h4 => unfold bodyRun.sl.r_10; have E := eye_sum a.val a.2 fun x => G (1536 + b.val) (384 + x)
  case' h5 => unfold bodyRun.sl.r_10; have E := eye_sum a.val a.2 fun x => G (1536 + b.val) (256 + x)
  case' h6 => unfold bodyRun.sl.cst_70 bodyRun.sl.r_11; have E := eye_sum a.val a.2 fun x => G (1536 + b.val) (128 + x)
  case' h7 => have E := eye_sum a.val a.2 fun x => G (1536 + b.val) x
  case' h8 => have E := eye_sum a.val a.2 fun x => G (1280 + b.val) (384 + x)
  case' h9 => have E := eye_sum a.val a.2 fun x => G (1280 + b.val) (256 + x)
  case' h10 => have E := eye_sum a.val a.2 fun x => G (1280 + b.val) (128 + x)
  case' h11 => have E := eye_sum a.val a.2 fun x => G (1280 + b.val) x
  case' h12 => have E := eye_sum a.val a.2 fun x => G (1024 + b.val) (384 + x)
  case' h13 => have E := eye_sum a.val a.2 fun x => G (1024 + b.val) (256 + x)
  case' h14 => have E := eye_sum a.val a.2 fun x => G (1024 + b.val) (128 + x)
  case' h15 => have E := eye_sum a.val a.2 fun x => G (1024 + b.val) x
  case' h16 => unfold bodyRun.sl.r_4; have E := eye_sum a.val a.2 fun x => G (768 + b.val) (384 + x)
  case' h17 => unfold bodyRun.sl.r_5; have E := eye_sum a.val a.2 fun x => G (768 + b.val) (256 + x)
  case' h18 => have E := eye_sum a.val a.2 fun x => G (768 + b.val) (128 + x)
  case' h19 => have E := eye_sum a.val a.2 fun x => G (768 + b.val) x
  case' h20 => unfold bodyRun.sl.r_2; have E := eye_sum a.val a.2 fun x => G (512 + b.val) (384 + x)
  case' h21 => unfold bodyRun.sl.r_2; have E := eye_sum a.val a.2 fun x => G (512 + b.val) (256 + x)
  case' h22 => unfold bodyRun.sl.cst_70 bodyRun.sl.r_3; have E := eye_sum a.val a.2 fun x => G (512 + b.val) (128 + x)
  case' h23 => have E := eye_sum a.val a.2 fun x => G (512 + b.val) x
  case' h24 => have E := eye_sum a.val a.2 fun x => G (256 + b.val) (384 + x)
  case' h25 => have E := eye_sum a.val a.2 fun x => G (256 + b.val) (256 + x)
  case' h26 => have E := eye_sum a.val a.2 fun x => G (256 + b.val) (128 + x)
  case' h27 => have E := eye_sum a.val a.2 fun x => G (256 + b.val) x
  case' h28 => have E := eye_sum a.val a.2 fun x => G b.val (384 + x)
  case' h29 => have E := eye_sum a.val a.2 fun x => G b.val (256 + x)
  case' h30 => have E := eye_sum a.val a.2 fun x => G b.val (128 + x)
  case' h31 => have E := eye_sum a.val a.2 fun x => G b.val x
  all_goals
    unfold_payloads
    pointwise
    simp only [readAt2_bf16, Nat.zero_add, Nat.add_zero, Fin.val_zero, Matrix.cons_val, hG]
    exact E

set_option maxHeartbeats 0 in
theorem dot_read (s r l : ℕ) : n3 (arg12.view.read (Elt Ideal) (arg12.view.writes (Elt Ideal) arg12.view.junk (bodyRun.sl.H12_32 c arg5 f5))) s r l
    = if s < 4 ∧ r < 128 ∧ l < 2048 then (if (r < 64 ↔ s % 2 = 0) then n2 (arg5.view.read (Elt Ideal) f5) l (128 * (s / 2) + r) else 0) else 0 := by
  unfold bodyRun.sl.H12_32
  obtain ⟨G, hG⟩ : ∃ G, n2 (arg5.view.read (Elt Ideal) f5) = G := ⟨_, rfl⟩
  rw [hG]
  suffices hD : ∀ D : ℕ → ℕ → ℕ → EReal, D = (fun s r l => if (r < 64 ↔ s % 2 = 0) then G l (128 * (s / 2) + r) else 0) →
      n3 (arg12.view.read (Elt Ideal) (arg12.view.writes (Elt Ideal) arg12.view.junk _)) s r l = if s < 4 ∧ r < 128 ∧ l < 2048 then D s r l else 0 from hD _ rfl
  intro D hD
  rw [writesG3_bf16 _ _ _ _ _ _ D ?h0, writesG3_bf16 _ _ _ _ _ _ D ?h1, writesG3_bf16 _ _ _ _ _ _ D ?h2, writesG3_bf16 _ _ _ _ _ _ D ?h3, writesG3_bf16 _ _ _ _ _ _ D ?h4, writesG3_bf16 _ _ _ _ _ _ D ?h5, writesG3_bf16 _ _ _ _ _ _ D ?h6, writesG3_bf16 _ _ _ _ _ _ D ?h7, writesG3_bf16 _ _ _ _ _ _ D ?h8, writesG3_bf16 _ _ _ _ _ _ D ?h9, writesG3_bf16 _ _ _ _ _ _ D ?h10, writesG3_bf16 _ _ _ _ _ _ D ?h11, writesG3_bf16 _ _ _ _ _ _ D ?h12, writesG3_bf16 _ _ _ _ _ _ D ?h13, writesG3_bf16 _ _ _ _ _ _ D ?h14, writesG3_bf16 _ _ _ _ _ _ D ?h15, writesG3_bf16 _ _ _ _ _ _ D ?h16, writesG3_bf16 _ _ _ _ _ _ D ?h17, writesG3_bf16 _ _ _ _ _ _ D ?h18, writesG3_bf16 _ _ _ _ _ _ D ?h19, writesG3_bf16 _ _ _ _ _ _ D ?h20, writesG3_bf16 _ _ _ _ _ _ D ?h21, writesG3_bf16 _ _ _ _ _ _ D ?h22, writesG3_bf16 _ _ _ _ _ _ D ?h23, writesG3_bf16 _ _ _ _ _ _ D ?h24, writesG3_bf16 _ _ _ _ _ _ D ?h25, writesG3_bf16 _ _ _ _ _ _ D ?h26, writesG3_bf16 _ _ _ _ _ _ D ?h27, writesG3_bf16 _ _ _ _ _ _ D ?h28, writesG3_bf16 _ _ _ _ _ _ D ?h29, writesG3_bf16 _ _ _ _ _ _ D ?h30, writesG3_bf16 _ _ _ _ _ _ D ?h31]
  · show (if (3 ≤ s ∧ s < 3 + 1) ∧ (0 ≤ r ∧ r < 0 + 128) ∧ (1792 ≤ l ∧ l < 1792 + 256) then _ else (if (2 ≤ s ∧ s < 2 + 1) ∧ (0 ≤ r ∧ r < 0 + 128) ∧ (1792 ≤ l ∧ l < 1792 + 256) then _ else (if (1 ≤ s ∧ s < 1 + 1) ∧ (0 ≤ r ∧ r < 0 + 128) ∧ (1792 ≤ l ∧ l < 1792 + 256) then _ else (if (0 ≤ s ∧ s < 0 + 1) ∧ (0 ≤ r ∧ r < 0 + 128) ∧ (1792 ≤ l ∧ l < 1792 + 256) then _ else (if (3 ≤ s ∧ s < 3 + 1) ∧ (0 ≤ r ∧ r < 0 + 128) ∧ (1536 ≤ l ∧ l < 1536 + 256) then _ else (if (2 ≤ s ∧ s < 2 + 1) ∧ (0 ≤ r ∧ r < 0 + 128) ∧ (1536 ≤ l ∧ l < 1536 + 256) then _ else (if (1 ≤ s ∧ s < 1 + 1) ∧ (0 ≤ r ∧ r < 0 + 128) ∧ (1536 ≤ l ∧ l < 1536 + 256) then _ else (if (0 ≤ s ∧ s < 0 + 1) ∧ (0 ≤ r ∧ r < 0 + 128) ∧ (1536 ≤ l ∧ l < 1536 + 256) then _ else (if (3 ≤ s ∧ s < 3 + 1) ∧ (0 ≤ r ∧ r < 0 + 128) ∧ (1280 ≤ l ∧ l < 1280 + 256) then _ else (if (2 ≤ s ∧ s < 2 + 1) ∧ (0 ≤ r ∧ r < 0 + 128) ∧ (1280 ≤ l ∧ l < 1280 + 256) then _ else (if (1 ≤ s ∧ s < 1 + 1) ∧ (0 ≤ r ∧ r < 0 + 128) ∧ (1280 ≤ l ∧ l < 1280 + 256) then _ else (if (0 ≤ s ∧ s < 0 + 1) ∧ (0 ≤ r ∧ r < 0 + 128) ∧ (1280 ≤ l ∧ l < 1280 + 256) then _ else (if (3 ≤ s ∧ s < 3 + 1) ∧ (0 ≤ r ∧ r < 0 + 128) ∧ (1024 ≤ l ∧ l < 1024 + 256) then _ else (if (2 ≤ s ∧ s < 2 + 1) ∧ (0 ≤ r ∧ r < 0 + 128) ∧ (1024 ≤ l ∧ l < 1024 + 256) then _ else (if (1 ≤ s ∧ s < 1 + 1) ∧ (0 ≤ r ∧ r < 0 + 128) ∧ (1024 ≤ l ∧ l < 1024 + 256) then _ else (if (0 ≤ s ∧ s < 0 + 1) ∧ (0 ≤ r ∧ r < 0 + 128) ∧ (1024 ≤ l ∧ l < 1024 + 256) then _ else (if (3 ≤ s ∧ s < 3 + 1) ∧ (0 ≤ r ∧ r < 0 + 128) ∧ (768 ≤ l ∧ l < 768 + 256) then _ else (if (2 ≤ s ∧ s < 2 + 1) ∧ (0 ≤ r ∧ r < 0 + 128) ∧ (768 ≤ l ∧ l < 768 + 256) then _ else (if (1 ≤ s ∧ s < 1 + 1) ∧ (0 ≤ r ∧ r < 0 + 128) ∧ (768 ≤ l ∧ l < 768 + 256) then _ else (if (0 ≤ s ∧ s < 0 + 1) ∧ (0 ≤ r ∧ r < 0 + 128) ∧ (768 ≤ l ∧ l < 768 + 256) then _ else (if (3 ≤ s ∧ s < 3 + 1) ∧ (0 ≤ r ∧ r < 0 + 128) ∧ (512 ≤ l ∧ l < 512 + 256) then _ else (if (2 ≤ s ∧ s < 2 + 1) ∧ (0 ≤ r ∧ r < 0 + 128) ∧ (512 ≤ l ∧ l < 512 + 256) then _ else (if (1 ≤ s ∧ s < 1 + 1) ∧ (0 ≤ r ∧ r < 0 + 128) ∧ (512 ≤ l ∧ l < 512 + 256) then _ else (if (0 ≤ s ∧ s < 0 + 1) ∧ (0 ≤ r ∧ r < 0 + 128) ∧ (512 ≤ l ∧ l < 512 + 256) then _ else (if (3 ≤ s ∧ s < 3 + 1) ∧ (0 ≤ r ∧ r < 0 + 128) ∧ (256 ≤ l ∧ l < 256 + 256) then _ else (if (2 ≤ s ∧ s < 2 + 1) ∧ (0 ≤ r ∧ r < 0 + 128) ∧ (256 ≤ l ∧ l < 256 + 256) then _ else (if (1 ≤ s ∧ s < 1 + 1) ∧ (0 ≤ r ∧ r < 0 + 128) ∧ (256 ≤ l ∧ l < 256 + 256) then _ else (if (0 ≤ s ∧ s < 0 + 1) ∧ (0 ≤ r ∧ r < 0 + 128) ∧ (256 ≤ l ∧ l < 256 + 256) then _ else (if (3 ≤ s ∧ s < 3 + 1) ∧ (0 ≤ r ∧ r < 0 + 128) ∧ (0 ≤ l ∧ l < 0 + 256) then _ else (if (2 ≤ s ∧ s < 2 + 1) ∧ (0 ≤ r ∧ r < 0 + 128) ∧ (0 ≤ l ∧ l < 0 + 256) then _ else (if (1 ≤ s ∧ s < 1 + 1) ∧ (0 ≤ r ∧ r < 0 + 128) ∧ (0 ≤ l ∧ l < 0 + 256) then _ else (if (0 ≤ s ∧ s < 0 + 1) ∧ (0 ≤ r ∧ r < 0 + 128) ∧ (0 ≤ l ∧ l < 0 + 256) then D s r l else n3 (arg12.view.read (Elt Ideal) (arg12.view.writes (Elt Ideal) arg12.view.junk [])) s r l)))))))))))))))))))))))))))))))) = _
    by_cases hb : s < 4 ∧ r < 128 ∧ l < 2048
    · rw [if_pos hb]
      generalize D s r l = X
      have hl : (0 ≤ l ∧ l < 0 + 256) ∨ (256 ≤ l ∧ l < 256 + 256) ∨ (512 ≤ l ∧ l < 512 + 256) ∨ (768 ≤ l ∧ l < 768 + 256) ∨ (1024 ≤ l ∧ l < 1024 + 256) ∨ (1280 ≤ l ∧ l < 1280 + 256) ∨ (1536 ≤ l ∧ l < 1536 + 256) ∨ (1792 ≤ l ∧ l < 1792 + 256) := by omega
      have hr : ((0 ≤ s ∧ s < 0 + 1) ∧ (0 ≤ r ∧ r < 0 + 128)) ∨ ((1 ≤ s ∧ s < 1 + 1) ∧ (0 ≤ r ∧ r < 0 + 128)) ∨ ((2 ≤ s ∧ s < 2 + 1) ∧ (0 ≤ r ∧ r < 0 + 128)) ∨ ((3 ≤ s ∧ s < 3 + 1) ∧ (0 ≤ r ∧ r < 0 + 128)) := by omega
      clear hb
      rcases hl with hl | hl | hl | hl | hl | hl | hl | hl <;> rcases hr with hr | hr | hr | hr
      all_goals
        have hP := And.intro hr.1 (And.intro hr.2 hl)
        rw [if_pos hP]
        repeat first | refine ite_step (fun _ => rfl) (fun _ => ?_) | rfl
    · have hY : n3 (arg12.view.read (Elt Ideal) (arg12.view.writes (Elt Ideal) arg12.view.junk [])) s r l = 0 := by rw [n3, dif_neg hb]
      rw [if_neg hb, hY]
      iterate 32 refine (if_neg fun h => hb (by omega)).trans ?_
      rfl
  all_goals
    intro e a b
    obtain rfl : e = 0 := Subsingleton.elim _ _
  case' h0 => unfold bodyRun.sl.r_14; have E := eye_sum a.val a.2 (fun x => G (1792 + b.val) (128 + x))
  case' h1 => unfold bodyRun.sl.r_15; have E := eye_sum a.val a.2 (fun x => G (1792 + b.val) (128 + x))
  case' h2 => have E := eye_sum a.val a.2 (fun x => G (1792 + b.val) x)
  case' h3 => have E := eye_sum a.val a.2 (fun x => G (1792 + b.val) x)
  case' h4 => have E := eye_sum a.val a.2 (fun x => G (1536 + b.val) (128 + x))
  case' h5 => have E := eye_sum a.val a.2 (fun x => G (1536 + b.val) (128 + x))
  case' h6 => have E := eye_sum a.val a.2 (fun x => G (1536 + b.val) x)
  case' h7 => have E := eye_sum a.val a.2 (fun x => G (1536 + b.val) x)
  case' h8 => have E := eye_sum a.val a.2 (fun x => G (1280 + b.val) (128 + x))
  case' h9 => have E := eye_sum a.val a.2 (fun x => G (1280 + b.val) (128 + x))
  case' h10 => unfold bodyRun.sl.r_8; have E := eye_sum a.val a.2 (fun x => G (1280 + b.val) x)
  case' h11 => unfold bodyRun.sl.r_9; have E := eye_sum a.val a.2 (fun x => G (1280 + b.val) x)
  case' h12 => have E := eye_sum a.val a.2 (fun x => G (1024 + b.val) (128 + x))
  case' h13 => have E := eye_sum a.val a.2 (fun x => G (1024 + b.val) (128 + x))
  case' h14 => have E := eye_sum a.val a.2 (fun x => G (1024 + b.val) x)
  case' h15 => have E := eye_sum a.val a.2 (fun x => G (1024 + b.val) x)
  case' h16 => unfold bodyRun.sl.r_6; have E := eye_sum a.val a.2 (fun x => G (768 + b.val) (128 + x))
  case' h17 => unfold bodyRun.sl.r_7; have E := eye_sum a.val a.2 (fun x => G (768 + b.val) (128 + x))
  case' h18 => have E := eye_sum a.val a.2 (fun x => G (768 + b.val) x)
  case' h19 => have E := eye_sum a.val a.2 (fun x => G (768 + b.val) x)
  case' h20 => have E := eye_sum a.val a.2 (fun x => G (512 + b.val) (128 + x))
  case' h21 => have E := eye_sum a.val a.2 (fun x => G (512 + b.val) (128 + x))
  case' h22 => have E := eye_sum a.val a.2 (fun x => G (512 + b.val) x)
  case' h23 => have E := eye_sum a.val a.2 (fun x => G (512 + b.val) x)
  case' h24 => have E := eye_sum a.val a.2 (fun x => G (256 + b.val) (128 + x))
  case' h25 => have E := eye_sum a.val a.2 (fun x => G (256 + b.val) (128 + x))
  case' h26 => unfold bodyRun.sl.r; have E := eye_sum a.val a.2 (fun x => G (256 + b.val) x)
  case' h27 => unfold bodyRun.sl.r_1; have E := eye_sum a.val a.2 (fun x => G (256 + b.val) x)
  case' h28 => have E := eye_sum a.val a.2 (fun x => G b.val (128 + x))
  case' h29 => have E := eye_sum a.val a.2 (fun x => G b.val (128 + x))
  case' h30 => have E := eye_sum a.val a.2 (fun x => G b.val x)
  case' h31 => have E := eye_sum a.val a.2 (fun x => G b.val x)
  all_goals
    subst hD
    unfold_payloads
    pointwise
    simp only [readAt2_bf16, Nat.zero_add, Nat.add_zero, Fin.val_zero, Matrix.cons_val, sel_lt _ a.2, hG, E]
    by_cases ha : a.val < 64 <;> simp [ha]

end

end Cert.Proof.Mla

end
-- ==== Proof.Out.lean ====
/- What the body leaves in the three gradients' blocks, at an index. -/
module

public import proofs.«01_k».proof.Proof.Step
public import proofs.«01_k».proof.Proof.Pro

@[expose] public section

set_option maxRecDepth 16384

noncomputable section

namespace Cert.Proof.Mla

open Cert.KernelIdeal Cert.KernelIdeal.Gen
open Idealize.ShloMosaic Idealize.ShloMosaic.TcCoe Idealize.ShloMosaic.Tactic

/-- The transposed keys the body keeps. -/
def KTf (K : ℕ → ℕ → EReal) (r l : ℕ) : EReal := if r < 512 ∧ l < 2048 then K l r else 0
/-- The transposed output gradient the body keeps: in each head the other half of its pair's rows is zero. -/
def DTf (O : ℕ → ℕ → EReal) (s r l : ℕ) : EReal :=
  if s < 4 ∧ r < 128 ∧ l < 2048 then (if (r < 64 ↔ s % 2 = 0) then O l (128 * (s / 2) + r) else 0) else 0

section
variable (c : Dev nD) (i : grid0.Coords)
  (arg2 : Memref sig .tc .vmem S2048x512 .bf16) (harg2 : arg2.IsWhole)
  (arg3 : Memref sig .tc .vmem S2048x512 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S1x4x2048 .f32) (harg6 : arg6.IsWhole)
  (arg7 : Memref sig .tc .vmem S1x1x4x2048 .f32) (harg7 : arg7.IsWhole)
  (arg8 : Memref sig .tc .vmem S2048x512 .f32) (harg8 : arg8.IsWhole)
  (arg9 : Memref sig .tc .vmem S2048x512 .f32) (harg9 : arg9.IsWhole)
  (arg10 : Memref sig .tc .vmem S2048x256 .f32) (harg10 : arg10.IsWhole)
  (arg11 : Memref sig .tc .vmem S512x2048 .bf16) (harg11 : arg11.IsWhole)
  (arg12 : Memref sig .tc .vmem S4x128x2048 .bf16) (harg12 : arg12.IsWhole)
  (arg13 : Memref sig .tc .vmem S512x2048 .f32) (harg13 : arg13.IsWhole)
  (arg14 : Memref sig .tc .vmem S2x256x256 .f32) (harg14 : arg14.IsWhole)
  (f2 : Buf (Elt Ideal) (arg2.view.loc (c : Thread nD τ)))
  (f3 : Buf (Elt Ideal) (arg3.view.loc (c : Thread nD τ)))
  (f4 : Buf (Elt Ideal) (arg4.view.loc (c : Thread nD τ)))
  (f5 : Buf (Elt Ideal) (arg5.view.loc (c : Thread nD τ)))
  (f6 : Buf (Elt Ideal) (arg6.view.loc (c : Thread nD τ)))
  (f7 : Buf (Elt Ideal) (arg7.view.loc (c : Thread nD τ)))
  (f8 : Buf (Elt Ideal) (arg8.view.loc (c : Thread nD τ)))
  (f9 : Buf (Elt Ideal) (arg9.view.loc (c : Thread nD τ)))
  (f10 : Buf (Elt Ideal) (arg10.view.loc (c : Thread nD τ)))
  (f11 : Buf (Elt Ideal) (arg11.view.loc (c : Thread nD τ)))
  (f12 : Buf (Elt Ideal) (arg12.view.loc (c : Thread nD τ)))
  (f13 : Buf (Elt Ideal) (arg13.view.loc (c : Thread nD τ)))
  (f14 : Buf (Elt Ideal) (arg14.view.loc (c : Thread nD τ)))
  {K V Q L D O : ℕ → ℕ → EReal}
  (hK : n2 (arg3.view.read (Elt Ideal) f3) = K) (hV : n2 (arg4.view.read (Elt Ideal) f4) = V)
  (hQ : n2 (arg2.view.read (Elt Ideal) f2) = Q) (hO : n2 (arg5.view.read (Elt Ideal) f5) = O)
  (hL : n4 (arg7.view.read (Elt Ideal) f7) 0 0 = L)
  (hD : n3 (arg6.view.read (Elt Ideal) f6) 0 = D)

include hK in
theorem ktf : n2 (arg11.view.read (Elt Ideal) (arg11.view.writes (Elt Ideal) arg11.view.junk (bodyRun.sl.H11_32 c arg3 f3))) = KTf K := by
  funext r l
  rw [kt_read, hK]
  rfl
include hO in
theorem dtf : n3 (arg12.view.read (Elt Ideal) (arg12.view.writes (Elt Ideal) arg12.view.junk (bodyRun.sl.H12_32 c arg5 f5))) = DTf O := by
  funext s r l
  rw [dot_read, hO]
  rfl

theorem zero13 (r l : ℕ) : n2 (arg13.view.read (Elt Ideal) (arg13.view.writes (Elt Ideal) arg13.view.junk [⟨Rect.unit ![0, 0] S512x2048.size inb_S512x2048_S512x2048_0_0, (k0_pay391 (F := Ideal))⟩])) r l = 0 := by
  rw [writesG2_f32 _ _ _ _ _ _ (fun _ _ => 0) ?h]
  · split_ifs with h
    · rfl
    · rw [n2, dif_neg (fun e => h ⟨⟨Nat.zero_le _, lt_of_lt_of_eq e.1 (Nat.zero_add _).symm⟩, Nat.zero_le _, lt_of_lt_of_eq e.2 (Nat.zero_add _).symm⟩)]
  · intro a b
    unfold_payloads
    pointwise

theorem trips_eq : Scf.trips k0_t1_loop.lb k0_t1_loop.ub k0_t1_loop.st = 8 := trips1

include hK hV hQ hO hL hD in
theorem out9 (r l : ℕ) (hr : r < 2048) (hl : l < 512) : n2 (arg9.view.read (Elt Ideal) (bodyRun c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).2.1) r l
    = sK K V Q L D (DTf O) (r / 256) r l := by
  unfold bodyRun
  dsimp only
  rw [r9_eq, trips_eq]
  refine (it_inv (hK := hK) (hV := hV) (hQ := hQ) (hL := hL) (hD := hD) (hKT := ktf c arg3 arg11 f3 hK) (hDT := dtf c arg5 arg12 f5 hO) (hz := zero13 arg13) (n := 8) (hn := le_refl _) ..).1 r l hl (by omega)

include hK hV hQ hO hL hD in
theorem out10 (r l : ℕ) (hr : r < 2048) (hl : l < 256) : n2 (arg10.view.read (Elt Ideal) (bodyRun c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).2.2.1) r l
    = sV K Q L (DTf O) (r / 256) l (r % 256) := by
  unfold bodyRun
  dsimp only
  rw [writesG2_f32 _ _ _ _ _ _ (fun r l => sV K Q L (DTf O) 7 l (r % 256)) ?h0, writesG2_f32 _ _ _ _ _ _ (fun r l => sV K Q L (DTf O) 7 l (r % 256)) ?h1]
  case h0 =>
    intro a b
    unfold_payloads
    pointwise
    unfold bodyRun.sl.v513
    simp only [readAt3_f32, r14_eq, trips_eq, Nat.zero_add, Nat.add_zero, Fin.val_zero, Matrix.cons_val]
    have e : (1792 + a.val) % 256 = a.val := by omega
    rw [e]
    refine (it_inv (hK := hK) (hV := hV) (hQ := hQ) (hL := hL) (hD := hD) (hKT := ktf c arg3 arg11 f3 hK) (hDT := dtf c arg5 arg12 f5 hO) (hz := zero13 arg13) (n := 8) (hn := le_refl _) ..).2.2.1 7 _ _ rfl (by omega) a.2

  case h1 =>
    intro a b
    unfold_payloads
    pointwise
    unfold bodyRun.sl.v508
    simp only [readAt3_f32, r14_eq, trips_eq, Nat.zero_add, Nat.add_zero, Fin.val_zero, Matrix.cons_val]
    have e : (1792 + a.val) % 256 = a.val := by omega
    rw [e]
    refine (it_inv (hK := hK) (hV := hV) (hQ := hQ) (hL := hL) (hD := hD) (hKT := ktf c arg3 arg11 f3 hK) (hDT := dtf c arg5 arg12 f5 hO) (hz := zero13 arg13) (n := 8) (hn := le_refl _) ..).2.2.1 7 _ _ rfl (by omega) a.2

  rw [View.writes_nil, r10_eq, trips_eq]
  by_cases h : r < 1792
  · show (if (1792 ≤ r ∧ r < 1792 + 256) ∧ (128 ≤ l ∧ l < 128 + 128) then _ else if (1792 ≤ r ∧ r < 1792 + 256) ∧ (0 ≤ l ∧ l < 0 + 128) then _ else _) = _
    rw [if_neg (by omega), if_neg (by omega)]
    refine (it_inv (hK := hK) (hV := hV) (hQ := hQ) (hL := hL) (hD := hD) (hKT := ktf c arg3 arg11 f3 hK) (hDT := dtf c arg5 arg12 f5 hO) (hz := zero13 arg13) (n := 8) (hn := le_refl _) ..).2.2.2 r l hl (by omega)

  · have e7 : r / 256 = 7 := by omega
    rw [e7]
    show (if (1792 ≤ r ∧ r < 1792 + 256) ∧ (128 ≤ l ∧ l < 128 + 128) then _ else if (1792 ≤ r ∧ r < 1792 + 256) ∧ (0 ≤ l ∧ l < 0 + 128) then _ else _) = _
    by_cases h2 : l < 128
    · rw [if_neg (by omega), if_pos (by omega)]
    · rw [if_pos (by omega)]

set_option maxHeartbeats 0 in
include hK hV hQ hO hL hD in
theorem out8 (r l : ℕ) (hr : r < 2048) (hl : l < 512) : n2 (arg8.view.read (Elt Ideal) (bodyRun c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1) r l
    = ∑ k ∈ Finset.range 8, if l < 512 ∧ (256 * k ≤ r ∧ r < 2048) then tQ K V Q (KTf K) L D (DTf O) k l r else 0 := by
  obtain ⟨G, hG⟩ : ∃ G : ℕ → ℕ → EReal, ∀ r l, (∑ k ∈ Finset.range 8, if l < 512 ∧ (256 * k ≤ r ∧ r < 2048) then tQ K V Q (KTf K) L D (DTf O) k l r else 0) = G r l := ⟨_, fun _ _ => rfl⟩
  rw [hG r l]
  have key : ∀ F13 F14, (∀ r l, n2 (arg13.view.read (Elt Ideal) F13) r l = 0) → ∀ l r, n2 (arg13.view.read (Elt Ideal) (r13 c i arg2 harg2 arg3 harg3 arg4 harg4 arg5 harg5 arg6 harg6 arg7 harg7 arg8 harg8 arg9 harg9 arg10 harg10 arg11 harg11 arg12 harg12 arg13 harg13 arg14 harg14 k0_pay304 (bodyRun.sl.r_14 c arg5 f5) (bodyRun.sl.r_15 c arg5 f5) f2 f3 f4 f6 f7 (arg11.view.writes (Elt Ideal) arg11.view.junk (bodyRun.sl.H11_32 c arg3 f3)) (arg12.view.writes (Elt Ideal) arg12.view.junk (bodyRun.sl.H12_32 c arg5 f5)) f9 f10
      F13 F14 (Scf.trips k0_t1_loop.lb k0_t1_loop.ub k0_t1_loop.st))) l r
      = G r l := by
    intro F13 F14 hz l r
    rw [r13_eq, trips_eq]
    exact ((it_inv (hK := hK) (hV := hV) (hQ := hQ) (hL := hL) (hD := hD) (hKT := ktf c arg3 arg11 f3 hK) (hDT := dtf c arg5 arg12 f5 hO) (hz := hz) (n := 8) (hn := le_refl _) ..).2.1 l r).trans (hG r l)
  unfold bodyRun
  dsimp only
  rw [writesG2_f32 _ _ _ _ _ _ G ?h0, writesG2_f32 _ _ _ _ _ _ G ?h1, writesG2_f32 _ _ _ _ _ _ G ?h2, writesG2_f32 _ _ _ _ _ _ G ?h3, writesG2_f32 _ _ _ _ _ _ G ?h4, writesG2_f32 _ _ _ _ _ _ G ?h5, writesG2_f32 _ _ _ _ _ _ G ?h6, writesG2_f32 _ _ _ _ _ _ G ?h7, writesG2_f32 _ _ _ _ _ _ G ?h8, writesG2_f32 _ _ _ _ _ _ G ?h9, writesG2_f32 _ _ _ _ _ _ G ?h10, writesG2_f32 _ _ _ _ _ _ G ?h11, writesG2_f32 _ _ _ _ _ _ G ?h12, writesG2_f32 _ _ _ _ _ _ G ?h13, writesG2_f32 _ _ _ _ _ _ G ?h14, writesG2_f32 _ _ _ _ _ _ G ?h15, writesG2_f32 _ _ _ _ _ _ G ?h16, writesG2_f32 _ _ _ _ _ _ G ?h17, writesG2_f32 _ _ _ _ _ _ G ?h18, writesG2_f32 _ _ _ _ _ _ G ?h19, writesG2_f32 _ _ _ _ _ _ G ?h20, writesG2_f32 _ _ _ _ _ _ G ?h21, writesG2_f32 _ _ _ _ _ _ G ?h22, writesG2_f32 _ _ _ _ _ _ G ?h23, writesG2_f32 _ _ _ _ _ _ G ?h24, writesG2_f32 _ _ _ _ _ _ G ?h25, writesG2_f32 _ _ _ _ _ _ G ?h26, writesG2_f32 _ _ _ _ _ _ G ?h27, writesG2_f32 _ _ _ _ _ _ G ?h28, writesG2_f32 _ _ _ _ _ _ G ?h29, writesG2_f32 _ _ _ _ _ _ G ?h30, writesG2_f32 _ _ _ _ _ _ G ?h31]
  · show (if (1792 ≤ r ∧ r < 1792 + 256) ∧ (384 ≤ l ∧ l < 384 + 128) then _ else (if (1792 ≤ r ∧ r < 1792 + 256) ∧ (256 ≤ l ∧ l < 256 + 128) then _ else (if (1792 ≤ r ∧ r < 1792 + 256) ∧ (128 ≤ l ∧ l < 128 + 128) then _ else (if (1792 ≤ r ∧ r < 1792 + 256) ∧ (0 ≤ l ∧ l < 0 + 128) then _ else (if (1536 ≤ r ∧ r < 1536 + 256) ∧ (384 ≤ l ∧ l < 384 + 128) then _ else (if (1536 ≤ r ∧ r < 1536 + 256) ∧ (256 ≤ l ∧ l < 256 + 128) then _ else (if (1536 ≤ r ∧ r < 1536 + 256) ∧ (128 ≤ l ∧ l < 128 + 128) then _ else (if (1536 ≤ r ∧ r < 1536 + 256) ∧ (0 ≤ l ∧ l < 0 + 128) then _ else (if (1280 ≤ r ∧ r < 1280 + 256) ∧ (384 ≤ l ∧ l < 384 + 128) then _ else (if (1280 ≤ r ∧ r < 1280 + 256) ∧ (256 ≤ l ∧ l < 256 + 128) then _ else (if (1280 ≤ r ∧ r < 1280 + 256) ∧ (128 ≤ l ∧ l < 128 + 128) then _ else (if (1280 ≤ r ∧ r < 1280 + 256) ∧ (0 ≤ l ∧ l < 0 + 128) then _ else (if (1024 ≤ r ∧ r < 1024 + 256) ∧ (384 ≤ l ∧ l < 384 + 128) then _ else (if (1024 ≤ r ∧ r < 1024 + 256) ∧ (256 ≤ l ∧ l < 256 + 128) then _ else (if (1024 ≤ r ∧ r < 1024 + 256) ∧ (128 ≤ l ∧ l < 128 + 128) then _ else (if (1024 ≤ r ∧ r < 1024 + 256) ∧ (0 ≤ l ∧ l < 0 + 128) then _ else (if (768 ≤ r ∧ r < 768 + 256) ∧ (384 ≤ l ∧ l < 384 + 128) then _ else (if (768 ≤ r ∧ r < 768 + 256) ∧ (256 ≤ l ∧ l < 256 + 128) then _ else (if (768 ≤ r ∧ r < 768 + 256) ∧ (128 ≤ l ∧ l < 128 + 128) then _ else (if (768 ≤ r ∧ r < 768 + 256) ∧ (0 ≤ l ∧ l < 0 + 128) then _ else (if (512 ≤ r ∧ r < 512 + 256) ∧ (384 ≤ l ∧ l < 384 + 128) then _ else (if (512 ≤ r ∧ r < 512 + 256) ∧ (256 ≤ l ∧ l < 256 + 128) then _ else (if (512 ≤ r ∧ r < 512 + 256) ∧ (128 ≤ l ∧ l < 128 + 128) then _ else (if (512 ≤ r ∧ r < 512 + 256) ∧ (0 ≤ l ∧ l < 0 + 128) then _ else (if (256 ≤ r ∧ r < 256 + 256) ∧ (384 ≤ l ∧ l < 384 + 128) then _ else (if (256 ≤ r ∧ r < 256 + 256) ∧ (256 ≤ l ∧ l < 256 + 128) then _ else (if (256 ≤ r ∧ r < 256 + 256) ∧ (128 ≤ l ∧ l < 128 + 128) then _ else (if (256 ≤ r ∧ r < 256 + 256) ∧ (0 ≤ l ∧ l < 0 + 128) then _ else (if (0 ≤ r ∧ r < 0 + 256) ∧ (384 ≤ l ∧ l < 384 + 128) then _ else (if (0 ≤ r ∧ r < 0 + 256) ∧ (256 ≤ l ∧ l < 256 + 128) then _ else (if (0 ≤ r ∧ r < 0 + 256) ∧ (128 ≤ l ∧ l < 128 + 128) then _ else (if (0 ≤ r ∧ r < 0 + 256) ∧ (0 ≤ l ∧ l < 0 + 128) then G r l else n2 (arg8.view.read (Elt Ideal) (arg8.view.writes (Elt Ideal) f8 [])) r l)))))))))))))))))))))))))))))))) = _
    generalize G r l = X
    have hl2 : (0 ≤ l ∧ l < 0 + 128) ∨ (128 ≤ l ∧ l < 128 + 128) ∨ (256 ≤ l ∧ l < 256 + 128) ∨ (384 ≤ l ∧ l < 384 + 128) := by omega
    have hr2 : (0 ≤ r ∧ r < 0 + 256) ∨ (256 ≤ r ∧ r < 256 + 256) ∨ (512 ≤ r ∧ r < 512 + 256) ∨ (768 ≤ r ∧ r < 768 + 256) ∨ (1024 ≤ r ∧ r < 1024 + 256) ∨ (1280 ≤ r ∧ r < 1280 + 256) ∨ (1536 ≤ r ∧ r < 1536 + 256) ∨ (1792 ≤ r ∧ r < 1792 + 256) := by omega
    rcases hr2 with hr2 | hr2 | hr2 | hr2 | hr2 | hr2 | hr2 | hr2 <;> rcases hl2 with hl2 | hl2 | hl2 | hl2
    all_goals
      have hP := And.intro hr2 hl2
      rw [if_pos hP]
      repeat first | refine ite_step (fun _ => rfl) (fun _ => ?_) | rfl
  all_goals intro a b
  case' h0 => unfold_payloads; pointwise; unfold bodyRun.sl.v611
  case' h1 => unfold_payloads; pointwise; unfold bodyRun.sl.v608
  case' h2 => unfold bodyRun.sl.v606; pointwise; unfold bodyRun.sl.v605
  case' h3 => unfold bodyRun.sl.v603; pointwise; unfold bodyRun.sl.v602
  case' h4 => unfold bodyRun.sl.v600; pointwise; unfold bodyRun.sl.v599
  case' h5 => unfold bodyRun.sl.v597; pointwise; unfold bodyRun.sl.v596
  case' h6 => unfold bodyRun.sl.v594; pointwise; unfold bodyRun.sl.v593
  case' h7 => unfold bodyRun.sl.v591; pointwise; unfold bodyRun.sl.v590
  case' h8 => unfold bodyRun.sl.v588; pointwise; unfold bodyRun.sl.v587
  case' h9 => unfold bodyRun.sl.v585; pointwise; unfold bodyRun.sl.v584
  case' h10 => unfold bodyRun.sl.v582; pointwise; unfold bodyRun.sl.v581
  case' h11 => unfold bodyRun.sl.v579; pointwise; unfold bodyRun.sl.v578
  case' h12 => unfold bodyRun.sl.v576; pointwise; unfold bodyRun.sl.v575
  case' h13 => unfold bodyRun.sl.v573; pointwise; unfold bodyRun.sl.v572
  case' h14 => unfold bodyRun.sl.v570; pointwise; unfold bodyRun.sl.v569
  case' h15 => unfold bodyRun.sl.v567; pointwise; unfold bodyRun.sl.v566
  case' h16 => unfold bodyRun.sl.v564; pointwise; unfold bodyRun.sl.v563
  case' h17 => unfold bodyRun.sl.v561; pointwise; unfold bodyRun.sl.v560
  case' h18 => unfold bodyRun.sl.v558; pointwise; unfold bodyRun.sl.v557
  case' h19 => unfold bodyRun.sl.v555; pointwise; unfold bodyRun.sl.v554
  case' h20 => unfold bodyRun.sl.v552; pointwise; unfold bodyRun.sl.v551
  case' h21 => unfold bodyRun.sl.v549; pointwise; unfold bodyRun.sl.v548
  case' h22 => unfold bodyRun.sl.v546; pointwise; unfold bodyRun.sl.v545
  case' h23 => unfold bodyRun.sl.v543; pointwise; unfold bodyRun.sl.v542
  case' h24 => unfold bodyRun.sl.v540; pointwise; unfold bodyRun.sl.v539
  case' h25 => unfold bodyRun.sl.v537; pointwise; unfold bodyRun.sl.v536
  case' h26 => unfold bodyRun.sl.v534; pointwise; unfold bodyRun.sl.v533
  case' h27 => unfold bodyRun.sl.v531; pointwise; unfold bodyRun.sl.v530
  case' h28 => unfold bodyRun.sl.v528; pointwise; unfold bodyRun.sl.v527
  case' h29 => unfold bodyRun.sl.v525; pointwise; unfold bodyRun.sl.v524
  case' h30 => unfold bodyRun.sl.v522; pointwise; unfold bodyRun.sl.v521
  case' h31 => unfold bodyRun.sl.v519; pointwise; unfold bodyRun.sl.v518
  all_goals
    simp only [readAt2_f32, Nat.zero_add, Nat.add_zero, Fin.val_zero, Matrix.cons_val]
    exact key _ _ (zero13 arg13) _ _

end

end Cert.Proof.Mla

end
-- ==== Proof.Sum.lean ====
/- The gradients' entries as sums over all the keys or all the queries. -/
module

public import proofs.«01_k».proof.Proof.Out

@[expose] public section

set_option maxRecDepth 16384

noncomputable section

namespace Cert.Proof.Mla

open Cert.KernelIdeal Cert.KernelIdeal.Gen
open Idealize.ShloMosaic Idealize.ShloMosaic.TcCoe Idealize.ShloMosaic.Tactic

variable (K V Q L D O : ℕ → ℕ → EReal)

/-- The gradient of the score of key `j` for query `i` in head `h`. -/
def dMc (h j i : ℕ) : EReal :=
  pM K Q L h j i * ((∑ z : Fin 64, V j (64 * h + z.val) * O i (64 * h + z.val)) - D h i)

theorem half_sum (f g : ℕ → EReal) (h : ℕ) :
    (∑ x : Fin 128, f (128 * (h / 2) + x.val) * (if (x.val < 64 ↔ h % 2 = 0) then g (128 * (h / 2) + x.val) else 0))
      = ∑ z : Fin 64, f (64 * h + z.val) * g (64 * h + z.val) := by
  rw [show (∑ x : Fin 128, f (128 * (h / 2) + x.val) * (if (x.val < 64 ↔ h % 2 = 0) then g (128 * (h / 2) + x.val) else 0))
    = (∑ x : Fin 64, f (128 * (h / 2) + x.val) * (if (x.val < 64 ↔ h % 2 = 0) then g (128 * (h / 2) + x.val) else 0))
      + ∑ x : Fin 64, f (128 * (h / 2) + (64 + x.val)) * (if (64 + x.val < 64 ↔ h % 2 = 0) then g (128 * (h / 2) + (64 + x.val)) else 0)
    from Fin.sum_univ_add (M := EReal) (a := 64) (b := 64) _]
  rcases Nat.mod_two_eq_zero_or_one h with e | e
  · have e2 : 128 * (h / 2) = 64 * h := by omega
    rw [Finset.sum_eq_zero (s := Finset.univ) (f := fun x : Fin 64 => f (128 * (h / 2) + (64 + x.val)) * (if (64 + x.val < 64 ↔ h % 2 = 0) then g (128 * (h / 2) + (64 + x.val)) else 0)), add_zero]
    · refine Finset.sum_congr rfl fun x _ => ?_
      rw [if_pos (by have := x.2; simp [e]), e2]
    · intro x _
      rw [if_neg (by rw [e]; simp), mul_zero]
  · have e2 : 128 * (h / 2) + 64 = 64 * h := by omega
    rw [Finset.sum_eq_zero (s := Finset.univ) (f := fun x : Fin 64 => f (128 * (h / 2) + x.val) * (if (x.val < 64 ↔ h % 2 = 0) then g (128 * (h / 2) + x.val) else 0)), zero_add]
    · refine Finset.sum_congr rfl fun x _ => ?_
      rw [if_pos (by rw [e]; simp), ← Nat.add_assoc, e2]
    · intro x _
      rw [if_neg (by have := x.2; rw [e]; simp), mul_zero]

theorem dM_c (h j i : ℕ) (hh : h < 4) (hi : i < 2048) : dM K V Q L D (DTf O) h j i = dMc K V Q L D O h j i := by
  unfold dM dMc
  rw [← half_sum (V j) (O i) h]
  refine congrArg (fun s => pM K Q L h j i * (s - D h i)) (Finset.sum_congr rfl fun x _ => ?_)
  unfold DTf
  rw [if_pos ⟨hh, x.2, hi⟩]

theorem dM_zero {h j i : ℕ} (hij : i < j) (DT) : dM K V Q L D DT h j i = 0 := by
  unfold dM pM
  rw [if_neg (by omega), zero_mul]

theorem tiles (f : ℕ → EReal) (n : ℕ) :
    (∑ k ∈ Finset.range n, ∑ x : Fin 256, f (256 * k + x.val)) = ∑ i ∈ Finset.range (256 * n), f i := by
  induction n with
  | zero => simp
  | succ n ih =>
    rw [Finset.sum_range_succ, ih, Nat.mul_succ, Finset.sum_range_add, Fin.sum_univ_eq_sum_range (fun x => f (256 * n + x)) 256]

theorem tail_sum (g : ℕ → EReal) (k : ℕ) (hk : k ≤ 8) (hg : ∀ q < k, g q = 0) :
    (∑ x ∈ Finset.range (8 - k), g (k + x)) = ∑ q ∈ Finset.range 8, g q := by
  conv_rhs => rw [show 8 = k + (8 - k) by omega, Finset.sum_range_add]
  rw [Finset.sum_eq_zero (s := Finset.range k) (fun q hq => hg q (Finset.mem_range.mp hq)), zero_add]

theorem sK_c (r l : ℕ) (hr : r < 2048) (hl : l < 512) :
    sK K V Q L D (DTf O) (r / 256) r l = ∑ i : Fin 2048, dMc K V Q L D O (l / 128) r i.val * Q i.val l := by
  unfold sK
  rw [tail_sum (fun q => tK K V Q L D (DTf O) q r l) (r / 256) (by omega)]
  · unfold tK
    rw [tiles (fun i => dM K V Q L D (DTf O) (l / 128) r i * Q i l) 8, Fin.sum_univ_eq_sum_range (fun i => dMc K V Q L D O (l / 128) r i * Q i l) 2048]
    refine Finset.sum_congr rfl fun i hi => ?_
    rw [dM_c _ _ _ _ _ _ _ _ _ (by omega) (Finset.mem_range.mp hi)]
  · intro q hq
    unfold tK
    refine Finset.sum_eq_zero fun x _ => ?_
    rw [dM_zero _ _ _ _ _ (by have := x.2; omega), zero_mul]

theorem sV_c (r l : ℕ) (hr : r < 2048) (hl : l < 256) :
    sV K Q L (DTf O) (r / 256) l (r % 256) = ∑ i : Fin 2048, O i.val l * pM K Q L (l / 64) r i.val := by
  unfold sV
  have er : 256 * (r / 256) + r % 256 = r := Nat.div_add_mod r 256
  rw [tail_sum (fun q => tV K Q L (DTf O) (r / 256) q l (r % 256)) (r / 256) (by omega)]
  · unfold tV
    rw [er, tiles (fun i => DTf O (l / 64) (l % 128) i * pM K Q L (l / 64) r i) 8, Fin.sum_univ_eq_sum_range (fun i => O i l * pM K Q L (l / 64) r i) 2048]
    refine Finset.sum_congr rfl fun i hi => ?_
    unfold DTf
    have hi := Finset.mem_range.mp hi
    rw [if_pos ⟨by omega, by omega, hi⟩, if_pos (by omega), show 128 * (l / 64 / 2) + l % 128 = l by omega]
  · intro q hq
    unfold tV
    refine Finset.sum_eq_zero fun x _ => ?_
    unfold pM
    rw [if_neg (by have := x.2; omega), mul_zero]

theorem sQ_c (r l : ℕ) (hr : r < 2048) (hl : l < 512) :
    (∑ k ∈ Finset.range 8, if l < 512 ∧ (256 * k ≤ r ∧ r < 2048) then tQ K V Q (KTf K) L D (DTf O) k l r else 0)
      = ∑ j : Fin 2048, K j.val l * dMc K V Q L D O (l / 128) j.val r := by
  rw [Finset.sum_congr (s₂ := Finset.range 8) (g := fun k => tQ K V Q (KTf K) L D (DTf O) k l r) rfl]
  · unfold tQ
    rw [tiles (fun j => KTf K l j * dM K V Q L D (DTf O) (l / 128) j r) 8, Fin.sum_univ_eq_sum_range (fun j => K j l * dMc K V Q L D O (l / 128) j r) 2048]
    refine Finset.sum_congr rfl fun j hj => ?_
    unfold KTf
    rw [if_pos ⟨hl, Finset.mem_range.mp hj⟩, dM_c _ _ _ _ _ _ _ _ _ (by omega) hr]
  · intro k _
    split_ifs with h
    · rfl
    · unfold tQ
      refine (Finset.sum_eq_zero fun x _ => ?_).symm
      rw [dM_zero _ _ _ _ _ (by omega), mul_zero]

end Cert.Proof.Mla

end
-- ==== Proof.Arr.lean ====
/- The gradients' arrays after the call, at an index, from the arrays before it. -/
module

public import proofs.«01_k».proof.Proof.Sum
public import proofs.«01_k».proof.Proof.Run
public import Idealize.ShloMosaic.Lib.Pipeline.ArrRel
public import Idealize.ShloMosaic.Lib.Pipeline.ValueKit.Geometry

@[expose] public section

set_option maxRecDepth 16384

noncomputable section

namespace Cert.Proof.Mla

open Cert.KernelIdeal Cert.KernelIdeal.Gen
open Idealize.ShloMosaic Idealize.ShloMosaic.TcCoe Idealize.ShloMosaic.Tactic

open Idealize.SL Idealize.SL.Sem
open Idealize.ShloMosaic.Pipeline (Dat RDat Cfg Window)

variable (m : (ℓ : Loc nD τ sig) → Buf (Elt Ideal) ℓ)

theorem ix_w0 : ∀ t : Fin cfg0.N, win0_0.index t = ![(grid0.coords t 0).val, (grid0.coords t 1).val] := by decide +kernel
theorem ix_w1 : ∀ t : Fin cfg0.N, win0_1.index t = ![(grid0.coords t 0).val, (grid0.coords t 1).val] := by decide +kernel
theorem ix_w2 : ∀ t : Fin cfg0.N, win0_2.index t = ![(grid0.coords t 0).val, (grid0.coords t 1).val] := by decide +kernel
theorem ix_w3 : ∀ t : Fin cfg0.N, win0_3.index t = ![(grid0.coords t 0).val, (grid0.coords t 1).val] := by decide +kernel
theorem ix_w4 : ∀ t : Fin cfg0.N, win0_4.index t = ![(grid0.coords t 1).val, 0, (grid0.coords t 0).val] := by decide +kernel
theorem ix_w5 : ∀ t : Fin cfg0.N, win0_5.index t = ![(grid0.coords t 0).val, (grid0.coords t 1).val, 0, 0] := by decide +kernel
theorem ix_w6 : ∀ t : Fin cfg0.N, win0_6.index t = ![(grid0.coords t 0).val, (grid0.coords t 1).val] := by decide +kernel
theorem ix_w7 : ∀ t : Fin cfg0.N, win0_7.index t = ![(grid0.coords t 0).val, (grid0.coords t 1).val] := by decide +kernel
theorem ix_w8 : ∀ t : Fin cfg0.N, win0_8.index t = ![(grid0.coords t 0).val, (grid0.coords t 1).val] := by decide +kernel

/-- A block of a matrix whose blocks are `h` rows by `w` columns. -/
def bk (h w : ℕ) (X : ℕ → ℕ → EReal) (b g r l : ℕ) : EReal := if r < h ∧ l < w then X (h * b + r) (w * g + l) else 0

/-- The four rows of row terms of a block of heads. -/
def bD (X : ℕ → ℕ → ℕ → EReal) (b g r l : ℕ) : EReal := if r < 4 ∧ l < 2048 then X g r (2048 * b + l) else 0
def bL (X : ℕ → ℕ → ℕ → ℕ → EReal) (b g r l : ℕ) : EReal := if r < 4 ∧ l < 2048 then X b g r l else 0

theorem blk0 (c : Dev nD) (t : Fin cfg0.N) : n2 (a := 2048) (b := 512) (iblk m c 0 t)
    = bk 2048 512 (n2 (a := 8192) (b := 1024) (V m c main_v40)) (grid0.coords t 0).val (grid0.coords t 1).val := by
  funext r l
  unfold bk
  have h0 : (grid0.coords t 0).val < 4 := (grid0.coords t 0).2
  have h1 : (grid0.coords t 1).val < 2 := (grid0.coords t 1).2
  split_ifs with h
  · rw [n2, dif_pos h, n2, dif_pos ⟨by omega, by omega⟩]
    blk_ext [iblk, ix_w0]
  · rw [n2, dif_neg h]

theorem blk1 (c : Dev nD) (t : Fin cfg0.N) : n2 (a := 2048) (b := 512) (iblk m c 1 t)
    = bk 2048 512 (n2 (a := 8192) (b := 1024) (V m c main_arg1)) (grid0.coords t 0).val (grid0.coords t 1).val := by
  funext r l
  unfold bk
  have h0 : (grid0.coords t 0).val < 4 := (grid0.coords t 0).2
  have h1 : (grid0.coords t 1).val < 2 := (grid0.coords t 1).2
  split_ifs with h
  · rw [n2, dif_pos h, n2, dif_pos ⟨by omega, by omega⟩]
    blk_ext [iblk, ix_w1]
  · rw [n2, dif_neg h]

theorem blk2 (c : Dev nD) (t : Fin cfg0.N) : n2 (a := 2048) (b := 256) (iblk m c 2 t)
    = bk 2048 256 (n2 (a := 8192) (b := 512) (V m c main_arg2)) (grid0.coords t 0).val (grid0.coords t 1).val := by
  funext r l
  unfold bk
  have h0 : (grid0.coords t 0).val < 4 := (grid0.coords t 0).2
  have h1 : (grid0.coords t 1).val < 2 := (grid0.coords t 1).2
  split_ifs with h
  · rw [n2, dif_pos h, n2, dif_pos ⟨by omega, by omega⟩]
    blk_ext [iblk, ix_w2]
  · rw [n2, dif_neg h]

theorem blk3 (c : Dev nD) (t : Fin cfg0.N) : n2 (a := 2048) (b := 256) (iblk m c 3 t)
    = bk 2048 256 (n2 (a := 8192) (b := 512) (V m c main_arg3)) (grid0.coords t 0).val (grid0.coords t 1).val := by
  funext r l
  unfold bk
  have h0 : (grid0.coords t 0).val < 4 := (grid0.coords t 0).2
  have h1 : (grid0.coords t 1).val < 2 := (grid0.coords t 1).2
  split_ifs with h
  · rw [n2, dif_pos h, n2, dif_pos ⟨by omega, by omega⟩]
    blk_ext [iblk, ix_w3]
  · rw [n2, dif_neg h]

theorem blk4 (c : Dev nD) (t : Fin cfg0.N) : n3 (a := 1) (b := 4) (c := 2048) (iblk m c 4 t) 0
    = bD (n3 (a := 2) (b := 4) (c := 8192) (V m c main_v42)) (grid0.coords t 0).val (grid0.coords t 1).val := by
  funext r l
  unfold bD
  have h0 : (grid0.coords t 0).val < 4 := (grid0.coords t 0).2
  have h1 : (grid0.coords t 1).val < 2 := (grid0.coords t 1).2
  split_ifs with h
  · rw [n3, dif_pos ⟨by omega, h⟩, n3, dif_pos ⟨by omega, by omega, by omega⟩]
    blk_ext [iblk, ix_w4]
  · rw [n3, dif_neg (fun e => h e.2)]

theorem blk5 (c : Dev nD) (t : Fin cfg0.N) : n4 (a := 1) (b := 1) (c := 4) (d := 2048) (iblk m c 5 t) 0 0
    = bL (n4 (a := 4) (b := 2) (c := 4) (d := 2048) (V m c main_v43)) (grid0.coords t 0).val (grid0.coords t 1).val := by
  funext r l
  unfold bL
  have h0 : (grid0.coords t 0).val < 4 := (grid0.coords t 0).2
  have h1 : (grid0.coords t 1).val < 2 := (grid0.coords t 1).2
  split_ifs with h
  · rw [n4, dif_pos ⟨by omega, by omega, h⟩, n4, dif_pos ⟨by omega, by omega, by omega, by omega⟩]
    blk_ext [iblk, ix_w5]
  · rw [n4, dif_neg (fun e => h e.2.2)]

section
variable (c : Dev nD)
/-- The blocks of a sequence `b` and a group `g` of four heads. -/
def qB : ℕ → ℕ → ℕ → ℕ → EReal := bk 2048 512 (n2 (a := 8192) (b := 1024) (V m c main_v40))
def kB : ℕ → ℕ → ℕ → ℕ → EReal := bk 2048 512 (n2 (a := 8192) (b := 1024) (V m c main_arg1))
def vB : ℕ → ℕ → ℕ → ℕ → EReal := bk 2048 256 (n2 (a := 8192) (b := 512) (V m c main_arg2))
def oB : ℕ → ℕ → ℕ → ℕ → EReal := bk 2048 256 (n2 (a := 8192) (b := 512) (V m c main_arg3))
def dB : ℕ → ℕ → ℕ → ℕ → EReal := bD (n3 (a := 2) (b := 4) (c := 8192) (V m c main_v42))
def lB : ℕ → ℕ → ℕ → ℕ → EReal := bL (n4 (a := 4) (b := 2) (c := 4) (d := 2048) (V m c main_v43))

/-- The gradients' arrays, at a row and a column. -/
def gQ (b g r l : ℕ) : EReal :=
  ∑ j : Fin 2048, kB m c b g j.val l * dMc (kB m c b g) (vB m c b g) (qB m c b g) (lB m c b g) (dB m c b g) (oB m c b g) (l / 128) j.val r
def gK (b g r l : ℕ) : EReal :=
  ∑ i : Fin 2048, dMc (kB m c b g) (vB m c b g) (qB m c b g) (lB m c b g) (dB m c b g) (oB m c b g) (l / 128) r i.val * qB m c b g i.val l
def gV (b g r l : ℕ) : EReal :=
  ∑ i : Fin 2048, oB m c b g i.val l * pM (kB m c b g) (qB m c b g) (lB m c b g) (l / 64) r i.val
end

theorem left6 (c : Dev nD) (t : Fin cfg0.N) (X : S2048x512.Idx → EReal) (h : Rl m c 6 t X) (a : Fin 2048) (b : Fin 512) :
    X (ix2 a b) = gQ m c (grid0.coords t 0).val (grid0.coords t 1).val a.val b.val := by
  obtain ⟨f8, f9, f10, f11, f12, f13, f14, rfl⟩ := h
  have e := out8 c (grid0.coords t) (st0_0 t) (hst 0 t) (st0_1 t) (hst 1 t) (st0_2 t) (hst 2 t) (st0_3 t) (hst 3 t) (st0_4 t) (hst 4 t) (st0_5 t) (hst 5 t) (st0_6 t) (hst 6 t) (st0_7 t) (hst 7 t) (st0_8 t) (hst 8 t) (Memref.whole cc0_scratch0) (Memref.isWhole_whole _) (Memref.whole cc0_scratch1) (Memref.isWhole_whole _) (Memref.whole cc0_scratch2) (Memref.isWhole_whole _) (Memref.whole cc0_scratch3) (Memref.isWhole_whole _)
    ((hst 0 t).unread (iblk m c 0 t)) ((hst 1 t).unread (iblk m c 1 t)) ((hst 2 t).unread (iblk m c 2 t)) ((hst 3 t).unread (iblk m c 3 t)) ((hst 4 t).unread (iblk m c 4 t)) ((hst 5 t).unread (iblk m c 5 t)) f8 f9 f10 f11 f12 f13 f14
    (K := kB m c (grid0.coords t 0).val (grid0.coords t 1).val) (V := vB m c (grid0.coords t 0).val (grid0.coords t 1).val) (Q := qB m c (grid0.coords t 0).val (grid0.coords t 1).val)
    (O := oB m c (grid0.coords t 0).val (grid0.coords t 1).val) (L := lB m c (grid0.coords t 0).val (grid0.coords t 1).val) (D := dB m c (grid0.coords t 0).val (grid0.coords t 1).val)
    (hK := (congrArg _ ((hst 1 t).read_unread _)).trans (blk1 m c t)) (hV := (congrArg _ ((hst 2 t).read_unread _)).trans (blk2 m c t))
    (hQ := (congrArg _ ((hst 0 t).read_unread _)).trans (blk0 m c t)) (hO := (congrArg _ ((hst 3 t).read_unread _)).trans (blk3 m c t))
    (hL := (congrArg (fun z => n4 z 0 0) ((hst 5 t).read_unread _)).trans (blk5 m c t)) (hD := (congrArg (fun z => n3 z 0) ((hst 4 t).read_unread _)).trans (blk4 m c t))
    (r := a.val) (l := b.val) a.2 b.2
  rw [sQ_c _ _ _ _ _ _ a.val b.val a.2 b.2] at e
  exact (n2_ix _ a b).trans e

theorem left7 (c : Dev nD) (t : Fin cfg0.N) (X : S2048x512.Idx → EReal) (h : Rl m c 7 t X) (a : Fin 2048) (b : Fin 512) :
    X (ix2 a b) = gK m c (grid0.coords t 0).val (grid0.coords t 1).val a.val b.val := by
  obtain ⟨f8, f9, f10, f11, f12, f13, f14, rfl⟩ := h
  have e := out9 c (grid0.coords t) (st0_0 t) (hst 0 t) (st0_1 t) (hst 1 t) (st0_2 t) (hst 2 t) (st0_3 t) (hst 3 t) (st0_4 t) (hst 4 t) (st0_5 t) (hst 5 t) (st0_6 t) (hst 6 t) (st0_7 t) (hst 7 t) (st0_8 t) (hst 8 t) (Memref.whole cc0_scratch0) (Memref.isWhole_whole _) (Memref.whole cc0_scratch1) (Memref.isWhole_whole _) (Memref.whole cc0_scratch2) (Memref.isWhole_whole _) (Memref.whole cc0_scratch3) (Memref.isWhole_whole _)
    ((hst 0 t).unread (iblk m c 0 t)) ((hst 1 t).unread (iblk m c 1 t)) ((hst 2 t).unread (iblk m c 2 t)) ((hst 3 t).unread (iblk m c 3 t)) ((hst 4 t).unread (iblk m c 4 t)) ((hst 5 t).unread (iblk m c 5 t)) f8 f9 f10 f11 f12 f13 f14
    (K := kB m c (grid0.coords t 0).val (grid0.coords t 1).val) (V := vB m c (grid0.coords t 0).val (grid0.coords t 1).val) (Q := qB m c (grid0.coords t 0).val (grid0.coords t 1).val)
    (O := oB m c (grid0.coords t 0).val (grid0.coords t 1).val) (L := lB m c (grid0.coords t 0).val (grid0.coords t 1).val) (D := dB m c (grid0.coords t 0).val (grid0.coords t 1).val)
    (hK := (congrArg _ ((hst 1 t).read_unread _)).trans (blk1 m c t)) (hV := (congrArg _ ((hst 2 t).read_unread _)).trans (blk2 m c t))
    (hQ := (congrArg _ ((hst 0 t).read_unread _)).trans (blk0 m c t)) (hO := (congrArg _ ((hst 3 t).read_unread _)).trans (blk3 m c t))
    (hL := (congrArg (fun z => n4 z 0 0) ((hst 5 t).read_unread _)).trans (blk5 m c t)) (hD := (congrArg (fun z => n3 z 0) ((hst 4 t).read_unread _)).trans (blk4 m c t))
    (r := a.val) (l := b.val) a.2 b.2
  rw [sK_c _ _ _ _ _ _ a.val b.val a.2 b.2] at e
  exact (n2_ix _ a b).trans e

theorem left8 (c : Dev nD) (t : Fin cfg0.N) (X : S2048x256.Idx → EReal) (h : Rl m c 8 t X) (a : Fin 2048) (b : Fin 256) :
    X (ix2 a b) = gV m c (grid0.coords t 0).val (grid0.coords t 1).val a.val b.val := by
  obtain ⟨f8, f9, f10, f11, f12, f13, f14, rfl⟩ := h
  have e := out10 c (grid0.coords t) (st0_0 t) (hst 0 t) (st0_1 t) (hst 1 t) (st0_2 t) (hst 2 t) (st0_3 t) (hst 3 t) (st0_4 t) (hst 4 t) (st0_5 t) (hst 5 t) (st0_6 t) (hst 6 t) (st0_7 t) (hst 7 t) (st0_8 t) (hst 8 t) (Memref.whole cc0_scratch0) (Memref.isWhole_whole _) (Memref.whole cc0_scratch1) (Memref.isWhole_whole _) (Memref.whole cc0_scratch2) (Memref.isWhole_whole _) (Memref.whole cc0_scratch3) (Memref.isWhole_whole _)
    ((hst 0 t).unread (iblk m c 0 t)) ((hst 1 t).unread (iblk m c 1 t)) ((hst 2 t).unread (iblk m c 2 t)) ((hst 3 t).unread (iblk m c 3 t)) ((hst 4 t).unread (iblk m c 4 t)) ((hst 5 t).unread (iblk m c 5 t)) f8 f9 f10 f11 f12 f13 f14
    (K := kB m c (grid0.coords t 0).val (grid0.coords t 1).val) (V := vB m c (grid0.coords t 0).val (grid0.coords t 1).val) (Q := qB m c (grid0.coords t 0).val (grid0.coords t 1).val)
    (O := oB m c (grid0.coords t 0).val (grid0.coords t 1).val) (L := lB m c (grid0.coords t 0).val (grid0.coords t 1).val) (D := dB m c (grid0.coords t 0).val (grid0.coords t 1).val)
    (hK := (congrArg _ ((hst 1 t).read_unread _)).trans (blk1 m c t)) (hV := (congrArg _ ((hst 2 t).read_unread _)).trans (blk2 m c t))
    (hQ := (congrArg _ ((hst 0 t).read_unread _)).trans (blk0 m c t)) (hO := (congrArg _ ((hst 3 t).read_unread _)).trans (blk3 m c t))
    (hL := (congrArg (fun z => n4 z 0 0) ((hst 5 t).read_unread _)).trans (blk5 m c t)) (hD := (congrArg (fun z => n3 z 0) ((hst 4 t).read_unread _)).trans (blk4 m c t))
    (r := a.val) (l := b.val) a.2 b.2
  rw [sV_c _ _ _ _ a.val b.val a.2 b.2] at e
  exact (n2_ix _ a b).trans e

theorem arr6 (c : Dev nD) {r : PUnit × MemSt nD τ sig (Elt Ideal)} (h : RDat.FramePost cfg0 (fun c => (dats m 0 c).toRRel fgt (Rl m c)) (V m) r)
    (R : Fin 8192) (C : Fin 1024) :
    (show S8192x1024.Idx → EReal from r.2.mem ((c.tc : Thread nD τ).loc main_v44_0)) (ix2 R C) = gQ m c (R.val / 2048) (C.val / 512) (R.val % 2048) (C.val % 512) := by
  obtain ⟨after, hl, ha⟩ := RDat.FramePost.exists_exact h c
  have key := (RDat.withAfter ((dats m 0 c).toRRel fgt (Rl m c)) after).arrAt_eq_of_covers 6
    (fun i => gQ m c ((i 0).val / 2048) ((i 1).val / 512) ((i 0).val % 2048) ((i 1).val % 512)) (by decide +kernel) (fun t hf y => by
      have hX := left6 m c t (after 6 t) (Dat.toRRel_leaves (dats m 0 c) rfl (hl 6 t hf))
      have h0 : (grid0.coords t 0).val < 4 := (grid0.coords t 0).2
      have h1 : (grid0.coords t 1).val < 2 := (grid0.coords t 1).2
      rw [RDat.withAfter_after]
      idx_bounds y
      blk_simp [ix_w6]
      rw [show ((grid0.coords t 0).val * 2048 + (y 0).val) / 2048 = (grid0.coords t 0).val by omega, show ((grid0.coords t 1).val * 512 + (y 1).val) / 512 = (grid0.coords t 1).val by omega,
        show ((grid0.coords t 0).val * 2048 + (y 0).val) % 2048 = (y 0).val by omega, show ((grid0.coords t 1).val * 512 + (y 1).val) % 512 = (y 1).val by omega]
      exact (congrArg (after 6 t) (eq_ix2 (n0 := 2048) (n1 := 512) y)).trans (hX (y 0) (y 1)))
  exact congrFun ((ha 6).trans key) (ix2 R C)

theorem arr7 (c : Dev nD) {r : PUnit × MemSt nD τ sig (Elt Ideal)} (h : RDat.FramePost cfg0 (fun c => (dats m 0 c).toRRel fgt (Rl m c)) (V m) r)
    (R : Fin 8192) (C : Fin 1024) :
    (show S8192x1024.Idx → EReal from r.2.mem ((c.tc : Thread nD τ).loc main_v44_1)) (ix2 R C) = gK m c (R.val / 2048) (C.val / 512) (R.val % 2048) (C.val % 512) := by
  obtain ⟨after, hl, ha⟩ := RDat.FramePost.exists_exact h c
  have key := (RDat.withAfter ((dats m 0 c).toRRel fgt (Rl m c)) after).arrAt_eq_of_covers 7
    (fun i => gK m c ((i 0).val / 2048) ((i 1).val / 512) ((i 0).val % 2048) ((i 1).val % 512)) (by decide +kernel) (fun t hf y => by
      have hX := left7 m c t (after 7 t) (Dat.toRRel_leaves (dats m 0 c) rfl (hl 7 t hf))
      have h0 : (grid0.coords t 0).val < 4 := (grid0.coords t 0).2
      have h1 : (grid0.coords t 1).val < 2 := (grid0.coords t 1).2
      rw [RDat.withAfter_after]
      idx_bounds y
      blk_simp [ix_w7]
      rw [show ((grid0.coords t 0).val * 2048 + (y 0).val) / 2048 = (grid0.coords t 0).val by omega, show ((grid0.coords t 1).val * 512 + (y 1).val) / 512 = (grid0.coords t 1).val by omega,
        show ((grid0.coords t 0).val * 2048 + (y 0).val) % 2048 = (y 0).val by omega, show ((grid0.coords t 1).val * 512 + (y 1).val) % 512 = (y 1).val by omega]
      exact (congrArg (after 7 t) (eq_ix2 (n0 := 2048) (n1 := 512) y)).trans (hX (y 0) (y 1)))
  exact congrFun ((ha 7).trans key) (ix2 R C)

theorem arr8 (c : Dev nD) {r : PUnit × MemSt nD τ sig (Elt Ideal)} (h : RDat.FramePost cfg0 (fun c => (dats m 0 c).toRRel fgt (Rl m c)) (V m) r)
    (R : Fin 8192) (C : Fin 512) :
    (show S8192x512.Idx → EReal from r.2.mem ((c.tc : Thread nD τ).loc main_v44_2)) (ix2 R C) = gV m c (R.val / 2048) (C.val / 256) (R.val % 2048) (C.val % 256) := by
  obtain ⟨after, hl, ha⟩ := RDat.FramePost.exists_exact h c
  have key := (RDat.withAfter ((dats m 0 c).toRRel fgt (Rl m c)) after).arrAt_eq_of_covers 8
    (fun i => gV m c ((i 0).val / 2048) ((i 1).val / 256) ((i 0).val % 2048) ((i 1).val % 256)) (by decide +kernel) (fun t hf y => by
      have hX := left8 m c t (after 8 t) (Dat.toRRel_leaves (dats m 0 c) rfl (hl 8 t hf))
      have h0 : (grid0.coords t 0).val < 4 := (grid0.coords t 0).2
      have h1 : (grid0.coords t 1).val < 2 := (grid0.coords t 1).2
      rw [RDat.withAfter_after]
      idx_bounds y
      blk_simp [ix_w8]
      rw [show ((grid0.coords t 0).val * 2048 + (y 0).val) / 2048 = (grid0.coords t 0).val by omega, show ((grid0.coords t 1).val * 256 + (y 1).val) / 256 = (grid0.coords t 1).val by omega,
        show ((grid0.coords t 0).val * 2048 + (y 0).val) % 2048 = (y 0).val by omega, show ((grid0.coords t 1).val * 256 + (y 1).val) % 256 = (y 1).val by omega]
      exact (congrArg (after 8 t) (eq_ix2 (n0 := 2048) (n1 := 256) y)).trans (hX (y 0) (y 1)))
  exact congrFun ((ha 8).trans key) (ix2 R C)

end Cert.Proof.Mla

end
-- ==== Proof.Host.lean ====
/- What the call finds in its arrays, at an index. -/
module

public import proofs.«01_k».proof.Proof.Ref
public import proofs.«01_k».proof.Proof.Arr
public import Idealize.ShloMosaic.Lib.Pointwise
public import Idealize.ShloMosaic.Lib.StableHlo.RunRead

@[expose] public section

set_option maxRecDepth 16384

noncomputable section

namespace Cert.Proof.Mla

open Cert.KernelIdeal Cert.KernelIdeal.Gen
open Idealize.ShloMosaic Idealize.ShloMosaic.TcCoe Idealize.ShloMosaic.Tactic

abbrev C32 (S : Shape) := FVec Ideal S .f32
abbrev C16 (S : Shape) := FVec Ideal S .bf16

/-- The masked scores, their rows' maxima, the exponentials and their rows' sums. -/
def hT (q : C32 S8192x1024) (k : C16 S8192x1024) : C32 S4x8x2048x2048 :=
  select (broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (Host.dotGeneral dot_S4x2048x8x128_S4x2048x8x128_S4x8x2048x2048_3_3_1_1_02_02 none (shapeCast S4x2048x8x128 (mulf q (broadcastInDim S8192x1024 ![] bcast_S_S8192x1024 (constant S_ .f32 0x3DD105EC#32))) shapeCasts_S8192x1024_S4x2048x8x128) (shapeCast _ (extf .f32 k bitsLt_bf16_f32) shapeCasts_S8192x1024_S4x2048x8x128)) (broadcastInDim S4x8x2048x2048 ![] bcast_S_S4x8x2048x2048 (constant S_ .f32 0xFF800000#32))
def hM (t : C32 S4x8x2048x2048) : C32 S4x8x2048 :=
  Host.reduce FloatOps.maximumf t (constant S_ .f32 0xFF800000#32) reducesTo_S4x8x2048x2048_S4x8x2048_d3 h_S_
def hE (t : C32 S4x8x2048x2048) (x : C32 S4x8x2048) : C32 S4x8x2048x2048 :=
  Host.exp (subf t (broadcastInDim S4x8x2048x2048 ![0, 1, 2, 3] bcast_S4x8x2048x1_S4x8x2048x2048_0_1_2_3 (broadcastInDim S4x8x2048x1 ![0, 1, 2] bcast_S4x8x2048_S4x8x2048x1_0_1_2 x)))
def hL (e : C32 S4x8x2048x2048) : C32 S4x8x2048 := Host.reduceAdd e (constant S_ .f32 0x00000000#32) reducesTo_S4x8x2048x2048_S4x8x2048_d3 h_S_
/-- The rows' log-sums, in base 2. -/
def hS (x l : C32 S4x8x2048) : C32 S4x2x4x2048 :=
  shapeCast _ (Host.divf (addf (broadcastInDim S4x8x2048x1 ![0, 1, 2] bcast_S4x8x2048_S4x8x2048x1_0_1_2 x) (Host.log (broadcastInDim S4x8x2048x1 ![0, 1, 2] bcast_S4x8x2048_S4x8x2048x1_0_1_2 l))) (broadcastInDim S4x8x2048x1 ![] bcast_S_S4x8x2048x1 (Host.log (constant S_ .f32 0x40000000#32)))) shapeCasts_S4x8x2048x1_S4x2x4x2048
/-- The products of the output's gradient with the output, summed over each row of a head. -/
def hD (o v : C16 S8192x512) (e : C32 S4x8x2048x2048) (l : C32 S4x8x2048) : C32 S2x4x8192 :=
  shapeCast _ (transpose S8x4x2048 [2, 0, 1] (Host.reduceAdd (mulf (shapeCast S4x2048x8x64 (extf .f32 o bitsLt_bf16_f32) shapeCasts_S8192x512_S4x2048x8x64) (transpose S4x2048x8x64 [0, 3, 1, 2] (Host.dotGeneral dot_S4x2048x8x64_S4x8x2048x2048_S4x8x64x2048_1_3_3_2_02_01 none (shapeCast _ (extf .f32 v bitsLt_bf16_f32) shapeCasts_S8192x512_S4x2048x8x64) (Host.divf e (broadcastInDim S4x8x2048x2048 ![0, 1, 2, 3] bcast_S4x8x2048x1_S4x8x2048x2048_0_1_2_3 (broadcastInDim S4x8x2048x1 ![0, 1, 2] bcast_S4x8x2048_S4x8x2048x1_0_1_2 l)))) transposes_S4x8x64x2048_S4x2048x8x64_0_3_1_2)) (constant S_ .f32 0x00000000#32) reducesTo_S4x2048x8x64_S4x2048x8_d3 h_S_) transposes_S4x2048x8_S8x4x2048_2_0_1) shapeCasts_S8x4x2048_S2x4x8192
/-- The scaled queries, in base 2. -/
def hQ (q : C32 S8192x1024) : C16 S8192x1024 :=
  truncf .bf16 (Host.divf (mulf q (broadcastInDim S8192x1024 ![] bcast_S_S8192x1024 (constant S_ .f32 0x3DD105EC#32))) (broadcastInDim S8192x1024 ![] bcast_S_S8192x1024 (Host.log (constant S_ .f32 0x40000000#32)))) bitsLt_bf16_f32

section
variable (m : (ℓ : Loc nD τ sig) → Buf (Elt Ideal) ℓ) (c : Dev nD)
abbrev bq : C32 S8192x1024 := m ((c.tc : Thread nD τ).loc main_arg0)
abbrev bk' : C16 S8192x1024 := m ((c.tc : Thread nD τ).loc main_arg1)
abbrev bv : C16 S8192x512 := m ((c.tc : Thread nD τ).loc main_arg2)
abbrev bo : C16 S8192x512 := m ((c.tc : Thread nD τ).loc main_arg3)

def gE (q : C32 S8192x1024) (k : C16 S8192x1024) : C32 S4x8x2048x2048 := hE (hT q k) (hM (hT q k))
def gL (q : C32 S8192x1024) (k : C16 S8192x1024) : C32 S4x8x2048 := hL (gE q k)

theorem V40 : V m c main_v40 = hQ (bq m c) := by
  unfold V
  after_reads_simp
  unfold hQ
  rfl
theorem V43 : V m c main_v43 = hS (hM (hT (bq m c) (bk' m c))) (gL (bq m c) (bk' m c)) := by
  unfold V
  after_reads_simp
  unfold hS gL hL gE hE hM hT
  rfl
theorem V42 : V m c main_v42 = hD (bo m c) (bv m c) (gE (bq m c) (bk' m c)) (gL (bq m c) (bk' m c)) := by
  unfold V
  after_reads_simp
  unfold hD gL hL gE hE hM hT
  rfl
end

variable (q : C32 S8192x1024) (k : C16 S8192x1024) (v o : C16 S8192x512)
  (t e p : C32 S4x8x2048x2048) (x l n : C32 S4x8x2048) (b : Fin 4) (h : Fin 8) (i j : Fin 2048)

theorem hT_eq : hT q k = MlaRef.lT q k := by
  unfold hT MlaRef.lT
  rfl
theorem hE_eq : hE t x = MlaRef.lE t x := by
  unfold hE MlaRef.lE
  rfl
theorem hL_eq : hL e = MlaRef.lL e := by
  unfold hL MlaRef.lL
  rfl
theorem hM_at : hM t (ix3 b h i) = MlaRef.lM t (ix3 b h i) := by
  rw [MlaRef.lM_at]
  unfold hM
  rw [MlaRef.max_at]
  rw [show (constant (F := Ideal) S_ .f32 0xFF800000#32) (Shape.Idx.first h_S_) = ⊥ from MlaRef.ninf]
theorem hM_eq : hM t = MlaRef.lM t := by
  funext y
  have e := eq_ix3 (n0 := 4) (n1 := 8) (n2 := 2048) y
  exact (congrArg (hM t) e).trans ((hM_at t (y 0) (y 1) (y 2)).trans (congrArg (MlaRef.lM t) e).symm)
theorem gE_eq : gE q k = MlaRef.rE q k := by
  unfold gE MlaRef.rE
  rw [hE_eq, hM_eq, hT_eq]
theorem gL_eq : gL q k = MlaRef.rL q k := by
  unfold gL MlaRef.rL
  rw [hL_eq, gE_eq]

theorem hQ_at (R : Fin 8192) (C : Fin 1024) : hQ q (ix2 R C) = Ideal.div (q (ix2 R C) * Ideal.ofBits FTy.f32 0x3DD105EC#32) (Ideal.log (Ideal.ofBits FTy.f32 0x40000000#32)) := by
  unfold hQ
  pointwise
theorem hS_at (g : Fin 2) (a : Fin 4) : hS x l (ix4 b g a i)
    = Ideal.div (x (ix3 b ⟨g.val * 4 + a.val, by omega⟩ i) + Ideal.log (l (ix3 b ⟨g.val * 4 + a.val, by omega⟩ i))) (Ideal.log (Ideal.ofBits FTy.f32 0x40000000#32)) := by
  unfold hS
  pointwise
theorem hD_at (g : Fin 2) (a : Fin 4) (R : Fin 8192) : hD o v e l (ix3 g a R)
    = ∑ z : Fin 64, o (ix2 R ⟨(g.val * 4 + a.val) * 64 + z.val, by omega⟩)
        * ∑ j : Fin 2048, v (ix2 ⟨R.val / 2048 * 2048 + j.val, by omega⟩ ⟨(g.val * 4 + a.val) * 64 + z.val, by omega⟩)
          * Ideal.div (e (ix4 ⟨R.val / 2048, by omega⟩ ⟨g.val * 4 + a.val, by omega⟩ ⟨R.val % 2048, by omega⟩ j)) (l (ix3 ⟨R.val / 2048, by omega⟩ ⟨g.val * 4 + a.val, by omega⟩ ⟨R.val % 2048, by omega⟩)) := by
  unfold hD
  pointwise

end Cert.Proof.Mla

end
-- ==== Proof.Kern.lean ====
/- What the call computes, as real numbers, where the arguments are real. -/
module

public import proofs.«01_k».proof.Proof.Lift
public import proofs.«01_k».proof.Proof.Host

@[expose] public section

set_option maxRecDepth 16384

noncomputable section

namespace Cert.Proof.Mla

open Cert.KernelIdeal Cert.KernelIdeal.Gen
open Idealize.ShloMosaic Idealize.ShloMosaic.TcCoe Idealize.ShloMosaic.Tactic

open MlaRef (lT lM lE lL lP lN lG rE rL rG scr)

theorem n2_at {a b : ℕ} (X : (⟨2, ![a, b]⟩ : Shape).Idx → EReal) (r l : ℕ) (i : Fin a) (j : Fin b) (hr : r = i.val) (hl : l = j.val) :
    n2 X r l = X (ix2 i j) := by
  subst hr hl
  exact (n2_ix X i j).symm

variable (m : (ℓ : Loc nD τ sig) → Buf (Elt Ideal) ℓ) (c : Dev nD)
  (hq : Real32 (bq m c)) (hk : Real16 (bk' m c)) (hv : Real16 (bv m c)) (ho : Real16 (bo m c))
  (b : Fin 4) (g : Fin 2) (a : Fin 4)

/-- The head that is the `a`-th of group `g`. -/
def hd (g : Fin 2) (a : Fin 4) : Fin 8 := ⟨g.val * 4 + a.val, by omega⟩

include hk in
theorem kB_real (j : Fin 2048) (x : Fin 128) : kB m c b.val g.val j.val (128 * a.val + x.val) = (rk (bk' m c) b (hd g a) j x : EReal) := by
  unfold kB bk
  rw [if_pos ⟨j.2, by omega⟩, V_main_arg1, n2_at (m ((c.tc : Thread nD τ).loc main_arg1)) _ _ ⟨b.val * 2048 + j.val, by omega⟩ ⟨(hd g a).val * 128 + x.val, by simp only [hd]; omega⟩ (by simp only []; omega) (by simp only [hd]; omega)]
  exact hk _

include hv in
theorem vB_real (j : Fin 2048) (z : Fin 64) : vB m c b.val g.val j.val (64 * a.val + z.val) = (rv (bv m c) b (hd g a) j z : EReal) := by
  unfold vB bk
  rw [if_pos ⟨j.2, by omega⟩, V_main_arg2, n2_at (m ((c.tc : Thread nD τ).loc main_arg2)) _ _ ⟨b.val * 2048 + j.val, by omega⟩ ⟨(hd g a).val * 64 + z.val, by simp only [hd]; omega⟩ (by simp only []; omega) (by simp only [hd]; omega)]
  exact hv _

include ho in
theorem oB_real (j : Fin 2048) (z : Fin 64) : oB m c b.val g.val j.val (64 * a.val + z.val) = (rv (bo m c) b (hd g a) j z : EReal) := by
  unfold oB bk
  rw [if_pos ⟨j.2, by omega⟩, V_main_arg3, n2_at (m ((c.tc : Thread nD τ).loc main_arg3)) _ _ ⟨b.val * 2048 + j.val, by omega⟩ ⟨(hd g a).val * 64 + z.val, by simp only [hd]; omega⟩ (by simp only []; omega) (by simp only [hd]; omega)]
  exact ho _

include hq in
theorem qB_real (j : Fin 2048) (x : Fin 128) : qB m c b.val g.val j.val (128 * a.val + x.val) = ((rq (bq m c) b (hd g a) j x * sc / Real.log 2 : ℝ) : EReal) := by
  unfold qB bk
  rw [if_pos ⟨j.2, by omega⟩, V40, n2_at (hQ (bq m c)) _ _ ⟨b.val * 2048 + j.val, by omega⟩ ⟨(hd g a).val * 128 + x.val, by simp only [hd]; omega⟩ (by simp only []; omega) (by simp only [hd]; omega)]
  rw [hQ_at, hq, sc_eq, ← EReal.coe_mul, log2_real, div_real _ _ log2_ne]
  rfl

include hq hk in
theorem lB_real (i : Fin 2048) : lB m c b.val g.val a.val i.val
    = (((rM (bq m c) (bk' m c) b (hd g a) i + Real.log (zL (rq (bq m c) b (hd g a)) (rk (bk' m c) b (hd g a)) sc (rM (bq m c) (bk' m c) b (hd g a)) i)) / Real.log 2 : ℝ) : EReal) := by
  unfold lB bL
  rw [if_pos ⟨a.2, i.2⟩, V43, ← n4_ix (hS (hM (hT (bq m c) (bk' m c))) (gL (bq m c) (bk' m c))) b g a i, hS_at, hM_eq, hT_eq, gL_eq]
  have e1 := lM_real (bq m c) (bk' m c) b (hd g a) hq hk i
  have e2 := rL_real (bq m c) (bk' m c) b (hd g a) hq hk i
  unfold hd at e1 e2 ⊢
  rw [e1, e2, log_real _ (zL_pos _ _ _ _ _), log2_real, ← EReal.coe_add, div_real _ _ log2_ne]

include hq hk hv ho in
theorem dB_real (i : Fin 2048) : dB m c b.val g.val a.val i.val
    = (zD (rq (bq m c) b (hd g a)) (rk (bk' m c) b (hd g a)) (rv (bv m c) b (hd g a)) (rv (bo m c) b (hd g a)) sc (rM (bq m c) (bk' m c) b (hd g a)) i : EReal) := by
  unfold dB bD
  have e0 := n3_ix (hD (bo m c) (bv m c) (gE (bq m c) (bk' m c)) (gL (bq m c) (bk' m c))) g a ⟨2048 * b.val + i.val, by omega⟩
  rw [if_pos ⟨a.2, i.2⟩, V42, ← e0, hD_at, gE_eq, gL_eq]
  have eb : (⟨(2048 * b.val + i.val) / 2048, by omega⟩ : Fin 4) = b := Fin.ext (by simp only []; omega)
  have ei : (⟨(2048 * b.val + i.val) % 2048, by omega⟩ : Fin 2048) = i := Fin.ext (by simp only []; omega)
  unfold zD
  rw [← coe_sum]
  refine Finset.sum_congr rfl fun z _ => ?_
  rw [EReal.coe_mul, ← coe_sum]
  have eo : (bo m c) (ix2 ⟨2048 * b.val + i.val, by omega⟩ ⟨(g.val * 4 + a.val) * 64 + z.val, by omega⟩) = (rv (bo m c) b (hd g a) i z : EReal) := by
    rw [ho]
    unfold rv hd
    congr 4
    exact Fin.ext (by simp only []; omega)
  refine congrArg₂ (· * ·) eo (Finset.sum_congr rfl fun j _ => ?_)
  rw [EReal.coe_mul]
  have ev : (bv m c) (ix2 ⟨(2048 * b.val + i.val) / 2048 * 2048 + j.val, by omega⟩ ⟨(g.val * 4 + a.val) * 64 + z.val, by omega⟩) = (rv (bv m c) b (hd g a) j z : EReal) := by
    rw [hv]
    unfold rv hd
    congr 4
    exact Fin.ext (by simp only []; omega)
  refine congrArg₂ (· * ·) ev ?_
  have e := w_real (bq m c) (bk' m c) b (hd g a) hq hk i j
  simp only [eb, ei]
  exact e

include hq hk in
theorem pM_real (j i : Fin 2048) : pM (kB m c b.val g.val) (qB m c b.val g.val) (lB m c b.val g.val) a.val j.val i.val
    = (zW (rq (bq m c) b (hd g a)) (rk (bk' m c) b (hd g a)) sc (rM (bq m c) (bk' m c) b (hd g a)) i j : EReal) := by
  unfold pM
  split_ifs with hij
  · unfold pF
    rw [lB_real m c hq hk, Finset.sum_congr rfl fun x _ => by rw [kB_real m c hk b g a j x, qB_real m c hq b g a i x, ← EReal.coe_mul], coe_sum, ← EReal.coe_sub, Ideal.exp2_coe, zW_exp2 _ _ _ _ _ _ hij]
  · unfold zW zE
    rw [if_neg hij, zero_div, EReal.coe_zero]

include hq hk hv ho in
theorem dMc_real (j i : Fin 2048) : dMc (kB m c b.val g.val) (vB m c b.val g.val) (qB m c b.val g.val) (lB m c b.val g.val) (dB m c b.val g.val) (oB m c b.val g.val) a.val j.val i.val
    = (zG (rq (bq m c) b (hd g a)) (rk (bk' m c) b (hd g a)) (rv (bv m c) b (hd g a)) (rv (bo m c) b (hd g a)) sc (rM (bq m c) (bk' m c) b (hd g a)) i j : EReal) := by
  unfold dMc
  rw [pM_real m c hq hk, dB_real m c hq hk hv ho, Finset.sum_congr rfl fun z _ => by rw [vB_real m c hv b g a j z, oB_real m c ho b g a i z, ← EReal.coe_mul], coe_sum, ← EReal.coe_sub, ← EReal.coe_mul, ← zT_eq]
  rfl

end Cert.Proof.Mla

end
-- ==== Proof.Vals.lean ====
/- The three gradients are the reference's, entry by entry, where the arguments are real. -/
module

public import proofs.«01_k».proof.Proof.Kern

@[expose] public section

set_option maxRecDepth 16384

noncomputable section

namespace Cert.Proof.Mla

open Cert.KernelIdeal Cert.KernelIdeal.Gen
open Idealize.ShloMosaic Idealize.ShloMosaic.TcCoe Idealize.ShloMosaic.Tactic

open MlaRef (lT lM lE lL lP lN lG lQ lK lV rE rL rG scr)

variable (m : (ℓ : Loc nD τ sig) → Buf (Elt Ideal) ℓ) (c : Dev nD)
  (hq : Real32 (bq m c)) (hk : Real16 (bk' m c)) (hv : Real16 (bv m c)) (ho : Real16 (bo m c))

include hq hk hv ho in
theorem val_q (R : Fin 8192) (C : Fin 1024) : gQ m c (R.val / 2048) (C.val / 512) (R.val % 2048) (C.val % 512)
    = lQ (rG (bq m c) (bk' m c) (bv m c) (bo m c)) (bk' m c) (ix2 R C) := by
  rw [MlaRef.lQ_at]
  unfold gQ
  refine Finset.sum_congr rfl fun j _ => ?_
  rw [mul_comm]
  have e1 := dMc_real m c hq hk hv ho ⟨R.val / 2048, by omega⟩ ⟨C.val / 512, by omega⟩ ⟨C.val % 512 / 128, by omega⟩ j ⟨R.val % 2048, by omega⟩
  have e2 := kB_real m c hk ⟨R.val / 2048, by omega⟩ ⟨C.val / 512, by omega⟩ ⟨C.val % 512 / 128, by omega⟩ j ⟨C.val % 128, by omega⟩
  have e3 := rG_real (bq m c) (bk' m c) (bv m c) (bo m c) ⟨R.val / 2048, by omega⟩ (hd ⟨C.val / 512, by omega⟩ ⟨C.val % 512 / 128, by omega⟩) hq hk hv ho ⟨R.val % 2048, by omega⟩ j
  have eh : hd ⟨C.val / 512, by omega⟩ ⟨C.val % 512 / 128, by omega⟩ = ⟨C.val / 128, by omega⟩ := Fin.ext (by simp only [hd]; omega)
  have el : 128 * (C.val % 512 / 128) + C.val % 128 = C.val % 512 := by omega
  simp only [] at e1 e2
  rw [el] at e2
  refine congrArg₂ (· * ·) (e1.trans (e3.symm.trans ?_)) (e2.trans ?_)
  · rw [eh]
  · rw [hk]
    unfold rk
    rw [eh]
    congr 4
    exact Fin.ext (by simp only []; omega)

include hq hk hv ho in
theorem val_k (R : Fin 8192) (C : Fin 1024) : gK m c (R.val / 2048) (C.val / 512) (R.val % 2048) (C.val % 512)
    = lK (rG (bq m c) (bk' m c) (bv m c) (bo m c)) (bq m c) (ix2 R C) := by
  rw [MlaRef.lK_at]
  unfold gK
  have eh : hd ⟨C.val / 512, by omega⟩ ⟨C.val % 512 / 128, by omega⟩ = ⟨C.val / 128, by omega⟩ := Fin.ext (by simp only [hd]; omega)
  have el : 128 * (C.val % 512 / 128) + C.val % 128 = C.val % 512 := by omega
  have e1 := fun i : Fin 2048 => dMc_real m c hq hk hv ho ⟨R.val / 2048, by omega⟩ ⟨C.val / 512, by omega⟩ ⟨C.val % 512 / 128, by omega⟩ ⟨R.val % 2048, by omega⟩ i
  have e2 := fun i : Fin 2048 => qB_real m c hq ⟨R.val / 2048, by omega⟩ ⟨C.val / 512, by omega⟩ ⟨C.val % 512 / 128, by omega⟩ i ⟨C.val % 128, by omega⟩
  have e3 := fun i : Fin 2048 => rG_real (bq m c) (bk' m c) (bv m c) (bo m c) ⟨R.val / 2048, by omega⟩ ⟨C.val / 128, by omega⟩ hq hk hv ho i ⟨R.val % 2048, by omega⟩
  have e4 : ∀ i : Fin 2048, (bq m c) (ix2 ⟨R.val / 2048 * 2048 + i.val, by omega⟩ C) = (rq (bq m c) ⟨R.val / 2048, by omega⟩ ⟨C.val / 128, by omega⟩ i ⟨C.val % 128, by omega⟩ : EReal) := by
    intro i
    rw [hq]
    unfold rq
    congr 4
    exact Fin.ext (by simp only []; omega)
  rw [eh] at e1 e2
  simp only [] at e1 e2
  rw [el] at e2
  refine ((Finset.sum_congr rfl fun i _ => (congrArg₂ (· * ·) (e1 i) (e2 i)).trans (EReal.coe_mul _ _).symm).trans (coe_sum _)).trans ?_
  refine Eq.trans ?_ (congrArg₂ Ideal.div ((Finset.sum_congr rfl fun i _ => (congrArg₂ (· * ·) (e3 i) ((congrArg₂ (· * ·) (e4 i) sc_eq).trans (EReal.coe_mul _ _).symm)).trans (EReal.coe_mul _ _).symm).trans (coe_sum _)) log2_real).symm
  rw [div_real _ _ log2_ne, Finset.sum_div]
  refine congrArg Real.toEReal (Finset.sum_congr rfl fun i _ => ?_)
  ring

include hq hk ho in
theorem val_v (R : Fin 8192) (C : Fin 512) : gV m c (R.val / 2048) (C.val / 256) (R.val % 2048) (C.val % 256)
    = lV (bo m c) (rE (bq m c) (bk' m c)) (rL (bq m c) (bk' m c)) (ix2 R C) := by
  rw [MlaRef.lV_at]
  unfold gV
  refine Finset.sum_congr rfl fun i _ => ?_
  have e1 := pM_real m c hq hk ⟨R.val / 2048, by omega⟩ ⟨C.val / 256, by omega⟩ ⟨C.val % 256 / 64, by omega⟩ ⟨R.val % 2048, by omega⟩ i
  have e2 := oB_real m c ho ⟨R.val / 2048, by omega⟩ ⟨C.val / 256, by omega⟩ ⟨C.val % 256 / 64, by omega⟩ i ⟨C.val % 64, by omega⟩
  have e3 := w_real (bq m c) (bk' m c) ⟨R.val / 2048, by omega⟩ (hd ⟨C.val / 256, by omega⟩ ⟨C.val % 256 / 64, by omega⟩) hq hk i ⟨R.val % 2048, by omega⟩
  have eh : hd ⟨C.val / 256, by omega⟩ ⟨C.val % 256 / 64, by omega⟩ = ⟨C.val / 64, by omega⟩ := Fin.ext (by simp only [hd]; omega)
  have el : 64 * (C.val % 256 / 64) + C.val % 64 = C.val % 256 := by omega
  simp only [] at e1 e2
  rw [el] at e2
  refine congrArg₂ (· * ·) (e2.trans ?_) (e1.trans (e3.symm.trans ?_))
  · rw [ho]
    unfold rv
    rw [eh]
    congr 4
    exact Fin.ext (by simp only []; omega)
  · rw [eh]

end Cert.Proof.Mla

end
-- ==== Proof.Pre.lean ====
/- The precondition read: every entry of every argument is a real number. -/
module

public import proofs.«01_k».proof.Defs
public import proofs.«01_k».proof.Proof.Vals
public import proofs.«01_k».proof.Proof.Gen.Pre_finite

@[expose] public section

set_option maxRecDepth 16384

noncomputable section

namespace Cert.Proof.Mla

open Cert.KernelIdeal Cert.KernelIdeal.Gen
open Idealize.ShloMosaic Idealize.ShloMosaic.TcCoe Idealize.ShloMosaic.Tactic

/-- An entry whose absolute value is below the infinity is a real number. -/
theorem real_of (x : EReal) (h : BitVec.ofBool (decide (max x (-x) < ⊤)) = 1#1) : x = ((EReal.toReal x : ℝ) : EReal) := by
  have hl : max x (-x) < ⊤ := by
    by_contra hn
    rw [decide_eq_false hn] at h
    exact absurd h (by decide)
  obtain ⟨h1, h2⟩ := max_lt_iff.1 hl
  refine (EReal.coe_toReal h1.ne fun hb => ?_).symm
  rw [hb, EReal.neg_bot] at h2
  exact absurd h2 (lt_irrefl _)

theorem inf32 : Ideal.ofBits .f32 0x7F800000#32 = ⊤ := by simp [Ideal.ofBits, Ideal.ieee]
theorem inf16 : Ideal.ofBits .bf16 0x7F80#16 = ⊤ := by simp [Ideal.ofBits, Ideal.ieee]

variable {m : (ℓ : Loc nD τ sig) → Buf (Elt Ideal) ℓ}

theorem real_q (h : Cert.Pre_KernelIdeal_finite m) (c : Dev nD) : Real32 (Mla.bq m c) := fun i => by
  have e : BitVec.ofBool (decide (max (Mla.bq m c i) (-(Mla.bq m c i)) < Ideal.ofBits .f32 0x7F800000#32)) = 1#1 := congrFun (h c).1 i
  rw [inf32] at e
  exact real_of _ e

theorem real_k (h : Cert.Pre_KernelIdeal_finite m) (c : Dev nD) : Real16 (Mla.bk' m c) := fun i => by
  have e : BitVec.ofBool (decide (max (Mla.bk' m c i) (-(Mla.bk' m c i)) < Ideal.ofBits .bf16 0x7F80#16)) = 1#1 := congrFun (h c).2.1 i
  rw [inf16] at e
  exact real_of _ e

theorem real_v (h : Cert.Pre_KernelIdeal_finite m) (c : Dev nD) : Real16 (Mla.bv m c) := fun i => by
  have e : BitVec.ofBool (decide (max (Mla.bv m c i) (-(Mla.bv m c i)) < Ideal.ofBits .bf16 0x7F80#16)) = 1#1 := congrFun (h c).2.2.1 i
  rw [inf16] at e
  exact real_of _ e

theorem real_o (h : Cert.Pre_KernelIdeal_finite m) (c : Dev nD) : Real16 (Mla.bo m c) := fun i => by
  have e : BitVec.ofBool (decide (max (Mla.bo m c i) (-(Mla.bo m c i)) < Ideal.ofBits .bf16 0x7F80#16)) = 1#1 := congrFun (h c).2.2.2 i
  rw [inf16] at e
  exact real_of _ e

end Cert.Proof.Mla

end
-- ==== Proof.InOut.lean ====
/- What one grid point of the second call leaves in each result, case by case, over the tile it reads. -/
module

public import proofs.«01_k».proof.Proof.Gen.Kernel2Ideal.Frame
public import Idealize.ShloMosaic.Lib.Pipeline.ReadBack

@[expose] public section

set_option maxRecDepth 16384

noncomputable section

namespace Cert.Proof.InB

open Cert.Kernel2Ideal Cert.Kernel2Ideal.Gen
open Idealize.ShloMosaic Idealize.ShloMosaic.TcCoe Idealize.ShloMosaic.Tactic

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

abbrev r0 := Rect.unit (s := S1024x2560) ![0, 0] ![1024, 768] inb_S1024x2560_S1024x768_0_0
abbrev r1 := Rect.unit (s := S1024x2560) ![0, 768] ![1024, 512] inb_S1024x2560_S1024x512_0_768
abbrev r2 := Rect.unit (s := S1024x2560) ![0, 1280] ![1024, 512] inb_S1024x2560_S1024x512_0_1280
abbrev r3 := Rect.unit (s := S1024x2560) ![0, 1792] ![1024, 256] inb_S1024x2560_S1024x256_0_1792
abbrev r4 := Rect.unit (s := S1024x2560) ![0, 2048] ![1024, 512] inb_S1024x2560_S1024x512_0_2048

/-- The tile's modulated input. -/
def tH (x0 : Vec F S512x1024 .f32) (x7 : Vec F S1x1x3072 .f32) (x8 : Vec F S1x3072 .f32) (x9 : Vec F S1x1024 .f32) : FVec F S512x1024 .bf16 :=
  k0_pay13 (k0_pay8 x7 x8) (k0_pay9 x7 x8) (k0_pay11 x0) (k0_pay12 x9)
/-- Three of the five products of the tile's modulated input's gradient. -/
def tP (x2 : Vec F S512x768 .bf16) (x3 : Vec F S512x1024 .bf16) (x4 : Vec F S512x512 .f32) (x10 : Vec F S1024x2560 .bf16) : FVec F S512x1024 .f32 :=
  k0_pay22 x2 (k0_pay14 x3) (k0_pay15 x4) (View.ld x10 r0) (View.ld x10 r1) (View.ld x10 r2)
/-- The tile's modulated input's gradient. -/
def tDh (x2 : Vec F S512x768 .bf16) (x3 : Vec F S512x1024 .bf16) (x4 : Vec F S512x512 .f32) (x5 x6 : Vec F S512x256 .f32) (x10 : Vec F S1024x2560 .bf16) : FVec F S512x1024 .f32 :=
  k0_pay25 (k0_pay17 (k0_pay16 x5 x6)) (k0_pay18 x3) (tP x2 x3 x4 x10) (View.ld x10 r3) (View.ld x10 r4)
/-- The weights' gradient's five column ranges after the tile's products are added. -/
def tL (p : Vec F S1024x2560 .f32) (h : FVec F S512x1024 .bf16) (x2 : Vec F S512x768 .bf16) (x3 : Vec F S512x1024 .bf16) (x4 : Vec F S512x512 .f32) (x5 x6 : Vec F S512x256 .f32) :
    List (View.Piece (Elt F) S1024x2560 .f32) :=
  [⟨r4, k0_pay24 h (k0_pay18 x3) (View.ld p r4)⟩, ⟨r3, k0_pay23 h (k0_pay16 x5 x6) (View.ld p r3)⟩,
    ⟨r2, k0_pay21 h (k0_pay15 x4) (View.ld p r2)⟩, ⟨r1, k0_pay20 h (k0_pay14 x3) (View.ld p r1)⟩, ⟨r0, k0_pay19 h x2 (View.ld p r0)⟩]

section
variable (c : Dev nD) (i : grid0.Coords) (a1 : Memref sig .tc .vmem S512x1024 .f32) (g1 : a1.IsWhole) (a2 : Memref sig .tc .vmem S512x1024 .f32) (g2 : a2.IsWhole) (a3 : Memref sig .tc .vmem S512x768 .bf16) (g3 : a3.IsWhole) (a4 : Memref sig .tc .vmem S512x1024 .bf16) (g4 : a4.IsWhole) (a5 : Memref sig .tc .vmem S512x512 .f32) (g5 : a5.IsWhole) (a6 : Memref sig .tc .vmem S512x256 .f32) (g6 : a6.IsWhole) (a7 : Memref sig .tc .vmem S512x256 .f32) (g7 : a7.IsWhole) (a8 : Memref sig .tc .vmem S1x1x3072 .f32) (g8 : a8.IsWhole) (a9 : Memref sig .tc .vmem S1x3072 .f32) (g9 : a9.IsWhole) (a10 : Memref sig .tc .vmem S1x1024 .f32) (g10 : a10.IsWhole) (a11 : Memref sig .tc .vmem S1024x2560 .bf16) (g11 : a11.IsWhole) (a12 : Memref sig .tc .vmem S512x1024 .f32) (g12 : a12.IsWhole) (a13 : Memref sig .tc .vmem S1024x2560 .f32) (g13 : a13.IsWhole) (a14 : Memref sig .tc .vmem S1x1024 .f32) (g14 : a14.IsWhole) (a15 : Memref sig .tc .vmem S1x1x1024 .f32) (g15 : a15.IsWhole) (a16 : Memref sig .tc .vmem S1x1x1024 .f32) (g16 : a16.IsWhole)
  (x0 : Vec F S512x1024 .f32) (x1 : Vec F S512x1024 .f32) (x2 : Vec F S512x768 .bf16) (x3 : Vec F S512x1024 .bf16) (x4 : Vec F S512x512 .f32) (x5 : Vec F S512x256 .f32) (x6 : Vec F S512x256 .f32) (x7 : Vec F S1x1x3072 .f32) (x8 : Vec F S1x3072 .f32) (x9 : Vec F S1x1024 .f32) (x10 : Vec F S1024x2560 .bf16)

theorem o_A_11 (hc0 : cond0_0 i) (hc1 : cond0_1 i) :
    out0_A_11 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10  = k0_pay2 (k0_pay9 x7 x8) x9 (k0_pay10 x0) (k0_pay11 x0) (tDh x2 x3 x4 x5 x6 x10) x1 := by
  unfold out0_A_11
  rw [View.read_writes_eq_canon _ _ _ (fun _ => cover0_A_11 ..)]
  unfold kernelRun0_A
  dsimp only
  sl_unfold_words
  rw [View.canon_unit_zero hz2]
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3]
  rfl
theorem o_A_12 (hc0 : cond0_0 i) (hc1 : cond0_1 i) :
    out0_A_12 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10  = View.canon (tL k0_pay3 (tH x0 x7 x8 x9) x2 x3 x4 x5 x6 ++ [⟨Rect.unit ![0, 0] S1024x2560.size inb_S1024x2560_S1024x2560_0_0, k0_pay3⟩]) := by
  unfold out0_A_12
  rw [View.read_writes_eq_canon _ _ _ (fun _ => cover0_A_12 ..)]
  unfold kernelRun0_A
  dsimp only
  sl_unfold_words
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3]
  simp (disch := first | rfl | decide) only [↓View.readCov_skip]
  rw [View.readCov_fill (v := a13.view) _ _ _ r0 (fun a => congrFun hz2 a), View.readCov_fill (v := a13.view) _ _ _ r1 (fun a => congrFun hz2 a), View.readCov_fill (v := a13.view) _ _ _ r2 (fun a => congrFun hz2 a), View.readCov_fill (v := a13.view) _ _ _ r3 (fun a => congrFun hz2 a), View.readCov_fill (v := a13.view) _ _ _ r4 (fun a => congrFun hz2 a)]
  rfl
theorem o_A_13 (hc0 : cond0_0 i) (hc1 : cond0_1 i) :
    out0_A_13 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10  = k0_pay1 (k0_pay9 x7 x8) (k0_pay11 x0) (tDh x2 x3 x4 x5 x6 x10) k0_pay4 := by
  unfold out0_A_13
  rw [View.read_writes_eq_canon _ _ _ (fun _ => cover0_A_13 ..)]
  unfold kernelRun0_A
  dsimp only
  sl_unfold_words
  rw [View.canon_cons_unit_zero (S := S1x1024) hz2]
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3, View.readCov_unit_zero (S := S1x1024) _ hz2]
  rfl
theorem o_A_14 (hc0 : cond0_0 i) (hc1 : cond0_1 i) :
    out0_A_14 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10  = k0_pay26 (k0_pay17 (k0_pay16 x5 x6)) (k0_pay18 x3) (tP x2 x3 x4 x10) (View.ld x10 r3) (View.ld x10 r4) k0_pay5 := by
  unfold out0_A_14
  rw [View.read_writes_eq_canon _ _ _ (fun _ => cover0_A_14 ..)]
  unfold kernelRun0_A
  dsimp only
  sl_unfold_words
  rw [View.canon_cons_unit_zero (S := S1x1x1024) hz3]
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3, View.readCov_unit_zero (S := S1x1x1024) _ hz3]
  rfl
theorem o_A_15 (hc0 : cond0_0 i) (hc1 : cond0_1 i) :
    out0_A_15 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10  = k0_pay27 x9 (k0_pay11 x0) (k0_pay17 (k0_pay16 x5 x6)) (k0_pay18 x3) (tP x2 x3 x4 x10) (View.ld x10 r3) (View.ld x10 r4) k0_pay6 := by
  unfold out0_A_15
  rw [View.read_writes_eq_canon _ _ _ (fun _ => cover0_A_15 ..)]
  unfold kernelRun0_A
  dsimp only
  sl_unfold_words
  rw [View.canon_cons_unit_zero (S := S1x1x1024) hz3]
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3, View.readCov_unit_zero (S := S1x1x1024) _ hz3]
  rfl
theorem o_B_11 (hc0 : ¬cond0_0 i) (hc1 : ¬cond0_1 i)  (xo12 : Vec F S1024x2560 .f32) (xo13 : Vec F S1x1024 .f32) (xo14 : Vec F S1x1x1024 .f32) (xo15 : Vec F S1x1x1024 .f32) :
    out0_B_11 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10 xo12 xo13 xo14 xo15 = k0_pay2 (k0_pay9 x7 x8) x9 (k0_pay10 x0) (k0_pay11 x0) (tDh x2 x3 x4 x5 x6 x10) x1 := by
  unfold out0_B_11
  rw [View.read_writes_eq_canon _ _ _ (fun _ => cover0_B_11 ..)]
  unfold kernelRun0_B
  dsimp only
  sl_unfold_words
  rw [View.canon_unit_zero hz2]
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3]
  rfl
theorem o_B_12 (hc0 : ¬cond0_0 i) (hc1 : ¬cond0_1 i)  (xo12 : Vec F S1024x2560 .f32) (xo13 : Vec F S1x1024 .f32) (xo14 : Vec F S1x1x1024 .f32) (xo15 : Vec F S1x1x1024 .f32) :
    out0_B_12 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10 xo12 xo13 xo14 xo15 = View.canon (tL xo12 (tH x0 x7 x8 x9) x2 x3 x4 x5 x6) := by
  unfold out0_B_12
  rw [View.read_writes_eq_canon _ _ _ (fun _ => cover0_B_12 ..)]
  unfold kernelRun0_B
  dsimp only
  sl_unfold_words
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3]
  rfl
theorem o_B_13 (hc0 : ¬cond0_0 i) (hc1 : ¬cond0_1 i)  (xo12 : Vec F S1024x2560 .f32) (xo13 : Vec F S1x1024 .f32) (xo14 : Vec F S1x1x1024 .f32) (xo15 : Vec F S1x1x1024 .f32) :
    out0_B_13 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10 xo12 xo13 xo14 xo15 = k0_pay1 (k0_pay9 x7 x8) (k0_pay11 x0) (tDh x2 x3 x4 x5 x6 x10) xo13 := by
  unfold out0_B_13
  rw [View.read_writes_eq_canon _ _ _ (fun _ => cover0_B_13 ..)]
  unfold kernelRun0_B
  dsimp only
  sl_unfold_words
  rw [View.canon_unit_zero hz2]
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3]
  rfl
theorem o_B_14 (hc0 : ¬cond0_0 i) (hc1 : ¬cond0_1 i)  (xo12 : Vec F S1024x2560 .f32) (xo13 : Vec F S1x1024 .f32) (xo14 : Vec F S1x1x1024 .f32) (xo15 : Vec F S1x1x1024 .f32) :
    out0_B_14 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10 xo12 xo13 xo14 xo15 = k0_pay26 (k0_pay17 (k0_pay16 x5 x6)) (k0_pay18 x3) (tP x2 x3 x4 x10) (View.ld x10 r3) (View.ld x10 r4) xo14 := by
  unfold out0_B_14
  rw [View.read_writes_eq_canon _ _ _ (fun _ => cover0_B_14 ..)]
  unfold kernelRun0_B
  dsimp only
  sl_unfold_words
  rw [View.canon_unit_zero hz3]
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3]
  rfl
theorem o_B_15 (hc0 : ¬cond0_0 i) (hc1 : ¬cond0_1 i)  (xo12 : Vec F S1024x2560 .f32) (xo13 : Vec F S1x1024 .f32) (xo14 : Vec F S1x1x1024 .f32) (xo15 : Vec F S1x1x1024 .f32) :
    out0_B_15 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10 xo12 xo13 xo14 xo15 = k0_pay27 x9 (k0_pay11 x0) (k0_pay17 (k0_pay16 x5 x6)) (k0_pay18 x3) (tP x2 x3 x4 x10) (View.ld x10 r3) (View.ld x10 r4) xo15 := by
  unfold out0_B_15
  rw [View.read_writes_eq_canon _ _ _ (fun _ => cover0_B_15 ..)]
  unfold kernelRun0_B
  dsimp only
  sl_unfold_words
  rw [View.canon_unit_zero hz3]
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3]
  rfl
theorem o_C_11 (hc0 : ¬cond0_0 i) (hc1 : cond0_1 i)  (xo12 : Vec F S1024x2560 .f32) (xo13 : Vec F S1x1024 .f32) :
    out0_C_11 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10 xo12 xo13 = k0_pay2 (k0_pay9 x7 x8) x9 (k0_pay10 x0) (k0_pay11 x0) (tDh x2 x3 x4 x5 x6 x10) x1 := by
  unfold out0_C_11
  rw [View.read_writes_eq_canon _ _ _ (fun _ => cover0_C_11 ..)]
  unfold kernelRun0_C
  dsimp only
  sl_unfold_words
  rw [View.canon_unit_zero hz2]
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3]
  rfl
theorem o_C_12 (hc0 : ¬cond0_0 i) (hc1 : cond0_1 i)  (xo12 : Vec F S1024x2560 .f32) (xo13 : Vec F S1x1024 .f32) :
    out0_C_12 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10 xo12 xo13 = View.canon (tL xo12 (tH x0 x7 x8 x9) x2 x3 x4 x5 x6) := by
  unfold out0_C_12
  rw [View.read_writes_eq_canon _ _ _ (fun _ => cover0_C_12 ..)]
  unfold kernelRun0_C
  dsimp only
  sl_unfold_words
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3]
  rfl
theorem o_C_13 (hc0 : ¬cond0_0 i) (hc1 : cond0_1 i)  (xo12 : Vec F S1024x2560 .f32) (xo13 : Vec F S1x1024 .f32) :
    out0_C_13 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10 xo12 xo13 = k0_pay1 (k0_pay9 x7 x8) (k0_pay11 x0) (tDh x2 x3 x4 x5 x6 x10) xo13 := by
  unfold out0_C_13
  rw [View.read_writes_eq_canon _ _ _ (fun _ => cover0_C_13 ..)]
  unfold kernelRun0_C
  dsimp only
  sl_unfold_words
  rw [View.canon_unit_zero hz2]
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3]
  rfl
theorem o_C_14 (hc0 : ¬cond0_0 i) (hc1 : cond0_1 i)  (xo12 : Vec F S1024x2560 .f32) (xo13 : Vec F S1x1024 .f32) :
    out0_C_14 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10 xo12 xo13 = k0_pay26 (k0_pay17 (k0_pay16 x5 x6)) (k0_pay18 x3) (tP x2 x3 x4 x10) (View.ld x10 r3) (View.ld x10 r4) k0_pay5 := by
  unfold out0_C_14
  rw [View.read_writes_eq_canon _ _ _ (fun _ => cover0_C_14 ..)]
  unfold kernelRun0_C
  dsimp only
  sl_unfold_words
  rw [View.canon_cons_unit_zero (S := S1x1x1024) hz3]
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3, View.readCov_unit_zero (S := S1x1x1024) _ hz3]
  rfl
theorem o_C_15 (hc0 : ¬cond0_0 i) (hc1 : cond0_1 i)  (xo12 : Vec F S1024x2560 .f32) (xo13 : Vec F S1x1024 .f32) :
    out0_C_15 c i a1 g1 a2 g2 a3 g3 a4 g4 a5 g5 a6 g6 a7 g7 a8 g8 a9 g9 a10 g10 a11 g11 a12 g12 a13 g13 a14 g14 a15 g15 a16 g16 hc0 hc1 x0 x1 x2 x3 x4 x5 x6 x7 x8 x9 x10 xo12 xo13 = k0_pay27 x9 (k0_pay11 x0) (k0_pay17 (k0_pay16 x5 x6)) (k0_pay18 x3) (tP x2 x3 x4 x10) (View.ld x10 r3) (View.ld x10 r4) k0_pay6 := by
  unfold out0_C_15
  rw [View.read_writes_eq_canon _ _ _ (fun _ => cover0_C_15 ..)]
  unfold kernelRun0_C
  dsimp only
  sl_unfold_words
  rw [View.canon_cons_unit_zero (S := S1x1x1024) hz3]
  simp only [View.readAt_eq_ld, Memref.IsWhole.read_unread, View.ld_unit_zero (S := S512x1024) hz2, View.ld_unit_zero (S := S512x768) hz2, View.ld_unit_zero (S := S512x512) hz2, View.ld_unit_zero (S := S512x256) hz2, View.ld_unit_zero (S := S1x3072) hz2, View.ld_unit_zero (S := S1x1024) hz2, View.ld_unit_zero (S := S1x1x3072) hz3, View.ld_unit_zero (S := S1x1x1024) hz3, View.readCov_unit_zero (S := S1x1x1024) _ hz3]
  rfl

end

end Cert.Proof.InB

end
-- ==== Proof.InTile.lean ====
/- The values of one grid point of the second call, at an index. -/
module

public import proofs.«01_k».proof.Proof.InOut
public import Idealize.ShloMosaic.Lib.Pointwise

@[expose] public section

set_option maxRecDepth 16384

noncomputable section

namespace Cert.Proof.InB

open Cert.Kernel2Ideal Cert.Kernel2Ideal.Gen
open Idealize.ShloMosaic Idealize.ShloMosaic.TcCoe Idealize.ShloMosaic.Tactic

abbrev C32 (S : Shape) := FVec Ideal S .f32
abbrev C16 (S : Shape) := FVec Ideal S .bf16

variable (x0 x1 : C32 S512x1024) (x2 : C16 S512x768) (x3 : C16 S512x1024) (x4 : C32 S512x512) (x5 x6 : C32 S512x256) (x7 : C32 S1x1x3072) (x8 : C32 S1x3072) (x9 : C32 S1x1024) (x10 : C16 S1024x2560)
  (v22 : C32 S1x1024) (v31 : C32 S512x1) (xn dh : C32 S512x1024) (h : C16 S512x1024) (r : Fin 512) (a : Fin 1024)

theorem p8 : (k0_pay8 (F := Ideal) x7 x8 (ix2 (0 : Fin 1) a) : EReal) = x7 (ix3 (0 : Fin 1) (0 : Fin 1) ⟨a.val, by omega⟩) + x8 (ix2 (0 : Fin 1) ⟨a.val, by omega⟩) := by
  unfold k0_pay8 k0_pay7
  pointwise
theorem p9 : (k0_pay9 (F := Ideal) x7 x8 (ix2 (0 : Fin 1) a) : EReal) = x7 (ix3 (0 : Fin 1) (0 : Fin 1) ⟨1024 + a.val, by omega⟩) + x8 (ix2 (0 : Fin 1) ⟨1024 + a.val, by omega⟩) := by
  unfold k0_pay9 k0_pay7
  pointwise
theorem p10 : (k0_pay10 (F := Ideal) x0 (ix2 r (0 : Fin 1)) : EReal) = Ideal.rsqrt (Ideal.div (∑ a : Fin 1024, x0 (ix2 r a) * x0 (ix2 r a)) (Ideal.ofBits FTy.f32 0x44800000#32) + Ideal.ofBits FTy.f32 0x358637BD#32) := by
  unfold k0_pay10
  pointwise
theorem p11 : (k0_pay11 (F := Ideal) x0 (ix2 r a) : EReal) = x0 (ix2 r a) * k0_pay10 (F := Ideal) x0 (ix2 r (0 : Fin 1)) := by
  unfold k0_pay11
  pointwise
theorem tH_at : (tH (F := Ideal) x0 x7 x8 x9 (ix2 r a) : EReal) = k0_pay11 (F := Ideal) x0 (ix2 r a) * x9 (ix2 (0 : Fin 1) a) * (Ideal.ofBits FTy.f32 0x3F800000#32 + k0_pay9 (F := Ideal) x7 x8 (ix2 (0 : Fin 1) a)) + k0_pay8 (F := Ideal) x7 x8 (ix2 (0 : Fin 1) a) := by
  unfold tH k0_pay13 k0_pay12
  pointwise
theorem p14 (j : Fin 512) : (k0_pay14 (F := Ideal) x3 (ix2 r j) : EReal) = x3 (ix2 r ⟨j.val, by omega⟩) := by
  unfold k0_pay14
  pointwise
theorem p18 (j : Fin 512) : (k0_pay18 (F := Ideal) x3 (ix2 r j) : EReal) = x3 (ix2 r ⟨512 + j.val, by omega⟩) := by
  unfold k0_pay18
  pointwise
theorem p15 (j : Fin 512) : (k0_pay15 (F := Ideal) x4 (ix2 r j) : EReal) = x4 (ix2 r j) := by
  unfold k0_pay15
  pointwise
theorem ln2 : (Named.named κ "ln2" 0x3F317218#32 : Ideal .f32) = ((Real.log 2 : ℝ) : EReal) := by
  rfl
theorem slt : ∀ n : Fin 128, IntOp.cmpi CmpIPredicate.slt (BitVec.ofNat 32 n.val) 64#32 = if n.val < 64 then 1#1 else 0#1 := by
  decide
/-- Two copies of a head added. -/
def dup (x : C32 S512x256) (r : Fin 512) (j : Fin 128) : EReal :=
  x (ix2 r ⟨j.val / 64 * 128 + j.val % 64, by omega⟩) + x (ix2 r ⟨j.val / 64 * 128 + (64 + j.val % 64), by omega⟩)
theorem dup_eq (x : C32 S512x256) (j : Fin 128) :
    Scalar.select (IntOp.cmpi CmpIPredicate.slt (BitVec.ofNat 32 j.val) 64#32)
      (x (ix2 r ⟨j.val, by omega⟩) + x (ix2 r ⟨(j.val + 128 - 64) % 128, by omega⟩)) (x (ix2 r ⟨128 + j.val, by omega⟩) + x (ix2 r ⟨128 + (j.val + 128 - 64) % 128, by omega⟩))
      = dup x r j := by
  rw [slt j]
  unfold dup
  have e : ∀ (p q p' q' : ℕ) (hp : p < 256) (hq : q < 256) (hp' : p' < 256) (hq' : q' < 256), p = p' → q = q' →
      x (ix2 r ⟨p, hp⟩) + x (ix2 r ⟨q, hq⟩) = x (ix2 r ⟨p', hp'⟩) + x (ix2 r ⟨q', hq'⟩) := by
    intro p q p' q' hp hq hp' hq' h1 h2
    subst h1 h2
    rfl
  by_cases hj : j.val < 64
  · rw [if_pos hj]
    exact e _ _ _ _ _ _ _ _ (by omega) (by omega)
  · rw [if_neg hj]
    exact (add_comm _ _).trans (e _ _ _ _ _ _ _ _ (by omega) (by omega))
theorem p16 (j : Fin 256) : (k0_pay16 (F := Ideal) x5 x6 (ix2 r j) : EReal) = if h : j.val < 128 then dup x5 r ⟨j.val, h⟩ * ((Real.log 2 : ℝ) : EReal) else dup x6 r ⟨j.val - 128, by omega⟩ := by
  unfold k0_pay16
  pointwise
  by_cases h : j.val < 128
  · rw [dif_pos h, dif_pos h]
    exact congrArg₂ (fun u v : EReal => u * v) (dup_eq r x5 ⟨j.val, h⟩) ln2
  · rw [dif_neg h, dif_neg h]
    exact dup_eq r x6 ⟨j.val - 128, by omega⟩
theorem p2 (j : Fin 1024) : (k0_pay2 (F := Ideal) v22 x9 v31 xn dh x1 (ix2 r a) : EReal) = x1 (ix2 r a) + v31 (ix2 r (0 : Fin 1)) * (dh (ix2 r a) * x9 (ix2 (0 : Fin 1) a) * (Ideal.ofBits FTy.f32 0x3F800000#32 + v22 (ix2 (0 : Fin 1) a))
    - xn (ix2 r a) * Ideal.div (∑ b : Fin 1024, dh (ix2 r b) * x9 (ix2 (0 : Fin 1) b) * (Ideal.ofBits FTy.f32 0x3F800000#32 + v22 (ix2 (0 : Fin 1) b)) * xn (ix2 r b)) (Ideal.ofBits FTy.f32 0x44800000#32)) := by
  unfold k0_pay2
  pointwise
theorem p1 (p : C32 S1x1024) : (k0_pay1 (F := Ideal) v22 xn dh p (ix2 (0 : Fin 1) a) : EReal) = p (ix2 (0 : Fin 1) a) + ∑ r : Fin 512, dh (ix2 r a) * xn (ix2 r a) * (Ideal.ofBits FTy.f32 0x3F800000#32 + v22 (ix2 (0 : Fin 1) a)) := by
  unfold k0_pay1
  pointwise
theorem p19 (z : C16 S512x768) (p : C32 S1024x768) (j : Fin 768) : (k0_pay19 (F := Ideal) h z p (ix2 a j) : EReal) = p (ix2 a j) + ∑ r : Fin 512, h (ix2 r a) * z (ix2 r j) := by
  unfold k0_pay19
  pointwise
theorem p20 (z : C16 S512x512) (p : C32 S1024x512) (j : Fin 512) : (k0_pay20 (F := Ideal) h z p (ix2 a j) : EReal) = p (ix2 a j) + ∑ r : Fin 512, h (ix2 r a) * z (ix2 r j) := by
  unfold k0_pay20
  pointwise
theorem p21 (z : C16 S512x512) (p : C32 S1024x512) (j : Fin 512) : (k0_pay21 (F := Ideal) h z p (ix2 a j) : EReal) = p (ix2 a j) + ∑ r : Fin 512, h (ix2 r a) * z (ix2 r j) := by
  unfold k0_pay21
  pointwise
theorem p24 (z : C16 S512x512) (p : C32 S1024x512) (j : Fin 512) : (k0_pay24 (F := Ideal) h z p (ix2 a j) : EReal) = p (ix2 a j) + ∑ r : Fin 512, h (ix2 r a) * z (ix2 r j) := by
  unfold k0_pay24
  pointwise
theorem p23 (z : C32 S512x256) (p : C32 S1024x256) (j : Fin 256) : (k0_pay23 (F := Ideal) h z p (ix2 a j) : EReal) = p (ix2 a j) + ∑ r : Fin 512, h (ix2 r a) * z (ix2 r j) := by
  unfold k0_pay23 k0_pay17
  pointwise
theorem tP_at : (tP (F := Ideal) x2 x3 x4 x10 (ix2 r a) : EReal) = (∑ j : Fin 768, x2 (ix2 r j) * x10 (ix2 a ⟨j.val, by omega⟩)) + (∑ j : Fin 512, k0_pay14 (F := Ideal) x3 (ix2 r j) * x10 (ix2 a ⟨768 + j.val, by omega⟩))
    + ∑ j : Fin 512, x4 (ix2 r j) * x10 (ix2 a ⟨1280 + j.val, by omega⟩) := by
  unfold tP k0_pay22 k0_pay15
  pointwise
theorem tDh_at : (tDh (F := Ideal) x2 x3 x4 x5 x6 x10 (ix2 r a) : EReal) = tP (F := Ideal) x2 x3 x4 x10 (ix2 r a) + (∑ j : Fin 256, k0_pay16 (F := Ideal) x5 x6 (ix2 r j) * x10 (ix2 a ⟨1792 + j.val, by omega⟩))
    + ∑ j : Fin 512, k0_pay18 (F := Ideal) x3 (ix2 r j) * x10 (ix2 a ⟨2048 + j.val, by omega⟩) := by
  unfold tDh k0_pay25 k0_pay17
  pointwise
theorem p26 (p : C32 S1x1x1024) (v77 : C16 S512x256) (v78 : C16 S512x512) (v101 : C32 S512x1024) (v107 : C16 S1024x256) (v115 : C16 S1024x512) :
    (k0_pay26 (F := Ideal) v77 v78 v101 v107 v115 p (ix3 (0 : Fin 1) (0 : Fin 1) a) : EReal) = p (ix3 (0 : Fin 1) (0 : Fin 1) a) + ∑ r : Fin 512, k0_pay25 (F := Ideal) v77 v78 v101 v107 v115 (ix2 r a) := by
  unfold k0_pay26
  pointwise
theorem p27 (p : C32 S1x1x1024) (v77 : C16 S512x256) (v78 : C16 S512x512) (v101 : C32 S512x1024) (v107 : C16 S1024x256) (v115 : C16 S1024x512) :
    (k0_pay27 (F := Ideal) x9 xn v77 v78 v101 v107 v115 p (ix3 (0 : Fin 1) (0 : Fin 1) a) : EReal) = p (ix3 (0 : Fin 1) (0 : Fin 1) a) + ∑ r : Fin 512, k0_pay25 (F := Ideal) v77 v78 v101 v107 v115 (ix2 r a) * (xn (ix2 r a) * x9 (ix2 (0 : Fin 1) a)) := by
  unfold k0_pay27
  pointwise
theorem z3 (j : Fin 2560) : (k0_pay3 (F := Ideal) (ix2 a j) : EReal) = 0 := by
  unfold k0_pay3
  pointwise
theorem z4 : (k0_pay4 (F := Ideal) (ix2 (0 : Fin 1) a) : EReal) = 0 := by
  unfold k0_pay4
  pointwise
theorem z5 : (k0_pay5 (F := Ideal) (ix3 (0 : Fin 1) (0 : Fin 1) a) : EReal) = 0 := by
  unfold k0_pay5
  pointwise
theorem z6 : (k0_pay6 (F := Ideal) (ix3 (0 : Fin 1) (0 : Fin 1) a) : EReal) = 0 := by
  unfold k0_pay6
  pointwise

end Cert.Proof.InB

end
-- ==== Proof.InCols.lean ====
/- The tile's projection gradient as one array of columns, and the weights' gradient after one grid point, at an index. -/
module

public import proofs.«01_k».proof.Proof.InTile

@[expose] public section

set_option maxRecDepth 16384

noncomputable section

namespace Cert.Proof.InB

open Cert.Kernel2Ideal Cert.Kernel2Ideal.Gen
open Idealize.ShloMosaic Idealize.ShloMosaic.TcCoe Idealize.ShloMosaic.Tactic

variable (x2 : C16 S512x768) (x3 : C16 S512x1024) (x4 : C32 S512x512) (x5 x6 : C32 S512x256) (x10 : C16 S1024x2560) (p : C32 S1024x2560) (h : C16 S512x1024) (r : Fin 512) (a : Fin 1024)

/-- The tile's projection gradient. -/
def tD (x2 : C16 S512x768) (x3 : C16 S512x1024) (x4 : C32 S512x512) (x5 x6 : C32 S512x256) (r : Fin 512) (j : Fin 2560) : EReal :=
  if h : j.val < 768 then x2 (ix2 r ⟨j.val, h⟩)
  else if h : j.val - 768 < 512 then k0_pay14 (F := Ideal) x3 (ix2 r ⟨j.val - 768, h⟩)
  else if h : j.val - 1280 < 512 then x4 (ix2 r ⟨j.val - 1280, h⟩)
  else if h : j.val - 1792 < 256 then k0_pay16 (F := Ideal) x5 x6 (ix2 r ⟨j.val - 1792, h⟩)
  else k0_pay18 (F := Ideal) x3 (ix2 r ⟨j.val - 2048, by omega⟩)

theorem tD0 (j : Fin 768) : tD x2 x3 x4 x5 x6 r ⟨0 + j.val, by omega⟩ = x2 (ix2 r j) := by
  have hj := j.2
  unfold tD
  rw [dif_pos (by dsimp only; omega)]
  exact congrArg (fun t => x2 (ix2 r t)) (Fin.ext (by dsimp only; omega))
theorem emb0 (j : Fin 768) : r0.emb (ix2 a j) = ix2 a (⟨0 + j.val, by omega⟩ : Fin 2560) := by
  funext t
  apply Fin.ext
  fin_cases t
  · show 0 + 1 * a.val = a.val
    omega
  · show 0 + 1 * j.val = 0 + j.val
    omega
theorem tD1 (j : Fin 512) : tD x2 x3 x4 x5 x6 r ⟨768 + j.val, by omega⟩ = k0_pay14 (F := Ideal) x3 (ix2 r j) := by
  have hj := j.2
  unfold tD
  rw [dif_neg (by dsimp only; omega)]
  rw [dif_pos (by dsimp only; omega)]
  exact congrArg (fun t => k0_pay14 (F := Ideal) x3 (ix2 r t)) (Fin.ext (by dsimp only; omega))
theorem emb1 (j : Fin 512) : r1.emb (ix2 a j) = ix2 a (⟨768 + j.val, by omega⟩ : Fin 2560) := by
  funext t
  apply Fin.ext
  fin_cases t
  · show 0 + 1 * a.val = a.val
    omega
  · show 768 + 1 * j.val = 768 + j.val
    omega
theorem tD2 (j : Fin 512) : tD x2 x3 x4 x5 x6 r ⟨1280 + j.val, by omega⟩ = x4 (ix2 r j) := by
  have hj := j.2
  unfold tD
  rw [dif_neg (by dsimp only; omega)]
  rw [dif_neg (by dsimp only; omega)]
  rw [dif_pos (by dsimp only; omega)]
  exact congrArg (fun t => x4 (ix2 r t)) (Fin.ext (by dsimp only; omega))
theorem emb2 (j : Fin 512) : r2.emb (ix2 a j) = ix2 a (⟨1280 + j.val, by omega⟩ : Fin 2560) := by
  funext t
  apply Fin.ext
  fin_cases t
  · show 0 + 1 * a.val = a.val
    omega
  · show 1280 + 1 * j.val = 1280 + j.val
    omega
theorem tD3 (j : Fin 256) : tD x2 x3 x4 x5 x6 r ⟨1792 + j.val, by omega⟩ = k0_pay16 (F := Ideal) x5 x6 (ix2 r j) := by
  have hj := j.2
  unfold tD
  rw [dif_neg (by dsimp only; omega)]
  rw [dif_neg (by dsimp only; omega)]
  rw [dif_neg (by dsimp only; omega)]
  rw [dif_pos (by dsimp only; omega)]
  exact congrArg (fun t => k0_pay16 (F := Ideal) x5 x6 (ix2 r t)) (Fin.ext (by dsimp only; omega))
theorem emb3 (j : Fin 256) : r3.emb (ix2 a j) = ix2 a (⟨1792 + j.val, by omega⟩ : Fin 2560) := by
  funext t
  apply Fin.ext
  fin_cases t
  · show 0 + 1 * a.val = a.val
    omega
  · show 1792 + 1 * j.val = 1792 + j.val
    omega
theorem tD4 (j : Fin 512) : tD x2 x3 x4 x5 x6 r ⟨2048 + j.val, by omega⟩ = k0_pay18 (F := Ideal) x3 (ix2 r j) := by
  have hj := j.2
  unfold tD
  rw [dif_neg (by dsimp only; omega)]
  rw [dif_neg (by dsimp only; omega)]
  rw [dif_neg (by dsimp only; omega)]
  rw [dif_neg (by dsimp only; omega)]
  exact congrArg (fun t => k0_pay18 (F := Ideal) x3 (ix2 r t)) (Fin.ext (by dsimp only; omega))
theorem emb4 (j : Fin 512) : r4.emb (ix2 a j) = ix2 a (⟨2048 + j.val, by omega⟩ : Fin 2560) := by
  funext t
  apply Fin.ext
  fin_cases t
  · show 0 + 1 * a.val = a.val
    omega
  · show 2048 + 1 * j.val = 2048 + j.val
    omega
theorem split (f : Fin 2560 → EReal) : ∑ j, f j = (∑ j : Fin 768, f ⟨0 + j.val, by omega⟩) + (∑ j : Fin 512, f ⟨768 + j.val, by omega⟩) + (∑ j : Fin 512, f ⟨1280 + j.val, by omega⟩)
    + (∑ j : Fin 256, f ⟨1792 + j.val, by omega⟩) + ∑ j : Fin 512, f ⟨2048 + j.val, by omega⟩ := by
  refine (Fin.sum_univ_add (M := EReal) (a := 2048) (b := 512) f).trans (congrArg₂ (fun u v : EReal => u + v) ?_ rfl)
  refine (Fin.sum_univ_add (M := EReal) (a := 1792) (b := 256) _).trans (congrArg₂ (fun u v : EReal => u + v) ?_ rfl)
  refine (Fin.sum_univ_add (M := EReal) (a := 1280) (b := 512) _).trans (congrArg₂ (fun u v : EReal => u + v) ?_ rfl)
  refine (Fin.sum_univ_add (M := EReal) (a := 768) (b := 512) _).trans (congrArg₂ (fun u v : EReal => u + v) ?_ rfl)
  refine Finset.sum_congr rfl fun j _ => congrArg f (Fin.ext ?_)
  show j.val = 0 + j.val
  omega

theorem tDh_sum : (tDh (F := Ideal) x2 x3 x4 x5 x6 x10 (ix2 r a) : EReal) = ∑ j : Fin 2560, tD x2 x3 x4 x5 x6 r j * x10 (ix2 a j) := by
  rw [tDh_at, tP_at]
  refine ((split fun j => tD x2 x3 x4 x5 x6 r j * x10 (ix2 a j)).trans ?_).symm
  refine congrArg₂ (fun u v : EReal => u + v) (congrArg₂ (fun u v : EReal => u + v) (congrArg₂ (fun u v : EReal => u + v) (congrArg₂ (fun u v : EReal => u + v) ?_ ?_) ?_) ?_) ?_
  · exact Finset.sum_congr rfl fun j _ => congrArg₂ (fun u v : EReal => u * v) (tD0 x2 x3 x4 x5 x6 r j) (congrArg (fun t => x10 (ix2 a t)) (Fin.ext (Nat.zero_add _)))
  · exact Finset.sum_congr rfl fun j _ => congrArg₂ (fun u v : EReal => u * v) (tD1 x2 x3 x4 x5 x6 r j) rfl
  · exact Finset.sum_congr rfl fun j _ => congrArg₂ (fun u v : EReal => u * v) (tD2 x2 x3 x4 x5 x6 r j) rfl
  · exact Finset.sum_congr rfl fun j _ => congrArg₂ (fun u v : EReal => u * v) (tD3 x2 x3 x4 x5 x6 r j) rfl
  · exact Finset.sum_congr rfl fun j _ => congrArg₂ (fun u v : EReal => u * v) (tD4 x2 x3 x4 x5 x6 r j) rfl

/-- The weights' gradient after the tile. -/
def gW (p : C32 S1024x2560) (h : C16 S512x1024) (x2 : C16 S512x768) (x3 : C16 S512x1024) (x4 : C32 S512x512) (x5 x6 : C32 S512x256) : C32 S1024x2560 := fun y =>
  p y + ∑ r : Fin 512, h (ix2 r (y 0 : Fin 1024)) * tD x2 x3 x4 x5 x6 r (y 1 : Fin 2560)

theorem piece0 (y : S1024x768.Idx) : (k0_pay19 (F := Ideal) h x2 (View.ld p r0) : C32 S1024x768) y = gW p h x2 x3 x4 x5 x6 (r0.emb y) := by
  have e := eq_ix2 (n0 := 1024) (n1 := 768) y
  generalize (y 0 : Fin 1024) = a at e
  generalize (y 1 : Fin 768) = j at e
  subst e
  rw [emb0 a j]
  refine (p19 h a x2 _ j).trans ?_
  refine congrArg₂ (fun u v : EReal => u + v) (congrArg p (emb0 a j)) (Finset.sum_congr rfl fun r _ => congrArg (fun u : EReal => h (ix2 r a) * u) ?_)
  exact ((tD0 x2 x3 x4 x5 x6 r j).symm)
theorem piece1 (y : S1024x512.Idx) : (k0_pay20 (F := Ideal) h (k0_pay14 x3) (View.ld p r1) : C32 S1024x512) y = gW p h x2 x3 x4 x5 x6 (r1.emb y) := by
  have e := eq_ix2 (n0 := 1024) (n1 := 512) y
  generalize (y 0 : Fin 1024) = a at e
  generalize (y 1 : Fin 512) = j at e
  subst e
  rw [emb1 a j]
  refine (p20 h a (k0_pay14 x3) _ j).trans ?_
  refine congrArg₂ (fun u v : EReal => u + v) (congrArg p (emb1 a j)) (Finset.sum_congr rfl fun r _ => congrArg (fun u : EReal => h (ix2 r a) * u) ?_)
  exact ((tD1 x2 x3 x4 x5 x6 r j).symm)
theorem piece2 (y : S1024x512.Idx) : (k0_pay21 (F := Ideal) h (k0_pay15 x4) (View.ld p r2) : C32 S1024x512) y = gW p h x2 x3 x4 x5 x6 (r2.emb y) := by
  have e := eq_ix2 (n0 := 1024) (n1 := 512) y
  generalize (y 0 : Fin 1024) = a at e
  generalize (y 1 : Fin 512) = j at e
  subst e
  rw [emb2 a j]
  refine (p21 h a (k0_pay15 x4) _ j).trans ?_
  refine congrArg₂ (fun u v : EReal => u + v) (congrArg p (emb2 a j)) (Finset.sum_congr rfl fun r _ => congrArg (fun u : EReal => h (ix2 r a) * u) ?_)
  exact ((p15 x4 r j).trans (tD2 x2 x3 x4 x5 x6 r j).symm)
theorem piece3 (y : S1024x256.Idx) : (k0_pay23 (F := Ideal) h (k0_pay16 x5 x6) (View.ld p r3) : C32 S1024x256) y = gW p h x2 x3 x4 x5 x6 (r3.emb y) := by
  have e := eq_ix2 (n0 := 1024) (n1 := 256) y
  generalize (y 0 : Fin 1024) = a at e
  generalize (y 1 : Fin 256) = j at e
  subst e
  rw [emb3 a j]
  refine (p23 h a (k0_pay16 x5 x6) _ j).trans ?_
  refine congrArg₂ (fun u v : EReal => u + v) (congrArg p (emb3 a j)) (Finset.sum_congr rfl fun r _ => congrArg (fun u : EReal => h (ix2 r a) * u) ?_)
  exact ((tD3 x2 x3 x4 x5 x6 r j).symm)
theorem piece4 (y : S1024x512.Idx) : (k0_pay24 (F := Ideal) h (k0_pay18 x3) (View.ld p r4) : C32 S1024x512) y = gW p h x2 x3 x4 x5 x6 (r4.emb y) := by
  have e := eq_ix2 (n0 := 1024) (n1 := 512) y
  generalize (y 0 : Fin 1024) = a at e
  generalize (y 1 : Fin 512) = j at e
  subst e
  rw [emb4 a j]
  refine (p24 h a (k0_pay18 x3) _ j).trans ?_
  refine congrArg₂ (fun u v : EReal => u + v) (congrArg p (emb4 a j)) (Finset.sum_congr rfl fun r _ => congrArg (fun u : EReal => h (ix2 r a) * u) ?_)
  exact ((tD4 x2 x3 x4 x5 x6 r j).symm)
theorem covL (y : S1024x2560.Idx) : ∃ q ∈ tL (F := Ideal) p h x2 x3 x4 x5 x6, y ∈ q.1.set :=
  View.cover_of_tiledBy (tL (F := Ideal) p h x2 x3 x4 x5 x6) ![1024, 256] (by sl_kernel_rfl) y
theorem pieces : View.PiecesOf (gW p h x2 x3 x4 x5 x6) (tL (F := Ideal) p h x2 x3 x4 x5 x6) :=
  ⟨piece4 x2 x3 x4 x5 x6 p h, piece3 x2 x3 x4 x5 x6 p h, piece2 x2 x3 x4 x5 x6 p h, piece1 x2 x3 x4 x5 x6 p h, piece0 x2 x3 x4 x5 x6 p h, trivial⟩
theorem canonL : View.canon (tL (F := Ideal) p h x2 x3 x4 x5 x6) = gW p h x2 x3 x4 x5 x6 := by
  funext y
  have e := View.canon_append_of_piecesOf (gW p h x2 x3 x4 x5 x6) [] (tL (F := Ideal) p h x2 x3 x4 x5 x6) (pieces x2 x3 x4 x5 x6 p h) y (covL x2 x3 x4 x5 x6 p h y)
  rwa [List.append_nil] at e
theorem canonL' (L' : List (View.Piece (Elt Ideal) S1024x2560 .f32)) : View.canon (tL (F := Ideal) p h x2 x3 x4 x5 x6 ++ L') = gW p h x2 x3 x4 x5 x6 := by
  funext y
  exact View.canon_append_of_piecesOf (gW p h x2 x3 x4 x5 x6) L' (tL (F := Ideal) p h x2 x3 x4 x5 x6) (pieces x2 x3 x4 x5 x6 p h) y (covL x2 x3 x4 x5 x6 p h y)

end Cert.Proof.InB

end
-- ==== Proof.InRef.lean ====
/- The reference of the second call: its operations in layers. -/
module

public import proofs.«01_k».proof.Proof.Gen.Reference2Ideal.Run
public import Idealize.ShloMosaic.Lib.Pointwise

@[expose] public section

set_option maxRecDepth 16384

noncomputable section

namespace Cert.Proof.InRef

open Cert.Reference2Ideal Cert.Reference2Ideal.Gen
open Idealize.ShloMosaic Idealize.ShloMosaic.TcCoe Idealize.ShloMosaic.Tactic

abbrev C32 (S : Shape) := FVec Ideal S .f32
abbrev C16 (S : Shape) := FVec Ideal S .bf16

/-- A key or value gradient with its two copies of each head added. -/
def lDup (k : C32 S8192x256) : C32 S8192x128 :=
  (shapeCast S8192x128 (Host.reduceAdd (shapeCast S8192x2x2x64 k shapeCasts_S8192x256_S8192x2x2x64) (constant S_ .f32 0x00000000#32) reducesTo_S8192x2x2x64_S8192x2x64_d2 h_S_) shapeCasts_S8192x2x64_S8192x128)
/-- The gradient of the projections. -/
def lD (z : C16 S8192x768) (g : C16 S8192x1024) (q : C32 S8192x512) (dk : C32 S8192x128) (dv : C32 S8192x128) : C32 S8192x2560 :=
  (concatenate S8192x2560 1 [⟨S8192x768, ((extf .f32 z bitsLt_bf16_f32) : C32 S8192x768)⟩, ⟨S8192x512, ((extf .f32 (extractStridedSlice S8192x512 ![0, 0] g slices_S8192x1024_S8192x512_0_0) bitsLt_bf16_f32) : C32 S8192x512)⟩, ⟨S8192x512, (q : C32 S8192x512)⟩, ⟨S8192x128, ((mulf dk (broadcastInDim S8192x128 ![] bcast_S_S8192x128 (Host.log (constant S_ .f32 0x40000000#32)))) : C32 S8192x128)⟩, ⟨S8192x128, (dv : C32 S8192x128)⟩, ⟨S8192x512, ((extf .f32 (extractStridedSlice S8192x512 ![0, 512] g slices_S8192x1024_S8192x512_0_512) bitsLt_bf16_f32) : C32 S8192x512)⟩] concatenates_S8192x768_S8192x512_S8192x512_S8192x128_S8192x128_S8192x512_S8192x2560_d1)
/-- The input by sequence. -/
def lX (x : C32 S8192x1024) : C32 S4x2048x1024 :=
  (shapeCast S4x2048x1024 x shapeCasts_S8192x1024_S4x2048x1024)
/-- The mean squares. -/
def lMs (x3 : C32 S4x2048x1024) : C32 S4x2048x1 :=
  (addf (Host.divf (broadcastInDim S4x2048x1 ![0, 1] bcast_S4x2048_S4x2048x1_0_1 (Host.reduceAdd (mulf x3 x3) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))
/-- Their inverse roots. -/
def lR (s : C32 S4x2048x1) : C32 S4x2048x1 :=
  (Host.rsqrt s)
/-- The normalised input. -/
def lXn (x3 : C32 S4x2048x1024) (r : C32 S4x2048x1) : C32 S4x2048x1024 :=
  (mulf x3 (broadcastInDim S4x2048x1024 ![0, 1, 2] bcast_S4x2048x1_S4x2048x1024_0_1_2 r))
/-- One plus the scale. -/
def lSc (md : C32 S4x1x3072) (b : C32 S1x3072) : C32 S4x1x1024 :=
  (addf (broadcastInDim S4x1x1024 ![] bcast_S_S4x1x1024 (constant S_ .f32 0x3F800000#32)) (extractStridedSlice S4x1x1024 ![0, 0, 1024] (addf md (broadcastInDim S4x1x3072 ![0, 1, 2] bcast_S1x1x3072_S4x1x3072_0_1_2 (broadcastInDim S1x1x3072 ![1, 2] bcast_S1x3072_S1x1x3072_1_2 b))) slices_S4x1x3072_S4x1x1024_0_0_1024))
/-- The shift. -/
def lSh (md : C32 S4x1x3072) (b : C32 S1x3072) : C32 S4x1x1024 :=
  (extractStridedSlice S4x1x1024 ![0, 0, 0] (addf md (broadcastInDim S4x1x3072 ![0, 1, 2] bcast_S1x1x3072_S4x1x3072_0_1_2 (broadcastInDim S1x1x3072 ![1, 2] bcast_S1x3072_S1x1x3072_1_2 b))) slices_S4x1x3072_S4x1x1024_0_0_0)
/-- The modulated input. -/
def lH (xn : C32 S4x2048x1024) (ng : C32 S1x1024) (sc : C32 S4x1x1024) (sh : C32 S4x1x1024) : C32 S8192x1024 :=
  (shapeCast S8192x1024 (addf (mulf (mulf xn (broadcastInDim S4x2048x1024 ![0, 1, 2] bcast_S1x1x1024_S4x2048x1024_0_1_2 (broadcastInDim S1x1x1024 ![1, 2] bcast_S1x1024_S1x1x1024_1_2 ng))) (broadcastInDim S4x2048x1024 ![0, 1, 2] bcast_S4x1x1024_S4x2048x1024_0_1_2 sc)) (broadcastInDim S4x2048x1024 ![0, 1, 2] bcast_S4x1x1024_S4x2048x1024_0_1_2 sh)) shapeCasts_S4x2048x1024_S8192x1024)
/-- The weights' gradient. -/
def lGw (d : C32 S8192x2560) (h : C32 S8192x1024) : C32 S1024x2560 :=
  (transpose S1024x2560 [1, 0] (Host.dotGeneral dot_S8192x2560_S8192x1024_S2560x1024_0_0_1_1_n_n none d h) transposes_S2560x1024_S1024x2560_1_0)
/-- The modulated input's gradient. -/
def lDh (d : C32 S8192x2560) (w : C16 S1024x2560) : C32 S4x2048x1024 :=
  (shapeCast S4x2048x1024 (Host.dotGeneral dot_S8192x2560_S1024x2560_S8192x1024_1_1_0_0_n_n none d (extf .f32 w bitsLt_bf16_f32)) shapeCasts_S8192x1024_S4x2048x1024)
/-- The shift's gradient. -/
def lGsh (dh : C32 S4x2048x1024) : C32 S4x1x1024 :=
  (shapeCast S4x1x1024 (Host.reduceAdd dh (constant S_ .f32 0x00000000#32) reducesTo_S4x2048x1024_S4x1024_d1 h_S_) shapeCasts_S4x1024_S4x1x1024)
/-- The scale's gradient. -/
def lGsc (xn : C32 S4x2048x1024) (ng : C32 S1x1024) (dh : C32 S4x2048x1024) : C32 S4x1x1024 :=
  (shapeCast S4x1x1024 (Host.reduceAdd (mulf (mulf xn (broadcastInDim S4x2048x1024 ![0, 1, 2] bcast_S1x1x1024_S4x2048x1024_0_1_2 (broadcastInDim S1x1x1024 ![1, 2] bcast_S1x1024_S1x1x1024_1_2 ng))) dh) (constant S_ .f32 0x00000000#32) reducesTo_S4x2048x1024_S4x1024_d1 h_S_) shapeCasts_S4x1024_S4x1x1024)
/-- The gain's gradient. -/
def lGng (xn : C32 S4x2048x1024) (dh : C32 S4x2048x1024) (sc : C32 S4x1x1024) : C32 S1x1024 :=
  (broadcastInDim S1x1024 ![1] bcast_S1024_S1x1024_1 (Host.reduceAdd (shapeCast S1x1x1024 (Host.reduceAdd (mulf xn (mulf dh (broadcastInDim S4x2048x1024 ![0, 1, 2] bcast_S4x1x1024_S4x2048x1024_0_1_2 sc))) (constant S_ .f32 0x00000000#32) reducesTo_S4x2048x1024_S1024_d0_1 h_S_) shapeCasts_S1024_S1x1x1024) (constant S_ .f32 0x00000000#32) reducesTo_S1x1x1024_S1024_d0_1 h_S_))
/-- The normalised input's gradient. -/
def lDy (dh : C32 S4x2048x1024) (sc : C32 S4x1x1024) (ng : C32 S1x1024) : C32 S4x2048x1024 :=
  (mulf (mulf dh (broadcastInDim S4x2048x1024 ![0, 1, 2] bcast_S4x1x1024_S4x2048x1024_0_1_2 sc)) (broadcastInDim S4x2048x1024 ![0, 1, 2] bcast_S1x1x1024_S4x2048x1024_0_1_2 (broadcastInDim S1x1x1024 ![1, 2] bcast_S1x1024_S1x1x1024_1_2 ng)))
/-- The input's gradient. -/
def lGx (d2 : C32 S8192x1024) (x3 : C32 S4x2048x1024) (dy : C32 S4x2048x1024) (r : C32 S4x2048x1) (s : C32 S4x2048x1) : C32 S8192x1024 :=
  (addf d2 (shapeCast S8192x1024 (addf (addf (mulf dy (broadcastInDim S4x2048x1024 ![0, 1, 2] bcast_S4x2048x1_S4x2048x1024_0_1_2 r)) (mulf x3 (broadcastInDim S4x2048x1024 ![0, 1] bcast_S4x2048_S4x2048x1024_0_1 (Host.reduceAdd (Host.divf (mulf (shapeCast S4x2048x1 (Host.reduceAdd (mulf x3 dy) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf r s))) (broadcastInDim S4x2048x1 ![] bcast_S_S4x2048x1 (constant S_ .f32 0x44800000#32))) (constant S_ .f32 0x00000000#32) reducesTo_S4x2048x1_S4x2048_d2 h_S_)))) (mulf (broadcastInDim S4x2048x1024 ![0, 1] bcast_S4x2048_S4x2048x1024_0_1 (Host.reduceAdd (Host.divf (mulf (shapeCast S4x2048x1 (Host.reduceAdd (mulf x3 dy) (constant S_ .f32 0x00000000#32) reducesTo_S4x2048x1024_S4x2048_d2 h_S_) shapeCasts_S4x2048_S4x2048x1) (mulf (broadcastInDim S4x2048x1 ![] bcast_S_S4x2048x1 (constant S_ .f32 0xBF000000#32)) (Host.divf r s))) (broadcastInDim S4x2048x1 ![] bcast_S_S4x2048x1 (constant S_ .f32 0x44800000#32))) (constant S_ .f32 0x00000000#32) reducesTo_S4x2048x1_S4x2048_d2 h_S_)) x3)) shapeCasts_S4x2048x1024_S8192x1024))

def rD (z : C16 S8192x768) (g : C16 S8192x1024) (q : C32 S8192x512) (k v : C32 S8192x256) : C32 S8192x2560 := lD z g q (lDup k) (lDup v)
def rMs (x : C32 S8192x1024) : C32 S4x2048x1 := lMs (lX x)
def rR (x : C32 S8192x1024) : C32 S4x2048x1 := lR (rMs x)
def rXn (x : C32 S8192x1024) : C32 S4x2048x1024 := lXn (lX x) (rR x)
def rH (x : C32 S8192x1024) (md : C32 S4x1x3072) (b : C32 S1x3072) (ng : C32 S1x1024) : C32 S8192x1024 := lH (rXn x) ng (lSc md b) (lSh md b)

section
variable (m : (ℓ : Loc nD τ sig) → Buf (Elt Ideal) ℓ) (c : Dev nD)
abbrev a0 : C32 S8192x1024 := m ((c.tc : Thread nD τ).loc main_arg0)
abbrev a1 : C32 S8192x1024 := m ((c.tc : Thread nD τ).loc main_arg1)
abbrev a2 : C16 S8192x768 := m ((c.tc : Thread nD τ).loc main_arg2)
abbrev a3 : C16 S8192x1024 := m ((c.tc : Thread nD τ).loc main_arg3)
abbrev a4 : C32 S8192x512 := m ((c.tc : Thread nD τ).loc main_arg4)
abbrev a5 : C32 S8192x256 := m ((c.tc : Thread nD τ).loc main_arg5)
abbrev a6 : C32 S8192x256 := m ((c.tc : Thread nD τ).loc main_arg6)
abbrev a7 : C32 S4x1x3072 := m ((c.tc : Thread nD τ).loc main_arg7)
abbrev a8 : C32 S1x3072 := m ((c.tc : Thread nD τ).loc main_arg8)
abbrev a9 : C32 S1x1024 := m ((c.tc : Thread nD τ).loc main_arg9)
abbrev a10 : C16 S1024x2560 := m ((c.tc : Thread nD τ).loc main_arg10)

theorem res_v82 : Value.res_main_v82 m c = lGx (a1 m c) (lX (a0 m c)) (lDy (lDh (rD (a2 m c) (a3 m c) (a4 m c) (a5 m c) (a6 m c)) (a10 m c)) (lSc (a7 m c) (a8 m c)) (a9 m c)) (rR (a0 m c)) (rMs (a0 m c)) := by
  unfold Value.res_main_v82 lGx lDy lDh rD rR lR rMs lMs lX lD lDup lSc
  rfl
/-- The reference's result `v50`, as written. -/
def res_v50 : C32 S1024x2560 := transpose S1024x2560 [1, 0] (Host.dotGeneral dot_S8192x2560_S8192x1024_S2560x1024_0_0_1_1_n_n none ((concatenate S8192x2560 1 [⟨S8192x768, ((extf .f32 (m ((c.tc : Thread nD τ).loc main_arg2)) bitsLt_bf16_f32) : C32 S8192x768)⟩, ⟨S8192x512, ((extf .f32 (extractStridedSlice S8192x512 ![0, 0] (m ((c.tc : Thread nD τ).loc main_arg3)) slices_S8192x1024_S8192x512_0_0) bitsLt_bf16_f32) : C32 S8192x512)⟩, ⟨S8192x512, ((m ((c.tc : Thread nD τ).loc main_arg4)) : C32 S8192x512)⟩, ⟨S8192x128, ((mulf (shapeCast _ (Host.reduceAdd (shapeCast _ (m ((c.tc : Thread nD τ).loc main_arg5)) shapeCasts_S8192x256_S8192x2x2x64) (constant S_ .f32 0x00000000#32) reducesTo_S8192x2x2x64_S8192x2x64_d2 h_S_) shapeCasts_S8192x2x64_S8192x128) (broadcastInDim S8192x128 ![] bcast_S_S8192x128 (Host.log (constant S_ .f32 0x40000000#32)))) : C32 S8192x128)⟩, ⟨S8192x128, ((shapeCast _ (Host.reduceAdd (shapeCast _ (m ((c.tc : Thread nD τ).loc main_arg6)) shapeCasts_S8192x256_S8192x2x2x64) (constant S_ .f32 0x00000000#32) reducesTo_S8192x2x2x64_S8192x2x64_d2 h_S_) shapeCasts_S8192x2x64_S8192x128) : C32 S8192x128)⟩, ⟨S8192x512, ((extf .f32 (extractStridedSlice S8192x512 ![0, 512] (m ((c.tc : Thread nD τ).loc main_arg3)) slices_S8192x1024_S8192x512_0_512) bitsLt_bf16_f32) : C32 S8192x512)⟩] concatenates_S8192x768_S8192x512_S8192x512_S8192x128_S8192x128_S8192x512_S8192x2560_d1 : C32 S8192x2560)) (shapeCast _ (addf (mulf (mulf (mulf (shapeCast _ (m ((c.tc : Thread nD τ).loc main_arg0)) shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ (m ((c.tc : Thread nD τ).loc main_arg0)) shapeCasts_S8192x1024_S4x2048x1024) (shapeCast _ (m ((c.tc : Thread nD τ).loc main_arg0)) shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![1, 2] bcast_S1x1024_S1x1x1024_1_2 (m ((c.tc : Thread nD τ).loc main_arg9))))) (broadcastInDim S4x2048x1024 ![0, 1, 2] bcast_S4x1x1024_S4x2048x1024_0_1_2 (addf (broadcastInDim S4x1x1024 ![] bcast_S_S4x1x1024 (constant S_ .f32 0x3F800000#32)) (extractStridedSlice S4x1x1024 ![0, 0, 1024] (addf (m ((c.tc : Thread nD τ).loc main_arg7)) (broadcastInDim S4x1x3072 ![0, 1, 2] bcast_S1x1x3072_S4x1x3072_0_1_2 (broadcastInDim S1x1x3072 ![1, 2] bcast_S1x3072_S1x1x3072_1_2 (m ((c.tc : Thread nD τ).loc main_arg8))))) slices_S4x1x3072_S4x1x1024_0_0_1024)))) (broadcastInDim S4x2048x1024 ![0, 1, 2] bcast_S4x1x1024_S4x2048x1024_0_1_2 (extractStridedSlice S4x1x1024 ![0, 0, 0] (addf (m ((c.tc : Thread nD τ).loc main_arg7)) (broadcastInDim S4x1x3072 ![0, 1, 2] bcast_S1x1x3072_S4x1x3072_0_1_2 (broadcastInDim S1x1x3072 ![1, 2] bcast_S1x3072_S1x1x3072_1_2 (m ((c.tc : Thread nD τ).loc main_arg8))))) slices_S4x1x3072_S4x1x1024_0_0_0))) shapeCasts_S4x2048x1024_S8192x1024)) transposes_S2560x1024_S1024x2560_1_0
theorem res_v50_eq : res_v50 m c = lGw (rD (a2 m c) (a3 m c) (a4 m c) (a5 m c) (a6 m c)) (rH (a0 m c) (a7 m c) (a8 m c) (a9 m c)) := by
  unfold res_v50 lGw rD rH lH rXn lXn rR lR rMs lMs lX lD lDup lSc lSh
  rfl
/-- The reference's result `v66`, as written. -/
def res_v66 : C32 S1x1024 := broadcastInDim S1x1024 ![1] bcast_S1024_S1x1024_1 (Host.reduceAdd (shapeCast _ (Host.reduceAdd (mulf (mulf (shapeCast _ (m ((c.tc : Thread nD τ).loc main_arg0)) shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ (m ((c.tc : Thread nD τ).loc main_arg0)) shapeCasts_S8192x1024_S4x2048x1024) (shapeCast _ (m ((c.tc : Thread nD τ).loc main_arg0)) shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (mulf (shapeCast _ (Host.dotGeneral dot_S8192x2560_S1024x2560_S8192x1024_1_1_0_0_n_n none ((concatenate S8192x2560 1 [⟨S8192x768, ((extf .f32 (m ((c.tc : Thread nD τ).loc main_arg2)) bitsLt_bf16_f32) : C32 S8192x768)⟩, ⟨S8192x512, ((extf .f32 (extractStridedSlice S8192x512 ![0, 0] (m ((c.tc : Thread nD τ).loc main_arg3)) slices_S8192x1024_S8192x512_0_0) bitsLt_bf16_f32) : C32 S8192x512)⟩, ⟨S8192x512, ((m ((c.tc : Thread nD τ).loc main_arg4)) : C32 S8192x512)⟩, ⟨S8192x128, ((mulf (shapeCast _ (Host.reduceAdd (shapeCast _ (m ((c.tc : Thread nD τ).loc main_arg5)) shapeCasts_S8192x256_S8192x2x2x64) (constant S_ .f32 0x00000000#32) reducesTo_S8192x2x2x64_S8192x2x64_d2 h_S_) shapeCasts_S8192x2x64_S8192x128) (broadcastInDim S8192x128 ![] bcast_S_S8192x128 (Host.log (constant S_ .f32 0x40000000#32)))) : C32 S8192x128)⟩, ⟨S8192x128, ((shapeCast _ (Host.reduceAdd (shapeCast _ (m ((c.tc : Thread nD τ).loc main_arg6)) shapeCasts_S8192x256_S8192x2x2x64) (constant S_ .f32 0x00000000#32) reducesTo_S8192x2x2x64_S8192x2x64_d2 h_S_) shapeCasts_S8192x2x64_S8192x128) : C32 S8192x128)⟩, ⟨S8192x512, ((extf .f32 (extractStridedSlice S8192x512 ![0, 512] (m ((c.tc : Thread nD τ).loc main_arg3)) slices_S8192x1024_S8192x512_0_512) bitsLt_bf16_f32) : C32 S8192x512)⟩] concatenates_S8192x768_S8192x512_S8192x512_S8192x128_S8192x128_S8192x512_S8192x2560_d1 : C32 S8192x2560)) (extf .f32 (m ((c.tc : Thread nD τ).loc main_arg10)) bitsLt_bf16_f32)) shapeCasts_S8192x1024_S4x2048x1024) (broadcastInDim S4x2048x1024 ![0, 1, 2] bcast_S4x1x1024_S4x2048x1024_0_1_2 (addf (broadcastInDim S4x1x1024 ![] bcast_S_S4x1x1024 (constant S_ .f32 0x3F800000#32)) (extractStridedSlice S4x1x1024 ![0, 0, 1024] (addf (m ((c.tc : Thread nD τ).loc main_arg7)) (broadcastInDim S4x1x3072 ![0, 1, 2] bcast_S1x1x3072_S4x1x3072_0_1_2 (broadcastInDim S1x1x3072 ![1, 2] bcast_S1x3072_S1x1x3072_1_2 (m ((c.tc : Thread nD τ).loc main_arg8))))) slices_S4x1x3072_S4x1x1024_0_0_1024))))) (constant S_ .f32 0x00000000#32) reducesTo_S4x2048x1024_S1024_d0_1 h_S_) shapeCasts_S1024_S1x1x1024) (constant S_ .f32 0x00000000#32) reducesTo_S1x1x1024_S1024_d0_1 h_S_)
theorem res_v66_eq : res_v66 m c = lGng (rXn (a0 m c)) (lDh (rD (a2 m c) (a3 m c) (a4 m c) (a5 m c) (a6 m c)) (a10 m c)) (lSc (a7 m c) (a8 m c)) := by
  unfold res_v66 lGng lDh rD rXn lXn rR lR rMs lMs lX lD lDup lSc
  rfl
/-- The reference's result `v54`, as written. -/
def res_v54 : C32 S4x1x1024 := shapeCast _ (Host.reduceAdd (shapeCast _ (Host.dotGeneral dot_S8192x2560_S1024x2560_S8192x1024_1_1_0_0_n_n none ((concatenate S8192x2560 1 [⟨S8192x768, ((extf .f32 (m ((c.tc : Thread nD τ).loc main_arg2)) bitsLt_bf16_f32) : C32 S8192x768)⟩, ⟨S8192x512, ((extf .f32 (extractStridedSlice S8192x512 ![0, 0] (m ((c.tc : Thread nD τ).loc main_arg3)) slices_S8192x1024_S8192x512_0_0) bitsLt_bf16_f32) : C32 S8192x512)⟩, ⟨S8192x512, ((m ((c.tc : Thread nD τ).loc main_arg4)) : C32 S8192x512)⟩, ⟨S8192x128, ((mulf (shapeCast _ (Host.reduceAdd (shapeCast _ (m ((c.tc : Thread nD τ).loc main_arg5)) shapeCasts_S8192x256_S8192x2x2x64) (constant S_ .f32 0x00000000#32) reducesTo_S8192x2x2x64_S8192x2x64_d2 h_S_) shapeCasts_S8192x2x64_S8192x128) (broadcastInDim S8192x128 ![] bcast_S_S8192x128 (Host.log (constant S_ .f32 0x40000000#32)))) : C32 S8192x128)⟩, ⟨S8192x128, ((shapeCast _ (Host.reduceAdd (shapeCast _ (m ((c.tc : Thread nD τ).loc main_arg6)) shapeCasts_S8192x256_S8192x2x2x64) (constant S_ .f32 0x00000000#32) reducesTo_S8192x2x2x64_S8192x2x64_d2 h_S_) shapeCasts_S8192x2x64_S8192x128) : C32 S8192x128)⟩, ⟨S8192x512, ((extf .f32 (extractStridedSlice S8192x512 ![0, 512] (m ((c.tc : Thread nD τ).loc main_arg3)) slices_S8192x1024_S8192x512_0_512) bitsLt_bf16_f32) : C32 S8192x512)⟩] concatenates_S8192x768_S8192x512_S8192x512_S8192x128_S8192x128_S8192x512_S8192x2560_d1 : C32 S8192x2560)) (extf .f32 (m ((c.tc : Thread nD τ).loc main_arg10)) bitsLt_bf16_f32)) shapeCasts_S8192x1024_S4x2048x1024) (constant S_ .f32 0x00000000#32) reducesTo_S4x2048x1024_S4x1024_d1 h_S_) shapeCasts_S4x1024_S4x1x1024
theorem res_v54_eq : res_v54 m c = lGsh (lDh (rD (a2 m c) (a3 m c) (a4 m c) (a5 m c) (a6 m c)) (a10 m c)) := by
  unfold res_v54 lGsh lDh rD lD lDup
  rfl
/-- The reference's result `v57`, as written. -/
def res_v57 : C32 S4x1x1024 := shapeCast _ (Host.reduceAdd (mulf (mulf (mulf (shapeCast _ (m ((c.tc : Thread nD τ).loc main_arg0)) shapeCasts_S8192x1024_S4x2048x1024) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (shapeCast _ (m ((c.tc : Thread nD τ).loc main_arg0)) shapeCasts_S8192x1024_S4x2048x1024) (shapeCast _ (m ((c.tc : Thread nD τ).loc main_arg0)) shapeCasts_S8192x1024_S4x2048x1024)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![1, 2] bcast_S1x1024_S1x1x1024_1_2 (m ((c.tc : Thread nD τ).loc main_arg9))))) (shapeCast _ (Host.dotGeneral dot_S8192x2560_S1024x2560_S8192x1024_1_1_0_0_n_n none ((concatenate S8192x2560 1 [⟨S8192x768, ((extf .f32 (m ((c.tc : Thread nD τ).loc main_arg2)) bitsLt_bf16_f32) : C32 S8192x768)⟩, ⟨S8192x512, ((extf .f32 (extractStridedSlice S8192x512 ![0, 0] (m ((c.tc : Thread nD τ).loc main_arg3)) slices_S8192x1024_S8192x512_0_0) bitsLt_bf16_f32) : C32 S8192x512)⟩, ⟨S8192x512, ((m ((c.tc : Thread nD τ).loc main_arg4)) : C32 S8192x512)⟩, ⟨S8192x128, ((mulf (shapeCast _ (Host.reduceAdd (shapeCast _ (m ((c.tc : Thread nD τ).loc main_arg5)) shapeCasts_S8192x256_S8192x2x2x64) (constant S_ .f32 0x00000000#32) reducesTo_S8192x2x2x64_S8192x2x64_d2 h_S_) shapeCasts_S8192x2x64_S8192x128) (broadcastInDim S8192x128 ![] bcast_S_S8192x128 (Host.log (constant S_ .f32 0x40000000#32)))) : C32 S8192x128)⟩, ⟨S8192x128, ((shapeCast _ (Host.reduceAdd (shapeCast _ (m ((c.tc : Thread nD τ).loc main_arg6)) shapeCasts_S8192x256_S8192x2x2x64) (constant S_ .f32 0x00000000#32) reducesTo_S8192x2x2x64_S8192x2x64_d2 h_S_) shapeCasts_S8192x2x64_S8192x128) : C32 S8192x128)⟩, ⟨S8192x512, ((extf .f32 (extractStridedSlice S8192x512 ![0, 512] (m ((c.tc : Thread nD τ).loc main_arg3)) slices_S8192x1024_S8192x512_0_512) bitsLt_bf16_f32) : C32 S8192x512)⟩] concatenates_S8192x768_S8192x512_S8192x512_S8192x128_S8192x128_S8192x512_S8192x2560_d1 : C32 S8192x2560)) (extf .f32 (m ((c.tc : Thread nD τ).loc main_arg10)) bitsLt_bf16_f32)) shapeCasts_S8192x1024_S4x2048x1024)) (constant S_ .f32 0x00000000#32) reducesTo_S4x2048x1024_S4x1024_d1 h_S_) shapeCasts_S4x1024_S4x1x1024
theorem res_v57_eq : res_v57 m c = lGsc (rXn (a0 m c)) (a9 m c) (lDh (rD (a2 m c) (a3 m c) (a4 m c) (a5 m c) (a6 m c)) (a10 m c)) := by
  unfold res_v57 lGsc lDh rD rXn lXn rR lR rMs lMs lX lD lDup
  rfl
end

section
variable (x d2 : C32 S8192x1024) (h : C32 S8192x1024) (x3 xn dh dy : C32 S4x2048x1024) (r s : C32 S4x2048x1) (md : C32 S4x1x3072) (b : C32 S1x3072) (ng : C32 S1x1024) (sc sh : C32 S4x1x1024)
  (z : C16 S8192x768) (g : C16 S8192x1024) (q : C32 S8192x512) (k v : C32 S8192x256) (dk dv : C32 S8192x128) (d : C32 S8192x2560) (w : C16 S1024x2560)
  (B : Fin 4) (i : Fin 2048) (a : Fin 1024) (R : Fin 8192)

/-- The mean path's factor of a row. -/
def lC (x3 dy : C32 S4x2048x1024) (r s : C32 S4x2048x1) (B : Fin 4) (i : Fin 2048) : EReal :=
  Ideal.div ((∑ a : Fin 1024, x3 (ix3 B i a) * dy (ix3 B i a)) * (Ideal.ofBits FTy.f32 0xBF000000#32 * Ideal.div (r (ix3 B i (0 : Fin 1))) (s (ix3 B i (0 : Fin 1))))) (Ideal.ofBits FTy.f32 0x44800000#32)
theorem lDup_at (j : Fin 128) : lDup k (ix2 R j) = k (ix2 R ⟨j.val / 64 * 128 + j.val % 64, by omega⟩) + k (ix2 R ⟨j.val / 64 * 128 + (64 + j.val % 64), by omega⟩) := by
  unfold lDup
  pointwise
  rw [Fin.sum_univ_two]
  refine congrArg₂ (· + ·) (congrArg (fun t => k (ix2 R t)) (Fin.ext ?_)) (congrArg (fun t => k (ix2 R t)) (Fin.ext ?_))
  · show j.val / 64 * 128 + 0 * 64 + j.val % 64 = j.val / 64 * 128 + j.val % 64
    omega
  · show j.val / 64 * 128 + 1 * 64 + j.val % 64 = j.val / 64 * 128 + (64 + j.val % 64)
    omega
theorem lX_at : lX x (ix3 B i a) = x (ix2 ⟨B.val * 2048 + i.val, by omega⟩ a) := by
  unfold lX
  pointwise
theorem lMs_at : lMs x3 (ix3 B i (0 : Fin 1)) = Ideal.div (∑ a : Fin 1024, x3 (ix3 B i a) * x3 (ix3 B i a)) (Ideal.ofBits FTy.f32 0x44800000#32) + Ideal.ofBits FTy.f32 0x358637BD#32 := by
  unfold lMs
  pointwise
theorem lR_at : lR s (ix3 B i (0 : Fin 1)) = Ideal.rsqrt (s (ix3 B i (0 : Fin 1))) := by
  unfold lR
  pointwise
theorem lXn_at : lXn x3 r (ix3 B i a) = x3 (ix3 B i a) * r (ix3 B i (0 : Fin 1)) := by
  unfold lXn
  pointwise
theorem lSc_at : lSc md b (ix3 B (0 : Fin 1) a) = Ideal.ofBits FTy.f32 0x3F800000#32 + (md (ix3 B (0 : Fin 1) ⟨1024 + a.val, by omega⟩) + b (ix2 (0 : Fin 1) ⟨1024 + a.val, by omega⟩)) := by
  unfold lSc
  pointwise
theorem lSh_at : lSh md b (ix3 B (0 : Fin 1) a) = md (ix3 B (0 : Fin 1) ⟨a.val, by omega⟩) + b (ix2 (0 : Fin 1) ⟨a.val, by omega⟩) := by
  unfold lSh
  pointwise
theorem lH_at : lH xn ng sc sh (ix2 R a) = xn (ix3 ⟨R.val / 2048, by omega⟩ ⟨R.val % 2048, by omega⟩ a) * ng (ix2 (0 : Fin 1) a) * sc (ix3 ⟨R.val / 2048, by omega⟩ (0 : Fin 1) a) + sh (ix3 ⟨R.val / 2048, by omega⟩ (0 : Fin 1) a) := by
  unfold lH
  pointwise
theorem lGw_at (j : Fin 2560) : lGw d h (ix2 a j) = ∑ R : Fin 8192, d (ix2 R j) * h (ix2 R a) := by
  unfold lGw
  pointwise
theorem lDh_at : lDh d w (ix3 B i a) = ∑ j : Fin 2560, d (ix2 ⟨B.val * 2048 + i.val, by omega⟩ j) * w (ix2 a j) := by
  unfold lDh
  pointwise
theorem lGsh_at : lGsh dh (ix3 B (0 : Fin 1) a) = ∑ i : Fin 2048, dh (ix3 B i a) := by
  unfold lGsh
  pointwise
theorem lGsc_at : lGsc xn ng dh (ix3 B (0 : Fin 1) a) = ∑ i : Fin 2048, xn (ix3 B i a) * ng (ix2 (0 : Fin 1) a) * dh (ix3 B i a) := by
  unfold lGsc
  pointwise
theorem drop_eq (y : S4x2048x1024.Idx) : reducesTo_S4x2048x1024_S1024_d0_1.drop y = ix1 a ↔ y 2 = a := by
  constructor
  · intro h
    exact congrFun h 0
  · intro h
    subst h
    funext t
    fin_cases t
    rfl
theorem red2 (f : S4x2048x1024.Idx → EReal) : Ideal.hostReduceAdd reducesTo_S4x2048x1024_S1024_d0_1 f 0 (ix1 a) = ∑ B : Fin 4, ∑ i : Fin 2048, f (ix3 B i a) := by
  unfold Ideal.hostReduceAdd
  rw [zero_add]
  refine (Finset.sum_bij' (t := (Finset.univ : Finset (Fin 4 × Fin 2048))) (g := fun p => f (ix3 p.1 p.2 a)) (fun y _ => ((y 0 : Fin 4), (y 1 : Fin 2048))) (fun p _ => ix3 p.1 p.2 a) ?_ ?_ ?_ ?_ ?_).trans
    (Fintype.sum_prod_type' fun B i => f (ix3 B i a))
  · intro y _
    exact Finset.mem_univ _
  · intro p _
    rw [Finset.mem_filter]
    exact ⟨Finset.mem_univ _, (drop_eq a _).2 rfl⟩
  · intro y hy
    have e := (drop_eq a y).1 (Finset.mem_filter.1 hy).2
    subst e
    exact (eq_ix3 (n0 := 4) (n1 := 2048) (n2 := 1024) y).symm
  · intro p _
    rfl
  · intro y hy
    have e := (drop_eq a y).1 (Finset.mem_filter.1 hy).2
    subst e
    exact congrArg f (eq_ix3 (n0 := 4) (n1 := 2048) (n2 := 1024) y)
theorem red1 (f : S1x1x1024.Idx → EReal) : Ideal.hostReduceAdd reducesTo_S1x1x1024_S1024_d0_1 f 0 (ix1 a) = f (ix3 (0 : Fin 1) (0 : Fin 1) a) := by
  unfold Ideal.hostReduceAdd
  rw [zero_add]
  have e : ∀ y : S1x1x1024.Idx, y = ix3 (0 : Fin 1) (0 : Fin 1) (y 2 : Fin 1024) := fun y =>
    (eq_ix3 (n0 := 1) (n1 := 1) (n2 := 1024) y).trans (congrArg₂ (fun u v : Fin 1 => ix3 u v (y 2 : Fin 1024)) (Subsingleton.elim (α := Fin 1) _ _) (Subsingleton.elim (α := Fin 1) _ _))
  rw [show (Finset.univ.filter fun y : S1x1x1024.Idx => reducesTo_S1x1x1024_S1024_d0_1.drop y = ix1 a) = {ix3 (0 : Fin 1) (0 : Fin 1) a} from ?_]
  · exact Finset.sum_singleton _ _
  · ext y
    rw [Finset.mem_filter, Finset.mem_singleton]
    constructor
    · intro h
      have h2 : (y 2 : Fin 1024) = a := congrFun h.2 0
      exact (e y).trans (congrArg (fun u : Fin 1024 => ix3 (0 : Fin 1) (0 : Fin 1) u) h2)
    · intro h
      subst h
      refine ⟨Finset.mem_univ _, ?_⟩
      funext t
      fin_cases t
      rfl
theorem lGng_at : lGng xn dh sc (ix2 (0 : Fin 1) a) = ∑ B : Fin 4, ∑ i : Fin 2048, xn (ix3 B i a) * (dh (ix3 B i a) * sc (ix3 B (0 : Fin 1) a)) := by
  unfold lGng
  pointwise
  rw [red1]
  have e1 : ∀ f : S1024.Idx → EReal, shapeCast S1x1x1024 f shapeCasts_S1024_S1x1x1024 (ix3 (0 : Fin 1) (0 : Fin 1) a) = f (ix1 a) := by
    intro f
    pointwise
  refine (e1 _).trans ?_
  have e2 : (constant (F := Ideal) S_ .f32 0x00000000#32) (Shape.Idx.first h_S_) = (0 : EReal) := by
    show Ideal.ofBits .f32 0x00000000#32 = 0
    simp [Ideal.ofBits, Ideal.ieee]
  refine (congrFun (congrArg (Ideal.hostReduceAdd reducesTo_S4x2048x1024_S1024_d0_1 _) e2) _).trans ((red2 a _).trans ?_)
  refine Finset.sum_congr rfl fun B _ => Finset.sum_congr rfl fun i _ => ?_
  pointwise
theorem lDy_at : lDy dh sc ng (ix3 B i a) = dh (ix3 B i a) * sc (ix3 B (0 : Fin 1) a) * ng (ix2 (0 : Fin 1) a) := by
  unfold lDy
  pointwise
theorem lGx_at : lGx d2 x3 dy r s (ix2 R a) = d2 (ix2 R a) + (dy (ix3 ⟨R.val / 2048, by omega⟩ ⟨R.val % 2048, by omega⟩ a) * r (ix3 ⟨R.val / 2048, by omega⟩ ⟨R.val % 2048, by omega⟩ (0 : Fin 1))
    + x3 (ix3 ⟨R.val / 2048, by omega⟩ ⟨R.val % 2048, by omega⟩ a) * lC x3 dy r s ⟨R.val / 2048, by omega⟩ ⟨R.val % 2048, by omega⟩
    + lC x3 dy r s ⟨R.val / 2048, by omega⟩ ⟨R.val % 2048, by omega⟩ * x3 (ix3 ⟨R.val / 2048, by omega⟩ ⟨R.val % 2048, by omega⟩ a)) := by
  unfold lGx lC
  pointwise
  simp only [Fin.sum_univ_one]
theorem lD_at (j : Fin 2560) : lD z g q dk dv (ix2 R j) =
    if h : j.val < 768 then z (ix2 R ⟨j.val, h⟩)
    else if h : j.val - 768 < 512 then g (ix2 R ⟨j.val - 768, by omega⟩)
    else if h : j.val - 768 - 512 < 512 then q (ix2 R ⟨j.val - 768 - 512, h⟩)
    else if h : j.val - 768 - 512 - 512 < 128 then dk (ix2 R ⟨j.val - 768 - 512 - 512, h⟩) * Ideal.log (Ideal.ofBits FTy.f32 0x40000000#32)
    else if h : j.val - 768 - 512 - 512 - 128 < 128 then dv (ix2 R ⟨j.val - 768 - 512 - 512 - 128, h⟩)
    else g (ix2 R ⟨512 + (j.val - 768 - 512 - 512 - 128 - 128), by omega⟩) := by
  unfold lD
  pointwise
end

end Cert.Proof.InRef

end
-- ==== Proof.InMatch.lean ====
/- One grid point's tile, written with the reference's layers at the tile's rows. -/
module

public import proofs.«01_k».proof.Proof.InCols
public import proofs.«01_k».proof.Proof.InRef
public import proofs.«01_k».proof.Proof.Math

@[expose] public section

set_option maxRecDepth 16384

noncomputable section

namespace Cert.Proof.InB

open Cert.Kernel2Ideal Cert.Kernel2Ideal.Gen
open Idealize.ShloMosaic Idealize.ShloMosaic.TcCoe Idealize.ShloMosaic.Tactic

open Cert.Proof.InRef (rD rMs rR rXn rH lX lDh lSc lSh lDy lC lDup)

/-- The call's arguments. -/
structure Args where
  a0 : C32 S8192x1024
  a1 : C32 S8192x1024
  a2 : C16 S8192x768
  a3 : C16 S8192x1024
  a4 : C32 S8192x512
  a5 : C32 S8192x256
  a6 : C32 S8192x256
  a7 : C32 S4x1x3072
  a8 : C32 S1x3072
  a9 : C32 S1x1024
  a10 : C16 S1024x2560

/-- One point's blocks. -/
structure Blk where
  x0 : C32 S512x1024
  x1 : C32 S512x1024
  x2 : C16 S512x768
  x3 : C16 S512x1024
  x4 : C32 S512x512
  x5 : C32 S512x256
  x6 : C32 S512x256
  x7 : C32 S1x1x3072
  x8 : C32 S1x3072
  x9 : C32 S1x1024
  x10 : C16 S1024x2560

/-- A tile's row among all rows, its sequence, and its place in the sequence. -/
def row (t : Fin 16) (r : Fin 512) : Fin 8192 := ⟨512 * t.val + r.val, by omega⟩
def sq (t : Fin 16) : Fin 4 := ⟨t.val / 4, by omega⟩
def ps (t : Fin 16) (r : Fin 512) : Fin 2048 := ⟨512 * (t.val % 4) + r.val, by omega⟩

theorem row_eq (t : Fin 16) (r : Fin 512) (h : (sq t).val * 2048 + (ps t r).val < 8192) : (⟨(sq t).val * 2048 + (ps t r).val, h⟩ : Fin 8192) = row t r :=
  Fin.ext (by unfold sq ps row; dsimp only; omega)
theorem row_div (t : Fin 16) (r : Fin 512) (h : (row t r).val / 2048 < 4) : (⟨(row t r).val / 2048, h⟩ : Fin 4) = sq t :=
  Fin.ext (by unfold sq row; dsimp only; omega)
theorem row_mod (t : Fin 16) (r : Fin 512) (h : (row t r).val % 2048 < 2048) : (⟨(row t r).val % 2048, h⟩ : Fin 2048) = ps t r :=
  Fin.ext (by unfold ps row; dsimp only; omega)

/-- The blocks are the arguments' at the point. -/
structure Tile (A : Args) (X : Blk) (t : Fin 16) : Prop where
  e0 : ∀ (r : Fin 512) (a : Fin 1024), X.x0 (ix2 r a) = A.a0 (ix2 (row t r) a)
  e1 : ∀ (r : Fin 512) (a : Fin 1024), X.x1 (ix2 r a) = A.a1 (ix2 (row t r) a)
  e2 : ∀ (r : Fin 512) (a : Fin 768), X.x2 (ix2 r a) = A.a2 (ix2 (row t r) a)
  e3 : ∀ (r : Fin 512) (a : Fin 1024), X.x3 (ix2 r a) = A.a3 (ix2 (row t r) a)
  e4 : ∀ (r : Fin 512) (a : Fin 512), X.x4 (ix2 r a) = A.a4 (ix2 (row t r) a)
  e5 : ∀ (r : Fin 512) (a : Fin 256), X.x5 (ix2 r a) = A.a5 (ix2 (row t r) a)
  e6 : ∀ (r : Fin 512) (a : Fin 256), X.x6 (ix2 r a) = A.a6 (ix2 (row t r) a)
  e7 : ∀ k : Fin 3072, X.x7 (ix3 (0 : Fin 1) (0 : Fin 1) k) = A.a7 (ix3 (sq t) (0 : Fin 1) k)
  e8 : X.x8 = A.a8
  e9 : X.x9 = A.a9
  e10 : X.x10 = A.a10

/-- The reference's projection gradient and the modulated input's. -/
def Args.d (A : Args) : C32 Cert.Reference2Ideal.S8192x2560 := rD A.a2 A.a3 A.a4 A.a5 A.a6
def Args.dh (A : Args) : C32 Cert.Reference2Ideal.S4x2048x1024 := lDh A.d A.a10
def Args.sc (A : Args) : C32 S4x1x1024 := lSc A.a7 A.a8
def Args.h (A : Args) : C32 S8192x1024 := rH A.a0 A.a7 A.a8 A.a9
def Args.xn (A : Args) : C32 Cert.Reference2Ideal.S4x2048x1024 := rXn A.a0

/-- The normalised input's gradient at a row. -/
def Args.dy (A : Args) : C32 Cert.Reference2Ideal.S4x2048x1024 := lDy A.dh A.sc A.a9

theorem log2_lit : Ideal.log (Ideal.ofBits FTy.f32 0x40000000#32) = ((Real.log 2 : ℝ) : EReal) := by
  exact Mla.log2_real

variable {A : Args} {X : Blk} {t : Fin 16} (T : Tile A X t) (r : Fin 512) (a : Fin 1024)
include T

theorem t_x : lX A.a0 (ix3 (sq t) (ps t r) a) = X.x0 (ix2 r a) := by
  rw [InRef.lX_at, row_eq]
  exact (T.e0 r a).symm

theorem t_s : rMs A.a0 (ix3 (sq t) (ps t r) (0 : Fin 1)) = Ideal.div (∑ a : Fin 1024, X.x0 (ix2 r a) * X.x0 (ix2 r a)) (Ideal.ofBits FTy.f32 0x44800000#32) + Ideal.ofBits FTy.f32 0x358637BD#32 := by
  unfold rMs
  rw [InRef.lMs_at]
  simp only [t_x T]

theorem t_r : k0_pay10 (F := Ideal) X.x0 (ix2 r (0 : Fin 1)) = rR A.a0 (ix3 (sq t) (ps t r) (0 : Fin 1)) := by
  rw [p10, ← t_s T]
  unfold rR
  rw [InRef.lR_at]

theorem t_xn : k0_pay11 (F := Ideal) X.x0 (ix2 r a) = A.xn (ix3 (sq t) (ps t r) a) := by
  rw [p11, t_r T]
  unfold Args.xn rXn
  rw [InRef.lXn_at, t_x T]

theorem t_sc : Ideal.ofBits FTy.f32 0x3F800000#32 + k0_pay9 (F := Ideal) X.x7 X.x8 (ix2 (0 : Fin 1) a) = A.sc (ix3 (sq t) (0 : Fin 1) a) := by
  rw [p9, T.e7, T.e8]
  unfold Args.sc
  rw [InRef.lSc_at]

theorem t_sh : k0_pay8 (F := Ideal) X.x7 X.x8 (ix2 (0 : Fin 1) a) = lSh A.a7 A.a8 (ix3 (sq t) (0 : Fin 1) a) := by
  rw [p8, T.e7, T.e8]
  rw [InRef.lSh_at]

theorem t_h : tH (F := Ideal) X.x0 X.x7 X.x8 X.x9 (ix2 r a) = A.h (ix2 (row t r) a) := by
  rw [tH_at, t_xn T, t_sc T, t_sh T, T.e9]
  unfold Args.h rH
  rw [InRef.lH_at, row_div, row_mod]
  rfl

theorem t_dup5 (j : Fin 128) : dup X.x5 r j = lDup A.a5 (ix2 (row t r) j) := by
  unfold dup
  rw [InRef.lDup_at, T.e5, T.e5]
theorem t_dup6 (j : Fin 128) : dup X.x6 r j = lDup A.a6 (ix2 (row t r) j) := by
  unfold dup
  rw [InRef.lDup_at, T.e6, T.e6]

theorem t_d (j : Fin 2560) : tD X.x2 X.x3 X.x4 X.x5 X.x6 r j = A.d (ix2 (row t r) j) := by
  unfold Args.d rD
  rw [InRef.lD_at, log2_lit]
  unfold tD
  have hj := j.2
  by_cases h0 : j.val < 768
  · rw [dif_pos h0, dif_pos h0, T.e2]
  rw [dif_neg h0, dif_neg h0]
  by_cases h1 : j.val - 768 < 512
  · rw [dif_pos h1, dif_pos h1, p14, T.e3]
  rw [dif_neg h1, dif_neg h1]
  by_cases h2 : j.val - 1280 < 512
  · rw [dif_pos h2, dif_pos (by omega), T.e4]
    exact congrArg (fun u => A.a4 (ix2 (row t r) u)) (Fin.ext (by dsimp only; omega))
  rw [dif_neg h2, dif_neg (by omega : ¬j.val - 768 - 512 < 512)]
  by_cases h3 : j.val - 1792 < 256
  · rw [dif_pos h3, p16]
    by_cases h4 : j.val - 1792 < 128
    · rw [dif_pos h4, dif_pos (by omega : j.val - 768 - 512 - 512 < 128), t_dup5 T]
      exact congrArg (fun u => lDup A.a5 (ix2 (row t r) u) * ((Real.log 2 : ℝ) : EReal)) (Fin.ext (by dsimp only; omega))
    · rw [dif_neg h4, dif_neg (by omega : ¬j.val - 768 - 512 - 512 < 128), dif_pos (by omega : j.val - 768 - 512 - 512 - 128 < 128), t_dup6 T]
      exact congrArg (fun u => lDup A.a6 (ix2 (row t r) u)) (Fin.ext (by dsimp only; omega))
  · rw [dif_neg h3, dif_neg (by omega : ¬j.val - 768 - 512 - 512 < 128), dif_neg (by omega : ¬j.val - 768 - 512 - 512 - 128 < 128), p18, T.e3]
    exact congrArg (fun u => A.a3 (ix2 (row t r) u)) (Fin.ext (by dsimp only; omega))

theorem t_dh : tDh (F := Ideal) X.x2 X.x3 X.x4 X.x5 X.x6 X.x10 (ix2 r a) = A.dh (ix3 (sq t) (ps t r) a) := by
  unfold Args.dh
  rw [tDh_sum, InRef.lDh_at, row_eq, T.e10]
  exact Finset.sum_congr rfl fun j _ => congrArg (fun u : EReal => u * A.a10 (ix2 a j)) (t_d T r j)

/-- The weights' gradient gains the tile's rows. -/
theorem t_w (p : C32 S1024x2560) (j : Fin 2560) : gW p (tH (F := Ideal) X.x0 X.x7 X.x8 X.x9) X.x2 X.x3 X.x4 X.x5 X.x6 (ix2 a j)
    = p (ix2 a j) + ∑ r : Fin 512, A.d (ix2 (row t r) j) * A.h (ix2 (row t r) a) :=
  congrArg (fun u : EReal => p (ix2 a j) + u) (Finset.sum_congr rfl fun r _ => (congrArg₂ (fun u v : EReal => u * v) (t_h T r a) (t_d T r j)).trans (mul_comm _ _))

/-- The gain's gradient gains the tile's rows. -/
theorem t_g (p : C32 S1x1024) : k0_pay1 (F := Ideal) (k0_pay9 X.x7 X.x8) (k0_pay11 X.x0) (tDh X.x2 X.x3 X.x4 X.x5 X.x6 X.x10) p (ix2 (0 : Fin 1) a)
    = p (ix2 (0 : Fin 1) a) + ∑ r : Fin 512, A.xn (ix3 (sq t) (ps t r) a) * (A.dh (ix3 (sq t) (ps t r) a) * A.sc (ix3 (sq t) (0 : Fin 1) a)) := by
  rw [p1]
  refine congrArg (fun u : EReal => p (ix2 (0 : Fin 1) a) + u) (Finset.sum_congr rfl fun r _ => ?_)
  rw [t_dh T, t_xn T, t_sc T, mul_comm (A.dh _), mul_assoc]

theorem t_25 : k0_pay25 (F := Ideal) (k0_pay17 (k0_pay16 X.x5 X.x6)) (k0_pay18 X.x3) (tP X.x2 X.x3 X.x4 X.x10) (View.ld X.x10 r3) (View.ld X.x10 r4) (ix2 r a)
    = A.dh (ix3 (sq t) (ps t r) a) := t_dh T r a

/-- The shift's gradient gains the tile's rows. -/
theorem t_sg (p : C32 S1x1x1024) : k0_pay26 (F := Ideal) (k0_pay17 (k0_pay16 X.x5 X.x6)) (k0_pay18 X.x3) (tP X.x2 X.x3 X.x4 X.x10) (View.ld X.x10 r3) (View.ld X.x10 r4) p (ix3 (0 : Fin 1) (0 : Fin 1) a)
    = p (ix3 (0 : Fin 1) (0 : Fin 1) a) + ∑ r : Fin 512, A.dh (ix3 (sq t) (ps t r) a) := by
  rw [p26]
  exact congrArg (fun u : EReal => p (ix3 (0 : Fin 1) (0 : Fin 1) a) + u) (Finset.sum_congr rfl fun r _ => t_25 T r a)

/-- The scale's gradient gains the tile's rows. -/
theorem t_cg (p : C32 S1x1x1024) : k0_pay27 (F := Ideal) X.x9 (k0_pay11 X.x0) (k0_pay17 (k0_pay16 X.x5 X.x6)) (k0_pay18 X.x3) (tP X.x2 X.x3 X.x4 X.x10) (View.ld X.x10 r3) (View.ld X.x10 r4) p (ix3 (0 : Fin 1) (0 : Fin 1) a)
    = p (ix3 (0 : Fin 1) (0 : Fin 1) a) + ∑ r : Fin 512, A.xn (ix3 (sq t) (ps t r) a) * A.a9 (ix2 (0 : Fin 1) a) * A.dh (ix3 (sq t) (ps t r) a) := by
  rw [p27]
  refine congrArg (fun u : EReal => p (ix3 (0 : Fin 1) (0 : Fin 1) a) + u) (Finset.sum_congr rfl fun r _ => ?_)
  rw [t_25 T, t_xn T, T.e9, mul_comm]

/-- The input's gradient over the tile. -/
theorem t_gx : k0_pay2 (F := Ideal) (k0_pay9 X.x7 X.x8) X.x9 (k0_pay10 X.x0) (k0_pay11 X.x0) (tDh X.x2 X.x3 X.x4 X.x5 X.x6 X.x10) X.x1 (ix2 r a)
    = A.a1 (ix2 (row t r) a) + rR A.a0 (ix3 (sq t) (ps t r) (0 : Fin 1)) * (A.dy (ix3 (sq t) (ps t r) a)
      - A.xn (ix3 (sq t) (ps t r) a) * Ideal.div (∑ b : Fin 1024, A.dy (ix3 (sq t) (ps t r) b) * A.xn (ix3 (sq t) (ps t r) b)) (Ideal.ofBits FTy.f32 0x44800000#32)) := by
  have e : ∀ b : Fin 1024, tDh (F := Ideal) X.x2 X.x3 X.x4 X.x5 X.x6 X.x10 (ix2 r b) * X.x9 (ix2 (0 : Fin 1) b) * (Ideal.ofBits FTy.f32 0x3F800000#32 + k0_pay9 (F := Ideal) X.x7 X.x8 (ix2 (0 : Fin 1) b)) = A.dy (ix3 (sq t) (ps t r) b) := by
    intro b
    rw [t_dh T, t_sc T, T.e9]
    unfold Args.dy
    rw [InRef.lDy_at, mul_right_comm]
  rw [p2 (j := a)]
  simp only [e, t_xn T, t_r T, T.e1]

end Cert.Proof.InB

end
-- ==== Proof.InAcc.lean ====
/- The sums kept over the grid, and the five result arrays. -/
module

public import proofs.«01_k».proof.Proof.InMatch
public import proofs.«01_k».proof.Proof.Sum
public import proofs.«01_k».proof.Proof.Gen.Kernel2Ideal.Value
public import Idealize.ShloMosaic.Lib.Pipeline.ValueKit.Geometry
public import Idealize.ShloMosaic.Lib.Pipeline.Covers

@[expose] public section

set_option maxRecDepth 16384

noncomputable section

namespace Cert.Proof.InB

open Cert.Kernel2Ideal Cert.Kernel2Ideal.Gen
open Idealize.ShloMosaic Idealize.ShloMosaic.TcCoe Idealize.ShloMosaic.Tactic

open Idealize.SL Idealize.SL.Sem
open Idealize.ShloMosaic.Pipeline (Dat Cfg Window)
open Cert.Proof.InRef (rR)

variable (m : (ℓ : Loc nD τ sig) → Buf (Elt Ideal) ℓ) (c : Dev nD)

/-- The call's arguments on a device. -/
def Am : Args := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10)⟩
/-- A point's blocks. -/
def Xt (t : Fin cfg0.N) : Blk := ⟨iblk m c 0 t, iblk m c 1 t, iblk m c 2 t, iblk m c 3 t, iblk m c 4 t, iblk m c 5 t, iblk m c 6 t, iblk m c 7 t, iblk m c 8 t, iblk m c 9 t, iblk m c 10 t⟩
/-- A point's number. -/
def pt (t : Fin cfg0.N) : Fin 16 := ⟨t.val, t.isLt.trans_eq N_0⟩

theorem ix_w0 : ∀ t : Fin cfg0.N, win0_0.index t = ![t.val, 0] := by decide +kernel
theorem ix_w1 : ∀ t : Fin cfg0.N, win0_1.index t = ![t.val, 0] := by decide +kernel
theorem ix_w2 : ∀ t : Fin cfg0.N, win0_2.index t = ![t.val, 0] := by decide +kernel
theorem ix_w3 : ∀ t : Fin cfg0.N, win0_3.index t = ![t.val, 0] := by decide +kernel
theorem ix_w4 : ∀ t : Fin cfg0.N, win0_4.index t = ![t.val, 0] := by decide +kernel
theorem ix_w5 : ∀ t : Fin cfg0.N, win0_5.index t = ![t.val, 0] := by decide +kernel
theorem ix_w6 : ∀ t : Fin cfg0.N, win0_6.index t = ![t.val, 0] := by decide +kernel
theorem ix_w7 : ∀ t : Fin cfg0.N, win0_7.index t = ![t.val / 4, 0, 0] := by decide +kernel
theorem ix_w8 : ∀ t : Fin cfg0.N, win0_8.index t = ![0, 0] := by decide +kernel
theorem ix_w9 : ∀ t : Fin cfg0.N, win0_9.index t = ![0, 0] := by decide +kernel
theorem ix_w10 : ∀ t : Fin cfg0.N, win0_10.index t = ![0, 0] := by decide +kernel
theorem ix_w11 : ∀ t : Fin cfg0.N, win0_11.index t = ![t.val, 0] := by decide +kernel
theorem ix_w12 : ∀ t : Fin cfg0.N, win0_12.index t = ![0, 0] := by decide +kernel
theorem ix_w13 : ∀ t : Fin cfg0.N, win0_13.index t = ![0, 0] := by decide +kernel
theorem ix_w14 : ∀ t : Fin cfg0.N, win0_14.index t = ![t.val / 4, 0, 0] := by decide +kernel
theorem ix_w15 : ∀ t : Fin cfg0.N, win0_15.index t = ![t.val / 4, 0, 0] := by decide +kernel

theorem tile (t : Fin cfg0.N) : Tile (Am m c) (Xt m c t) (pt t) where
  e0 := fun r a => by
    show iblk m c 0 t (ix2 r a) = V m c main_arg0 (ix2 (row (pt t) r) a)
    unfold row pt
    blk_ext [iblk, ix_w0]
  e1 := fun r a => by
    show iblk m c 1 t (ix2 r a) = V m c main_arg1 (ix2 (row (pt t) r) a)
    unfold row pt
    blk_ext [iblk, ix_w1]
  e2 := fun r a => by
    show iblk m c 2 t (ix2 r a) = V m c main_arg2 (ix2 (row (pt t) r) a)
    unfold row pt
    blk_ext [iblk, ix_w2]
  e3 := fun r a => by
    show iblk m c 3 t (ix2 r a) = V m c main_arg3 (ix2 (row (pt t) r) a)
    unfold row pt
    blk_ext [iblk, ix_w3]
  e4 := fun r a => by
    show iblk m c 4 t (ix2 r a) = V m c main_arg4 (ix2 (row (pt t) r) a)
    unfold row pt
    blk_ext [iblk, ix_w4]
  e5 := fun r a => by
    show iblk m c 5 t (ix2 r a) = V m c main_arg5 (ix2 (row (pt t) r) a)
    unfold row pt
    blk_ext [iblk, ix_w5]
  e6 := fun r a => by
    show iblk m c 6 t (ix2 r a) = V m c main_arg6 (ix2 (row (pt t) r) a)
    unfold row pt
    blk_ext [iblk, ix_w6]
  e7 := fun k => by
    show iblk m c 7 t (ix3 (0 : Fin 1) (0 : Fin 1) k) = V m c main_arg7 (ix3 (sq (pt t)) (0 : Fin 1) k)
    unfold sq pt
    blk_ext [iblk, ix_w7]
  e8 := by
    funext y
    have e := eq_ix2 (n0 := 1) (n1 := 3072) y
    generalize (y 0 : Fin 1) = i at e
    generalize (y 1 : Fin 3072) = j at e
    subst e
    show iblk m c 8 t (ix2 i j) = V m c main_arg8 (ix2 i j)
    blk_ext [iblk, ix_w8]
  e9 := by
    funext y
    have e := eq_ix2 (n0 := 1) (n1 := 1024) y
    generalize (y 0 : Fin 1) = i at e
    generalize (y 1 : Fin 1024) = j at e
    subst e
    show iblk m c 9 t (ix2 i j) = V m c main_arg9 (ix2 i j)
    blk_ext [iblk, ix_w9]
  e10 := by
    funext y
    have e := eq_ix2 (n0 := 1024) (n1 := 2560) y
    generalize (y 0 : Fin 1024) = i at e
    generalize (y 1 : Fin 2560) = j at e
    subst e
    show iblk m c 10 t (ix2 i j) = V m c main_arg10 (ix2 i j)
    blk_ext [iblk, ix_w10]

/-- A tile's terms. -/
def s12 (A : Args) (a : Fin 1024) (j : Fin 2560) (t : Fin 16) : EReal := ∑ r : Fin 512, A.d (ix2 (row t r) j) * A.h (ix2 (row t r) a)
def s13 (A : Args) (a : Fin 1024) (t : Fin 16) : EReal := ∑ r : Fin 512, A.xn (ix3 (sq t) (ps t r) a) * (A.dh (ix3 (sq t) (ps t r) a) * A.sc (ix3 (sq t) (0 : Fin 1) a))
def s14 (A : Args) (a : Fin 1024) (t : Fin 16) : EReal := ∑ r : Fin 512, A.dh (ix3 (sq t) (ps t r) a)
def s15 (A : Args) (a : Fin 1024) (t : Fin 16) : EReal := ∑ r : Fin 512, A.xn (ix3 (sq t) (ps t r) a) * A.a9 (ix2 (0 : Fin 1) a) * A.dh (ix3 (sq t) (ps t r) a)
/-- Terms of the points as a sequence. -/
def up (s : Fin 16 → EReal) (n : ℕ) : EReal := if h : n < 16 then s ⟨n, h⟩ else 0
theorem up_pt (s : Fin 16 → EReal) (t : Fin cfg0.N) : up s t.val = s (pt t) := dif_pos (t.isLt.trans_eq N_0)

/-- The input's gradient, as the kernel forms it. -/
def Args.gx (A : Args) (B : Fin 4) (i : Fin 2048) (u : EReal) (a : Fin 1024) : EReal :=
  u + rR A.a0 (ix3 B i (0 : Fin 1)) * (A.dy (ix3 B i a) - A.xn (ix3 B i a) * Ideal.div (∑ b : Fin 1024, A.dy (ix3 B i b) * A.xn (ix3 B i b)) (Ideal.ofBits FTy.f32 0x44800000#32))

theorem g_A (t : Fin cfg0.N) (h0 : t.val % 16 = 0) (h1 : t.val % 4 = 0) (r : Fin 512) (a : Fin 1024) :
    (outsAt0 m c t.val t.isLt).1 (ix2 r a) = (Am m c).gx (sq (pt t)) (ps (pt t) r) ((Am m c).a1 (ix2 (row (pt t) r) a)) a := by
  rw [outsAt0_A m c t h0 h1]
  dsimp only
  rw [o_A_11]
  exact t_gx (tile m c t) r a
theorem g_B (t : Fin cfg0.N) (h0 : ¬t.val % 16 = 0) (h1 : ¬t.val % 4 = 0) (r : Fin 512) (a : Fin 1024) :
    (outsAt0 m c t.val t.isLt).1 (ix2 r a) = (Am m c).gx (sq (pt t)) (ps (pt t) r) ((Am m c).a1 (ix2 (row (pt t) r) a)) a := by
  rw [outsAt0_B m c t h0 h1]
  dsimp only
  rw [o_B_11]
  exact t_gx (tile m c t) r a
theorem g_C (t : Fin cfg0.N) (h0 : ¬t.val % 16 = 0) (h1 : t.val % 4 = 0) (r : Fin 512) (a : Fin 1024) :
    (outsAt0 m c t.val t.isLt).1 (ix2 r a) = (Am m c).gx (sq (pt t)) (ps (pt t) r) ((Am m c).a1 (ix2 (row (pt t) r) a)) a := by
  rw [outsAt0_C m c t h0 h1]
  dsimp only
  rw [o_C_11]
  exact t_gx (tile m c t) r a
theorem st12_A (t : Fin cfg0.N) (h0 : t.val % 16 = 0) (h1 : t.val % 4 = 0) (a : Fin 1024) (j : Fin 2560) :
    (outsAt0 m c t.val t.isLt).2.1 (ix2 a j) = s12 (Am m c) a j (pt t) := by
  rw [outsAt0_A m c t h0 h1]
  dsimp only
  rw [o_A_12]
  rw [canonL']
  exact (t_w (tile m c t) a _ j).trans ((congrArg (fun u : EReal => u + s12 (Am m c) a j (pt t)) (z3 a j)).trans (zero_add _))
theorem st12_B (t : Fin cfg0.N) (h0 : ¬t.val % 16 = 0) (h1 : ¬t.val % 4 = 0) (a : Fin 1024) (j : Fin 2560) :
    (outsAt0 m c t.val t.isLt).2.1 (ix2 a j) = (outsAt0 m c (t.val - 1) (Nat.lt_of_le_of_lt (Nat.sub_le _ _) t.isLt)).2.1 (ix2 a j) + s12 (Am m c) a j (pt t) := by
  rw [outsAt0_B m c t h0 h1]
  dsimp only
  rw [o_B_12]
  rw [canonL]
  exact t_w (tile m c t) a _ j
theorem st12_C (t : Fin cfg0.N) (h0 : ¬t.val % 16 = 0) (h1 : t.val % 4 = 0) (a : Fin 1024) (j : Fin 2560) :
    (outsAt0 m c t.val t.isLt).2.1 (ix2 a j) = (outsAt0 m c (t.val - 1) (Nat.lt_of_le_of_lt (Nat.sub_le _ _) t.isLt)).2.1 (ix2 a j) + s12 (Am m c) a j (pt t) := by
  rw [outsAt0_C m c t h0 h1]
  dsimp only
  rw [o_C_12]
  rw [canonL]
  exact t_w (tile m c t) a _ j
theorem st13_A (t : Fin cfg0.N) (h0 : t.val % 16 = 0) (h1 : t.val % 4 = 0) (a : Fin 1024) :
    (outsAt0 m c t.val t.isLt).2.2.1 (ix2 (0 : Fin 1) a) = s13 (Am m c) a (pt t) := by
  rw [outsAt0_A m c t h0 h1]
  dsimp only
  rw [o_A_13]
  exact (t_g (tile m c t) a _).trans ((congrArg (fun u : EReal => u + s13 (Am m c) a (pt t)) (z4 a)).trans (zero_add _))
theorem st13_B (t : Fin cfg0.N) (h0 : ¬t.val % 16 = 0) (h1 : ¬t.val % 4 = 0) (a : Fin 1024) :
    (outsAt0 m c t.val t.isLt).2.2.1 (ix2 (0 : Fin 1) a) = (outsAt0 m c (t.val - 1) (Nat.lt_of_le_of_lt (Nat.sub_le _ _) t.isLt)).2.2.1 (ix2 (0 : Fin 1) a) + s13 (Am m c) a (pt t) := by
  rw [outsAt0_B m c t h0 h1]
  dsimp only
  rw [o_B_13]
  exact t_g (tile m c t) a _
theorem st13_C (t : Fin cfg0.N) (h0 : ¬t.val % 16 = 0) (h1 : t.val % 4 = 0) (a : Fin 1024) :
    (outsAt0 m c t.val t.isLt).2.2.1 (ix2 (0 : Fin 1) a) = (outsAt0 m c (t.val - 1) (Nat.lt_of_le_of_lt (Nat.sub_le _ _) t.isLt)).2.2.1 (ix2 (0 : Fin 1) a) + s13 (Am m c) a (pt t) := by
  rw [outsAt0_C m c t h0 h1]
  dsimp only
  rw [o_C_13]
  exact t_g (tile m c t) a _
theorem st14_A (t : Fin cfg0.N) (h0 : t.val % 16 = 0) (h1 : t.val % 4 = 0) (a : Fin 1024) :
    (outsAt0 m c t.val t.isLt).2.2.2.1 (ix3 (0 : Fin 1) (0 : Fin 1) a) = s14 (Am m c) a (pt t) := by
  rw [outsAt0_A m c t h0 h1]
  dsimp only
  rw [o_A_14]
  exact (t_sg (tile m c t) a _).trans ((congrArg (fun u : EReal => u + s14 (Am m c) a (pt t)) (z5 a)).trans (zero_add _))
theorem st14_B (t : Fin cfg0.N) (h0 : ¬t.val % 16 = 0) (h1 : ¬t.val % 4 = 0) (a : Fin 1024) :
    (outsAt0 m c t.val t.isLt).2.2.2.1 (ix3 (0 : Fin 1) (0 : Fin 1) a) = (outsAt0 m c (t.val - 1) (Nat.lt_of_le_of_lt (Nat.sub_le _ _) t.isLt)).2.2.2.1 (ix3 (0 : Fin 1) (0 : Fin 1) a) + s14 (Am m c) a (pt t) := by
  rw [outsAt0_B m c t h0 h1]
  dsimp only
  rw [o_B_14]
  exact t_sg (tile m c t) a _
theorem st14_C (t : Fin cfg0.N) (h0 : ¬t.val % 16 = 0) (h1 : t.val % 4 = 0) (a : Fin 1024) :
    (outsAt0 m c t.val t.isLt).2.2.2.1 (ix3 (0 : Fin 1) (0 : Fin 1) a) = s14 (Am m c) a (pt t) := by
  rw [outsAt0_C m c t h0 h1]
  dsimp only
  rw [o_C_14]
  exact (t_sg (tile m c t) a _).trans ((congrArg (fun u : EReal => u + s14 (Am m c) a (pt t)) (z5 a)).trans (zero_add _))
theorem st15_A (t : Fin cfg0.N) (h0 : t.val % 16 = 0) (h1 : t.val % 4 = 0) (a : Fin 1024) :
    (outsAt0 m c t.val t.isLt).2.2.2.2 (ix3 (0 : Fin 1) (0 : Fin 1) a) = s15 (Am m c) a (pt t) := by
  rw [outsAt0_A m c t h0 h1]
  dsimp only
  rw [o_A_15]
  exact (t_cg (tile m c t) a _).trans ((congrArg (fun u : EReal => u + s15 (Am m c) a (pt t)) (z6 a)).trans (zero_add _))
theorem st15_B (t : Fin cfg0.N) (h0 : ¬t.val % 16 = 0) (h1 : ¬t.val % 4 = 0) (a : Fin 1024) :
    (outsAt0 m c t.val t.isLt).2.2.2.2 (ix3 (0 : Fin 1) (0 : Fin 1) a) = (outsAt0 m c (t.val - 1) (Nat.lt_of_le_of_lt (Nat.sub_le _ _) t.isLt)).2.2.2.2 (ix3 (0 : Fin 1) (0 : Fin 1) a) + s15 (Am m c) a (pt t) := by
  rw [outsAt0_B m c t h0 h1]
  dsimp only
  rw [o_B_15]
  exact t_cg (tile m c t) a _
theorem st15_C (t : Fin cfg0.N) (h0 : ¬t.val % 16 = 0) (h1 : t.val % 4 = 0) (a : Fin 1024) :
    (outsAt0 m c t.val t.isLt).2.2.2.2 (ix3 (0 : Fin 1) (0 : Fin 1) a) = s15 (Am m c) a (pt t) := by
  rw [outsAt0_C m c t h0 h1]
  dsimp only
  rw [o_C_15]
  exact (t_cg (tile m c t) a _).trans ((congrArg (fun u : EReal => u + s15 (Am m c) a (pt t)) (z6 a)).trans (zero_add _))
theorem acc12 (a : Fin 1024) (j : Fin 2560) : ∀ (n : ℕ) (hn : n < cfg0.N), (outsAt0 m c n hn).2.1 (ix2 a j) = ∑ k ∈ Finset.range (n + 1), up (s12 (Am m c) a j) k
  | 0, hn => (st12_A m c ⟨0, hn⟩ rfl rfl a j).trans (by rw [Finset.sum_range_one]; exact (up_pt _ ⟨0, hn⟩).symm)
  | n + 1, hn => by
    have hN : n + 1 < 16 := hn.trans_eq N_0
    rw [Finset.sum_range_succ, ← acc12 a j n (Nat.lt_of_succ_lt hn)]
    refine Eq.trans ?_ (congrArg (fun u : EReal => _ + u) (up_pt (s12 (Am m c) a j) ⟨n + 1, hn⟩).symm)
    by_cases h : (n + 1) % 4 = 0
    · exact st12_C m c ⟨n + 1, hn⟩ (by dsimp only; omega) h a j
    · exact st12_B m c ⟨n + 1, hn⟩ (by dsimp only; omega) h a j
theorem acc13 (a : Fin 1024) : ∀ (n : ℕ) (hn : n < cfg0.N), (outsAt0 m c n hn).2.2.1 (ix2 (0 : Fin 1) a) = ∑ k ∈ Finset.range (n + 1), up (s13 (Am m c) a) k
  | 0, hn => (st13_A m c ⟨0, hn⟩ rfl rfl a).trans (by rw [Finset.sum_range_one]; exact (up_pt _ ⟨0, hn⟩).symm)
  | n + 1, hn => by
    have hN : n + 1 < 16 := hn.trans_eq N_0
    rw [Finset.sum_range_succ, ← acc13 a n (Nat.lt_of_succ_lt hn)]
    refine Eq.trans ?_ (congrArg (fun u : EReal => _ + u) (up_pt (s13 (Am m c) a) ⟨n + 1, hn⟩).symm)
    by_cases h : (n + 1) % 4 = 0
    · exact st13_C m c ⟨n + 1, hn⟩ (by dsimp only; omega) h a
    · exact st13_B m c ⟨n + 1, hn⟩ (by dsimp only; omega) h a
theorem acc14 (a : Fin 1024) : ∀ (n : ℕ) (hn : n < cfg0.N), (outsAt0 m c n hn).2.2.2.1 (ix3 (0 : Fin 1) (0 : Fin 1) a) = ∑ k ∈ Finset.range (n % 4 + 1), up (s14 (Am m c) a) (4 * (n / 4) + k)
  | 0, hn => (st14_A m c ⟨0, hn⟩ rfl rfl a).trans ((up_pt _ ⟨0, hn⟩).symm.trans (Finset.sum_range_one (fun k => up (s14 (Am m c) a) (4 * (0 / 4) + k))).symm)
  | n + 1, hn => by
    have hN : n + 1 < 16 := hn.trans_eq N_0
    by_cases h : (n + 1) % 4 = 0
    · rw [h, Finset.sum_range_one, show 4 * ((n + 1) / 4) + 0 = n + 1 by omega]
      exact (st14_C m c ⟨n + 1, hn⟩ (by dsimp only; omega) h a).trans (up_pt _ ⟨n + 1, hn⟩).symm
    · rw [show (n + 1) % 4 = n % 4 + 1 by omega, show (n + 1) / 4 = n / 4 by omega, Finset.sum_range_succ, ← acc14 a n (Nat.lt_of_succ_lt hn),
        show 4 * (n / 4) + (n % 4 + 1) = n + 1 by omega]
      refine Eq.trans ?_ (congrArg (fun u : EReal => _ + u) (up_pt (s14 (Am m c) a) ⟨n + 1, hn⟩).symm)
      exact st14_B m c ⟨n + 1, hn⟩ (by dsimp only; omega) h a
theorem acc15 (a : Fin 1024) : ∀ (n : ℕ) (hn : n < cfg0.N), (outsAt0 m c n hn).2.2.2.2 (ix3 (0 : Fin 1) (0 : Fin 1) a) = ∑ k ∈ Finset.range (n % 4 + 1), up (s15 (Am m c) a) (4 * (n / 4) + k)
  | 0, hn => (st15_A m c ⟨0, hn⟩ rfl rfl a).trans ((up_pt _ ⟨0, hn⟩).symm.trans (Finset.sum_range_one (fun k => up (s15 (Am m c) a) (4 * (0 / 4) + k))).symm)
  | n + 1, hn => by
    have hN : n + 1 < 16 := hn.trans_eq N_0
    by_cases h : (n + 1) % 4 = 0
    · rw [h, Finset.sum_range_one, show 4 * ((n + 1) / 4) + 0 = n + 1 by omega]
      exact (st15_C m c ⟨n + 1, hn⟩ (by dsimp only; omega) h a).trans (up_pt _ ⟨n + 1, hn⟩).symm
    · rw [show (n + 1) % 4 = n % 4 + 1 by omega, show (n + 1) / 4 = n / 4 by omega, Finset.sum_range_succ, ← acc15 a n (Nat.lt_of_succ_lt hn),
        show 4 * (n / 4) + (n % 4 + 1) = n + 1 by omega]
      refine Eq.trans ?_ (congrArg (fun u : EReal => _ + u) (up_pt (s15 (Am m c) a) ⟨n + 1, hn⟩).symm)
      exact st15_B m c ⟨n + 1, hn⟩ (by dsimp only; omega) h a

end Cert.Proof.InB

end
-- ==== Proof.InNorm.lean ====
/- The kernel's input gradient is the reference's, and the reference's sums by tiles. -/
module

public import proofs.«01_k».proof.Proof.InAcc

@[expose] public section

set_option maxRecDepth 16384

noncomputable section

namespace Cert.Proof.InB

open Cert.Kernel2Ideal Cert.Kernel2Ideal.Gen
open Idealize.ShloMosaic Idealize.ShloMosaic.TcCoe Idealize.ShloMosaic.Tactic

open Cert.Proof.InRef (rD rMs rR rXn rH lX lDh lSc lSh lDy lC lDup)

theorem lit_1024 : Ideal.ofBits FTy.f32 0x44800000#32 = ((1024 : ℝ) : EReal) := by
  simp [Ideal.ofBits, Ideal.ieee, -EReal.coe_mul]
  norm_num
theorem lit_one : Ideal.ofBits FTy.f32 0x3F800000#32 = ((1 : ℝ) : EReal) := by
  simp [Ideal.ofBits, Ideal.ieee, -EReal.coe_mul]
  norm_num
theorem lit_half : Ideal.ofBits FTy.f32 0xBF000000#32 = ((-(1 / 2) : ℝ) : EReal) := by
  simp [Ideal.ofBits, Ideal.ieee, -EReal.coe_mul]
  norm_num
theorem lit_eps : ∃ e : ℝ, 0 < e ∧ Ideal.ofBits FTy.f32 0x358637BD#32 = (e : EReal) := by
  refine ⟨(8796093 : ℝ) / 2 ^ 43, by positivity, ?_⟩
  simp [Ideal.ofBits, Ideal.ieee, -EReal.coe_mul]
  norm_num

theorem sum_mul_real {n : ℕ} (f : Fin n → EReal) (r : ℝ) (hr : 0 ≤ r) : (∑ b, f b) * (r : EReal) = ∑ b, f b * (r : EReal) := by
  induction n with
  | zero => simp
  | succ n ih =>
    rw [Fin.sum_univ_succ, Fin.sum_univ_succ, EReal.right_distrib_of_nonneg_of_ne_top (by exact_mod_cast hr) (EReal.coe_ne_top r), ih]

theorem twice (z : EReal) : z + z = z * ((2 : ℝ) : EReal) := by
  rw [show ((2 : ℝ) : EReal) = 1 + 1 from by rw [← EReal.coe_one, ← EReal.coe_add]; norm_num, EReal.left_distrib_of_nonneg zero_le_one zero_le_one, mul_one]

/-- Two forms of a normalised row's gradient, where the row's inverse root is a real number and the rest need not be. -/
theorem norm_core (T y : EReal) (r x w k : ℝ) (hr : 0 ≤ r) (hk : k = -(1 / 2) * (r * (r * r))) :
    (r : EReal) * (y - ((x * r : ℝ) : EReal) * (T * (r : EReal) * (w : EReal)))
      = y * (r : EReal) + (x : EReal) * (T * (k : EReal) * (w : EReal)) + T * (k : EReal) * (w : EReal) * (x : EReal) := by
  have e1 : (r : EReal) * (((x * r : ℝ) : EReal) * (T * (r : EReal) * (w : EReal))) = T * ((r * (x * r) * r * w : ℝ) : EReal) := by
    simp only [EReal.coe_mul]
    ac_rfl
  have e2 : (x : EReal) * (T * (k : EReal) * (w : EReal)) = T * ((x * k * w : ℝ) : EReal) := by
    simp only [EReal.coe_mul]
    ac_rfl
  have e3 : T * (k : EReal) * (w : EReal) * (x : EReal) = T * ((x * k * w : ℝ) : EReal) := by
    simp only [EReal.coe_mul]
    ac_rfl
  rw [EReal.mul_sub_of_nonneg_of_ne_top (by exact_mod_cast hr) (EReal.coe_ne_top r), e1, e2, e3, add_assoc, twice, mul_assoc T, ← EReal.coe_mul (x * k * w), sub_eq_add_neg, ← mul_neg,
    ← EReal.coe_neg, mul_comm (r : EReal) y, hk]
  exact congrArg (fun u : ℝ => y * (r : EReal) + T * (u : EReal)) (by ring)

variable (A : Args)

/-- Every entry of a row of the input is real, or the row's mean square is infinite. -/
theorem row_cases {w : ℕ} (x : Fin w → EReal) : (∃ v : Fin w → ℝ, ∀ b, x b = ((v b : ℝ) : EReal)) ∨ ∑ b, x b * x b = ⊤ := by
  by_cases h : ∀ b, x b ≠ ⊤ ∧ x b ≠ ⊥
  · exact Or.inl ⟨fun b => (x b).toReal, fun b => (EReal.coe_toReal (h b).1 (h b).2).symm⟩
  · right
    push Not at h
    obtain ⟨b, hb⟩ := h
    have e : x b * x b = ⊤ := by
      by_cases h1 : x b = ⊤
      · rw [h1, EReal.top_mul_top]
      · rw [hb h1, EReal.bot_mul_bot]
    refine top_le_iff.1 (e.symm.le.trans (Finset.single_le_sum (f := fun b => x b * x b) (fun i _ => ?_) (Finset.mem_univ b)))
    induction x i with
    | bot => simp
    | top => simp
    | coe v => exact_mod_cast mul_self_nonneg v

/-- The kernel's input gradient is the reference's. -/
theorem gx_eq (R : Fin 8192) (a : Fin 1024) :
    A.gx ⟨R.val / 2048, by omega⟩ ⟨R.val % 2048, by omega⟩ (A.a1 (ix2 R a)) a = InRef.lGx A.a1 (lX A.a0) A.dy (rR A.a0) (rMs A.a0) (ix2 R a) := by
  rw [InRef.lGx_at]
  unfold Args.gx
  refine congrArg (fun u : EReal => A.a1 (ix2 R a) + u) ?_
  generalize (⟨R.val / 2048, _⟩ : Fin 4) = B
  generalize (⟨R.val % 2048, _⟩ : Fin 2048) = i
  obtain ⟨e, he, le⟩ := lit_eps
  have hR : rR A.a0 (ix3 B i (0 : Fin 1)) = Ideal.rsqrt (rMs A.a0 (ix3 B i (0 : Fin 1))) := by
    unfold rR
    rw [InRef.lR_at]
  have hM : rMs A.a0 (ix3 B i (0 : Fin 1)) = Ideal.div (∑ b : Fin 1024, lX A.a0 (ix3 B i b) * lX A.a0 (ix3 B i b)) ((1024 : ℝ) : EReal) + (e : EReal) := by
    unfold rMs
    rw [InRef.lMs_at, lit_1024, le]
  rcases row_cases fun b => lX A.a0 (ix3 B i b) with ⟨x, hx⟩ | ht
  · have hS : rMs A.a0 (ix3 B i (0 : Fin 1)) = (((∑ b, x b * x b) / 1024 + e : ℝ) : EReal) := by
      have e1 : (∑ b : Fin 1024, lX A.a0 (ix3 B i b) * lX A.a0 (ix3 B i b)) = ((∑ b, x b * x b : ℝ) : EReal) :=
        (Finset.sum_congr rfl fun b _ => (congrArg₂ (fun u v : EReal => u * v) (hx b) (hx b)).trans (EReal.coe_mul _ _).symm).trans (Mla.coe_sum _)
      rw [hM, e1, Mla.div_real _ _ (by norm_num), ← EReal.coe_add]
    have hpos : 0 < (∑ b, x b * x b) / 1024 + e :=
      add_pos_of_nonneg_of_pos (div_nonneg (Finset.sum_nonneg fun b _ => mul_self_nonneg (x b)) (by norm_num)) he
    generalize (∑ b, x b * x b) / 1024 + e = S at hS hpos
    rw [hS, Ideal.rsqrt_coe, if_neg (not_lt.2 hpos.le), if_neg hpos.ne'] at hR
    have hr0 : 0 ≤ (Real.sqrt S)⁻¹ := inv_nonneg.2 (Real.sqrt_nonneg S)
    have hrr : (Real.sqrt S)⁻¹ * (Real.sqrt S)⁻¹ = S⁻¹ := by rw [← mul_inv, Real.mul_self_sqrt hpos.le]
    generalize (Real.sqrt S)⁻¹ = r at hR hr0 hrr
    have hxn : ∀ b, A.xn (ix3 B i b) = ((x b * r : ℝ) : EReal) := fun b => by
      unfold Args.xn rXn
      rw [InRef.lXn_at, EReal.coe_mul]
      exact congrArg₂ (fun u v : EReal => u * v) (hx b) hR
    have e2 : (∑ b : Fin 1024, A.dy (ix3 B i b) * A.xn (ix3 B i b)) = (∑ b : Fin 1024, lX A.a0 (ix3 B i b) * A.dy (ix3 B i b)) * (r : EReal) := by
      rw [sum_mul_real _ r hr0]
      refine Finset.sum_congr rfl fun b _ => ?_
      rw [hxn b, EReal.coe_mul, ← mul_assoc, mul_comm (A.dy _)]
      exact congrArg (fun u : EReal => u * A.dy (ix3 B i b) * (r : EReal)) (hx b).symm
    unfold lC
    rw [e2, hR, hS, lit_half, lit_1024, Mla.div_real _ _ hpos.ne', ← EReal.coe_mul, Ideal.div_coe (by norm_num), Ideal.div_coe (by norm_num), hxn]
    refine (norm_core _ _ r (x a) (1 / 1024) (-(1 / 2) * (r / S)) hr0 (by rw [hrr, div_eq_mul_inv r])).trans ?_
    rw [show lX A.a0 (ix3 B i a) = ((x a : ℝ) : EReal) from hx a]
  · have hS : rMs A.a0 (ix3 B i (0 : Fin 1)) = ⊤ := by
      rw [hM]
      refine (congrArg (fun u : EReal => Ideal.div u ((1024 : ℝ) : EReal) + (e : EReal)) ht).trans ?_
      rw [Ideal.div_coe (by norm_num), EReal.top_mul_coe_of_pos (by norm_num)]
      exact EReal.top_add_coe e
    rw [hS, Ideal.rsqrt_top] at hR
    have hd : Ideal.div 0 ⊤ = 0 := by
      unfold Ideal.div
      rw [if_neg EReal.top_ne_zero, zero_mul]
    have hd' : Ideal.div 0 ((1024 : ℝ) : EReal) = 0 := by
      rw [Ideal.div_coe (by norm_num), zero_mul]
    unfold lC
    rw [hR, hS, lit_1024, hd]
    simp only [zero_mul, mul_zero, hd', add_zero]

/-- A sum over blocks of rows is the sum over the rows. -/
theorem rows (f : Fin 8192 → EReal) : ∑ t : Fin 16, ∑ r : Fin 512, f (row t r) = ∑ R, f R := by
  rw [← Fintype.sum_prod_type' (f := fun t r => f (row t r))]
  refine Fintype.sum_equiv (finProdFinEquiv : Fin 16 × Fin 512 ≃ Fin 8192) _ _ fun p => congrArg f (Fin.ext ?_)
  show 512 * p.1.val + p.2.val = p.2.val + 512 * p.1.val
  omega
theorem seqs (f : Fin 4 → Fin 2048 → EReal) : ∑ t : Fin 16, ∑ r : Fin 512, f (sq t) (ps t r) = ∑ B, ∑ i, f B i := by
  refine (Finset.sum_congr rfl fun t _ => Finset.sum_congr rfl fun r _ => ?_).trans ((rows fun R : Fin 8192 => f ⟨R.val / 2048, by omega⟩ ⟨R.val % 2048, by omega⟩).trans ?_)
  · rw [row_div, row_mod]
  rw [← Fintype.sum_prod_type' (f := f)]
  refine (Fintype.sum_equiv (finProdFinEquiv : Fin 4 × Fin 2048 ≃ Fin 8192) _ _ fun p => ?_).symm
  refine congrArg₂ f (Fin.ext ?_) (Fin.ext ?_)
  · show p.1.val = (p.2.val + 2048 * p.1.val) / 2048
    omega
  · show p.2.val = (p.2.val + 2048 * p.1.val) % 2048
    omega
theorem one_seq (f : Fin 4 → Fin 2048 → EReal) (B : Fin 4) :
    ∑ k ∈ Finset.range 4, up (fun t => ∑ r : Fin 512, f (sq t) (ps t r)) (4 * B.val + k) = ∑ i, f B i := by
  have e : ∀ k : Fin 4, up (fun t => ∑ r : Fin 512, f (sq t) (ps t r)) (4 * B.val + k.val) = ∑ r : Fin 512, f B ⟨512 * k.val + r.val, by omega⟩ := by
    intro k
    unfold up
    rw [dif_pos (by omega : 4 * B.val + k.val < 16)]
    refine Finset.sum_congr rfl fun r _ => congrArg₂ f (Fin.ext ?_) (Fin.ext ?_)
    · show (4 * B.val + k.val) / 4 = B.val
      omega
    · show 512 * ((4 * B.val + k.val) % 4) + r.val = 512 * k.val + r.val
      omega
  rw [Finset.sum_range]
  simp only [e]
  rw [← Fintype.sum_prod_type' (f := fun (k : Fin 4) (r : Fin 512) => f B ⟨512 * k.val + r.val, by omega⟩)]
  refine Fintype.sum_equiv (finProdFinEquiv : Fin 4 × Fin 512 ≃ Fin 2048) _ _ fun p => congrArg (f B) (Fin.ext ?_)
  show 512 * p.1.val + p.2.val = p.2.val + 512 * p.1.val
  omega

/-- The kernel's sums over the tiles are the reference's results. -/
theorem sum12 (A : Args) (a : Fin 1024) (j : Fin 2560) : ∑ t : Fin 16, s12 A a j t = InRef.lGw A.d A.h (ix2 a j) := by
  rw [InRef.lGw_at]
  exact rows fun R => A.d (ix2 R j) * A.h (ix2 R a)
theorem sum13 (A : Args) (a : Fin 1024) : ∑ t : Fin 16, s13 A a t = InRef.lGng A.xn A.dh A.sc (ix2 (0 : Fin 1) a) := by
  rw [InRef.lGng_at]
  exact seqs fun B i => A.xn (ix3 B i a) * (A.dh (ix3 B i a) * A.sc (ix3 B (0 : Fin 1) a))
theorem sum14 (A : Args) (a : Fin 1024) (B : Fin 4) : ∑ k ∈ Finset.range 4, up (s14 A a) (4 * B.val + k) = InRef.lGsh A.dh (ix3 B (0 : Fin 1) a) := by
  rw [InRef.lGsh_at]
  exact one_seq (fun B i => A.dh (ix3 B i a)) B
theorem sum15 (A : Args) (a : Fin 1024) (B : Fin 4) : ∑ k ∈ Finset.range 4, up (s15 A a) (4 * B.val + k) = InRef.lGsc A.xn A.a9 A.dh (ix3 B (0 : Fin 1) a) := by
  rw [InRef.lGsc_at]
  exact one_seq (fun B i => A.xn (ix3 B i a) * A.a9 (ix2 (0 : Fin 1) a) * A.dh (ix3 B i a)) B

end Cert.Proof.InB

end
-- ==== Proof.InArr.lean ====
/- The five result arrays of the call, as the reference's layers of the arguments. -/
module

public import proofs.«01_k».proof.Proof.InNorm

@[expose] public section

set_option maxRecDepth 16384

noncomputable section

namespace Cert.Proof.InB

open Cert.Kernel2Ideal Cert.Kernel2Ideal.Gen
open Idealize.ShloMosaic Idealize.ShloMosaic.TcCoe Idealize.ShloMosaic.Tactic

open Idealize.SL Idealize.SL.Sem
open Cert.Proof.InRef (lX rR rMs)

variable (m : (ℓ : Loc nD τ sig) → Buf (Elt Ideal) ℓ) (c : Dev nD)

theorem fl12 : ∀ t : Fin cfg0.N, (cfg0.win 12).flush t = true → t.val = 15 := by decide +kernel
theorem fl13 : ∀ t : Fin cfg0.N, (cfg0.win 13).flush t = true → t.val = 15 := by decide +kernel
theorem fl14 : ∀ t : Fin cfg0.N, (cfg0.win 14).flush t = true → t.val % 4 = 3 := by decide +kernel
theorem fl15 : ∀ t : Fin cfg0.N, (cfg0.win 15).flush t = true → t.val % 4 = 3 := by decide +kernel

theorem one2 (y : S1x1024.Idx) : ∃ a : Fin 1024, y = ix2 (0 : Fin 1) a :=
  ⟨y 1, (eq_ix2 (n0 := 1) (n1 := 1024) y).trans (congrArg (fun u : Fin 1 => ix2 u (y 1 : Fin 1024)) (Subsingleton.elim (α := Fin 1) (y 0) 0))⟩
theorem one3 (y : S1x1x1024.Idx) : ∃ a : Fin 1024, y = ix3 (0 : Fin 1) (0 : Fin 1) a :=
  ⟨y 2, (eq_ix3 (n0 := 1) (n1 := 1) (n2 := 1024) y).trans (congrArg₂ (fun u v : Fin 1 => ix3 u v (y 2 : Fin 1024)) (Subsingleton.elim (α := Fin 1) (y 0) 0) (Subsingleton.elim (α := Fin 1) (y 1) 0))⟩
theorem em11 (t : Fin cfg0.N) (r : Fin 512) (a : Fin 1024) : (win0_11.blk t).view.emb (ix2 r a) = ix2 (row (pt t) r) a := by
  funext k
  apply Fin.ext
  fin_cases k
  · blk_simp [ix_w11]
    show t.val * 512 + r.val = 512 * t.val + r.val
    omega
  · blk_simp [ix_w11] <;> rfl
theorem em12 (t : Fin cfg0.N) (a : Fin 1024) (j : Fin 2560) : (win0_12.blk t).view.emb (ix2 a j) = ix2 a j := by
  funext k
  apply Fin.ext
  fin_cases k
  · blk_simp [ix_w12] <;> rfl
  · blk_simp [ix_w12] <;> rfl
theorem em13 (t : Fin cfg0.N) (a : Fin 1024) : (win0_13.blk t).view.emb (ix2 (0 : Fin 1) a) = ix2 (0 : Fin 1) a := by
  funext k
  apply Fin.ext
  fin_cases k
  · blk_simp [ix_w13] <;> rfl
  · blk_simp [ix_w13] <;> rfl
theorem em14 (t : Fin cfg0.N) (a : Fin 1024) : (win0_14.blk t).view.emb (ix3 (0 : Fin 1) (0 : Fin 1) a) = ix3 (sq (pt t)) (0 : Fin 1) a := by
  funext k
  apply Fin.ext
  fin_cases k
  · blk_simp [ix_w14] <;> rfl
  · blk_simp [ix_w14] <;> rfl
  · blk_simp [ix_w14] <;> rfl
theorem em15 (t : Fin cfg0.N) (a : Fin 1024) : (win0_15.blk t).view.emb (ix3 (0 : Fin 1) (0 : Fin 1) a) = ix3 (sq (pt t)) (0 : Fin 1) a := by
  funext k
  apply Fin.ext
  fin_cases k
  · blk_simp [ix_w15] <;> rfl
  · blk_simp [ix_w15] <;> rfl
  · blk_simp [ix_w15] <;> rfl
theorem g_all (t : Fin cfg0.N) (r : Fin 512) (a : Fin 1024) :
    (outsAt0 m c t.val t.isLt).1 (ix2 r a) = (Am m c).gx (sq (pt t)) (ps (pt t) r) ((Am m c).a1 (ix2 (row (pt t) r) a)) a := by
  by_cases h0 : t.val % 16 = 0
  · exact g_A m c t h0 (by omega) r a
  · by_cases h1 : t.val % 4 = 0
    · exact g_C m c t h0 h1 r a
    · exact g_B m c t h0 h1 r a
theorem fin11 (t : Fin cfg0.N) (r : Fin 512) (a : Fin 1024) :
    (outsAt0 m c t.val t.isLt).1 (ix2 r a) = InRef.lGx (Am m c).a1 (lX (Am m c).a0) (Am m c).dy (rR (Am m c).a0) (rMs (Am m c).a0) (ix2 (row (pt t) r) a) := by
  refine (g_all m c t r a).trans ((?_ : _ = _).trans (gx_eq (Am m c) (row (pt t) r) a))
  rw [row_div, row_mod]
theorem arr11 : (dats m 0 c).arrAt 11 cfg0.N = InRef.lGx (Am m c).a1 (lX (Am m c).a0) (Am m c).dy (rR (Am m c).a0) (rMs (Am m c).a0) := by
  refine (dats m 0 c).arrAt_eq_of_covers 11 _ (by decide +kernel) fun t hf y => ?_
  blk_simp
  rw [after0_11]
  have e := eq_ix2 (n0 := 512) (n1 := 1024) y
  generalize (y 0 : Fin 512) = r at e
  generalize (y 1 : Fin 1024) = a at e
  subst e
  exact (fin11 m c t r a).trans (congrArg (InRef.lGx (Am m c).a1 (lX (Am m c).a0) (Am m c).dy (rR (Am m c).a0) (rMs (Am m c).a0)) (em11 t r a)).symm
theorem fin12 (t : Fin cfg0.N) (ht : t.val = 15) (a : Fin 1024) (j : Fin 2560) :
    (outsAt0 m c t.val t.isLt).2.1 (ix2 a j) = InRef.lGw (Am m c).d (Am m c).h (ix2 a j) := by
  refine (acc12 m c a j t.val t.isLt).trans (Eq.trans ?_ (sum12 (Am m c) a j))
  rw [ht]
  exact (Finset.sum_range _).trans (Finset.sum_congr rfl fun k _ => dif_pos k.isLt)
theorem arr12 : (dats m 0 c).arrAt 12 cfg0.N = InRef.lGw (Am m c).d (Am m c).h := by
  refine (dats m 0 c).arrAt_eq_of_covers 12 _ (by decide +kernel) fun t hf y => ?_
  have ht := fl12 t hf
  blk_simp
  rw [after0_12]
  have e := eq_ix2 (n0 := 1024) (n1 := 2560) y
  generalize (y 0 : Fin 1024) = a at e
  generalize (y 1 : Fin 2560) = j at e
  subst e
  exact (fin12 m c t ht a j).trans (congrArg (InRef.lGw (Am m c).d (Am m c).h) (em12 t a j)).symm
theorem fin13 (t : Fin cfg0.N) (ht : t.val = 15) (a : Fin 1024) :
    (outsAt0 m c t.val t.isLt).2.2.1 (ix2 (0 : Fin 1) a) = InRef.lGng (Am m c).xn (Am m c).dh (Am m c).sc (ix2 (0 : Fin 1) a) := by
  refine (acc13 m c a t.val t.isLt).trans (Eq.trans ?_ (sum13 (Am m c) a))
  rw [ht]
  exact (Finset.sum_range _).trans (Finset.sum_congr rfl fun k _ => dif_pos k.isLt)
theorem arr13 : (dats m 0 c).arrAt 13 cfg0.N = InRef.lGng (Am m c).xn (Am m c).dh (Am m c).sc := by
  refine (dats m 0 c).arrAt_eq_of_covers 13 _ (by decide +kernel) fun t hf y => ?_
  have ht := fl13 t hf
  blk_simp
  rw [after0_13]
  obtain ⟨a, e⟩ := one2 y
  subst e
  exact (fin13 m c t ht a).trans (congrArg (InRef.lGng (Am m c).xn (Am m c).dh (Am m c).sc) (em13 t a)).symm
theorem fin14 (t : Fin cfg0.N) (ht : t.val % 4 = 3) (a : Fin 1024) :
    (outsAt0 m c t.val t.isLt).2.2.2.1 (ix3 (0 : Fin 1) (0 : Fin 1) a) = InRef.lGsh (Am m c).dh (ix3 (sq (pt t)) (0 : Fin 1) a) := by
  refine (acc14 m c a t.val t.isLt).trans (Eq.trans ?_ (sum14 (Am m c) a (sq (pt t))))
  rw [ht]
  rfl
theorem arr14 : (dats m 0 c).arrAt 14 cfg0.N = InRef.lGsh (Am m c).dh := by
  refine (dats m 0 c).arrAt_eq_of_covers 14 _ (by decide +kernel) fun t hf y => ?_
  have ht := fl14 t hf
  blk_simp
  rw [after0_14]
  obtain ⟨a, e⟩ := one3 y
  subst e
  exact (fin14 m c t ht a).trans (congrArg (InRef.lGsh (Am m c).dh) (em14 t a)).symm
theorem fin15 (t : Fin cfg0.N) (ht : t.val % 4 = 3) (a : Fin 1024) :
    (outsAt0 m c t.val t.isLt).2.2.2.2 (ix3 (0 : Fin 1) (0 : Fin 1) a) = InRef.lGsc (Am m c).xn (Am m c).a9 (Am m c).dh (ix3 (sq (pt t)) (0 : Fin 1) a) := by
  refine (acc15 m c a t.val t.isLt).trans (Eq.trans ?_ (sum15 (Am m c) a (sq (pt t))))
  rw [ht]
  rfl
theorem arr15 : (dats m 0 c).arrAt 15 cfg0.N = InRef.lGsc (Am m c).xn (Am m c).a9 (Am m c).dh := by
  refine (dats m 0 c).arrAt_eq_of_covers 15 _ (by decide +kernel) fun t hf y => ?_
  have ht := fl15 t hf
  blk_simp
  rw [after0_15]
  obtain ⟨a, e⟩ := one3 y
  subst e
  exact (fin15 m c t ht a).trans (congrArg (InRef.lGsc (Am m c).xn (Am m c).a9 (Am m c).dh) (em15 t a)).symm

end Cert.Proof.InB

end
-- ==== Proof.InVal.lean ====
/- The input projections' backward call: its results are the reference's on all arguments. -/
module

public import proofs.«01_k».proof.Proof.InArr
public import proofs.«01_k».proof.Defs
public import proofs.«01_k».proof.Proof.Gen.Kernel2.Frame
public import proofs.«01_k».proof.Proof.Gen.Reference2Ideal.Run
public import Idealize.ShloMosaic.Lib.Quiescent

@[expose] public section

set_option maxRecDepth 16384

noncomputable section

namespace Cert.Proof.InB

open Cert.Kernel2Ideal Cert.Kernel2Ideal.Gen
open Idealize.ShloMosaic Idealize.ShloMosaic.TcCoe Idealize.ShloMosaic.Tactic

open Idealize.SL Idealize.SL.Sem
open Cert.Proof.InRef (lX rR rMs)

variable {m : (ℓ : Loc nD τ sig) → Buf (Elt Ideal) ℓ}

theorem preserves : Cert.preserves_Kernel2_Kernel2Ideal :=
  IdealRules.named_const.statement Cert.Kernel2Ideal.κ "ln2" .f32 0x3F317218#32 ((Real.log 2 : ℝ) : EReal) rfl

theorem frame_reference : Cert.quiescent_Reference2Ideal := fun m ρ _ =>
  (θ_run _ _ _).mono (fun r h => ⟨fun c => (h c).2.2.2.2.2, sem_eq_zero_of_no_sems rfl r.2⟩) (Cert.Reference2Ideal.Value.run m ρ)

variable (m) in
/-- The results, as the reference's layers of the kernel's arguments. -/
def outX (c : Dev nD) : C32 S8192x1024 := InRef.lGx (Am m c).a1 (lX (Am m c).a0) (Am m c).dy (rR (Am m c).a0) (rMs (Am m c).a0)
variable (m) in
def outW (c : Dev nD) : C32 S1024x2560 := InRef.lGw (Am m c).d (Am m c).h
variable (m) in
def outG (c : Dev nD) : C32 S1x1024 := InRef.lGng (Am m c).xn (Am m c).dh (Am m c).sc
variable (m) in
def outS (c : Dev nD) : C32 S4x1x1024 := InRef.lGsh (Am m c).dh
variable (m) in
def outC (c : Dev nD) : C32 S4x1x1024 := InRef.lGsc (Am m c).xn (Am m c).a9 (Am m c).dh

/-- A reference memory that agrees with the kernel's. -/
def refArgs (m' : (ℓ : Loc Cert.Reference2Ideal.nD Cert.Reference2Ideal.τ Cert.Reference2Ideal.sig) → Buf (Elt Ideal) ℓ) (c : Dev Cert.Reference2Ideal.nD) : Args :=
  ⟨InRef.a0 m' c, InRef.a1 m' c, InRef.a2 m' c, InRef.a3 m' c, InRef.a4 m' c, InRef.a5 m' c, InRef.a6 m' c, InRef.a7 m' c, InRef.a8 m' c, InRef.a9 m' c, InRef.a10 m' c⟩

/-- The value: the call's five results are the reference's. -/
theorem value : Cert.algebraic_Kernel2Ideal_Reference2Ideal := fun m ρ m' ρ' _ hm =>
  ⟨outX m, outW m, outG m, outS m, outC m,
    (θ_run _ _ _).mono (fun r h c => by
      obtain ⟨h1, h2, h3, h4, h5, hr⟩ := h c
      exact ⟨h1.trans (arr11 m c), h2.trans (arr12 m c), h3.trans (arr13 m c), h4.trans (arr14 m c), h5.trans (arr15 m c), hr⟩) (Cert.Kernel2Ideal.Value.run_blocks m ρ),
    (θ_run _ _ _).mono (fun r h c => by
      obtain ⟨e0, e1, e2, e3, e4, e5, e6, e7, e8, e9, e10⟩ := hm c
      have ea : refArgs m' c = Am m c := by
        unfold refArgs Am InRef.a0 InRef.a1 InRef.a2 InRef.a3 InRef.a4 InRef.a5 InRef.a6 InRef.a7 InRef.a8 InRef.a9 InRef.a10
        rw [e0, e1, e2, e3, e4, e5, e6, e7, e8, e9, e10]
      obtain ⟨h1, h2, h3, h4, h5, hr⟩ := h c
      refine ⟨h1.trans ((InRef.res_v82 m' c).trans ?_), h2.trans ((InRef.res_v50_eq m' c).trans ?_), h3.trans ((InRef.res_v66_eq m' c).trans ?_), h4.trans ((InRef.res_v54_eq m' c).trans ?_), h5.trans ((InRef.res_v57_eq m' c).trans ?_), hr⟩
      · unfold outX; rw [← ea]; rfl
      · unfold outW; rw [← ea]; rfl
      · unfold outG; rw [← ea]; rfl
      · unfold outS; rw [← ea]; rfl
      · unfold outC; rw [← ea]; rfl) (Cert.Reference2Ideal.Value.run m' ρ')⟩

end Cert.Proof.InB

end
-- ==== Proof.MidMath.lean ====
/- The up-projections' backward call: its results as sums of products of its arguments' entries. -/
module

public import proofs.«01_k».proof.Proof.InNorm

@[expose] public section

noncomputable section

namespace Cert.Proof.Mid

open Idealize.ShloMosaic

/-- The widths of the two latents and the norms' small term, as numbers. -/
theorem lit_384 : Ideal.ofBits FTy.f32 0x43C00000#32 = ((384 : ℝ) : EReal) := by
  simp [Ideal.ofBits, Ideal.ieee, -EReal.coe_mul]
  norm_num
theorem lit_256 : Ideal.ofBits FTy.f32 0x43800000#32 = ((256 : ℝ) : EReal) := by
  simp [Ideal.ofBits, Ideal.ieee, -EReal.coe_mul]
  norm_num
theorem lit_96 : Ideal.ofBits FTy.f32 0x42C00000#32 = ((96 : ℝ) : EReal) := by
  simp [Ideal.ofBits, Ideal.ieee, -EReal.coe_mul]
  norm_num

section norm
variable {w : ℕ} (c : EReal) (x y : Fin w → EReal)

/-- A row's mean square with the small term, and its inverse root. -/
def ms : EReal := Ideal.div (∑ b, x b * x b) c + Ideal.ofBits FTy.f32 0x358637BD#32
def iv : EReal := Ideal.rsqrt (ms c x)
/-- A row's gradient through the norm, as the kernel forms it. -/
def gk (a : Fin w) : EReal := iv c x * (y a - x a * iv c x * Ideal.div (∑ b, y b * (x b * iv c x)) c)
/-- The mean square's part of a row's gradient, as the reference forms it. -/
def cr : EReal := Ideal.div ((∑ b, x b * y b) * (Ideal.ofBits FTy.f32 0xBF000000#32 * Ideal.div (iv c x) (ms c x))) c
/-- A row's gradient through the norm, as the reference forms it. -/
def gr (a : Fin w) : EReal := y a * iv c x + x a * cr c x y + cr c x y * x a

/-- The two forms are equal on every row. -/
theorem gk_eq (k : ℝ) (hk : 0 < k) (hc : c = (k : EReal)) (a : Fin w) : gk c x y a = gr c x y a := by
  obtain ⟨e, he, le⟩ := InB.lit_eps
  have hM : ms c x = Ideal.div (∑ b, x b * x b) (k : EReal) + (e : EReal) := by
    unfold ms
    rw [hc, le]
  have hR : iv c x = Ideal.rsqrt (ms c x) := rfl
  unfold gk gr cr
  rcases InB.row_cases x with ⟨v, hv⟩ | ht
  · have hS : ms c x = (((∑ b, v b * v b) / k + e : ℝ) : EReal) := by
      have e1 : (∑ b, x b * x b) = ((∑ b, v b * v b : ℝ) : EReal) :=
        (Finset.sum_congr rfl fun b _ => (congrArg₂ (fun u v : EReal => u * v) (hv b) (hv b)).trans (EReal.coe_mul _ _).symm).trans (Mla.coe_sum _)
      rw [hM, e1, Mla.div_real _ _ hk.ne', ← EReal.coe_add]
    have hpos : 0 < (∑ b, v b * v b) / k + e :=
      add_pos_of_nonneg_of_pos (div_nonneg (Finset.sum_nonneg fun b _ => mul_self_nonneg (v b)) hk.le) he
    generalize (∑ b, v b * v b) / k + e = S at hS hpos
    rw [hS, Ideal.rsqrt_coe, if_neg (not_lt.2 hpos.le), if_neg hpos.ne'] at hR
    have hr0 : 0 ≤ (Real.sqrt S)⁻¹ := inv_nonneg.2 (Real.sqrt_nonneg S)
    have hrr : (Real.sqrt S)⁻¹ * (Real.sqrt S)⁻¹ = S⁻¹ := by rw [← mul_inv, Real.mul_self_sqrt hpos.le]
    generalize (Real.sqrt S)⁻¹ = r at hR hr0 hrr
    have e2 : (∑ b, y b * (x b * (r : EReal))) = (∑ b, x b * y b) * (r : EReal) := by
      rw [InB.sum_mul_real _ r hr0]
      exact Finset.sum_congr rfl fun b _ => by rw [← mul_assoc, mul_comm (y b)]
    rw [hR, e2, hS, InB.lit_half, hc, Mla.div_real _ _ hpos.ne', ← EReal.coe_mul, Ideal.div_coe hk.ne', Ideal.div_coe hk.ne', hv a, ← EReal.coe_mul]
    exact InB.norm_core _ _ r (v a) (1 / k) (-(1 / 2) * (r / S)) hr0 (by rw [hrr, div_eq_mul_inv r])
  · have hS : ms c x = ⊤ := by
      rw [hM]
      refine (congrArg (fun u : EReal => Ideal.div u (k : EReal) + (e : EReal)) ht).trans ?_
      rw [Ideal.div_coe hk.ne', EReal.top_mul_coe_of_pos (by positivity)]
      exact EReal.top_add_coe e
    rw [hS, Ideal.rsqrt_top] at hR
    have hd : Ideal.div 0 ⊤ = 0 := by
      unfold Ideal.div
      rw [if_neg EReal.top_ne_zero, zero_mul]
    have hd' : Ideal.div 0 (k : EReal) = 0 := by
      rw [Ideal.div_coe hk.ne', zero_mul]
    rw [hR, hS, hc, hd]
    simp only [zero_mul, mul_zero, hd', add_zero]
end norm

/-- The call's arguments over `n` rows. -/
structure Args (n : ℕ) where
  q : Fin n → Fin 1024 → EReal
  k : Fin n → Fin 1024 → EReal
  v : Fin n → Fin 512 → EReal
  z : Fin n → Fin 640 → EReal
  t : Fin n → Fin 256 → EReal
  g : Fin 384 → EReal
  h : Fin 256 → EReal
  w : Fin 384 → Fin 2048 → EReal
  u : Fin 256 → Fin 1536 → EReal

namespace Args
variable {n : ℕ} (A : Args n) (r : Fin n)

/-- The arguments on some of the rows. -/
def on {k : ℕ} (p : Fin k → Fin n) : Args k :=
  ⟨fun r => A.q (p r), fun r => A.k (p r), fun r => A.v (p r), fun r => A.z (p r), fun r => A.t (p r), A.g, A.h, A.w, A.u⟩
/-- The queries' gradient before the rotary table, and the keys' in natural units. -/
def dq (j : Fin 1024) : EReal := A.q r j * (((Real.sqrt 96)⁻¹ : ℝ) : EReal)
def dk (j : Fin 1024) : EReal := A.k r j * ((Real.log 2 : ℝ) : EReal)
/-- The gradient of the first product, and of the second. -/
def D (j : Fin 2048) : EReal :=
  if h : j.val < 1024 then A.dq r ⟨j.val, h⟩ * A.t r ⟨j.val % 128, by omega⟩ else A.dq r ⟨j.val - 1024, by omega⟩ * A.t r ⟨128 + (j.val - 1024) % 128, by omega⟩
def E (j : Fin 1536) : EReal := if h : j.val < 1024 then A.dk r ⟨j.val, h⟩ else A.v r ⟨j.val - 1024, by omega⟩
/-- The two latents. -/
def zq (a : Fin 384) : EReal := A.z r ⟨a.val, by omega⟩
def zk (a : Fin 256) : EReal := A.z r ⟨384 + a.val, by omega⟩
/-- The normalised latents. -/
def xq (a : Fin 384) : EReal := A.zq r a * iv (Ideal.ofBits FTy.f32 0x43C00000#32) (A.zq r)
def xk (a : Fin 256) : EReal := A.zk r a * iv (Ideal.ofBits FTy.f32 0x43800000#32) (A.zk r)
/-- The gradients of the products' inputs. -/
def eq (a : Fin 384) : EReal := ∑ j, A.D r j * A.w a j
def ek (a : Fin 256) : EReal := ∑ j, A.E r j * A.u a j
/-- The heads' rotary parts of the keys' gradient together. -/
def kr (l : Fin 128) : EReal := ∑ h : Fin 8, A.dk r ⟨128 * h.val + l.val, by omega⟩
/-- The rotary latent's gradient. -/
def gz (l : Fin 128) : EReal :=
  if h : l.val < 64 then A.kr r ⟨64 + l.val, by omega⟩ * A.t r ⟨128 + (64 + l.val), by omega⟩
  else A.kr r ⟨l.val - 64, by omega⟩ * A.t r ⟨128 + (l.val - 64), by omega⟩ + A.kr r ⟨64 + (l.val - 64), by omega⟩ * A.t r ⟨64 + (l.val - 64), by omega⟩
/-- The latents' gradient. -/
def dz (j : Fin 768) : EReal :=
  if h : j.val < 384 then gr (Ideal.ofBits FTy.f32 0x43C00000#32) (A.zq r) (fun a => A.eq r a * A.g a) ⟨j.val, h⟩
  else if h : j.val - 384 < 256 then gr (Ideal.ofBits FTy.f32 0x43800000#32) (A.zk r) (fun a => A.ek r a * A.h a) ⟨j.val - 384, h⟩
  else A.gz r ⟨j.val - 384 - 256, by omega⟩
/-- The gradients of the weights and of the gains. -/
def gw (a : Fin 384) (j : Fin 2048) : EReal := ∑ r, A.xq r a * A.g a * A.D r j
def gu (a : Fin 256) (j : Fin 1536) : EReal := ∑ r, A.xk r a * A.h a * A.E r j
def gg (a : Fin 384) : EReal := ∑ r, A.eq r a * A.xq r a
def gh (a : Fin 256) : EReal := ∑ r, A.ek r a * A.xk r a
end Args

/-- A running sum over sixteen tiles ends at the whole sum. -/
theorem run_sum {N : ℕ} (hN : N = 16) (f : (n : ℕ) → n < N → EReal) (s : Fin 16 → EReal) (h0 : f 0 (by omega) = s 0)
    (h1 : ∀ (n : ℕ) (h : n + 1 < N), f (n + 1) h = f n (by omega) + s ⟨n + 1, by omega⟩) : f 15 (by omega) = ∑ t, s t := by
  subst hN
  have e : ∀ (n : ℕ) (h : n < 16), f n h = ∑ i : Fin (n + 1), s ⟨i.val, by omega⟩ := by
    intro n
    induction n with
    | zero => exact fun h => h0.trans (by rw [Fin.sum_univ_one]; rfl)
    | succ n ih =>
      intro h
      rw [h1 n h, ih, Fin.sum_univ_castSucc (n := n + 1)]
      rfl
  exact e 15 (by omega)

end Cert.Proof.Mid

end
-- ==== Proof.MidTile.lean ====
/- The up-projections' backward call: one tile's stored values at an index. -/
module

public import proofs.«01_k».proof.Proof.Gen.Kernel3Ideal.Value
public import proofs.«01_k».proof.Proof.MidMath
public import Idealize.ShloMosaic.Lib.Pointwise

@[expose] public section

set_option maxRecDepth 16384

noncomputable section

namespace Cert.Proof.Mid

open Cert.Kernel3Ideal Cert.Kernel3Ideal.Gen
open Idealize.ShloMosaic Idealize.ShloMosaic.TcCoe Idealize.ShloMosaic.Tactic

abbrev C32 (S : Shape) := FVec Ideal S .f32
abbrev C16 (S : Shape) := FVec Ideal S .bf16

abbrev rc := Rect.unit (s := S512x256) ![0, 0] S512x128.size inb_S512x256_S512x128_0_0
abbrev rs := Rect.unit (s := S512x256) ![0, 128] S512x128.size inb_S512x256_S512x128_0_128
abbrev rq := Rect.unit (s := S512x640) ![0, 0] S512x384.size inb_S512x640_S512x384_0_0
abbrev rk := Rect.unit (s := S512x640) ![0, 384] S512x256.size inb_S512x640_S512x256_0_384

variable (x0 x1 : C32 S512x1024) (x2 : C32 S512x512) (x3 : C32 S512x640) (x4 : C32 S512x256) (x5 : C32 S1x384) (x6 : C32 S1x256) (x7 : C16 S384x2048) (x8 : C16 S256x1536) (r : Fin 512)

/-- The blocks' entries. -/
def Tl : Args 512 :=
  ⟨fun r j => x0 (ix2 r j), fun r j => x1 (ix2 r j), fun r j => x2 (ix2 r j), fun r j => x3 (ix2 r j), fun r j => x4 (ix2 r j), fun a => x5 (ix2 (0 : Fin 1) a), fun a => x6 (ix2 (0 : Fin 1) a), fun a j => x7 (ix2 a j), fun a j => x8 (ix2 a j)⟩

theorem two {n0 n1 : ℕ} (i j : (⟨2, ![n0, n1]⟩ : Shape).Idx) (h0 : (i 0).val = (j 0).val) (h1 : (i 1).val = (j 1).val) : i = j :=
  funext fun t => Fin.ext (by fin_cases t; exacts [h0, h1])
section
/-! The loads of the two halves of the rotary table, and of the two latents. -/
variable {F : FTy → Type} [FloatOps F]
def lc (x : Vec F S512x256 .f32) : Vec F S512x128 .f32 := View.ld x rc
def ls (x : Vec F S512x256 .f32) : Vec F S512x128 .f32 := View.ld x rs
def lq (x : Vec F S512x640 .f32) : Vec F S512x384 .f32 := View.ld x rq
def lk (x : Vec F S512x640 .f32) : Vec F S512x256 .f32 := View.ld x rk
end
theorem ld_c (l : Fin 128) : (lc (F := Ideal) x4 (ix2 r l) : EReal) = x4 (ix2 r ⟨l.val, by omega⟩) :=
  congrArg x4 (two _ _ (by show 0 + 1 * r.val = r.val; omega) (by show 0 + 1 * l.val = l.val; omega))
theorem ld_s (l : Fin 128) : (ls (F := Ideal) x4 (ix2 r l) : EReal) = x4 (ix2 r ⟨128 + l.val, by omega⟩) :=
  congrArg x4 (two _ _ (by show 0 + 1 * r.val = r.val; omega) (by show 128 + 1 * l.val = 128 + l.val; omega))
theorem ld_q (a : Fin 384) : (lq (F := Ideal) x3 (ix2 r a) : EReal) = x3 (ix2 r ⟨a.val, by omega⟩) :=
  congrArg x3 (two _ _ (by show 0 + 1 * r.val = r.val; omega) (by show 0 + 1 * a.val = a.val; omega))
theorem ld_k (a : Fin 256) : (lk (F := Ideal) x3 (ix2 r a) : EReal) = x3 (ix2 r ⟨384 + a.val, by omega⟩) :=
  congrArg x3 (two _ _ (by show 0 + 1 * r.val = r.val; omega) (by show 384 + 1 * a.val = 384 + a.val; omega))

section
/-! Each stored value, of any loads. -/
variable (vc vs : C32 S512x128) (zq : C32 S512x384) (zk : C32 S512x256) (d : C16 S512x2048) (e : C16 S512x1536) (v25 : C32 S512x1) (v27 : C32 S512x384) (k : C32 S512x1024)
theorem cat8 (f : Fin 128 → EReal) (n : ℕ) (hn : n < 1024) :
    (if h : n < 128 then f ⟨n, h⟩ else if h : n - 128 < 128 then f ⟨n - 128, h⟩ else if h : n - 128 - 128 < 128 then f ⟨n - 128 - 128, h⟩
      else if h : n - 128 - 128 - 128 < 128 then f ⟨n - 128 - 128 - 128, h⟩ else if h : n - 128 - 128 - 128 - 128 < 128 then f ⟨n - 128 - 128 - 128 - 128, h⟩
      else if h : n - 128 - 128 - 128 - 128 - 128 < 128 then f ⟨n - 128 - 128 - 128 - 128 - 128, h⟩
      else if h : n - 128 - 128 - 128 - 128 - 128 - 128 < 128 then f ⟨n - 128 - 128 - 128 - 128 - 128 - 128, h⟩
      else f ⟨n - 128 - 128 - 128 - 128 - 128 - 128 - 128, by omega⟩) = f ⟨n % 128, by omega⟩ := by
  split_ifs <;> exact congrArg f (Fin.ext (by dsimp only; omega))
theorem q6 (j : Fin 2048) : (k0_pay6 (F := Ideal) vc vs x0 (ix2 r j) : EReal) =
    if h : j.val < 1024 then x0 (ix2 r ⟨j.val, h⟩) * (((Real.sqrt 96)⁻¹ : ℝ) : EReal) * vc (ix2 r ⟨j.val % 128, by omega⟩)
    else x0 (ix2 r ⟨j.val - 1024, by omega⟩) * (((Real.sqrt 96)⁻¹ : ℝ) : EReal) * vs (ix2 r ⟨(j.val - 1024) % 128, by omega⟩) := by
  unfold k0_pay6
  pointwise
  by_cases h : j.val < 1024
  · rw [dif_pos h, dif_pos h]
    exact congrArg₂ (fun u v : EReal => u * v) rfl (cat8 (fun t => vc (ix2 r t)) j.val h)
  · rw [dif_neg h, dif_neg h]
    exact congrArg₂ (fun u v : EReal => u * v) rfl (cat8 (fun t => vs (ix2 r t)) (j.val - 1024) (by omega))
theorem q7 : (k0_pay7 (F := Ideal) zq (ix2 r (0 : Fin 1)) : EReal) = iv (Ideal.ofBits FTy.f32 0x43C00000#32) fun a : Fin 384 => zq (ix2 r a) := by
  unfold k0_pay7 iv ms
  pointwise
theorem q8 (a : Fin 384) : (k0_pay8 (F := Ideal) zq (ix2 r a) : EReal) = zq (ix2 r a) * iv (Ideal.ofBits FTy.f32 0x43C00000#32) fun a : Fin 384 => zq (ix2 r a) := by
  unfold k0_pay8
  pointwise
  rw [q7]
theorem q9 (p : C32 S384x2048) (a : Fin 384) (j : Fin 2048) : (k0_pay9 (F := Ideal) vc vs x0 zq x5 p (ix2 a j) : EReal) =
    p (ix2 a j) + ∑ r : Fin 512, k0_pay8 (F := Ideal) zq (ix2 r a) * x5 (ix2 (0 : Fin 1) a) * k0_pay6 (F := Ideal) vc vs x0 (ix2 r j) := by
  unfold k0_pay9
  pointwise
theorem q10 (a : Fin 384) : (k0_pay10 (F := Ideal) d x7 (ix2 r a) : EReal) = ∑ j : Fin 2048, d (ix2 r j) * x7 (ix2 a j) := by
  unfold k0_pay10
  pointwise
theorem q11 (p : C32 S1x384) (a : Fin 384) : (k0_pay11 (F := Ideal) d v27 x7 p (ix2 (0 : Fin 1) a) : EReal) =
    p (ix2 (0 : Fin 1) a) + ∑ r : Fin 512, k0_pay10 (F := Ideal) d x7 (ix2 r a) * v27 (ix2 r a) := by
  unfold k0_pay11
  pointwise
theorem q12 (a : Fin 384) : (k0_pay12 (F := Ideal) d x5 v25 v27 x7 (ix2 r a) : EReal) =
    v25 (ix2 r (0 : Fin 1)) * (k0_pay10 (F := Ideal) d x7 (ix2 r a) * x5 (ix2 (0 : Fin 1) a) - v27 (ix2 r a) * Ideal.div (∑ b : Fin 384, k0_pay10 (F := Ideal) d x7 (ix2 r b) * x5 (ix2 (0 : Fin 1) b) * v27 (ix2 r b)) (Ideal.ofBits FTy.f32 0x43C00000#32)) := by
  unfold k0_pay12
  pointwise
theorem q13 (j : Fin 1024) : (k0_pay13 (F := Ideal) x1 (ix2 r j) : EReal) = x1 (ix2 r j) * ((Real.log 2 : ℝ) : EReal) := by
  unfold k0_pay13
  pointwise
  rfl
theorem q14 (j : Fin 1536) : (k0_pay14 (F := Ideal) x1 x2 (ix2 r j) : EReal) = if h : j.val < 1024 then x1 (ix2 r ⟨j.val, h⟩) * ((Real.log 2 : ℝ) : EReal) else x2 (ix2 r ⟨j.val - 1024, by omega⟩) := by
  unfold k0_pay14
  pointwise
  simp only [q13]
theorem q16 : (k0_pay16 (F := Ideal) (k0_pay15 zk) (Ideal.ofBits FTy.f32 0x358637BD#32) (ix2 r (0 : Fin 1)) : EReal) = iv (Ideal.ofBits FTy.f32 0x43800000#32) fun a : Fin 256 => zk (ix2 r a) := by
  unfold k0_pay16 k0_pay15 iv ms
  pointwise
  try rfl
theorem q17 (a : Fin 256) : (k0_pay17 (F := Ideal) zk (k0_pay15 zk) (Ideal.ofBits FTy.f32 0x358637BD#32) (ix2 r a) : EReal) = zk (ix2 r a) * iv (Ideal.ofBits FTy.f32 0x43800000#32) fun a : Fin 256 => zk (ix2 r a) := by
  unfold k0_pay17
  pointwise
  rw [q16]
theorem q18 (p : C32 S256x1536) (a : Fin 256) (j : Fin 1536) : (k0_pay18 (F := Ideal) zk x6 e (k0_pay15 zk) (Ideal.ofBits FTy.f32 0x358637BD#32) p (ix2 a j) : EReal) =
    p (ix2 a j) + ∑ r : Fin 512, k0_pay17 (F := Ideal) zk (k0_pay15 zk) (Ideal.ofBits FTy.f32 0x358637BD#32) (ix2 r a) * x6 (ix2 (0 : Fin 1) a) * e (ix2 r j) := by
  unfold k0_pay18
  pointwise
theorem q19 (a : Fin 256) : (k0_pay19 (F := Ideal) e x8 (ix2 r a) : EReal) = ∑ j : Fin 1536, e (ix2 r j) * x8 (ix2 a j) := by
  unfold k0_pay19
  pointwise
theorem q20 (p : C32 S1x256) (a : Fin 256) : (k0_pay20 (F := Ideal) zk e (k0_pay15 zk) (Ideal.ofBits FTy.f32 0x358637BD#32) x8 p (ix2 (0 : Fin 1) a) : EReal) =
    p (ix2 (0 : Fin 1) a) + ∑ r : Fin 512, k0_pay19 (F := Ideal) e x8 (ix2 r a) * k0_pay17 (F := Ideal) zk (k0_pay15 zk) (Ideal.ofBits FTy.f32 0x358637BD#32) (ix2 r a) := by
  unfold k0_pay20
  pointwise
theorem q21 (a : Fin 256) : (k0_pay21 (F := Ideal) zk x6 e (k0_pay15 zk) (Ideal.ofBits FTy.f32 0x358637BD#32) x8 (ix2 r a) : EReal) =
    gk (Ideal.ofBits FTy.f32 0x43800000#32) (fun a : Fin 256 => zk (ix2 r a)) (fun a : Fin 256 => k0_pay19 (F := Ideal) e x8 (ix2 r a) * x6 (ix2 (0 : Fin 1) a)) a := by
  unfold k0_pay21
  pointwise
  simp only [q16, q17]
  rfl
/-- The heads' rotary parts together. -/
def tk (l : Fin 128) : EReal := ∑ h : Fin 8, k (ix2 r ⟨128 * h.val + l.val, by omega⟩)
theorem tk_eq (l : Fin 128) : k (ix2 r ⟨l.val, by omega⟩) + k (ix2 r ⟨128 + l.val, by omega⟩) + k (ix2 r ⟨256 + l.val, by omega⟩) + k (ix2 r ⟨384 + l.val, by omega⟩) + k (ix2 r ⟨512 + l.val, by omega⟩)
    + k (ix2 r ⟨640 + l.val, by omega⟩) + k (ix2 r ⟨768 + l.val, by omega⟩) + k (ix2 r ⟨896 + l.val, by omega⟩) = tk r k l := by
  unfold tk
  rw [Fin.sum_univ_eight]
  refine congrArg (fun u : EReal => u + _ + _ + _ + _ + _ + _ + _) (congrArg (fun t => k (ix2 r t)) (Fin.ext ?_))
  show l.val = 128 * 0 + l.val
  omega
theorem slt64 : ∀ n : Fin 128, IntOp.cmpi CmpIPredicate.slt (BitVec.ofNat 32 n.val) 64#32 = if n.val < 64 then 1#1 else 0#1 := by
  decide
theorem q1 (l : Fin 128) : (k0_pay1 (F := Ideal) vc vs k (k0_pay22 k) (k0_pay23 k) (ix2 r l) : EReal) =
    if h : l.val < 64 then tk r k ⟨64 + l.val, by omega⟩ * vs (ix2 r ⟨64 + l.val, by omega⟩)
    else tk r k ⟨l.val - 64, by omega⟩ * vs (ix2 r ⟨l.val - 64, by omega⟩) + tk r k ⟨64 + (l.val - 64), by omega⟩ * vc (ix2 r ⟨64 + (l.val - 64), by omega⟩) := by
  unfold k0_pay1 k0_pay22 k0_pay23
  pointwise
  rw [slt64, tk_eq r k l, tk_eq r k ⟨(l.val + 128 - 64) % 128, by omega⟩]
  by_cases h : l.val < 64
  · rw [if_pos h, dif_pos h]
    refine (zero_add _).trans ?_
    rw [show (⟨(l.val + 128 - 64) % 128, by omega⟩ : Fin 128) = ⟨64 + l.val, by omega⟩ from Fin.ext (by dsimp only; omega)]
  · rw [if_neg h, dif_neg h]
    refine (add_comm _ _).trans ?_
    rw [show (⟨(l.val + 128 - 64) % 128, by omega⟩ : Fin 128) = ⟨l.val - 64, by omega⟩ from Fin.ext (by dsimp only; omega),
      show (⟨64 + (l.val - 64), by omega⟩ : Fin 128) = l from Fin.ext (by dsimp only; omega)]
    rfl
end

section
/-! The tile's stored values. -/
abbrev tD {F : FTy → Type} [FloatOps F] [Named F] (x0 : Vec F S512x1024 .f32) (x4 : Vec F S512x256 .f32) : FVec F S512x2048 .bf16 := k0_pay6 (lc x4) (ls x4) x0
theorem tD_at (j : Fin 2048) : (tD (F := Ideal) x0 x4 (ix2 r j) : EReal) = (Tl x0 x1 x2 x3 x4 x5 x6 x7 x8).D r j := by
  refine (q6 x0 r _ _ j).trans ?_
  simp only [ld_c, ld_s]
  rfl
theorem tE_at (j : Fin 1536) : (k0_pay14 (F := Ideal) x1 x2 (ix2 r j) : EReal) = (Tl x0 x1 x2 x3 x4 x5 x6 x7 x8).E r j := q14 x1 x2 r j
theorem xq_at (a : Fin 384) : (k0_pay8 (F := Ideal) (lq x3) (ix2 r a) : EReal) = (Tl x0 x1 x2 x3 x4 x5 x6 x7 x8).xq r a := by
  rw [q8]
  simp only [ld_q]
  rfl
theorem xk_at (a : Fin 256) : (k0_pay17 (F := Ideal) (lk x3) (k0_pay15 (lk x3)) (Ideal.ofBits FTy.f32 0x358637BD#32) (ix2 r a) : EReal) = (Tl x0 x1 x2 x3 x4 x5 x6 x7 x8).xk r a := by
  rw [q17]
  simp only [ld_k]
  rfl
theorem eq_at (a : Fin 384) : (k0_pay10 (F := Ideal) (tD x0 x4) x7 (ix2 r a) : EReal) = (Tl x0 x1 x2 x3 x4 x5 x6 x7 x8).eq r a :=
  (q10 x7 r _ a).trans (Finset.sum_congr rfl fun j _ => congrArg (fun u : EReal => u * x7 (ix2 a j)) (tD_at x0 x1 x2 x3 x4 x5 x6 x7 x8 r j))
theorem ek_at (a : Fin 256) : (k0_pay19 (F := Ideal) (k0_pay14 x1 x2) x8 (ix2 r a) : EReal) = (Tl x0 x1 x2 x3 x4 x5 x6 x7 x8).ek r a :=
  (q19 x8 r _ a).trans (Finset.sum_congr rfl fun j _ => congrArg (fun u : EReal => u * x8 (ix2 a j)) (tE_at x0 x1 x2 x3 x4 x5 x6 x7 x8 r j))
theorem w10 (p : C32 S384x2048) (a : Fin 384) (j : Fin 2048) : (k0_pay9 (F := Ideal) (lc x4) (ls x4) x0 (lq x3) x5 p (ix2 a j) : EReal) = p (ix2 a j) + (Tl x0 x1 x2 x3 x4 x5 x6 x7 x8).gw a j :=
  (q9 x0 x5 _ _ _ p a j).trans (congrArg (fun u : EReal => p (ix2 a j) + u) (Finset.sum_congr rfl fun r _ =>
    congrArg₂ (fun u v : EReal => u * x5 (ix2 (0 : Fin 1) a) * v) (xq_at x0 x1 x2 x3 x4 x5 x6 x7 x8 r a) (tD_at x0 x1 x2 x3 x4 x5 x6 x7 x8 r j)))
theorem w11 (p : C32 S256x1536) (a : Fin 256) (j : Fin 1536) : (k0_pay18 (F := Ideal) (lk x3) x6 (k0_pay14 x1 x2) (k0_pay15 (lk x3)) (Ideal.ofBits FTy.f32 0x358637BD#32) p (ix2 a j) : EReal) = p (ix2 a j) + (Tl x0 x1 x2 x3 x4 x5 x6 x7 x8).gu a j :=
  (q18 x6 _ _ p a j).trans (congrArg (fun u : EReal => p (ix2 a j) + u) (Finset.sum_congr rfl fun r _ =>
    congrArg₂ (fun u v : EReal => u * x6 (ix2 (0 : Fin 1) a) * v) (xk_at x0 x1 x2 x3 x4 x5 x6 x7 x8 r a) (tE_at x0 x1 x2 x3 x4 x5 x6 x7 x8 r j)))
theorem w12 (p : C32 S1x384) (a : Fin 384) : (k0_pay11 (F := Ideal) (tD x0 x4) (k0_pay8 (lq x3)) x7 p (ix2 (0 : Fin 1) a) : EReal) = p (ix2 (0 : Fin 1) a) + (Tl x0 x1 x2 x3 x4 x5 x6 x7 x8).gg a :=
  (q11 x7 _ _ p a).trans (congrArg (fun u : EReal => p (ix2 (0 : Fin 1) a) + u) (Finset.sum_congr rfl fun r _ =>
    congrArg₂ (fun u v : EReal => u * v) (eq_at x0 x1 x2 x3 x4 x5 x6 x7 x8 r a) (xq_at x0 x1 x2 x3 x4 x5 x6 x7 x8 r a)))
theorem w13 (p : C32 S1x256) (a : Fin 256) : (k0_pay20 (F := Ideal) (lk x3) (k0_pay14 x1 x2) (k0_pay15 (lk x3)) (Ideal.ofBits FTy.f32 0x358637BD#32) x8 p (ix2 (0 : Fin 1) a) : EReal) = p (ix2 (0 : Fin 1) a) + (Tl x0 x1 x2 x3 x4 x5 x6 x7 x8).gh a :=
  (q20 x8 _ _ p a).trans (congrArg (fun u : EReal => p (ix2 (0 : Fin 1) a) + u) (Finset.sum_congr rfl fun r _ =>
    congrArg₂ (fun u v : EReal => u * v) (ek_at x0 x1 x2 x3 x4 x5 x6 x7 x8 r a) (xk_at x0 x1 x2 x3 x4 x5 x6 x7 x8 r a)))
theorem d0 (a : Fin 384) : (k0_pay12 (F := Ideal) (tD x0 x4) x5 (k0_pay7 (lq x3)) (k0_pay8 (lq x3)) x7 (ix2 r a) : EReal) = (Tl x0 x1 x2 x3 x4 x5 x6 x7 x8).dz r ⟨a.val, by omega⟩ := by
  have ha := a.2
  unfold Args.dz
  rw [dif_pos (by dsimp only; omega), ← gk_eq _ _ _ 384 (by norm_num) lit_384, q12, q7]
  simp only [eq_at x0 x1 x2 x3 x4 x5 x6 x7 x8, xq_at x0 x1 x2 x3 x4 x5 x6 x7 x8, ld_q]
  rfl
theorem d1 (a : Fin 256) : (k0_pay21 (F := Ideal) (lk x3) x6 (k0_pay14 x1 x2) (k0_pay15 (lk x3)) (Ideal.ofBits FTy.f32 0x358637BD#32) x8 (ix2 r a) : EReal) = (Tl x0 x1 x2 x3 x4 x5 x6 x7 x8).dz r ⟨384 + a.val, by omega⟩ := by
  have ha := a.2
  unfold Args.dz
  rw [dif_neg (by dsimp only; omega), dif_pos (by dsimp only; omega), ← gk_eq _ _ _ 256 (by norm_num) lit_256, q21]
  simp only [ek_at x0 x1 x2 x3 x4 x5 x6 x7 x8, ld_k]
  rw [show (⟨384 + a.val - 384, by omega⟩ : Fin 256) = a from Fin.ext (by dsimp only; omega)]
  rfl
theorem d2 (l : Fin 128) : (k0_pay1 (F := Ideal) (lc x4) (ls x4) (k0_pay13 x1) (k0_pay22 (k0_pay13 x1)) (k0_pay23 (k0_pay13 x1)) (ix2 r l) : EReal) = (Tl x0 x1 x2 x3 x4 x5 x6 x7 x8).dz r ⟨640 + l.val, by omega⟩ := by
  have hl := l.2
  unfold Args.dz
  rw [dif_neg (by dsimp only; omega), dif_neg (by dsimp only; omega), q1,
    show (⟨640 + l.val - 384 - 256, by omega⟩ : Fin 128) = l from Fin.ext (by dsimp only; omega)]
  simp only [ld_c, ld_s]
  unfold tk
  simp only [q13]
  rfl
end

end Cert.Proof.Mid

end
-- ==== Proof.MidRef.lean ====
/- The reference of the up-projections' backward call: its results at an index. -/
module

public import proofs.«01_k».proof.Proof.Gen.Reference3Ideal.Run
public import proofs.«01_k».proof.Proof.MidMath
public import Idealize.ShloMosaic.Lib.Pointwise

@[expose] public section

set_option maxRecDepth 16384

noncomputable section

namespace Cert.Proof.MidRef

open Cert.Reference3Ideal Cert.Reference3Ideal.Gen
open Idealize.ShloMosaic Idealize.ShloMosaic.TcCoe Idealize.ShloMosaic.Tactic
open Cert.Proof.Mid

abbrev C32 (S : Shape) := FVec Ideal S .f32
abbrev C16 (S : Shape) := FVec Ideal S .bf16

/-- The operations in layers: the scaled queries' gradient, the keys' in natural units, their products' gradients. -/
def lQ (a0 : C32 S8192x1024) : C32 S8192x1024 := (mulf a0 (broadcastInDim S8192x1024 ![] bcast_S_S8192x1024 (Host.rsqrt (constant S_ .f32 0x42C00000#32))))
def lK (a1 : C32 S8192x1024) : C32 S8192x1024 := (mulf a1 (broadcastInDim S8192x1024 ![] bcast_S_S8192x1024 (Host.log (constant S_ .f32 0x40000000#32))))
def lT (c : C32 S8192x128) : C32 S8192x1024 := (shapeCast _ (broadcastInDim S1x8192x8x128 ![0, 1, 2, 3] bcast_S1x8192x1x128_S1x8192x8x128_0_1_2_3 (shapeCast _ c shapeCasts_S8192x128_S1x8192x1x128)) shapeCasts_S1x8192x8x128_S8192x1024)
def lCos (a4 : C32 S8192x256) : C32 S8192x128 := (extractStridedSlice S8192x128 ![0, 0] a4 slices_S8192x256_S8192x128_0_0)
def lSin (a4 : C32 S8192x256) : C32 S8192x128 := (extractStridedSlice S8192x128 ![0, 128] a4 slices_S8192x256_S8192x128_0_128)
def lD (q c s : C32 S8192x1024) : C32 S8192x2048 := (concatenate S8192x2048 1 [⟨S8192x1024, (mulf q c)⟩, ⟨S8192x1024, (mulf q s)⟩] concatenates_S8192x1024_S8192x1024_S8192x2048_d1)
def lE (k : C32 S8192x1024) (a2 : C32 S8192x512) : C32 S8192x1536 := (concatenate S8192x1536 1 [⟨S8192x1024, k⟩, ⟨S8192x512, a2⟩] concatenates_S8192x1024_S8192x512_S8192x1536_d1)
/-- The latents, their mean squares and inverse roots, and the normalised latents. -/
def lZq (a3 : C32 S8192x640) : C32 S8192x384 := (extractStridedSlice S8192x384 ![0, 0] a3 slices_S8192x640_S8192x384_0_0)
def lZk (a3 : C32 S8192x640) : C32 S8192x256 := (extractStridedSlice S8192x256 ![0, 384] a3 slices_S8192x640_S8192x256_0_384)
def lMq (z : C32 S8192x384) : C32 S8192x1 := (addf (Host.divf (broadcastInDim S8192x1 ![0] bcast_S8192_S8192x1_0 (Host.reduceAdd (mulf z z) (constant S_ .f32 0x00000000#32) reducesTo_S8192x384_S8192_d1 h_S_)) (broadcastInDim S8192x1 ![] bcast_S_S8192x1 (constant S_ .f32 0x43C00000#32))) (broadcastInDim S8192x1 ![] bcast_S_S8192x1 (constant S_ .f32 0x358637BD#32)))
def lMk (z : C32 S8192x256) : C32 S8192x1 := (addf (Host.divf (broadcastInDim S8192x1 ![0] bcast_S8192_S8192x1_0 (Host.reduceAdd (mulf z z) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))
def lXq (z : C32 S8192x384) (s : C32 S8192x1) : C32 S8192x384 := (mulf z (broadcastInDim S8192x384 ![0, 1] bcast_S8192x1_S8192x384_0_1 (Host.rsqrt s)))
def lXk (z : C32 S8192x256) (s : C32 S8192x1) : C32 S8192x256 := (mulf z (broadcastInDim S8192x256 ![0, 1] bcast_S8192x1_S8192x256_0_1 (Host.rsqrt s)))
/-- The products' inputs' gradients, and the normalised latents' with the gains. -/
def lEq (d : C32 S8192x2048) (a7 : C16 S384x2048) : C32 S8192x384 := (Host.dotGeneral dot_S8192x2048_S384x2048_S8192x384_1_1_0_0_n_n none d (extf .f32 a7 bitsLt_bf16_f32))
def lEk (d : C32 S8192x1536) (a8 : C16 S256x1536) : C32 S8192x256 := (Host.dotGeneral dot_S8192x1536_S256x1536_S8192x256_1_1_0_0_n_n none d (extf .f32 a8 bitsLt_bf16_f32))
def lYq (d : C32 S8192x384) (a5 : C32 S1x384) : C32 S8192x384 := (mulf d (broadcastInDim S8192x384 ![0, 1] bcast_S1x384_S8192x384_0_1 a5))
def lYk (d : C32 S8192x256) (a6 : C32 S1x256) : C32 S8192x256 := (mulf d (broadcastInDim S8192x256 ![0, 1] bcast_S1x256_S8192x256_0_1 a6))
/-- The weights' and gains' gradients. -/
def lGw (d : C32 S8192x2048) (x : C32 S8192x384) (a5 : C32 S1x384) : C32 S384x2048 := transpose S384x2048 [1, 0] (Host.dotGeneral dot_S8192x2048_S8192x384_S2048x384_0_0_1_1_n_n none d (mulf x (broadcastInDim S8192x384 ![0, 1] bcast_S1x384_S8192x384_0_1 a5))) transposes_S2048x384_S384x2048_1_0
def lGu (d : C32 S8192x1536) (x : C32 S8192x256) (a6 : C32 S1x256) : C32 S256x1536 := transpose S256x1536 [1, 0] (Host.dotGeneral dot_S8192x1536_S8192x256_S1536x256_0_0_1_1_n_n none d (mulf x (broadcastInDim S8192x256 ![0, 1] bcast_S1x256_S8192x256_0_1 a6))) transposes_S1536x256_S256x1536_1_0
def lGg (x d : C32 S8192x384) : C32 S1x384 := shapeCast _ (Host.reduceAdd (mulf x d) (constant S_ .f32 0x00000000#32) reducesTo_S8192x384_S384_d0 h_S_) shapeCasts_S384_S1x384
def lGh (x d : C32 S8192x256) : C32 S1x256 := shapeCast _ (Host.reduceAdd (mulf x d) (constant S_ .f32 0x00000000#32) reducesTo_S8192x256_S256_d0 h_S_) shapeCasts_S256_S1x256
/-- The mean squares' parts of the latents' gradient, and that gradient. -/
def lCq (z y : C32 S8192x384) (s : C32 S8192x1) : C32 S8192x384 := (broadcastInDim S8192x384 ![0] bcast_S8192_S8192x384_0 (Host.reduceAdd (Host.divf (mulf (shapeCast _ (Host.reduceAdd (mulf z y) (constant S_ .f32 0x00000000#32) reducesTo_S8192x384_S8192_d1 h_S_) shapeCasts_S8192_S8192x1) (mulf (broadcastInDim S8192x1 ![] bcast_S_S8192x1 (constant S_ .f32 0xBF000000#32)) (Host.divf (Host.rsqrt s) s))) (broadcastInDim S8192x1 ![] bcast_S_S8192x1 (constant S_ .f32 0x43C00000#32))) (constant S_ .f32 0x00000000#32) reducesTo_S8192x1_S8192_d1 h_S_))
def lCk (z y : C32 S8192x256) (s : C32 S8192x1) : C32 S8192x256 := (broadcastInDim S8192x256 ![0] bcast_S8192_S8192x256_0 (Host.reduceAdd (Host.divf (mulf (shapeCast _ (Host.reduceAdd (mulf z y) (constant S_ .f32 0x00000000#32) reducesTo_S8192x256_S8192_d1 h_S_) shapeCasts_S8192_S8192x1) (mulf (broadcastInDim S8192x1 ![] bcast_S_S8192x1 (constant S_ .f32 0xBF000000#32)) (Host.divf (Host.rsqrt s) s))) (broadcastInDim S8192x1 ![] bcast_S_S8192x1 (constant S_ .f32 0x43800000#32))) (constant S_ .f32 0x00000000#32) reducesTo_S8192x1_S8192_d1 h_S_))
def lGq (z y c : C32 S8192x384) (s : C32 S8192x1) : C32 S8192x384 := (addf (addf (mulf y (broadcastInDim S8192x384 ![0, 1] bcast_S8192x1_S8192x384_0_1 (Host.rsqrt s))) (mulf z c)) (mulf c z))
def lGk (z y c : C32 S8192x256) (s : C32 S8192x1) : C32 S8192x256 := (addf (addf (mulf y (broadcastInDim S8192x256 ![0, 1] bcast_S8192x1_S8192x256_0_1 (Host.rsqrt s))) (mulf z c)) (mulf c z))
/-- The heads' rotary parts together, and the rotary latent's gradient. -/
def lR (k : C32 S8192x1024) : C32 S8192x128 := (Host.reduceAdd (shapeCast _ k shapeCasts_S8192x1024_S1x8192x8x128) (constant S_ .f32 0x00000000#32) reducesTo_S1x8192x8x128_S8192x128_d0_2 h_S_)
def lP (k c s : C32 S8192x128) : C32 S8192x128 := (concatenate S8192x128 1 [⟨S8192x64, (extractStridedSlice S8192x64 ![0, 64] (mulf k s) slices_S8192x128_S8192x64_0_64)⟩, ⟨S8192x64, (addf (extractStridedSlice S8192x64 ![0, 0] (mulf k s) slices_S8192x128_S8192x64_0_0) (mulf (extractStridedSlice S8192x64 ![0, 64] k slices_S8192x128_S8192x64_0_64) (extractStridedSlice S8192x64 ![0, 64] c slices_S8192x128_S8192x64_0_64)))⟩] concatenates_S8192x64_S8192x64_S8192x128_d1)
def lDz (q : C32 S8192x384) (k : C32 S8192x256) (p : C32 S8192x128) : C16 S8192x768 :=
  truncf .bf16 ((concatenate S8192x768 1 [⟨S8192x384, (q : C32 S8192x384)⟩, ⟨S8192x256, (k : C32 S8192x256)⟩, ⟨S8192x128, (p : C32 S8192x128)⟩] concatenates_S8192x384_S8192x256_S8192x128_S8192x768_d1 : C32 S8192x768)) bitsLt_bf16_f32

variable (m : (ℓ : Loc nD τ sig) → Buf (Elt Ideal) ℓ) (c : Dev nD)
def a0 : C32 S8192x1024 := m ((c.tc : Thread nD τ).loc main_arg0)
def a1 : C32 S8192x1024 := m ((c.tc : Thread nD τ).loc main_arg1)
def a2 : C32 S8192x512 := m ((c.tc : Thread nD τ).loc main_arg2)
def a3 : C32 S8192x640 := m ((c.tc : Thread nD τ).loc main_arg3)
def a4 : C32 S8192x256 := m ((c.tc : Thread nD τ).loc main_arg4)
def a5 : C32 S1x384 := m ((c.tc : Thread nD τ).loc main_arg5)
def a6 : C32 S1x256 := m ((c.tc : Thread nD τ).loc main_arg6)
def a7 : C16 S384x2048 := m ((c.tc : Thread nD τ).loc main_arg7)
def a8 : C16 S256x1536 := m ((c.tc : Thread nD τ).loc main_arg8)
def rD := lD (lQ (a0 m c)) (lT (lCos (a4 m c))) (lT (lSin (a4 m c)))
def rE := lE (lK (a1 m c)) (a2 m c)
def rXq := lXq (lZq (a3 m c)) (lMq (lZq (a3 m c)))
def rXk := lXk (lZk (a3 m c)) (lMk (lZk (a3 m c)))
def rEq := lEq (rD m c) (a7 m c)
def rEk := lEk (rE m c) (a8 m c)
def rYq := lYq (rEq m c) (a5 m c)
def rYk := lYk (rEk m c) (a6 m c)

theorem res_dz : Value.res_main_v133 m c = lDz (lGq (lZq (a3 m c)) (rYq m c) (lCq (lZq (a3 m c)) (rYq m c) (lMq (lZq (a3 m c)))) (lMq (lZq (a3 m c))))
    (lGk (lZk (a3 m c)) (rYk m c) (lCk (lZk (a3 m c)) (rYk m c) (lMk (lZk (a3 m c)))) (lMk (lZk (a3 m c)))) (lP (lR (lK (a1 m c))) (lCos (a4 m c)) (lSin (a4 m c))) := rfl

/-- The arguments' entries. -/
def Ar : Args 8192 :=
  ⟨fun r j => a0 m c (ix2 r j), fun r j => a1 m c (ix2 r j), fun r j => a2 m c (ix2 r j), fun r j => a3 m c (ix2 r j), fun r j => a4 m c (ix2 r j),
    fun a => a5 m c (ix2 (0 : Fin 1) a), fun a => a6 m c (ix2 (0 : Fin 1) a), fun a j => a7 m c (ix2 a j), fun a j => a8 m c (ix2 a j)⟩

variable (R : Fin 8192)
theorem lQ_at (x : C32 S8192x1024) (j : Fin 1024) : lQ x (ix2 R j) = x (ix2 R j) * (((Real.sqrt 96)⁻¹ : ℝ) : EReal) := by
  have e : Ideal.rsqrt (Ideal.ofBits FTy.f32 0x42C00000#32) = (((Real.sqrt 96)⁻¹ : ℝ) : EReal) := by
    rw [lit_96, Ideal.rsqrt_coe, if_neg (by norm_num), if_neg (by norm_num)]
  unfold lQ
  pointwise
  rw [e]
theorem lK_at (x : C32 S8192x1024) (j : Fin 1024) : lK x (ix2 R j) = x (ix2 R j) * ((Real.log 2 : ℝ) : EReal) := by
  unfold lK
  pointwise
  rw [Mla.log2_real]
theorem lT_at (x : C32 S8192x128) (j : Fin 1024) : lT x (ix2 R j) = x (ix2 R ⟨j.val % 128, by omega⟩) := by
  unfold lT
  pointwise
theorem lD_at (q x y : C32 S8192x1024) (j : Fin 2048) : lD q x y (ix2 R j) = if h : j.val < 1024 then q (ix2 R ⟨j.val, h⟩) * x (ix2 R ⟨j.val, h⟩) else q (ix2 R ⟨j.val - 1024, by omega⟩) * y (ix2 R ⟨j.val - 1024, by omega⟩) := by
  unfold lD
  pointwise
theorem rD_at (j : Fin 2048) : rD m c (ix2 R j) = (Ar m c).D R j := by
  unfold rD lCos lSin
  rw [lD_at]
  simp only [lQ_at, lT_at]
  pointwise
  rfl
theorem rE_at (j : Fin 1536) : rE m c (ix2 R j) = (Ar m c).E R j := by
  unfold rE lE
  pointwise
  simp only [lK_at]
  rfl
theorem lMq_at (z : C32 S8192x384) : lMq z (ix2 R (0 : Fin 1)) = ms (Ideal.ofBits FTy.f32 0x43C00000#32) (fun a : Fin 384 => z (ix2 R a)) := by
  unfold lMq ms
  pointwise
theorem lMk_at (z : C32 S8192x256) : lMk z (ix2 R (0 : Fin 1)) = ms (Ideal.ofBits FTy.f32 0x43800000#32) (fun a : Fin 256 => z (ix2 R a)) := by
  unfold lMk ms
  pointwise
theorem zq_at (a : Fin 384) : lZq (a3 m c) (ix2 R a) = (Ar m c).zq R a := by
  unfold lZq
  pointwise
  rfl
theorem zk_at (a : Fin 256) : lZk (a3 m c) (ix2 R a) = (Ar m c).zk R a := by
  unfold lZk
  pointwise
  rfl
theorem rXq_at (a : Fin 384) : rXq m c (ix2 R a) = (Ar m c).xq R a := by
  unfold rXq lXq
  pointwise
  rw [lMq_at]
  simp only [zq_at]
  rfl
theorem rXk_at (a : Fin 256) : rXk m c (ix2 R a) = (Ar m c).xk R a := by
  unfold rXk lXk
  pointwise
  rw [lMk_at]
  simp only [zk_at]
  rfl
theorem rEq_at (a : Fin 384) : rEq m c (ix2 R a) = (Ar m c).eq R a := by
  unfold rEq lEq
  pointwise
  exact Finset.sum_congr rfl fun j _ => congrArg (fun u : EReal => u * a7 m c (ix2 a j)) (rD_at m c R j)
theorem rEk_at (a : Fin 256) : rEk m c (ix2 R a) = (Ar m c).ek R a := by
  unfold rEk lEk
  pointwise
  exact Finset.sum_congr rfl fun j _ => congrArg (fun u : EReal => u * a8 m c (ix2 a j)) (rE_at m c R j)
theorem rYq_at (a : Fin 384) : rYq m c (ix2 R a) = (Ar m c).eq R a * (Ar m c).g a := by
  unfold rYq lYq
  pointwise
  rw [rEq_at]
  rfl
theorem rYk_at (a : Fin 256) : rYk m c (ix2 R a) = (Ar m c).ek R a * (Ar m c).h a := by
  unfold rYk lYk
  pointwise
  rw [rEk_at]
  rfl
theorem gw_at (a : Fin 384) (j : Fin 2048) : lGw (rD m c) (rXq m c) (a5 m c) (ix2 a j) = (Ar m c).gw a j := by
  unfold lGw
  pointwise
  refine Finset.sum_congr rfl fun R _ => ?_
  rw [rD_at, rXq_at, mul_comm]
  rfl
theorem gu_at (a : Fin 256) (j : Fin 1536) : lGu (rE m c) (rXk m c) (a6 m c) (ix2 a j) = (Ar m c).gu a j := by
  unfold lGu
  pointwise
  refine Finset.sum_congr rfl fun R _ => ?_
  rw [rE_at, rXk_at, mul_comm]
  rfl
theorem gg_at (a : Fin 384) : lGg (rXq m c) (rEq m c) (ix2 (0 : Fin 1) a) = (Ar m c).gg a := by
  unfold lGg
  pointwise
  exact Finset.sum_congr rfl fun R _ => by rw [rEq_at, rXq_at, mul_comm]
theorem gh_at (a : Fin 256) : lGh (rXk m c) (rEk m c) (ix2 (0 : Fin 1) a) = (Ar m c).gh a := by
  unfold lGh
  pointwise
  exact Finset.sum_congr rfl fun R _ => by rw [rEk_at, rXk_at, mul_comm]
theorem lCq_at (z y : C32 S8192x384) (a : Fin 384) : lCq z y (lMq z) (ix2 R a) = cr (Ideal.ofBits FTy.f32 0x43C00000#32) (fun a : Fin 384 => z (ix2 R a)) (fun a : Fin 384 => y (ix2 R a)) := by
  unfold lCq
  pointwise
  rw [Fin.sum_univ_one]
  rw [show lMq z (ix2 R 0) = _ from lMq_at R z]
  rfl
theorem lCk_at (z y : C32 S8192x256) (a : Fin 256) : lCk z y (lMk z) (ix2 R a) = cr (Ideal.ofBits FTy.f32 0x43800000#32) (fun a : Fin 256 => z (ix2 R a)) (fun a : Fin 256 => y (ix2 R a)) := by
  unfold lCk
  pointwise
  rw [Fin.sum_univ_one]
  rw [show lMk z (ix2 R 0) = _ from lMk_at R z]
  rfl
theorem lGq_at (z y : C32 S8192x384) (a : Fin 384) : lGq z y (lCq z y (lMq z)) (lMq z) (ix2 R a) = gr (Ideal.ofBits FTy.f32 0x43C00000#32) (fun a : Fin 384 => z (ix2 R a)) (fun a : Fin 384 => y (ix2 R a)) a := by
  unfold lGq
  pointwise
  rw [lMq_at, lCq_at]
  rfl
theorem lGk_at (z y : C32 S8192x256) (a : Fin 256) : lGk z y (lCk z y (lMk z)) (lMk z) (ix2 R a) = gr (Ideal.ofBits FTy.f32 0x43800000#32) (fun a : Fin 256 => z (ix2 R a)) (fun a : Fin 256 => y (ix2 R a)) a := by
  unfold lGk
  pointwise
  rw [lMk_at, lCk_at]
  rfl
theorem drop_eq (l : Fin 128) (y : S1x8192x8x128.Idx) : reducesTo_S1x8192x8x128_S8192x128_d0_2.drop y = ix2 R l ↔ y = ix4 (0 : Fin 1) R (y 2 : Fin 8) l := by
  constructor
  · intro h
    have h0 : y 1 = R := congrFun h 0
    have h1 : y 3 = l := congrFun h 1
    funext t
    fin_cases t
    · exact Subsingleton.elim (α := Fin 1) _ _
    · exact h0
    · rfl
    · exact h1
  · intro h
    rw [h]
    funext t
    fin_cases t <;> rfl
theorem red (f : S1x8192x8x128.Idx → EReal) (l : Fin 128) : Ideal.hostReduceAdd reducesTo_S1x8192x8x128_S8192x128_d0_2 f 0 (ix2 R l) = ∑ h : Fin 8, f (ix4 (0 : Fin 1) R h l) := by
  unfold Ideal.hostReduceAdd
  rw [zero_add]
  refine Finset.sum_bij' (t := (Finset.univ : Finset (Fin 8))) (fun y _ => (y 2 : Fin 8)) (fun h _ => ix4 (0 : Fin 1) R h l) ?_ ?_ ?_ ?_ ?_
  · intro y _
    exact Finset.mem_univ _
  · intro h _
    rw [Finset.mem_filter]
    exact ⟨Finset.mem_univ _, (drop_eq R l _).2 rfl⟩
  · intro y hy
    exact ((drop_eq R l y).1 (Finset.mem_filter.1 hy).2).symm
  · intro h _
    rfl
  · intro y hy
    exact congrArg f ((drop_eq R l y).1 (Finset.mem_filter.1 hy).2)
theorem lR_at (l : Fin 128) : lR (lK (a1 m c)) (ix2 R l) = (Ar m c).kr R l := by
  unfold lR
  pointwise
  rw [red]
  refine Finset.sum_congr rfl fun h _ => ?_
  pointwise
  refine (lK_at R _ _).trans (congrArg (fun t => a1 m c (ix2 R t) * ((Real.log 2 : ℝ) : EReal)) (Fin.ext ?_))
  show h.val * 128 + l.val = 128 * h.val + l.val
  omega
theorem lP_at (l : Fin 128) : lP (lR (lK (a1 m c))) (lCos (a4 m c)) (lSin (a4 m c)) (ix2 R l) = (Ar m c).gz R l := by
  unfold lP lCos lSin
  pointwise
  simp only [lR_at]
  rfl
theorem dz_at (j : Fin 768) : Value.res_main_v133 m c (ix2 R j) = (Ar m c).dz R j := by
  rw [res_dz]
  unfold lDz
  pointwise
  simp only [lGq_at, lGk_at, lP_at, zq_at, zk_at, rYq_at, rYk_at]
  rfl

end Cert.Proof.MidRef

end
-- ==== Proof.MidVal.lean ====
/- The up-projections' backward call: what each point leaves, the result arrays, and their values. -/
module

public import proofs.«01_k».proof.Proof.MidTile
public import proofs.«01_k».proof.Proof.MidRef
public import proofs.«01_k».proof.Defs
public import proofs.«01_k».proof.Proof.Gen.Kernel3.Frame
public import Idealize.ShloMosaic.Lib.Quiescent

@[expose] public section

set_option maxRecDepth 16384

noncomputable section

namespace Cert.Proof.Mid

open Cert.Kernel3Ideal Cert.Kernel3Ideal.Gen
open Idealize.ShloMosaic Idealize.ShloMosaic.TcCoe Idealize.ShloMosaic.Tactic
open Idealize.SL Idealize.SL.Sem
open Idealize.ShloMosaic.Pipeline (Dat Cfg Window)

theorem hz2 : (![0, 0] : Fin 2 → Nat) = fun _ => 0 := funext fun a => by fin_cases a <;> rfl

abbrev r0 := Rect.unit (s := S512x768) ![0, 0] S512x384.size inb_S512x768_S512x384_0_0
abbrev r1 := Rect.unit (s := S512x768) ![0, 384] S512x256.size inb_S512x768_S512x256_0_384
abbrev r2 := Rect.unit (s := S512x768) ![0, 640] S512x128.size inb_S512x768_S512x128_0_640

section
variable {F : FTy → Type} [FloatOps F] [Named F] (x0 x1 : Vec F S512x1024 .f32) (x2 : Vec F S512x512 .f32) (x3 : Vec F S512x640 .f32) (x4 : Vec F S512x256 .f32) (x5 : Vec F S1x384 .f32) (x6 : Vec F S1x256 .f32) (x7 : Vec F S384x2048 .bf16) (x8 : Vec F S256x1536 .bf16)
/-- The latents' gradient's three column ranges. -/
def tL : List (View.Piece (Elt F) S512x768 .bf16) :=
  [⟨r2, k0_pay1 (lc x4) (ls x4) (k0_pay13 x1) (k0_pay22 (k0_pay13 x1)) (k0_pay23 (k0_pay13 x1))⟩,
    ⟨r1, k0_pay21 (lk x3) x6 (k0_pay14 x1 x2) (k0_pay15 (lk x3)) (Scalar.ofBits .f32 0x358637BD#32) x8⟩,
    ⟨r0, k0_pay12 (tD x0 x4) x5 (k0_pay7 (lq x3)) (k0_pay8 (lq x3)) x7⟩]

/-- A tile's five results, over what the four sums held. -/
def tR (o10 : Vec F S384x2048 .f32) (o11 : Vec F S256x1536 .f32) (o12 : Vec F S1x384 .f32) (o13 : Vec F S1x256 .f32) :
    Vec F S512x768 .bf16 × Vec F S384x2048 .f32 × Vec F S256x1536 .f32 × Vec F S1x384 .f32 × Vec F S1x256 .f32 :=
  (View.canon (tL x0 x1 x2 x3 x4 x5 x6 x7 x8), k0_pay9 (lc x4) (ls x4) x0 (lq x3) x5 o10,
    k0_pay18 (lk x3) x6 (k0_pay14 x1 x2) (k0_pay15 (lk x3)) (Scalar.ofBits .f32 0x358637BD#32) o11,
    k0_pay11 (tD x0 x4) (k0_pay8 (lq x3)) x7 o12, k0_pay20 (lk x3) (k0_pay14 x1 x2) (k0_pay15 (lk x3)) (Scalar.ofBits .f32 0x358637BD#32) x8 o13)
variable (c : Dev nD) (i : grid0.Coords) (a0 : Memref sig .tc .vmem S512x1024 .f32) (g0 : a0.IsWhole) (a1 : Memref sig .tc .vmem S512x1024 .f32) (g1 : a1.IsWhole) (a2 : Memref sig .tc .vmem S512x512 .f32) (g2 : a2.IsWhole) (a3 : Memref sig .tc .vmem S512x640 .f32) (g3 : a3.IsWhole) (a4 : Memref sig .tc .vmem S512x256 .f32) (g4 : a4.IsWhole) (a5 : Memref sig .tc .vmem S1x384 .f32) (g5 : a5.IsWhole) (a6 : Memref sig .tc .vmem S1x256 .f32) (g6 : a6.IsWhole) (a7 : Memref sig .tc .vmem S384x2048 .bf16) (g7 : a7.IsWhole) (a8 : Memref sig .tc .vmem S256x1536 .bf16) (g8 : a8.IsWhole) (a9 : Memref sig .tc .vmem S512x768 .bf16) (g9 : a9.IsWhole) (a10 : Memref sig .tc .vmem S384x2048 .f32) (g10 : a10.IsWhole) (a11 : Memref sig .tc .vmem S256x1536 .f32) (g11 : a11.IsWhole) (a12 : Memref sig .tc .vmem S1x384 .f32) (g12 : a12.IsWhole) (a13 : Memref sig .tc .vmem S1x256 .f32) (g13 : a13.IsWhole)

theorem e_A (hc0 : cond0_0 i) : (out0_A_9 c i a0 g0 a1 g1 a2 g2 a3 g3 a4 g4 a5 g5 a6 g6 a7 g7 a8 g8 a9 g9 a10 g10 a11 g11 a12 g12 a13 g13 hc0 x0 x1 x2 x3 x4 x5 x6 x7 x8, out0_A_10 c i a0 g0 a1 g1 a2 g2 a3 g3 a4 g4 a5 g5 a6 g6 a7 g7 a8 g8 a9 g9 a10 g10 a11 g11 a12 g12 a13 g13 hc0 x0 x1 x2 x3 x4 x5 x6 x7 x8, out0_A_11 c i a0 g0 a1 g1 a2 g2 a3 g3 a4 g4 a5 g5 a6 g6 a7 g7 a8 g8 a9 g9 a10 g10 a11 g11 a12 g12 a13 g13 hc0 x0 x1 x2 x3 x4 x5 x6 x7 x8, out0_A_12 c i a0 g0 a1 g1 a2 g2 a3 g3 a4 g4 a5 g5 a6 g6 a7 g7 a8 g8 a9 g9 a10 g10 a11 g11 a12 g12 a13 g13 hc0 x0 x1 x2 x3 x4 x5 x6 x7 x8, out0_A_13 c i a0 g0 a1 g1 a2 g2 a3 g3 a4 g4 a5 g5 a6 g6 a7 g7 a8 g8 a9 g9 a10 g10 a11 g11 a12 g12 a13 g13 hc0 x0 x1 x2 x3 x4 x5 x6 x7 x8) = tR x0 x1 x2 x3 x4 x5 x6 x7 x8 (k0_pay2) (k0_pay3) (k0_pay4) (k0_pay5) := by
  unfold tR
  refine congrArg₂ Prod.mk ?_ (congrArg₂ Prod.mk ?_ (congrArg₂ Prod.mk ?_ (congrArg₂ Prod.mk ?_ ?_)))
  on_goal 1 => unfold out0_A_9; rw [View.read_writes_eq_canon _ _ _ (fun _ => cover0_A_9 ..)]
  on_goal 2 => unfold out0_A_10; rw [View.read_writes_eq_canon _ _ _ (fun _ => cover0_A_10 ..)]
  on_goal 3 => unfold out0_A_11; rw [View.read_writes_eq_canon _ _ _ (fun _ => cover0_A_11 ..)]
  on_goal 4 => unfold out0_A_12; rw [View.read_writes_eq_canon _ _ _ (fun _ => cover0_A_12 ..)]
  on_goal 5 => unfold out0_A_13; rw [View.read_writes_eq_canon _ _ _ (fun _ => cover0_A_13 ..)]
  all_goals
    unfold kernelRun0_A
    dsimp only
    sl_unfold_words
    simp only [View.canon_cons_unit_zero (S := S384x2048) hz2, View.canon_cons_unit_zero (S := S256x1536) hz2, View.canon_cons_unit_zero (S := S1x384) hz2, View.canon_cons_unit_zero (S := S1x256) hz2, View.readAt_eq_ld, Memref.IsWhole.read_unread, View.ld_unit_zero (S := S512x1024) hz2, View.ld_unit_zero (S := S512x512) hz2, View.ld_unit_zero (S := S1x384) hz2, View.ld_unit_zero (S := S1x256) hz2, View.ld_unit_zero (S := S384x2048) hz2, View.ld_unit_zero (S := S256x1536) hz2, View.readCov_unit_zero (S := S384x2048) _ hz2, View.readCov_unit_zero (S := S256x1536) _ hz2, View.readCov_unit_zero (S := S1x384) _ hz2, View.readCov_unit_zero (S := S1x256) _ hz2]
    rfl
theorem e_B (hc0 : ¬cond0_0 i) (o10 : Vec F S384x2048 .f32) (o11 : Vec F S256x1536 .f32) (o12 : Vec F S1x384 .f32) (o13 : Vec F S1x256 .f32) : (out0_B_9 c i a0 g0 a1 g1 a2 g2 a3 g3 a4 g4 a5 g5 a6 g6 a7 g7 a8 g8 a9 g9 a10 g10 a11 g11 a12 g12 a13 g13 hc0 x0 x1 x2 x3 x4 x5 x6 x7 x8 o10 o11 o12 o13, out0_B_10 c i a0 g0 a1 g1 a2 g2 a3 g3 a4 g4 a5 g5 a6 g6 a7 g7 a8 g8 a9 g9 a10 g10 a11 g11 a12 g12 a13 g13 hc0 x0 x1 x2 x3 x4 x5 x6 x7 x8 o10 o11 o12 o13, out0_B_11 c i a0 g0 a1 g1 a2 g2 a3 g3 a4 g4 a5 g5 a6 g6 a7 g7 a8 g8 a9 g9 a10 g10 a11 g11 a12 g12 a13 g13 hc0 x0 x1 x2 x3 x4 x5 x6 x7 x8 o10 o11 o12 o13, out0_B_12 c i a0 g0 a1 g1 a2 g2 a3 g3 a4 g4 a5 g5 a6 g6 a7 g7 a8 g8 a9 g9 a10 g10 a11 g11 a12 g12 a13 g13 hc0 x0 x1 x2 x3 x4 x5 x6 x7 x8 o10 o11 o12 o13, out0_B_13 c i a0 g0 a1 g1 a2 g2 a3 g3 a4 g4 a5 g5 a6 g6 a7 g7 a8 g8 a9 g9 a10 g10 a11 g11 a12 g12 a13 g13 hc0 x0 x1 x2 x3 x4 x5 x6 x7 x8 o10 o11 o12 o13) = tR x0 x1 x2 x3 x4 x5 x6 x7 x8 o10 o11 o12 o13 := by
  unfold tR
  refine congrArg₂ Prod.mk ?_ (congrArg₂ Prod.mk ?_ (congrArg₂ Prod.mk ?_ (congrArg₂ Prod.mk ?_ ?_)))
  on_goal 1 => unfold out0_B_9; rw [View.read_writes_eq_canon _ _ _ (fun _ => cover0_B_9 ..)]
  on_goal 2 => unfold out0_B_10; rw [View.read_writes_eq_canon _ _ _ (fun _ => cover0_B_10 ..)]
  on_goal 3 => unfold out0_B_11; rw [View.read_writes_eq_canon _ _ _ (fun _ => cover0_B_11 ..)]
  on_goal 4 => unfold out0_B_12; rw [View.read_writes_eq_canon _ _ _ (fun _ => cover0_B_12 ..)]
  on_goal 5 => unfold out0_B_13; rw [View.read_writes_eq_canon _ _ _ (fun _ => cover0_B_13 ..)]
  all_goals
    unfold kernelRun0_B
    dsimp only
    sl_unfold_words
    simp only [View.canon_unit_zero (S := S384x2048) hz2, View.canon_unit_zero (S := S256x1536) hz2, View.canon_unit_zero (S := S1x384) hz2, View.canon_unit_zero (S := S1x256) hz2, View.readAt_eq_ld, Memref.IsWhole.read_unread, View.ld_unit_zero (S := S512x1024) hz2, View.ld_unit_zero (S := S512x512) hz2, View.ld_unit_zero (S := S1x384) hz2, View.ld_unit_zero (S := S1x256) hz2, View.ld_unit_zero (S := S384x2048) hz2, View.ld_unit_zero (S := S256x1536) hz2]
    rfl
end

section
variable (x0 x1 : C32 S512x1024) (x2 : C32 S512x512) (x3 : C32 S512x640) (x4 : C32 S512x256) (x5 : C32 S1x384) (x6 : C32 S1x256) (x7 : C16 S384x2048) (x8 : C16 S256x1536)
/-- The tile's latents' gradient. -/
def tZ : C16 S512x768 := fun y => (Tl x0 x1 x2 x3 x4 x5 x6 x7 x8).dz (y 0 : Fin 512) (y 1 : Fin 768)
theorem at2 {n0 n1 : ℕ} {f g : (⟨2, ![n0, n1]⟩ : Shape).Idx → EReal} (h : ∀ i j, f (ix2 i j) = g (ix2 i j)) : f = g :=
  funext fun y => (congrArg f (eq_ix2 y)).trans ((h _ _).trans (congrArg g (eq_ix2 y)).symm)
theorem dz_ext {r r' : Fin 512} {j j' : Fin 768} (A : Args 512) (h0 : r.val = r'.val) (h1 : j.val = j'.val) : A.dz r j = A.dz r' j' := by
  rw [Fin.ext h0, Fin.ext h1]
theorem canonL : View.canon (tL (F := Ideal) x0 x1 x2 x3 x4 x5 x6 x7 x8) = tZ x0 x1 x2 x3 x4 x5 x6 x7 x8 := by
  funext y
  refine (congrFun (congrArg View.canon (List.append_nil _).symm) y).trans (View.canon_append_of_piecesOf (tZ x0 x1 x2 x3 x4 x5 x6 x7 x8) [] (tL (F := Ideal) x0 x1 x2 x3 x4 x5 x6 x7 x8) ⟨?_, ?_, ?_, trivial⟩ y (View.cover_of_tiledBy (tL (F := Ideal) x0 x1 x2 x3 x4 x5 x6 x7 x8) ![512, 128] (by sl_kernel_rfl) y))
  · refine congrFun (at2 (n0 := 512) (n1 := 128) fun i j => (d2 x0 x1 x2 x3 x4 x5 x6 x7 x8 i j).trans (dz_ext _ ?_ ?_))
    · show i.val = 0 + 1 * i.val; omega
    · show 640 + j.val = 640 + 1 * j.val; omega
  · refine congrFun (at2 (n0 := 512) (n1 := 256) fun i j => (d1 x0 x1 x2 x3 x4 x5 x6 x7 x8 i j).trans (dz_ext _ ?_ ?_))
    · show i.val = 0 + 1 * i.val; omega
    · show 384 + j.val = 384 + 1 * j.val; omega
  · refine congrFun (at2 (n0 := 512) (n1 := 384) fun i j => (d0 x0 x1 x2 x3 x4 x5 x6 x7 x8 i j).trans (dz_ext _ ?_ ?_))
    · show i.val = 0 + 1 * i.val; omega
    · show j.val = 0 + 1 * j.val; omega
end

end Cert.Proof.Mid

end
-- ==== Proof.MidEnd.lean ====
/- The up-projections' backward call: the result arrays, and that they are the reference's on all arguments. -/
module

public import proofs.«01_k».proof.Proof.MidVal
public import proofs.«01_k».proof.Proof.Gen.Kernel3Ideal.Value
public import proofs.«01_k».proof.Proof.Gen.Reference3Ideal.Run
public import Idealize.ShloMosaic.Lib.Pipeline.ValueKit.Geometry
public import Idealize.ShloMosaic.Lib.Pipeline.Covers

@[expose] public section

set_option maxRecDepth 16384

noncomputable section

namespace Cert.Proof.Mid

open Cert.Kernel3Ideal Cert.Kernel3Ideal.Gen
open Idealize.ShloMosaic Idealize.ShloMosaic.TcCoe Idealize.ShloMosaic.Tactic
open Idealize.SL Idealize.SL.Sem
open Idealize.ShloMosaic.Pipeline (Dat Cfg Window)
open Cert.Proof.InB (row rows)

theorem ix_w0 : ∀ t : Fin cfg0.N, win0_0.index t = ![t.val, 0] := by decide +kernel
theorem ix_w1 : ∀ t : Fin cfg0.N, win0_1.index t = ![t.val, 0] := by decide +kernel
theorem ix_w2 : ∀ t : Fin cfg0.N, win0_2.index t = ![t.val, 0] := by decide +kernel
theorem ix_w3 : ∀ t : Fin cfg0.N, win0_3.index t = ![t.val, 0] := by decide +kernel
theorem ix_w4 : ∀ t : Fin cfg0.N, win0_4.index t = ![t.val, 0] := by decide +kernel
theorem ix_w5 : ∀ t : Fin cfg0.N, win0_5.index t = ![0, 0] := by decide +kernel
theorem ix_w6 : ∀ t : Fin cfg0.N, win0_6.index t = ![0, 0] := by decide +kernel
theorem ix_w7 : ∀ t : Fin cfg0.N, win0_7.index t = ![0, 0] := by decide +kernel
theorem ix_w8 : ∀ t : Fin cfg0.N, win0_8.index t = ![0, 0] := by decide +kernel
theorem ix_w9 : ∀ t : Fin cfg0.N, win0_9.index t = ![t.val, 0] := by decide +kernel
theorem ix_w10 : ∀ t : Fin cfg0.N, win0_10.index t = ![0, 0] := by decide +kernel
theorem ix_w11 : ∀ t : Fin cfg0.N, win0_11.index t = ![0, 0] := by decide +kernel
theorem ix_w12 : ∀ t : Fin cfg0.N, win0_12.index t = ![0, 0] := by decide +kernel
theorem ix_w13 : ∀ t : Fin cfg0.N, win0_13.index t = ![0, 0] := by decide +kernel
theorem fl10 : ∀ t : Fin cfg0.N, (cfg0.win 10).flush t = true → t.val = 15 := by decide +kernel
theorem fl11 : ∀ t : Fin cfg0.N, (cfg0.win 11).flush t = true → t.val = 15 := by decide +kernel
theorem fl12 : ∀ t : Fin cfg0.N, (cfg0.win 12).flush t = true → t.val = 15 := by decide +kernel
theorem fl13 : ∀ t : Fin cfg0.N, (cfg0.win 13).flush t = true → t.val = 15 := by decide +kernel

variable (m : (ℓ : Loc nD τ sig) → Buf (Elt Ideal) ℓ) (c : Dev nD)

/-- The arguments of the call, for a device. -/
def b0 : C32 S8192x1024 := m ((c.tc : Thread nD τ).loc main_arg0)
def b1 : C32 S8192x1024 := m ((c.tc : Thread nD τ).loc main_arg1)
def b2 : C32 S8192x512 := m ((c.tc : Thread nD τ).loc main_arg2)
def b3 : C32 S8192x640 := m ((c.tc : Thread nD τ).loc main_arg3)
def b4 : C32 S8192x256 := m ((c.tc : Thread nD τ).loc main_arg4)
def b5 : C32 S1x384 := m ((c.tc : Thread nD τ).loc main_arg5)
def b6 : C32 S1x256 := m ((c.tc : Thread nD τ).loc main_arg6)
def b7 : C16 S384x2048 := m ((c.tc : Thread nD τ).loc main_arg7)
def b8 : C16 S256x1536 := m ((c.tc : Thread nD τ).loc main_arg8)
def Am : Args 8192 :=
  ⟨fun r j => b0 m c (ix2 r j), fun r j => b1 m c (ix2 r j), fun r j => b2 m c (ix2 r j), fun r j => b3 m c (ix2 r j), fun r j => b4 m c (ix2 r j),
    fun a => b5 m c (ix2 (0 : Fin 1) a), fun a => b6 m c (ix2 (0 : Fin 1) a), fun a j => b7 m c (ix2 a j), fun a j => b8 m c (ix2 a j)⟩

/-- A point's number. -/
def pt (t : Fin cfg0.N) : Fin 16 := ⟨t.val, t.isLt.trans_eq N_0⟩

section
variable (t : Fin cfg0.N)
/-- A point's blocks are its 512 rows of the arrays. -/
theorem tile : Tl (iblk m c 0 t) (iblk m c 1 t) (iblk m c 2 t) (iblk m c 3 t) (iblk m c 4 t) (iblk m c 5 t) (iblk m c 6 t) (iblk m c 7 t) (iblk m c 8 t) = (Am m c).on (row (pt t)) := by
  unfold Tl Am Args.on
  rw [Args.mk.injEq]
  refine ⟨?_, ?_, ?_, ?_, ?_, ?_, ?_, ?_, ?_⟩
  · funext r j
    show iblk m c 0 t (ix2 r j) = V m c main_arg0 (ix2 (row (pt t) r) j)
    unfold row pt
    blk_ext [iblk, ix_w0]
  · funext r j
    show iblk m c 1 t (ix2 r j) = V m c main_arg1 (ix2 (row (pt t) r) j)
    unfold row pt
    blk_ext [iblk, ix_w1]
  · funext r j
    show iblk m c 2 t (ix2 r j) = V m c main_arg2 (ix2 (row (pt t) r) j)
    unfold row pt
    blk_ext [iblk, ix_w2]
  · funext r j
    show iblk m c 3 t (ix2 r j) = V m c main_arg3 (ix2 (row (pt t) r) j)
    unfold row pt
    blk_ext [iblk, ix_w3]
  · funext r j
    show iblk m c 4 t (ix2 r j) = V m c main_arg4 (ix2 (row (pt t) r) j)
    unfold row pt
    blk_ext [iblk, ix_w4]
  · funext a
    show iblk m c 5 t (ix2 (0 : Fin 1) a) = V m c main_arg5 (ix2 (0 : Fin 1) a)
    blk_ext [iblk, ix_w5]
  · funext a
    show iblk m c 6 t (ix2 (0 : Fin 1) a) = V m c main_arg6 (ix2 (0 : Fin 1) a)
    blk_ext [iblk, ix_w6]
  · funext a j
    show iblk m c 7 t (ix2 a j) = V m c main_arg7 (ix2 a j)
    blk_ext [iblk, ix_w7]
  · funext a j
    show iblk m c 8 t (ix2 a j) = V m c main_arg8 (ix2 a j)
    blk_ext [iblk, ix_w8]

/-- What a point leaves, over what the four sums held. -/
def tT := tR (F := Ideal) (iblk m c 0 t) (iblk m c 1 t) (iblk m c 2 t) (iblk m c 3 t) (iblk m c 4 t) (iblk m c 5 t) (iblk m c 6 t) (iblk m c 7 t) (iblk m c 8 t)
theorem o_A (h0 : t.val % 16 = 0) : outsAt0 m c t.val t.isLt = tT m c t (k0_pay2 (F := Ideal)) (k0_pay3 (F := Ideal)) (k0_pay4 (F := Ideal)) (k0_pay5 (F := Ideal)) :=
  (outsAt0_A m c t h0).trans (e_A ..)
theorem o_B (h0 : ¬t.val % 16 = 0) : outsAt0 m c t.val t.isLt = tT m c t (outsAt0 m c (t.val - 1) (by omega)).2.1 (outsAt0 m c (t.val - 1) (by omega)).2.2.1 (outsAt0 m c (t.val - 1) (by omega)).2.2.2.1 (outsAt0 m c (t.val - 1) (by omega)).2.2.2.2 :=
  (outsAt0_B m c t h0).trans (e_B ..)

variable (o10 : C32 S384x2048) (o11 : C32 S256x1536) (o12 : C32 S1x384) (o13 : C32 S1x256)
theorem t9 (r : Fin 512) (j : Fin 768) : ((tT m c t o10 o11 o12 o13).1 (ix2 r j) : EReal) = (Am m c).dz (row (pt t) r) j := by
  refine (congrFun (canonL ..) (ix2 r j)).trans ?_
  show (Tl _ _ _ _ _ _ _ _ _).dz r j = _
  rw [tile]
  rfl
theorem t10 (a : Fin 384) (j : Fin 2048) : ((tT m c t o10 o11 o12 o13).2.1 (ix2 a j) : EReal) = o10 (ix2 a j) + ((Am m c).on (row (pt t))).gw a j := by
  rw [← tile]; exact w10 ..
theorem t11 (a : Fin 256) (j : Fin 1536) : ((tT m c t o10 o11 o12 o13).2.2.1 (ix2 a j) : EReal) = o11 (ix2 a j) + ((Am m c).on (row (pt t))).gu a j := by
  rw [← tile]; exact w11 ..
theorem t12 (a : Fin 384) : ((tT m c t o10 o11 o12 o13).2.2.2.1 (ix2 (0 : Fin 1) a) : EReal) = o12 (ix2 (0 : Fin 1) a) + ((Am m c).on (row (pt t))).gg a := by
  rw [← tile]; exact w12 ..
theorem t13 (a : Fin 256) : ((tT m c t o10 o11 o12 o13).2.2.2.2 (ix2 (0 : Fin 1) a) : EReal) = o13 (ix2 (0 : Fin 1) a) + ((Am m c).on (row (pt t))).gh a := by
  rw [← tile]; exact w13 ..
end

theorem z10 (a : Fin 384) (j : Fin 2048) : (k0_pay2 (F := Ideal) (ix2 a j) : EReal) = 0 := by unfold k0_pay2; pointwise
theorem z11 (a : Fin 256) (j : Fin 1536) : (k0_pay3 (F := Ideal) (ix2 a j) : EReal) = 0 := by unfold k0_pay3; pointwise
theorem z12 (a : Fin 384) : (k0_pay4 (F := Ideal) (ix2 (0 : Fin 1) a) : EReal) = 0 := by unfold k0_pay4; pointwise
theorem z13 (a : Fin 256) : (k0_pay5 (F := Ideal) (ix2 (0 : Fin 1) a) : EReal) = 0 := by unfold k0_pay5; pointwise

/-- A sum kept over the points, at the last. -/
theorem accum {β : Type} (O : (n : ℕ) → n < cfg0.N → β) (g : β → EReal) (s : Fin 16 → EReal) (h0 : ∀ t : Fin cfg0.N, t.val = 0 → g (O t.val t.isLt) = s (pt t))
    (h1 : ∀ t : Fin cfg0.N, t.val ≠ 0 → g (O t.val t.isLt) = g (O (t.val - 1) (by omega)) + s (pt t)) (t : Fin cfg0.N) (ht : t.val = 15) : g (O t.val t.isLt) = ∑ t, s t := by
  have e := run_sum N_0 (fun n h => g (O n h)) s (h0 ⟨0, Nat.lt_of_le_of_lt (Nat.zero_le _) t.isLt⟩ rfl) (fun n h => h1 ⟨n + 1, h⟩ (Nat.succ_ne_zero n))
  obtain ⟨n, hn⟩ := t
  dsimp only at ht
  subst ht
  exact e
theorem nz (t : Fin cfg0.N) (h : t.val ≠ 0) : ¬t.val % 16 = 0 := by have := t.isLt.trans_eq N_0; omega
/-- The sums over the points are the sums over the rows. -/
theorem f10 (t : Fin cfg0.N) (ht : t.val = 15) (a : Fin 384) (j : Fin 2048) : ((outsAt0 m c t.val t.isLt).2.1 (ix2 a j) : EReal) = (Am m c).gw a j :=
  (accum (outsAt0 m c) (fun o => o.2.1 (ix2 a j)) (fun t => ((Am m c).on (row t)).gw a j)
    (fun t h => (congrArg (fun o => o.2.1 (ix2 a j)) (o_A m c t (by rw [h]))).trans ((t10 m c t _ _ _ _ a j).trans ((congrArg (fun u : EReal => u + _) (z10 _ _)).trans (zero_add _))))
    (fun t h => (congrArg (fun o => o.2.1 (ix2 a j)) (o_B m c t (nz t h))).trans (t10 m c t _ _ _ _ a j)) t ht).trans (rows fun R => (Am m c).xq R a * (Am m c).g a * (Am m c).D R j)
theorem f11 (t : Fin cfg0.N) (ht : t.val = 15) (a : Fin 256) (j : Fin 1536) : ((outsAt0 m c t.val t.isLt).2.2.1 (ix2 a j) : EReal) = (Am m c).gu a j :=
  (accum (outsAt0 m c) (fun o => o.2.2.1 (ix2 a j)) (fun t => ((Am m c).on (row t)).gu a j)
    (fun t h => (congrArg (fun o => o.2.2.1 (ix2 a j)) (o_A m c t (by rw [h]))).trans ((t11 m c t _ _ _ _ a j).trans ((congrArg (fun u : EReal => u + _) (z11 _ _)).trans (zero_add _))))
    (fun t h => (congrArg (fun o => o.2.2.1 (ix2 a j)) (o_B m c t (nz t h))).trans (t11 m c t _ _ _ _ a j)) t ht).trans (rows fun R => (Am m c).xk R a * (Am m c).h a * (Am m c).E R j)
theorem f12 (t : Fin cfg0.N) (ht : t.val = 15) (a : Fin 384) : ((outsAt0 m c t.val t.isLt).2.2.2.1 (ix2 (0 : Fin 1) a) : EReal) = (Am m c).gg a :=
  (accum (outsAt0 m c) (fun o => o.2.2.2.1 (ix2 (0 : Fin 1) a)) (fun t => ((Am m c).on (row t)).gg a)
    (fun t h => (congrArg (fun o => o.2.2.2.1 (ix2 (0 : Fin 1) a)) (o_A m c t (by rw [h]))).trans ((t12 m c t _ _ _ _ a).trans ((congrArg (fun u : EReal => u + _) (z12 _)).trans (zero_add _))))
    (fun t h => (congrArg (fun o => o.2.2.2.1 (ix2 (0 : Fin 1) a)) (o_B m c t (nz t h))).trans (t12 m c t _ _ _ _ a)) t ht).trans (rows fun R => (Am m c).eq R a * (Am m c).xq R a)
theorem f13 (t : Fin cfg0.N) (ht : t.val = 15) (a : Fin 256) : ((outsAt0 m c t.val t.isLt).2.2.2.2 (ix2 (0 : Fin 1) a) : EReal) = (Am m c).gh a :=
  (accum (outsAt0 m c) (fun o => o.2.2.2.2 (ix2 (0 : Fin 1) a)) (fun t => ((Am m c).on (row t)).gh a)
    (fun t h => (congrArg (fun o => o.2.2.2.2 (ix2 (0 : Fin 1) a)) (o_A m c t (by rw [h]))).trans ((t13 m c t _ _ _ _ a).trans ((congrArg (fun u : EReal => u + _) (z13 _)).trans (zero_add _))))
    (fun t h => (congrArg (fun o => o.2.2.2.2 (ix2 (0 : Fin 1) a)) (o_B m c t (nz t h))).trans (t13 m c t _ _ _ _ a)) t ht).trans (rows fun R => (Am m c).ek R a * (Am m c).xk R a)
theorem f9 (t : Fin cfg0.N) (r : Fin 512) (j : Fin 768) : ((outsAt0 m c t.val t.isLt).1 (ix2 r j) : EReal) = (Am m c).dz (row (pt t) r) j := by
  by_cases h0 : t.val % 16 = 0
  · exact (congrArg (fun o => o.1 (ix2 r j)) (o_A m c t h0)).trans (t9 m c t _ _ _ _ r j)
  · exact (congrArg (fun o => o.1 (ix2 r j)) (o_B m c t h0)).trans (t9 m c t _ _ _ _ r j)

/-- The results, as sums of the arguments' entries. -/
def outZ : C16 S8192x768 := fun y => (Am m c).dz (y 0 : Fin 8192) (y 1 : Fin 768)
def outW : C32 S384x2048 := fun y => (Am m c).gw (y 0 : Fin 384) (y 1 : Fin 2048)
def outU : C32 S256x1536 := fun y => (Am m c).gu (y 0 : Fin 256) (y 1 : Fin 1536)
def outG : C32 S1x384 := fun y => (Am m c).gg (y 1 : Fin 384)
def outH : C32 S1x256 := fun y => (Am m c).gh (y 1 : Fin 256)

theorem f10' (t : Fin cfg0.N) (ht : t.val = 15) (y : S384x2048.Idx) : (outsAt0 m c t.val t.isLt).2.1 y = outW m c y :=
  congrFun (at2 (g := outW m c) fun a j => f10 m c t ht a j) y
theorem f11' (t : Fin cfg0.N) (ht : t.val = 15) (y : S256x1536.Idx) : (outsAt0 m c t.val t.isLt).2.2.1 y = outU m c y :=
  congrFun (at2 (g := outU m c) fun a j => f11 m c t ht a j) y
theorem f12' (t : Fin cfg0.N) (ht : t.val = 15) (y : S1x384.Idx) : (outsAt0 m c t.val t.isLt).2.2.2.1 y = outG m c y :=
  congrFun (at2 (g := outG m c) fun a j => by rw [Subsingleton.elim a 0]; exact f12 m c t ht j) y
theorem f13' (t : Fin cfg0.N) (ht : t.val = 15) (y : S1x256.Idx) : (outsAt0 m c t.val t.isLt).2.2.2.2 y = outH m c y :=
  congrFun (at2 (g := outH m c) fun a j => by rw [Subsingleton.elim a 0]; exact f13 m c t ht j) y
theorem em9 (t : Fin cfg0.N) (r : Fin 512) (a : Fin 768) : (win0_9.blk t).view.emb (ix2 r a) = ix2 (row (pt t) r) a := by
  funext k
  apply Fin.ext
  fin_cases k
  · blk_simp [ix_w9]
    show t.val * 512 + r.val = 512 * t.val + r.val
    omega
  · blk_simp [ix_w9] <;> rfl
theorem em10 (t : Fin cfg0.N) (y : S384x2048.Idx) : (win0_10.blk t).view.emb y = y := by
  funext k
  apply Fin.ext
  fin_cases k
  · blk_simp [ix_w10] <;> rfl
  · blk_simp [ix_w10] <;> rfl
theorem em11 (t : Fin cfg0.N) (y : S256x1536.Idx) : (win0_11.blk t).view.emb y = y := by
  funext k
  apply Fin.ext
  fin_cases k
  · blk_simp [ix_w11] <;> rfl
  · blk_simp [ix_w11] <;> rfl
theorem em12 (t : Fin cfg0.N) (y : S1x384.Idx) : (win0_12.blk t).view.emb y = y := by
  funext k
  apply Fin.ext
  fin_cases k
  · blk_simp [ix_w12] <;> rfl
  · blk_simp [ix_w12] <;> rfl
theorem em13 (t : Fin cfg0.N) (y : S1x256.Idx) : (win0_13.blk t).view.emb y = y := by
  funext k
  apply Fin.ext
  fin_cases k
  · blk_simp [ix_w13] <;> rfl
  · blk_simp [ix_w13] <;> rfl

theorem arr9 : (dats m 0 c).arrAt 9 cfg0.N = outZ m c := by
  refine (dats m 0 c).arrAt_eq_of_covers 9 _ (by decide +kernel) fun t hf y => ?_
  blk_simp
  rw [after0_9]
  have e := eq_ix2 (n0 := 512) (n1 := 768) y
  generalize (y 0 : Fin 512) = r at e
  generalize (y 1 : Fin 768) = a at e
  subst e
  exact (f9 m c t r a).trans (congrArg (outZ m c) (em9 t r a)).symm
theorem arr10 : (dats m 0 c).arrAt 10 cfg0.N = outW m c := by
  refine (dats m 0 c).arrAt_eq_of_covers 10 _ (by decide +kernel) fun t hf y => ?_
  have ht := fl10 t hf
  blk_simp
  rw [after0_10]
  exact (f10' m c t ht y).trans (congrArg (outW m c) (em10 t y)).symm
theorem arr11 : (dats m 0 c).arrAt 11 cfg0.N = outU m c := by
  refine (dats m 0 c).arrAt_eq_of_covers 11 _ (by decide +kernel) fun t hf y => ?_
  have ht := fl11 t hf
  blk_simp
  rw [after0_11]
  exact (f11' m c t ht y).trans (congrArg (outU m c) (em11 t y)).symm
theorem arr12 : (dats m 0 c).arrAt 12 cfg0.N = outG m c := by
  refine (dats m 0 c).arrAt_eq_of_covers 12 _ (by decide +kernel) fun t hf y => ?_
  have ht := fl12 t hf
  blk_simp
  rw [after0_12]
  exact (f12' m c t ht y).trans (congrArg (outG m c) (em12 t y)).symm
theorem arr13 : (dats m 0 c).arrAt 13 cfg0.N = outH m c := by
  refine (dats m 0 c).arrAt_eq_of_covers 13 _ (by decide +kernel) fun t hf y => ?_
  have ht := fl13 t hf
  blk_simp
  rw [after0_13]
  exact (f13' m c t ht y).trans (congrArg (outH m c) (em13 t y)).symm

theorem frame_reference : Cert.quiescent_Reference3Ideal := fun m ρ _ =>
  (θ_run _ _ _).mono (fun r h => ⟨fun c => (h c).2.2.2.2.2, sem_eq_zero_of_no_sems rfl r.2⟩) (Cert.Reference3Ideal.Value.run m ρ)

open Cert.Proof.MidRef (Ar) in
/-- The value: the call's five results are the reference's. -/
theorem value : Cert.algebraic_Kernel3Ideal_Reference3Ideal := fun m ρ m' ρ' _ hm =>
  ⟨outZ m, outW m, outU m, outG m, outH m,
    (θ_run _ _ _).mono (fun r h c => by
      obtain ⟨h1, h2, h3, h4, h5, hr⟩ := h c
      exact ⟨h1.trans (arr9 m c), h2.trans (arr10 m c), h3.trans (arr11 m c), h4.trans (arr12 m c), h5.trans (arr13 m c), hr⟩) (Cert.Kernel3Ideal.Value.run_blocks m ρ),
    (θ_run _ _ _).mono (fun r h c => by
      obtain ⟨e0, e1, e2, e3, e4, e5, e6, e7, e8⟩ := hm c
      have ea : Ar m' c = Am m c := by
        unfold Ar Am MidRef.a0 MidRef.a1 MidRef.a2 MidRef.a3 MidRef.a4 MidRef.a5 MidRef.a6 MidRef.a7 MidRef.a8
        rw [e0, e1, e2, e3, e4, e5, e6, e7, e8]
        rfl
      obtain ⟨h1, h2, h3, h4, h5, hr⟩ := h c
      refine ⟨h1.trans ?_, h2.trans ?_, h3.trans ?_, h4.trans ?_, h5.trans ?_, hr⟩
      · unfold outZ; rw [← ea]; exact at2 fun R j => MidRef.dz_at m' c R j
      · unfold outW; rw [← ea]; exact at2 fun a j => MidRef.gw_at m' c a j
      · unfold outU; rw [← ea]; exact at2 fun a j => MidRef.gu_at m' c a j
      · unfold outG; rw [← ea]; exact at2 fun i a => by rw [Subsingleton.elim i 0]; exact MidRef.gg_at m' c a
      · unfold outH; rw [← ea]; exact at2 fun i a => by rw [Subsingleton.elim i 0]; exact MidRef.gh_at m' c a) (Cert.Reference3Ideal.Value.run m' ρ')⟩

end Cert.Proof.Mid

end
-- ==== Proof.lean ====
/- The claim: what is proved of the kernels and of their references, assembled. -/
module

public import proofs.«01_k».proof.Defs
public import proofs.«01_k».proof.Proof.Gen.Kernel
public import proofs.«01_k».proof.Proof.Run
public import Idealize.ShloMosaic.Lib.Quiescent
public import proofs.«01_k».proof.Proof.Pre
public import proofs.«01_k».proof.Proof.Arr
public import proofs.«01_k».proof.Proof.Gen.ReferenceIdeal.Run
public import proofs.«01_k».proof.Proof.Gen.Pre_finite
public import proofs.«01_k».proof.Proof.InVal
public import proofs.«01_k».proof.Proof.MidEnd
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame

@[expose] public section

set_option maxRecDepth 16384
set_option maxHeartbeats 4000000

noncomputable section

namespace Cert.Proof

open Idealize.ShloMosaic Idealize.ShloMosaic.TcCoe

theorem defs₀_eq {F : FTy → Type} [FloatOps F] : Cert.KernelIdeal.defs₀ (F := F) = Cert.Kernel.defs₀ (F := F) := by
  unfold Cert.KernelIdeal.defs₀ Cert.Kernel.defs₀
  refine congrArg Defs.onTc ?_
  funext l a
  match l, a with
  | ⟨0, _⟩, (t, s) => rfl
  | ⟨n + 1, h⟩, _ => exact absurd h (Nat.not_lt.2 (Nat.le_add_left _ _))

/-- The two programs' bodies are one text. -/
theorem defs_eq {F : FTy → Type} [FloatOps F] : Cert.KernelIdeal.defs (F := F) = Cert.Kernel.defs (F := F) :=
  show Pipeline.defs _ _ = Pipeline.defs _ _ from congrArg (Pipeline.defs Cert.KernelIdeal.pcfgs) defs₀_eq

/-- The kernel's frame: the idealized program's run, which holds for any float values. -/
theorem frame_kernel : Cert.quiescent_Kernel := fun m ρ _ => by
  have h := Mla.frame (F := Bits) m ρ
  rw [defs_eq] at h
  exact h

theorem frame_kernelIdeal : Cert.quiescent_KernelIdeal := fun m ρ _ => Mla.frame (F := Ideal) m ρ

/-- The reference's frame: host operations alone, on a machine without semaphores. -/
theorem frame_referenceIdeal : Cert.quiescent_ReferenceIdeal := fun m ρ _ =>
  (θ_run _ _ _).mono (fun r h => ⟨fun c => (h c).2.2.2, sem_eq_zero_of_no_sems rfl r.2⟩) (Cert.ReferenceIdeal.Value.run m ρ)

section
open Cert.KernelIdeal Cert.KernelIdeal.Gen Mla
open MlaRef (lQ lK lV rG rE rL)

variable (m : (ℓ : Loc nD τ sig) → Buf (Elt Ideal) ℓ) (c : Dev nD)

/-- The three gradients, as the reference's terms of the kernel's arguments. -/
def outQ : C32 S8192x1024 := lQ (rG (bq m c) (bk' m c) (bv m c) (bo m c)) (bk' m c)
def outK : C32 S8192x1024 := lK (rG (bq m c) (bk' m c) (bv m c) (bo m c)) (bq m c)
def outV : C32 S8192x512 := lV (bo m c) (rE (bq m c) (bk' m c)) (rL (bq m c) (bk' m c))

variable {m} {r : PUnit × MemSt nD τ sig (Elt Ideal)}
  (h : Pipeline.RDat.FramePost cfg0 (fun c => (dats m 0 c).toRRel fgt (Rl m c)) (V m) r) (hp : Cert.Pre_KernelIdeal_finite m)

include h hp

theorem kernel_q : r.2.mem ((c.tc : Thread nD τ).loc main_v44_0) = outQ m c := funext fun i => by
  have e := (arr6 m c h (i 0) (i 1)).trans (val_q m c (real_q hp c) (real_k hp c) (real_v hp c) (real_o hp c) (i 0) (i 1))
  rw [← eq_ix2 (n0 := 8192) (n1 := 1024) i] at e
  exact e

theorem kernel_k : r.2.mem ((c.tc : Thread nD τ).loc main_v44_1) = outK m c := funext fun i => by
  have e := (arr7 m c h (i 0) (i 1)).trans (val_k m c (real_q hp c) (real_k hp c) (real_v hp c) (real_o hp c) (i 0) (i 1))
  rw [← eq_ix2 (n0 := 8192) (n1 := 1024) i] at e
  exact e

theorem kernel_v : r.2.mem ((c.tc : Thread nD τ).loc main_v44_2) = outV m c := funext fun i => by
  have e := (arr8 m c h (i 0) (i 1)).trans (val_v m c (real_q hp c) (real_k hp c) (real_o hp c) (i 0) (i 1))
  rw [← eq_ix2 (n0 := 8192) (n1 := 512) i] at e
  exact e

end

/-- The value: on real arguments `mla_bwd`'s three results are the reference's. -/
theorem value : Cert.algebraic_KernelIdeal_ReferenceIdeal_pre_finite := fun m ρ m' ρ' hp hm =>
  ⟨outQ m, outK m, outV m,
    (θ_run _ _ _).mono (fun r h c => ⟨kernel_q c h.1 hp, kernel_k c h.1 hp, kernel_v c h.1 hp, Mla.args_eq m h.1 c⟩) (Mla.run_main m ρ),
    (θ_run _ _ _).mono (fun r h c => by
      obtain ⟨e0, e1, e2, e3⟩ := hm c
      obtain ⟨h0, h1, h2, hr⟩ := h c
      refine ⟨h0.trans ((MlaRef.res72 m' c).trans ?_), h1.trans ((MlaRef.res76 m' c).trans ?_), h2.trans ((MlaRef.res77 m' c).trans ?_), hr⟩
      · unfold MlaRef.aq MlaRef.ak MlaRef.av MlaRef.ao; rw [e0, e1, e2, e3]; rfl
      · unfold MlaRef.aq MlaRef.ak MlaRef.av MlaRef.ao; rw [e0, e1, e2, e3]; rfl
      · unfold MlaRef.aq MlaRef.ak MlaRef.ao; rw [e0, e1, e3]; rfl) (Cert.ReferenceIdeal.Value.run m' ρ')⟩

/-- `mid_bwd`'s two rewrites: its two named constants are log 2 and 96^(-1/2), to the literals' precision. -/
theorem preserves3 : Cert.preserves_Kernel3_Kernel3Ideal :=
  ⟨IdealRules.named_const.statement Cert.Kernel3Ideal.κ "mla_scale" .f32 0x3DD105EC#32 (((Real.sqrt 96)⁻¹ : ℝ) : EReal) rfl,
    IdealRules.named_const.statement Cert.Kernel3Ideal.κ "ln2" .f32 0x3F317218#32 ((Real.log 2 : ℝ) : EReal) rfl⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Pre_finite.Gen.facts,
    frame_kernel, frame_kernelIdeal, fun m ρ _ => frame_kernelIdeal m ρ trivial, frame_referenceIdeal, fun m ρ _ => frame_referenceIdeal m ρ trivial,
    fun m ρ _ => Cert.Kernel2.Gen.frame m ρ, fun m ρ _ => Cert.Kernel2Ideal.Gen.frame m ρ, InB.frame_reference,
    fun m ρ _ => Cert.Kernel3.Gen.frame m ρ, fun m ρ _ => Cert.Kernel3Ideal.Gen.frame m ρ, Mid.frame_reference,
    fun m ρ _ => Cert.Kernel4.Gen.frame m ρ, fun m ρ _ => Cert.Kernel4Ideal.Gen.frame m ρ,
    trivial, value, InB.preserves, InB.value, preserves3, Mid.value, trivial⟩

end Cert.Proof

end
